-- ==== Defs.lean ====
def Pre_Kernel [hPre_idx_in_rows : Cert.Pre_idx_in_rows.Facts] (m : (ℓ : Loc Cert.Kernel.nD Cert.Kernel.τ Cert.Kernel.sig) → Buf (Elt Bits) ℓ) : Prop :=
  ∀ c : Dev Cert.Kernel.nD,
    (Cert.Pre_idx_in_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_idx_in_rows : Cert.Pre_idx_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_idx_in_rows : Cert.Pre_idx_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_idx_in_rows : Cert.Pre_idx_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_idx_in_rows : Cert.Pre_idx_in_rows.Facts) (hPre_inputs_ok : Cert.Pre_inputs_ok.Facts),
    quiescent_Kernel (hKernel := hKernel) (hPre_idx_in_rows := hPre_idx_in_rows)
    ∧ quiescent_KernelIdeal (hKernelIdeal := hKernelIdeal) (hPre_idx_in_rows := hPre_idx_in_rows)
    ∧ quiescent_KernelIdeal_pre_inputs_ok (hKernelIdeal := hKernelIdeal) (hPre_inputs_ok := hPre_inputs_ok)
    ∧ quiescent_ReferenceIdeal (hReferenceIdeal := hReferenceIdeal) (hPre_idx_in_rows := hPre_idx_in_rows)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_idx_in_rows.lean ====
abbrev S2x4096x3 : Shape := ⟨3, ![2, 4096, 3]⟩
abbrev S2x256x4096 : Shape := ⟨3, ![2, 256, 4096]⟩
abbrev S128x259 : Shape := ⟨2, ![128, 259]⟩
abbrev S256x384 : Shape := ⟨2, ![256, 384]⟩
abbrev S256 : Shape := ⟨1, ![256]⟩
abbrev S2x4096x32 : Shape := ⟨3, ![2, 4096, 32]⟩
abbrev S_ : Shape := ⟨0, ![]⟩

class Facts : Prop where
  bcast_S_S2x4096x32 : S_.BroadcastsInDim S2x4096x32 (![] : Fin 0 → Fin S2x4096x32.rank)

variable [Facts]

def fn {F : FTy → Type} [FloatOps F] (main_arg0 : FVec F S2x4096x3 .f32) (main_arg1 : FVec F S2x256x4096 .f32) (main_arg2 : FVec F S128x259 .f32) (main_arg3 : FVec F S256x384 .f32) (main_arg4 : FVec F S256 .f32) (main_arg5 : FVec F S256 .f32) (main_arg6 : IVec S2x4096x32 32) : IVec S2x4096x32 1 :=
  let main_c : IVec S_ 32 := constantI S_ 32 0#32
  let main_v0 : IVec S2x4096x32 32 := broadcastInDim S2x4096x32 ![] bcast_S_S2x4096x32 main_c
  let main_v1 : IVec S2x4096x32 1 := cmpi .sge main_arg6 main_v0
  let main_c_0 : IVec S_ 32 := constantI S_ 32 4096#32
  let main_v2 : IVec S2x4096x32 32 := broadcastInDim S2x4096x32 ![] bcast_S_S2x4096x32 main_c_0
  let main_v3 : IVec S2x4096x32 1 := cmpi .slt main_arg6 main_v2
  let main_v4 : IVec S2x4096x32 1 := andi main_v1 main_v3
  main_v4
-- ==== Pre_inputs_ok.lean ====
abbrev S2x4096x3 : Shape := ⟨3, ![2, 4096, 3]⟩
abbrev S2x256x4096 : Shape := ⟨3, ![2, 256, 4096]⟩
abbrev S128x259 : Shape := ⟨2, ![128, 259]⟩
abbrev S256x384 : Shape := ⟨2, ![256, 384]⟩
abbrev S256 : Shape := ⟨1, ![256]⟩
abbrev S2x4096x32 : Shape := ⟨3, ![2, 4096, 32]⟩
abbrev S_ : Shape := ⟨0, ![]⟩

class Facts : Prop where
  bcast_S_S2x4096x3 : S_.BroadcastsInDim S2x4096x3 (![] : Fin 0 → Fin S2x4096x3.rank)
  reducesTo_S2x4096x3_S_d0_1_2 : S2x4096x3.ReducesTo [0, 1, 2] S_
  h_S_ : 0 < S_.numel
  bcast_S_S2x256x4096 : S_.BroadcastsInDim S2x256x4096 (![] : Fin 0 → Fin S2x256x4096.rank)
  reducesTo_S2x256x4096_S_d0_1_2 : S2x256x4096.ReducesTo [0, 1, 2] S_
  bcast_S_S128x259 : S_.BroadcastsInDim S128x259 (![] : Fin 0 → Fin S128x259.rank)
  reducesTo_S128x259_S_d0_1 : S128x259.ReducesTo [0, 1] S_
  bcast_S_S256x384 : S_.BroadcastsInDim S256x384 (![] : Fin 0 → Fin S256x384.rank)
  reducesTo_S256x384_S_d0_1 : S256x384.ReducesTo [0, 1] S_
  bcast_S_S256 : S_.BroadcastsInDim S256 (![] : Fin 0 → Fin S256.rank)
  reducesTo_S256_S_d0 : S256.ReducesTo [0] S_
  bcast_S_S2x4096x32 : S_.BroadcastsInDim S2x4096x32 (![] : Fin 0 → Fin S2x4096x32.rank)

variable [Facts]

def fn_part2 {F : FTy → Type} [FloatOps F] (main_arg6 : IVec S2x4096x32 32) (main_v32 : IVec S2x4096x32 1) (main_v33 : IVec S2x4096x32 32) : IVec S2x4096x32 1 :=
  let main_v34 : IVec S2x4096x32 1 := cmpi .slt main_arg6 main_v33
  let main_v35 : IVec S2x4096x32 1 := andi main_v32 main_v34
  main_v35

def fn_part1 {F : FTy → Type} [FloatOps F] (main_arg4 : FVec F S256 .f32) (main_arg5 : FVec F S256 .f32) (main_arg6 : IVec S2x4096x32 32) (main_v3 : IVec S_ 1) (main_v7 : IVec S_ 1) (main_v11 : IVec S_ 1) (main_v15 : IVec S_ 1) : IVec S2x4096x32 1 :=
  let main_v16 : FVec F S256 .f32 := Host.absf main_arg4
  let main_cst_6 : FVec F S_ .f32 := constant S_ .f32 0x7F800000#32
  let main_v17 : FVec F S256 .f32 := broadcastInDim S256 ![] bcast_S_S256 main_cst_6
  let main_v18 : IVec S256 1 := cmpf .olt main_v16 main_v17
  let main_c_7 : IVec S_ 1 := constantI S_ 1 1#1
  let main_v19 : IVec S_ 1 := (fun x v => Host.reduce IntOp.andi x v reducesTo_S256_S_d0 h_S_) main_v18 main_c_7
  let main_v20 : FVec F S256 .f32 := Host.absf main_arg5
  let main_cst_8 : FVec F S_ .f32 := constant S_ .f32 0x7F800000#32
  let main_v21 : FVec F S256 .f32 := broadcastInDim S256 ![] bcast_S_S256 main_cst_8
  let main_v22 : IVec S256 1 := cmpf .olt main_v20 main_v21
  let main_c_9 : IVec S_ 1 := constantI S_ 1 1#1
  let main_v23 : IVec S_ 1 := (fun x v => Host.reduce IntOp.andi x v reducesTo_S256_S_d0 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  let main_c_10 : IVec S_ 32 := constantI S_ 32 0#32
  let main_v29 : IVec S2x4096x32 32 := broadcastInDim S2x4096x32 ![] bcast_S_S2x4096x32 main_c_10
  let main_v30 : IVec S2x4096x32 1 := cmpi .sge main_arg6 main_v29
  let main_v31 : IVec S2x4096x32 1 := broadcastInDim S2x4096x32 ![] bcast_S_S2x4096x32 main_v28
  let main_v32 : IVec S2x4096x32 1 := andi main_v31 main_v30
  let main_c_11 : IVec S_ 32 := constantI S_ 32 4096#32
  let main_v33 : IVec S2x4096x32 32 := broadcastInDim S2x4096x32 ![] bcast_S_S2x4096x32 main_c_11
  fn_part2 (F := F) main_arg6 main_v32 main_v33

def fn {F : FTy → Type} [FloatOps F] (main_arg0 : FVec F S2x4096x3 .f32) (main_arg1 : FVec F S2x256x4096 .f32) (main_arg2 : FVec F S128x259 .f32) (main_arg3 : FVec F S256x384 .f32) (main_arg4 : FVec F S256 .f32) (main_arg5 : FVec F S256 .f32) (main_arg6 : IVec S2x4096x32 32) : IVec S2x4096x32 1 :=
  let main_v0 : FVec F S2x4096x3 .f32 := Host.absf main_arg0
  let main_cst : FVec F S_ .f32 := constant S_ .f32 0x7F800000#32
  let main_v1 : FVec F S2x4096x3 .f32 := broadcastInDim S2x4096x3 ![] bcast_S_S2x4096x3 main_cst
  let main_v2 : IVec S2x4096x3 1 := cmpf .olt main_v0 main_v1
  let main_c : IVec S_ 1 := constantI S_ 1 1#1
  let main_v3 : IVec S_ 1 := (fun x v => Host.reduce IntOp.andi x v reducesTo_S2x4096x3_S_d0_1_2 h_S_) main_v2 main_c
  let main_v4 : FVec F S2x256x4096 .f32 := Host.absf main_arg1
  let main_cst_0 : FVec F S_ .f32 := constant S_ .f32 0x7F800000#32
  let main_v5 : FVec F S2x256x4096 .f32 := broadcastInDim S2x256x4096 ![] bcast_S_S2x256x4096 main_cst_0
  let main_v6 : IVec S2x256x4096 1 := cmpf .olt main_v4 main_v5
  let main_c_1 : IVec S_ 1 := constantI S_ 1 1#1
  let main_v7 : IVec S_ 1 := (fun x v => Host.reduce IntOp.andi x v reducesTo_S2x256x4096_S_d0_1_2 h_S_) main_v6 main_c_1
  let main_v8 : FVec F S128x259 .f32 := Host.absf main_arg2
  let main_cst_2 : FVec F S_ .f32 := constant S_ .f32 0x7F800000#32
  let main_v9 : FVec F S128x259 .f32 := broadcastInDim S128x259 ![] bcast_S_S128x259 main_cst_2
  let main_v10 : IVec S128x259 1 := cmpf .olt main_v8 main_v9
  let main_c_3 : IVec S_ 1 := constantI S_ 1 1#1
  let main_v11 : IVec S_ 1 := (fun x v => Host.reduce IntOp.andi x v reducesTo_S128x259_S_d0_1 h_S_) main_v10 main_c_3
  let main_v12 : FVec F S256x384 .f32 := Host.absf main_arg3
  let main_cst_4 : FVec F S_ .f32 := constant S_ .f32 0x7F800000#32
  let main_v13 : FVec F S256x384 .f32 := broadcastInDim S256x384 ![] bcast_S_S256x384 main_cst_4
  let main_v14 : IVec S256x384 1 := cmpf .olt main_v12 main_v13
  let main_c_5 : IVec S_ 1 := constantI S_ 1 1#1
  let main_v15 : IVec S_ 1 := (fun x v => Host.reduce IntOp.andi x v reducesTo_S256x384_S_d0_1 h_S_) main_v14 main_c_5
  fn_part1 (F := F) main_arg4 main_arg5 main_arg6 main_v3 main_v7 main_v11 main_v15
-- ==== Kernel.lean ====
abbrev S2x4096x3 : Shape := ⟨3, ![2, 4096, 3]⟩
abbrev S2x256x4096 : Shape := ⟨3, ![2, 256, 4096]⟩
abbrev S128x259 : Shape := ⟨2, ![128, 259]⟩
abbrev S256x384 : Shape := ⟨2, ![256, 384]⟩
abbrev S256 : Shape := ⟨1, ![256]⟩
abbrev S2x4096x32 : Shape := ⟨3, ![2, 4096, 32]⟩
abbrev S128x256 : Shape := ⟨2, ![128, 256]⟩
abbrev S128x3 : Shape := ⟨2, ![128, 3]⟩
abbrev S256x3x128 : Shape := ⟨3, ![256, 3, 128]⟩
abbrev S_ : Shape := ⟨0, ![]⟩
abbrev S256x128 : Shape := ⟨2, ![256, 128]⟩
abbrev S1x256 : Shape := ⟨2, ![1, 256]⟩
abbrev S1x128 : Shape := ⟨2, ![1, 128]⟩
abbrev S1x256x1 : Shape := ⟨3, ![1, 256, 1]⟩
abbrev S256x1 : Shape := ⟨2, ![256, 1]⟩
abbrev S128x1 : Shape := ⟨2, ![128, 1]⟩
abbrev S2x4096x128 : Shape := ⟨3, ![2, 4096, 128]⟩
abbrev S1x256x3 : Shape := ⟨3, ![1, 256, 3]⟩
abbrev S1x256x256 : Shape := ⟨3, ![1, 256, 256]⟩
abbrev S1x256x128 : Shape := ⟨3, ![1, 256, 128]⟩
abbrev S256x256 : Shape := ⟨2, ![256, 256]⟩
abbrev S256x3 : Shape := ⟨2, ![256, 3]⟩
abbrev S8192x128 : Shape := ⟨2, ![8192, 128]⟩
abbrev S1x2048x32 : Shape := ⟨3, ![1, 2048, 32]⟩
abbrev S512x128 : Shape := ⟨2, ![512, 128]⟩
abbrev S2048x128 : Shape := ⟨2, ![2048, 128]⟩
abbrev S16x128 : Shape := ⟨2, ![16, 128]⟩
abbrev S128x128 : Shape := ⟨2, ![128, 128]⟩
abbrev S64x128 : Shape := ⟨2, ![64, 128]⟩
abbrev S128 : Shape := ⟨1, ![128]⟩
abbrev S1x16 : Shape := ⟨2, ![1, 16]⟩
abbrev S16 : Shape := ⟨1, ![16]⟩
abbrev S1x2048x128 : Shape := ⟨3, ![1, 2048, 128]⟩
abbrev S1x256x2048 : Shape := ⟨3, ![1, 256, 2048]⟩
abbrev S1x256x4096 : Shape := ⟨3, ![1, 256, 4096]⟩

abbrev nBuf : Table → Nat
  | .hbm => 53
  | .local .tc .vmem => 43
  | .local .scVector .vmem => 16
  | _ => 0

abbrev bufTy : (tb : Table) → Fin (nBuf tb) → BufTy
  | .hbm, ⟨0, _⟩ => ⟨S2x4096x3, .f32⟩
  | .hbm, ⟨1, _⟩ => ⟨S2x256x4096, .f32⟩
  | .hbm, ⟨2, _⟩ => ⟨S128x259, .f32⟩
  | .hbm, ⟨3, _⟩ => ⟨S256x384, .f32⟩
  | .hbm, ⟨4, _⟩ => ⟨S256, .f32⟩
  | .hbm, ⟨5, _⟩ => ⟨S256, .f32⟩
  | .hbm, ⟨6, _⟩ => ⟨S2x4096x32, .i32⟩
  | .hbm, ⟨7, _⟩ => ⟨S128x256, .f32⟩
  | .hbm, ⟨8, _⟩ => ⟨S128x3, .f32⟩
  | .hbm, ⟨9, _⟩ => ⟨S256x3x128, .f32⟩
  | .hbm, ⟨10, _⟩ => ⟨S_, .f32⟩
  | .hbm, ⟨11, _⟩ => ⟨S256x128, .f32⟩
  | .hbm, ⟨12, _⟩ => ⟨S1x256, .f32⟩
  | .hbm, ⟨13, _⟩ => ⟨S1x256, .f32⟩
  | .hbm, ⟨14, _⟩ => ⟨S128x256, .f32⟩
  | .hbm, ⟨15, _⟩ => ⟨S1x128, .f32⟩
  | .hbm, ⟨16, _⟩ => ⟨S2x4096x128, .f32⟩
  | .hbm, ⟨17, _⟩ => ⟨S8192x128, .f32⟩
  | .hbm, ⟨18, _⟩ => ⟨S1x2048x32, .i32⟩
  | .hbm, ⟨19, _⟩ => ⟨S_, .i32⟩
  | .hbm, ⟨20, _⟩ => ⟨S1x2048x32, .i32⟩
  | .hbm, ⟨21, _⟩ => ⟨S1x2048x32, .i32⟩
  | .hbm, ⟨22, _⟩ => ⟨S512x128, .i32⟩
  | .hbm, ⟨23, _⟩ => ⟨S2048x128, .f32⟩
  | .hbm, ⟨24, _⟩ => ⟨S1x2048x128, .f32⟩
  | .hbm, ⟨25, _⟩ => ⟨S1x256x2048, .f32⟩
  | .hbm, ⟨26, _⟩ => ⟨S1x2048x32, .i32⟩
  | .hbm, ⟨27, _⟩ => ⟨S_, .i32⟩
  | .hbm, ⟨28, _⟩ => ⟨S1x2048x32, .i32⟩
  | .hbm, ⟨29, _⟩ => ⟨S1x2048x32, .i32⟩
  | .hbm, ⟨30, _⟩ => ⟨S512x128, .i32⟩
  | .hbm, ⟨31, _⟩ => ⟨S2048x128, .f32⟩
  | .hbm, ⟨32, _⟩ => ⟨S1x2048x128, .f32⟩
  | .hbm, ⟨33, _⟩ => ⟨S1x256x2048, .f32⟩
  | .hbm, ⟨34, _⟩ => ⟨S1x2048x32, .i32⟩
  | .hbm, ⟨35, _⟩ => ⟨S_, .i32⟩
  | .hbm, ⟨36, _⟩ => ⟨S1x2048x32, .i32⟩
  | .hbm, ⟨37, _⟩ => ⟨S1x2048x32, .i32⟩
  | .hbm, ⟨38, _⟩ => ⟨S512x128, .i32⟩
  | .hbm, ⟨39, _⟩ => ⟨S2048x128, .f32⟩
  | .hbm, ⟨40, _⟩ => ⟨S1x2048x128, .f32⟩
  | .hbm, ⟨41, _⟩ => ⟨S1x256x2048, .f32⟩
  | .hbm, ⟨42, _⟩ => ⟨S1x2048x32, .i32⟩
  | .hbm, ⟨43, _⟩ => ⟨S_, .i32⟩
  | .hbm, ⟨44, _⟩ => ⟨S1x2048x32, .i32⟩
  | .hbm, ⟨45, _⟩ => ⟨S1x2048x32, .i32⟩
  | .hbm, ⟨46, _⟩ => ⟨S512x128, .i32⟩
  | .hbm, ⟨47, _⟩ => ⟨S2048x128, .f32⟩
  | .hbm, ⟨48, _⟩ => ⟨S1x2048x128, .f32⟩
  | .hbm, ⟨49, _⟩ => ⟨S1x256x2048, .f32⟩
  | .hbm, ⟨50, _⟩ => ⟨S1x256x4096, .f32⟩
  | .hbm, ⟨51, _⟩ => ⟨S1x256x4096, .f32⟩
  | .hbm, ⟨52, _⟩ => ⟨S2x256x4096, .f32⟩
  | .local .tc .vmem, ⟨0, _⟩ => ⟨S2x256x4096, .f32⟩
  | .local .tc .vmem, ⟨1, _⟩ => ⟨S128x256, .f32⟩
  | .local .tc .vmem, ⟨2, _⟩ => ⟨S1x256, .f32⟩
  | .local .tc .vmem, ⟨3, _⟩ => ⟨S1x256, .f32⟩
  | .local .tc .vmem, ⟨4, _⟩ => ⟨S128x256, .f32⟩
  | .local .tc .vmem, ⟨5, _⟩ => ⟨S1x128, .f32⟩
  | .local .tc .vmem, ⟨6, _⟩ => ⟨S1x256x3, .f32⟩
  | .local .tc .vmem, ⟨7, _⟩ => ⟨S1x256x3, .f32⟩
  | .local .tc .vmem, ⟨8, _⟩ => ⟨S1x256x256, .f32⟩
  | .local .tc .vmem, ⟨9, _⟩ => ⟨S1x256x256, .f32⟩
  | .local .tc .vmem, ⟨10, _⟩ => ⟨S128x256, .f32⟩
  | .local .tc .vmem, ⟨11, _⟩ => ⟨S128x3, .f32⟩
  | .local .tc .vmem, ⟨12, _⟩ => ⟨S1x128, .f32⟩
  | .local .tc .vmem, ⟨13, _⟩ => ⟨S1x256x128, .f32⟩
  | .local .tc .vmem, ⟨14, _⟩ => ⟨S1x256x128, .f32⟩
  | .local .tc .vmem, ⟨15, _⟩ => ⟨S1x256x128, .f32⟩
  | .local .tc .vmem, ⟨16, _⟩ => ⟨S1x256x128, .f32⟩
  | .local .tc .vmem, ⟨17, _⟩ => ⟨S1x256x128, .f32⟩
  | .local .tc .vmem, ⟨18, _⟩ => ⟨S1x256x128, .f32⟩
  | .local .tc .vmem, ⟨19, _⟩ => ⟨S256x128, .f32⟩
  | .local .tc .vmem, ⟨20, _⟩ => ⟨S1x256x256, .f32⟩
  | .local .tc .vmem, ⟨21, _⟩ => ⟨S1x256x256, .f32⟩
  | .local .tc .vmem, ⟨22, _⟩ => ⟨S1x256x128, .f32⟩
  | .local .tc .vmem, ⟨23, _⟩ => ⟨S1x256x128, .f32⟩
  | .local .tc .vmem, ⟨24, _⟩ => ⟨S1x256x128, .f32⟩
  | .local .tc .vmem, ⟨25, _⟩ => ⟨S1x256x128, .f32⟩
  | .local .tc .vmem, ⟨26, _⟩ => ⟨S256x128, .f32⟩
  | .local .tc .vmem, ⟨27, _⟩ => ⟨S1x256x256, .f32⟩
  | .local .tc .vmem, ⟨28, _⟩ => ⟨S1x256x256, .f32⟩
  | .local .tc .vmem, ⟨29, _⟩ => ⟨S1x256x128, .f32⟩
  | .local .tc .vmem, ⟨30, _⟩ => ⟨S1x256x128, .f32⟩
  | .local .tc .vmem, ⟨31, _⟩ => ⟨S1x256x128, .f32⟩
  | .local .tc .vmem, ⟨32, _⟩ => ⟨S1x256x128, .f32⟩
  | .local .tc .vmem, ⟨33, _⟩ => ⟨S256x128, .f32⟩
  | .local .tc .vmem, ⟨34, _⟩ => ⟨S1x256x256, .f32⟩
  | .local .tc .vmem, ⟨35, _⟩ => ⟨S1x256x256, .f32⟩
  | .local .tc .vmem, ⟨36, _⟩ => ⟨S1x256x128, .f32⟩
  | .local .tc .vmem, ⟨37, _⟩ => ⟨S1x256x128, .f32⟩
  | .local .tc .vmem, ⟨38, _⟩ => ⟨S1x256x128, .f32⟩
  | .local .tc .vmem, ⟨39, _⟩ => ⟨S1x256x128, .f32⟩
  | .local .tc .vmem, ⟨40, _⟩ => ⟨S256x128, .f32⟩
  | .local .tc .vmem, ⟨41, _⟩ => ⟨S1x256x256, .f32⟩
  | .local .tc .vmem, ⟨42, _⟩ => ⟨S1x256x256, .f32⟩
  | .local .scVector .vmem, ⟨0, _⟩ => ⟨S16x128, .i32⟩
  | .local .scVector .vmem, ⟨1, _⟩ => ⟨S128x128, .f32⟩
  | .local .scVector .vmem, ⟨2, _⟩ => ⟨S128x128, .f32⟩
  | .local .scVector .vmem, ⟨3, _⟩ => ⟨S64x128, .f32⟩
  | .local .scVector .vmem, ⟨4, _⟩ => ⟨S16x128, .i32⟩
  | .local .scVector .vmem, ⟨5, _⟩ => ⟨S128x128, .f32⟩
  | .local .scVector .vmem, ⟨6, _⟩ => ⟨S128x128, .f32⟩
  | .local .scVector .vmem, ⟨7, _⟩ => ⟨S64x128, .f32⟩
  | .local .scVector .vmem, ⟨8, _⟩ => ⟨S16x128, .i32⟩
  | .local .scVector .vmem, ⟨9, _⟩ => ⟨S128x128, .f32⟩
  | .local .scVector .vmem, ⟨10, _⟩ => ⟨S128x128, .f32⟩
  | .local .scVector .vmem, ⟨11, _⟩ => ⟨S64x128, .f32⟩
  | .local .scVector .vmem, ⟨12, _⟩ => ⟨S16x128, .i32⟩
  | .local .scVector .vmem, ⟨13, _⟩ => ⟨S128x128, .f32⟩
  | .local .scVector .vmem, ⟨14, _⟩ => ⟨S128x128, .f32⟩
  | .local .scVector .vmem, ⟨15, _⟩ => ⟨S64x128, .f32⟩
  | _, _ => ⟨S2x4096x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => false
  | ⟨16, _⟩ => false
  | ⟨17, _⟩ => false
  | ⟨18, _⟩ => false
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => false
  | ⟨27, _⟩ => false
  | ⟨28, _⟩ => false
  | ⟨29, _⟩ => false
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => false
  | ⟨38, _⟩ => false
  | ⟨39, _⟩ => false
  | ⟨40, _⟩ => false
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => false
  | ⟨49, _⟩ => false
  | ⟨50, _⟩ => false
  | ⟨51, _⟩ => false
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTables nBuf rfl bufTy 4 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_2 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v8_scv : Ref sig .scVector := ⟨.hbm, 17, rfl⟩
abbrev main_v12_scv : Ref sig .scVector := ⟨.hbm, 22, rfl⟩
abbrev main_v13_scv : Ref sig .scVector := ⟨.hbm, 23, rfl⟩
abbrev main_v19_scv : Ref sig .scVector := ⟨.hbm, 30, rfl⟩
abbrev main_v20_scv : Ref sig .scVector := ⟨.hbm, 31, rfl⟩
abbrev main_v26_scv : Ref sig .scVector := ⟨.hbm, 38, rfl⟩
abbrev main_v27_scv : Ref sig .scVector := ⟨.hbm, 39, rfl⟩
abbrev main_v33_scv : Ref sig .scVector := ⟨.hbm, 46, rfl⟩
abbrev main_v34_scv : Ref sig .scVector := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc5_stg0_0 : Ref sig .tc := ⟨.vmem, 22, rfl⟩
abbrev cc5_stg0_1 : Ref sig .tc := ⟨.vmem, 23, rfl⟩
abbrev cc5_stg1_0 : Ref sig .tc := ⟨.vmem, 24, rfl⟩
abbrev cc5_stg1_1 : Ref sig .tc := ⟨.vmem, 25, rfl⟩
abbrev cc5_stg2_0 : Ref sig .tc := ⟨.vmem, 26, rfl⟩
abbrev cc5_stg3_0 : Ref sig .tc := ⟨.vmem, 27, rfl⟩
abbrev cc5_stg3_1 : Ref sig .tc := ⟨.vmem, 28, rfl⟩
abbrev cc7_stg0_0 : Ref sig .tc := ⟨.vmem, 29, rfl⟩
abbrev cc7_stg0_1 : Ref sig .tc := ⟨.vmem, 30, rfl⟩
abbrev cc7_stg1_0 : Ref sig .tc := ⟨.vmem, 31, rfl⟩
abbrev cc7_stg1_1 : Ref sig .tc := ⟨.vmem, 32, rfl⟩
abbrev cc7_stg2_0 : Ref sig .tc := ⟨.vmem, 33, rfl⟩
abbrev cc7_stg3_0 : Ref sig .tc := ⟨.vmem, 34, rfl⟩
abbrev cc7_stg3_1 : Ref sig .tc := ⟨.vmem, 35, rfl⟩
abbrev cc9_stg0_0 : Ref sig .tc := ⟨.vmem, 36, rfl⟩
abbrev cc9_stg0_1 : Ref sig .tc := ⟨.vmem, 37, rfl⟩
abbrev cc9_stg1_0 : Ref sig .tc := ⟨.vmem, 38, rfl⟩
abbrev cc9_stg1_1 : Ref sig .tc := ⟨.vmem, 39, rfl⟩
abbrev cc9_stg2_0 : Ref sig .tc := ⟨.vmem, 40, rfl⟩
abbrev cc9_stg3_0 : Ref sig .tc := ⟨.vmem, 41, rfl⟩
abbrev cc9_stg3_1 : Ref sig .tc := ⟨.vmem, 42, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc2_scratch3 : Ref sig .scVector := ⟨.vmem, 3, rfl⟩
abbrev cc4_scratch0 : Ref sig .scVector := ⟨.vmem, 4, rfl⟩
abbrev cc4_scratch1 : Ref sig .scVector := ⟨.vmem, 5, rfl⟩
abbrev cc4_scratch2 : Ref sig .scVector := ⟨.vmem, 6, rfl⟩
abbrev cc4_scratch3 : Ref sig .scVector := ⟨.vmem, 7, rfl⟩
abbrev cc6_scratch0 : Ref sig .scVector := ⟨.vmem, 8, rfl⟩
abbrev cc6_scratch1 : Ref sig .scVector := ⟨.vmem, 9, rfl⟩
abbrev cc6_scratch2 : Ref sig .scVector := ⟨.vmem, 10, rfl⟩
abbrev cc6_scratch3 : Ref sig .scVector := ⟨.vmem, 11, rfl⟩
abbrev cc8_scratch0 : Ref sig .scVector := ⟨.vmem, 12, rfl⟩
abbrev cc8_scratch1 : Ref sig .scVector := ⟨.vmem, 13, rfl⟩
abbrev cc8_scratch2 : Ref sig .scVector := ⟨.vmem, 14, rfl⟩
abbrev cc8_scratch3 : Ref sig .scVector := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem3_1 : DmaSem sig := 25
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem3_0 : DmaSem sig := 35
abbrev cc5_sem3_1 : DmaSem sig := 36
abbrev cc7_sem0_0 : DmaSem sig := 41
abbrev cc7_sem0_1 : DmaSem sig := 42
abbrev cc7_sem1_0 : DmaSem sig := 43
abbrev cc7_sem1_1 : DmaSem sig := 44
abbrev cc7_sem2_0 : DmaSem sig := 45
abbrev cc7_sem3_0 : DmaSem sig := 46
abbrev cc7_sem3_1 : DmaSem sig := 47
abbrev cc9_sem0_0 : DmaSem sig := 52
abbrev cc9_sem0_1 : DmaSem sig := 53
abbrev cc9_sem1_0 : DmaSem sig := 54
abbrev cc9_sem1_1 : DmaSem sig := 55
abbrev cc9_sem2_0 : DmaSem sig := 56
abbrev cc9_sem3_0 : DmaSem sig := 57
abbrev cc9_sem3_1 : DmaSem sig := 58
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S2x256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128x3 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![2, 16], ![false, false]⟩

def k2_off1 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_10_r0 : BitVec 32 := 0#32
  ![v2.toNat, 0]
@[reducible] def k2_t1_loop : Scf.Loop 32 :=
  let c0_i32_7 : BitVec 32 := 0#32
  let c8_i32 : BitVec 32 := 8#32
  let v9 : BitVec 32 := Scalar.addi c0_i32_7 c8_i32
  let c1_i32_8 : BitVec 32 := 1#32
  ⟨c0_i32_7, v9, c1_i32_8⟩
def k2_off2 (k2_t1 : Fin k2_t1_loop.trips) (c0_i32_11 : BitVec 32) : Fin 2 → Nat :=
  let c0_i32_7 : BitVec 32 := 0#32
  let c1_i32_8 : BitVec 32 := 1#32
  let arg11 : BitVec 32 := Scf.iv c0_i32_7 c1_i32_8 k2_t1
  let c2_i32_10 : BitVec 32 := 2#32
  let v12 : BitVec 32 := Scalar.muli arg11 c2_i32_10
  let v13 : BitVec 32 := Scalar.addi v12 c0_i32_11
  let c0_i32_12 : BitVec 32 := 0#32
  ![v13.toNat, 0]
@[reducible] def k2_t2_loop : Scf.Loop 32 :=
  let c0_i32_16 : BitVec 32 := 0#32
  let c8_i32_17 : BitVec 32 := 8#32
  let v17 : BitVec 32 := Scalar.addi c0_i32_16 c8_i32_17
  let c1_i32_18 : BitVec 32 := 1#32
  ⟨c0_i32_16, v17, c1_i32_18⟩
def k2_mult1 (k2_t2 : Fin k2_t2_loop.trips) : BitVec 32 :=
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  v34
def k2_off3 (k2_t2 : Fin k2_t2_loop.trips) : Fin 2 → Nat :=
  let c0_i32_38 : BitVec 32 := 0#32
  let v36 : Index := Scalar.indexCast c0_i32_38
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v37 : Index := Scalar.indexCast v35
  ![0, v37.toNat]
def k2_off4 (k2_t2 : Fin k2_t2_loop.trips) : Fin 2 → Nat :=
  let c1_i32_39 : BitVec 32 := 1#32
  let v40 : Index := Scalar.indexCast c1_i32_39
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v41 : Index := Scalar.indexCast v35
  ![1, v41.toNat]
def k2_off5 (k2_t2 : Fin k2_t2_loop.trips) : Fin 2 → Nat :=
  let c2_i32_40 : BitVec 32 := 2#32
  let v44 : Index := Scalar.indexCast c2_i32_40
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v45 : Index := Scalar.indexCast v35
  ![2, v45.toNat]
def k2_off6 (k2_t2 : Fin k2_t2_loop.trips) : Fin 2 → Nat :=
  let c3_i32 : BitVec 32 := 3#32
  let v48 : Index := Scalar.indexCast c3_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v49 : Index := Scalar.indexCast v35
  ![3, v49.toNat]
def k2_off7 (k2_t2 : Fin k2_t2_loop.trips) : Fin 2 → Nat :=
  let c4_i32 : BitVec 32 := 4#32
  let v52 : Index := Scalar.indexCast c4_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v53 : Index := Scalar.indexCast v35
  ![4, v53.toNat]
def k2_off8 (k2_t2 : Fin k2_t2_loop.trips) : Fin 2 → Nat :=
  let c5_i32 : BitVec 32 := 5#32
  let v56 : Index := Scalar.indexCast c5_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v57 : Index := Scalar.indexCast v35
  ![5, v57.toNat]
def k2_off9 (k2_t2 : Fin k2_t2_loop.trips) : Fin 2 → Nat :=
  let c6_i32 : BitVec 32 := 6#32
  let v60 : Index := Scalar.indexCast c6_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v61 : Index := Scalar.indexCast v35
  ![6, v61.toNat]
def k2_off10 (k2_t2 : Fin k2_t2_loop.trips) : Fin 2 → Nat :=
  let c7_i32 : BitVec 32 := 7#32
  let v64 : Index := Scalar.indexCast c7_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v65 : Index := Scalar.indexCast v35
  ![7, v65.toNat]
def k2_off11 (k2_t2 : Fin k2_t2_loop.trips) : Fin 2 → Nat :=
  let c8_i32_41 : BitVec 32 := 8#32
  let v68 : Index := Scalar.indexCast c8_i32_41
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v69 : Index := Scalar.indexCast v35
  ![8, v69.toNat]
def k2_off12 (k2_t2 : Fin k2_t2_loop.trips) : Fin 2 → Nat :=
  let c9_i32 : BitVec 32 := 9#32
  let v72 : Index := Scalar.indexCast c9_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v73 : Index := Scalar.indexCast v35
  ![9, v73.toNat]
def k2_off13 (k2_t2 : Fin k2_t2_loop.trips) : Fin 2 → Nat :=
  let c10_i32 : BitVec 32 := 10#32
  let v76 : Index := Scalar.indexCast c10_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v77 : Index := Scalar.indexCast v35
  ![10, v77.toNat]
def k2_off14 (k2_t2 : Fin k2_t2_loop.trips) : Fin 2 → Nat :=
  let c11_i32 : BitVec 32 := 11#32
  let v80 : Index := Scalar.indexCast c11_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v81 : Index := Scalar.indexCast v35
  ![11, v81.toNat]
def k2_off15 (k2_t2 : Fin k2_t2_loop.trips) : Fin 2 → Nat :=
  let c12_i32 : BitVec 32 := 12#32
  let v84 : Index := Scalar.indexCast c12_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v85 : Index := Scalar.indexCast v35
  ![12, v85.toNat]
def k2_off16 (k2_t2 : Fin k2_t2_loop.trips) : Fin 2 → Nat :=
  let c13_i32 : BitVec 32 := 13#32
  let v88 : Index := Scalar.indexCast c13_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v89 : Index := Scalar.indexCast v35
  ![13, v89.toNat]
def k2_off17 (k2_t2 : Fin k2_t2_loop.trips) : Fin 2 → Nat :=
  let c14_i32 : BitVec 32 := 14#32
  let v92 : Index := Scalar.indexCast c14_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v93 : Index := Scalar.indexCast v35
  ![14, v93.toNat]
def k2_off18 (k2_t2 : Fin k2_t2_loop.trips) : Fin 2 → Nat :=
  let c15_i32 : BitVec 32 := 15#32
  let v96 : Index := Scalar.indexCast c15_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v97 : Index := Scalar.indexCast v35
  ![15, v97.toNat]
def k2_off19 (k2_t2 : Fin k2_t2_loop.trips) : Fin 2 → Nat :=
  let c16_i32_42 : BitVec 32 := 16#32
  let v100 : Index := Scalar.indexCast c16_i32_42
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v101 : Index := Scalar.indexCast v35
  ![16, v101.toNat]
def k2_off20 (k2_t2 : Fin k2_t2_loop.trips) : Fin 2 → Nat :=
  let c17_i32 : BitVec 32 := 17#32
  let v104 : Index := Scalar.indexCast c17_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v105 : Index := Scalar.indexCast v35
  ![17, v105.toNat]
def k2_off21 (k2_t2 : Fin k2_t2_loop.trips) : Fin 2 → Nat :=
  let c18_i32 : BitVec 32 := 18#32
  let v108 : Index := Scalar.indexCast c18_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v109 : Index := Scalar.indexCast v35
  ![18, v109.toNat]
def k2_off22 (k2_t2 : Fin k2_t2_loop.trips) : Fin 2 → Nat :=
  let c19_i32 : BitVec 32 := 19#32
  let v112 : Index := Scalar.indexCast c19_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v113 : Index := Scalar.indexCast v35
  ![19, v113.toNat]
def k2_off23 (k2_t2 : Fin k2_t2_loop.trips) : Fin 2 → Nat :=
  let c20_i32 : BitVec 32 := 20#32
  let v116 : Index := Scalar.indexCast c20_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v117 : Index := Scalar.indexCast v35
  ![20, v117.toNat]
def k2_off24 (k2_t2 : Fin k2_t2_loop.trips) : Fin 2 → Nat :=
  let c21_i32 : BitVec 32 := 21#32
  let v120 : Index := Scalar.indexCast c21_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v121 : Index := Scalar.indexCast v35
  ![21, v121.toNat]
def k2_off25 (k2_t2 : Fin k2_t2_loop.trips) : Fin 2 → Nat :=
  let c22_i32 : BitVec 32 := 22#32
  let v124 : Index := Scalar.indexCast c22_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v125 : Index := Scalar.indexCast v35
  ![22, v125.toNat]
def k2_off26 (k2_t2 : Fin k2_t2_loop.trips) : Fin 2 → Nat :=
  let c23_i32 : BitVec 32 := 23#32
  let v128 : Index := Scalar.indexCast c23_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v129 : Index := Scalar.indexCast v35
  ![23, v129.toNat]
def k2_off27 (k2_t2 : Fin k2_t2_loop.trips) : Fin 2 → Nat :=
  let c24_i32 : BitVec 32 := 24#32
  let v132 : Index := Scalar.indexCast c24_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v133 : Index := Scalar.indexCast v35
  ![24, v133.toNat]
def k2_off28 (k2_t2 : Fin k2_t2_loop.trips) : Fin 2 → Nat :=
  let c25_i32 : BitVec 32 := 25#32
  let v136 : Index := Scalar.indexCast c25_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v137 : Index := Scalar.indexCast v35
  ![25, v137.toNat]
def k2_off29 (k2_t2 : Fin k2_t2_loop.trips) : Fin 2 → Nat :=
  let c26_i32 : BitVec 32 := 26#32
  let v140 : Index := Scalar.indexCast c26_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v141 : Index := Scalar.indexCast v35
  ![26, v141.toNat]
def k2_off30 (k2_t2 : Fin k2_t2_loop.trips) : Fin 2 → Nat :=
  let c27_i32 : BitVec 32 := 27#32
  let v144 : Index := Scalar.indexCast c27_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v145 : Index := Scalar.indexCast v35
  ![27, v145.toNat]
def k2_off31 (k2_t2 : Fin k2_t2_loop.trips) : Fin 2 → Nat :=
  let c28_i32 : BitVec 32 := 28#32
  let v148 : Index := Scalar.indexCast c28_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v149 : Index := Scalar.indexCast v35
  ![28, v149.toNat]
def k2_off32 (k2_t2 : Fin k2_t2_loop.trips) : Fin 2 → Nat :=
  let c29_i32 : BitVec 32 := 29#32
  let v152 : Index := Scalar.indexCast c29_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v153 : Index := Scalar.indexCast v35
  ![29, v153.toNat]
def k2_off33 (k2_t2 : Fin k2_t2_loop.trips) : Fin 2 → Nat :=
  let c30_i32 : BitVec 32 := 30#32
  let v156 : Index := Scalar.indexCast c30_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v157 : Index := Scalar.indexCast v35
  ![30, v157.toNat]
def k2_off34 (k2_t2 : Fin k2_t2_loop.trips) : Fin 2 → Nat :=
  let c31_i32 : BitVec 32 := 31#32
  let v160 : Index := Scalar.indexCast c31_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v161 : Index := Scalar.indexCast v35
  ![31, v161.toNat]
def k2_off35 (k2_t1 : Fin k2_t1_loop.trips) (k2_t2 : Fin k2_t2_loop.trips) (c0_i32_44 : BitVec 32) : Fin 2 → Nat :=
  let c0_i32_7 : BitVec 32 := 0#32
  let c1_i32_8 : BitVec 32 := 1#32
  let arg11 : BitVec 32 := Scf.iv c0_i32_7 c1_i32_8 k2_t1
  let c2_i32_10 : BitVec 32 := 2#32
  let v12 : BitVec 32 := Scalar.muli arg11 c2_i32_10
  let c0_i32_11 : BitVec 32 := 0#32
  let v13 : BitVec 32 := Scalar.addi v12 c0_i32_11
  let c4_i32_43 : BitVec 32 := 4#32
  let v195 : BitVec 32 := Scalar.muli v13 c4_i32_43
  let v196 : BitVec 32 := Scalar.addi v195 c0_i32_44
  let v197 : Index := Scalar.indexCast v196
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v198 : Index := Scalar.indexCast v35
  ![v197.toNat, v198.toNat]
def k2_off36 (k2_t2 : Fin k2_t2_loop.trips) : Fin 2 → Nat :=
  let c32_i32 : BitVec 32 := 32#32
  let v202 : Index := Scalar.indexCast c32_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v203 : Index := Scalar.indexCast v35
  ![32, v203.toNat]
def k2_off37 (k2_t2 : Fin k2_t2_loop.trips) : Fin 2 → Nat :=
  let c33_i32 : BitVec 32 := 33#32
  let v206 : Index := Scalar.indexCast c33_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v207 : Index := Scalar.indexCast v35
  ![33, v207.toNat]
def k2_off38 (k2_t2 : Fin k2_t2_loop.trips) : Fin 2 → Nat :=
  let c34_i32 : BitVec 32 := 34#32
  let v210 : Index := Scalar.indexCast c34_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v211 : Index := Scalar.indexCast v35
  ![34, v211.toNat]
def k2_off39 (k2_t2 : Fin k2_t2_loop.trips) : Fin 2 → Nat :=
  let c35_i32 : BitVec 32 := 35#32
  let v214 : Index := Scalar.indexCast c35_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v215 : Index := Scalar.indexCast v35
  ![35, v215.toNat]
def k2_off40 (k2_t2 : Fin k2_t2_loop.trips) : Fin 2 → Nat :=
  let c36_i32 : BitVec 32 := 36#32
  let v218 : Index := Scalar.indexCast c36_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v219 : Index := Scalar.indexCast v35
  ![36, v219.toNat]
def k2_off41 (k2_t2 : Fin k2_t2_loop.trips) : Fin 2 → Nat :=
  let c37_i32 : BitVec 32 := 37#32
  let v222 : Index := Scalar.indexCast c37_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v223 : Index := Scalar.indexCast v35
  ![37, v223.toNat]
def k2_off42 (k2_t2 : Fin k2_t2_loop.trips) : Fin 2 → Nat :=
  let c38_i32 : BitVec 32 := 38#32
  let v226 : Index := Scalar.indexCast c38_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v227 : Index := Scalar.indexCast v35
  ![38, v227.toNat]
def k2_off43 (k2_t2 : Fin k2_t2_loop.trips) : Fin 2 → Nat :=
  let c39_i32 : BitVec 32 := 39#32
  let v230 : Index := Scalar.indexCast c39_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v231 : Index := Scalar.indexCast v35
  ![39, v231.toNat]
def k2_off44 (k2_t2 : Fin k2_t2_loop.trips) : Fin 2 → Nat :=
  let c40_i32 : BitVec 32 := 40#32
  let v234 : Index := Scalar.indexCast c40_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v235 : Index := Scalar.indexCast v35
  ![40, v235.toNat]
def k2_off45 (k2_t2 : Fin k2_t2_loop.trips) : Fin 2 → Nat :=
  let c41_i32 : BitVec 32 := 41#32
  let v238 : Index := Scalar.indexCast c41_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v239 : Index := Scalar.indexCast v35
  ![41, v239.toNat]
def k2_off46 (k2_t2 : Fin k2_t2_loop.trips) : Fin 2 → Nat :=
  let c42_i32 : BitVec 32 := 42#32
  let v242 : Index := Scalar.indexCast c42_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v243 : Index := Scalar.indexCast v35
  ![42, v243.toNat]
def k2_off47 (k2_t2 : Fin k2_t2_loop.trips) : Fin 2 → Nat :=
  let c43_i32 : BitVec 32 := 43#32
  let v246 : Index := Scalar.indexCast c43_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v247 : Index := Scalar.indexCast v35
  ![43, v247.toNat]
def k2_off48 (k2_t2 : Fin k2_t2_loop.trips) : Fin 2 → Nat :=
  let c44_i32 : BitVec 32 := 44#32
  let v250 : Index := Scalar.indexCast c44_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v251 : Index := Scalar.indexCast v35
  ![44, v251.toNat]
def k2_off49 (k2_t2 : Fin k2_t2_loop.trips) : Fin 2 → Nat :=
  let c45_i32 : BitVec 32 := 45#32
  let v254 : Index := Scalar.indexCast c45_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v255 : Index := Scalar.indexCast v35
  ![45, v255.toNat]
def k2_off50 (k2_t2 : Fin k2_t2_loop.trips) : Fin 2 → Nat :=
  let c46_i32 : BitVec 32 := 46#32
  let v258 : Index := Scalar.indexCast c46_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v259 : Index := Scalar.indexCast v35
  ![46, v259.toNat]
def k2_off51 (k2_t2 : Fin k2_t2_loop.trips) : Fin 2 → Nat :=
  let c47_i32 : BitVec 32 := 47#32
  let v262 : Index := Scalar.indexCast c47_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v263 : Index := Scalar.indexCast v35
  ![47, v263.toNat]
def k2_off52 (k2_t2 : Fin k2_t2_loop.trips) : Fin 2 → Nat :=
  let c48_i32 : BitVec 32 := 48#32
  let v266 : Index := Scalar.indexCast c48_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v267 : Index := Scalar.indexCast v35
  ![48, v267.toNat]
def k2_off53 (k2_t2 : Fin k2_t2_loop.trips) : Fin 2 → Nat :=
  let c49_i32 : BitVec 32 := 49#32
  let v270 : Index := Scalar.indexCast c49_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v271 : Index := Scalar.indexCast v35
  ![49, v271.toNat]
def k2_off54 (k2_t2 : Fin k2_t2_loop.trips) : Fin 2 → Nat :=
  let c50_i32 : BitVec 32 := 50#32
  let v274 : Index := Scalar.indexCast c50_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v275 : Index := Scalar.indexCast v35
  ![50, v275.toNat]
def k2_off55 (k2_t2 : Fin k2_t2_loop.trips) : Fin 2 → Nat :=
  let c51_i32 : BitVec 32 := 51#32
  let v278 : Index := Scalar.indexCast c51_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v279 : Index := Scalar.indexCast v35
  ![51, v279.toNat]
def k2_off56 (k2_t2 : Fin k2_t2_loop.trips) : Fin 2 → Nat :=
  let c52_i32 : BitVec 32 := 52#32
  let v282 : Index := Scalar.indexCast c52_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v283 : Index := Scalar.indexCast v35
  ![52, v283.toNat]
def k2_off57 (k2_t2 : Fin k2_t2_loop.trips) : Fin 2 → Nat :=
  let c53_i32 : BitVec 32 := 53#32
  let v286 : Index := Scalar.indexCast c53_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v287 : Index := Scalar.indexCast v35
  ![53, v287.toNat]
def k2_off58 (k2_t2 : Fin k2_t2_loop.trips) : Fin 2 → Nat :=
  let c54_i32 : BitVec 32 := 54#32
  let v290 : Index := Scalar.indexCast c54_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v291 : Index := Scalar.indexCast v35
  ![54, v291.toNat]
def k2_off59 (k2_t2 : Fin k2_t2_loop.trips) : Fin 2 → Nat :=
  let c55_i32 : BitVec 32 := 55#32
  let v294 : Index := Scalar.indexCast c55_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v295 : Index := Scalar.indexCast v35
  ![55, v295.toNat]
def k2_off60 (k2_t2 : Fin k2_t2_loop.trips) : Fin 2 → Nat :=
  let c56_i32 : BitVec 32 := 56#32
  let v298 : Index := Scalar.indexCast c56_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v299 : Index := Scalar.indexCast v35
  ![56, v299.toNat]
def k2_off61 (k2_t2 : Fin k2_t2_loop.trips) : Fin 2 → Nat :=
  let c57_i32 : BitVec 32 := 57#32
  let v302 : Index := Scalar.indexCast c57_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v303 : Index := Scalar.indexCast v35
  ![57, v303.toNat]
def k2_off62 (k2_t2 : Fin k2_t2_loop.trips) : Fin 2 → Nat :=
  let c58_i32 : BitVec 32 := 58#32
  let v306 : Index := Scalar.indexCast c58_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v307 : Index := Scalar.indexCast v35
  ![58, v307.toNat]
def k2_off63 (k2_t2 : Fin k2_t2_loop.trips) : Fin 2 → Nat :=
  let c59_i32 : BitVec 32 := 59#32
  let v310 : Index := Scalar.indexCast c59_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v311 : Index := Scalar.indexCast v35
  ![59, v311.toNat]
def k2_off64 (k2_t2 : Fin k2_t2_loop.trips) : Fin 2 → Nat :=
  let c60_i32 : BitVec 32 := 60#32
  let v314 : Index := Scalar.indexCast c60_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v315 : Index := Scalar.indexCast v35
  ![60, v315.toNat]
def k2_off65 (k2_t2 : Fin k2_t2_loop.trips) : Fin 2 → Nat :=
  let c61_i32 : BitVec 32 := 61#32
  let v318 : Index := Scalar.indexCast c61_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v319 : Index := Scalar.indexCast v35
  ![61, v319.toNat]
def k2_off66 (k2_t2 : Fin k2_t2_loop.trips) : Fin 2 → Nat :=
  let c62_i32 : BitVec 32 := 62#32
  let v322 : Index := Scalar.indexCast c62_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v323 : Index := Scalar.indexCast v35
  ![62, v323.toNat]
def k2_off67 (k2_t2 : Fin k2_t2_loop.trips) : Fin 2 → Nat :=
  let c63_i32 : BitVec 32 := 63#32
  let v326 : Index := Scalar.indexCast c63_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v327 : Index := Scalar.indexCast v35
  ![63, v327.toNat]
def k2_off68 (k2_t2 : Fin k2_t2_loop.trips) : Fin 2 → Nat :=
  let c64_i32_47 : BitVec 32 := 64#32
  let v368 : Index := Scalar.indexCast c64_i32_47
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v369 : Index := Scalar.indexCast v35
  ![64, v369.toNat]
def k2_off69 (k2_t2 : Fin k2_t2_loop.trips) : Fin 2 → Nat :=
  let c65_i32 : BitVec 32 := 65#32
  let v372 : Index := Scalar.indexCast c65_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v373 : Index := Scalar.indexCast v35
  ![65, v373.toNat]
def k2_off70 (k2_t2 : Fin k2_t2_loop.trips) : Fin 2 → Nat :=
  let c66_i32 : BitVec 32 := 66#32
  let v376 : Index := Scalar.indexCast c66_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v377 : Index := Scalar.indexCast v35
  ![66, v377.toNat]
def k2_off71 (k2_t2 : Fin k2_t2_loop.trips) : Fin 2 → Nat :=
  let c67_i32 : BitVec 32 := 67#32
  let v380 : Index := Scalar.indexCast c67_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v381 : Index := Scalar.indexCast v35
  ![67, v381.toNat]
def k2_off72 (k2_t2 : Fin k2_t2_loop.trips) : Fin 2 → Nat :=
  let c68_i32 : BitVec 32 := 68#32
  let v384 : Index := Scalar.indexCast c68_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v385 : Index := Scalar.indexCast v35
  ![68, v385.toNat]
def k2_off73 (k2_t2 : Fin k2_t2_loop.trips) : Fin 2 → Nat :=
  let c69_i32 : BitVec 32 := 69#32
  let v388 : Index := Scalar.indexCast c69_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v389 : Index := Scalar.indexCast v35
  ![69, v389.toNat]
def k2_off74 (k2_t2 : Fin k2_t2_loop.trips) : Fin 2 → Nat :=
  let c70_i32 : BitVec 32 := 70#32
  let v392 : Index := Scalar.indexCast c70_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v393 : Index := Scalar.indexCast v35
  ![70, v393.toNat]
def k2_off75 (k2_t2 : Fin k2_t2_loop.trips) : Fin 2 → Nat :=
  let c71_i32 : BitVec 32 := 71#32
  let v396 : Index := Scalar.indexCast c71_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v397 : Index := Scalar.indexCast v35
  ![71, v397.toNat]
def k2_off76 (k2_t2 : Fin k2_t2_loop.trips) : Fin 2 → Nat :=
  let c72_i32 : BitVec 32 := 72#32
  let v400 : Index := Scalar.indexCast c72_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v401 : Index := Scalar.indexCast v35
  ![72, v401.toNat]
def k2_off77 (k2_t2 : Fin k2_t2_loop.trips) : Fin 2 → Nat :=
  let c73_i32 : BitVec 32 := 73#32
  let v404 : Index := Scalar.indexCast c73_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v405 : Index := Scalar.indexCast v35
  ![73, v405.toNat]
def k2_off78 (k2_t2 : Fin k2_t2_loop.trips) : Fin 2 → Nat :=
  let c74_i32 : BitVec 32 := 74#32
  let v408 : Index := Scalar.indexCast c74_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v409 : Index := Scalar.indexCast v35
  ![74, v409.toNat]
def k2_off79 (k2_t2 : Fin k2_t2_loop.trips) : Fin 2 → Nat :=
  let c75_i32 : BitVec 32 := 75#32
  let v412 : Index := Scalar.indexCast c75_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v413 : Index := Scalar.indexCast v35
  ![75, v413.toNat]
def k2_off80 (k2_t2 : Fin k2_t2_loop.trips) : Fin 2 → Nat :=
  let c76_i32 : BitVec 32 := 76#32
  let v416 : Index := Scalar.indexCast c76_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v417 : Index := Scalar.indexCast v35
  ![76, v417.toNat]
def k2_off81 (k2_t2 : Fin k2_t2_loop.trips) : Fin 2 → Nat :=
  let c77_i32 : BitVec 32 := 77#32
  let v420 : Index := Scalar.indexCast c77_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v421 : Index := Scalar.indexCast v35
  ![77, v421.toNat]
def k2_off82 (k2_t2 : Fin k2_t2_loop.trips) : Fin 2 → Nat :=
  let c78_i32 : BitVec 32 := 78#32
  let v424 : Index := Scalar.indexCast c78_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v425 : Index := Scalar.indexCast v35
  ![78, v425.toNat]
def k2_off83 (k2_t2 : Fin k2_t2_loop.trips) : Fin 2 → Nat :=
  let c79_i32 : BitVec 32 := 79#32
  let v428 : Index := Scalar.indexCast c79_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v429 : Index := Scalar.indexCast v35
  ![79, v429.toNat]
def k2_off84 (k2_t2 : Fin k2_t2_loop.trips) : Fin 2 → Nat :=
  let c80_i32 : BitVec 32 := 80#32
  let v432 : Index := Scalar.indexCast c80_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v433 : Index := Scalar.indexCast v35
  ![80, v433.toNat]
def k2_off85 (k2_t2 : Fin k2_t2_loop.trips) : Fin 2 → Nat :=
  let c81_i32 : BitVec 32 := 81#32
  let v436 : Index := Scalar.indexCast c81_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v437 : Index := Scalar.indexCast v35
  ![81, v437.toNat]
def k2_off86 (k2_t2 : Fin k2_t2_loop.trips) : Fin 2 → Nat :=
  let c82_i32 : BitVec 32 := 82#32
  let v440 : Index := Scalar.indexCast c82_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v441 : Index := Scalar.indexCast v35
  ![82, v441.toNat]
def k2_off87 (k2_t2 : Fin k2_t2_loop.trips) : Fin 2 → Nat :=
  let c83_i32 : BitVec 32 := 83#32
  let v444 : Index := Scalar.indexCast c83_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v445 : Index := Scalar.indexCast v35
  ![83, v445.toNat]
def k2_off88 (k2_t2 : Fin k2_t2_loop.trips) : Fin 2 → Nat :=
  let c84_i32 : BitVec 32 := 84#32
  let v448 : Index := Scalar.indexCast c84_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v449 : Index := Scalar.indexCast v35
  ![84, v449.toNat]
def k2_off89 (k2_t2 : Fin k2_t2_loop.trips) : Fin 2 → Nat :=
  let c85_i32 : BitVec 32 := 85#32
  let v452 : Index := Scalar.indexCast c85_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v453 : Index := Scalar.indexCast v35
  ![85, v453.toNat]
def k2_off90 (k2_t2 : Fin k2_t2_loop.trips) : Fin 2 → Nat :=
  let c86_i32 : BitVec 32 := 86#32
  let v456 : Index := Scalar.indexCast c86_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v457 : Index := Scalar.indexCast v35
  ![86, v457.toNat]
def k2_off91 (k2_t2 : Fin k2_t2_loop.trips) : Fin 2 → Nat :=
  let c87_i32 : BitVec 32 := 87#32
  let v460 : Index := Scalar.indexCast c87_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v461 : Index := Scalar.indexCast v35
  ![87, v461.toNat]
def k2_off92 (k2_t2 : Fin k2_t2_loop.trips) : Fin 2 → Nat :=
  let c88_i32 : BitVec 32 := 88#32
  let v464 : Index := Scalar.indexCast c88_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v465 : Index := Scalar.indexCast v35
  ![88, v465.toNat]
def k2_off93 (k2_t2 : Fin k2_t2_loop.trips) : Fin 2 → Nat :=
  let c89_i32 : BitVec 32 := 89#32
  let v468 : Index := Scalar.indexCast c89_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v469 : Index := Scalar.indexCast v35
  ![89, v469.toNat]
def k2_off94 (k2_t2 : Fin k2_t2_loop.trips) : Fin 2 → Nat :=
  let c90_i32 : BitVec 32 := 90#32
  let v472 : Index := Scalar.indexCast c90_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v473 : Index := Scalar.indexCast v35
  ![90, v473.toNat]
def k2_off95 (k2_t2 : Fin k2_t2_loop.trips) : Fin 2 → Nat :=
  let c91_i32 : BitVec 32 := 91#32
  let v476 : Index := Scalar.indexCast c91_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v477 : Index := Scalar.indexCast v35
  ![91, v477.toNat]
def k2_off96 (k2_t2 : Fin k2_t2_loop.trips) : Fin 2 → Nat :=
  let c92_i32 : BitVec 32 := 92#32
  let v480 : Index := Scalar.indexCast c92_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v481 : Index := Scalar.indexCast v35
  ![92, v481.toNat]
def k2_off97 (k2_t2 : Fin k2_t2_loop.trips) : Fin 2 → Nat :=
  let c93_i32 : BitVec 32 := 93#32
  let v484 : Index := Scalar.indexCast c93_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v485 : Index := Scalar.indexCast v35
  ![93, v485.toNat]
def k2_off98 (k2_t2 : Fin k2_t2_loop.trips) : Fin 2 → Nat :=
  let c94_i32 : BitVec 32 := 94#32
  let v488 : Index := Scalar.indexCast c94_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v489 : Index := Scalar.indexCast v35
  ![94, v489.toNat]
def k2_off99 (k2_t2 : Fin k2_t2_loop.trips) : Fin 2 → Nat :=
  let c95_i32 : BitVec 32 := 95#32
  let v492 : Index := Scalar.indexCast c95_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v493 : Index := Scalar.indexCast v35
  ![95, v493.toNat]
def k2_off100 (k2_t2 : Fin k2_t2_loop.trips) : Fin 2 → Nat :=
  let c96_i32 : BitVec 32 := 96#32
  let v534 : Index := Scalar.indexCast c96_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v535 : Index := Scalar.indexCast v35
  ![96, v535.toNat]
def k2_off101 (k2_t2 : Fin k2_t2_loop.trips) : Fin 2 → Nat :=
  let c97_i32 : BitVec 32 := 97#32
  let v538 : Index := Scalar.indexCast c97_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v539 : Index := Scalar.indexCast v35
  ![97, v539.toNat]
def k2_off102 (k2_t2 : Fin k2_t2_loop.trips) : Fin 2 → Nat :=
  let c98_i32 : BitVec 32 := 98#32
  let v542 : Index := Scalar.indexCast c98_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v543 : Index := Scalar.indexCast v35
  ![98, v543.toNat]
def k2_off103 (k2_t2 : Fin k2_t2_loop.trips) : Fin 2 → Nat :=
  let c99_i32 : BitVec 32 := 99#32
  let v546 : Index := Scalar.indexCast c99_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v547 : Index := Scalar.indexCast v35
  ![99, v547.toNat]
def k2_off104 (k2_t2 : Fin k2_t2_loop.trips) : Fin 2 → Nat :=
  let c100_i32 : BitVec 32 := 100#32
  let v550 : Index := Scalar.indexCast c100_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v551 : Index := Scalar.indexCast v35
  ![100, v551.toNat]
def k2_off105 (k2_t2 : Fin k2_t2_loop.trips) : Fin 2 → Nat :=
  let c101_i32 : BitVec 32 := 101#32
  let v554 : Index := Scalar.indexCast c101_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v555 : Index := Scalar.indexCast v35
  ![101, v555.toNat]
def k2_off106 (k2_t2 : Fin k2_t2_loop.trips) : Fin 2 → Nat :=
  let c102_i32 : BitVec 32 := 102#32
  let v558 : Index := Scalar.indexCast c102_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v559 : Index := Scalar.indexCast v35
  ![102, v559.toNat]
def k2_off107 (k2_t2 : Fin k2_t2_loop.trips) : Fin 2 → Nat :=
  let c103_i32 : BitVec 32 := 103#32
  let v562 : Index := Scalar.indexCast c103_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v563 : Index := Scalar.indexCast v35
  ![103, v563.toNat]
def k2_off108 (k2_t2 : Fin k2_t2_loop.trips) : Fin 2 → Nat :=
  let c104_i32 : BitVec 32 := 104#32
  let v566 : Index := Scalar.indexCast c104_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v567 : Index := Scalar.indexCast v35
  ![104, v567.toNat]
def k2_off109 (k2_t2 : Fin k2_t2_loop.trips) : Fin 2 → Nat :=
  let c105_i32 : BitVec 32 := 105#32
  let v570 : Index := Scalar.indexCast c105_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v571 : Index := Scalar.indexCast v35
  ![105, v571.toNat]
def k2_off110 (k2_t2 : Fin k2_t2_loop.trips) : Fin 2 → Nat :=
  let c106_i32 : BitVec 32 := 106#32
  let v574 : Index := Scalar.indexCast c106_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v575 : Index := Scalar.indexCast v35
  ![106, v575.toNat]
def k2_off111 (k2_t2 : Fin k2_t2_loop.trips) : Fin 2 → Nat :=
  let c107_i32 : BitVec 32 := 107#32
  let v578 : Index := Scalar.indexCast c107_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v579 : Index := Scalar.indexCast v35
  ![107, v579.toNat]
def k2_off112 (k2_t2 : Fin k2_t2_loop.trips) : Fin 2 → Nat :=
  let c108_i32 : BitVec 32 := 108#32
  let v582 : Index := Scalar.indexCast c108_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v583 : Index := Scalar.indexCast v35
  ![108, v583.toNat]
def k2_off113 (k2_t2 : Fin k2_t2_loop.trips) : Fin 2 → Nat :=
  let c109_i32 : BitVec 32 := 109#32
  let v586 : Index := Scalar.indexCast c109_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v587 : Index := Scalar.indexCast v35
  ![109, v587.toNat]
def k2_off114 (k2_t2 : Fin k2_t2_loop.trips) : Fin 2 → Nat :=
  let c110_i32 : BitVec 32 := 110#32
  let v590 : Index := Scalar.indexCast c110_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v591 : Index := Scalar.indexCast v35
  ![110, v591.toNat]
def k2_off115 (k2_t2 : Fin k2_t2_loop.trips) : Fin 2 → Nat :=
  let c111_i32 : BitVec 32 := 111#32
  let v594 : Index := Scalar.indexCast c111_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v595 : Index := Scalar.indexCast v35
  ![111, v595.toNat]
def k2_off116 (k2_t2 : Fin k2_t2_loop.trips) : Fin 2 → Nat :=
  let c112_i32 : BitVec 32 := 112#32
  let v598 : Index := Scalar.indexCast c112_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v599 : Index := Scalar.indexCast v35
  ![112, v599.toNat]
def k2_off117 (k2_t2 : Fin k2_t2_loop.trips) : Fin 2 → Nat :=
  let c113_i32 : BitVec 32 := 113#32
  let v602 : Index := Scalar.indexCast c113_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v603 : Index := Scalar.indexCast v35
  ![113, v603.toNat]
def k2_off118 (k2_t2 : Fin k2_t2_loop.trips) : Fin 2 → Nat :=
  let c114_i32 : BitVec 32 := 114#32
  let v606 : Index := Scalar.indexCast c114_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v607 : Index := Scalar.indexCast v35
  ![114, v607.toNat]
def k2_off119 (k2_t2 : Fin k2_t2_loop.trips) : Fin 2 → Nat :=
  let c115_i32 : BitVec 32 := 115#32
  let v610 : Index := Scalar.indexCast c115_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v611 : Index := Scalar.indexCast v35
  ![115, v611.toNat]
def k2_off120 (k2_t2 : Fin k2_t2_loop.trips) : Fin 2 → Nat :=
  let c116_i32 : BitVec 32 := 116#32
  let v614 : Index := Scalar.indexCast c116_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v615 : Index := Scalar.indexCast v35
  ![116, v615.toNat]
def k2_off121 (k2_t2 : Fin k2_t2_loop.trips) : Fin 2 → Nat :=
  let c117_i32 : BitVec 32 := 117#32
  let v618 : Index := Scalar.indexCast c117_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v619 : Index := Scalar.indexCast v35
  ![117, v619.toNat]
def k2_off122 (k2_t2 : Fin k2_t2_loop.trips) : Fin 2 → Nat :=
  let c118_i32 : BitVec 32 := 118#32
  let v622 : Index := Scalar.indexCast c118_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v623 : Index := Scalar.indexCast v35
  ![118, v623.toNat]
def k2_off123 (k2_t2 : Fin k2_t2_loop.trips) : Fin 2 → Nat :=
  let c119_i32 : BitVec 32 := 119#32
  let v626 : Index := Scalar.indexCast c119_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v627 : Index := Scalar.indexCast v35
  ![119, v627.toNat]
def k2_off124 (k2_t2 : Fin k2_t2_loop.trips) : Fin 2 → Nat :=
  let c120_i32 : BitVec 32 := 120#32
  let v630 : Index := Scalar.indexCast c120_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v631 : Index := Scalar.indexCast v35
  ![120, v631.toNat]
def k2_off125 (k2_t2 : Fin k2_t2_loop.trips) : Fin 2 → Nat :=
  let c121_i32 : BitVec 32 := 121#32
  let v634 : Index := Scalar.indexCast c121_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v635 : Index := Scalar.indexCast v35
  ![121, v635.toNat]
def k2_off126 (k2_t2 : Fin k2_t2_loop.trips) : Fin 2 → Nat :=
  let c122_i32 : BitVec 32 := 122#32
  let v638 : Index := Scalar.indexCast c122_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v639 : Index := Scalar.indexCast v35
  ![122, v639.toNat]
def k2_off127 (k2_t2 : Fin k2_t2_loop.trips) : Fin 2 → Nat :=
  let c123_i32 : BitVec 32 := 123#32
  let v642 : Index := Scalar.indexCast c123_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v643 : Index := Scalar.indexCast v35
  ![123, v643.toNat]
def k2_off128 (k2_t2 : Fin k2_t2_loop.trips) : Fin 2 → Nat :=
  let c124_i32 : BitVec 32 := 124#32
  let v646 : Index := Scalar.indexCast c124_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v647 : Index := Scalar.indexCast v35
  ![124, v647.toNat]
def k2_off129 (k2_t2 : Fin k2_t2_loop.trips) : Fin 2 → Nat :=
  let c125_i32 : BitVec 32 := 125#32
  let v650 : Index := Scalar.indexCast c125_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v651 : Index := Scalar.indexCast v35
  ![125, v651.toNat]
def k2_off130 (k2_t2 : Fin k2_t2_loop.trips) : Fin 2 → Nat :=
  let c126_i32 : BitVec 32 := 126#32
  let v654 : Index := Scalar.indexCast c126_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v655 : Index := Scalar.indexCast v35
  ![126, v655.toNat]
def k2_off131 (k2_t2 : Fin k2_t2_loop.trips) : Fin 2 → Nat :=
  let c127_i32 : BitVec 32 := 127#32
  let v658 : Index := Scalar.indexCast c127_i32
  let c0_i32_16 : BitVec 32 := 0#32
  let c1_i32_18 : BitVec 32 := 1#32
  let arg13 : BitVec 32 := Scf.iv c0_i32_16 c1_i32_18 k2_t2
  let c16_i32_37 : BitVec 32 := 16#32
  let v34 : BitVec 32 := Scalar.muli arg13 c16_i32_37
  let v35 : BitVec 32 := v34
  let v659 : Index := Scalar.indexCast v35
  ![127, v659.toNat]
def k2_cond1 (k2_t1 : Fin k2_t1_loop.trips) : BitVec 1 :=
  let c0_i32_7 : BitVec 32 := 0#32
  let c1_i32_8 : BitVec 32 := 1#32
  let arg11 : BitVec 32 := Scf.iv c0_i32_7 c1_i32_8 k2_t1
  let c2_i32_10 : BitVec 32 := 2#32
  let v12 : BitVec 32 := Scalar.muli arg11 c2_i32_10
  let c0_i32_11 : BitVec 32 := 0#32
  let v13 : BitVec 32 := Scalar.addi v12 c0_i32_11
  let c2_i32_20 : BitVec 32 := 2#32
  let v19 : BitVec 32 := Scalar.addi v13 c2_i32_20
  let c16_i32_21 : BitVec 32 := 16#32
  let v20 : BitVec 1 := Scalar.cmpi .slt v19 c16_i32_21
  let v21 : BitVec 32 := Scalar.extui v20
  let c0_i32_22 : BitVec 32 := 0#32
  let v22 : BitVec 1 := Scalar.cmpi .ne v21 c0_i32_22
  v22

def k2_off132 (k2_t1 : Fin k2_t1_loop.trips) : Fin 2 → Nat :=
  let c0_i32_7 : BitVec 32 := 0#32
  let c1_i32_8 : BitVec 32 := 1#32
  let arg11 : BitVec 32 := Scf.iv c0_i32_7 c1_i32_8 k2_t1
  let c2_i32_10 : BitVec 32 := 2#32
  let v12 : BitVec 32 := Scalar.muli arg11 c2_i32_10
  let c0_i32_11 : BitVec 32 := 0#32
  let v13 : BitVec 32 := Scalar.addi v12 c0_i32_11
  let c2_i32_37 : BitVec 32 := 2#32
  let v34 : BitVec 32 := Scalar.addi v13 c2_i32_37
  let c0_i32_38 : BitVec 32 := 0#32
  ![v34.toNat, 0]
@[reducible] def k2_t3_loop : Scf.Loop 32 :=
  let c0_i32_29 : BitVec 32 := 0#32
  let c8_i32_30 : BitVec 32 := 8#32
  let v28 : BitVec 32 := Scalar.addi c0_i32_29 c8_i32_30
  let c1_i32_31 : BitVec 32 := 1#32
  ⟨c0_i32_29, v28, c1_i32_31⟩
def k2_mult2 (k2_t3 : Fin k2_t3_loop.trips) : BitVec 32 :=
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  v34
def k2_off133 (k2_t3 : Fin k2_t3_loop.trips) : Fin 2 → Nat :=
  let c0_i32_38 : BitVec 32 := 0#32
  let v36 : Index := Scalar.indexCast c0_i32_38
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v37 : Index := Scalar.indexCast v35
  ![0, v37.toNat]
def k2_off134 (k2_t3 : Fin k2_t3_loop.trips) : Fin 2 → Nat :=
  let c1_i32_39 : BitVec 32 := 1#32
  let v40 : Index := Scalar.indexCast c1_i32_39
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v41 : Index := Scalar.indexCast v35
  ![1, v41.toNat]
def k2_off135 (k2_t3 : Fin k2_t3_loop.trips) : Fin 2 → Nat :=
  let c2_i32_40 : BitVec 32 := 2#32
  let v44 : Index := Scalar.indexCast c2_i32_40
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v45 : Index := Scalar.indexCast v35
  ![2, v45.toNat]
def k2_off136 (k2_t3 : Fin k2_t3_loop.trips) : Fin 2 → Nat :=
  let c3_i32 : BitVec 32 := 3#32
  let v48 : Index := Scalar.indexCast c3_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v49 : Index := Scalar.indexCast v35
  ![3, v49.toNat]
def k2_off137 (k2_t3 : Fin k2_t3_loop.trips) : Fin 2 → Nat :=
  let c4_i32 : BitVec 32 := 4#32
  let v52 : Index := Scalar.indexCast c4_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v53 : Index := Scalar.indexCast v35
  ![4, v53.toNat]
def k2_off138 (k2_t3 : Fin k2_t3_loop.trips) : Fin 2 → Nat :=
  let c5_i32 : BitVec 32 := 5#32
  let v56 : Index := Scalar.indexCast c5_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v57 : Index := Scalar.indexCast v35
  ![5, v57.toNat]
def k2_off139 (k2_t3 : Fin k2_t3_loop.trips) : Fin 2 → Nat :=
  let c6_i32 : BitVec 32 := 6#32
  let v60 : Index := Scalar.indexCast c6_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v61 : Index := Scalar.indexCast v35
  ![6, v61.toNat]
def k2_off140 (k2_t3 : Fin k2_t3_loop.trips) : Fin 2 → Nat :=
  let c7_i32 : BitVec 32 := 7#32
  let v64 : Index := Scalar.indexCast c7_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v65 : Index := Scalar.indexCast v35
  ![7, v65.toNat]
def k2_off141 (k2_t3 : Fin k2_t3_loop.trips) : Fin 2 → Nat :=
  let c8_i32_41 : BitVec 32 := 8#32
  let v68 : Index := Scalar.indexCast c8_i32_41
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v69 : Index := Scalar.indexCast v35
  ![8, v69.toNat]
def k2_off142 (k2_t3 : Fin k2_t3_loop.trips) : Fin 2 → Nat :=
  let c9_i32 : BitVec 32 := 9#32
  let v72 : Index := Scalar.indexCast c9_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v73 : Index := Scalar.indexCast v35
  ![9, v73.toNat]
def k2_off143 (k2_t3 : Fin k2_t3_loop.trips) : Fin 2 → Nat :=
  let c10_i32 : BitVec 32 := 10#32
  let v76 : Index := Scalar.indexCast c10_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v77 : Index := Scalar.indexCast v35
  ![10, v77.toNat]
def k2_off144 (k2_t3 : Fin k2_t3_loop.trips) : Fin 2 → Nat :=
  let c11_i32 : BitVec 32 := 11#32
  let v80 : Index := Scalar.indexCast c11_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v81 : Index := Scalar.indexCast v35
  ![11, v81.toNat]
def k2_off145 (k2_t3 : Fin k2_t3_loop.trips) : Fin 2 → Nat :=
  let c12_i32 : BitVec 32 := 12#32
  let v84 : Index := Scalar.indexCast c12_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v85 : Index := Scalar.indexCast v35
  ![12, v85.toNat]
def k2_off146 (k2_t3 : Fin k2_t3_loop.trips) : Fin 2 → Nat :=
  let c13_i32 : BitVec 32 := 13#32
  let v88 : Index := Scalar.indexCast c13_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v89 : Index := Scalar.indexCast v35
  ![13, v89.toNat]
def k2_off147 (k2_t3 : Fin k2_t3_loop.trips) : Fin 2 → Nat :=
  let c14_i32 : BitVec 32 := 14#32
  let v92 : Index := Scalar.indexCast c14_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v93 : Index := Scalar.indexCast v35
  ![14, v93.toNat]
def k2_off148 (k2_t3 : Fin k2_t3_loop.trips) : Fin 2 → Nat :=
  let c15_i32 : BitVec 32 := 15#32
  let v96 : Index := Scalar.indexCast c15_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v97 : Index := Scalar.indexCast v35
  ![15, v97.toNat]
def k2_off149 (k2_t3 : Fin k2_t3_loop.trips) : Fin 2 → Nat :=
  let c16_i32_42 : BitVec 32 := 16#32
  let v100 : Index := Scalar.indexCast c16_i32_42
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v101 : Index := Scalar.indexCast v35
  ![16, v101.toNat]
def k2_off150 (k2_t3 : Fin k2_t3_loop.trips) : Fin 2 → Nat :=
  let c17_i32 : BitVec 32 := 17#32
  let v104 : Index := Scalar.indexCast c17_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v105 : Index := Scalar.indexCast v35
  ![17, v105.toNat]
def k2_off151 (k2_t3 : Fin k2_t3_loop.trips) : Fin 2 → Nat :=
  let c18_i32 : BitVec 32 := 18#32
  let v108 : Index := Scalar.indexCast c18_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v109 : Index := Scalar.indexCast v35
  ![18, v109.toNat]
def k2_off152 (k2_t3 : Fin k2_t3_loop.trips) : Fin 2 → Nat :=
  let c19_i32 : BitVec 32 := 19#32
  let v112 : Index := Scalar.indexCast c19_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v113 : Index := Scalar.indexCast v35
  ![19, v113.toNat]
def k2_off153 (k2_t3 : Fin k2_t3_loop.trips) : Fin 2 → Nat :=
  let c20_i32 : BitVec 32 := 20#32
  let v116 : Index := Scalar.indexCast c20_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v117 : Index := Scalar.indexCast v35
  ![20, v117.toNat]
def k2_off154 (k2_t3 : Fin k2_t3_loop.trips) : Fin 2 → Nat :=
  let c21_i32 : BitVec 32 := 21#32
  let v120 : Index := Scalar.indexCast c21_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v121 : Index := Scalar.indexCast v35
  ![21, v121.toNat]
def k2_off155 (k2_t3 : Fin k2_t3_loop.trips) : Fin 2 → Nat :=
  let c22_i32 : BitVec 32 := 22#32
  let v124 : Index := Scalar.indexCast c22_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v125 : Index := Scalar.indexCast v35
  ![22, v125.toNat]
def k2_off156 (k2_t3 : Fin k2_t3_loop.trips) : Fin 2 → Nat :=
  let c23_i32 : BitVec 32 := 23#32
  let v128 : Index := Scalar.indexCast c23_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v129 : Index := Scalar.indexCast v35
  ![23, v129.toNat]
def k2_off157 (k2_t3 : Fin k2_t3_loop.trips) : Fin 2 → Nat :=
  let c24_i32 : BitVec 32 := 24#32
  let v132 : Index := Scalar.indexCast c24_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v133 : Index := Scalar.indexCast v35
  ![24, v133.toNat]
def k2_off158 (k2_t3 : Fin k2_t3_loop.trips) : Fin 2 → Nat :=
  let c25_i32 : BitVec 32 := 25#32
  let v136 : Index := Scalar.indexCast c25_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v137 : Index := Scalar.indexCast v35
  ![25, v137.toNat]
def k2_off159 (k2_t3 : Fin k2_t3_loop.trips) : Fin 2 → Nat :=
  let c26_i32 : BitVec 32 := 26#32
  let v140 : Index := Scalar.indexCast c26_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v141 : Index := Scalar.indexCast v35
  ![26, v141.toNat]
def k2_off160 (k2_t3 : Fin k2_t3_loop.trips) : Fin 2 → Nat :=
  let c27_i32 : BitVec 32 := 27#32
  let v144 : Index := Scalar.indexCast c27_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v145 : Index := Scalar.indexCast v35
  ![27, v145.toNat]
def k2_off161 (k2_t3 : Fin k2_t3_loop.trips) : Fin 2 → Nat :=
  let c28_i32 : BitVec 32 := 28#32
  let v148 : Index := Scalar.indexCast c28_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v149 : Index := Scalar.indexCast v35
  ![28, v149.toNat]
def k2_off162 (k2_t3 : Fin k2_t3_loop.trips) : Fin 2 → Nat :=
  let c29_i32 : BitVec 32 := 29#32
  let v152 : Index := Scalar.indexCast c29_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v153 : Index := Scalar.indexCast v35
  ![29, v153.toNat]
def k2_off163 (k2_t3 : Fin k2_t3_loop.trips) : Fin 2 → Nat :=
  let c30_i32 : BitVec 32 := 30#32
  let v156 : Index := Scalar.indexCast c30_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v157 : Index := Scalar.indexCast v35
  ![30, v157.toNat]
def k2_off164 (k2_t3 : Fin k2_t3_loop.trips) : Fin 2 → Nat :=
  let c31_i32 : BitVec 32 := 31#32
  let v160 : Index := Scalar.indexCast c31_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v161 : Index := Scalar.indexCast v35
  ![31, v161.toNat]
def k2_off165 (k2_t1 : Fin k2_t1_loop.trips) (k2_t3 : Fin k2_t3_loop.trips) (c0_i32_44 : BitVec 32) : Fin 2 → Nat :=
  let c0_i32_7 : BitVec 32 := 0#32
  let c1_i32_8 : BitVec 32 := 1#32
  let arg11 : BitVec 32 := Scf.iv c0_i32_7 c1_i32_8 k2_t1
  let c2_i32_23 : BitVec 32 := 2#32
  let v23 : BitVec 32 := Scalar.muli arg11 c2_i32_23
  let c1_i32_24 : BitVec 32 := 1#32
  let v24 : BitVec 32 := Scalar.addi v23 c1_i32_24
  let c4_i32_43 : BitVec 32 := 4#32
  let v195 : BitVec 32 := Scalar.muli v24 c4_i32_43
  let v196 : BitVec 32 := Scalar.addi v195 c0_i32_44
  let v197 : Index := Scalar.indexCast v196
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v198 : Index := Scalar.indexCast v35
  ![v197.toNat, v198.toNat]
def k2_off166 (k2_t3 : Fin k2_t3_loop.trips) : Fin 2 → Nat :=
  let c32_i32 : BitVec 32 := 32#32
  let v202 : Index := Scalar.indexCast c32_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v203 : Index := Scalar.indexCast v35
  ![32, v203.toNat]
def k2_off167 (k2_t3 : Fin k2_t3_loop.trips) : Fin 2 → Nat :=
  let c33_i32 : BitVec 32 := 33#32
  let v206 : Index := Scalar.indexCast c33_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v207 : Index := Scalar.indexCast v35
  ![33, v207.toNat]
def k2_off168 (k2_t3 : Fin k2_t3_loop.trips) : Fin 2 → Nat :=
  let c34_i32 : BitVec 32 := 34#32
  let v210 : Index := Scalar.indexCast c34_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v211 : Index := Scalar.indexCast v35
  ![34, v211.toNat]
def k2_off169 (k2_t3 : Fin k2_t3_loop.trips) : Fin 2 → Nat :=
  let c35_i32 : BitVec 32 := 35#32
  let v214 : Index := Scalar.indexCast c35_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v215 : Index := Scalar.indexCast v35
  ![35, v215.toNat]
def k2_off170 (k2_t3 : Fin k2_t3_loop.trips) : Fin 2 → Nat :=
  let c36_i32 : BitVec 32 := 36#32
  let v218 : Index := Scalar.indexCast c36_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v219 : Index := Scalar.indexCast v35
  ![36, v219.toNat]
def k2_off171 (k2_t3 : Fin k2_t3_loop.trips) : Fin 2 → Nat :=
  let c37_i32 : BitVec 32 := 37#32
  let v222 : Index := Scalar.indexCast c37_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v223 : Index := Scalar.indexCast v35
  ![37, v223.toNat]
def k2_off172 (k2_t3 : Fin k2_t3_loop.trips) : Fin 2 → Nat :=
  let c38_i32 : BitVec 32 := 38#32
  let v226 : Index := Scalar.indexCast c38_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v227 : Index := Scalar.indexCast v35
  ![38, v227.toNat]
def k2_off173 (k2_t3 : Fin k2_t3_loop.trips) : Fin 2 → Nat :=
  let c39_i32 : BitVec 32 := 39#32
  let v230 : Index := Scalar.indexCast c39_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v231 : Index := Scalar.indexCast v35
  ![39, v231.toNat]
def k2_off174 (k2_t3 : Fin k2_t3_loop.trips) : Fin 2 → Nat :=
  let c40_i32 : BitVec 32 := 40#32
  let v234 : Index := Scalar.indexCast c40_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v235 : Index := Scalar.indexCast v35
  ![40, v235.toNat]
def k2_off175 (k2_t3 : Fin k2_t3_loop.trips) : Fin 2 → Nat :=
  let c41_i32 : BitVec 32 := 41#32
  let v238 : Index := Scalar.indexCast c41_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v239 : Index := Scalar.indexCast v35
  ![41, v239.toNat]
def k2_off176 (k2_t3 : Fin k2_t3_loop.trips) : Fin 2 → Nat :=
  let c42_i32 : BitVec 32 := 42#32
  let v242 : Index := Scalar.indexCast c42_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v243 : Index := Scalar.indexCast v35
  ![42, v243.toNat]
def k2_off177 (k2_t3 : Fin k2_t3_loop.trips) : Fin 2 → Nat :=
  let c43_i32 : BitVec 32 := 43#32
  let v246 : Index := Scalar.indexCast c43_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v247 : Index := Scalar.indexCast v35
  ![43, v247.toNat]
def k2_off178 (k2_t3 : Fin k2_t3_loop.trips) : Fin 2 → Nat :=
  let c44_i32 : BitVec 32 := 44#32
  let v250 : Index := Scalar.indexCast c44_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v251 : Index := Scalar.indexCast v35
  ![44, v251.toNat]
def k2_off179 (k2_t3 : Fin k2_t3_loop.trips) : Fin 2 → Nat :=
  let c45_i32 : BitVec 32 := 45#32
  let v254 : Index := Scalar.indexCast c45_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v255 : Index := Scalar.indexCast v35
  ![45, v255.toNat]
def k2_off180 (k2_t3 : Fin k2_t3_loop.trips) : Fin 2 → Nat :=
  let c46_i32 : BitVec 32 := 46#32
  let v258 : Index := Scalar.indexCast c46_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v259 : Index := Scalar.indexCast v35
  ![46, v259.toNat]
def k2_off181 (k2_t3 : Fin k2_t3_loop.trips) : Fin 2 → Nat :=
  let c47_i32 : BitVec 32 := 47#32
  let v262 : Index := Scalar.indexCast c47_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v263 : Index := Scalar.indexCast v35
  ![47, v263.toNat]
def k2_off182 (k2_t3 : Fin k2_t3_loop.trips) : Fin 2 → Nat :=
  let c48_i32 : BitVec 32 := 48#32
  let v266 : Index := Scalar.indexCast c48_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v267 : Index := Scalar.indexCast v35
  ![48, v267.toNat]
def k2_off183 (k2_t3 : Fin k2_t3_loop.trips) : Fin 2 → Nat :=
  let c49_i32 : BitVec 32 := 49#32
  let v270 : Index := Scalar.indexCast c49_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v271 : Index := Scalar.indexCast v35
  ![49, v271.toNat]
def k2_off184 (k2_t3 : Fin k2_t3_loop.trips) : Fin 2 → Nat :=
  let c50_i32 : BitVec 32 := 50#32
  let v274 : Index := Scalar.indexCast c50_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v275 : Index := Scalar.indexCast v35
  ![50, v275.toNat]
def k2_off185 (k2_t3 : Fin k2_t3_loop.trips) : Fin 2 → Nat :=
  let c51_i32 : BitVec 32 := 51#32
  let v278 : Index := Scalar.indexCast c51_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v279 : Index := Scalar.indexCast v35
  ![51, v279.toNat]
def k2_off186 (k2_t3 : Fin k2_t3_loop.trips) : Fin 2 → Nat :=
  let c52_i32 : BitVec 32 := 52#32
  let v282 : Index := Scalar.indexCast c52_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v283 : Index := Scalar.indexCast v35
  ![52, v283.toNat]
def k2_off187 (k2_t3 : Fin k2_t3_loop.trips) : Fin 2 → Nat :=
  let c53_i32 : BitVec 32 := 53#32
  let v286 : Index := Scalar.indexCast c53_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v287 : Index := Scalar.indexCast v35
  ![53, v287.toNat]
def k2_off188 (k2_t3 : Fin k2_t3_loop.trips) : Fin 2 → Nat :=
  let c54_i32 : BitVec 32 := 54#32
  let v290 : Index := Scalar.indexCast c54_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v291 : Index := Scalar.indexCast v35
  ![54, v291.toNat]
def k2_off189 (k2_t3 : Fin k2_t3_loop.trips) : Fin 2 → Nat :=
  let c55_i32 : BitVec 32 := 55#32
  let v294 : Index := Scalar.indexCast c55_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v295 : Index := Scalar.indexCast v35
  ![55, v295.toNat]
def k2_off190 (k2_t3 : Fin k2_t3_loop.trips) : Fin 2 → Nat :=
  let c56_i32 : BitVec 32 := 56#32
  let v298 : Index := Scalar.indexCast c56_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v299 : Index := Scalar.indexCast v35
  ![56, v299.toNat]
def k2_off191 (k2_t3 : Fin k2_t3_loop.trips) : Fin 2 → Nat :=
  let c57_i32 : BitVec 32 := 57#32
  let v302 : Index := Scalar.indexCast c57_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v303 : Index := Scalar.indexCast v35
  ![57, v303.toNat]
def k2_off192 (k2_t3 : Fin k2_t3_loop.trips) : Fin 2 → Nat :=
  let c58_i32 : BitVec 32 := 58#32
  let v306 : Index := Scalar.indexCast c58_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v307 : Index := Scalar.indexCast v35
  ![58, v307.toNat]
def k2_off193 (k2_t3 : Fin k2_t3_loop.trips) : Fin 2 → Nat :=
  let c59_i32 : BitVec 32 := 59#32
  let v310 : Index := Scalar.indexCast c59_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v311 : Index := Scalar.indexCast v35
  ![59, v311.toNat]
def k2_off194 (k2_t3 : Fin k2_t3_loop.trips) : Fin 2 → Nat :=
  let c60_i32 : BitVec 32 := 60#32
  let v314 : Index := Scalar.indexCast c60_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v315 : Index := Scalar.indexCast v35
  ![60, v315.toNat]
def k2_off195 (k2_t3 : Fin k2_t3_loop.trips) : Fin 2 → Nat :=
  let c61_i32 : BitVec 32 := 61#32
  let v318 : Index := Scalar.indexCast c61_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v319 : Index := Scalar.indexCast v35
  ![61, v319.toNat]
def k2_off196 (k2_t3 : Fin k2_t3_loop.trips) : Fin 2 → Nat :=
  let c62_i32 : BitVec 32 := 62#32
  let v322 : Index := Scalar.indexCast c62_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v323 : Index := Scalar.indexCast v35
  ![62, v323.toNat]
def k2_off197 (k2_t3 : Fin k2_t3_loop.trips) : Fin 2 → Nat :=
  let c63_i32 : BitVec 32 := 63#32
  let v326 : Index := Scalar.indexCast c63_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v327 : Index := Scalar.indexCast v35
  ![63, v327.toNat]
def k2_off198 (k2_t3 : Fin k2_t3_loop.trips) : Fin 2 → Nat :=
  let c64_i32_47 : BitVec 32 := 64#32
  let v368 : Index := Scalar.indexCast c64_i32_47
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v369 : Index := Scalar.indexCast v35
  ![64, v369.toNat]
def k2_off199 (k2_t3 : Fin k2_t3_loop.trips) : Fin 2 → Nat :=
  let c65_i32 : BitVec 32 := 65#32
  let v372 : Index := Scalar.indexCast c65_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v373 : Index := Scalar.indexCast v35
  ![65, v373.toNat]
def k2_off200 (k2_t3 : Fin k2_t3_loop.trips) : Fin 2 → Nat :=
  let c66_i32 : BitVec 32 := 66#32
  let v376 : Index := Scalar.indexCast c66_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v377 : Index := Scalar.indexCast v35
  ![66, v377.toNat]
def k2_off201 (k2_t3 : Fin k2_t3_loop.trips) : Fin 2 → Nat :=
  let c67_i32 : BitVec 32 := 67#32
  let v380 : Index := Scalar.indexCast c67_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v381 : Index := Scalar.indexCast v35
  ![67, v381.toNat]
def k2_off202 (k2_t3 : Fin k2_t3_loop.trips) : Fin 2 → Nat :=
  let c68_i32 : BitVec 32 := 68#32
  let v384 : Index := Scalar.indexCast c68_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v385 : Index := Scalar.indexCast v35
  ![68, v385.toNat]
def k2_off203 (k2_t3 : Fin k2_t3_loop.trips) : Fin 2 → Nat :=
  let c69_i32 : BitVec 32 := 69#32
  let v388 : Index := Scalar.indexCast c69_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v389 : Index := Scalar.indexCast v35
  ![69, v389.toNat]
def k2_off204 (k2_t3 : Fin k2_t3_loop.trips) : Fin 2 → Nat :=
  let c70_i32 : BitVec 32 := 70#32
  let v392 : Index := Scalar.indexCast c70_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v393 : Index := Scalar.indexCast v35
  ![70, v393.toNat]
def k2_off205 (k2_t3 : Fin k2_t3_loop.trips) : Fin 2 → Nat :=
  let c71_i32 : BitVec 32 := 71#32
  let v396 : Index := Scalar.indexCast c71_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v397 : Index := Scalar.indexCast v35
  ![71, v397.toNat]
def k2_off206 (k2_t3 : Fin k2_t3_loop.trips) : Fin 2 → Nat :=
  let c72_i32 : BitVec 32 := 72#32
  let v400 : Index := Scalar.indexCast c72_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v401 : Index := Scalar.indexCast v35
  ![72, v401.toNat]
def k2_off207 (k2_t3 : Fin k2_t3_loop.trips) : Fin 2 → Nat :=
  let c73_i32 : BitVec 32 := 73#32
  let v404 : Index := Scalar.indexCast c73_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v405 : Index := Scalar.indexCast v35
  ![73, v405.toNat]
def k2_off208 (k2_t3 : Fin k2_t3_loop.trips) : Fin 2 → Nat :=
  let c74_i32 : BitVec 32 := 74#32
  let v408 : Index := Scalar.indexCast c74_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v409 : Index := Scalar.indexCast v35
  ![74, v409.toNat]
def k2_off209 (k2_t3 : Fin k2_t3_loop.trips) : Fin 2 → Nat :=
  let c75_i32 : BitVec 32 := 75#32
  let v412 : Index := Scalar.indexCast c75_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v413 : Index := Scalar.indexCast v35
  ![75, v413.toNat]
def k2_off210 (k2_t3 : Fin k2_t3_loop.trips) : Fin 2 → Nat :=
  let c76_i32 : BitVec 32 := 76#32
  let v416 : Index := Scalar.indexCast c76_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v417 : Index := Scalar.indexCast v35
  ![76, v417.toNat]
def k2_off211 (k2_t3 : Fin k2_t3_loop.trips) : Fin 2 → Nat :=
  let c77_i32 : BitVec 32 := 77#32
  let v420 : Index := Scalar.indexCast c77_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v421 : Index := Scalar.indexCast v35
  ![77, v421.toNat]
def k2_off212 (k2_t3 : Fin k2_t3_loop.trips) : Fin 2 → Nat :=
  let c78_i32 : BitVec 32 := 78#32
  let v424 : Index := Scalar.indexCast c78_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v425 : Index := Scalar.indexCast v35
  ![78, v425.toNat]
def k2_off213 (k2_t3 : Fin k2_t3_loop.trips) : Fin 2 → Nat :=
  let c79_i32 : BitVec 32 := 79#32
  let v428 : Index := Scalar.indexCast c79_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v429 : Index := Scalar.indexCast v35
  ![79, v429.toNat]
def k2_off214 (k2_t3 : Fin k2_t3_loop.trips) : Fin 2 → Nat :=
  let c80_i32 : BitVec 32 := 80#32
  let v432 : Index := Scalar.indexCast c80_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v433 : Index := Scalar.indexCast v35
  ![80, v433.toNat]
def k2_off215 (k2_t3 : Fin k2_t3_loop.trips) : Fin 2 → Nat :=
  let c81_i32 : BitVec 32 := 81#32
  let v436 : Index := Scalar.indexCast c81_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v437 : Index := Scalar.indexCast v35
  ![81, v437.toNat]
def k2_off216 (k2_t3 : Fin k2_t3_loop.trips) : Fin 2 → Nat :=
  let c82_i32 : BitVec 32 := 82#32
  let v440 : Index := Scalar.indexCast c82_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v441 : Index := Scalar.indexCast v35
  ![82, v441.toNat]
def k2_off217 (k2_t3 : Fin k2_t3_loop.trips) : Fin 2 → Nat :=
  let c83_i32 : BitVec 32 := 83#32
  let v444 : Index := Scalar.indexCast c83_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v445 : Index := Scalar.indexCast v35
  ![83, v445.toNat]
def k2_off218 (k2_t3 : Fin k2_t3_loop.trips) : Fin 2 → Nat :=
  let c84_i32 : BitVec 32 := 84#32
  let v448 : Index := Scalar.indexCast c84_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v449 : Index := Scalar.indexCast v35
  ![84, v449.toNat]
def k2_off219 (k2_t3 : Fin k2_t3_loop.trips) : Fin 2 → Nat :=
  let c85_i32 : BitVec 32 := 85#32
  let v452 : Index := Scalar.indexCast c85_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v453 : Index := Scalar.indexCast v35
  ![85, v453.toNat]
def k2_off220 (k2_t3 : Fin k2_t3_loop.trips) : Fin 2 → Nat :=
  let c86_i32 : BitVec 32 := 86#32
  let v456 : Index := Scalar.indexCast c86_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v457 : Index := Scalar.indexCast v35
  ![86, v457.toNat]
def k2_off221 (k2_t3 : Fin k2_t3_loop.trips) : Fin 2 → Nat :=
  let c87_i32 : BitVec 32 := 87#32
  let v460 : Index := Scalar.indexCast c87_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v461 : Index := Scalar.indexCast v35
  ![87, v461.toNat]
def k2_off222 (k2_t3 : Fin k2_t3_loop.trips) : Fin 2 → Nat :=
  let c88_i32 : BitVec 32 := 88#32
  let v464 : Index := Scalar.indexCast c88_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v465 : Index := Scalar.indexCast v35
  ![88, v465.toNat]
def k2_off223 (k2_t3 : Fin k2_t3_loop.trips) : Fin 2 → Nat :=
  let c89_i32 : BitVec 32 := 89#32
  let v468 : Index := Scalar.indexCast c89_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v469 : Index := Scalar.indexCast v35
  ![89, v469.toNat]
def k2_off224 (k2_t3 : Fin k2_t3_loop.trips) : Fin 2 → Nat :=
  let c90_i32 : BitVec 32 := 90#32
  let v472 : Index := Scalar.indexCast c90_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v473 : Index := Scalar.indexCast v35
  ![90, v473.toNat]
def k2_off225 (k2_t3 : Fin k2_t3_loop.trips) : Fin 2 → Nat :=
  let c91_i32 : BitVec 32 := 91#32
  let v476 : Index := Scalar.indexCast c91_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v477 : Index := Scalar.indexCast v35
  ![91, v477.toNat]
def k2_off226 (k2_t3 : Fin k2_t3_loop.trips) : Fin 2 → Nat :=
  let c92_i32 : BitVec 32 := 92#32
  let v480 : Index := Scalar.indexCast c92_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v481 : Index := Scalar.indexCast v35
  ![92, v481.toNat]
def k2_off227 (k2_t3 : Fin k2_t3_loop.trips) : Fin 2 → Nat :=
  let c93_i32 : BitVec 32 := 93#32
  let v484 : Index := Scalar.indexCast c93_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v485 : Index := Scalar.indexCast v35
  ![93, v485.toNat]
def k2_off228 (k2_t3 : Fin k2_t3_loop.trips) : Fin 2 → Nat :=
  let c94_i32 : BitVec 32 := 94#32
  let v488 : Index := Scalar.indexCast c94_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v489 : Index := Scalar.indexCast v35
  ![94, v489.toNat]
def k2_off229 (k2_t3 : Fin k2_t3_loop.trips) : Fin 2 → Nat :=
  let c95_i32 : BitVec 32 := 95#32
  let v492 : Index := Scalar.indexCast c95_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v493 : Index := Scalar.indexCast v35
  ![95, v493.toNat]
def k2_off230 (k2_t3 : Fin k2_t3_loop.trips) : Fin 2 → Nat :=
  let c96_i32 : BitVec 32 := 96#32
  let v534 : Index := Scalar.indexCast c96_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v535 : Index := Scalar.indexCast v35
  ![96, v535.toNat]
def k2_off231 (k2_t3 : Fin k2_t3_loop.trips) : Fin 2 → Nat :=
  let c97_i32 : BitVec 32 := 97#32
  let v538 : Index := Scalar.indexCast c97_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v539 : Index := Scalar.indexCast v35
  ![97, v539.toNat]
def k2_off232 (k2_t3 : Fin k2_t3_loop.trips) : Fin 2 → Nat :=
  let c98_i32 : BitVec 32 := 98#32
  let v542 : Index := Scalar.indexCast c98_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v543 : Index := Scalar.indexCast v35
  ![98, v543.toNat]
def k2_off233 (k2_t3 : Fin k2_t3_loop.trips) : Fin 2 → Nat :=
  let c99_i32 : BitVec 32 := 99#32
  let v546 : Index := Scalar.indexCast c99_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v547 : Index := Scalar.indexCast v35
  ![99, v547.toNat]
def k2_off234 (k2_t3 : Fin k2_t3_loop.trips) : Fin 2 → Nat :=
  let c100_i32 : BitVec 32 := 100#32
  let v550 : Index := Scalar.indexCast c100_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v551 : Index := Scalar.indexCast v35
  ![100, v551.toNat]
def k2_off235 (k2_t3 : Fin k2_t3_loop.trips) : Fin 2 → Nat :=
  let c101_i32 : BitVec 32 := 101#32
  let v554 : Index := Scalar.indexCast c101_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v555 : Index := Scalar.indexCast v35
  ![101, v555.toNat]
def k2_off236 (k2_t3 : Fin k2_t3_loop.trips) : Fin 2 → Nat :=
  let c102_i32 : BitVec 32 := 102#32
  let v558 : Index := Scalar.indexCast c102_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v559 : Index := Scalar.indexCast v35
  ![102, v559.toNat]
def k2_off237 (k2_t3 : Fin k2_t3_loop.trips) : Fin 2 → Nat :=
  let c103_i32 : BitVec 32 := 103#32
  let v562 : Index := Scalar.indexCast c103_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v563 : Index := Scalar.indexCast v35
  ![103, v563.toNat]
def k2_off238 (k2_t3 : Fin k2_t3_loop.trips) : Fin 2 → Nat :=
  let c104_i32 : BitVec 32 := 104#32
  let v566 : Index := Scalar.indexCast c104_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v567 : Index := Scalar.indexCast v35
  ![104, v567.toNat]
def k2_off239 (k2_t3 : Fin k2_t3_loop.trips) : Fin 2 → Nat :=
  let c105_i32 : BitVec 32 := 105#32
  let v570 : Index := Scalar.indexCast c105_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v571 : Index := Scalar.indexCast v35
  ![105, v571.toNat]
def k2_off240 (k2_t3 : Fin k2_t3_loop.trips) : Fin 2 → Nat :=
  let c106_i32 : BitVec 32 := 106#32
  let v574 : Index := Scalar.indexCast c106_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v575 : Index := Scalar.indexCast v35
  ![106, v575.toNat]
def k2_off241 (k2_t3 : Fin k2_t3_loop.trips) : Fin 2 → Nat :=
  let c107_i32 : BitVec 32 := 107#32
  let v578 : Index := Scalar.indexCast c107_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v579 : Index := Scalar.indexCast v35
  ![107, v579.toNat]
def k2_off242 (k2_t3 : Fin k2_t3_loop.trips) : Fin 2 → Nat :=
  let c108_i32 : BitVec 32 := 108#32
  let v582 : Index := Scalar.indexCast c108_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v583 : Index := Scalar.indexCast v35
  ![108, v583.toNat]
def k2_off243 (k2_t3 : Fin k2_t3_loop.trips) : Fin 2 → Nat :=
  let c109_i32 : BitVec 32 := 109#32
  let v586 : Index := Scalar.indexCast c109_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v587 : Index := Scalar.indexCast v35
  ![109, v587.toNat]
def k2_off244 (k2_t3 : Fin k2_t3_loop.trips) : Fin 2 → Nat :=
  let c110_i32 : BitVec 32 := 110#32
  let v590 : Index := Scalar.indexCast c110_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v591 : Index := Scalar.indexCast v35
  ![110, v591.toNat]
def k2_off245 (k2_t3 : Fin k2_t3_loop.trips) : Fin 2 → Nat :=
  let c111_i32 : BitVec 32 := 111#32
  let v594 : Index := Scalar.indexCast c111_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v595 : Index := Scalar.indexCast v35
  ![111, v595.toNat]
def k2_off246 (k2_t3 : Fin k2_t3_loop.trips) : Fin 2 → Nat :=
  let c112_i32 : BitVec 32 := 112#32
  let v598 : Index := Scalar.indexCast c112_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v599 : Index := Scalar.indexCast v35
  ![112, v599.toNat]
def k2_off247 (k2_t3 : Fin k2_t3_loop.trips) : Fin 2 → Nat :=
  let c113_i32 : BitVec 32 := 113#32
  let v602 : Index := Scalar.indexCast c113_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v603 : Index := Scalar.indexCast v35
  ![113, v603.toNat]
def k2_off248 (k2_t3 : Fin k2_t3_loop.trips) : Fin 2 → Nat :=
  let c114_i32 : BitVec 32 := 114#32
  let v606 : Index := Scalar.indexCast c114_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v607 : Index := Scalar.indexCast v35
  ![114, v607.toNat]
def k2_off249 (k2_t3 : Fin k2_t3_loop.trips) : Fin 2 → Nat :=
  let c115_i32 : BitVec 32 := 115#32
  let v610 : Index := Scalar.indexCast c115_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v611 : Index := Scalar.indexCast v35
  ![115, v611.toNat]
def k2_off250 (k2_t3 : Fin k2_t3_loop.trips) : Fin 2 → Nat :=
  let c116_i32 : BitVec 32 := 116#32
  let v614 : Index := Scalar.indexCast c116_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v615 : Index := Scalar.indexCast v35
  ![116, v615.toNat]
def k2_off251 (k2_t3 : Fin k2_t3_loop.trips) : Fin 2 → Nat :=
  let c117_i32 : BitVec 32 := 117#32
  let v618 : Index := Scalar.indexCast c117_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v619 : Index := Scalar.indexCast v35
  ![117, v619.toNat]
def k2_off252 (k2_t3 : Fin k2_t3_loop.trips) : Fin 2 → Nat :=
  let c118_i32 : BitVec 32 := 118#32
  let v622 : Index := Scalar.indexCast c118_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v623 : Index := Scalar.indexCast v35
  ![118, v623.toNat]
def k2_off253 (k2_t3 : Fin k2_t3_loop.trips) : Fin 2 → Nat :=
  let c119_i32 : BitVec 32 := 119#32
  let v626 : Index := Scalar.indexCast c119_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v627 : Index := Scalar.indexCast v35
  ![119, v627.toNat]
def k2_off254 (k2_t3 : Fin k2_t3_loop.trips) : Fin 2 → Nat :=
  let c120_i32 : BitVec 32 := 120#32
  let v630 : Index := Scalar.indexCast c120_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v631 : Index := Scalar.indexCast v35
  ![120, v631.toNat]
def k2_off255 (k2_t3 : Fin k2_t3_loop.trips) : Fin 2 → Nat :=
  let c121_i32 : BitVec 32 := 121#32
  let v634 : Index := Scalar.indexCast c121_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v635 : Index := Scalar.indexCast v35
  ![121, v635.toNat]
def k2_off256 (k2_t3 : Fin k2_t3_loop.trips) : Fin 2 → Nat :=
  let c122_i32 : BitVec 32 := 122#32
  let v638 : Index := Scalar.indexCast c122_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v639 : Index := Scalar.indexCast v35
  ![122, v639.toNat]
def k2_off257 (k2_t3 : Fin k2_t3_loop.trips) : Fin 2 → Nat :=
  let c123_i32 : BitVec 32 := 123#32
  let v642 : Index := Scalar.indexCast c123_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v643 : Index := Scalar.indexCast v35
  ![123, v643.toNat]
def k2_off258 (k2_t3 : Fin k2_t3_loop.trips) : Fin 2 → Nat :=
  let c124_i32 : BitVec 32 := 124#32
  let v646 : Index := Scalar.indexCast c124_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v647 : Index := Scalar.indexCast v35
  ![124, v647.toNat]
def k2_off259 (k2_t3 : Fin k2_t3_loop.trips) : Fin 2 → Nat :=
  let c125_i32 : BitVec 32 := 125#32
  let v650 : Index := Scalar.indexCast c125_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v651 : Index := Scalar.indexCast v35
  ![125, v651.toNat]
def k2_off260 (k2_t3 : Fin k2_t3_loop.trips) : Fin 2 → Nat :=
  let c126_i32 : BitVec 32 := 126#32
  let v654 : Index := Scalar.indexCast c126_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v655 : Index := Scalar.indexCast v35
  ![126, v655.toNat]
def k2_off261 (k2_t3 : Fin k2_t3_loop.trips) : Fin 2 → Nat :=
  let c127_i32 : BitVec 32 := 127#32
  let v658 : Index := Scalar.indexCast c127_i32
  let c0_i32_29 : BitVec 32 := 0#32
  let c1_i32_31 : BitVec 32 := 1#32
  let arg13 : BitVec 32 := Scf.iv c0_i32_29 c1_i32_31 k2_t3
  let c16_i32_37 : BitVec 32 := 16#32
  let v34 : BitVec 32 := Scalar.muli arg13 c16_i32_37
  let v35 : BitVec 32 := v34
  let v659 : Index := Scalar.indexCast v35
  ![127, v659.toNat]
def k2_cond2 (k2_t1 : Fin k2_t1_loop.trips) : BitVec 1 :=
  let c0_i32_7 : BitVec 32 := 0#32
  let c1_i32_8 : BitVec 32 := 1#32
  let arg11 : BitVec 32 := Scf.iv c0_i32_7 c1_i32_8 k2_t1
  let c2_i32_23 : BitVec 32 := 2#32
  let v23 : BitVec 32 := Scalar.muli arg11 c2_i32_23
  let c1_i32_24 : BitVec 32 := 1#32
  let v24 : BitVec 32 := Scalar.addi v23 c1_i32_24
  let c2_i32_33 : BitVec 32 := 2#32
  let v30 : BitVec 32 := Scalar.addi v24 c2_i32_33
  let c16_i32_34 : BitVec 32 := 16#32
  let v31 : BitVec 1 := Scalar.cmpi .slt v30 c16_i32_34
  let v32 : BitVec 32 := Scalar.extui v31
  let c0_i32_35 : BitVec 32 := 0#32
  let v33 : BitVec 1 := Scalar.cmpi .ne v32 c0_i32_35
  v33

def k2_off262 (k2_t1 : Fin k2_t1_loop.trips) : Fin 2 → Nat :=
  let c0_i32_7 : BitVec 32 := 0#32
  let c1_i32_8 : BitVec 32 := 1#32
  let arg11 : BitVec 32 := Scf.iv c0_i32_7 c1_i32_8 k2_t1
  let c2_i32_23 : BitVec 32 := 2#32
  let v23 : BitVec 32 := Scalar.muli arg11 c2_i32_23
  let c1_i32_24 : BitVec 32 := 1#32
  let v24 : BitVec 32 := Scalar.addi v23 c1_i32_24
  let c2_i32_37 : BitVec 32 := 2#32
  let v34 : BitVec 32 := Scalar.addi v24 c2_i32_37
  let c0_i32_38 : BitVec 32 := 0#32
  ![v34.toNat, 0]
def k2_off263 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v11 : BitVec 32 := Scalar.muli v1 c64_i32
  let c0_i32_10_r1 : BitVec 32 := 0#32
  ![v11.toNat, 0]
abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage3_0 : Fin 2 → Memref sig .tc .vmem S1x256x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x256x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1x256x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![2, 16], ![false, false]⟩

def k4_off1 (i : grid4.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_10_r0 : BitVec 32 := 0#32
  ![v2.toNat, 0]
@[reducible] def k4_t1_loop : Scf.Loop 32 :=
  let c0_i32_7 : BitVec 32 := 0#32
  let c8_i32 : BitVec 32 := 8#32
  let v9 : BitVec 32 := Scalar.addi c0_i32_7 c8_i32
  let c1_i32_8 : BitVec 32 := 1#32
  ⟨c0_i32_7, v9, c1_i32_8⟩
def k4_off2 (k4_t1 : Fin k4_t1_loop.trips) (c0_i32_11 : BitVec 32) : Fin 2 → Nat :=
  let c0_i32_7 : BitVec 32 := 0#32
  let c1_i32_8 : BitVec 32 := 1#32
  let arg11 : BitVec 32 := Scf.iv c0_i32_7 c1_i32_8 k4_t1
  let c2_i32_10 : BitVec 32 := 2#32
  let v12 : BitVec 32 := Scalar.muli arg11 c2_i32_10
  let v13 : BitVec 32 := Scalar.addi v12 c0_i32_11
  let c0_i32_12 : BitVec 32 := 0#32
  ![v13.toNat, 0]
@[reducible] def k4_t2_loop : Scf.Loop 32 :=
  let c0_i32_16 : BitVec 32 := 0#32
  let c8_i32_17 : BitVec 32 := 8#32
  let v17 : BitVec 32 := Scalar.addi c0_i32_16 c8_i32_17
  let c1_i32_18 : BitVec 32 := 1#32
  ⟨c0_i32_16, v17, c1_i32_18⟩
def k4_mult1 (k4_t2 : Fin k4_t2_loop.trips) : BitVec 32 :=
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  v34
def k4_off3 (k4_t2 : Fin k4_t2_loop.trips) : Fin 2 → Nat :=
  let c0_i32_38 : BitVec 32 := 0#32
  let v36 : Index := Scalar.indexCast c0_i32_38
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v37 : Index := Scalar.indexCast v35
  ![0, v37.toNat]
def k4_off4 (k4_t2 : Fin k4_t2_loop.trips) : Fin 2 → Nat :=
  let c1_i32_39 : BitVec 32 := 1#32
  let v40 : Index := Scalar.indexCast c1_i32_39
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v41 : Index := Scalar.indexCast v35
  ![1, v41.toNat]
def k4_off5 (k4_t2 : Fin k4_t2_loop.trips) : Fin 2 → Nat :=
  let c2_i32_40 : BitVec 32 := 2#32
  let v44 : Index := Scalar.indexCast c2_i32_40
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v45 : Index := Scalar.indexCast v35
  ![2, v45.toNat]
def k4_off6 (k4_t2 : Fin k4_t2_loop.trips) : Fin 2 → Nat :=
  let c3_i32 : BitVec 32 := 3#32
  let v48 : Index := Scalar.indexCast c3_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v49 : Index := Scalar.indexCast v35
  ![3, v49.toNat]
def k4_off7 (k4_t2 : Fin k4_t2_loop.trips) : Fin 2 → Nat :=
  let c4_i32 : BitVec 32 := 4#32
  let v52 : Index := Scalar.indexCast c4_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v53 : Index := Scalar.indexCast v35
  ![4, v53.toNat]
def k4_off8 (k4_t2 : Fin k4_t2_loop.trips) : Fin 2 → Nat :=
  let c5_i32 : BitVec 32 := 5#32
  let v56 : Index := Scalar.indexCast c5_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v57 : Index := Scalar.indexCast v35
  ![5, v57.toNat]
def k4_off9 (k4_t2 : Fin k4_t2_loop.trips) : Fin 2 → Nat :=
  let c6_i32 : BitVec 32 := 6#32
  let v60 : Index := Scalar.indexCast c6_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v61 : Index := Scalar.indexCast v35
  ![6, v61.toNat]
def k4_off10 (k4_t2 : Fin k4_t2_loop.trips) : Fin 2 → Nat :=
  let c7_i32 : BitVec 32 := 7#32
  let v64 : Index := Scalar.indexCast c7_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v65 : Index := Scalar.indexCast v35
  ![7, v65.toNat]
def k4_off11 (k4_t2 : Fin k4_t2_loop.trips) : Fin 2 → Nat :=
  let c8_i32_41 : BitVec 32 := 8#32
  let v68 : Index := Scalar.indexCast c8_i32_41
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v69 : Index := Scalar.indexCast v35
  ![8, v69.toNat]
def k4_off12 (k4_t2 : Fin k4_t2_loop.trips) : Fin 2 → Nat :=
  let c9_i32 : BitVec 32 := 9#32
  let v72 : Index := Scalar.indexCast c9_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v73 : Index := Scalar.indexCast v35
  ![9, v73.toNat]
def k4_off13 (k4_t2 : Fin k4_t2_loop.trips) : Fin 2 → Nat :=
  let c10_i32 : BitVec 32 := 10#32
  let v76 : Index := Scalar.indexCast c10_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v77 : Index := Scalar.indexCast v35
  ![10, v77.toNat]
def k4_off14 (k4_t2 : Fin k4_t2_loop.trips) : Fin 2 → Nat :=
  let c11_i32 : BitVec 32 := 11#32
  let v80 : Index := Scalar.indexCast c11_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v81 : Index := Scalar.indexCast v35
  ![11, v81.toNat]
def k4_off15 (k4_t2 : Fin k4_t2_loop.trips) : Fin 2 → Nat :=
  let c12_i32 : BitVec 32 := 12#32
  let v84 : Index := Scalar.indexCast c12_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v85 : Index := Scalar.indexCast v35
  ![12, v85.toNat]
def k4_off16 (k4_t2 : Fin k4_t2_loop.trips) : Fin 2 → Nat :=
  let c13_i32 : BitVec 32 := 13#32
  let v88 : Index := Scalar.indexCast c13_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v89 : Index := Scalar.indexCast v35
  ![13, v89.toNat]
def k4_off17 (k4_t2 : Fin k4_t2_loop.trips) : Fin 2 → Nat :=
  let c14_i32 : BitVec 32 := 14#32
  let v92 : Index := Scalar.indexCast c14_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v93 : Index := Scalar.indexCast v35
  ![14, v93.toNat]
def k4_off18 (k4_t2 : Fin k4_t2_loop.trips) : Fin 2 → Nat :=
  let c15_i32 : BitVec 32 := 15#32
  let v96 : Index := Scalar.indexCast c15_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v97 : Index := Scalar.indexCast v35
  ![15, v97.toNat]
def k4_off19 (k4_t2 : Fin k4_t2_loop.trips) : Fin 2 → Nat :=
  let c16_i32_42 : BitVec 32 := 16#32
  let v100 : Index := Scalar.indexCast c16_i32_42
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v101 : Index := Scalar.indexCast v35
  ![16, v101.toNat]
def k4_off20 (k4_t2 : Fin k4_t2_loop.trips) : Fin 2 → Nat :=
  let c17_i32 : BitVec 32 := 17#32
  let v104 : Index := Scalar.indexCast c17_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v105 : Index := Scalar.indexCast v35
  ![17, v105.toNat]
def k4_off21 (k4_t2 : Fin k4_t2_loop.trips) : Fin 2 → Nat :=
  let c18_i32 : BitVec 32 := 18#32
  let v108 : Index := Scalar.indexCast c18_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v109 : Index := Scalar.indexCast v35
  ![18, v109.toNat]
def k4_off22 (k4_t2 : Fin k4_t2_loop.trips) : Fin 2 → Nat :=
  let c19_i32 : BitVec 32 := 19#32
  let v112 : Index := Scalar.indexCast c19_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v113 : Index := Scalar.indexCast v35
  ![19, v113.toNat]
def k4_off23 (k4_t2 : Fin k4_t2_loop.trips) : Fin 2 → Nat :=
  let c20_i32 : BitVec 32 := 20#32
  let v116 : Index := Scalar.indexCast c20_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v117 : Index := Scalar.indexCast v35
  ![20, v117.toNat]
def k4_off24 (k4_t2 : Fin k4_t2_loop.trips) : Fin 2 → Nat :=
  let c21_i32 : BitVec 32 := 21#32
  let v120 : Index := Scalar.indexCast c21_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v121 : Index := Scalar.indexCast v35
  ![21, v121.toNat]
def k4_off25 (k4_t2 : Fin k4_t2_loop.trips) : Fin 2 → Nat :=
  let c22_i32 : BitVec 32 := 22#32
  let v124 : Index := Scalar.indexCast c22_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v125 : Index := Scalar.indexCast v35
  ![22, v125.toNat]
def k4_off26 (k4_t2 : Fin k4_t2_loop.trips) : Fin 2 → Nat :=
  let c23_i32 : BitVec 32 := 23#32
  let v128 : Index := Scalar.indexCast c23_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v129 : Index := Scalar.indexCast v35
  ![23, v129.toNat]
def k4_off27 (k4_t2 : Fin k4_t2_loop.trips) : Fin 2 → Nat :=
  let c24_i32 : BitVec 32 := 24#32
  let v132 : Index := Scalar.indexCast c24_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v133 : Index := Scalar.indexCast v35
  ![24, v133.toNat]
def k4_off28 (k4_t2 : Fin k4_t2_loop.trips) : Fin 2 → Nat :=
  let c25_i32 : BitVec 32 := 25#32
  let v136 : Index := Scalar.indexCast c25_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v137 : Index := Scalar.indexCast v35
  ![25, v137.toNat]
def k4_off29 (k4_t2 : Fin k4_t2_loop.trips) : Fin 2 → Nat :=
  let c26_i32 : BitVec 32 := 26#32
  let v140 : Index := Scalar.indexCast c26_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v141 : Index := Scalar.indexCast v35
  ![26, v141.toNat]
def k4_off30 (k4_t2 : Fin k4_t2_loop.trips) : Fin 2 → Nat :=
  let c27_i32 : BitVec 32 := 27#32
  let v144 : Index := Scalar.indexCast c27_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v145 : Index := Scalar.indexCast v35
  ![27, v145.toNat]
def k4_off31 (k4_t2 : Fin k4_t2_loop.trips) : Fin 2 → Nat :=
  let c28_i32 : BitVec 32 := 28#32
  let v148 : Index := Scalar.indexCast c28_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v149 : Index := Scalar.indexCast v35
  ![28, v149.toNat]
def k4_off32 (k4_t2 : Fin k4_t2_loop.trips) : Fin 2 → Nat :=
  let c29_i32 : BitVec 32 := 29#32
  let v152 : Index := Scalar.indexCast c29_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v153 : Index := Scalar.indexCast v35
  ![29, v153.toNat]
def k4_off33 (k4_t2 : Fin k4_t2_loop.trips) : Fin 2 → Nat :=
  let c30_i32 : BitVec 32 := 30#32
  let v156 : Index := Scalar.indexCast c30_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v157 : Index := Scalar.indexCast v35
  ![30, v157.toNat]
def k4_off34 (k4_t2 : Fin k4_t2_loop.trips) : Fin 2 → Nat :=
  let c31_i32 : BitVec 32 := 31#32
  let v160 : Index := Scalar.indexCast c31_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v161 : Index := Scalar.indexCast v35
  ![31, v161.toNat]
def k4_off35 (k4_t1 : Fin k4_t1_loop.trips) (k4_t2 : Fin k4_t2_loop.trips) (c0_i32_44 : BitVec 32) : Fin 2 → Nat :=
  let c0_i32_7 : BitVec 32 := 0#32
  let c1_i32_8 : BitVec 32 := 1#32
  let arg11 : BitVec 32 := Scf.iv c0_i32_7 c1_i32_8 k4_t1
  let c2_i32_10 : BitVec 32 := 2#32
  let v12 : BitVec 32 := Scalar.muli arg11 c2_i32_10
  let c0_i32_11 : BitVec 32 := 0#32
  let v13 : BitVec 32 := Scalar.addi v12 c0_i32_11
  let c4_i32_43 : BitVec 32 := 4#32
  let v195 : BitVec 32 := Scalar.muli v13 c4_i32_43
  let v196 : BitVec 32 := Scalar.addi v195 c0_i32_44
  let v197 : Index := Scalar.indexCast v196
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v198 : Index := Scalar.indexCast v35
  ![v197.toNat, v198.toNat]
def k4_off36 (k4_t2 : Fin k4_t2_loop.trips) : Fin 2 → Nat :=
  let c32_i32 : BitVec 32 := 32#32
  let v202 : Index := Scalar.indexCast c32_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v203 : Index := Scalar.indexCast v35
  ![32, v203.toNat]
def k4_off37 (k4_t2 : Fin k4_t2_loop.trips) : Fin 2 → Nat :=
  let c33_i32 : BitVec 32 := 33#32
  let v206 : Index := Scalar.indexCast c33_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v207 : Index := Scalar.indexCast v35
  ![33, v207.toNat]
def k4_off38 (k4_t2 : Fin k4_t2_loop.trips) : Fin 2 → Nat :=
  let c34_i32 : BitVec 32 := 34#32
  let v210 : Index := Scalar.indexCast c34_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v211 : Index := Scalar.indexCast v35
  ![34, v211.toNat]
def k4_off39 (k4_t2 : Fin k4_t2_loop.trips) : Fin 2 → Nat :=
  let c35_i32 : BitVec 32 := 35#32
  let v214 : Index := Scalar.indexCast c35_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v215 : Index := Scalar.indexCast v35
  ![35, v215.toNat]
def k4_off40 (k4_t2 : Fin k4_t2_loop.trips) : Fin 2 → Nat :=
  let c36_i32 : BitVec 32 := 36#32
  let v218 : Index := Scalar.indexCast c36_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v219 : Index := Scalar.indexCast v35
  ![36, v219.toNat]
def k4_off41 (k4_t2 : Fin k4_t2_loop.trips) : Fin 2 → Nat :=
  let c37_i32 : BitVec 32 := 37#32
  let v222 : Index := Scalar.indexCast c37_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v223 : Index := Scalar.indexCast v35
  ![37, v223.toNat]
def k4_off42 (k4_t2 : Fin k4_t2_loop.trips) : Fin 2 → Nat :=
  let c38_i32 : BitVec 32 := 38#32
  let v226 : Index := Scalar.indexCast c38_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v227 : Index := Scalar.indexCast v35
  ![38, v227.toNat]
def k4_off43 (k4_t2 : Fin k4_t2_loop.trips) : Fin 2 → Nat :=
  let c39_i32 : BitVec 32 := 39#32
  let v230 : Index := Scalar.indexCast c39_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v231 : Index := Scalar.indexCast v35
  ![39, v231.toNat]
def k4_off44 (k4_t2 : Fin k4_t2_loop.trips) : Fin 2 → Nat :=
  let c40_i32 : BitVec 32 := 40#32
  let v234 : Index := Scalar.indexCast c40_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v235 : Index := Scalar.indexCast v35
  ![40, v235.toNat]
def k4_off45 (k4_t2 : Fin k4_t2_loop.trips) : Fin 2 → Nat :=
  let c41_i32 : BitVec 32 := 41#32
  let v238 : Index := Scalar.indexCast c41_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v239 : Index := Scalar.indexCast v35
  ![41, v239.toNat]
def k4_off46 (k4_t2 : Fin k4_t2_loop.trips) : Fin 2 → Nat :=
  let c42_i32 : BitVec 32 := 42#32
  let v242 : Index := Scalar.indexCast c42_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v243 : Index := Scalar.indexCast v35
  ![42, v243.toNat]
def k4_off47 (k4_t2 : Fin k4_t2_loop.trips) : Fin 2 → Nat :=
  let c43_i32 : BitVec 32 := 43#32
  let v246 : Index := Scalar.indexCast c43_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v247 : Index := Scalar.indexCast v35
  ![43, v247.toNat]
def k4_off48 (k4_t2 : Fin k4_t2_loop.trips) : Fin 2 → Nat :=
  let c44_i32 : BitVec 32 := 44#32
  let v250 : Index := Scalar.indexCast c44_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v251 : Index := Scalar.indexCast v35
  ![44, v251.toNat]
def k4_off49 (k4_t2 : Fin k4_t2_loop.trips) : Fin 2 → Nat :=
  let c45_i32 : BitVec 32 := 45#32
  let v254 : Index := Scalar.indexCast c45_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v255 : Index := Scalar.indexCast v35
  ![45, v255.toNat]
def k4_off50 (k4_t2 : Fin k4_t2_loop.trips) : Fin 2 → Nat :=
  let c46_i32 : BitVec 32 := 46#32
  let v258 : Index := Scalar.indexCast c46_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v259 : Index := Scalar.indexCast v35
  ![46, v259.toNat]
def k4_off51 (k4_t2 : Fin k4_t2_loop.trips) : Fin 2 → Nat :=
  let c47_i32 : BitVec 32 := 47#32
  let v262 : Index := Scalar.indexCast c47_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v263 : Index := Scalar.indexCast v35
  ![47, v263.toNat]
def k4_off52 (k4_t2 : Fin k4_t2_loop.trips) : Fin 2 → Nat :=
  let c48_i32 : BitVec 32 := 48#32
  let v266 : Index := Scalar.indexCast c48_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v267 : Index := Scalar.indexCast v35
  ![48, v267.toNat]
def k4_off53 (k4_t2 : Fin k4_t2_loop.trips) : Fin 2 → Nat :=
  let c49_i32 : BitVec 32 := 49#32
  let v270 : Index := Scalar.indexCast c49_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v271 : Index := Scalar.indexCast v35
  ![49, v271.toNat]
def k4_off54 (k4_t2 : Fin k4_t2_loop.trips) : Fin 2 → Nat :=
  let c50_i32 : BitVec 32 := 50#32
  let v274 : Index := Scalar.indexCast c50_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v275 : Index := Scalar.indexCast v35
  ![50, v275.toNat]
def k4_off55 (k4_t2 : Fin k4_t2_loop.trips) : Fin 2 → Nat :=
  let c51_i32 : BitVec 32 := 51#32
  let v278 : Index := Scalar.indexCast c51_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v279 : Index := Scalar.indexCast v35
  ![51, v279.toNat]
def k4_off56 (k4_t2 : Fin k4_t2_loop.trips) : Fin 2 → Nat :=
  let c52_i32 : BitVec 32 := 52#32
  let v282 : Index := Scalar.indexCast c52_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v283 : Index := Scalar.indexCast v35
  ![52, v283.toNat]
def k4_off57 (k4_t2 : Fin k4_t2_loop.trips) : Fin 2 → Nat :=
  let c53_i32 : BitVec 32 := 53#32
  let v286 : Index := Scalar.indexCast c53_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v287 : Index := Scalar.indexCast v35
  ![53, v287.toNat]
def k4_off58 (k4_t2 : Fin k4_t2_loop.trips) : Fin 2 → Nat :=
  let c54_i32 : BitVec 32 := 54#32
  let v290 : Index := Scalar.indexCast c54_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v291 : Index := Scalar.indexCast v35
  ![54, v291.toNat]
def k4_off59 (k4_t2 : Fin k4_t2_loop.trips) : Fin 2 → Nat :=
  let c55_i32 : BitVec 32 := 55#32
  let v294 : Index := Scalar.indexCast c55_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v295 : Index := Scalar.indexCast v35
  ![55, v295.toNat]
def k4_off60 (k4_t2 : Fin k4_t2_loop.trips) : Fin 2 → Nat :=
  let c56_i32 : BitVec 32 := 56#32
  let v298 : Index := Scalar.indexCast c56_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v299 : Index := Scalar.indexCast v35
  ![56, v299.toNat]
def k4_off61 (k4_t2 : Fin k4_t2_loop.trips) : Fin 2 → Nat :=
  let c57_i32 : BitVec 32 := 57#32
  let v302 : Index := Scalar.indexCast c57_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v303 : Index := Scalar.indexCast v35
  ![57, v303.toNat]
def k4_off62 (k4_t2 : Fin k4_t2_loop.trips) : Fin 2 → Nat :=
  let c58_i32 : BitVec 32 := 58#32
  let v306 : Index := Scalar.indexCast c58_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v307 : Index := Scalar.indexCast v35
  ![58, v307.toNat]
def k4_off63 (k4_t2 : Fin k4_t2_loop.trips) : Fin 2 → Nat :=
  let c59_i32 : BitVec 32 := 59#32
  let v310 : Index := Scalar.indexCast c59_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v311 : Index := Scalar.indexCast v35
  ![59, v311.toNat]
def k4_off64 (k4_t2 : Fin k4_t2_loop.trips) : Fin 2 → Nat :=
  let c60_i32 : BitVec 32 := 60#32
  let v314 : Index := Scalar.indexCast c60_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v315 : Index := Scalar.indexCast v35
  ![60, v315.toNat]
def k4_off65 (k4_t2 : Fin k4_t2_loop.trips) : Fin 2 → Nat :=
  let c61_i32 : BitVec 32 := 61#32
  let v318 : Index := Scalar.indexCast c61_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v319 : Index := Scalar.indexCast v35
  ![61, v319.toNat]
def k4_off66 (k4_t2 : Fin k4_t2_loop.trips) : Fin 2 → Nat :=
  let c62_i32 : BitVec 32 := 62#32
  let v322 : Index := Scalar.indexCast c62_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v323 : Index := Scalar.indexCast v35
  ![62, v323.toNat]
def k4_off67 (k4_t2 : Fin k4_t2_loop.trips) : Fin 2 → Nat :=
  let c63_i32 : BitVec 32 := 63#32
  let v326 : Index := Scalar.indexCast c63_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v327 : Index := Scalar.indexCast v35
  ![63, v327.toNat]
def k4_off68 (k4_t2 : Fin k4_t2_loop.trips) : Fin 2 → Nat :=
  let c64_i32_47 : BitVec 32 := 64#32
  let v368 : Index := Scalar.indexCast c64_i32_47
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v369 : Index := Scalar.indexCast v35
  ![64, v369.toNat]
def k4_off69 (k4_t2 : Fin k4_t2_loop.trips) : Fin 2 → Nat :=
  let c65_i32 : BitVec 32 := 65#32
  let v372 : Index := Scalar.indexCast c65_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v373 : Index := Scalar.indexCast v35
  ![65, v373.toNat]
def k4_off70 (k4_t2 : Fin k4_t2_loop.trips) : Fin 2 → Nat :=
  let c66_i32 : BitVec 32 := 66#32
  let v376 : Index := Scalar.indexCast c66_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v377 : Index := Scalar.indexCast v35
  ![66, v377.toNat]
def k4_off71 (k4_t2 : Fin k4_t2_loop.trips) : Fin 2 → Nat :=
  let c67_i32 : BitVec 32 := 67#32
  let v380 : Index := Scalar.indexCast c67_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v381 : Index := Scalar.indexCast v35
  ![67, v381.toNat]
def k4_off72 (k4_t2 : Fin k4_t2_loop.trips) : Fin 2 → Nat :=
  let c68_i32 : BitVec 32 := 68#32
  let v384 : Index := Scalar.indexCast c68_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v385 : Index := Scalar.indexCast v35
  ![68, v385.toNat]
def k4_off73 (k4_t2 : Fin k4_t2_loop.trips) : Fin 2 → Nat :=
  let c69_i32 : BitVec 32 := 69#32
  let v388 : Index := Scalar.indexCast c69_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v389 : Index := Scalar.indexCast v35
  ![69, v389.toNat]
def k4_off74 (k4_t2 : Fin k4_t2_loop.trips) : Fin 2 → Nat :=
  let c70_i32 : BitVec 32 := 70#32
  let v392 : Index := Scalar.indexCast c70_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v393 : Index := Scalar.indexCast v35
  ![70, v393.toNat]
def k4_off75 (k4_t2 : Fin k4_t2_loop.trips) : Fin 2 → Nat :=
  let c71_i32 : BitVec 32 := 71#32
  let v396 : Index := Scalar.indexCast c71_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v397 : Index := Scalar.indexCast v35
  ![71, v397.toNat]
def k4_off76 (k4_t2 : Fin k4_t2_loop.trips) : Fin 2 → Nat :=
  let c72_i32 : BitVec 32 := 72#32
  let v400 : Index := Scalar.indexCast c72_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v401 : Index := Scalar.indexCast v35
  ![72, v401.toNat]
def k4_off77 (k4_t2 : Fin k4_t2_loop.trips) : Fin 2 → Nat :=
  let c73_i32 : BitVec 32 := 73#32
  let v404 : Index := Scalar.indexCast c73_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v405 : Index := Scalar.indexCast v35
  ![73, v405.toNat]
def k4_off78 (k4_t2 : Fin k4_t2_loop.trips) : Fin 2 → Nat :=
  let c74_i32 : BitVec 32 := 74#32
  let v408 : Index := Scalar.indexCast c74_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v409 : Index := Scalar.indexCast v35
  ![74, v409.toNat]
def k4_off79 (k4_t2 : Fin k4_t2_loop.trips) : Fin 2 → Nat :=
  let c75_i32 : BitVec 32 := 75#32
  let v412 : Index := Scalar.indexCast c75_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v413 : Index := Scalar.indexCast v35
  ![75, v413.toNat]
def k4_off80 (k4_t2 : Fin k4_t2_loop.trips) : Fin 2 → Nat :=
  let c76_i32 : BitVec 32 := 76#32
  let v416 : Index := Scalar.indexCast c76_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v417 : Index := Scalar.indexCast v35
  ![76, v417.toNat]
def k4_off81 (k4_t2 : Fin k4_t2_loop.trips) : Fin 2 → Nat :=
  let c77_i32 : BitVec 32 := 77#32
  let v420 : Index := Scalar.indexCast c77_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v421 : Index := Scalar.indexCast v35
  ![77, v421.toNat]
def k4_off82 (k4_t2 : Fin k4_t2_loop.trips) : Fin 2 → Nat :=
  let c78_i32 : BitVec 32 := 78#32
  let v424 : Index := Scalar.indexCast c78_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v425 : Index := Scalar.indexCast v35
  ![78, v425.toNat]
def k4_off83 (k4_t2 : Fin k4_t2_loop.trips) : Fin 2 → Nat :=
  let c79_i32 : BitVec 32 := 79#32
  let v428 : Index := Scalar.indexCast c79_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v429 : Index := Scalar.indexCast v35
  ![79, v429.toNat]
def k4_off84 (k4_t2 : Fin k4_t2_loop.trips) : Fin 2 → Nat :=
  let c80_i32 : BitVec 32 := 80#32
  let v432 : Index := Scalar.indexCast c80_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v433 : Index := Scalar.indexCast v35
  ![80, v433.toNat]
def k4_off85 (k4_t2 : Fin k4_t2_loop.trips) : Fin 2 → Nat :=
  let c81_i32 : BitVec 32 := 81#32
  let v436 : Index := Scalar.indexCast c81_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v437 : Index := Scalar.indexCast v35
  ![81, v437.toNat]
def k4_off86 (k4_t2 : Fin k4_t2_loop.trips) : Fin 2 → Nat :=
  let c82_i32 : BitVec 32 := 82#32
  let v440 : Index := Scalar.indexCast c82_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v441 : Index := Scalar.indexCast v35
  ![82, v441.toNat]
def k4_off87 (k4_t2 : Fin k4_t2_loop.trips) : Fin 2 → Nat :=
  let c83_i32 : BitVec 32 := 83#32
  let v444 : Index := Scalar.indexCast c83_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v445 : Index := Scalar.indexCast v35
  ![83, v445.toNat]
def k4_off88 (k4_t2 : Fin k4_t2_loop.trips) : Fin 2 → Nat :=
  let c84_i32 : BitVec 32 := 84#32
  let v448 : Index := Scalar.indexCast c84_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v449 : Index := Scalar.indexCast v35
  ![84, v449.toNat]
def k4_off89 (k4_t2 : Fin k4_t2_loop.trips) : Fin 2 → Nat :=
  let c85_i32 : BitVec 32 := 85#32
  let v452 : Index := Scalar.indexCast c85_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v453 : Index := Scalar.indexCast v35
  ![85, v453.toNat]
def k4_off90 (k4_t2 : Fin k4_t2_loop.trips) : Fin 2 → Nat :=
  let c86_i32 : BitVec 32 := 86#32
  let v456 : Index := Scalar.indexCast c86_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v457 : Index := Scalar.indexCast v35
  ![86, v457.toNat]
def k4_off91 (k4_t2 : Fin k4_t2_loop.trips) : Fin 2 → Nat :=
  let c87_i32 : BitVec 32 := 87#32
  let v460 : Index := Scalar.indexCast c87_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v461 : Index := Scalar.indexCast v35
  ![87, v461.toNat]
def k4_off92 (k4_t2 : Fin k4_t2_loop.trips) : Fin 2 → Nat :=
  let c88_i32 : BitVec 32 := 88#32
  let v464 : Index := Scalar.indexCast c88_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v465 : Index := Scalar.indexCast v35
  ![88, v465.toNat]
def k4_off93 (k4_t2 : Fin k4_t2_loop.trips) : Fin 2 → Nat :=
  let c89_i32 : BitVec 32 := 89#32
  let v468 : Index := Scalar.indexCast c89_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v469 : Index := Scalar.indexCast v35
  ![89, v469.toNat]
def k4_off94 (k4_t2 : Fin k4_t2_loop.trips) : Fin 2 → Nat :=
  let c90_i32 : BitVec 32 := 90#32
  let v472 : Index := Scalar.indexCast c90_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v473 : Index := Scalar.indexCast v35
  ![90, v473.toNat]
def k4_off95 (k4_t2 : Fin k4_t2_loop.trips) : Fin 2 → Nat :=
  let c91_i32 : BitVec 32 := 91#32
  let v476 : Index := Scalar.indexCast c91_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v477 : Index := Scalar.indexCast v35
  ![91, v477.toNat]
def k4_off96 (k4_t2 : Fin k4_t2_loop.trips) : Fin 2 → Nat :=
  let c92_i32 : BitVec 32 := 92#32
  let v480 : Index := Scalar.indexCast c92_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v481 : Index := Scalar.indexCast v35
  ![92, v481.toNat]
def k4_off97 (k4_t2 : Fin k4_t2_loop.trips) : Fin 2 → Nat :=
  let c93_i32 : BitVec 32 := 93#32
  let v484 : Index := Scalar.indexCast c93_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v485 : Index := Scalar.indexCast v35
  ![93, v485.toNat]
def k4_off98 (k4_t2 : Fin k4_t2_loop.trips) : Fin 2 → Nat :=
  let c94_i32 : BitVec 32 := 94#32
  let v488 : Index := Scalar.indexCast c94_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v489 : Index := Scalar.indexCast v35
  ![94, v489.toNat]
def k4_off99 (k4_t2 : Fin k4_t2_loop.trips) : Fin 2 → Nat :=
  let c95_i32 : BitVec 32 := 95#32
  let v492 : Index := Scalar.indexCast c95_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v493 : Index := Scalar.indexCast v35
  ![95, v493.toNat]
def k4_off100 (k4_t2 : Fin k4_t2_loop.trips) : Fin 2 → Nat :=
  let c96_i32 : BitVec 32 := 96#32
  let v534 : Index := Scalar.indexCast c96_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v535 : Index := Scalar.indexCast v35
  ![96, v535.toNat]
def k4_off101 (k4_t2 : Fin k4_t2_loop.trips) : Fin 2 → Nat :=
  let c97_i32 : BitVec 32 := 97#32
  let v538 : Index := Scalar.indexCast c97_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v539 : Index := Scalar.indexCast v35
  ![97, v539.toNat]
def k4_off102 (k4_t2 : Fin k4_t2_loop.trips) : Fin 2 → Nat :=
  let c98_i32 : BitVec 32 := 98#32
  let v542 : Index := Scalar.indexCast c98_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v543 : Index := Scalar.indexCast v35
  ![98, v543.toNat]
def k4_off103 (k4_t2 : Fin k4_t2_loop.trips) : Fin 2 → Nat :=
  let c99_i32 : BitVec 32 := 99#32
  let v546 : Index := Scalar.indexCast c99_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v547 : Index := Scalar.indexCast v35
  ![99, v547.toNat]
def k4_off104 (k4_t2 : Fin k4_t2_loop.trips) : Fin 2 → Nat :=
  let c100_i32 : BitVec 32 := 100#32
  let v550 : Index := Scalar.indexCast c100_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v551 : Index := Scalar.indexCast v35
  ![100, v551.toNat]
def k4_off105 (k4_t2 : Fin k4_t2_loop.trips) : Fin 2 → Nat :=
  let c101_i32 : BitVec 32 := 101#32
  let v554 : Index := Scalar.indexCast c101_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v555 : Index := Scalar.indexCast v35
  ![101, v555.toNat]
def k4_off106 (k4_t2 : Fin k4_t2_loop.trips) : Fin 2 → Nat :=
  let c102_i32 : BitVec 32 := 102#32
  let v558 : Index := Scalar.indexCast c102_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v559 : Index := Scalar.indexCast v35
  ![102, v559.toNat]
def k4_off107 (k4_t2 : Fin k4_t2_loop.trips) : Fin 2 → Nat :=
  let c103_i32 : BitVec 32 := 103#32
  let v562 : Index := Scalar.indexCast c103_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v563 : Index := Scalar.indexCast v35
  ![103, v563.toNat]
def k4_off108 (k4_t2 : Fin k4_t2_loop.trips) : Fin 2 → Nat :=
  let c104_i32 : BitVec 32 := 104#32
  let v566 : Index := Scalar.indexCast c104_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v567 : Index := Scalar.indexCast v35
  ![104, v567.toNat]
def k4_off109 (k4_t2 : Fin k4_t2_loop.trips) : Fin 2 → Nat :=
  let c105_i32 : BitVec 32 := 105#32
  let v570 : Index := Scalar.indexCast c105_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v571 : Index := Scalar.indexCast v35
  ![105, v571.toNat]
def k4_off110 (k4_t2 : Fin k4_t2_loop.trips) : Fin 2 → Nat :=
  let c106_i32 : BitVec 32 := 106#32
  let v574 : Index := Scalar.indexCast c106_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v575 : Index := Scalar.indexCast v35
  ![106, v575.toNat]
def k4_off111 (k4_t2 : Fin k4_t2_loop.trips) : Fin 2 → Nat :=
  let c107_i32 : BitVec 32 := 107#32
  let v578 : Index := Scalar.indexCast c107_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v579 : Index := Scalar.indexCast v35
  ![107, v579.toNat]
def k4_off112 (k4_t2 : Fin k4_t2_loop.trips) : Fin 2 → Nat :=
  let c108_i32 : BitVec 32 := 108#32
  let v582 : Index := Scalar.indexCast c108_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v583 : Index := Scalar.indexCast v35
  ![108, v583.toNat]
def k4_off113 (k4_t2 : Fin k4_t2_loop.trips) : Fin 2 → Nat :=
  let c109_i32 : BitVec 32 := 109#32
  let v586 : Index := Scalar.indexCast c109_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v587 : Index := Scalar.indexCast v35
  ![109, v587.toNat]
def k4_off114 (k4_t2 : Fin k4_t2_loop.trips) : Fin 2 → Nat :=
  let c110_i32 : BitVec 32 := 110#32
  let v590 : Index := Scalar.indexCast c110_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v591 : Index := Scalar.indexCast v35
  ![110, v591.toNat]
def k4_off115 (k4_t2 : Fin k4_t2_loop.trips) : Fin 2 → Nat :=
  let c111_i32 : BitVec 32 := 111#32
  let v594 : Index := Scalar.indexCast c111_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v595 : Index := Scalar.indexCast v35
  ![111, v595.toNat]
def k4_off116 (k4_t2 : Fin k4_t2_loop.trips) : Fin 2 → Nat :=
  let c112_i32 : BitVec 32 := 112#32
  let v598 : Index := Scalar.indexCast c112_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v599 : Index := Scalar.indexCast v35
  ![112, v599.toNat]
def k4_off117 (k4_t2 : Fin k4_t2_loop.trips) : Fin 2 → Nat :=
  let c113_i32 : BitVec 32 := 113#32
  let v602 : Index := Scalar.indexCast c113_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v603 : Index := Scalar.indexCast v35
  ![113, v603.toNat]
def k4_off118 (k4_t2 : Fin k4_t2_loop.trips) : Fin 2 → Nat :=
  let c114_i32 : BitVec 32 := 114#32
  let v606 : Index := Scalar.indexCast c114_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v607 : Index := Scalar.indexCast v35
  ![114, v607.toNat]
def k4_off119 (k4_t2 : Fin k4_t2_loop.trips) : Fin 2 → Nat :=
  let c115_i32 : BitVec 32 := 115#32
  let v610 : Index := Scalar.indexCast c115_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v611 : Index := Scalar.indexCast v35
  ![115, v611.toNat]
def k4_off120 (k4_t2 : Fin k4_t2_loop.trips) : Fin 2 → Nat :=
  let c116_i32 : BitVec 32 := 116#32
  let v614 : Index := Scalar.indexCast c116_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v615 : Index := Scalar.indexCast v35
  ![116, v615.toNat]
def k4_off121 (k4_t2 : Fin k4_t2_loop.trips) : Fin 2 → Nat :=
  let c117_i32 : BitVec 32 := 117#32
  let v618 : Index := Scalar.indexCast c117_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v619 : Index := Scalar.indexCast v35
  ![117, v619.toNat]
def k4_off122 (k4_t2 : Fin k4_t2_loop.trips) : Fin 2 → Nat :=
  let c118_i32 : BitVec 32 := 118#32
  let v622 : Index := Scalar.indexCast c118_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v623 : Index := Scalar.indexCast v35
  ![118, v623.toNat]
def k4_off123 (k4_t2 : Fin k4_t2_loop.trips) : Fin 2 → Nat :=
  let c119_i32 : BitVec 32 := 119#32
  let v626 : Index := Scalar.indexCast c119_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v627 : Index := Scalar.indexCast v35
  ![119, v627.toNat]
def k4_off124 (k4_t2 : Fin k4_t2_loop.trips) : Fin 2 → Nat :=
  let c120_i32 : BitVec 32 := 120#32
  let v630 : Index := Scalar.indexCast c120_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v631 : Index := Scalar.indexCast v35
  ![120, v631.toNat]
def k4_off125 (k4_t2 : Fin k4_t2_loop.trips) : Fin 2 → Nat :=
  let c121_i32 : BitVec 32 := 121#32
  let v634 : Index := Scalar.indexCast c121_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v635 : Index := Scalar.indexCast v35
  ![121, v635.toNat]
def k4_off126 (k4_t2 : Fin k4_t2_loop.trips) : Fin 2 → Nat :=
  let c122_i32 : BitVec 32 := 122#32
  let v638 : Index := Scalar.indexCast c122_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v639 : Index := Scalar.indexCast v35
  ![122, v639.toNat]
def k4_off127 (k4_t2 : Fin k4_t2_loop.trips) : Fin 2 → Nat :=
  let c123_i32 : BitVec 32 := 123#32
  let v642 : Index := Scalar.indexCast c123_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v643 : Index := Scalar.indexCast v35
  ![123, v643.toNat]
def k4_off128 (k4_t2 : Fin k4_t2_loop.trips) : Fin 2 → Nat :=
  let c124_i32 : BitVec 32 := 124#32
  let v646 : Index := Scalar.indexCast c124_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v647 : Index := Scalar.indexCast v35
  ![124, v647.toNat]
def k4_off129 (k4_t2 : Fin k4_t2_loop.trips) : Fin 2 → Nat :=
  let c125_i32 : BitVec 32 := 125#32
  let v650 : Index := Scalar.indexCast c125_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v651 : Index := Scalar.indexCast v35
  ![125, v651.toNat]
def k4_off130 (k4_t2 : Fin k4_t2_loop.trips) : Fin 2 → Nat :=
  let c126_i32 : BitVec 32 := 126#32
  let v654 : Index := Scalar.indexCast c126_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v655 : Index := Scalar.indexCast v35
  ![126, v655.toNat]
def k4_off131 (k4_t2 : Fin k4_t2_loop.trips) : Fin 2 → Nat :=
  let c127_i32 : BitVec 32 := 127#32
  let v658 : Index := Scalar.indexCast c127_i32
  let c0_i32_16 : BitVec 32 := 0#32
  let c1_i32_18 : BitVec 32 := 1#32
  let arg13 : BitVec 32 := Scf.iv c0_i32_16 c1_i32_18 k4_t2
  let c16_i32_37 : BitVec 32 := 16#32
  let v34 : BitVec 32 := Scalar.muli arg13 c16_i32_37
  let v35 : BitVec 32 := v34
  let v659 : Index := Scalar.indexCast v35
  ![127, v659.toNat]
def k4_cond1 (k4_t1 : Fin k4_t1_loop.trips) : BitVec 1 :=
  let c0_i32_7 : BitVec 32 := 0#32
  let c1_i32_8 : BitVec 32 := 1#32
  let arg11 : BitVec 32 := Scf.iv c0_i32_7 c1_i32_8 k4_t1
  let c2_i32_10 : BitVec 32 := 2#32
  let v12 : BitVec 32 := Scalar.muli arg11 c2_i32_10
  let c0_i32_11 : BitVec 32 := 0#32
  let v13 : BitVec 32 := Scalar.addi v12 c0_i32_11
  let c2_i32_20 : BitVec 32 := 2#32
  let v19 : BitVec 32 := Scalar.addi v13 c2_i32_20
  let c16_i32_21 : BitVec 32 := 16#32
  let v20 : BitVec 1 := Scalar.cmpi .slt v19 c16_i32_21
  let v21 : BitVec 32 := Scalar.extui v20
  let c0_i32_22 : BitVec 32 := 0#32
  let v22 : BitVec 1 := Scalar.cmpi .ne v21 c0_i32_22
  v22

def k4_off132 (k4_t1 : Fin k4_t1_loop.trips) : Fin 2 → Nat :=
  let c0_i32_7 : BitVec 32 := 0#32
  let c1_i32_8 : BitVec 32 := 1#32
  let arg11 : BitVec 32 := Scf.iv c0_i32_7 c1_i32_8 k4_t1
  let c2_i32_10 : BitVec 32 := 2#32
  let v12 : BitVec 32 := Scalar.muli arg11 c2_i32_10
  let c0_i32_11 : BitVec 32 := 0#32
  let v13 : BitVec 32 := Scalar.addi v12 c0_i32_11
  let c2_i32_37 : BitVec 32 := 2#32
  let v34 : BitVec 32 := Scalar.addi v13 c2_i32_37
  let c0_i32_38 : BitVec 32 := 0#32
  ![v34.toNat, 0]
@[reducible] def k4_t3_loop : Scf.Loop 32 :=
  let c0_i32_29 : BitVec 32 := 0#32
  let c8_i32_30 : BitVec 32 := 8#32
  let v28 : BitVec 32 := Scalar.addi c0_i32_29 c8_i32_30
  let c1_i32_31 : BitVec 32 := 1#32
  ⟨c0_i32_29, v28, c1_i32_31⟩
def k4_mult2 (k4_t3 : Fin k4_t3_loop.trips) : BitVec 32 :=
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  v34
def k4_off133 (k4_t3 : Fin k4_t3_loop.trips) : Fin 2 → Nat :=
  let c0_i32_38 : BitVec 32 := 0#32
  let v36 : Index := Scalar.indexCast c0_i32_38
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v37 : Index := Scalar.indexCast v35
  ![0, v37.toNat]
def k4_off134 (k4_t3 : Fin k4_t3_loop.trips) : Fin 2 → Nat :=
  let c1_i32_39 : BitVec 32 := 1#32
  let v40 : Index := Scalar.indexCast c1_i32_39
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v41 : Index := Scalar.indexCast v35
  ![1, v41.toNat]
def k4_off135 (k4_t3 : Fin k4_t3_loop.trips) : Fin 2 → Nat :=
  let c2_i32_40 : BitVec 32 := 2#32
  let v44 : Index := Scalar.indexCast c2_i32_40
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v45 : Index := Scalar.indexCast v35
  ![2, v45.toNat]
def k4_off136 (k4_t3 : Fin k4_t3_loop.trips) : Fin 2 → Nat :=
  let c3_i32 : BitVec 32 := 3#32
  let v48 : Index := Scalar.indexCast c3_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v49 : Index := Scalar.indexCast v35
  ![3, v49.toNat]
def k4_off137 (k4_t3 : Fin k4_t3_loop.trips) : Fin 2 → Nat :=
  let c4_i32 : BitVec 32 := 4#32
  let v52 : Index := Scalar.indexCast c4_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v53 : Index := Scalar.indexCast v35
  ![4, v53.toNat]
def k4_off138 (k4_t3 : Fin k4_t3_loop.trips) : Fin 2 → Nat :=
  let c5_i32 : BitVec 32 := 5#32
  let v56 : Index := Scalar.indexCast c5_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v57 : Index := Scalar.indexCast v35
  ![5, v57.toNat]
def k4_off139 (k4_t3 : Fin k4_t3_loop.trips) : Fin 2 → Nat :=
  let c6_i32 : BitVec 32 := 6#32
  let v60 : Index := Scalar.indexCast c6_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v61 : Index := Scalar.indexCast v35
  ![6, v61.toNat]
def k4_off140 (k4_t3 : Fin k4_t3_loop.trips) : Fin 2 → Nat :=
  let c7_i32 : BitVec 32 := 7#32
  let v64 : Index := Scalar.indexCast c7_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v65 : Index := Scalar.indexCast v35
  ![7, v65.toNat]
def k4_off141 (k4_t3 : Fin k4_t3_loop.trips) : Fin 2 → Nat :=
  let c8_i32_41 : BitVec 32 := 8#32
  let v68 : Index := Scalar.indexCast c8_i32_41
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v69 : Index := Scalar.indexCast v35
  ![8, v69.toNat]
def k4_off142 (k4_t3 : Fin k4_t3_loop.trips) : Fin 2 → Nat :=
  let c9_i32 : BitVec 32 := 9#32
  let v72 : Index := Scalar.indexCast c9_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v73 : Index := Scalar.indexCast v35
  ![9, v73.toNat]
def k4_off143 (k4_t3 : Fin k4_t3_loop.trips) : Fin 2 → Nat :=
  let c10_i32 : BitVec 32 := 10#32
  let v76 : Index := Scalar.indexCast c10_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v77 : Index := Scalar.indexCast v35
  ![10, v77.toNat]
def k4_off144 (k4_t3 : Fin k4_t3_loop.trips) : Fin 2 → Nat :=
  let c11_i32 : BitVec 32 := 11#32
  let v80 : Index := Scalar.indexCast c11_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v81 : Index := Scalar.indexCast v35
  ![11, v81.toNat]
def k4_off145 (k4_t3 : Fin k4_t3_loop.trips) : Fin 2 → Nat :=
  let c12_i32 : BitVec 32 := 12#32
  let v84 : Index := Scalar.indexCast c12_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v85 : Index := Scalar.indexCast v35
  ![12, v85.toNat]
def k4_off146 (k4_t3 : Fin k4_t3_loop.trips) : Fin 2 → Nat :=
  let c13_i32 : BitVec 32 := 13#32
  let v88 : Index := Scalar.indexCast c13_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v89 : Index := Scalar.indexCast v35
  ![13, v89.toNat]
def k4_off147 (k4_t3 : Fin k4_t3_loop.trips) : Fin 2 → Nat :=
  let c14_i32 : BitVec 32 := 14#32
  let v92 : Index := Scalar.indexCast c14_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v93 : Index := Scalar.indexCast v35
  ![14, v93.toNat]
def k4_off148 (k4_t3 : Fin k4_t3_loop.trips) : Fin 2 → Nat :=
  let c15_i32 : BitVec 32 := 15#32
  let v96 : Index := Scalar.indexCast c15_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v97 : Index := Scalar.indexCast v35
  ![15, v97.toNat]
def k4_off149 (k4_t3 : Fin k4_t3_loop.trips) : Fin 2 → Nat :=
  let c16_i32_42 : BitVec 32 := 16#32
  let v100 : Index := Scalar.indexCast c16_i32_42
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v101 : Index := Scalar.indexCast v35
  ![16, v101.toNat]
def k4_off150 (k4_t3 : Fin k4_t3_loop.trips) : Fin 2 → Nat :=
  let c17_i32 : BitVec 32 := 17#32
  let v104 : Index := Scalar.indexCast c17_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v105 : Index := Scalar.indexCast v35
  ![17, v105.toNat]
def k4_off151 (k4_t3 : Fin k4_t3_loop.trips) : Fin 2 → Nat :=
  let c18_i32 : BitVec 32 := 18#32
  let v108 : Index := Scalar.indexCast c18_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v109 : Index := Scalar.indexCast v35
  ![18, v109.toNat]
def k4_off152 (k4_t3 : Fin k4_t3_loop.trips) : Fin 2 → Nat :=
  let c19_i32 : BitVec 32 := 19#32
  let v112 : Index := Scalar.indexCast c19_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v113 : Index := Scalar.indexCast v35
  ![19, v113.toNat]
def k4_off153 (k4_t3 : Fin k4_t3_loop.trips) : Fin 2 → Nat :=
  let c20_i32 : BitVec 32 := 20#32
  let v116 : Index := Scalar.indexCast c20_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v117 : Index := Scalar.indexCast v35
  ![20, v117.toNat]
def k4_off154 (k4_t3 : Fin k4_t3_loop.trips) : Fin 2 → Nat :=
  let c21_i32 : BitVec 32 := 21#32
  let v120 : Index := Scalar.indexCast c21_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v121 : Index := Scalar.indexCast v35
  ![21, v121.toNat]
def k4_off155 (k4_t3 : Fin k4_t3_loop.trips) : Fin 2 → Nat :=
  let c22_i32 : BitVec 32 := 22#32
  let v124 : Index := Scalar.indexCast c22_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v125 : Index := Scalar.indexCast v35
  ![22, v125.toNat]
def k4_off156 (k4_t3 : Fin k4_t3_loop.trips) : Fin 2 → Nat :=
  let c23_i32 : BitVec 32 := 23#32
  let v128 : Index := Scalar.indexCast c23_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v129 : Index := Scalar.indexCast v35
  ![23, v129.toNat]
def k4_off157 (k4_t3 : Fin k4_t3_loop.trips) : Fin 2 → Nat :=
  let c24_i32 : BitVec 32 := 24#32
  let v132 : Index := Scalar.indexCast c24_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v133 : Index := Scalar.indexCast v35
  ![24, v133.toNat]
def k4_off158 (k4_t3 : Fin k4_t3_loop.trips) : Fin 2 → Nat :=
  let c25_i32 : BitVec 32 := 25#32
  let v136 : Index := Scalar.indexCast c25_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v137 : Index := Scalar.indexCast v35
  ![25, v137.toNat]
def k4_off159 (k4_t3 : Fin k4_t3_loop.trips) : Fin 2 → Nat :=
  let c26_i32 : BitVec 32 := 26#32
  let v140 : Index := Scalar.indexCast c26_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v141 : Index := Scalar.indexCast v35
  ![26, v141.toNat]
def k4_off160 (k4_t3 : Fin k4_t3_loop.trips) : Fin 2 → Nat :=
  let c27_i32 : BitVec 32 := 27#32
  let v144 : Index := Scalar.indexCast c27_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v145 : Index := Scalar.indexCast v35
  ![27, v145.toNat]
def k4_off161 (k4_t3 : Fin k4_t3_loop.trips) : Fin 2 → Nat :=
  let c28_i32 : BitVec 32 := 28#32
  let v148 : Index := Scalar.indexCast c28_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v149 : Index := Scalar.indexCast v35
  ![28, v149.toNat]
def k4_off162 (k4_t3 : Fin k4_t3_loop.trips) : Fin 2 → Nat :=
  let c29_i32 : BitVec 32 := 29#32
  let v152 : Index := Scalar.indexCast c29_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v153 : Index := Scalar.indexCast v35
  ![29, v153.toNat]
def k4_off163 (k4_t3 : Fin k4_t3_loop.trips) : Fin 2 → Nat :=
  let c30_i32 : BitVec 32 := 30#32
  let v156 : Index := Scalar.indexCast c30_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v157 : Index := Scalar.indexCast v35
  ![30, v157.toNat]
def k4_off164 (k4_t3 : Fin k4_t3_loop.trips) : Fin 2 → Nat :=
  let c31_i32 : BitVec 32 := 31#32
  let v160 : Index := Scalar.indexCast c31_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v161 : Index := Scalar.indexCast v35
  ![31, v161.toNat]
def k4_off165 (k4_t1 : Fin k4_t1_loop.trips) (k4_t3 : Fin k4_t3_loop.trips) (c0_i32_44 : BitVec 32) : Fin 2 → Nat :=
  let c0_i32_7 : BitVec 32 := 0#32
  let c1_i32_8 : BitVec 32 := 1#32
  let arg11 : BitVec 32 := Scf.iv c0_i32_7 c1_i32_8 k4_t1
  let c2_i32_23 : BitVec 32 := 2#32
  let v23 : BitVec 32 := Scalar.muli arg11 c2_i32_23
  let c1_i32_24 : BitVec 32 := 1#32
  let v24 : BitVec 32 := Scalar.addi v23 c1_i32_24
  let c4_i32_43 : BitVec 32 := 4#32
  let v195 : BitVec 32 := Scalar.muli v24 c4_i32_43
  let v196 : BitVec 32 := Scalar.addi v195 c0_i32_44
  let v197 : Index := Scalar.indexCast v196
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v198 : Index := Scalar.indexCast v35
  ![v197.toNat, v198.toNat]
def k4_off166 (k4_t3 : Fin k4_t3_loop.trips) : Fin 2 → Nat :=
  let c32_i32 : BitVec 32 := 32#32
  let v202 : Index := Scalar.indexCast c32_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v203 : Index := Scalar.indexCast v35
  ![32, v203.toNat]
def k4_off167 (k4_t3 : Fin k4_t3_loop.trips) : Fin 2 → Nat :=
  let c33_i32 : BitVec 32 := 33#32
  let v206 : Index := Scalar.indexCast c33_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v207 : Index := Scalar.indexCast v35
  ![33, v207.toNat]
def k4_off168 (k4_t3 : Fin k4_t3_loop.trips) : Fin 2 → Nat :=
  let c34_i32 : BitVec 32 := 34#32
  let v210 : Index := Scalar.indexCast c34_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v211 : Index := Scalar.indexCast v35
  ![34, v211.toNat]
def k4_off169 (k4_t3 : Fin k4_t3_loop.trips) : Fin 2 → Nat :=
  let c35_i32 : BitVec 32 := 35#32
  let v214 : Index := Scalar.indexCast c35_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v215 : Index := Scalar.indexCast v35
  ![35, v215.toNat]
def k4_off170 (k4_t3 : Fin k4_t3_loop.trips) : Fin 2 → Nat :=
  let c36_i32 : BitVec 32 := 36#32
  let v218 : Index := Scalar.indexCast c36_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v219 : Index := Scalar.indexCast v35
  ![36, v219.toNat]
def k4_off171 (k4_t3 : Fin k4_t3_loop.trips) : Fin 2 → Nat :=
  let c37_i32 : BitVec 32 := 37#32
  let v222 : Index := Scalar.indexCast c37_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v223 : Index := Scalar.indexCast v35
  ![37, v223.toNat]
def k4_off172 (k4_t3 : Fin k4_t3_loop.trips) : Fin 2 → Nat :=
  let c38_i32 : BitVec 32 := 38#32
  let v226 : Index := Scalar.indexCast c38_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v227 : Index := Scalar.indexCast v35
  ![38, v227.toNat]
def k4_off173 (k4_t3 : Fin k4_t3_loop.trips) : Fin 2 → Nat :=
  let c39_i32 : BitVec 32 := 39#32
  let v230 : Index := Scalar.indexCast c39_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v231 : Index := Scalar.indexCast v35
  ![39, v231.toNat]
def k4_off174 (k4_t3 : Fin k4_t3_loop.trips) : Fin 2 → Nat :=
  let c40_i32 : BitVec 32 := 40#32
  let v234 : Index := Scalar.indexCast c40_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v235 : Index := Scalar.indexCast v35
  ![40, v235.toNat]
def k4_off175 (k4_t3 : Fin k4_t3_loop.trips) : Fin 2 → Nat :=
  let c41_i32 : BitVec 32 := 41#32
  let v238 : Index := Scalar.indexCast c41_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v239 : Index := Scalar.indexCast v35
  ![41, v239.toNat]
def k4_off176 (k4_t3 : Fin k4_t3_loop.trips) : Fin 2 → Nat :=
  let c42_i32 : BitVec 32 := 42#32
  let v242 : Index := Scalar.indexCast c42_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v243 : Index := Scalar.indexCast v35
  ![42, v243.toNat]
def k4_off177 (k4_t3 : Fin k4_t3_loop.trips) : Fin 2 → Nat :=
  let c43_i32 : BitVec 32 := 43#32
  let v246 : Index := Scalar.indexCast c43_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v247 : Index := Scalar.indexCast v35
  ![43, v247.toNat]
def k4_off178 (k4_t3 : Fin k4_t3_loop.trips) : Fin 2 → Nat :=
  let c44_i32 : BitVec 32 := 44#32
  let v250 : Index := Scalar.indexCast c44_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v251 : Index := Scalar.indexCast v35
  ![44, v251.toNat]
def k4_off179 (k4_t3 : Fin k4_t3_loop.trips) : Fin 2 → Nat :=
  let c45_i32 : BitVec 32 := 45#32
  let v254 : Index := Scalar.indexCast c45_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v255 : Index := Scalar.indexCast v35
  ![45, v255.toNat]
def k4_off180 (k4_t3 : Fin k4_t3_loop.trips) : Fin 2 → Nat :=
  let c46_i32 : BitVec 32 := 46#32
  let v258 : Index := Scalar.indexCast c46_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v259 : Index := Scalar.indexCast v35
  ![46, v259.toNat]
def k4_off181 (k4_t3 : Fin k4_t3_loop.trips) : Fin 2 → Nat :=
  let c47_i32 : BitVec 32 := 47#32
  let v262 : Index := Scalar.indexCast c47_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v263 : Index := Scalar.indexCast v35
  ![47, v263.toNat]
def k4_off182 (k4_t3 : Fin k4_t3_loop.trips) : Fin 2 → Nat :=
  let c48_i32 : BitVec 32 := 48#32
  let v266 : Index := Scalar.indexCast c48_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v267 : Index := Scalar.indexCast v35
  ![48, v267.toNat]
def k4_off183 (k4_t3 : Fin k4_t3_loop.trips) : Fin 2 → Nat :=
  let c49_i32 : BitVec 32 := 49#32
  let v270 : Index := Scalar.indexCast c49_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v271 : Index := Scalar.indexCast v35
  ![49, v271.toNat]
def k4_off184 (k4_t3 : Fin k4_t3_loop.trips) : Fin 2 → Nat :=
  let c50_i32 : BitVec 32 := 50#32
  let v274 : Index := Scalar.indexCast c50_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v275 : Index := Scalar.indexCast v35
  ![50, v275.toNat]
def k4_off185 (k4_t3 : Fin k4_t3_loop.trips) : Fin 2 → Nat :=
  let c51_i32 : BitVec 32 := 51#32
  let v278 : Index := Scalar.indexCast c51_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v279 : Index := Scalar.indexCast v35
  ![51, v279.toNat]
def k4_off186 (k4_t3 : Fin k4_t3_loop.trips) : Fin 2 → Nat :=
  let c52_i32 : BitVec 32 := 52#32
  let v282 : Index := Scalar.indexCast c52_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v283 : Index := Scalar.indexCast v35
  ![52, v283.toNat]
def k4_off187 (k4_t3 : Fin k4_t3_loop.trips) : Fin 2 → Nat :=
  let c53_i32 : BitVec 32 := 53#32
  let v286 : Index := Scalar.indexCast c53_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v287 : Index := Scalar.indexCast v35
  ![53, v287.toNat]
def k4_off188 (k4_t3 : Fin k4_t3_loop.trips) : Fin 2 → Nat :=
  let c54_i32 : BitVec 32 := 54#32
  let v290 : Index := Scalar.indexCast c54_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v291 : Index := Scalar.indexCast v35
  ![54, v291.toNat]
def k4_off189 (k4_t3 : Fin k4_t3_loop.trips) : Fin 2 → Nat :=
  let c55_i32 : BitVec 32 := 55#32
  let v294 : Index := Scalar.indexCast c55_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v295 : Index := Scalar.indexCast v35
  ![55, v295.toNat]
def k4_off190 (k4_t3 : Fin k4_t3_loop.trips) : Fin 2 → Nat :=
  let c56_i32 : BitVec 32 := 56#32
  let v298 : Index := Scalar.indexCast c56_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v299 : Index := Scalar.indexCast v35
  ![56, v299.toNat]
def k4_off191 (k4_t3 : Fin k4_t3_loop.trips) : Fin 2 → Nat :=
  let c57_i32 : BitVec 32 := 57#32
  let v302 : Index := Scalar.indexCast c57_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v303 : Index := Scalar.indexCast v35
  ![57, v303.toNat]
def k4_off192 (k4_t3 : Fin k4_t3_loop.trips) : Fin 2 → Nat :=
  let c58_i32 : BitVec 32 := 58#32
  let v306 : Index := Scalar.indexCast c58_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v307 : Index := Scalar.indexCast v35
  ![58, v307.toNat]
def k4_off193 (k4_t3 : Fin k4_t3_loop.trips) : Fin 2 → Nat :=
  let c59_i32 : BitVec 32 := 59#32
  let v310 : Index := Scalar.indexCast c59_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v311 : Index := Scalar.indexCast v35
  ![59, v311.toNat]
def k4_off194 (k4_t3 : Fin k4_t3_loop.trips) : Fin 2 → Nat :=
  let c60_i32 : BitVec 32 := 60#32
  let v314 : Index := Scalar.indexCast c60_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v315 : Index := Scalar.indexCast v35
  ![60, v315.toNat]
def k4_off195 (k4_t3 : Fin k4_t3_loop.trips) : Fin 2 → Nat :=
  let c61_i32 : BitVec 32 := 61#32
  let v318 : Index := Scalar.indexCast c61_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v319 : Index := Scalar.indexCast v35
  ![61, v319.toNat]
def k4_off196 (k4_t3 : Fin k4_t3_loop.trips) : Fin 2 → Nat :=
  let c62_i32 : BitVec 32 := 62#32
  let v322 : Index := Scalar.indexCast c62_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v323 : Index := Scalar.indexCast v35
  ![62, v323.toNat]
def k4_off197 (k4_t3 : Fin k4_t3_loop.trips) : Fin 2 → Nat :=
  let c63_i32 : BitVec 32 := 63#32
  let v326 : Index := Scalar.indexCast c63_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v327 : Index := Scalar.indexCast v35
  ![63, v327.toNat]
def k4_off198 (k4_t3 : Fin k4_t3_loop.trips) : Fin 2 → Nat :=
  let c64_i32_47 : BitVec 32 := 64#32
  let v368 : Index := Scalar.indexCast c64_i32_47
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v369 : Index := Scalar.indexCast v35
  ![64, v369.toNat]
def k4_off199 (k4_t3 : Fin k4_t3_loop.trips) : Fin 2 → Nat :=
  let c65_i32 : BitVec 32 := 65#32
  let v372 : Index := Scalar.indexCast c65_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v373 : Index := Scalar.indexCast v35
  ![65, v373.toNat]
def k4_off200 (k4_t3 : Fin k4_t3_loop.trips) : Fin 2 → Nat :=
  let c66_i32 : BitVec 32 := 66#32
  let v376 : Index := Scalar.indexCast c66_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v377 : Index := Scalar.indexCast v35
  ![66, v377.toNat]
def k4_off201 (k4_t3 : Fin k4_t3_loop.trips) : Fin 2 → Nat :=
  let c67_i32 : BitVec 32 := 67#32
  let v380 : Index := Scalar.indexCast c67_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v381 : Index := Scalar.indexCast v35
  ![67, v381.toNat]
def k4_off202 (k4_t3 : Fin k4_t3_loop.trips) : Fin 2 → Nat :=
  let c68_i32 : BitVec 32 := 68#32
  let v384 : Index := Scalar.indexCast c68_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v385 : Index := Scalar.indexCast v35
  ![68, v385.toNat]
def k4_off203 (k4_t3 : Fin k4_t3_loop.trips) : Fin 2 → Nat :=
  let c69_i32 : BitVec 32 := 69#32
  let v388 : Index := Scalar.indexCast c69_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v389 : Index := Scalar.indexCast v35
  ![69, v389.toNat]
def k4_off204 (k4_t3 : Fin k4_t3_loop.trips) : Fin 2 → Nat :=
  let c70_i32 : BitVec 32 := 70#32
  let v392 : Index := Scalar.indexCast c70_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v393 : Index := Scalar.indexCast v35
  ![70, v393.toNat]
def k4_off205 (k4_t3 : Fin k4_t3_loop.trips) : Fin 2 → Nat :=
  let c71_i32 : BitVec 32 := 71#32
  let v396 : Index := Scalar.indexCast c71_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v397 : Index := Scalar.indexCast v35
  ![71, v397.toNat]
def k4_off206 (k4_t3 : Fin k4_t3_loop.trips) : Fin 2 → Nat :=
  let c72_i32 : BitVec 32 := 72#32
  let v400 : Index := Scalar.indexCast c72_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v401 : Index := Scalar.indexCast v35
  ![72, v401.toNat]
def k4_off207 (k4_t3 : Fin k4_t3_loop.trips) : Fin 2 → Nat :=
  let c73_i32 : BitVec 32 := 73#32
  let v404 : Index := Scalar.indexCast c73_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v405 : Index := Scalar.indexCast v35
  ![73, v405.toNat]
def k4_off208 (k4_t3 : Fin k4_t3_loop.trips) : Fin 2 → Nat :=
  let c74_i32 : BitVec 32 := 74#32
  let v408 : Index := Scalar.indexCast c74_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v409 : Index := Scalar.indexCast v35
  ![74, v409.toNat]
def k4_off209 (k4_t3 : Fin k4_t3_loop.trips) : Fin 2 → Nat :=
  let c75_i32 : BitVec 32 := 75#32
  let v412 : Index := Scalar.indexCast c75_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v413 : Index := Scalar.indexCast v35
  ![75, v413.toNat]
def k4_off210 (k4_t3 : Fin k4_t3_loop.trips) : Fin 2 → Nat :=
  let c76_i32 : BitVec 32 := 76#32
  let v416 : Index := Scalar.indexCast c76_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v417 : Index := Scalar.indexCast v35
  ![76, v417.toNat]
def k4_off211 (k4_t3 : Fin k4_t3_loop.trips) : Fin 2 → Nat :=
  let c77_i32 : BitVec 32 := 77#32
  let v420 : Index := Scalar.indexCast c77_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v421 : Index := Scalar.indexCast v35
  ![77, v421.toNat]
def k4_off212 (k4_t3 : Fin k4_t3_loop.trips) : Fin 2 → Nat :=
  let c78_i32 : BitVec 32 := 78#32
  let v424 : Index := Scalar.indexCast c78_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v425 : Index := Scalar.indexCast v35
  ![78, v425.toNat]
def k4_off213 (k4_t3 : Fin k4_t3_loop.trips) : Fin 2 → Nat :=
  let c79_i32 : BitVec 32 := 79#32
  let v428 : Index := Scalar.indexCast c79_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v429 : Index := Scalar.indexCast v35
  ![79, v429.toNat]
def k4_off214 (k4_t3 : Fin k4_t3_loop.trips) : Fin 2 → Nat :=
  let c80_i32 : BitVec 32 := 80#32
  let v432 : Index := Scalar.indexCast c80_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v433 : Index := Scalar.indexCast v35
  ![80, v433.toNat]
def k4_off215 (k4_t3 : Fin k4_t3_loop.trips) : Fin 2 → Nat :=
  let c81_i32 : BitVec 32 := 81#32
  let v436 : Index := Scalar.indexCast c81_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v437 : Index := Scalar.indexCast v35
  ![81, v437.toNat]
def k4_off216 (k4_t3 : Fin k4_t3_loop.trips) : Fin 2 → Nat :=
  let c82_i32 : BitVec 32 := 82#32
  let v440 : Index := Scalar.indexCast c82_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v441 : Index := Scalar.indexCast v35
  ![82, v441.toNat]
def k4_off217 (k4_t3 : Fin k4_t3_loop.trips) : Fin 2 → Nat :=
  let c83_i32 : BitVec 32 := 83#32
  let v444 : Index := Scalar.indexCast c83_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v445 : Index := Scalar.indexCast v35
  ![83, v445.toNat]
def k4_off218 (k4_t3 : Fin k4_t3_loop.trips) : Fin 2 → Nat :=
  let c84_i32 : BitVec 32 := 84#32
  let v448 : Index := Scalar.indexCast c84_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v449 : Index := Scalar.indexCast v35
  ![84, v449.toNat]
def k4_off219 (k4_t3 : Fin k4_t3_loop.trips) : Fin 2 → Nat :=
  let c85_i32 : BitVec 32 := 85#32
  let v452 : Index := Scalar.indexCast c85_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v453 : Index := Scalar.indexCast v35
  ![85, v453.toNat]
def k4_off220 (k4_t3 : Fin k4_t3_loop.trips) : Fin 2 → Nat :=
  let c86_i32 : BitVec 32 := 86#32
  let v456 : Index := Scalar.indexCast c86_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v457 : Index := Scalar.indexCast v35
  ![86, v457.toNat]
def k4_off221 (k4_t3 : Fin k4_t3_loop.trips) : Fin 2 → Nat :=
  let c87_i32 : BitVec 32 := 87#32
  let v460 : Index := Scalar.indexCast c87_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v461 : Index := Scalar.indexCast v35
  ![87, v461.toNat]
def k4_off222 (k4_t3 : Fin k4_t3_loop.trips) : Fin 2 → Nat :=
  let c88_i32 : BitVec 32 := 88#32
  let v464 : Index := Scalar.indexCast c88_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v465 : Index := Scalar.indexCast v35
  ![88, v465.toNat]
def k4_off223 (k4_t3 : Fin k4_t3_loop.trips) : Fin 2 → Nat :=
  let c89_i32 : BitVec 32 := 89#32
  let v468 : Index := Scalar.indexCast c89_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v469 : Index := Scalar.indexCast v35
  ![89, v469.toNat]
def k4_off224 (k4_t3 : Fin k4_t3_loop.trips) : Fin 2 → Nat :=
  let c90_i32 : BitVec 32 := 90#32
  let v472 : Index := Scalar.indexCast c90_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v473 : Index := Scalar.indexCast v35
  ![90, v473.toNat]
def k4_off225 (k4_t3 : Fin k4_t3_loop.trips) : Fin 2 → Nat :=
  let c91_i32 : BitVec 32 := 91#32
  let v476 : Index := Scalar.indexCast c91_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v477 : Index := Scalar.indexCast v35
  ![91, v477.toNat]
def k4_off226 (k4_t3 : Fin k4_t3_loop.trips) : Fin 2 → Nat :=
  let c92_i32 : BitVec 32 := 92#32
  let v480 : Index := Scalar.indexCast c92_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v481 : Index := Scalar.indexCast v35
  ![92, v481.toNat]
def k4_off227 (k4_t3 : Fin k4_t3_loop.trips) : Fin 2 → Nat :=
  let c93_i32 : BitVec 32 := 93#32
  let v484 : Index := Scalar.indexCast c93_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v485 : Index := Scalar.indexCast v35
  ![93, v485.toNat]
def k4_off228 (k4_t3 : Fin k4_t3_loop.trips) : Fin 2 → Nat :=
  let c94_i32 : BitVec 32 := 94#32
  let v488 : Index := Scalar.indexCast c94_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v489 : Index := Scalar.indexCast v35
  ![94, v489.toNat]
def k4_off229 (k4_t3 : Fin k4_t3_loop.trips) : Fin 2 → Nat :=
  let c95_i32 : BitVec 32 := 95#32
  let v492 : Index := Scalar.indexCast c95_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v493 : Index := Scalar.indexCast v35
  ![95, v493.toNat]
def k4_off230 (k4_t3 : Fin k4_t3_loop.trips) : Fin 2 → Nat :=
  let c96_i32 : BitVec 32 := 96#32
  let v534 : Index := Scalar.indexCast c96_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v535 : Index := Scalar.indexCast v35
  ![96, v535.toNat]
def k4_off231 (k4_t3 : Fin k4_t3_loop.trips) : Fin 2 → Nat :=
  let c97_i32 : BitVec 32 := 97#32
  let v538 : Index := Scalar.indexCast c97_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v539 : Index := Scalar.indexCast v35
  ![97, v539.toNat]
def k4_off232 (k4_t3 : Fin k4_t3_loop.trips) : Fin 2 → Nat :=
  let c98_i32 : BitVec 32 := 98#32
  let v542 : Index := Scalar.indexCast c98_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v543 : Index := Scalar.indexCast v35
  ![98, v543.toNat]
def k4_off233 (k4_t3 : Fin k4_t3_loop.trips) : Fin 2 → Nat :=
  let c99_i32 : BitVec 32 := 99#32
  let v546 : Index := Scalar.indexCast c99_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v547 : Index := Scalar.indexCast v35
  ![99, v547.toNat]
def k4_off234 (k4_t3 : Fin k4_t3_loop.trips) : Fin 2 → Nat :=
  let c100_i32 : BitVec 32 := 100#32
  let v550 : Index := Scalar.indexCast c100_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v551 : Index := Scalar.indexCast v35
  ![100, v551.toNat]
def k4_off235 (k4_t3 : Fin k4_t3_loop.trips) : Fin 2 → Nat :=
  let c101_i32 : BitVec 32 := 101#32
  let v554 : Index := Scalar.indexCast c101_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v555 : Index := Scalar.indexCast v35
  ![101, v555.toNat]
def k4_off236 (k4_t3 : Fin k4_t3_loop.trips) : Fin 2 → Nat :=
  let c102_i32 : BitVec 32 := 102#32
  let v558 : Index := Scalar.indexCast c102_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v559 : Index := Scalar.indexCast v35
  ![102, v559.toNat]
def k4_off237 (k4_t3 : Fin k4_t3_loop.trips) : Fin 2 → Nat :=
  let c103_i32 : BitVec 32 := 103#32
  let v562 : Index := Scalar.indexCast c103_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v563 : Index := Scalar.indexCast v35
  ![103, v563.toNat]
def k4_off238 (k4_t3 : Fin k4_t3_loop.trips) : Fin 2 → Nat :=
  let c104_i32 : BitVec 32 := 104#32
  let v566 : Index := Scalar.indexCast c104_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v567 : Index := Scalar.indexCast v35
  ![104, v567.toNat]
def k4_off239 (k4_t3 : Fin k4_t3_loop.trips) : Fin 2 → Nat :=
  let c105_i32 : BitVec 32 := 105#32
  let v570 : Index := Scalar.indexCast c105_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v571 : Index := Scalar.indexCast v35
  ![105, v571.toNat]
def k4_off240 (k4_t3 : Fin k4_t3_loop.trips) : Fin 2 → Nat :=
  let c106_i32 : BitVec 32 := 106#32
  let v574 : Index := Scalar.indexCast c106_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v575 : Index := Scalar.indexCast v35
  ![106, v575.toNat]
def k4_off241 (k4_t3 : Fin k4_t3_loop.trips) : Fin 2 → Nat :=
  let c107_i32 : BitVec 32 := 107#32
  let v578 : Index := Scalar.indexCast c107_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v579 : Index := Scalar.indexCast v35
  ![107, v579.toNat]
def k4_off242 (k4_t3 : Fin k4_t3_loop.trips) : Fin 2 → Nat :=
  let c108_i32 : BitVec 32 := 108#32
  let v582 : Index := Scalar.indexCast c108_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v583 : Index := Scalar.indexCast v35
  ![108, v583.toNat]
def k4_off243 (k4_t3 : Fin k4_t3_loop.trips) : Fin 2 → Nat :=
  let c109_i32 : BitVec 32 := 109#32
  let v586 : Index := Scalar.indexCast c109_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v587 : Index := Scalar.indexCast v35
  ![109, v587.toNat]
def k4_off244 (k4_t3 : Fin k4_t3_loop.trips) : Fin 2 → Nat :=
  let c110_i32 : BitVec 32 := 110#32
  let v590 : Index := Scalar.indexCast c110_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v591 : Index := Scalar.indexCast v35
  ![110, v591.toNat]
def k4_off245 (k4_t3 : Fin k4_t3_loop.trips) : Fin 2 → Nat :=
  let c111_i32 : BitVec 32 := 111#32
  let v594 : Index := Scalar.indexCast c111_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v595 : Index := Scalar.indexCast v35
  ![111, v595.toNat]
def k4_off246 (k4_t3 : Fin k4_t3_loop.trips) : Fin 2 → Nat :=
  let c112_i32 : BitVec 32 := 112#32
  let v598 : Index := Scalar.indexCast c112_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v599 : Index := Scalar.indexCast v35
  ![112, v599.toNat]
def k4_off247 (k4_t3 : Fin k4_t3_loop.trips) : Fin 2 → Nat :=
  let c113_i32 : BitVec 32 := 113#32
  let v602 : Index := Scalar.indexCast c113_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v603 : Index := Scalar.indexCast v35
  ![113, v603.toNat]
def k4_off248 (k4_t3 : Fin k4_t3_loop.trips) : Fin 2 → Nat :=
  let c114_i32 : BitVec 32 := 114#32
  let v606 : Index := Scalar.indexCast c114_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v607 : Index := Scalar.indexCast v35
  ![114, v607.toNat]
def k4_off249 (k4_t3 : Fin k4_t3_loop.trips) : Fin 2 → Nat :=
  let c115_i32 : BitVec 32 := 115#32
  let v610 : Index := Scalar.indexCast c115_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v611 : Index := Scalar.indexCast v35
  ![115, v611.toNat]
def k4_off250 (k4_t3 : Fin k4_t3_loop.trips) : Fin 2 → Nat :=
  let c116_i32 : BitVec 32 := 116#32
  let v614 : Index := Scalar.indexCast c116_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v615 : Index := Scalar.indexCast v35
  ![116, v615.toNat]
def k4_off251 (k4_t3 : Fin k4_t3_loop.trips) : Fin 2 → Nat :=
  let c117_i32 : BitVec 32 := 117#32
  let v618 : Index := Scalar.indexCast c117_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v619 : Index := Scalar.indexCast v35
  ![117, v619.toNat]
def k4_off252 (k4_t3 : Fin k4_t3_loop.trips) : Fin 2 → Nat :=
  let c118_i32 : BitVec 32 := 118#32
  let v622 : Index := Scalar.indexCast c118_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v623 : Index := Scalar.indexCast v35
  ![118, v623.toNat]
def k4_off253 (k4_t3 : Fin k4_t3_loop.trips) : Fin 2 → Nat :=
  let c119_i32 : BitVec 32 := 119#32
  let v626 : Index := Scalar.indexCast c119_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v627 : Index := Scalar.indexCast v35
  ![119, v627.toNat]
def k4_off254 (k4_t3 : Fin k4_t3_loop.trips) : Fin 2 → Nat :=
  let c120_i32 : BitVec 32 := 120#32
  let v630 : Index := Scalar.indexCast c120_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v631 : Index := Scalar.indexCast v35
  ![120, v631.toNat]
def k4_off255 (k4_t3 : Fin k4_t3_loop.trips) : Fin 2 → Nat :=
  let c121_i32 : BitVec 32 := 121#32
  let v634 : Index := Scalar.indexCast c121_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v635 : Index := Scalar.indexCast v35
  ![121, v635.toNat]
def k4_off256 (k4_t3 : Fin k4_t3_loop.trips) : Fin 2 → Nat :=
  let c122_i32 : BitVec 32 := 122#32
  let v638 : Index := Scalar.indexCast c122_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v639 : Index := Scalar.indexCast v35
  ![122, v639.toNat]
def k4_off257 (k4_t3 : Fin k4_t3_loop.trips) : Fin 2 → Nat :=
  let c123_i32 : BitVec 32 := 123#32
  let v642 : Index := Scalar.indexCast c123_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v643 : Index := Scalar.indexCast v35
  ![123, v643.toNat]
def k4_off258 (k4_t3 : Fin k4_t3_loop.trips) : Fin 2 → Nat :=
  let c124_i32 : BitVec 32 := 124#32
  let v646 : Index := Scalar.indexCast c124_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v647 : Index := Scalar.indexCast v35
  ![124, v647.toNat]
def k4_off259 (k4_t3 : Fin k4_t3_loop.trips) : Fin 2 → Nat :=
  let c125_i32 : BitVec 32 := 125#32
  let v650 : Index := Scalar.indexCast c125_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v651 : Index := Scalar.indexCast v35
  ![125, v651.toNat]
def k4_off260 (k4_t3 : Fin k4_t3_loop.trips) : Fin 2 → Nat :=
  let c126_i32 : BitVec 32 := 126#32
  let v654 : Index := Scalar.indexCast c126_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v655 : Index := Scalar.indexCast v35
  ![126, v655.toNat]
def k4_off261 (k4_t3 : Fin k4_t3_loop.trips) : Fin 2 → Nat :=
  let c127_i32 : BitVec 32 := 127#32
  let v658 : Index := Scalar.indexCast c127_i32
  let c0_i32_29 : BitVec 32 := 0#32
  let c1_i32_31 : BitVec 32 := 1#32
  let arg13 : BitVec 32 := Scf.iv c0_i32_29 c1_i32_31 k4_t3
  let c16_i32_37 : BitVec 32 := 16#32
  let v34 : BitVec 32 := Scalar.muli arg13 c16_i32_37
  let v35 : BitVec 32 := v34
  let v659 : Index := Scalar.indexCast v35
  ![127, v659.toNat]
def k4_cond2 (k4_t1 : Fin k4_t1_loop.trips) : BitVec 1 :=
  let c0_i32_7 : BitVec 32 := 0#32
  let c1_i32_8 : BitVec 32 := 1#32
  let arg11 : BitVec 32 := Scf.iv c0_i32_7 c1_i32_8 k4_t1
  let c2_i32_23 : BitVec 32 := 2#32
  let v23 : BitVec 32 := Scalar.muli arg11 c2_i32_23
  let c1_i32_24 : BitVec 32 := 1#32
  let v24 : BitVec 32 := Scalar.addi v23 c1_i32_24
  let c2_i32_33 : BitVec 32 := 2#32
  let v30 : BitVec 32 := Scalar.addi v24 c2_i32_33
  let c16_i32_34 : BitVec 32 := 16#32
  let v31 : BitVec 1 := Scalar.cmpi .slt v30 c16_i32_34
  let v32 : BitVec 32 := Scalar.extui v31
  let c0_i32_35 : BitVec 32 := 0#32
  let v33 : BitVec 1 := Scalar.cmpi .ne v32 c0_i32_35
  v33

def k4_off262 (k4_t1 : Fin k4_t1_loop.trips) : Fin 2 → Nat :=
  let c0_i32_7 : BitVec 32 := 0#32
  let c1_i32_8 : BitVec 32 := 1#32
  let arg11 : BitVec 32 := Scf.iv c0_i32_7 c1_i32_8 k4_t1
  let c2_i32_23 : BitVec 32 := 2#32
  let v23 : BitVec 32 := Scalar.muli arg11 c2_i32_23
  let c1_i32_24 : BitVec 32 := 1#32
  let v24 : BitVec 32 := Scalar.addi v23 c1_i32_24
  let c2_i32_37 : BitVec 32 := 2#32
  let v34 : BitVec 32 := Scalar.addi v24 c2_i32_37
  let c0_i32_38 : BitVec 32 := 0#32
  ![v34.toNat, 0]
def k4_off263 (i : grid4.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v11 : BitVec 32 := Scalar.muli v1 c64_i32
  let c0_i32_10_r1 : BitVec 32 := 0#32
  ![v11.toNat, 0]
abbrev grid5 : Pipeline.Grid := ⟨1, ![8], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_1 (i : grid5.Coords) : Fin 3 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![c0_i32.toNat, v0.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage5_0 : Fin 2 → Memref sig .tc .vmem S1x256x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x256x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S1x256x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨2, ![2, 16], ![false, false]⟩

def k6_off1 (i : grid6.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_10_r0 : BitVec 32 := 0#32
  ![v2.toNat, 0]
@[reducible] def k6_t1_loop : Scf.Loop 32 :=
  let c0_i32_7 : BitVec 32 := 0#32
  let c8_i32 : BitVec 32 := 8#32
  let v9 : BitVec 32 := Scalar.addi c0_i32_7 c8_i32
  let c1_i32_8 : BitVec 32 := 1#32
  ⟨c0_i32_7, v9, c1_i32_8⟩
def k6_off2 (k6_t1 : Fin k6_t1_loop.trips) (c0_i32_11 : BitVec 32) : Fin 2 → Nat :=
  let c0_i32_7 : BitVec 32 := 0#32
  let c1_i32_8 : BitVec 32 := 1#32
  let arg11 : BitVec 32 := Scf.iv c0_i32_7 c1_i32_8 k6_t1
  let c2_i32_10 : BitVec 32 := 2#32
  let v12 : BitVec 32 := Scalar.muli arg11 c2_i32_10
  let v13 : BitVec 32 := Scalar.addi v12 c0_i32_11
  let c0_i32_12 : BitVec 32 := 0#32
  ![v13.toNat, 0]
@[reducible] def k6_t2_loop : Scf.Loop 32 :=
  let c0_i32_16 : BitVec 32 := 0#32
  let c8_i32_17 : BitVec 32 := 8#32
  let v17 : BitVec 32 := Scalar.addi c0_i32_16 c8_i32_17
  let c1_i32_18 : BitVec 32 := 1#32
  ⟨c0_i32_16, v17, c1_i32_18⟩
def k6_mult1 (k6_t2 : Fin k6_t2_loop.trips) : BitVec 32 :=
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  v34
def k6_off3 (k6_t2 : Fin k6_t2_loop.trips) : Fin 2 → Nat :=
  let c0_i32_38 : BitVec 32 := 0#32
  let v36 : Index := Scalar.indexCast c0_i32_38
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v37 : Index := Scalar.indexCast v35
  ![0, v37.toNat]
def k6_off4 (k6_t2 : Fin k6_t2_loop.trips) : Fin 2 → Nat :=
  let c1_i32_39 : BitVec 32 := 1#32
  let v40 : Index := Scalar.indexCast c1_i32_39
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v41 : Index := Scalar.indexCast v35
  ![1, v41.toNat]
def k6_off5 (k6_t2 : Fin k6_t2_loop.trips) : Fin 2 → Nat :=
  let c2_i32_40 : BitVec 32 := 2#32
  let v44 : Index := Scalar.indexCast c2_i32_40
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v45 : Index := Scalar.indexCast v35
  ![2, v45.toNat]
def k6_off6 (k6_t2 : Fin k6_t2_loop.trips) : Fin 2 → Nat :=
  let c3_i32 : BitVec 32 := 3#32
  let v48 : Index := Scalar.indexCast c3_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v49 : Index := Scalar.indexCast v35
  ![3, v49.toNat]
def k6_off7 (k6_t2 : Fin k6_t2_loop.trips) : Fin 2 → Nat :=
  let c4_i32 : BitVec 32 := 4#32
  let v52 : Index := Scalar.indexCast c4_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v53 : Index := Scalar.indexCast v35
  ![4, v53.toNat]
def k6_off8 (k6_t2 : Fin k6_t2_loop.trips) : Fin 2 → Nat :=
  let c5_i32 : BitVec 32 := 5#32
  let v56 : Index := Scalar.indexCast c5_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v57 : Index := Scalar.indexCast v35
  ![5, v57.toNat]
def k6_off9 (k6_t2 : Fin k6_t2_loop.trips) : Fin 2 → Nat :=
  let c6_i32 : BitVec 32 := 6#32
  let v60 : Index := Scalar.indexCast c6_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v61 : Index := Scalar.indexCast v35
  ![6, v61.toNat]
def k6_off10 (k6_t2 : Fin k6_t2_loop.trips) : Fin 2 → Nat :=
  let c7_i32 : BitVec 32 := 7#32
  let v64 : Index := Scalar.indexCast c7_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v65 : Index := Scalar.indexCast v35
  ![7, v65.toNat]
def k6_off11 (k6_t2 : Fin k6_t2_loop.trips) : Fin 2 → Nat :=
  let c8_i32_41 : BitVec 32 := 8#32
  let v68 : Index := Scalar.indexCast c8_i32_41
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v69 : Index := Scalar.indexCast v35
  ![8, v69.toNat]
def k6_off12 (k6_t2 : Fin k6_t2_loop.trips) : Fin 2 → Nat :=
  let c9_i32 : BitVec 32 := 9#32
  let v72 : Index := Scalar.indexCast c9_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v73 : Index := Scalar.indexCast v35
  ![9, v73.toNat]
def k6_off13 (k6_t2 : Fin k6_t2_loop.trips) : Fin 2 → Nat :=
  let c10_i32 : BitVec 32 := 10#32
  let v76 : Index := Scalar.indexCast c10_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v77 : Index := Scalar.indexCast v35
  ![10, v77.toNat]
def k6_off14 (k6_t2 : Fin k6_t2_loop.trips) : Fin 2 → Nat :=
  let c11_i32 : BitVec 32 := 11#32
  let v80 : Index := Scalar.indexCast c11_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v81 : Index := Scalar.indexCast v35
  ![11, v81.toNat]
def k6_off15 (k6_t2 : Fin k6_t2_loop.trips) : Fin 2 → Nat :=
  let c12_i32 : BitVec 32 := 12#32
  let v84 : Index := Scalar.indexCast c12_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v85 : Index := Scalar.indexCast v35
  ![12, v85.toNat]
def k6_off16 (k6_t2 : Fin k6_t2_loop.trips) : Fin 2 → Nat :=
  let c13_i32 : BitVec 32 := 13#32
  let v88 : Index := Scalar.indexCast c13_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v89 : Index := Scalar.indexCast v35
  ![13, v89.toNat]
def k6_off17 (k6_t2 : Fin k6_t2_loop.trips) : Fin 2 → Nat :=
  let c14_i32 : BitVec 32 := 14#32
  let v92 : Index := Scalar.indexCast c14_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v93 : Index := Scalar.indexCast v35
  ![14, v93.toNat]
def k6_off18 (k6_t2 : Fin k6_t2_loop.trips) : Fin 2 → Nat :=
  let c15_i32 : BitVec 32 := 15#32
  let v96 : Index := Scalar.indexCast c15_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v97 : Index := Scalar.indexCast v35
  ![15, v97.toNat]
def k6_off19 (k6_t2 : Fin k6_t2_loop.trips) : Fin 2 → Nat :=
  let c16_i32_42 : BitVec 32 := 16#32
  let v100 : Index := Scalar.indexCast c16_i32_42
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v101 : Index := Scalar.indexCast v35
  ![16, v101.toNat]
def k6_off20 (k6_t2 : Fin k6_t2_loop.trips) : Fin 2 → Nat :=
  let c17_i32 : BitVec 32 := 17#32
  let v104 : Index := Scalar.indexCast c17_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v105 : Index := Scalar.indexCast v35
  ![17, v105.toNat]
def k6_off21 (k6_t2 : Fin k6_t2_loop.trips) : Fin 2 → Nat :=
  let c18_i32 : BitVec 32 := 18#32
  let v108 : Index := Scalar.indexCast c18_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v109 : Index := Scalar.indexCast v35
  ![18, v109.toNat]
def k6_off22 (k6_t2 : Fin k6_t2_loop.trips) : Fin 2 → Nat :=
  let c19_i32 : BitVec 32 := 19#32
  let v112 : Index := Scalar.indexCast c19_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v113 : Index := Scalar.indexCast v35
  ![19, v113.toNat]
def k6_off23 (k6_t2 : Fin k6_t2_loop.trips) : Fin 2 → Nat :=
  let c20_i32 : BitVec 32 := 20#32
  let v116 : Index := Scalar.indexCast c20_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v117 : Index := Scalar.indexCast v35
  ![20, v117.toNat]
def k6_off24 (k6_t2 : Fin k6_t2_loop.trips) : Fin 2 → Nat :=
  let c21_i32 : BitVec 32 := 21#32
  let v120 : Index := Scalar.indexCast c21_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v121 : Index := Scalar.indexCast v35
  ![21, v121.toNat]
def k6_off25 (k6_t2 : Fin k6_t2_loop.trips) : Fin 2 → Nat :=
  let c22_i32 : BitVec 32 := 22#32
  let v124 : Index := Scalar.indexCast c22_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v125 : Index := Scalar.indexCast v35
  ![22, v125.toNat]
def k6_off26 (k6_t2 : Fin k6_t2_loop.trips) : Fin 2 → Nat :=
  let c23_i32 : BitVec 32 := 23#32
  let v128 : Index := Scalar.indexCast c23_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v129 : Index := Scalar.indexCast v35
  ![23, v129.toNat]
def k6_off27 (k6_t2 : Fin k6_t2_loop.trips) : Fin 2 → Nat :=
  let c24_i32 : BitVec 32 := 24#32
  let v132 : Index := Scalar.indexCast c24_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v133 : Index := Scalar.indexCast v35
  ![24, v133.toNat]
def k6_off28 (k6_t2 : Fin k6_t2_loop.trips) : Fin 2 → Nat :=
  let c25_i32 : BitVec 32 := 25#32
  let v136 : Index := Scalar.indexCast c25_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v137 : Index := Scalar.indexCast v35
  ![25, v137.toNat]
def k6_off29 (k6_t2 : Fin k6_t2_loop.trips) : Fin 2 → Nat :=
  let c26_i32 : BitVec 32 := 26#32
  let v140 : Index := Scalar.indexCast c26_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v141 : Index := Scalar.indexCast v35
  ![26, v141.toNat]
def k6_off30 (k6_t2 : Fin k6_t2_loop.trips) : Fin 2 → Nat :=
  let c27_i32 : BitVec 32 := 27#32
  let v144 : Index := Scalar.indexCast c27_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v145 : Index := Scalar.indexCast v35
  ![27, v145.toNat]
def k6_off31 (k6_t2 : Fin k6_t2_loop.trips) : Fin 2 → Nat :=
  let c28_i32 : BitVec 32 := 28#32
  let v148 : Index := Scalar.indexCast c28_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v149 : Index := Scalar.indexCast v35
  ![28, v149.toNat]
def k6_off32 (k6_t2 : Fin k6_t2_loop.trips) : Fin 2 → Nat :=
  let c29_i32 : BitVec 32 := 29#32
  let v152 : Index := Scalar.indexCast c29_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v153 : Index := Scalar.indexCast v35
  ![29, v153.toNat]
def k6_off33 (k6_t2 : Fin k6_t2_loop.trips) : Fin 2 → Nat :=
  let c30_i32 : BitVec 32 := 30#32
  let v156 : Index := Scalar.indexCast c30_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v157 : Index := Scalar.indexCast v35
  ![30, v157.toNat]
def k6_off34 (k6_t2 : Fin k6_t2_loop.trips) : Fin 2 → Nat :=
  let c31_i32 : BitVec 32 := 31#32
  let v160 : Index := Scalar.indexCast c31_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v161 : Index := Scalar.indexCast v35
  ![31, v161.toNat]
def k6_off35 (k6_t1 : Fin k6_t1_loop.trips) (k6_t2 : Fin k6_t2_loop.trips) (c0_i32_44 : BitVec 32) : Fin 2 → Nat :=
  let c0_i32_7 : BitVec 32 := 0#32
  let c1_i32_8 : BitVec 32 := 1#32
  let arg11 : BitVec 32 := Scf.iv c0_i32_7 c1_i32_8 k6_t1
  let c2_i32_10 : BitVec 32 := 2#32
  let v12 : BitVec 32 := Scalar.muli arg11 c2_i32_10
  let c0_i32_11 : BitVec 32 := 0#32
  let v13 : BitVec 32 := Scalar.addi v12 c0_i32_11
  let c4_i32_43 : BitVec 32 := 4#32
  let v195 : BitVec 32 := Scalar.muli v13 c4_i32_43
  let v196 : BitVec 32 := Scalar.addi v195 c0_i32_44
  let v197 : Index := Scalar.indexCast v196
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v198 : Index := Scalar.indexCast v35
  ![v197.toNat, v198.toNat]
def k6_off36 (k6_t2 : Fin k6_t2_loop.trips) : Fin 2 → Nat :=
  let c32_i32 : BitVec 32 := 32#32
  let v202 : Index := Scalar.indexCast c32_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v203 : Index := Scalar.indexCast v35
  ![32, v203.toNat]
def k6_off37 (k6_t2 : Fin k6_t2_loop.trips) : Fin 2 → Nat :=
  let c33_i32 : BitVec 32 := 33#32
  let v206 : Index := Scalar.indexCast c33_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v207 : Index := Scalar.indexCast v35
  ![33, v207.toNat]
def k6_off38 (k6_t2 : Fin k6_t2_loop.trips) : Fin 2 → Nat :=
  let c34_i32 : BitVec 32 := 34#32
  let v210 : Index := Scalar.indexCast c34_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v211 : Index := Scalar.indexCast v35
  ![34, v211.toNat]
def k6_off39 (k6_t2 : Fin k6_t2_loop.trips) : Fin 2 → Nat :=
  let c35_i32 : BitVec 32 := 35#32
  let v214 : Index := Scalar.indexCast c35_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v215 : Index := Scalar.indexCast v35
  ![35, v215.toNat]
def k6_off40 (k6_t2 : Fin k6_t2_loop.trips) : Fin 2 → Nat :=
  let c36_i32 : BitVec 32 := 36#32
  let v218 : Index := Scalar.indexCast c36_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v219 : Index := Scalar.indexCast v35
  ![36, v219.toNat]
def k6_off41 (k6_t2 : Fin k6_t2_loop.trips) : Fin 2 → Nat :=
  let c37_i32 : BitVec 32 := 37#32
  let v222 : Index := Scalar.indexCast c37_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v223 : Index := Scalar.indexCast v35
  ![37, v223.toNat]
def k6_off42 (k6_t2 : Fin k6_t2_loop.trips) : Fin 2 → Nat :=
  let c38_i32 : BitVec 32 := 38#32
  let v226 : Index := Scalar.indexCast c38_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v227 : Index := Scalar.indexCast v35
  ![38, v227.toNat]
def k6_off43 (k6_t2 : Fin k6_t2_loop.trips) : Fin 2 → Nat :=
  let c39_i32 : BitVec 32 := 39#32
  let v230 : Index := Scalar.indexCast c39_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v231 : Index := Scalar.indexCast v35
  ![39, v231.toNat]
def k6_off44 (k6_t2 : Fin k6_t2_loop.trips) : Fin 2 → Nat :=
  let c40_i32 : BitVec 32 := 40#32
  let v234 : Index := Scalar.indexCast c40_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v235 : Index := Scalar.indexCast v35
  ![40, v235.toNat]
def k6_off45 (k6_t2 : Fin k6_t2_loop.trips) : Fin 2 → Nat :=
  let c41_i32 : BitVec 32 := 41#32
  let v238 : Index := Scalar.indexCast c41_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v239 : Index := Scalar.indexCast v35
  ![41, v239.toNat]
def k6_off46 (k6_t2 : Fin k6_t2_loop.trips) : Fin 2 → Nat :=
  let c42_i32 : BitVec 32 := 42#32
  let v242 : Index := Scalar.indexCast c42_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v243 : Index := Scalar.indexCast v35
  ![42, v243.toNat]
def k6_off47 (k6_t2 : Fin k6_t2_loop.trips) : Fin 2 → Nat :=
  let c43_i32 : BitVec 32 := 43#32
  let v246 : Index := Scalar.indexCast c43_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v247 : Index := Scalar.indexCast v35
  ![43, v247.toNat]
def k6_off48 (k6_t2 : Fin k6_t2_loop.trips) : Fin 2 → Nat :=
  let c44_i32 : BitVec 32 := 44#32
  let v250 : Index := Scalar.indexCast c44_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v251 : Index := Scalar.indexCast v35
  ![44, v251.toNat]
def k6_off49 (k6_t2 : Fin k6_t2_loop.trips) : Fin 2 → Nat :=
  let c45_i32 : BitVec 32 := 45#32
  let v254 : Index := Scalar.indexCast c45_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v255 : Index := Scalar.indexCast v35
  ![45, v255.toNat]
def k6_off50 (k6_t2 : Fin k6_t2_loop.trips) : Fin 2 → Nat :=
  let c46_i32 : BitVec 32 := 46#32
  let v258 : Index := Scalar.indexCast c46_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v259 : Index := Scalar.indexCast v35
  ![46, v259.toNat]
def k6_off51 (k6_t2 : Fin k6_t2_loop.trips) : Fin 2 → Nat :=
  let c47_i32 : BitVec 32 := 47#32
  let v262 : Index := Scalar.indexCast c47_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v263 : Index := Scalar.indexCast v35
  ![47, v263.toNat]
def k6_off52 (k6_t2 : Fin k6_t2_loop.trips) : Fin 2 → Nat :=
  let c48_i32 : BitVec 32 := 48#32
  let v266 : Index := Scalar.indexCast c48_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v267 : Index := Scalar.indexCast v35
  ![48, v267.toNat]
def k6_off53 (k6_t2 : Fin k6_t2_loop.trips) : Fin 2 → Nat :=
  let c49_i32 : BitVec 32 := 49#32
  let v270 : Index := Scalar.indexCast c49_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v271 : Index := Scalar.indexCast v35
  ![49, v271.toNat]
def k6_off54 (k6_t2 : Fin k6_t2_loop.trips) : Fin 2 → Nat :=
  let c50_i32 : BitVec 32 := 50#32
  let v274 : Index := Scalar.indexCast c50_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v275 : Index := Scalar.indexCast v35
  ![50, v275.toNat]
def k6_off55 (k6_t2 : Fin k6_t2_loop.trips) : Fin 2 → Nat :=
  let c51_i32 : BitVec 32 := 51#32
  let v278 : Index := Scalar.indexCast c51_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v279 : Index := Scalar.indexCast v35
  ![51, v279.toNat]
def k6_off56 (k6_t2 : Fin k6_t2_loop.trips) : Fin 2 → Nat :=
  let c52_i32 : BitVec 32 := 52#32
  let v282 : Index := Scalar.indexCast c52_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v283 : Index := Scalar.indexCast v35
  ![52, v283.toNat]
def k6_off57 (k6_t2 : Fin k6_t2_loop.trips) : Fin 2 → Nat :=
  let c53_i32 : BitVec 32 := 53#32
  let v286 : Index := Scalar.indexCast c53_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v287 : Index := Scalar.indexCast v35
  ![53, v287.toNat]
def k6_off58 (k6_t2 : Fin k6_t2_loop.trips) : Fin 2 → Nat :=
  let c54_i32 : BitVec 32 := 54#32
  let v290 : Index := Scalar.indexCast c54_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v291 : Index := Scalar.indexCast v35
  ![54, v291.toNat]
def k6_off59 (k6_t2 : Fin k6_t2_loop.trips) : Fin 2 → Nat :=
  let c55_i32 : BitVec 32 := 55#32
  let v294 : Index := Scalar.indexCast c55_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v295 : Index := Scalar.indexCast v35
  ![55, v295.toNat]
def k6_off60 (k6_t2 : Fin k6_t2_loop.trips) : Fin 2 → Nat :=
  let c56_i32 : BitVec 32 := 56#32
  let v298 : Index := Scalar.indexCast c56_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v299 : Index := Scalar.indexCast v35
  ![56, v299.toNat]
def k6_off61 (k6_t2 : Fin k6_t2_loop.trips) : Fin 2 → Nat :=
  let c57_i32 : BitVec 32 := 57#32
  let v302 : Index := Scalar.indexCast c57_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v303 : Index := Scalar.indexCast v35
  ![57, v303.toNat]
def k6_off62 (k6_t2 : Fin k6_t2_loop.trips) : Fin 2 → Nat :=
  let c58_i32 : BitVec 32 := 58#32
  let v306 : Index := Scalar.indexCast c58_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v307 : Index := Scalar.indexCast v35
  ![58, v307.toNat]
def k6_off63 (k6_t2 : Fin k6_t2_loop.trips) : Fin 2 → Nat :=
  let c59_i32 : BitVec 32 := 59#32
  let v310 : Index := Scalar.indexCast c59_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v311 : Index := Scalar.indexCast v35
  ![59, v311.toNat]
def k6_off64 (k6_t2 : Fin k6_t2_loop.trips) : Fin 2 → Nat :=
  let c60_i32 : BitVec 32 := 60#32
  let v314 : Index := Scalar.indexCast c60_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v315 : Index := Scalar.indexCast v35
  ![60, v315.toNat]
def k6_off65 (k6_t2 : Fin k6_t2_loop.trips) : Fin 2 → Nat :=
  let c61_i32 : BitVec 32 := 61#32
  let v318 : Index := Scalar.indexCast c61_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v319 : Index := Scalar.indexCast v35
  ![61, v319.toNat]
def k6_off66 (k6_t2 : Fin k6_t2_loop.trips) : Fin 2 → Nat :=
  let c62_i32 : BitVec 32 := 62#32
  let v322 : Index := Scalar.indexCast c62_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v323 : Index := Scalar.indexCast v35
  ![62, v323.toNat]
def k6_off67 (k6_t2 : Fin k6_t2_loop.trips) : Fin 2 → Nat :=
  let c63_i32 : BitVec 32 := 63#32
  let v326 : Index := Scalar.indexCast c63_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v327 : Index := Scalar.indexCast v35
  ![63, v327.toNat]
def k6_off68 (k6_t2 : Fin k6_t2_loop.trips) : Fin 2 → Nat :=
  let c64_i32_47 : BitVec 32 := 64#32
  let v368 : Index := Scalar.indexCast c64_i32_47
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v369 : Index := Scalar.indexCast v35
  ![64, v369.toNat]
def k6_off69 (k6_t2 : Fin k6_t2_loop.trips) : Fin 2 → Nat :=
  let c65_i32 : BitVec 32 := 65#32
  let v372 : Index := Scalar.indexCast c65_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v373 : Index := Scalar.indexCast v35
  ![65, v373.toNat]
def k6_off70 (k6_t2 : Fin k6_t2_loop.trips) : Fin 2 → Nat :=
  let c66_i32 : BitVec 32 := 66#32
  let v376 : Index := Scalar.indexCast c66_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v377 : Index := Scalar.indexCast v35
  ![66, v377.toNat]
def k6_off71 (k6_t2 : Fin k6_t2_loop.trips) : Fin 2 → Nat :=
  let c67_i32 : BitVec 32 := 67#32
  let v380 : Index := Scalar.indexCast c67_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v381 : Index := Scalar.indexCast v35
  ![67, v381.toNat]
def k6_off72 (k6_t2 : Fin k6_t2_loop.trips) : Fin 2 → Nat :=
  let c68_i32 : BitVec 32 := 68#32
  let v384 : Index := Scalar.indexCast c68_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v385 : Index := Scalar.indexCast v35
  ![68, v385.toNat]
def k6_off73 (k6_t2 : Fin k6_t2_loop.trips) : Fin 2 → Nat :=
  let c69_i32 : BitVec 32 := 69#32
  let v388 : Index := Scalar.indexCast c69_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v389 : Index := Scalar.indexCast v35
  ![69, v389.toNat]
def k6_off74 (k6_t2 : Fin k6_t2_loop.trips) : Fin 2 → Nat :=
  let c70_i32 : BitVec 32 := 70#32
  let v392 : Index := Scalar.indexCast c70_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v393 : Index := Scalar.indexCast v35
  ![70, v393.toNat]
def k6_off75 (k6_t2 : Fin k6_t2_loop.trips) : Fin 2 → Nat :=
  let c71_i32 : BitVec 32 := 71#32
  let v396 : Index := Scalar.indexCast c71_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v397 : Index := Scalar.indexCast v35
  ![71, v397.toNat]
def k6_off76 (k6_t2 : Fin k6_t2_loop.trips) : Fin 2 → Nat :=
  let c72_i32 : BitVec 32 := 72#32
  let v400 : Index := Scalar.indexCast c72_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v401 : Index := Scalar.indexCast v35
  ![72, v401.toNat]
def k6_off77 (k6_t2 : Fin k6_t2_loop.trips) : Fin 2 → Nat :=
  let c73_i32 : BitVec 32 := 73#32
  let v404 : Index := Scalar.indexCast c73_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v405 : Index := Scalar.indexCast v35
  ![73, v405.toNat]
def k6_off78 (k6_t2 : Fin k6_t2_loop.trips) : Fin 2 → Nat :=
  let c74_i32 : BitVec 32 := 74#32
  let v408 : Index := Scalar.indexCast c74_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v409 : Index := Scalar.indexCast v35
  ![74, v409.toNat]
def k6_off79 (k6_t2 : Fin k6_t2_loop.trips) : Fin 2 → Nat :=
  let c75_i32 : BitVec 32 := 75#32
  let v412 : Index := Scalar.indexCast c75_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v413 : Index := Scalar.indexCast v35
  ![75, v413.toNat]
def k6_off80 (k6_t2 : Fin k6_t2_loop.trips) : Fin 2 → Nat :=
  let c76_i32 : BitVec 32 := 76#32
  let v416 : Index := Scalar.indexCast c76_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v417 : Index := Scalar.indexCast v35
  ![76, v417.toNat]
def k6_off81 (k6_t2 : Fin k6_t2_loop.trips) : Fin 2 → Nat :=
  let c77_i32 : BitVec 32 := 77#32
  let v420 : Index := Scalar.indexCast c77_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v421 : Index := Scalar.indexCast v35
  ![77, v421.toNat]
def k6_off82 (k6_t2 : Fin k6_t2_loop.trips) : Fin 2 → Nat :=
  let c78_i32 : BitVec 32 := 78#32
  let v424 : Index := Scalar.indexCast c78_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v425 : Index := Scalar.indexCast v35
  ![78, v425.toNat]
def k6_off83 (k6_t2 : Fin k6_t2_loop.trips) : Fin 2 → Nat :=
  let c79_i32 : BitVec 32 := 79#32
  let v428 : Index := Scalar.indexCast c79_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v429 : Index := Scalar.indexCast v35
  ![79, v429.toNat]
def k6_off84 (k6_t2 : Fin k6_t2_loop.trips) : Fin 2 → Nat :=
  let c80_i32 : BitVec 32 := 80#32
  let v432 : Index := Scalar.indexCast c80_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v433 : Index := Scalar.indexCast v35
  ![80, v433.toNat]
def k6_off85 (k6_t2 : Fin k6_t2_loop.trips) : Fin 2 → Nat :=
  let c81_i32 : BitVec 32 := 81#32
  let v436 : Index := Scalar.indexCast c81_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v437 : Index := Scalar.indexCast v35
  ![81, v437.toNat]
def k6_off86 (k6_t2 : Fin k6_t2_loop.trips) : Fin 2 → Nat :=
  let c82_i32 : BitVec 32 := 82#32
  let v440 : Index := Scalar.indexCast c82_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v441 : Index := Scalar.indexCast v35
  ![82, v441.toNat]
def k6_off87 (k6_t2 : Fin k6_t2_loop.trips) : Fin 2 → Nat :=
  let c83_i32 : BitVec 32 := 83#32
  let v444 : Index := Scalar.indexCast c83_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v445 : Index := Scalar.indexCast v35
  ![83, v445.toNat]
def k6_off88 (k6_t2 : Fin k6_t2_loop.trips) : Fin 2 → Nat :=
  let c84_i32 : BitVec 32 := 84#32
  let v448 : Index := Scalar.indexCast c84_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v449 : Index := Scalar.indexCast v35
  ![84, v449.toNat]
def k6_off89 (k6_t2 : Fin k6_t2_loop.trips) : Fin 2 → Nat :=
  let c85_i32 : BitVec 32 := 85#32
  let v452 : Index := Scalar.indexCast c85_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v453 : Index := Scalar.indexCast v35
  ![85, v453.toNat]
def k6_off90 (k6_t2 : Fin k6_t2_loop.trips) : Fin 2 → Nat :=
  let c86_i32 : BitVec 32 := 86#32
  let v456 : Index := Scalar.indexCast c86_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v457 : Index := Scalar.indexCast v35
  ![86, v457.toNat]
def k6_off91 (k6_t2 : Fin k6_t2_loop.trips) : Fin 2 → Nat :=
  let c87_i32 : BitVec 32 := 87#32
  let v460 : Index := Scalar.indexCast c87_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v461 : Index := Scalar.indexCast v35
  ![87, v461.toNat]
def k6_off92 (k6_t2 : Fin k6_t2_loop.trips) : Fin 2 → Nat :=
  let c88_i32 : BitVec 32 := 88#32
  let v464 : Index := Scalar.indexCast c88_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v465 : Index := Scalar.indexCast v35
  ![88, v465.toNat]
def k6_off93 (k6_t2 : Fin k6_t2_loop.trips) : Fin 2 → Nat :=
  let c89_i32 : BitVec 32 := 89#32
  let v468 : Index := Scalar.indexCast c89_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v469 : Index := Scalar.indexCast v35
  ![89, v469.toNat]
def k6_off94 (k6_t2 : Fin k6_t2_loop.trips) : Fin 2 → Nat :=
  let c90_i32 : BitVec 32 := 90#32
  let v472 : Index := Scalar.indexCast c90_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v473 : Index := Scalar.indexCast v35
  ![90, v473.toNat]
def k6_off95 (k6_t2 : Fin k6_t2_loop.trips) : Fin 2 → Nat :=
  let c91_i32 : BitVec 32 := 91#32
  let v476 : Index := Scalar.indexCast c91_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v477 : Index := Scalar.indexCast v35
  ![91, v477.toNat]
def k6_off96 (k6_t2 : Fin k6_t2_loop.trips) : Fin 2 → Nat :=
  let c92_i32 : BitVec 32 := 92#32
  let v480 : Index := Scalar.indexCast c92_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v481 : Index := Scalar.indexCast v35
  ![92, v481.toNat]
def k6_off97 (k6_t2 : Fin k6_t2_loop.trips) : Fin 2 → Nat :=
  let c93_i32 : BitVec 32 := 93#32
  let v484 : Index := Scalar.indexCast c93_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v485 : Index := Scalar.indexCast v35
  ![93, v485.toNat]
def k6_off98 (k6_t2 : Fin k6_t2_loop.trips) : Fin 2 → Nat :=
  let c94_i32 : BitVec 32 := 94#32
  let v488 : Index := Scalar.indexCast c94_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v489 : Index := Scalar.indexCast v35
  ![94, v489.toNat]
def k6_off99 (k6_t2 : Fin k6_t2_loop.trips) : Fin 2 → Nat :=
  let c95_i32 : BitVec 32 := 95#32
  let v492 : Index := Scalar.indexCast c95_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v493 : Index := Scalar.indexCast v35
  ![95, v493.toNat]
def k6_off100 (k6_t2 : Fin k6_t2_loop.trips) : Fin 2 → Nat :=
  let c96_i32 : BitVec 32 := 96#32
  let v534 : Index := Scalar.indexCast c96_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v535 : Index := Scalar.indexCast v35
  ![96, v535.toNat]
def k6_off101 (k6_t2 : Fin k6_t2_loop.trips) : Fin 2 → Nat :=
  let c97_i32 : BitVec 32 := 97#32
  let v538 : Index := Scalar.indexCast c97_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v539 : Index := Scalar.indexCast v35
  ![97, v539.toNat]
def k6_off102 (k6_t2 : Fin k6_t2_loop.trips) : Fin 2 → Nat :=
  let c98_i32 : BitVec 32 := 98#32
  let v542 : Index := Scalar.indexCast c98_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v543 : Index := Scalar.indexCast v35
  ![98, v543.toNat]
def k6_off103 (k6_t2 : Fin k6_t2_loop.trips) : Fin 2 → Nat :=
  let c99_i32 : BitVec 32 := 99#32
  let v546 : Index := Scalar.indexCast c99_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v547 : Index := Scalar.indexCast v35
  ![99, v547.toNat]
def k6_off104 (k6_t2 : Fin k6_t2_loop.trips) : Fin 2 → Nat :=
  let c100_i32 : BitVec 32 := 100#32
  let v550 : Index := Scalar.indexCast c100_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v551 : Index := Scalar.indexCast v35
  ![100, v551.toNat]
def k6_off105 (k6_t2 : Fin k6_t2_loop.trips) : Fin 2 → Nat :=
  let c101_i32 : BitVec 32 := 101#32
  let v554 : Index := Scalar.indexCast c101_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v555 : Index := Scalar.indexCast v35
  ![101, v555.toNat]
def k6_off106 (k6_t2 : Fin k6_t2_loop.trips) : Fin 2 → Nat :=
  let c102_i32 : BitVec 32 := 102#32
  let v558 : Index := Scalar.indexCast c102_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v559 : Index := Scalar.indexCast v35
  ![102, v559.toNat]
def k6_off107 (k6_t2 : Fin k6_t2_loop.trips) : Fin 2 → Nat :=
  let c103_i32 : BitVec 32 := 103#32
  let v562 : Index := Scalar.indexCast c103_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v563 : Index := Scalar.indexCast v35
  ![103, v563.toNat]
def k6_off108 (k6_t2 : Fin k6_t2_loop.trips) : Fin 2 → Nat :=
  let c104_i32 : BitVec 32 := 104#32
  let v566 : Index := Scalar.indexCast c104_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v567 : Index := Scalar.indexCast v35
  ![104, v567.toNat]
def k6_off109 (k6_t2 : Fin k6_t2_loop.trips) : Fin 2 → Nat :=
  let c105_i32 : BitVec 32 := 105#32
  let v570 : Index := Scalar.indexCast c105_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v571 : Index := Scalar.indexCast v35
  ![105, v571.toNat]
def k6_off110 (k6_t2 : Fin k6_t2_loop.trips) : Fin 2 → Nat :=
  let c106_i32 : BitVec 32 := 106#32
  let v574 : Index := Scalar.indexCast c106_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v575 : Index := Scalar.indexCast v35
  ![106, v575.toNat]
def k6_off111 (k6_t2 : Fin k6_t2_loop.trips) : Fin 2 → Nat :=
  let c107_i32 : BitVec 32 := 107#32
  let v578 : Index := Scalar.indexCast c107_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v579 : Index := Scalar.indexCast v35
  ![107, v579.toNat]
def k6_off112 (k6_t2 : Fin k6_t2_loop.trips) : Fin 2 → Nat :=
  let c108_i32 : BitVec 32 := 108#32
  let v582 : Index := Scalar.indexCast c108_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v583 : Index := Scalar.indexCast v35
  ![108, v583.toNat]
def k6_off113 (k6_t2 : Fin k6_t2_loop.trips) : Fin 2 → Nat :=
  let c109_i32 : BitVec 32 := 109#32
  let v586 : Index := Scalar.indexCast c109_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v587 : Index := Scalar.indexCast v35
  ![109, v587.toNat]
def k6_off114 (k6_t2 : Fin k6_t2_loop.trips) : Fin 2 → Nat :=
  let c110_i32 : BitVec 32 := 110#32
  let v590 : Index := Scalar.indexCast c110_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v591 : Index := Scalar.indexCast v35
  ![110, v591.toNat]
def k6_off115 (k6_t2 : Fin k6_t2_loop.trips) : Fin 2 → Nat :=
  let c111_i32 : BitVec 32 := 111#32
  let v594 : Index := Scalar.indexCast c111_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v595 : Index := Scalar.indexCast v35
  ![111, v595.toNat]
def k6_off116 (k6_t2 : Fin k6_t2_loop.trips) : Fin 2 → Nat :=
  let c112_i32 : BitVec 32 := 112#32
  let v598 : Index := Scalar.indexCast c112_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v599 : Index := Scalar.indexCast v35
  ![112, v599.toNat]
def k6_off117 (k6_t2 : Fin k6_t2_loop.trips) : Fin 2 → Nat :=
  let c113_i32 : BitVec 32 := 113#32
  let v602 : Index := Scalar.indexCast c113_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v603 : Index := Scalar.indexCast v35
  ![113, v603.toNat]
def k6_off118 (k6_t2 : Fin k6_t2_loop.trips) : Fin 2 → Nat :=
  let c114_i32 : BitVec 32 := 114#32
  let v606 : Index := Scalar.indexCast c114_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v607 : Index := Scalar.indexCast v35
  ![114, v607.toNat]
def k6_off119 (k6_t2 : Fin k6_t2_loop.trips) : Fin 2 → Nat :=
  let c115_i32 : BitVec 32 := 115#32
  let v610 : Index := Scalar.indexCast c115_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v611 : Index := Scalar.indexCast v35
  ![115, v611.toNat]
def k6_off120 (k6_t2 : Fin k6_t2_loop.trips) : Fin 2 → Nat :=
  let c116_i32 : BitVec 32 := 116#32
  let v614 : Index := Scalar.indexCast c116_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v615 : Index := Scalar.indexCast v35
  ![116, v615.toNat]
def k6_off121 (k6_t2 : Fin k6_t2_loop.trips) : Fin 2 → Nat :=
  let c117_i32 : BitVec 32 := 117#32
  let v618 : Index := Scalar.indexCast c117_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v619 : Index := Scalar.indexCast v35
  ![117, v619.toNat]
def k6_off122 (k6_t2 : Fin k6_t2_loop.trips) : Fin 2 → Nat :=
  let c118_i32 : BitVec 32 := 118#32
  let v622 : Index := Scalar.indexCast c118_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v623 : Index := Scalar.indexCast v35
  ![118, v623.toNat]
def k6_off123 (k6_t2 : Fin k6_t2_loop.trips) : Fin 2 → Nat :=
  let c119_i32 : BitVec 32 := 119#32
  let v626 : Index := Scalar.indexCast c119_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v627 : Index := Scalar.indexCast v35
  ![119, v627.toNat]
def k6_off124 (k6_t2 : Fin k6_t2_loop.trips) : Fin 2 → Nat :=
  let c120_i32 : BitVec 32 := 120#32
  let v630 : Index := Scalar.indexCast c120_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v631 : Index := Scalar.indexCast v35
  ![120, v631.toNat]
def k6_off125 (k6_t2 : Fin k6_t2_loop.trips) : Fin 2 → Nat :=
  let c121_i32 : BitVec 32 := 121#32
  let v634 : Index := Scalar.indexCast c121_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v635 : Index := Scalar.indexCast v35
  ![121, v635.toNat]
def k6_off126 (k6_t2 : Fin k6_t2_loop.trips) : Fin 2 → Nat :=
  let c122_i32 : BitVec 32 := 122#32
  let v638 : Index := Scalar.indexCast c122_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v639 : Index := Scalar.indexCast v35
  ![122, v639.toNat]
def k6_off127 (k6_t2 : Fin k6_t2_loop.trips) : Fin 2 → Nat :=
  let c123_i32 : BitVec 32 := 123#32
  let v642 : Index := Scalar.indexCast c123_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v643 : Index := Scalar.indexCast v35
  ![123, v643.toNat]
def k6_off128 (k6_t2 : Fin k6_t2_loop.trips) : Fin 2 → Nat :=
  let c124_i32 : BitVec 32 := 124#32
  let v646 : Index := Scalar.indexCast c124_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v647 : Index := Scalar.indexCast v35
  ![124, v647.toNat]
def k6_off129 (k6_t2 : Fin k6_t2_loop.trips) : Fin 2 → Nat :=
  let c125_i32 : BitVec 32 := 125#32
  let v650 : Index := Scalar.indexCast c125_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v651 : Index := Scalar.indexCast v35
  ![125, v651.toNat]
def k6_off130 (k6_t2 : Fin k6_t2_loop.trips) : Fin 2 → Nat :=
  let c126_i32 : BitVec 32 := 126#32
  let v654 : Index := Scalar.indexCast c126_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v655 : Index := Scalar.indexCast v35
  ![126, v655.toNat]
def k6_off131 (k6_t2 : Fin k6_t2_loop.trips) : Fin 2 → Nat :=
  let c127_i32 : BitVec 32 := 127#32
  let v658 : Index := Scalar.indexCast c127_i32
  let c0_i32_16 : BitVec 32 := 0#32
  let c1_i32_18 : BitVec 32 := 1#32
  let arg13 : BitVec 32 := Scf.iv c0_i32_16 c1_i32_18 k6_t2
  let c16_i32_37 : BitVec 32 := 16#32
  let v34 : BitVec 32 := Scalar.muli arg13 c16_i32_37
  let v35 : BitVec 32 := v34
  let v659 : Index := Scalar.indexCast v35
  ![127, v659.toNat]
def k6_cond1 (k6_t1 : Fin k6_t1_loop.trips) : BitVec 1 :=
  let c0_i32_7 : BitVec 32 := 0#32
  let c1_i32_8 : BitVec 32 := 1#32
  let arg11 : BitVec 32 := Scf.iv c0_i32_7 c1_i32_8 k6_t1
  let c2_i32_10 : BitVec 32 := 2#32
  let v12 : BitVec 32 := Scalar.muli arg11 c2_i32_10
  let c0_i32_11 : BitVec 32 := 0#32
  let v13 : BitVec 32 := Scalar.addi v12 c0_i32_11
  let c2_i32_20 : BitVec 32 := 2#32
  let v19 : BitVec 32 := Scalar.addi v13 c2_i32_20
  let c16_i32_21 : BitVec 32 := 16#32
  let v20 : BitVec 1 := Scalar.cmpi .slt v19 c16_i32_21
  let v21 : BitVec 32 := Scalar.extui v20
  let c0_i32_22 : BitVec 32 := 0#32
  let v22 : BitVec 1 := Scalar.cmpi .ne v21 c0_i32_22
  v22

def k6_off132 (k6_t1 : Fin k6_t1_loop.trips) : Fin 2 → Nat :=
  let c0_i32_7 : BitVec 32 := 0#32
  let c1_i32_8 : BitVec 32 := 1#32
  let arg11 : BitVec 32 := Scf.iv c0_i32_7 c1_i32_8 k6_t1
  let c2_i32_10 : BitVec 32 := 2#32
  let v12 : BitVec 32 := Scalar.muli arg11 c2_i32_10
  let c0_i32_11 : BitVec 32 := 0#32
  let v13 : BitVec 32 := Scalar.addi v12 c0_i32_11
  let c2_i32_37 : BitVec 32 := 2#32
  let v34 : BitVec 32 := Scalar.addi v13 c2_i32_37
  let c0_i32_38 : BitVec 32 := 0#32
  ![v34.toNat, 0]
@[reducible] def k6_t3_loop : Scf.Loop 32 :=
  let c0_i32_29 : BitVec 32 := 0#32
  let c8_i32_30 : BitVec 32 := 8#32
  let v28 : BitVec 32 := Scalar.addi c0_i32_29 c8_i32_30
  let c1_i32_31 : BitVec 32 := 1#32
  ⟨c0_i32_29, v28, c1_i32_31⟩
def k6_mult2 (k6_t3 : Fin k6_t3_loop.trips) : BitVec 32 :=
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  v34
def k6_off133 (k6_t3 : Fin k6_t3_loop.trips) : Fin 2 → Nat :=
  let c0_i32_38 : BitVec 32 := 0#32
  let v36 : Index := Scalar.indexCast c0_i32_38
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v37 : Index := Scalar.indexCast v35
  ![0, v37.toNat]
def k6_off134 (k6_t3 : Fin k6_t3_loop.trips) : Fin 2 → Nat :=
  let c1_i32_39 : BitVec 32 := 1#32
  let v40 : Index := Scalar.indexCast c1_i32_39
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v41 : Index := Scalar.indexCast v35
  ![1, v41.toNat]
def k6_off135 (k6_t3 : Fin k6_t3_loop.trips) : Fin 2 → Nat :=
  let c2_i32_40 : BitVec 32 := 2#32
  let v44 : Index := Scalar.indexCast c2_i32_40
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v45 : Index := Scalar.indexCast v35
  ![2, v45.toNat]
def k6_off136 (k6_t3 : Fin k6_t3_loop.trips) : Fin 2 → Nat :=
  let c3_i32 : BitVec 32 := 3#32
  let v48 : Index := Scalar.indexCast c3_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v49 : Index := Scalar.indexCast v35
  ![3, v49.toNat]
def k6_off137 (k6_t3 : Fin k6_t3_loop.trips) : Fin 2 → Nat :=
  let c4_i32 : BitVec 32 := 4#32
  let v52 : Index := Scalar.indexCast c4_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v53 : Index := Scalar.indexCast v35
  ![4, v53.toNat]
def k6_off138 (k6_t3 : Fin k6_t3_loop.trips) : Fin 2 → Nat :=
  let c5_i32 : BitVec 32 := 5#32
  let v56 : Index := Scalar.indexCast c5_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v57 : Index := Scalar.indexCast v35
  ![5, v57.toNat]
def k6_off139 (k6_t3 : Fin k6_t3_loop.trips) : Fin 2 → Nat :=
  let c6_i32 : BitVec 32 := 6#32
  let v60 : Index := Scalar.indexCast c6_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v61 : Index := Scalar.indexCast v35
  ![6, v61.toNat]
def k6_off140 (k6_t3 : Fin k6_t3_loop.trips) : Fin 2 → Nat :=
  let c7_i32 : BitVec 32 := 7#32
  let v64 : Index := Scalar.indexCast c7_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v65 : Index := Scalar.indexCast v35
  ![7, v65.toNat]
def k6_off141 (k6_t3 : Fin k6_t3_loop.trips) : Fin 2 → Nat :=
  let c8_i32_41 : BitVec 32 := 8#32
  let v68 : Index := Scalar.indexCast c8_i32_41
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v69 : Index := Scalar.indexCast v35
  ![8, v69.toNat]
def k6_off142 (k6_t3 : Fin k6_t3_loop.trips) : Fin 2 → Nat :=
  let c9_i32 : BitVec 32 := 9#32
  let v72 : Index := Scalar.indexCast c9_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v73 : Index := Scalar.indexCast v35
  ![9, v73.toNat]
def k6_off143 (k6_t3 : Fin k6_t3_loop.trips) : Fin 2 → Nat :=
  let c10_i32 : BitVec 32 := 10#32
  let v76 : Index := Scalar.indexCast c10_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v77 : Index := Scalar.indexCast v35
  ![10, v77.toNat]
def k6_off144 (k6_t3 : Fin k6_t3_loop.trips) : Fin 2 → Nat :=
  let c11_i32 : BitVec 32 := 11#32
  let v80 : Index := Scalar.indexCast c11_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v81 : Index := Scalar.indexCast v35
  ![11, v81.toNat]
def k6_off145 (k6_t3 : Fin k6_t3_loop.trips) : Fin 2 → Nat :=
  let c12_i32 : BitVec 32 := 12#32
  let v84 : Index := Scalar.indexCast c12_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v85 : Index := Scalar.indexCast v35
  ![12, v85.toNat]
def k6_off146 (k6_t3 : Fin k6_t3_loop.trips) : Fin 2 → Nat :=
  let c13_i32 : BitVec 32 := 13#32
  let v88 : Index := Scalar.indexCast c13_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v89 : Index := Scalar.indexCast v35
  ![13, v89.toNat]
def k6_off147 (k6_t3 : Fin k6_t3_loop.trips) : Fin 2 → Nat :=
  let c14_i32 : BitVec 32 := 14#32
  let v92 : Index := Scalar.indexCast c14_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v93 : Index := Scalar.indexCast v35
  ![14, v93.toNat]
def k6_off148 (k6_t3 : Fin k6_t3_loop.trips) : Fin 2 → Nat :=
  let c15_i32 : BitVec 32 := 15#32
  let v96 : Index := Scalar.indexCast c15_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v97 : Index := Scalar.indexCast v35
  ![15, v97.toNat]
def k6_off149 (k6_t3 : Fin k6_t3_loop.trips) : Fin 2 → Nat :=
  let c16_i32_42 : BitVec 32 := 16#32
  let v100 : Index := Scalar.indexCast c16_i32_42
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v101 : Index := Scalar.indexCast v35
  ![16, v101.toNat]
def k6_off150 (k6_t3 : Fin k6_t3_loop.trips) : Fin 2 → Nat :=
  let c17_i32 : BitVec 32 := 17#32
  let v104 : Index := Scalar.indexCast c17_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v105 : Index := Scalar.indexCast v35
  ![17, v105.toNat]
def k6_off151 (k6_t3 : Fin k6_t3_loop.trips) : Fin 2 → Nat :=
  let c18_i32 : BitVec 32 := 18#32
  let v108 : Index := Scalar.indexCast c18_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v109 : Index := Scalar.indexCast v35
  ![18, v109.toNat]
def k6_off152 (k6_t3 : Fin k6_t3_loop.trips) : Fin 2 → Nat :=
  let c19_i32 : BitVec 32 := 19#32
  let v112 : Index := Scalar.indexCast c19_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v113 : Index := Scalar.indexCast v35
  ![19, v113.toNat]
def k6_off153 (k6_t3 : Fin k6_t3_loop.trips) : Fin 2 → Nat :=
  let c20_i32 : BitVec 32 := 20#32
  let v116 : Index := Scalar.indexCast c20_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v117 : Index := Scalar.indexCast v35
  ![20, v117.toNat]
def k6_off154 (k6_t3 : Fin k6_t3_loop.trips) : Fin 2 → Nat :=
  let c21_i32 : BitVec 32 := 21#32
  let v120 : Index := Scalar.indexCast c21_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v121 : Index := Scalar.indexCast v35
  ![21, v121.toNat]
def k6_off155 (k6_t3 : Fin k6_t3_loop.trips) : Fin 2 → Nat :=
  let c22_i32 : BitVec 32 := 22#32
  let v124 : Index := Scalar.indexCast c22_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v125 : Index := Scalar.indexCast v35
  ![22, v125.toNat]
def k6_off156 (k6_t3 : Fin k6_t3_loop.trips) : Fin 2 → Nat :=
  let c23_i32 : BitVec 32 := 23#32
  let v128 : Index := Scalar.indexCast c23_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v129 : Index := Scalar.indexCast v35
  ![23, v129.toNat]
def k6_off157 (k6_t3 : Fin k6_t3_loop.trips) : Fin 2 → Nat :=
  let c24_i32 : BitVec 32 := 24#32
  let v132 : Index := Scalar.indexCast c24_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v133 : Index := Scalar.indexCast v35
  ![24, v133.toNat]
def k6_off158 (k6_t3 : Fin k6_t3_loop.trips) : Fin 2 → Nat :=
  let c25_i32 : BitVec 32 := 25#32
  let v136 : Index := Scalar.indexCast c25_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v137 : Index := Scalar.indexCast v35
  ![25, v137.toNat]
def k6_off159 (k6_t3 : Fin k6_t3_loop.trips) : Fin 2 → Nat :=
  let c26_i32 : BitVec 32 := 26#32
  let v140 : Index := Scalar.indexCast c26_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v141 : Index := Scalar.indexCast v35
  ![26, v141.toNat]
def k6_off160 (k6_t3 : Fin k6_t3_loop.trips) : Fin 2 → Nat :=
  let c27_i32 : BitVec 32 := 27#32
  let v144 : Index := Scalar.indexCast c27_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v145 : Index := Scalar.indexCast v35
  ![27, v145.toNat]
def k6_off161 (k6_t3 : Fin k6_t3_loop.trips) : Fin 2 → Nat :=
  let c28_i32 : BitVec 32 := 28#32
  let v148 : Index := Scalar.indexCast c28_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v149 : Index := Scalar.indexCast v35
  ![28, v149.toNat]
def k6_off162 (k6_t3 : Fin k6_t3_loop.trips) : Fin 2 → Nat :=
  let c29_i32 : BitVec 32 := 29#32
  let v152 : Index := Scalar.indexCast c29_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v153 : Index := Scalar.indexCast v35
  ![29, v153.toNat]
def k6_off163 (k6_t3 : Fin k6_t3_loop.trips) : Fin 2 → Nat :=
  let c30_i32 : BitVec 32 := 30#32
  let v156 : Index := Scalar.indexCast c30_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v157 : Index := Scalar.indexCast v35
  ![30, v157.toNat]
def k6_off164 (k6_t3 : Fin k6_t3_loop.trips) : Fin 2 → Nat :=
  let c31_i32 : BitVec 32 := 31#32
  let v160 : Index := Scalar.indexCast c31_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v161 : Index := Scalar.indexCast v35
  ![31, v161.toNat]
def k6_off165 (k6_t1 : Fin k6_t1_loop.trips) (k6_t3 : Fin k6_t3_loop.trips) (c0_i32_44 : BitVec 32) : Fin 2 → Nat :=
  let c0_i32_7 : BitVec 32 := 0#32
  let c1_i32_8 : BitVec 32 := 1#32
  let arg11 : BitVec 32 := Scf.iv c0_i32_7 c1_i32_8 k6_t1
  let c2_i32_23 : BitVec 32 := 2#32
  let v23 : BitVec 32 := Scalar.muli arg11 c2_i32_23
  let c1_i32_24 : BitVec 32 := 1#32
  let v24 : BitVec 32 := Scalar.addi v23 c1_i32_24
  let c4_i32_43 : BitVec 32 := 4#32
  let v195 : BitVec 32 := Scalar.muli v24 c4_i32_43
  let v196 : BitVec 32 := Scalar.addi v195 c0_i32_44
  let v197 : Index := Scalar.indexCast v196
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v198 : Index := Scalar.indexCast v35
  ![v197.toNat, v198.toNat]
def k6_off166 (k6_t3 : Fin k6_t3_loop.trips) : Fin 2 → Nat :=
  let c32_i32 : BitVec 32 := 32#32
  let v202 : Index := Scalar.indexCast c32_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v203 : Index := Scalar.indexCast v35
  ![32, v203.toNat]
def k6_off167 (k6_t3 : Fin k6_t3_loop.trips) : Fin 2 → Nat :=
  let c33_i32 : BitVec 32 := 33#32
  let v206 : Index := Scalar.indexCast c33_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v207 : Index := Scalar.indexCast v35
  ![33, v207.toNat]
def k6_off168 (k6_t3 : Fin k6_t3_loop.trips) : Fin 2 → Nat :=
  let c34_i32 : BitVec 32 := 34#32
  let v210 : Index := Scalar.indexCast c34_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v211 : Index := Scalar.indexCast v35
  ![34, v211.toNat]
def k6_off169 (k6_t3 : Fin k6_t3_loop.trips) : Fin 2 → Nat :=
  let c35_i32 : BitVec 32 := 35#32
  let v214 : Index := Scalar.indexCast c35_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v215 : Index := Scalar.indexCast v35
  ![35, v215.toNat]
def k6_off170 (k6_t3 : Fin k6_t3_loop.trips) : Fin 2 → Nat :=
  let c36_i32 : BitVec 32 := 36#32
  let v218 : Index := Scalar.indexCast c36_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v219 : Index := Scalar.indexCast v35
  ![36, v219.toNat]
def k6_off171 (k6_t3 : Fin k6_t3_loop.trips) : Fin 2 → Nat :=
  let c37_i32 : BitVec 32 := 37#32
  let v222 : Index := Scalar.indexCast c37_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v223 : Index := Scalar.indexCast v35
  ![37, v223.toNat]
def k6_off172 (k6_t3 : Fin k6_t3_loop.trips) : Fin 2 → Nat :=
  let c38_i32 : BitVec 32 := 38#32
  let v226 : Index := Scalar.indexCast c38_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v227 : Index := Scalar.indexCast v35
  ![38, v227.toNat]
def k6_off173 (k6_t3 : Fin k6_t3_loop.trips) : Fin 2 → Nat :=
  let c39_i32 : BitVec 32 := 39#32
  let v230 : Index := Scalar.indexCast c39_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v231 : Index := Scalar.indexCast v35
  ![39, v231.toNat]
def k6_off174 (k6_t3 : Fin k6_t3_loop.trips) : Fin 2 → Nat :=
  let c40_i32 : BitVec 32 := 40#32
  let v234 : Index := Scalar.indexCast c40_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v235 : Index := Scalar.indexCast v35
  ![40, v235.toNat]
def k6_off175 (k6_t3 : Fin k6_t3_loop.trips) : Fin 2 → Nat :=
  let c41_i32 : BitVec 32 := 41#32
  let v238 : Index := Scalar.indexCast c41_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v239 : Index := Scalar.indexCast v35
  ![41, v239.toNat]
def k6_off176 (k6_t3 : Fin k6_t3_loop.trips) : Fin 2 → Nat :=
  let c42_i32 : BitVec 32 := 42#32
  let v242 : Index := Scalar.indexCast c42_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v243 : Index := Scalar.indexCast v35
  ![42, v243.toNat]
def k6_off177 (k6_t3 : Fin k6_t3_loop.trips) : Fin 2 → Nat :=
  let c43_i32 : BitVec 32 := 43#32
  let v246 : Index := Scalar.indexCast c43_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v247 : Index := Scalar.indexCast v35
  ![43, v247.toNat]
def k6_off178 (k6_t3 : Fin k6_t3_loop.trips) : Fin 2 → Nat :=
  let c44_i32 : BitVec 32 := 44#32
  let v250 : Index := Scalar.indexCast c44_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v251 : Index := Scalar.indexCast v35
  ![44, v251.toNat]
def k6_off179 (k6_t3 : Fin k6_t3_loop.trips) : Fin 2 → Nat :=
  let c45_i32 : BitVec 32 := 45#32
  let v254 : Index := Scalar.indexCast c45_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v255 : Index := Scalar.indexCast v35
  ![45, v255.toNat]
def k6_off180 (k6_t3 : Fin k6_t3_loop.trips) : Fin 2 → Nat :=
  let c46_i32 : BitVec 32 := 46#32
  let v258 : Index := Scalar.indexCast c46_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v259 : Index := Scalar.indexCast v35
  ![46, v259.toNat]
def k6_off181 (k6_t3 : Fin k6_t3_loop.trips) : Fin 2 → Nat :=
  let c47_i32 : BitVec 32 := 47#32
  let v262 : Index := Scalar.indexCast c47_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v263 : Index := Scalar.indexCast v35
  ![47, v263.toNat]
def k6_off182 (k6_t3 : Fin k6_t3_loop.trips) : Fin 2 → Nat :=
  let c48_i32 : BitVec 32 := 48#32
  let v266 : Index := Scalar.indexCast c48_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v267 : Index := Scalar.indexCast v35
  ![48, v267.toNat]
def k6_off183 (k6_t3 : Fin k6_t3_loop.trips) : Fin 2 → Nat :=
  let c49_i32 : BitVec 32 := 49#32
  let v270 : Index := Scalar.indexCast c49_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v271 : Index := Scalar.indexCast v35
  ![49, v271.toNat]
def k6_off184 (k6_t3 : Fin k6_t3_loop.trips) : Fin 2 → Nat :=
  let c50_i32 : BitVec 32 := 50#32
  let v274 : Index := Scalar.indexCast c50_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v275 : Index := Scalar.indexCast v35
  ![50, v275.toNat]
def k6_off185 (k6_t3 : Fin k6_t3_loop.trips) : Fin 2 → Nat :=
  let c51_i32 : BitVec 32 := 51#32
  let v278 : Index := Scalar.indexCast c51_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v279 : Index := Scalar.indexCast v35
  ![51, v279.toNat]
def k6_off186 (k6_t3 : Fin k6_t3_loop.trips) : Fin 2 → Nat :=
  let c52_i32 : BitVec 32 := 52#32
  let v282 : Index := Scalar.indexCast c52_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v283 : Index := Scalar.indexCast v35
  ![52, v283.toNat]
def k6_off187 (k6_t3 : Fin k6_t3_loop.trips) : Fin 2 → Nat :=
  let c53_i32 : BitVec 32 := 53#32
  let v286 : Index := Scalar.indexCast c53_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v287 : Index := Scalar.indexCast v35
  ![53, v287.toNat]
def k6_off188 (k6_t3 : Fin k6_t3_loop.trips) : Fin 2 → Nat :=
  let c54_i32 : BitVec 32 := 54#32
  let v290 : Index := Scalar.indexCast c54_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v291 : Index := Scalar.indexCast v35
  ![54, v291.toNat]
def k6_off189 (k6_t3 : Fin k6_t3_loop.trips) : Fin 2 → Nat :=
  let c55_i32 : BitVec 32 := 55#32
  let v294 : Index := Scalar.indexCast c55_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v295 : Index := Scalar.indexCast v35
  ![55, v295.toNat]
def k6_off190 (k6_t3 : Fin k6_t3_loop.trips) : Fin 2 → Nat :=
  let c56_i32 : BitVec 32 := 56#32
  let v298 : Index := Scalar.indexCast c56_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v299 : Index := Scalar.indexCast v35
  ![56, v299.toNat]
def k6_off191 (k6_t3 : Fin k6_t3_loop.trips) : Fin 2 → Nat :=
  let c57_i32 : BitVec 32 := 57#32
  let v302 : Index := Scalar.indexCast c57_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v303 : Index := Scalar.indexCast v35
  ![57, v303.toNat]
def k6_off192 (k6_t3 : Fin k6_t3_loop.trips) : Fin 2 → Nat :=
  let c58_i32 : BitVec 32 := 58#32
  let v306 : Index := Scalar.indexCast c58_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v307 : Index := Scalar.indexCast v35
  ![58, v307.toNat]
def k6_off193 (k6_t3 : Fin k6_t3_loop.trips) : Fin 2 → Nat :=
  let c59_i32 : BitVec 32 := 59#32
  let v310 : Index := Scalar.indexCast c59_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v311 : Index := Scalar.indexCast v35
  ![59, v311.toNat]
def k6_off194 (k6_t3 : Fin k6_t3_loop.trips) : Fin 2 → Nat :=
  let c60_i32 : BitVec 32 := 60#32
  let v314 : Index := Scalar.indexCast c60_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v315 : Index := Scalar.indexCast v35
  ![60, v315.toNat]
def k6_off195 (k6_t3 : Fin k6_t3_loop.trips) : Fin 2 → Nat :=
  let c61_i32 : BitVec 32 := 61#32
  let v318 : Index := Scalar.indexCast c61_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v319 : Index := Scalar.indexCast v35
  ![61, v319.toNat]
def k6_off196 (k6_t3 : Fin k6_t3_loop.trips) : Fin 2 → Nat :=
  let c62_i32 : BitVec 32 := 62#32
  let v322 : Index := Scalar.indexCast c62_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v323 : Index := Scalar.indexCast v35
  ![62, v323.toNat]
def k6_off197 (k6_t3 : Fin k6_t3_loop.trips) : Fin 2 → Nat :=
  let c63_i32 : BitVec 32 := 63#32
  let v326 : Index := Scalar.indexCast c63_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v327 : Index := Scalar.indexCast v35
  ![63, v327.toNat]
def k6_off198 (k6_t3 : Fin k6_t3_loop.trips) : Fin 2 → Nat :=
  let c64_i32_47 : BitVec 32 := 64#32
  let v368 : Index := Scalar.indexCast c64_i32_47
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v369 : Index := Scalar.indexCast v35
  ![64, v369.toNat]
def k6_off199 (k6_t3 : Fin k6_t3_loop.trips) : Fin 2 → Nat :=
  let c65_i32 : BitVec 32 := 65#32
  let v372 : Index := Scalar.indexCast c65_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v373 : Index := Scalar.indexCast v35
  ![65, v373.toNat]
def k6_off200 (k6_t3 : Fin k6_t3_loop.trips) : Fin 2 → Nat :=
  let c66_i32 : BitVec 32 := 66#32
  let v376 : Index := Scalar.indexCast c66_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v377 : Index := Scalar.indexCast v35
  ![66, v377.toNat]
def k6_off201 (k6_t3 : Fin k6_t3_loop.trips) : Fin 2 → Nat :=
  let c67_i32 : BitVec 32 := 67#32
  let v380 : Index := Scalar.indexCast c67_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v381 : Index := Scalar.indexCast v35
  ![67, v381.toNat]
def k6_off202 (k6_t3 : Fin k6_t3_loop.trips) : Fin 2 → Nat :=
  let c68_i32 : BitVec 32 := 68#32
  let v384 : Index := Scalar.indexCast c68_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v385 : Index := Scalar.indexCast v35
  ![68, v385.toNat]
def k6_off203 (k6_t3 : Fin k6_t3_loop.trips) : Fin 2 → Nat :=
  let c69_i32 : BitVec 32 := 69#32
  let v388 : Index := Scalar.indexCast c69_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v389 : Index := Scalar.indexCast v35
  ![69, v389.toNat]
def k6_off204 (k6_t3 : Fin k6_t3_loop.trips) : Fin 2 → Nat :=
  let c70_i32 : BitVec 32 := 70#32
  let v392 : Index := Scalar.indexCast c70_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v393 : Index := Scalar.indexCast v35
  ![70, v393.toNat]
def k6_off205 (k6_t3 : Fin k6_t3_loop.trips) : Fin 2 → Nat :=
  let c71_i32 : BitVec 32 := 71#32
  let v396 : Index := Scalar.indexCast c71_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v397 : Index := Scalar.indexCast v35
  ![71, v397.toNat]
def k6_off206 (k6_t3 : Fin k6_t3_loop.trips) : Fin 2 → Nat :=
  let c72_i32 : BitVec 32 := 72#32
  let v400 : Index := Scalar.indexCast c72_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v401 : Index := Scalar.indexCast v35
  ![72, v401.toNat]
def k6_off207 (k6_t3 : Fin k6_t3_loop.trips) : Fin 2 → Nat :=
  let c73_i32 : BitVec 32 := 73#32
  let v404 : Index := Scalar.indexCast c73_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v405 : Index := Scalar.indexCast v35
  ![73, v405.toNat]
def k6_off208 (k6_t3 : Fin k6_t3_loop.trips) : Fin 2 → Nat :=
  let c74_i32 : BitVec 32 := 74#32
  let v408 : Index := Scalar.indexCast c74_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v409 : Index := Scalar.indexCast v35
  ![74, v409.toNat]
def k6_off209 (k6_t3 : Fin k6_t3_loop.trips) : Fin 2 → Nat :=
  let c75_i32 : BitVec 32 := 75#32
  let v412 : Index := Scalar.indexCast c75_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v413 : Index := Scalar.indexCast v35
  ![75, v413.toNat]
def k6_off210 (k6_t3 : Fin k6_t3_loop.trips) : Fin 2 → Nat :=
  let c76_i32 : BitVec 32 := 76#32
  let v416 : Index := Scalar.indexCast c76_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v417 : Index := Scalar.indexCast v35
  ![76, v417.toNat]
def k6_off211 (k6_t3 : Fin k6_t3_loop.trips) : Fin 2 → Nat :=
  let c77_i32 : BitVec 32 := 77#32
  let v420 : Index := Scalar.indexCast c77_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v421 : Index := Scalar.indexCast v35
  ![77, v421.toNat]
def k6_off212 (k6_t3 : Fin k6_t3_loop.trips) : Fin 2 → Nat :=
  let c78_i32 : BitVec 32 := 78#32
  let v424 : Index := Scalar.indexCast c78_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v425 : Index := Scalar.indexCast v35
  ![78, v425.toNat]
def k6_off213 (k6_t3 : Fin k6_t3_loop.trips) : Fin 2 → Nat :=
  let c79_i32 : BitVec 32 := 79#32
  let v428 : Index := Scalar.indexCast c79_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v429 : Index := Scalar.indexCast v35
  ![79, v429.toNat]
def k6_off214 (k6_t3 : Fin k6_t3_loop.trips) : Fin 2 → Nat :=
  let c80_i32 : BitVec 32 := 80#32
  let v432 : Index := Scalar.indexCast c80_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v433 : Index := Scalar.indexCast v35
  ![80, v433.toNat]
def k6_off215 (k6_t3 : Fin k6_t3_loop.trips) : Fin 2 → Nat :=
  let c81_i32 : BitVec 32 := 81#32
  let v436 : Index := Scalar.indexCast c81_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v437 : Index := Scalar.indexCast v35
  ![81, v437.toNat]
def k6_off216 (k6_t3 : Fin k6_t3_loop.trips) : Fin 2 → Nat :=
  let c82_i32 : BitVec 32 := 82#32
  let v440 : Index := Scalar.indexCast c82_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v441 : Index := Scalar.indexCast v35
  ![82, v441.toNat]
def k6_off217 (k6_t3 : Fin k6_t3_loop.trips) : Fin 2 → Nat :=
  let c83_i32 : BitVec 32 := 83#32
  let v444 : Index := Scalar.indexCast c83_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v445 : Index := Scalar.indexCast v35
  ![83, v445.toNat]
def k6_off218 (k6_t3 : Fin k6_t3_loop.trips) : Fin 2 → Nat :=
  let c84_i32 : BitVec 32 := 84#32
  let v448 : Index := Scalar.indexCast c84_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v449 : Index := Scalar.indexCast v35
  ![84, v449.toNat]
def k6_off219 (k6_t3 : Fin k6_t3_loop.trips) : Fin 2 → Nat :=
  let c85_i32 : BitVec 32 := 85#32
  let v452 : Index := Scalar.indexCast c85_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v453 : Index := Scalar.indexCast v35
  ![85, v453.toNat]
def k6_off220 (k6_t3 : Fin k6_t3_loop.trips) : Fin 2 → Nat :=
  let c86_i32 : BitVec 32 := 86#32
  let v456 : Index := Scalar.indexCast c86_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v457 : Index := Scalar.indexCast v35
  ![86, v457.toNat]
def k6_off221 (k6_t3 : Fin k6_t3_loop.trips) : Fin 2 → Nat :=
  let c87_i32 : BitVec 32 := 87#32
  let v460 : Index := Scalar.indexCast c87_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v461 : Index := Scalar.indexCast v35
  ![87, v461.toNat]
def k6_off222 (k6_t3 : Fin k6_t3_loop.trips) : Fin 2 → Nat :=
  let c88_i32 : BitVec 32 := 88#32
  let v464 : Index := Scalar.indexCast c88_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v465 : Index := Scalar.indexCast v35
  ![88, v465.toNat]
def k6_off223 (k6_t3 : Fin k6_t3_loop.trips) : Fin 2 → Nat :=
  let c89_i32 : BitVec 32 := 89#32
  let v468 : Index := Scalar.indexCast c89_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v469 : Index := Scalar.indexCast v35
  ![89, v469.toNat]
def k6_off224 (k6_t3 : Fin k6_t3_loop.trips) : Fin 2 → Nat :=
  let c90_i32 : BitVec 32 := 90#32
  let v472 : Index := Scalar.indexCast c90_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v473 : Index := Scalar.indexCast v35
  ![90, v473.toNat]
def k6_off225 (k6_t3 : Fin k6_t3_loop.trips) : Fin 2 → Nat :=
  let c91_i32 : BitVec 32 := 91#32
  let v476 : Index := Scalar.indexCast c91_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v477 : Index := Scalar.indexCast v35
  ![91, v477.toNat]
def k6_off226 (k6_t3 : Fin k6_t3_loop.trips) : Fin 2 → Nat :=
  let c92_i32 : BitVec 32 := 92#32
  let v480 : Index := Scalar.indexCast c92_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v481 : Index := Scalar.indexCast v35
  ![92, v481.toNat]
def k6_off227 (k6_t3 : Fin k6_t3_loop.trips) : Fin 2 → Nat :=
  let c93_i32 : BitVec 32 := 93#32
  let v484 : Index := Scalar.indexCast c93_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v485 : Index := Scalar.indexCast v35
  ![93, v485.toNat]
def k6_off228 (k6_t3 : Fin k6_t3_loop.trips) : Fin 2 → Nat :=
  let c94_i32 : BitVec 32 := 94#32
  let v488 : Index := Scalar.indexCast c94_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v489 : Index := Scalar.indexCast v35
  ![94, v489.toNat]
def k6_off229 (k6_t3 : Fin k6_t3_loop.trips) : Fin 2 → Nat :=
  let c95_i32 : BitVec 32 := 95#32
  let v492 : Index := Scalar.indexCast c95_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v493 : Index := Scalar.indexCast v35
  ![95, v493.toNat]
def k6_off230 (k6_t3 : Fin k6_t3_loop.trips) : Fin 2 → Nat :=
  let c96_i32 : BitVec 32 := 96#32
  let v534 : Index := Scalar.indexCast c96_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v535 : Index := Scalar.indexCast v35
  ![96, v535.toNat]
def k6_off231 (k6_t3 : Fin k6_t3_loop.trips) : Fin 2 → Nat :=
  let c97_i32 : BitVec 32 := 97#32
  let v538 : Index := Scalar.indexCast c97_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v539 : Index := Scalar.indexCast v35
  ![97, v539.toNat]
def k6_off232 (k6_t3 : Fin k6_t3_loop.trips) : Fin 2 → Nat :=
  let c98_i32 : BitVec 32 := 98#32
  let v542 : Index := Scalar.indexCast c98_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v543 : Index := Scalar.indexCast v35
  ![98, v543.toNat]
def k6_off233 (k6_t3 : Fin k6_t3_loop.trips) : Fin 2 → Nat :=
  let c99_i32 : BitVec 32 := 99#32
  let v546 : Index := Scalar.indexCast c99_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v547 : Index := Scalar.indexCast v35
  ![99, v547.toNat]
def k6_off234 (k6_t3 : Fin k6_t3_loop.trips) : Fin 2 → Nat :=
  let c100_i32 : BitVec 32 := 100#32
  let v550 : Index := Scalar.indexCast c100_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v551 : Index := Scalar.indexCast v35
  ![100, v551.toNat]
def k6_off235 (k6_t3 : Fin k6_t3_loop.trips) : Fin 2 → Nat :=
  let c101_i32 : BitVec 32 := 101#32
  let v554 : Index := Scalar.indexCast c101_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v555 : Index := Scalar.indexCast v35
  ![101, v555.toNat]
def k6_off236 (k6_t3 : Fin k6_t3_loop.trips) : Fin 2 → Nat :=
  let c102_i32 : BitVec 32 := 102#32
  let v558 : Index := Scalar.indexCast c102_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v559 : Index := Scalar.indexCast v35
  ![102, v559.toNat]
def k6_off237 (k6_t3 : Fin k6_t3_loop.trips) : Fin 2 → Nat :=
  let c103_i32 : BitVec 32 := 103#32
  let v562 : Index := Scalar.indexCast c103_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v563 : Index := Scalar.indexCast v35
  ![103, v563.toNat]
def k6_off238 (k6_t3 : Fin k6_t3_loop.trips) : Fin 2 → Nat :=
  let c104_i32 : BitVec 32 := 104#32
  let v566 : Index := Scalar.indexCast c104_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v567 : Index := Scalar.indexCast v35
  ![104, v567.toNat]
def k6_off239 (k6_t3 : Fin k6_t3_loop.trips) : Fin 2 → Nat :=
  let c105_i32 : BitVec 32 := 105#32
  let v570 : Index := Scalar.indexCast c105_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v571 : Index := Scalar.indexCast v35
  ![105, v571.toNat]
def k6_off240 (k6_t3 : Fin k6_t3_loop.trips) : Fin 2 → Nat :=
  let c106_i32 : BitVec 32 := 106#32
  let v574 : Index := Scalar.indexCast c106_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v575 : Index := Scalar.indexCast v35
  ![106, v575.toNat]
def k6_off241 (k6_t3 : Fin k6_t3_loop.trips) : Fin 2 → Nat :=
  let c107_i32 : BitVec 32 := 107#32
  let v578 : Index := Scalar.indexCast c107_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v579 : Index := Scalar.indexCast v35
  ![107, v579.toNat]
def k6_off242 (k6_t3 : Fin k6_t3_loop.trips) : Fin 2 → Nat :=
  let c108_i32 : BitVec 32 := 108#32
  let v582 : Index := Scalar.indexCast c108_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v583 : Index := Scalar.indexCast v35
  ![108, v583.toNat]
def k6_off243 (k6_t3 : Fin k6_t3_loop.trips) : Fin 2 → Nat :=
  let c109_i32 : BitVec 32 := 109#32
  let v586 : Index := Scalar.indexCast c109_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v587 : Index := Scalar.indexCast v35
  ![109, v587.toNat]
def k6_off244 (k6_t3 : Fin k6_t3_loop.trips) : Fin 2 → Nat :=
  let c110_i32 : BitVec 32 := 110#32
  let v590 : Index := Scalar.indexCast c110_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v591 : Index := Scalar.indexCast v35
  ![110, v591.toNat]
def k6_off245 (k6_t3 : Fin k6_t3_loop.trips) : Fin 2 → Nat :=
  let c111_i32 : BitVec 32 := 111#32
  let v594 : Index := Scalar.indexCast c111_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v595 : Index := Scalar.indexCast v35
  ![111, v595.toNat]
def k6_off246 (k6_t3 : Fin k6_t3_loop.trips) : Fin 2 → Nat :=
  let c112_i32 : BitVec 32 := 112#32
  let v598 : Index := Scalar.indexCast c112_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v599 : Index := Scalar.indexCast v35
  ![112, v599.toNat]
def k6_off247 (k6_t3 : Fin k6_t3_loop.trips) : Fin 2 → Nat :=
  let c113_i32 : BitVec 32 := 113#32
  let v602 : Index := Scalar.indexCast c113_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v603 : Index := Scalar.indexCast v35
  ![113, v603.toNat]
def k6_off248 (k6_t3 : Fin k6_t3_loop.trips) : Fin 2 → Nat :=
  let c114_i32 : BitVec 32 := 114#32
  let v606 : Index := Scalar.indexCast c114_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v607 : Index := Scalar.indexCast v35
  ![114, v607.toNat]
def k6_off249 (k6_t3 : Fin k6_t3_loop.trips) : Fin 2 → Nat :=
  let c115_i32 : BitVec 32 := 115#32
  let v610 : Index := Scalar.indexCast c115_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v611 : Index := Scalar.indexCast v35
  ![115, v611.toNat]
def k6_off250 (k6_t3 : Fin k6_t3_loop.trips) : Fin 2 → Nat :=
  let c116_i32 : BitVec 32 := 116#32
  let v614 : Index := Scalar.indexCast c116_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v615 : Index := Scalar.indexCast v35
  ![116, v615.toNat]
def k6_off251 (k6_t3 : Fin k6_t3_loop.trips) : Fin 2 → Nat :=
  let c117_i32 : BitVec 32 := 117#32
  let v618 : Index := Scalar.indexCast c117_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v619 : Index := Scalar.indexCast v35
  ![117, v619.toNat]
def k6_off252 (k6_t3 : Fin k6_t3_loop.trips) : Fin 2 → Nat :=
  let c118_i32 : BitVec 32 := 118#32
  let v622 : Index := Scalar.indexCast c118_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v623 : Index := Scalar.indexCast v35
  ![118, v623.toNat]
def k6_off253 (k6_t3 : Fin k6_t3_loop.trips) : Fin 2 → Nat :=
  let c119_i32 : BitVec 32 := 119#32
  let v626 : Index := Scalar.indexCast c119_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v627 : Index := Scalar.indexCast v35
  ![119, v627.toNat]
def k6_off254 (k6_t3 : Fin k6_t3_loop.trips) : Fin 2 → Nat :=
  let c120_i32 : BitVec 32 := 120#32
  let v630 : Index := Scalar.indexCast c120_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v631 : Index := Scalar.indexCast v35
  ![120, v631.toNat]
def k6_off255 (k6_t3 : Fin k6_t3_loop.trips) : Fin 2 → Nat :=
  let c121_i32 : BitVec 32 := 121#32
  let v634 : Index := Scalar.indexCast c121_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v635 : Index := Scalar.indexCast v35
  ![121, v635.toNat]
def k6_off256 (k6_t3 : Fin k6_t3_loop.trips) : Fin 2 → Nat :=
  let c122_i32 : BitVec 32 := 122#32
  let v638 : Index := Scalar.indexCast c122_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v639 : Index := Scalar.indexCast v35
  ![122, v639.toNat]
def k6_off257 (k6_t3 : Fin k6_t3_loop.trips) : Fin 2 → Nat :=
  let c123_i32 : BitVec 32 := 123#32
  let v642 : Index := Scalar.indexCast c123_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v643 : Index := Scalar.indexCast v35
  ![123, v643.toNat]
def k6_off258 (k6_t3 : Fin k6_t3_loop.trips) : Fin 2 → Nat :=
  let c124_i32 : BitVec 32 := 124#32
  let v646 : Index := Scalar.indexCast c124_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v647 : Index := Scalar.indexCast v35
  ![124, v647.toNat]
def k6_off259 (k6_t3 : Fin k6_t3_loop.trips) : Fin 2 → Nat :=
  let c125_i32 : BitVec 32 := 125#32
  let v650 : Index := Scalar.indexCast c125_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v651 : Index := Scalar.indexCast v35
  ![125, v651.toNat]
def k6_off260 (k6_t3 : Fin k6_t3_loop.trips) : Fin 2 → Nat :=
  let c126_i32 : BitVec 32 := 126#32
  let v654 : Index := Scalar.indexCast c126_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v655 : Index := Scalar.indexCast v35
  ![126, v655.toNat]
def k6_off261 (k6_t3 : Fin k6_t3_loop.trips) : Fin 2 → Nat :=
  let c127_i32 : BitVec 32 := 127#32
  let v658 : Index := Scalar.indexCast c127_i32
  let c0_i32_29 : BitVec 32 := 0#32
  let c1_i32_31 : BitVec 32 := 1#32
  let arg13 : BitVec 32 := Scf.iv c0_i32_29 c1_i32_31 k6_t3
  let c16_i32_37 : BitVec 32 := 16#32
  let v34 : BitVec 32 := Scalar.muli arg13 c16_i32_37
  let v35 : BitVec 32 := v34
  let v659 : Index := Scalar.indexCast v35
  ![127, v659.toNat]
def k6_cond2 (k6_t1 : Fin k6_t1_loop.trips) : BitVec 1 :=
  let c0_i32_7 : BitVec 32 := 0#32
  let c1_i32_8 : BitVec 32 := 1#32
  let arg11 : BitVec 32 := Scf.iv c0_i32_7 c1_i32_8 k6_t1
  let c2_i32_23 : BitVec 32 := 2#32
  let v23 : BitVec 32 := Scalar.muli arg11 c2_i32_23
  let c1_i32_24 : BitVec 32 := 1#32
  let v24 : BitVec 32 := Scalar.addi v23 c1_i32_24
  let c2_i32_33 : BitVec 32 := 2#32
  let v30 : BitVec 32 := Scalar.addi v24 c2_i32_33
  let c16_i32_34 : BitVec 32 := 16#32
  let v31 : BitVec 1 := Scalar.cmpi .slt v30 c16_i32_34
  let v32 : BitVec 32 := Scalar.extui v31
  let c0_i32_35 : BitVec 32 := 0#32
  let v33 : BitVec 1 := Scalar.cmpi .ne v32 c0_i32_35
  v33

def k6_off262 (k6_t1 : Fin k6_t1_loop.trips) : Fin 2 → Nat :=
  let c0_i32_7 : BitVec 32 := 0#32
  let c1_i32_8 : BitVec 32 := 1#32
  let arg11 : BitVec 32 := Scf.iv c0_i32_7 c1_i32_8 k6_t1
  let c2_i32_23 : BitVec 32 := 2#32
  let v23 : BitVec 32 := Scalar.muli arg11 c2_i32_23
  let c1_i32_24 : BitVec 32 := 1#32
  let v24 : BitVec 32 := Scalar.addi v23 c1_i32_24
  let c2_i32_37 : BitVec 32 := 2#32
  let v34 : BitVec 32 := Scalar.addi v24 c2_i32_37
  let c0_i32_38 : BitVec 32 := 0#32
  ![v34.toNat, 0]
def k6_off263 (i : grid6.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v11 : BitVec 32 := Scalar.muli v1 c64_i32
  let c0_i32_10_r1 : BitVec 32 := 0#32
  ![v11.toNat, 0]
abbrev grid7 : Pipeline.Grid := ⟨1, ![8], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc7_transform_1 (i : grid7.Coords) : Fin 3 → Nat :=
  let arg0 : BitVec 32 := BitVec.ofNat 32 (i 0).val
  let c0_i32 : BitVec 32 := 0#32
  let v0 : BitVec 32 := Scalar.addi c0_i32 arg0
  let c1_i32 : BitVec 32 := 1#32
  let c0_i32_0 : BitVec 32 := 0#32
  let c0_i32_1 : BitVec 32 := 0#32
  ![c1_i32.toNat, v0.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage7_0 : Fin 2 → Memref sig .tc .vmem S1x256x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1x256x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S256x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S1x256x256 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨2, ![2, 16], ![false, false]⟩

def k8_off1 (i : grid8.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_10_r0 : BitVec 32 := 0#32
  ![v2.toNat, 0]
@[reducible] def k8_t1_loop : Scf.Loop 32 :=
  let c0_i32_7 : BitVec 32 := 0#32
  let c8_i32 : BitVec 32 := 8#32
  let v9 : BitVec 32 := Scalar.addi c0_i32_7 c8_i32
  let c1_i32_8 : BitVec 32 := 1#32
  ⟨c0_i32_7, v9, c1_i32_8⟩
def k8_off2 (k8_t1 : Fin k8_t1_loop.trips) (c0_i32_11 : BitVec 32) : Fin 2 → Nat :=
  let c0_i32_7 : BitVec 32 := 0#32
  let c1_i32_8 : BitVec 32 := 1#32
  let arg11 : BitVec 32 := Scf.iv c0_i32_7 c1_i32_8 k8_t1
  let c2_i32_10 : BitVec 32 := 2#32
  let v12 : BitVec 32 := Scalar.muli arg11 c2_i32_10
  let v13 : BitVec 32 := Scalar.addi v12 c0_i32_11
  let c0_i32_12 : BitVec 32 := 0#32
  ![v13.toNat, 0]
@[reducible] def k8_t2_loop : Scf.Loop 32 :=
  let c0_i32_16 : BitVec 32 := 0#32
  let c8_i32_17 : BitVec 32 := 8#32
  let v17 : BitVec 32 := Scalar.addi c0_i32_16 c8_i32_17
  let c1_i32_18 : BitVec 32 := 1#32
  ⟨c0_i32_16, v17, c1_i32_18⟩
def k8_mult1 (k8_t2 : Fin k8_t2_loop.trips) : BitVec 32 :=
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  v34
def k8_off3 (k8_t2 : Fin k8_t2_loop.trips) : Fin 2 → Nat :=
  let c0_i32_38 : BitVec 32 := 0#32
  let v36 : Index := Scalar.indexCast c0_i32_38
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v37 : Index := Scalar.indexCast v35
  ![0, v37.toNat]
def k8_off4 (k8_t2 : Fin k8_t2_loop.trips) : Fin 2 → Nat :=
  let c1_i32_39 : BitVec 32 := 1#32
  let v40 : Index := Scalar.indexCast c1_i32_39
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v41 : Index := Scalar.indexCast v35
  ![1, v41.toNat]
def k8_off5 (k8_t2 : Fin k8_t2_loop.trips) : Fin 2 → Nat :=
  let c2_i32_40 : BitVec 32 := 2#32
  let v44 : Index := Scalar.indexCast c2_i32_40
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v45 : Index := Scalar.indexCast v35
  ![2, v45.toNat]
def k8_off6 (k8_t2 : Fin k8_t2_loop.trips) : Fin 2 → Nat :=
  let c3_i32 : BitVec 32 := 3#32
  let v48 : Index := Scalar.indexCast c3_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v49 : Index := Scalar.indexCast v35
  ![3, v49.toNat]
def k8_off7 (k8_t2 : Fin k8_t2_loop.trips) : Fin 2 → Nat :=
  let c4_i32 : BitVec 32 := 4#32
  let v52 : Index := Scalar.indexCast c4_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v53 : Index := Scalar.indexCast v35
  ![4, v53.toNat]
def k8_off8 (k8_t2 : Fin k8_t2_loop.trips) : Fin 2 → Nat :=
  let c5_i32 : BitVec 32 := 5#32
  let v56 : Index := Scalar.indexCast c5_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v57 : Index := Scalar.indexCast v35
  ![5, v57.toNat]
def k8_off9 (k8_t2 : Fin k8_t2_loop.trips) : Fin 2 → Nat :=
  let c6_i32 : BitVec 32 := 6#32
  let v60 : Index := Scalar.indexCast c6_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v61 : Index := Scalar.indexCast v35
  ![6, v61.toNat]
def k8_off10 (k8_t2 : Fin k8_t2_loop.trips) : Fin 2 → Nat :=
  let c7_i32 : BitVec 32 := 7#32
  let v64 : Index := Scalar.indexCast c7_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v65 : Index := Scalar.indexCast v35
  ![7, v65.toNat]
def k8_off11 (k8_t2 : Fin k8_t2_loop.trips) : Fin 2 → Nat :=
  let c8_i32_41 : BitVec 32 := 8#32
  let v68 : Index := Scalar.indexCast c8_i32_41
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v69 : Index := Scalar.indexCast v35
  ![8, v69.toNat]
def k8_off12 (k8_t2 : Fin k8_t2_loop.trips) : Fin 2 → Nat :=
  let c9_i32 : BitVec 32 := 9#32
  let v72 : Index := Scalar.indexCast c9_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v73 : Index := Scalar.indexCast v35
  ![9, v73.toNat]
def k8_off13 (k8_t2 : Fin k8_t2_loop.trips) : Fin 2 → Nat :=
  let c10_i32 : BitVec 32 := 10#32
  let v76 : Index := Scalar.indexCast c10_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v77 : Index := Scalar.indexCast v35
  ![10, v77.toNat]
def k8_off14 (k8_t2 : Fin k8_t2_loop.trips) : Fin 2 → Nat :=
  let c11_i32 : BitVec 32 := 11#32
  let v80 : Index := Scalar.indexCast c11_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v81 : Index := Scalar.indexCast v35
  ![11, v81.toNat]
def k8_off15 (k8_t2 : Fin k8_t2_loop.trips) : Fin 2 → Nat :=
  let c12_i32 : BitVec 32 := 12#32
  let v84 : Index := Scalar.indexCast c12_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v85 : Index := Scalar.indexCast v35
  ![12, v85.toNat]
def k8_off16 (k8_t2 : Fin k8_t2_loop.trips) : Fin 2 → Nat :=
  let c13_i32 : BitVec 32 := 13#32
  let v88 : Index := Scalar.indexCast c13_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v89 : Index := Scalar.indexCast v35
  ![13, v89.toNat]
def k8_off17 (k8_t2 : Fin k8_t2_loop.trips) : Fin 2 → Nat :=
  let c14_i32 : BitVec 32 := 14#32
  let v92 : Index := Scalar.indexCast c14_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v93 : Index := Scalar.indexCast v35
  ![14, v93.toNat]
def k8_off18 (k8_t2 : Fin k8_t2_loop.trips) : Fin 2 → Nat :=
  let c15_i32 : BitVec 32 := 15#32
  let v96 : Index := Scalar.indexCast c15_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v97 : Index := Scalar.indexCast v35
  ![15, v97.toNat]
def k8_off19 (k8_t2 : Fin k8_t2_loop.trips) : Fin 2 → Nat :=
  let c16_i32_42 : BitVec 32 := 16#32
  let v100 : Index := Scalar.indexCast c16_i32_42
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v101 : Index := Scalar.indexCast v35
  ![16, v101.toNat]
def k8_off20 (k8_t2 : Fin k8_t2_loop.trips) : Fin 2 → Nat :=
  let c17_i32 : BitVec 32 := 17#32
  let v104 : Index := Scalar.indexCast c17_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v105 : Index := Scalar.indexCast v35
  ![17, v105.toNat]
def k8_off21 (k8_t2 : Fin k8_t2_loop.trips) : Fin 2 → Nat :=
  let c18_i32 : BitVec 32 := 18#32
  let v108 : Index := Scalar.indexCast c18_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v109 : Index := Scalar.indexCast v35
  ![18, v109.toNat]
def k8_off22 (k8_t2 : Fin k8_t2_loop.trips) : Fin 2 → Nat :=
  let c19_i32 : BitVec 32 := 19#32
  let v112 : Index := Scalar.indexCast c19_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v113 : Index := Scalar.indexCast v35
  ![19, v113.toNat]
def k8_off23 (k8_t2 : Fin k8_t2_loop.trips) : Fin 2 → Nat :=
  let c20_i32 : BitVec 32 := 20#32
  let v116 : Index := Scalar.indexCast c20_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v117 : Index := Scalar.indexCast v35
  ![20, v117.toNat]
def k8_off24 (k8_t2 : Fin k8_t2_loop.trips) : Fin 2 → Nat :=
  let c21_i32 : BitVec 32 := 21#32
  let v120 : Index := Scalar.indexCast c21_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v121 : Index := Scalar.indexCast v35
  ![21, v121.toNat]
def k8_off25 (k8_t2 : Fin k8_t2_loop.trips) : Fin 2 → Nat :=
  let c22_i32 : BitVec 32 := 22#32
  let v124 : Index := Scalar.indexCast c22_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v125 : Index := Scalar.indexCast v35
  ![22, v125.toNat]
def k8_off26 (k8_t2 : Fin k8_t2_loop.trips) : Fin 2 → Nat :=
  let c23_i32 : BitVec 32 := 23#32
  let v128 : Index := Scalar.indexCast c23_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v129 : Index := Scalar.indexCast v35
  ![23, v129.toNat]
def k8_off27 (k8_t2 : Fin k8_t2_loop.trips) : Fin 2 → Nat :=
  let c24_i32 : BitVec 32 := 24#32
  let v132 : Index := Scalar.indexCast c24_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v133 : Index := Scalar.indexCast v35
  ![24, v133.toNat]
def k8_off28 (k8_t2 : Fin k8_t2_loop.trips) : Fin 2 → Nat :=
  let c25_i32 : BitVec 32 := 25#32
  let v136 : Index := Scalar.indexCast c25_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v137 : Index := Scalar.indexCast v35
  ![25, v137.toNat]
def k8_off29 (k8_t2 : Fin k8_t2_loop.trips) : Fin 2 → Nat :=
  let c26_i32 : BitVec 32 := 26#32
  let v140 : Index := Scalar.indexCast c26_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v141 : Index := Scalar.indexCast v35
  ![26, v141.toNat]
def k8_off30 (k8_t2 : Fin k8_t2_loop.trips) : Fin 2 → Nat :=
  let c27_i32 : BitVec 32 := 27#32
  let v144 : Index := Scalar.indexCast c27_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v145 : Index := Scalar.indexCast v35
  ![27, v145.toNat]
def k8_off31 (k8_t2 : Fin k8_t2_loop.trips) : Fin 2 → Nat :=
  let c28_i32 : BitVec 32 := 28#32
  let v148 : Index := Scalar.indexCast c28_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v149 : Index := Scalar.indexCast v35
  ![28, v149.toNat]
def k8_off32 (k8_t2 : Fin k8_t2_loop.trips) : Fin 2 → Nat :=
  let c29_i32 : BitVec 32 := 29#32
  let v152 : Index := Scalar.indexCast c29_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v153 : Index := Scalar.indexCast v35
  ![29, v153.toNat]
def k8_off33 (k8_t2 : Fin k8_t2_loop.trips) : Fin 2 → Nat :=
  let c30_i32 : BitVec 32 := 30#32
  let v156 : Index := Scalar.indexCast c30_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v157 : Index := Scalar.indexCast v35
  ![30, v157.toNat]
def k8_off34 (k8_t2 : Fin k8_t2_loop.trips) : Fin 2 → Nat :=
  let c31_i32 : BitVec 32 := 31#32
  let v160 : Index := Scalar.indexCast c31_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v161 : Index := Scalar.indexCast v35
  ![31, v161.toNat]
def k8_off35 (k8_t1 : Fin k8_t1_loop.trips) (k8_t2 : Fin k8_t2_loop.trips) (c0_i32_44 : BitVec 32) : Fin 2 → Nat :=
  let c0_i32_7 : BitVec 32 := 0#32
  let c1_i32_8 : BitVec 32 := 1#32
  let arg11 : BitVec 32 := Scf.iv c0_i32_7 c1_i32_8 k8_t1
  let c2_i32_10 : BitVec 32 := 2#32
  let v12 : BitVec 32 := Scalar.muli arg11 c2_i32_10
  let c0_i32_11 : BitVec 32 := 0#32
  let v13 : BitVec 32 := Scalar.addi v12 c0_i32_11
  let c4_i32_43 : BitVec 32 := 4#32
  let v195 : BitVec 32 := Scalar.muli v13 c4_i32_43
  let v196 : BitVec 32 := Scalar.addi v195 c0_i32_44
  let v197 : Index := Scalar.indexCast v196
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v198 : Index := Scalar.indexCast v35
  ![v197.toNat, v198.toNat]
def k8_off36 (k8_t2 : Fin k8_t2_loop.trips) : Fin 2 → Nat :=
  let c32_i32 : BitVec 32 := 32#32
  let v202 : Index := Scalar.indexCast c32_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v203 : Index := Scalar.indexCast v35
  ![32, v203.toNat]
def k8_off37 (k8_t2 : Fin k8_t2_loop.trips) : Fin 2 → Nat :=
  let c33_i32 : BitVec 32 := 33#32
  let v206 : Index := Scalar.indexCast c33_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v207 : Index := Scalar.indexCast v35
  ![33, v207.toNat]
def k8_off38 (k8_t2 : Fin k8_t2_loop.trips) : Fin 2 → Nat :=
  let c34_i32 : BitVec 32 := 34#32
  let v210 : Index := Scalar.indexCast c34_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v211 : Index := Scalar.indexCast v35
  ![34, v211.toNat]
def k8_off39 (k8_t2 : Fin k8_t2_loop.trips) : Fin 2 → Nat :=
  let c35_i32 : BitVec 32 := 35#32
  let v214 : Index := Scalar.indexCast c35_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v215 : Index := Scalar.indexCast v35
  ![35, v215.toNat]
def k8_off40 (k8_t2 : Fin k8_t2_loop.trips) : Fin 2 → Nat :=
  let c36_i32 : BitVec 32 := 36#32
  let v218 : Index := Scalar.indexCast c36_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v219 : Index := Scalar.indexCast v35
  ![36, v219.toNat]
def k8_off41 (k8_t2 : Fin k8_t2_loop.trips) : Fin 2 → Nat :=
  let c37_i32 : BitVec 32 := 37#32
  let v222 : Index := Scalar.indexCast c37_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v223 : Index := Scalar.indexCast v35
  ![37, v223.toNat]
def k8_off42 (k8_t2 : Fin k8_t2_loop.trips) : Fin 2 → Nat :=
  let c38_i32 : BitVec 32 := 38#32
  let v226 : Index := Scalar.indexCast c38_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v227 : Index := Scalar.indexCast v35
  ![38, v227.toNat]
def k8_off43 (k8_t2 : Fin k8_t2_loop.trips) : Fin 2 → Nat :=
  let c39_i32 : BitVec 32 := 39#32
  let v230 : Index := Scalar.indexCast c39_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v231 : Index := Scalar.indexCast v35
  ![39, v231.toNat]
def k8_off44 (k8_t2 : Fin k8_t2_loop.trips) : Fin 2 → Nat :=
  let c40_i32 : BitVec 32 := 40#32
  let v234 : Index := Scalar.indexCast c40_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v235 : Index := Scalar.indexCast v35
  ![40, v235.toNat]
def k8_off45 (k8_t2 : Fin k8_t2_loop.trips) : Fin 2 → Nat :=
  let c41_i32 : BitVec 32 := 41#32
  let v238 : Index := Scalar.indexCast c41_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v239 : Index := Scalar.indexCast v35
  ![41, v239.toNat]
def k8_off46 (k8_t2 : Fin k8_t2_loop.trips) : Fin 2 → Nat :=
  let c42_i32 : BitVec 32 := 42#32
  let v242 : Index := Scalar.indexCast c42_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v243 : Index := Scalar.indexCast v35
  ![42, v243.toNat]
def k8_off47 (k8_t2 : Fin k8_t2_loop.trips) : Fin 2 → Nat :=
  let c43_i32 : BitVec 32 := 43#32
  let v246 : Index := Scalar.indexCast c43_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v247 : Index := Scalar.indexCast v35
  ![43, v247.toNat]
def k8_off48 (k8_t2 : Fin k8_t2_loop.trips) : Fin 2 → Nat :=
  let c44_i32 : BitVec 32 := 44#32
  let v250 : Index := Scalar.indexCast c44_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v251 : Index := Scalar.indexCast v35
  ![44, v251.toNat]
def k8_off49 (k8_t2 : Fin k8_t2_loop.trips) : Fin 2 → Nat :=
  let c45_i32 : BitVec 32 := 45#32
  let v254 : Index := Scalar.indexCast c45_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v255 : Index := Scalar.indexCast v35
  ![45, v255.toNat]
def k8_off50 (k8_t2 : Fin k8_t2_loop.trips) : Fin 2 → Nat :=
  let c46_i32 : BitVec 32 := 46#32
  let v258 : Index := Scalar.indexCast c46_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v259 : Index := Scalar.indexCast v35
  ![46, v259.toNat]
def k8_off51 (k8_t2 : Fin k8_t2_loop.trips) : Fin 2 → Nat :=
  let c47_i32 : BitVec 32 := 47#32
  let v262 : Index := Scalar.indexCast c47_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v263 : Index := Scalar.indexCast v35
  ![47, v263.toNat]
def k8_off52 (k8_t2 : Fin k8_t2_loop.trips) : Fin 2 → Nat :=
  let c48_i32 : BitVec 32 := 48#32
  let v266 : Index := Scalar.indexCast c48_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v267 : Index := Scalar.indexCast v35
  ![48, v267.toNat]
def k8_off53 (k8_t2 : Fin k8_t2_loop.trips) : Fin 2 → Nat :=
  let c49_i32 : BitVec 32 := 49#32
  let v270 : Index := Scalar.indexCast c49_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v271 : Index := Scalar.indexCast v35
  ![49, v271.toNat]
def k8_off54 (k8_t2 : Fin k8_t2_loop.trips) : Fin 2 → Nat :=
  let c50_i32 : BitVec 32 := 50#32
  let v274 : Index := Scalar.indexCast c50_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v275 : Index := Scalar.indexCast v35
  ![50, v275.toNat]
def k8_off55 (k8_t2 : Fin k8_t2_loop.trips) : Fin 2 → Nat :=
  let c51_i32 : BitVec 32 := 51#32
  let v278 : Index := Scalar.indexCast c51_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v279 : Index := Scalar.indexCast v35
  ![51, v279.toNat]
def k8_off56 (k8_t2 : Fin k8_t2_loop.trips) : Fin 2 → Nat :=
  let c52_i32 : BitVec 32 := 52#32
  let v282 : Index := Scalar.indexCast c52_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v283 : Index := Scalar.indexCast v35
  ![52, v283.toNat]
def k8_off57 (k8_t2 : Fin k8_t2_loop.trips) : Fin 2 → Nat :=
  let c53_i32 : BitVec 32 := 53#32
  let v286 : Index := Scalar.indexCast c53_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v287 : Index := Scalar.indexCast v35
  ![53, v287.toNat]
def k8_off58 (k8_t2 : Fin k8_t2_loop.trips) : Fin 2 → Nat :=
  let c54_i32 : BitVec 32 := 54#32
  let v290 : Index := Scalar.indexCast c54_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v291 : Index := Scalar.indexCast v35
  ![54, v291.toNat]
def k8_off59 (k8_t2 : Fin k8_t2_loop.trips) : Fin 2 → Nat :=
  let c55_i32 : BitVec 32 := 55#32
  let v294 : Index := Scalar.indexCast c55_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v295 : Index := Scalar.indexCast v35
  ![55, v295.toNat]
def k8_off60 (k8_t2 : Fin k8_t2_loop.trips) : Fin 2 → Nat :=
  let c56_i32 : BitVec 32 := 56#32
  let v298 : Index := Scalar.indexCast c56_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v299 : Index := Scalar.indexCast v35
  ![56, v299.toNat]
def k8_off61 (k8_t2 : Fin k8_t2_loop.trips) : Fin 2 → Nat :=
  let c57_i32 : BitVec 32 := 57#32
  let v302 : Index := Scalar.indexCast c57_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v303 : Index := Scalar.indexCast v35
  ![57, v303.toNat]
def k8_off62 (k8_t2 : Fin k8_t2_loop.trips) : Fin 2 → Nat :=
  let c58_i32 : BitVec 32 := 58#32
  let v306 : Index := Scalar.indexCast c58_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v307 : Index := Scalar.indexCast v35
  ![58, v307.toNat]
def k8_off63 (k8_t2 : Fin k8_t2_loop.trips) : Fin 2 → Nat :=
  let c59_i32 : BitVec 32 := 59#32
  let v310 : Index := Scalar.indexCast c59_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v311 : Index := Scalar.indexCast v35
  ![59, v311.toNat]
def k8_off64 (k8_t2 : Fin k8_t2_loop.trips) : Fin 2 → Nat :=
  let c60_i32 : BitVec 32 := 60#32
  let v314 : Index := Scalar.indexCast c60_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v315 : Index := Scalar.indexCast v35
  ![60, v315.toNat]
def k8_off65 (k8_t2 : Fin k8_t2_loop.trips) : Fin 2 → Nat :=
  let c61_i32 : BitVec 32 := 61#32
  let v318 : Index := Scalar.indexCast c61_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v319 : Index := Scalar.indexCast v35
  ![61, v319.toNat]
def k8_off66 (k8_t2 : Fin k8_t2_loop.trips) : Fin 2 → Nat :=
  let c62_i32 : BitVec 32 := 62#32
  let v322 : Index := Scalar.indexCast c62_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v323 : Index := Scalar.indexCast v35
  ![62, v323.toNat]
def k8_off67 (k8_t2 : Fin k8_t2_loop.trips) : Fin 2 → Nat :=
  let c63_i32 : BitVec 32 := 63#32
  let v326 : Index := Scalar.indexCast c63_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v327 : Index := Scalar.indexCast v35
  ![63, v327.toNat]
def k8_off68 (k8_t2 : Fin k8_t2_loop.trips) : Fin 2 → Nat :=
  let c64_i32_47 : BitVec 32 := 64#32
  let v368 : Index := Scalar.indexCast c64_i32_47
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v369 : Index := Scalar.indexCast v35
  ![64, v369.toNat]
def k8_off69 (k8_t2 : Fin k8_t2_loop.trips) : Fin 2 → Nat :=
  let c65_i32 : BitVec 32 := 65#32
  let v372 : Index := Scalar.indexCast c65_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v373 : Index := Scalar.indexCast v35
  ![65, v373.toNat]
def k8_off70 (k8_t2 : Fin k8_t2_loop.trips) : Fin 2 → Nat :=
  let c66_i32 : BitVec 32 := 66#32
  let v376 : Index := Scalar.indexCast c66_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v377 : Index := Scalar.indexCast v35
  ![66, v377.toNat]
def k8_off71 (k8_t2 : Fin k8_t2_loop.trips) : Fin 2 → Nat :=
  let c67_i32 : BitVec 32 := 67#32
  let v380 : Index := Scalar.indexCast c67_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v381 : Index := Scalar.indexCast v35
  ![67, v381.toNat]
def k8_off72 (k8_t2 : Fin k8_t2_loop.trips) : Fin 2 → Nat :=
  let c68_i32 : BitVec 32 := 68#32
  let v384 : Index := Scalar.indexCast c68_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v385 : Index := Scalar.indexCast v35
  ![68, v385.toNat]
def k8_off73 (k8_t2 : Fin k8_t2_loop.trips) : Fin 2 → Nat :=
  let c69_i32 : BitVec 32 := 69#32
  let v388 : Index := Scalar.indexCast c69_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v389 : Index := Scalar.indexCast v35
  ![69, v389.toNat]
def k8_off74 (k8_t2 : Fin k8_t2_loop.trips) : Fin 2 → Nat :=
  let c70_i32 : BitVec 32 := 70#32
  let v392 : Index := Scalar.indexCast c70_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v393 : Index := Scalar.indexCast v35
  ![70, v393.toNat]
def k8_off75 (k8_t2 : Fin k8_t2_loop.trips) : Fin 2 → Nat :=
  let c71_i32 : BitVec 32 := 71#32
  let v396 : Index := Scalar.indexCast c71_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v397 : Index := Scalar.indexCast v35
  ![71, v397.toNat]
def k8_off76 (k8_t2 : Fin k8_t2_loop.trips) : Fin 2 → Nat :=
  let c72_i32 : BitVec 32 := 72#32
  let v400 : Index := Scalar.indexCast c72_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v401 : Index := Scalar.indexCast v35
  ![72, v401.toNat]
def k8_off77 (k8_t2 : Fin k8_t2_loop.trips) : Fin 2 → Nat :=
  let c73_i32 : BitVec 32 := 73#32
  let v404 : Index := Scalar.indexCast c73_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v405 : Index := Scalar.indexCast v35
  ![73, v405.toNat]
def k8_off78 (k8_t2 : Fin k8_t2_loop.trips) : Fin 2 → Nat :=
  let c74_i32 : BitVec 32 := 74#32
  let v408 : Index := Scalar.indexCast c74_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v409 : Index := Scalar.indexCast v35
  ![74, v409.toNat]
def k8_off79 (k8_t2 : Fin k8_t2_loop.trips) : Fin 2 → Nat :=
  let c75_i32 : BitVec 32 := 75#32
  let v412 : Index := Scalar.indexCast c75_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v413 : Index := Scalar.indexCast v35
  ![75, v413.toNat]
def k8_off80 (k8_t2 : Fin k8_t2_loop.trips) : Fin 2 → Nat :=
  let c76_i32 : BitVec 32 := 76#32
  let v416 : Index := Scalar.indexCast c76_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v417 : Index := Scalar.indexCast v35
  ![76, v417.toNat]
def k8_off81 (k8_t2 : Fin k8_t2_loop.trips) : Fin 2 → Nat :=
  let c77_i32 : BitVec 32 := 77#32
  let v420 : Index := Scalar.indexCast c77_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v421 : Index := Scalar.indexCast v35
  ![77, v421.toNat]
def k8_off82 (k8_t2 : Fin k8_t2_loop.trips) : Fin 2 → Nat :=
  let c78_i32 : BitVec 32 := 78#32
  let v424 : Index := Scalar.indexCast c78_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v425 : Index := Scalar.indexCast v35
  ![78, v425.toNat]
def k8_off83 (k8_t2 : Fin k8_t2_loop.trips) : Fin 2 → Nat :=
  let c79_i32 : BitVec 32 := 79#32
  let v428 : Index := Scalar.indexCast c79_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v429 : Index := Scalar.indexCast v35
  ![79, v429.toNat]
def k8_off84 (k8_t2 : Fin k8_t2_loop.trips) : Fin 2 → Nat :=
  let c80_i32 : BitVec 32 := 80#32
  let v432 : Index := Scalar.indexCast c80_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v433 : Index := Scalar.indexCast v35
  ![80, v433.toNat]
def k8_off85 (k8_t2 : Fin k8_t2_loop.trips) : Fin 2 → Nat :=
  let c81_i32 : BitVec 32 := 81#32
  let v436 : Index := Scalar.indexCast c81_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v437 : Index := Scalar.indexCast v35
  ![81, v437.toNat]
def k8_off86 (k8_t2 : Fin k8_t2_loop.trips) : Fin 2 → Nat :=
  let c82_i32 : BitVec 32 := 82#32
  let v440 : Index := Scalar.indexCast c82_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v441 : Index := Scalar.indexCast v35
  ![82, v441.toNat]
def k8_off87 (k8_t2 : Fin k8_t2_loop.trips) : Fin 2 → Nat :=
  let c83_i32 : BitVec 32 := 83#32
  let v444 : Index := Scalar.indexCast c83_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v445 : Index := Scalar.indexCast v35
  ![83, v445.toNat]
def k8_off88 (k8_t2 : Fin k8_t2_loop.trips) : Fin 2 → Nat :=
  let c84_i32 : BitVec 32 := 84#32
  let v448 : Index := Scalar.indexCast c84_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v449 : Index := Scalar.indexCast v35
  ![84, v449.toNat]
def k8_off89 (k8_t2 : Fin k8_t2_loop.trips) : Fin 2 → Nat :=
  let c85_i32 : BitVec 32 := 85#32
  let v452 : Index := Scalar.indexCast c85_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v453 : Index := Scalar.indexCast v35
  ![85, v453.toNat]
def k8_off90 (k8_t2 : Fin k8_t2_loop.trips) : Fin 2 → Nat :=
  let c86_i32 : BitVec 32 := 86#32
  let v456 : Index := Scalar.indexCast c86_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v457 : Index := Scalar.indexCast v35
  ![86, v457.toNat]
def k8_off91 (k8_t2 : Fin k8_t2_loop.trips) : Fin 2 → Nat :=
  let c87_i32 : BitVec 32 := 87#32
  let v460 : Index := Scalar.indexCast c87_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v461 : Index := Scalar.indexCast v35
  ![87, v461.toNat]
def k8_off92 (k8_t2 : Fin k8_t2_loop.trips) : Fin 2 → Nat :=
  let c88_i32 : BitVec 32 := 88#32
  let v464 : Index := Scalar.indexCast c88_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v465 : Index := Scalar.indexCast v35
  ![88, v465.toNat]
def k8_off93 (k8_t2 : Fin k8_t2_loop.trips) : Fin 2 → Nat :=
  let c89_i32 : BitVec 32 := 89#32
  let v468 : Index := Scalar.indexCast c89_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v469 : Index := Scalar.indexCast v35
  ![89, v469.toNat]
def k8_off94 (k8_t2 : Fin k8_t2_loop.trips) : Fin 2 → Nat :=
  let c90_i32 : BitVec 32 := 90#32
  let v472 : Index := Scalar.indexCast c90_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v473 : Index := Scalar.indexCast v35
  ![90, v473.toNat]
def k8_off95 (k8_t2 : Fin k8_t2_loop.trips) : Fin 2 → Nat :=
  let c91_i32 : BitVec 32 := 91#32
  let v476 : Index := Scalar.indexCast c91_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v477 : Index := Scalar.indexCast v35
  ![91, v477.toNat]
def k8_off96 (k8_t2 : Fin k8_t2_loop.trips) : Fin 2 → Nat :=
  let c92_i32 : BitVec 32 := 92#32
  let v480 : Index := Scalar.indexCast c92_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v481 : Index := Scalar.indexCast v35
  ![92, v481.toNat]
def k8_off97 (k8_t2 : Fin k8_t2_loop.trips) : Fin 2 → Nat :=
  let c93_i32 : BitVec 32 := 93#32
  let v484 : Index := Scalar.indexCast c93_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v485 : Index := Scalar.indexCast v35
  ![93, v485.toNat]
def k8_off98 (k8_t2 : Fin k8_t2_loop.trips) : Fin 2 → Nat :=
  let c94_i32 : BitVec 32 := 94#32
  let v488 : Index := Scalar.indexCast c94_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v489 : Index := Scalar.indexCast v35
  ![94, v489.toNat]
def k8_off99 (k8_t2 : Fin k8_t2_loop.trips) : Fin 2 → Nat :=
  let c95_i32 : BitVec 32 := 95#32
  let v492 : Index := Scalar.indexCast c95_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v493 : Index := Scalar.indexCast v35
  ![95, v493.toNat]
def k8_off100 (k8_t2 : Fin k8_t2_loop.trips) : Fin 2 → Nat :=
  let c96_i32 : BitVec 32 := 96#32
  let v534 : Index := Scalar.indexCast c96_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v535 : Index := Scalar.indexCast v35
  ![96, v535.toNat]
def k8_off101 (k8_t2 : Fin k8_t2_loop.trips) : Fin 2 → Nat :=
  let c97_i32 : BitVec 32 := 97#32
  let v538 : Index := Scalar.indexCast c97_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v539 : Index := Scalar.indexCast v35
  ![97, v539.toNat]
def k8_off102 (k8_t2 : Fin k8_t2_loop.trips) : Fin 2 → Nat :=
  let c98_i32 : BitVec 32 := 98#32
  let v542 : Index := Scalar.indexCast c98_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v543 : Index := Scalar.indexCast v35
  ![98, v543.toNat]
def k8_off103 (k8_t2 : Fin k8_t2_loop.trips) : Fin 2 → Nat :=
  let c99_i32 : BitVec 32 := 99#32
  let v546 : Index := Scalar.indexCast c99_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v547 : Index := Scalar.indexCast v35
  ![99, v547.toNat]
def k8_off104 (k8_t2 : Fin k8_t2_loop.trips) : Fin 2 → Nat :=
  let c100_i32 : BitVec 32 := 100#32
  let v550 : Index := Scalar.indexCast c100_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v551 : Index := Scalar.indexCast v35
  ![100, v551.toNat]
def k8_off105 (k8_t2 : Fin k8_t2_loop.trips) : Fin 2 → Nat :=
  let c101_i32 : BitVec 32 := 101#32
  let v554 : Index := Scalar.indexCast c101_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v555 : Index := Scalar.indexCast v35
  ![101, v555.toNat]
def k8_off106 (k8_t2 : Fin k8_t2_loop.trips) : Fin 2 → Nat :=
  let c102_i32 : BitVec 32 := 102#32
  let v558 : Index := Scalar.indexCast c102_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v559 : Index := Scalar.indexCast v35
  ![102, v559.toNat]
def k8_off107 (k8_t2 : Fin k8_t2_loop.trips) : Fin 2 → Nat :=
  let c103_i32 : BitVec 32 := 103#32
  let v562 : Index := Scalar.indexCast c103_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v563 : Index := Scalar.indexCast v35
  ![103, v563.toNat]
def k8_off108 (k8_t2 : Fin k8_t2_loop.trips) : Fin 2 → Nat :=
  let c104_i32 : BitVec 32 := 104#32
  let v566 : Index := Scalar.indexCast c104_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v567 : Index := Scalar.indexCast v35
  ![104, v567.toNat]
def k8_off109 (k8_t2 : Fin k8_t2_loop.trips) : Fin 2 → Nat :=
  let c105_i32 : BitVec 32 := 105#32
  let v570 : Index := Scalar.indexCast c105_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v571 : Index := Scalar.indexCast v35
  ![105, v571.toNat]
def k8_off110 (k8_t2 : Fin k8_t2_loop.trips) : Fin 2 → Nat :=
  let c106_i32 : BitVec 32 := 106#32
  let v574 : Index := Scalar.indexCast c106_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v575 : Index := Scalar.indexCast v35
  ![106, v575.toNat]
def k8_off111 (k8_t2 : Fin k8_t2_loop.trips) : Fin 2 → Nat :=
  let c107_i32 : BitVec 32 := 107#32
  let v578 : Index := Scalar.indexCast c107_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v579 : Index := Scalar.indexCast v35
  ![107, v579.toNat]
def k8_off112 (k8_t2 : Fin k8_t2_loop.trips) : Fin 2 → Nat :=
  let c108_i32 : BitVec 32 := 108#32
  let v582 : Index := Scalar.indexCast c108_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v583 : Index := Scalar.indexCast v35
  ![108, v583.toNat]
def k8_off113 (k8_t2 : Fin k8_t2_loop.trips) : Fin 2 → Nat :=
  let c109_i32 : BitVec 32 := 109#32
  let v586 : Index := Scalar.indexCast c109_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v587 : Index := Scalar.indexCast v35
  ![109, v587.toNat]
def k8_off114 (k8_t2 : Fin k8_t2_loop.trips) : Fin 2 → Nat :=
  let c110_i32 : BitVec 32 := 110#32
  let v590 : Index := Scalar.indexCast c110_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v591 : Index := Scalar.indexCast v35
  ![110, v591.toNat]
def k8_off115 (k8_t2 : Fin k8_t2_loop.trips) : Fin 2 → Nat :=
  let c111_i32 : BitVec 32 := 111#32
  let v594 : Index := Scalar.indexCast c111_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v595 : Index := Scalar.indexCast v35
  ![111, v595.toNat]
def k8_off116 (k8_t2 : Fin k8_t2_loop.trips) : Fin 2 → Nat :=
  let c112_i32 : BitVec 32 := 112#32
  let v598 : Index := Scalar.indexCast c112_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v599 : Index := Scalar.indexCast v35
  ![112, v599.toNat]
def k8_off117 (k8_t2 : Fin k8_t2_loop.trips) : Fin 2 → Nat :=
  let c113_i32 : BitVec 32 := 113#32
  let v602 : Index := Scalar.indexCast c113_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v603 : Index := Scalar.indexCast v35
  ![113, v603.toNat]
def k8_off118 (k8_t2 : Fin k8_t2_loop.trips) : Fin 2 → Nat :=
  let c114_i32 : BitVec 32 := 114#32
  let v606 : Index := Scalar.indexCast c114_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v607 : Index := Scalar.indexCast v35
  ![114, v607.toNat]
def k8_off119 (k8_t2 : Fin k8_t2_loop.trips) : Fin 2 → Nat :=
  let c115_i32 : BitVec 32 := 115#32
  let v610 : Index := Scalar.indexCast c115_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v611 : Index := Scalar.indexCast v35
  ![115, v611.toNat]
def k8_off120 (k8_t2 : Fin k8_t2_loop.trips) : Fin 2 → Nat :=
  let c116_i32 : BitVec 32 := 116#32
  let v614 : Index := Scalar.indexCast c116_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v615 : Index := Scalar.indexCast v35
  ![116, v615.toNat]
def k8_off121 (k8_t2 : Fin k8_t2_loop.trips) : Fin 2 → Nat :=
  let c117_i32 : BitVec 32 := 117#32
  let v618 : Index := Scalar.indexCast c117_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v619 : Index := Scalar.indexCast v35
  ![117, v619.toNat]
def k8_off122 (k8_t2 : Fin k8_t2_loop.trips) : Fin 2 → Nat :=
  let c118_i32 : BitVec 32 := 118#32
  let v622 : Index := Scalar.indexCast c118_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v623 : Index := Scalar.indexCast v35
  ![118, v623.toNat]
def k8_off123 (k8_t2 : Fin k8_t2_loop.trips) : Fin 2 → Nat :=
  let c119_i32 : BitVec 32 := 119#32
  let v626 : Index := Scalar.indexCast c119_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v627 : Index := Scalar.indexCast v35
  ![119, v627.toNat]
def k8_off124 (k8_t2 : Fin k8_t2_loop.trips) : Fin 2 → Nat :=
  let c120_i32 : BitVec 32 := 120#32
  let v630 : Index := Scalar.indexCast c120_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v631 : Index := Scalar.indexCast v35
  ![120, v631.toNat]
def k8_off125 (k8_t2 : Fin k8_t2_loop.trips) : Fin 2 → Nat :=
  let c121_i32 : BitVec 32 := 121#32
  let v634 : Index := Scalar.indexCast c121_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v635 : Index := Scalar.indexCast v35
  ![121, v635.toNat]
def k8_off126 (k8_t2 : Fin k8_t2_loop.trips) : Fin 2 → Nat :=
  let c122_i32 : BitVec 32 := 122#32
  let v638 : Index := Scalar.indexCast c122_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v639 : Index := Scalar.indexCast v35
  ![122, v639.toNat]
def k8_off127 (k8_t2 : Fin k8_t2_loop.trips) : Fin 2 → Nat :=
  let c123_i32 : BitVec 32 := 123#32
  let v642 : Index := Scalar.indexCast c123_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v643 : Index := Scalar.indexCast v35
  ![123, v643.toNat]
def k8_off128 (k8_t2 : Fin k8_t2_loop.trips) : Fin 2 → Nat :=
  let c124_i32 : BitVec 32 := 124#32
  let v646 : Index := Scalar.indexCast c124_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v647 : Index := Scalar.indexCast v35
  ![124, v647.toNat]
def k8_off129 (k8_t2 : Fin k8_t2_loop.trips) : Fin 2 → Nat :=
  let c125_i32 : BitVec 32 := 125#32
  let v650 : Index := Scalar.indexCast c125_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v651 : Index := Scalar.indexCast v35
  ![125, v651.toNat]
def k8_off130 (k8_t2 : Fin k8_t2_loop.trips) : Fin 2 → Nat :=
  let c126_i32 : BitVec 32 := 126#32
  let v654 : Index := Scalar.indexCast c126_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v655 : Index := Scalar.indexCast v35
  ![126, v655.toNat]
def k8_off131 (k8_t2 : Fin k8_t2_loop.trips) : Fin 2 → Nat :=
  let c127_i32 : BitVec 32 := 127#32
  let v658 : Index := Scalar.indexCast c127_i32
  let c0_i32_16 : BitVec 32 := 0#32
  let c1_i32_18 : BitVec 32 := 1#32
  let arg13 : BitVec 32 := Scf.iv c0_i32_16 c1_i32_18 k8_t2
  let c16_i32_37 : BitVec 32 := 16#32
  let v34 : BitVec 32 := Scalar.muli arg13 c16_i32_37
  let v35 : BitVec 32 := v34
  let v659 : Index := Scalar.indexCast v35
  ![127, v659.toNat]
def k8_cond1 (k8_t1 : Fin k8_t1_loop.trips) : BitVec 1 :=
  let c0_i32_7 : BitVec 32 := 0#32
  let c1_i32_8 : BitVec 32 := 1#32
  let arg11 : BitVec 32 := Scf.iv c0_i32_7 c1_i32_8 k8_t1
  let c2_i32_10 : BitVec 32 := 2#32
  let v12 : BitVec 32 := Scalar.muli arg11 c2_i32_10
  let c0_i32_11 : BitVec 32 := 0#32
  let v13 : BitVec 32 := Scalar.addi v12 c0_i32_11
  let c2_i32_20 : BitVec 32 := 2#32
  let v19 : BitVec 32 := Scalar.addi v13 c2_i32_20
  let c16_i32_21 : BitVec 32 := 16#32
  let v20 : BitVec 1 := Scalar.cmpi .slt v19 c16_i32_21
  let v21 : BitVec 32 := Scalar.extui v20
  let c0_i32_22 : BitVec 32 := 0#32
  let v22 : BitVec 1 := Scalar.cmpi .ne v21 c0_i32_22
  v22

def k8_off132 (k8_t1 : Fin k8_t1_loop.trips) : Fin 2 → Nat :=
  let c0_i32_7 : BitVec 32 := 0#32
  let c1_i32_8 : BitVec 32 := 1#32
  let arg11 : BitVec 32 := Scf.iv c0_i32_7 c1_i32_8 k8_t1
  let c2_i32_10 : BitVec 32 := 2#32
  let v12 : BitVec 32 := Scalar.muli arg11 c2_i32_10
  let c0_i32_11 : BitVec 32 := 0#32
  let v13 : BitVec 32 := Scalar.addi v12 c0_i32_11
  let c2_i32_37 : BitVec 32 := 2#32
  let v34 : BitVec 32 := Scalar.addi v13 c2_i32_37
  let c0_i32_38 : BitVec 32 := 0#32
  ![v34.toNat, 0]
@[reducible] def k8_t3_loop : Scf.Loop 32 :=
  let c0_i32_29 : BitVec 32 := 0#32
  let c8_i32_30 : BitVec 32 := 8#32
  let v28 : BitVec 32 := Scalar.addi c0_i32_29 c8_i32_30
  let c1_i32_31 : BitVec 32 := 1#32
  ⟨c0_i32_29, v28, c1_i32_31⟩
def k8_mult2 (k8_t3 : Fin k8_t3_loop.trips) : BitVec 32 :=
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  v34
def k8_off133 (k8_t3 : Fin k8_t3_loop.trips) : Fin 2 → Nat :=
  let c0_i32_38 : BitVec 32 := 0#32
  let v36 : Index := Scalar.indexCast c0_i32_38
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v37 : Index := Scalar.indexCast v35
  ![0, v37.toNat]
def k8_off134 (k8_t3 : Fin k8_t3_loop.trips) : Fin 2 → Nat :=
  let c1_i32_39 : BitVec 32 := 1#32
  let v40 : Index := Scalar.indexCast c1_i32_39
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v41 : Index := Scalar.indexCast v35
  ![1, v41.toNat]
def k8_off135 (k8_t3 : Fin k8_t3_loop.trips) : Fin 2 → Nat :=
  let c2_i32_40 : BitVec 32 := 2#32
  let v44 : Index := Scalar.indexCast c2_i32_40
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v45 : Index := Scalar.indexCast v35
  ![2, v45.toNat]
def k8_off136 (k8_t3 : Fin k8_t3_loop.trips) : Fin 2 → Nat :=
  let c3_i32 : BitVec 32 := 3#32
  let v48 : Index := Scalar.indexCast c3_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v49 : Index := Scalar.indexCast v35
  ![3, v49.toNat]
def k8_off137 (k8_t3 : Fin k8_t3_loop.trips) : Fin 2 → Nat :=
  let c4_i32 : BitVec 32 := 4#32
  let v52 : Index := Scalar.indexCast c4_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v53 : Index := Scalar.indexCast v35
  ![4, v53.toNat]
def k8_off138 (k8_t3 : Fin k8_t3_loop.trips) : Fin 2 → Nat :=
  let c5_i32 : BitVec 32 := 5#32
  let v56 : Index := Scalar.indexCast c5_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v57 : Index := Scalar.indexCast v35
  ![5, v57.toNat]
def k8_off139 (k8_t3 : Fin k8_t3_loop.trips) : Fin 2 → Nat :=
  let c6_i32 : BitVec 32 := 6#32
  let v60 : Index := Scalar.indexCast c6_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v61 : Index := Scalar.indexCast v35
  ![6, v61.toNat]
def k8_off140 (k8_t3 : Fin k8_t3_loop.trips) : Fin 2 → Nat :=
  let c7_i32 : BitVec 32 := 7#32
  let v64 : Index := Scalar.indexCast c7_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v65 : Index := Scalar.indexCast v35
  ![7, v65.toNat]
def k8_off141 (k8_t3 : Fin k8_t3_loop.trips) : Fin 2 → Nat :=
  let c8_i32_41 : BitVec 32 := 8#32
  let v68 : Index := Scalar.indexCast c8_i32_41
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v69 : Index := Scalar.indexCast v35
  ![8, v69.toNat]
def k8_off142 (k8_t3 : Fin k8_t3_loop.trips) : Fin 2 → Nat :=
  let c9_i32 : BitVec 32 := 9#32
  let v72 : Index := Scalar.indexCast c9_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v73 : Index := Scalar.indexCast v35
  ![9, v73.toNat]
def k8_off143 (k8_t3 : Fin k8_t3_loop.trips) : Fin 2 → Nat :=
  let c10_i32 : BitVec 32 := 10#32
  let v76 : Index := Scalar.indexCast c10_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v77 : Index := Scalar.indexCast v35
  ![10, v77.toNat]
def k8_off144 (k8_t3 : Fin k8_t3_loop.trips) : Fin 2 → Nat :=
  let c11_i32 : BitVec 32 := 11#32
  let v80 : Index := Scalar.indexCast c11_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v81 : Index := Scalar.indexCast v35
  ![11, v81.toNat]
def k8_off145 (k8_t3 : Fin k8_t3_loop.trips) : Fin 2 → Nat :=
  let c12_i32 : BitVec 32 := 12#32
  let v84 : Index := Scalar.indexCast c12_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v85 : Index := Scalar.indexCast v35
  ![12, v85.toNat]
def k8_off146 (k8_t3 : Fin k8_t3_loop.trips) : Fin 2 → Nat :=
  let c13_i32 : BitVec 32 := 13#32
  let v88 : Index := Scalar.indexCast c13_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v89 : Index := Scalar.indexCast v35
  ![13, v89.toNat]
def k8_off147 (k8_t3 : Fin k8_t3_loop.trips) : Fin 2 → Nat :=
  let c14_i32 : BitVec 32 := 14#32
  let v92 : Index := Scalar.indexCast c14_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v93 : Index := Scalar.indexCast v35
  ![14, v93.toNat]
def k8_off148 (k8_t3 : Fin k8_t3_loop.trips) : Fin 2 → Nat :=
  let c15_i32 : BitVec 32 := 15#32
  let v96 : Index := Scalar.indexCast c15_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v97 : Index := Scalar.indexCast v35
  ![15, v97.toNat]
def k8_off149 (k8_t3 : Fin k8_t3_loop.trips) : Fin 2 → Nat :=
  let c16_i32_42 : BitVec 32 := 16#32
  let v100 : Index := Scalar.indexCast c16_i32_42
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v101 : Index := Scalar.indexCast v35
  ![16, v101.toNat]
def k8_off150 (k8_t3 : Fin k8_t3_loop.trips) : Fin 2 → Nat :=
  let c17_i32 : BitVec 32 := 17#32
  let v104 : Index := Scalar.indexCast c17_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v105 : Index := Scalar.indexCast v35
  ![17, v105.toNat]
def k8_off151 (k8_t3 : Fin k8_t3_loop.trips) : Fin 2 → Nat :=
  let c18_i32 : BitVec 32 := 18#32
  let v108 : Index := Scalar.indexCast c18_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v109 : Index := Scalar.indexCast v35
  ![18, v109.toNat]
def k8_off152 (k8_t3 : Fin k8_t3_loop.trips) : Fin 2 → Nat :=
  let c19_i32 : BitVec 32 := 19#32
  let v112 : Index := Scalar.indexCast c19_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v113 : Index := Scalar.indexCast v35
  ![19, v113.toNat]
def k8_off153 (k8_t3 : Fin k8_t3_loop.trips) : Fin 2 → Nat :=
  let c20_i32 : BitVec 32 := 20#32
  let v116 : Index := Scalar.indexCast c20_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v117 : Index := Scalar.indexCast v35
  ![20, v117.toNat]
def k8_off154 (k8_t3 : Fin k8_t3_loop.trips) : Fin 2 → Nat :=
  let c21_i32 : BitVec 32 := 21#32
  let v120 : Index := Scalar.indexCast c21_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v121 : Index := Scalar.indexCast v35
  ![21, v121.toNat]
def k8_off155 (k8_t3 : Fin k8_t3_loop.trips) : Fin 2 → Nat :=
  let c22_i32 : BitVec 32 := 22#32
  let v124 : Index := Scalar.indexCast c22_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v125 : Index := Scalar.indexCast v35
  ![22, v125.toNat]
def k8_off156 (k8_t3 : Fin k8_t3_loop.trips) : Fin 2 → Nat :=
  let c23_i32 : BitVec 32 := 23#32
  let v128 : Index := Scalar.indexCast c23_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v129 : Index := Scalar.indexCast v35
  ![23, v129.toNat]
def k8_off157 (k8_t3 : Fin k8_t3_loop.trips) : Fin 2 → Nat :=
  let c24_i32 : BitVec 32 := 24#32
  let v132 : Index := Scalar.indexCast c24_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v133 : Index := Scalar.indexCast v35
  ![24, v133.toNat]
def k8_off158 (k8_t3 : Fin k8_t3_loop.trips) : Fin 2 → Nat :=
  let c25_i32 : BitVec 32 := 25#32
  let v136 : Index := Scalar.indexCast c25_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v137 : Index := Scalar.indexCast v35
  ![25, v137.toNat]
def k8_off159 (k8_t3 : Fin k8_t3_loop.trips) : Fin 2 → Nat :=
  let c26_i32 : BitVec 32 := 26#32
  let v140 : Index := Scalar.indexCast c26_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v141 : Index := Scalar.indexCast v35
  ![26, v141.toNat]
def k8_off160 (k8_t3 : Fin k8_t3_loop.trips) : Fin 2 → Nat :=
  let c27_i32 : BitVec 32 := 27#32
  let v144 : Index := Scalar.indexCast c27_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v145 : Index := Scalar.indexCast v35
  ![27, v145.toNat]
def k8_off161 (k8_t3 : Fin k8_t3_loop.trips) : Fin 2 → Nat :=
  let c28_i32 : BitVec 32 := 28#32
  let v148 : Index := Scalar.indexCast c28_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v149 : Index := Scalar.indexCast v35
  ![28, v149.toNat]
def k8_off162 (k8_t3 : Fin k8_t3_loop.trips) : Fin 2 → Nat :=
  let c29_i32 : BitVec 32 := 29#32
  let v152 : Index := Scalar.indexCast c29_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v153 : Index := Scalar.indexCast v35
  ![29, v153.toNat]
def k8_off163 (k8_t3 : Fin k8_t3_loop.trips) : Fin 2 → Nat :=
  let c30_i32 : BitVec 32 := 30#32
  let v156 : Index := Scalar.indexCast c30_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v157 : Index := Scalar.indexCast v35
  ![30, v157.toNat]
def k8_off164 (k8_t3 : Fin k8_t3_loop.trips) : Fin 2 → Nat :=
  let c31_i32 : BitVec 32 := 31#32
  let v160 : Index := Scalar.indexCast c31_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v161 : Index := Scalar.indexCast v35
  ![31, v161.toNat]
def k8_off165 (k8_t1 : Fin k8_t1_loop.trips) (k8_t3 : Fin k8_t3_loop.trips) (c0_i32_44 : BitVec 32) : Fin 2 → Nat :=
  let c0_i32_7 : BitVec 32 := 0#32
  let c1_i32_8 : BitVec 32 := 1#32
  let arg11 : BitVec 32 := Scf.iv c0_i32_7 c1_i32_8 k8_t1
  let c2_i32_23 : BitVec 32 := 2#32
  let v23 : BitVec 32 := Scalar.muli arg11 c2_i32_23
  let c1_i32_24 : BitVec 32 := 1#32
  let v24 : BitVec 32 := Scalar.addi v23 c1_i32_24
  let c4_i32_43 : BitVec 32 := 4#32
  let v195 : BitVec 32 := Scalar.muli v24 c4_i32_43
  let v196 : BitVec 32 := Scalar.addi v195 c0_i32_44
  let v197 : Index := Scalar.indexCast v196
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v198 : Index := Scalar.indexCast v35
  ![v197.toNat, v198.toNat]
def k8_off166 (k8_t3 : Fin k8_t3_loop.trips) : Fin 2 → Nat :=
  let c32_i32 : BitVec 32 := 32#32
  let v202 : Index := Scalar.indexCast c32_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v203 : Index := Scalar.indexCast v35
  ![32, v203.toNat]
def k8_off167 (k8_t3 : Fin k8_t3_loop.trips) : Fin 2 → Nat :=
  let c33_i32 : BitVec 32 := 33#32
  let v206 : Index := Scalar.indexCast c33_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v207 : Index := Scalar.indexCast v35
  ![33, v207.toNat]
def k8_off168 (k8_t3 : Fin k8_t3_loop.trips) : Fin 2 → Nat :=
  let c34_i32 : BitVec 32 := 34#32
  let v210 : Index := Scalar.indexCast c34_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v211 : Index := Scalar.indexCast v35
  ![34, v211.toNat]
def k8_off169 (k8_t3 : Fin k8_t3_loop.trips) : Fin 2 → Nat :=
  let c35_i32 : BitVec 32 := 35#32
  let v214 : Index := Scalar.indexCast c35_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v215 : Index := Scalar.indexCast v35
  ![35, v215.toNat]
def k8_off170 (k8_t3 : Fin k8_t3_loop.trips) : Fin 2 → Nat :=
  let c36_i32 : BitVec 32 := 36#32
  let v218 : Index := Scalar.indexCast c36_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v219 : Index := Scalar.indexCast v35
  ![36, v219.toNat]
def k8_off171 (k8_t3 : Fin k8_t3_loop.trips) : Fin 2 → Nat :=
  let c37_i32 : BitVec 32 := 37#32
  let v222 : Index := Scalar.indexCast c37_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v223 : Index := Scalar.indexCast v35
  ![37, v223.toNat]
def k8_off172 (k8_t3 : Fin k8_t3_loop.trips) : Fin 2 → Nat :=
  let c38_i32 : BitVec 32 := 38#32
  let v226 : Index := Scalar.indexCast c38_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v227 : Index := Scalar.indexCast v35
  ![38, v227.toNat]
def k8_off173 (k8_t3 : Fin k8_t3_loop.trips) : Fin 2 → Nat :=
  let c39_i32 : BitVec 32 := 39#32
  let v230 : Index := Scalar.indexCast c39_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v231 : Index := Scalar.indexCast v35
  ![39, v231.toNat]
def k8_off174 (k8_t3 : Fin k8_t3_loop.trips) : Fin 2 → Nat :=
  let c40_i32 : BitVec 32 := 40#32
  let v234 : Index := Scalar.indexCast c40_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v235 : Index := Scalar.indexCast v35
  ![40, v235.toNat]
def k8_off175 (k8_t3 : Fin k8_t3_loop.trips) : Fin 2 → Nat :=
  let c41_i32 : BitVec 32 := 41#32
  let v238 : Index := Scalar.indexCast c41_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v239 : Index := Scalar.indexCast v35
  ![41, v239.toNat]
def k8_off176 (k8_t3 : Fin k8_t3_loop.trips) : Fin 2 → Nat :=
  let c42_i32 : BitVec 32 := 42#32
  let v242 : Index := Scalar.indexCast c42_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v243 : Index := Scalar.indexCast v35
  ![42, v243.toNat]
def k8_off177 (k8_t3 : Fin k8_t3_loop.trips) : Fin 2 → Nat :=
  let c43_i32 : BitVec 32 := 43#32
  let v246 : Index := Scalar.indexCast c43_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v247 : Index := Scalar.indexCast v35
  ![43, v247.toNat]
def k8_off178 (k8_t3 : Fin k8_t3_loop.trips) : Fin 2 → Nat :=
  let c44_i32 : BitVec 32 := 44#32
  let v250 : Index := Scalar.indexCast c44_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v251 : Index := Scalar.indexCast v35
  ![44, v251.toNat]
def k8_off179 (k8_t3 : Fin k8_t3_loop.trips) : Fin 2 → Nat :=
  let c45_i32 : BitVec 32 := 45#32
  let v254 : Index := Scalar.indexCast c45_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v255 : Index := Scalar.indexCast v35
  ![45, v255.toNat]
def k8_off180 (k8_t3 : Fin k8_t3_loop.trips) : Fin 2 → Nat :=
  let c46_i32 : BitVec 32 := 46#32
  let v258 : Index := Scalar.indexCast c46_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v259 : Index := Scalar.indexCast v35
  ![46, v259.toNat]
def k8_off181 (k8_t3 : Fin k8_t3_loop.trips) : Fin 2 → Nat :=
  let c47_i32 : BitVec 32 := 47#32
  let v262 : Index := Scalar.indexCast c47_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v263 : Index := Scalar.indexCast v35
  ![47, v263.toNat]
def k8_off182 (k8_t3 : Fin k8_t3_loop.trips) : Fin 2 → Nat :=
  let c48_i32 : BitVec 32 := 48#32
  let v266 : Index := Scalar.indexCast c48_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v267 : Index := Scalar.indexCast v35
  ![48, v267.toNat]
def k8_off183 (k8_t3 : Fin k8_t3_loop.trips) : Fin 2 → Nat :=
  let c49_i32 : BitVec 32 := 49#32
  let v270 : Index := Scalar.indexCast c49_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v271 : Index := Scalar.indexCast v35
  ![49, v271.toNat]
def k8_off184 (k8_t3 : Fin k8_t3_loop.trips) : Fin 2 → Nat :=
  let c50_i32 : BitVec 32 := 50#32
  let v274 : Index := Scalar.indexCast c50_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v275 : Index := Scalar.indexCast v35
  ![50, v275.toNat]
def k8_off185 (k8_t3 : Fin k8_t3_loop.trips) : Fin 2 → Nat :=
  let c51_i32 : BitVec 32 := 51#32
  let v278 : Index := Scalar.indexCast c51_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v279 : Index := Scalar.indexCast v35
  ![51, v279.toNat]
def k8_off186 (k8_t3 : Fin k8_t3_loop.trips) : Fin 2 → Nat :=
  let c52_i32 : BitVec 32 := 52#32
  let v282 : Index := Scalar.indexCast c52_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v283 : Index := Scalar.indexCast v35
  ![52, v283.toNat]
def k8_off187 (k8_t3 : Fin k8_t3_loop.trips) : Fin 2 → Nat :=
  let c53_i32 : BitVec 32 := 53#32
  let v286 : Index := Scalar.indexCast c53_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v287 : Index := Scalar.indexCast v35
  ![53, v287.toNat]
def k8_off188 (k8_t3 : Fin k8_t3_loop.trips) : Fin 2 → Nat :=
  let c54_i32 : BitVec 32 := 54#32
  let v290 : Index := Scalar.indexCast c54_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v291 : Index := Scalar.indexCast v35
  ![54, v291.toNat]
def k8_off189 (k8_t3 : Fin k8_t3_loop.trips) : Fin 2 → Nat :=
  let c55_i32 : BitVec 32 := 55#32
  let v294 : Index := Scalar.indexCast c55_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v295 : Index := Scalar.indexCast v35
  ![55, v295.toNat]
def k8_off190 (k8_t3 : Fin k8_t3_loop.trips) : Fin 2 → Nat :=
  let c56_i32 : BitVec 32 := 56#32
  let v298 : Index := Scalar.indexCast c56_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v299 : Index := Scalar.indexCast v35
  ![56, v299.toNat]
def k8_off191 (k8_t3 : Fin k8_t3_loop.trips) : Fin 2 → Nat :=
  let c57_i32 : BitVec 32 := 57#32
  let v302 : Index := Scalar.indexCast c57_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v303 : Index := Scalar.indexCast v35
  ![57, v303.toNat]
def k8_off192 (k8_t3 : Fin k8_t3_loop.trips) : Fin 2 → Nat :=
  let c58_i32 : BitVec 32 := 58#32
  let v306 : Index := Scalar.indexCast c58_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v307 : Index := Scalar.indexCast v35
  ![58, v307.toNat]
def k8_off193 (k8_t3 : Fin k8_t3_loop.trips) : Fin 2 → Nat :=
  let c59_i32 : BitVec 32 := 59#32
  let v310 : Index := Scalar.indexCast c59_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v311 : Index := Scalar.indexCast v35
  ![59, v311.toNat]
def k8_off194 (k8_t3 : Fin k8_t3_loop.trips) : Fin 2 → Nat :=
  let c60_i32 : BitVec 32 := 60#32
  let v314 : Index := Scalar.indexCast c60_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v315 : Index := Scalar.indexCast v35
  ![60, v315.toNat]
def k8_off195 (k8_t3 : Fin k8_t3_loop.trips) : Fin 2 → Nat :=
  let c61_i32 : BitVec 32 := 61#32
  let v318 : Index := Scalar.indexCast c61_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v319 : Index := Scalar.indexCast v35
  ![61, v319.toNat]
def k8_off196 (k8_t3 : Fin k8_t3_loop.trips) : Fin 2 → Nat :=
  let c62_i32 : BitVec 32 := 62#32
  let v322 : Index := Scalar.indexCast c62_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v323 : Index := Scalar.indexCast v35
  ![62, v323.toNat]
def k8_off197 (k8_t3 : Fin k8_t3_loop.trips) : Fin 2 → Nat :=
  let c63_i32 : BitVec 32 := 63#32
  let v326 : Index := Scalar.indexCast c63_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v327 : Index := Scalar.indexCast v35
  ![63, v327.toNat]
def k8_off198 (k8_t3 : Fin k8_t3_loop.trips) : Fin 2 → Nat :=
  let c64_i32_47 : BitVec 32 := 64#32
  let v368 : Index := Scalar.indexCast c64_i32_47
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v369 : Index := Scalar.indexCast v35
  ![64, v369.toNat]
def k8_off199 (k8_t3 : Fin k8_t3_loop.trips) : Fin 2 → Nat :=
  let c65_i32 : BitVec 32 := 65#32
  let v372 : Index := Scalar.indexCast c65_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v373 : Index := Scalar.indexCast v35
  ![65, v373.toNat]
def k8_off200 (k8_t3 : Fin k8_t3_loop.trips) : Fin 2 → Nat :=
  let c66_i32 : BitVec 32 := 66#32
  let v376 : Index := Scalar.indexCast c66_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v377 : Index := Scalar.indexCast v35
  ![66, v377.toNat]
def k8_off201 (k8_t3 : Fin k8_t3_loop.trips) : Fin 2 → Nat :=
  let c67_i32 : BitVec 32 := 67#32
  let v380 : Index := Scalar.indexCast c67_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v381 : Index := Scalar.indexCast v35
  ![67, v381.toNat]
def k8_off202 (k8_t3 : Fin k8_t3_loop.trips) : Fin 2 → Nat :=
  let c68_i32 : BitVec 32 := 68#32
  let v384 : Index := Scalar.indexCast c68_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v385 : Index := Scalar.indexCast v35
  ![68, v385.toNat]
def k8_off203 (k8_t3 : Fin k8_t3_loop.trips) : Fin 2 → Nat :=
  let c69_i32 : BitVec 32 := 69#32
  let v388 : Index := Scalar.indexCast c69_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v389 : Index := Scalar.indexCast v35
  ![69, v389.toNat]
def k8_off204 (k8_t3 : Fin k8_t3_loop.trips) : Fin 2 → Nat :=
  let c70_i32 : BitVec 32 := 70#32
  let v392 : Index := Scalar.indexCast c70_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v393 : Index := Scalar.indexCast v35
  ![70, v393.toNat]
def k8_off205 (k8_t3 : Fin k8_t3_loop.trips) : Fin 2 → Nat :=
  let c71_i32 : BitVec 32 := 71#32
  let v396 : Index := Scalar.indexCast c71_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v397 : Index := Scalar.indexCast v35
  ![71, v397.toNat]
def k8_off206 (k8_t3 : Fin k8_t3_loop.trips) : Fin 2 → Nat :=
  let c72_i32 : BitVec 32 := 72#32
  let v400 : Index := Scalar.indexCast c72_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v401 : Index := Scalar.indexCast v35
  ![72, v401.toNat]
def k8_off207 (k8_t3 : Fin k8_t3_loop.trips) : Fin 2 → Nat :=
  let c73_i32 : BitVec 32 := 73#32
  let v404 : Index := Scalar.indexCast c73_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v405 : Index := Scalar.indexCast v35
  ![73, v405.toNat]
def k8_off208 (k8_t3 : Fin k8_t3_loop.trips) : Fin 2 → Nat :=
  let c74_i32 : BitVec 32 := 74#32
  let v408 : Index := Scalar.indexCast c74_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v409 : Index := Scalar.indexCast v35
  ![74, v409.toNat]
def k8_off209 (k8_t3 : Fin k8_t3_loop.trips) : Fin 2 → Nat :=
  let c75_i32 : BitVec 32 := 75#32
  let v412 : Index := Scalar.indexCast c75_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v413 : Index := Scalar.indexCast v35
  ![75, v413.toNat]
def k8_off210 (k8_t3 : Fin k8_t3_loop.trips) : Fin 2 → Nat :=
  let c76_i32 : BitVec 32 := 76#32
  let v416 : Index := Scalar.indexCast c76_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v417 : Index := Scalar.indexCast v35
  ![76, v417.toNat]
def k8_off211 (k8_t3 : Fin k8_t3_loop.trips) : Fin 2 → Nat :=
  let c77_i32 : BitVec 32 := 77#32
  let v420 : Index := Scalar.indexCast c77_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v421 : Index := Scalar.indexCast v35
  ![77, v421.toNat]
def k8_off212 (k8_t3 : Fin k8_t3_loop.trips) : Fin 2 → Nat :=
  let c78_i32 : BitVec 32 := 78#32
  let v424 : Index := Scalar.indexCast c78_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v425 : Index := Scalar.indexCast v35
  ![78, v425.toNat]
def k8_off213 (k8_t3 : Fin k8_t3_loop.trips) : Fin 2 → Nat :=
  let c79_i32 : BitVec 32 := 79#32
  let v428 : Index := Scalar.indexCast c79_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v429 : Index := Scalar.indexCast v35
  ![79, v429.toNat]
def k8_off214 (k8_t3 : Fin k8_t3_loop.trips) : Fin 2 → Nat :=
  let c80_i32 : BitVec 32 := 80#32
  let v432 : Index := Scalar.indexCast c80_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v433 : Index := Scalar.indexCast v35
  ![80, v433.toNat]
def k8_off215 (k8_t3 : Fin k8_t3_loop.trips) : Fin 2 → Nat :=
  let c81_i32 : BitVec 32 := 81#32
  let v436 : Index := Scalar.indexCast c81_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v437 : Index := Scalar.indexCast v35
  ![81, v437.toNat]
def k8_off216 (k8_t3 : Fin k8_t3_loop.trips) : Fin 2 → Nat :=
  let c82_i32 : BitVec 32 := 82#32
  let v440 : Index := Scalar.indexCast c82_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v441 : Index := Scalar.indexCast v35
  ![82, v441.toNat]
def k8_off217 (k8_t3 : Fin k8_t3_loop.trips) : Fin 2 → Nat :=
  let c83_i32 : BitVec 32 := 83#32
  let v444 : Index := Scalar.indexCast c83_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v445 : Index := Scalar.indexCast v35
  ![83, v445.toNat]
def k8_off218 (k8_t3 : Fin k8_t3_loop.trips) : Fin 2 → Nat :=
  let c84_i32 : BitVec 32 := 84#32
  let v448 : Index := Scalar.indexCast c84_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v449 : Index := Scalar.indexCast v35
  ![84, v449.toNat]
def k8_off219 (k8_t3 : Fin k8_t3_loop.trips) : Fin 2 → Nat :=
  let c85_i32 : BitVec 32 := 85#32
  let v452 : Index := Scalar.indexCast c85_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v453 : Index := Scalar.indexCast v35
  ![85, v453.toNat]
def k8_off220 (k8_t3 : Fin k8_t3_loop.trips) : Fin 2 → Nat :=
  let c86_i32 : BitVec 32 := 86#32
  let v456 : Index := Scalar.indexCast c86_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v457 : Index := Scalar.indexCast v35
  ![86, v457.toNat]
def k8_off221 (k8_t3 : Fin k8_t3_loop.trips) : Fin 2 → Nat :=
  let c87_i32 : BitVec 32 := 87#32
  let v460 : Index := Scalar.indexCast c87_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v461 : Index := Scalar.indexCast v35
  ![87, v461.toNat]
def k8_off222 (k8_t3 : Fin k8_t3_loop.trips) : Fin 2 → Nat :=
  let c88_i32 : BitVec 32 := 88#32
  let v464 : Index := Scalar.indexCast c88_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v465 : Index := Scalar.indexCast v35
  ![88, v465.toNat]
def k8_off223 (k8_t3 : Fin k8_t3_loop.trips) : Fin 2 → Nat :=
  let c89_i32 : BitVec 32 := 89#32
  let v468 : Index := Scalar.indexCast c89_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v469 : Index := Scalar.indexCast v35
  ![89, v469.toNat]
def k8_off224 (k8_t3 : Fin k8_t3_loop.trips) : Fin 2 → Nat :=
  let c90_i32 : BitVec 32 := 90#32
  let v472 : Index := Scalar.indexCast c90_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v473 : Index := Scalar.indexCast v35
  ![90, v473.toNat]
def k8_off225 (k8_t3 : Fin k8_t3_loop.trips) : Fin 2 → Nat :=
  let c91_i32 : BitVec 32 := 91#32
  let v476 : Index := Scalar.indexCast c91_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v477 : Index := Scalar.indexCast v35
  ![91, v477.toNat]
def k8_off226 (k8_t3 : Fin k8_t3_loop.trips) : Fin 2 → Nat :=
  let c92_i32 : BitVec 32 := 92#32
  let v480 : Index := Scalar.indexCast c92_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v481 : Index := Scalar.indexCast v35
  ![92, v481.toNat]
def k8_off227 (k8_t3 : Fin k8_t3_loop.trips) : Fin 2 → Nat :=
  let c93_i32 : BitVec 32 := 93#32
  let v484 : Index := Scalar.indexCast c93_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v485 : Index := Scalar.indexCast v35
  ![93, v485.toNat]
def k8_off228 (k8_t3 : Fin k8_t3_loop.trips) : Fin 2 → Nat :=
  let c94_i32 : BitVec 32 := 94#32
  let v488 : Index := Scalar.indexCast c94_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v489 : Index := Scalar.indexCast v35
  ![94, v489.toNat]
def k8_off229 (k8_t3 : Fin k8_t3_loop.trips) : Fin 2 → Nat :=
  let c95_i32 : BitVec 32 := 95#32
  let v492 : Index := Scalar.indexCast c95_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v493 : Index := Scalar.indexCast v35
  ![95, v493.toNat]
def k8_off230 (k8_t3 : Fin k8_t3_loop.trips) : Fin 2 → Nat :=
  let c96_i32 : BitVec 32 := 96#32
  let v534 : Index := Scalar.indexCast c96_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v535 : Index := Scalar.indexCast v35
  ![96, v535.toNat]
def k8_off231 (k8_t3 : Fin k8_t3_loop.trips) : Fin 2 → Nat :=
  let c97_i32 : BitVec 32 := 97#32
  let v538 : Index := Scalar.indexCast c97_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v539 : Index := Scalar.indexCast v35
  ![97, v539.toNat]
def k8_off232 (k8_t3 : Fin k8_t3_loop.trips) : Fin 2 → Nat :=
  let c98_i32 : BitVec 32 := 98#32
  let v542 : Index := Scalar.indexCast c98_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v543 : Index := Scalar.indexCast v35
  ![98, v543.toNat]
def k8_off233 (k8_t3 : Fin k8_t3_loop.trips) : Fin 2 → Nat :=
  let c99_i32 : BitVec 32 := 99#32
  let v546 : Index := Scalar.indexCast c99_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v547 : Index := Scalar.indexCast v35
  ![99, v547.toNat]
def k8_off234 (k8_t3 : Fin k8_t3_loop.trips) : Fin 2 → Nat :=
  let c100_i32 : BitVec 32 := 100#32
  let v550 : Index := Scalar.indexCast c100_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v551 : Index := Scalar.indexCast v35
  ![100, v551.toNat]
def k8_off235 (k8_t3 : Fin k8_t3_loop.trips) : Fin 2 → Nat :=
  let c101_i32 : BitVec 32 := 101#32
  let v554 : Index := Scalar.indexCast c101_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v555 : Index := Scalar.indexCast v35
  ![101, v555.toNat]
def k8_off236 (k8_t3 : Fin k8_t3_loop.trips) : Fin 2 → Nat :=
  let c102_i32 : BitVec 32 := 102#32
  let v558 : Index := Scalar.indexCast c102_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v559 : Index := Scalar.indexCast v35
  ![102, v559.toNat]
def k8_off237 (k8_t3 : Fin k8_t3_loop.trips) : Fin 2 → Nat :=
  let c103_i32 : BitVec 32 := 103#32
  let v562 : Index := Scalar.indexCast c103_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v563 : Index := Scalar.indexCast v35
  ![103, v563.toNat]
def k8_off238 (k8_t3 : Fin k8_t3_loop.trips) : Fin 2 → Nat :=
  let c104_i32 : BitVec 32 := 104#32
  let v566 : Index := Scalar.indexCast c104_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v567 : Index := Scalar.indexCast v35
  ![104, v567.toNat]
def k8_off239 (k8_t3 : Fin k8_t3_loop.trips) : Fin 2 → Nat :=
  let c105_i32 : BitVec 32 := 105#32
  let v570 : Index := Scalar.indexCast c105_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v571 : Index := Scalar.indexCast v35
  ![105, v571.toNat]
def k8_off240 (k8_t3 : Fin k8_t3_loop.trips) : Fin 2 → Nat :=
  let c106_i32 : BitVec 32 := 106#32
  let v574 : Index := Scalar.indexCast c106_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v575 : Index := Scalar.indexCast v35
  ![106, v575.toNat]
def k8_off241 (k8_t3 : Fin k8_t3_loop.trips) : Fin 2 → Nat :=
  let c107_i32 : BitVec 32 := 107#32
  let v578 : Index := Scalar.indexCast c107_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v579 : Index := Scalar.indexCast v35
  ![107, v579.toNat]
def k8_off242 (k8_t3 : Fin k8_t3_loop.trips) : Fin 2 → Nat :=
  let c108_i32 : BitVec 32 := 108#32
  let v582 : Index := Scalar.indexCast c108_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v583 : Index := Scalar.indexCast v35
  ![108, v583.toNat]
def k8_off243 (k8_t3 : Fin k8_t3_loop.trips) : Fin 2 → Nat :=
  let c109_i32 : BitVec 32 := 109#32
  let v586 : Index := Scalar.indexCast c109_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v587 : Index := Scalar.indexCast v35
  ![109, v587.toNat]
def k8_off244 (k8_t3 : Fin k8_t3_loop.trips) : Fin 2 → Nat :=
  let c110_i32 : BitVec 32 := 110#32
  let v590 : Index := Scalar.indexCast c110_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v591 : Index := Scalar.indexCast v35
  ![110, v591.toNat]
def k8_off245 (k8_t3 : Fin k8_t3_loop.trips) : Fin 2 → Nat :=
  let c111_i32 : BitVec 32 := 111#32
  let v594 : Index := Scalar.indexCast c111_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v595 : Index := Scalar.indexCast v35
  ![111, v595.toNat]
def k8_off246 (k8_t3 : Fin k8_t3_loop.trips) : Fin 2 → Nat :=
  let c112_i32 : BitVec 32 := 112#32
  let v598 : Index := Scalar.indexCast c112_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v599 : Index := Scalar.indexCast v35
  ![112, v599.toNat]
def k8_off247 (k8_t3 : Fin k8_t3_loop.trips) : Fin 2 → Nat :=
  let c113_i32 : BitVec 32 := 113#32
  let v602 : Index := Scalar.indexCast c113_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v603 : Index := Scalar.indexCast v35
  ![113, v603.toNat]
def k8_off248 (k8_t3 : Fin k8_t3_loop.trips) : Fin 2 → Nat :=
  let c114_i32 : BitVec 32 := 114#32
  let v606 : Index := Scalar.indexCast c114_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v607 : Index := Scalar.indexCast v35
  ![114, v607.toNat]
def k8_off249 (k8_t3 : Fin k8_t3_loop.trips) : Fin 2 → Nat :=
  let c115_i32 : BitVec 32 := 115#32
  let v610 : Index := Scalar.indexCast c115_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v611 : Index := Scalar.indexCast v35
  ![115, v611.toNat]
def k8_off250 (k8_t3 : Fin k8_t3_loop.trips) : Fin 2 → Nat :=
  let c116_i32 : BitVec 32 := 116#32
  let v614 : Index := Scalar.indexCast c116_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v615 : Index := Scalar.indexCast v35
  ![116, v615.toNat]
def k8_off251 (k8_t3 : Fin k8_t3_loop.trips) : Fin 2 → Nat :=
  let c117_i32 : BitVec 32 := 117#32
  let v618 : Index := Scalar.indexCast c117_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v619 : Index := Scalar.indexCast v35
  ![117, v619.toNat]
def k8_off252 (k8_t3 : Fin k8_t3_loop.trips) : Fin 2 → Nat :=
  let c118_i32 : BitVec 32 := 118#32
  let v622 : Index := Scalar.indexCast c118_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v623 : Index := Scalar.indexCast v35
  ![118, v623.toNat]
def k8_off253 (k8_t3 : Fin k8_t3_loop.trips) : Fin 2 → Nat :=
  let c119_i32 : BitVec 32 := 119#32
  let v626 : Index := Scalar.indexCast c119_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v627 : Index := Scalar.indexCast v35
  ![119, v627.toNat]
def k8_off254 (k8_t3 : Fin k8_t3_loop.trips) : Fin 2 → Nat :=
  let c120_i32 : BitVec 32 := 120#32
  let v630 : Index := Scalar.indexCast c120_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v631 : Index := Scalar.indexCast v35
  ![120, v631.toNat]
def k8_off255 (k8_t3 : Fin k8_t3_loop.trips) : Fin 2 → Nat :=
  let c121_i32 : BitVec 32 := 121#32
  let v634 : Index := Scalar.indexCast c121_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v635 : Index := Scalar.indexCast v35
  ![121, v635.toNat]
def k8_off256 (k8_t3 : Fin k8_t3_loop.trips) : Fin 2 → Nat :=
  let c122_i32 : BitVec 32 := 122#32
  let v638 : Index := Scalar.indexCast c122_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v639 : Index := Scalar.indexCast v35
  ![122, v639.toNat]
def k8_off257 (k8_t3 : Fin k8_t3_loop.trips) : Fin 2 → Nat :=
  let c123_i32 : BitVec 32 := 123#32
  let v642 : Index := Scalar.indexCast c123_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v643 : Index := Scalar.indexCast v35
  ![123, v643.toNat]
def k8_off258 (k8_t3 : Fin k8_t3_loop.trips) : Fin 2 → Nat :=
  let c124_i32 : BitVec 32 := 124#32
  let v646 : Index := Scalar.indexCast c124_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v647 : Index := Scalar.indexCast v35
  ![124, v647.toNat]
def k8_off259 (k8_t3 : Fin k8_t3_loop.trips) : Fin 2 → Nat :=
  let c125_i32 : BitVec 32 := 125#32
  let v650 : Index := Scalar.indexCast c125_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v651 : Index := Scalar.indexCast v35
  ![125, v651.toNat]
def k8_off260 (k8_t3 : Fin k8_t3_loop.trips) : Fin 2 → Nat :=
  let c126_i32 : BitVec 32 := 126#32
  let v654 : Index := Scalar.indexCast c126_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v655 : Index := Scalar.indexCast v35
  ![126, v655.toNat]
def k8_off261 (k8_t3 : Fin k8_t3_loop.trips) : Fin 2 → Nat :=
  let c127_i32 : BitVec 32 := 127#32
  let v658 : Index := Scalar.indexCast c127_i32
  let c0_i32_29 : BitVec 32 := 0#32
  let c1_i32_31 : BitVec 32 := 1#32
  let arg13 : BitVec 32 := Scf.iv c0_i32_29 c1_i32_31 k8_t3
  let c16_i32_37 : BitVec 32 := 16#32
  let v34 : BitVec 32 := Scalar.muli arg13 c16_i32_37
  let v35 : BitVec 32 := v34
  let v659 : Index := Scalar.indexCast v35
  ![127, v659.toNat]
def k8_cond2 (k8_t1 : Fin k8_t1_loop.trips) : BitVec 1 :=
  let c0_i32_7 : BitVec 32 := 0#32
  let c1_i32_8 : BitVec 32 := 1#32
  let arg11 : BitVec 32 := Scf.iv c0_i32_7 c1_i32_8 k8_t1
  let c2_i32_23 : BitVec 32 := 2#32
  let v23 : BitVec 32 := Scalar.muli arg11 c2_i32_23
  let c1_i32_24 : BitVec 32 := 1#32
  let v24 : BitVec 32 := Scalar.addi v23 c1_i32_24
  let c2_i32_33 : BitVec 32 := 2#32
  let v30 : BitVec 32 := Scalar.addi v24 c2_i32_33
  let c16_i32_34 : BitVec 32 := 16#32
  let v31 : BitVec 1 := Scalar.cmpi .slt v30 c16_i32_34
  let v32 : BitVec 32 := Scalar.extui v31
  let c0_i32_35 : BitVec 32 := 0#32
  let v33 : BitVec 1 := Scalar.cmpi .ne v32 c0_i32_35
  v33

def k8_off262 (k8_t1 : Fin k8_t1_loop.trips) : Fin 2 → Nat :=
  let c0_i32_7 : BitVec 32 := 0#32
  let c1_i32_8 : BitVec 32 := 1#32
  let arg11 : BitVec 32 := Scf.iv c0_i32_7 c1_i32_8 k8_t1
  let c2_i32_23 : BitVec 32 := 2#32
  let v23 : BitVec 32 := Scalar.muli arg11 c2_i32_23
  let c1_i32_24 : BitVec 32 := 1#32
  let v24 : BitVec 32 := Scalar.addi v23 c1_i32_24
  let c2_i32_37 : BitVec 32 := 2#32
  let v34 : BitVec 32 := Scalar.addi v24 c2_i32_37
  let c0_i32_38 : BitVec 32 := 0#32
  ![v34.toNat, 0]
def k8_off263 (i : grid8.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v11 : BitVec 32 := Scalar.muli v1 c64_i32
  let c0_i32_10_r1 : BitVec 32 := 0#32
  ![v11.toNat, 0]
abbrev grid9 : Pipeline.Grid := ⟨1, ![8], ![false]⟩

def cc9_transform_0 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc9_transform_1 (i : grid9.Coords) : Fin 3 → Nat :=
  let arg0 : BitVec 32 := BitVec.ofNat 32 (i 0).val
  let c8_i32 : BitVec 32 := 8#32
  let v0 : BitVec 32 := Scalar.addi c8_i32 arg0
  let c1_i32 : BitVec 32 := 1#32
  let c0_i32 : BitVec 32 := 0#32
  let c0_i32_0 : BitVec 32 := 0#32
  ![c1_i32.toNat, v0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage9_0 : Fin 2 → Memref sig .tc .vmem S1x256x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1x256x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S256x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S1x256x256 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))
-- ==== ReferenceIdeal.lean ====
abbrev S2x4096x3 : Shape := ⟨3, ![2, 4096, 3]⟩
abbrev S2x256x4096 : Shape := ⟨3, ![2, 256, 4096]⟩
abbrev S128x259 : Shape := ⟨2, ![128, 259]⟩
abbrev S256x384 : Shape := ⟨2, ![256, 384]⟩
abbrev S256 : Shape := ⟨1, ![256]⟩
abbrev S2x4096x32 : Shape := ⟨3, ![2, 4096, 32]⟩
abbrev S_ : Shape := ⟨0, ![]⟩
abbrev S1x256x1 : Shape := ⟨3, ![1, 256, 1]⟩
abbrev S2x3x4096 : Shape := ⟨3, ![2, 3, 4096]⟩
abbrev S2x259x4096 : Shape := ⟨3, ![2, 259, 4096]⟩
abbrev S2x4096x259 : Shape := ⟨3, ![2, 4096, 259]⟩
abbrev S259x128 : Shape := ⟨2, ![259, 128]⟩
abbrev S2x4096x128 : Shape := ⟨3, ![2, 4096, 128]⟩
abbrev S2x128x4096 : Shape := ⟨3, ![2, 128, 4096]⟩
abbrev S2x131072 : Shape := ⟨2, ![2, 131072]⟩
abbrev S2x131072x1 : Shape := ⟨3, ![2, 131072, 1]⟩
abbrev S2x131072x128 : Shape := ⟨3, ![2, 131072, 128]⟩
abbrev S2x4096x32x128 : Shape := ⟨4, ![2, 4096, 32, 128]⟩
abbrev S2x32x4096x128 : Shape := ⟨4, ![2, 32, 4096, 128]⟩
abbrev S2x384x4096 : Shape := ⟨3, ![2, 384, 4096]⟩
abbrev S2x4096x384 : Shape := ⟨3, ![2, 4096, 384]⟩
abbrev S384x256 : Shape := ⟨2, ![384, 256]⟩
abbrev S2x4096x256 : Shape := ⟨3, ![2, 4096, 256]⟩

abbrev nBuf : Space → Nat
  | .hbm => 113
  | .vmem => 0
  | .smem => 0
  | _ => 0

abbrev bufTy : (tb : Table) → Fin (tcTables nBuf tb) → BufTy
  | .hbm, ⟨0, _⟩ => ⟨S2x4096x3, .f32⟩
  | .hbm, ⟨1, _⟩ => ⟨S2x256x4096, .f32⟩
  | .hbm, ⟨2, _⟩ => ⟨S128x259, .f32⟩
  | .hbm, ⟨3, _⟩ => ⟨S256x384, .f32⟩
  | .hbm, ⟨4, _⟩ => ⟨S256, .f32⟩
  | .hbm, ⟨5, _⟩ => ⟨S256, .f32⟩
  | .hbm, ⟨6, _⟩ => ⟨S2x4096x32, .i32⟩
  | .hbm, ⟨7, _⟩ => ⟨S_, .f32⟩
  | .hbm, ⟨8, _⟩ => ⟨S256, .f32⟩
  | .hbm, ⟨9, _⟩ => ⟨S1x256x1, .f32⟩
  | .hbm, ⟨10, _⟩ => ⟨S_, .f32⟩
  | .hbm, ⟨11, _⟩ => ⟨S1x256x1, .f32⟩
  | .hbm, ⟨12, _⟩ => ⟨S1x256x1, .f32⟩
  | .hbm, ⟨13, _⟩ => ⟨S_, .i32⟩
  | .hbm, ⟨14, _⟩ => ⟨S_, .f32⟩
  | .hbm, ⟨15, _⟩ => ⟨S256, .f32⟩
  | .hbm, ⟨16, _⟩ => ⟨S1x256x1, .f32⟩
  | .hbm, ⟨17, _⟩ => ⟨S_, .f32⟩
  | .hbm, ⟨18, _⟩ => ⟨S1x256x1, .f32⟩
  | .hbm, ⟨19, _⟩ => ⟨S1x256x1, .f32⟩
  | .hbm, ⟨20, _⟩ => ⟨S2x256x4096, .f32⟩
  | .hbm, ⟨21, _⟩ => ⟨S2x256x4096, .f32⟩
  | .hbm, ⟨22, _⟩ => ⟨S2x256x4096, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S256, .f32⟩
  | .hbm, ⟨28, _⟩ => ⟨S1x256x1, .f32⟩
  | .hbm, ⟨29, _⟩ => ⟨S1x256x1, .f32⟩
  | .hbm, ⟨30, _⟩ => ⟨S1x256x1, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S1x256x1, .f32⟩
  | .hbm, ⟨36, _⟩ => ⟨S1x256x1, .f32⟩
  | .hbm, ⟨37, _⟩ => ⟨S2x256x4096, .f32⟩
  | .hbm, ⟨38, _⟩ => ⟨S2x256x4096, .f32⟩
  | .hbm, ⟨39, _⟩ => ⟨S_, .f32⟩
  | .hbm, ⟨40, _⟩ => ⟨S1x256x1, .f32⟩
  | .hbm, ⟨41, _⟩ => ⟨S1x256x1, .f32⟩
  | .hbm, ⟨42, _⟩ => ⟨S1x256x1, .f32⟩
  | .hbm, ⟨43, _⟩ => ⟨S2x256x4096, .f32⟩
  | .hbm, ⟨44, _⟩ => ⟨S2x256x4096, .f32⟩
  | .hbm, ⟨45, _⟩ => ⟨S1x256x1, .f32⟩
  | .hbm, ⟨46, _⟩ => ⟨S2x256x4096, .f32⟩
  | .hbm, ⟨47, _⟩ => ⟨S2x256x4096, .f32⟩
  | .hbm, ⟨48, _⟩ => ⟨S1x256x1, .f32⟩
  | .hbm, ⟨49, _⟩ => ⟨S2x256x4096, .f32⟩
  | .hbm, ⟨50, _⟩ => ⟨S2x256x4096, .f32⟩
  | .hbm, ⟨51, _⟩ => ⟨S2x3x4096, .f32⟩
  | .hbm, ⟨52, _⟩ => ⟨S2x259x4096, .f32⟩
  | .hbm, ⟨53, _⟩ => ⟨S2x4096x259, .f32⟩
  | .hbm, ⟨54, _⟩ => ⟨S259x128, .f32⟩
  | .hbm, ⟨55, _⟩ => ⟨S2x4096x128, .f32⟩
  | .hbm, ⟨56, _⟩ => ⟨S2x128x4096, .f32⟩
  | .hbm, ⟨57, _⟩ => ⟨S2x4096x128, .f32⟩
  | .hbm, ⟨58, _⟩ => ⟨S2x131072, .i32⟩
  | .hbm, ⟨59, _⟩ => ⟨S_, .i32⟩
  | .hbm, ⟨60, _⟩ => ⟨S2x131072, .i32⟩
  | .hbm, ⟨61, _⟩ => ⟨S2x131072, .i1⟩
  | .hbm, ⟨62, _⟩ => ⟨S_, .i32⟩
  | .hbm, ⟨63, _⟩ => ⟨S2x131072, .i32⟩
  | .hbm, ⟨64, _⟩ => ⟨S2x131072, .i32⟩
  | .hbm, ⟨65, _⟩ => ⟨S2x131072, .i32⟩
  | .hbm, ⟨66, _⟩ => ⟨S2x131072x1, .i32⟩
  | .hbm, ⟨67, _⟩ => ⟨S2x131072x128, .f32⟩
  | .hbm, ⟨68, _⟩ => ⟨S2x4096x32x128, .f32⟩
  | .hbm, ⟨69, _⟩ => ⟨S2x32x4096x128, .f32⟩
  | .hbm, ⟨70, _⟩ => ⟨S_, .f32⟩
  | .hbm, ⟨71, _⟩ => ⟨S2x4096x128, .f32⟩
  | .hbm, ⟨72, _⟩ => ⟨S2x128x4096, .f32⟩
  | .hbm, ⟨73, _⟩ => ⟨S2x128x4096, .f32⟩
  | .hbm, ⟨74, _⟩ => ⟨S2x4096x128, .f32⟩
  | .hbm, ⟨75, _⟩ => ⟨S2x131072, .i32⟩
  | .hbm, ⟨76, _⟩ => ⟨S_, .i32⟩
  | .hbm, ⟨77, _⟩ => ⟨S2x131072, .i32⟩
  | .hbm, ⟨78, _⟩ => ⟨S2x131072, .i1⟩
  | .hbm, ⟨79, _⟩ => ⟨S_, .i32⟩
  | .hbm, ⟨80, _⟩ => ⟨S2x131072, .i32⟩
  | .hbm, ⟨81, _⟩ => ⟨S2x131072, .i32⟩
  | .hbm, ⟨82, _⟩ => ⟨S2x131072, .i32⟩
  | .hbm, ⟨83, _⟩ => ⟨S2x131072x1, .i32⟩
  | .hbm, ⟨84, _⟩ => ⟨S2x131072x128, .f32⟩
  | .hbm, ⟨85, _⟩ => ⟨S2x4096x32x128, .f32⟩
  | .hbm, ⟨86, _⟩ => ⟨S2x32x4096x128, .f32⟩
  | .hbm, ⟨87, _⟩ => ⟨S_, .f32⟩
  | .hbm, ⟨88, _⟩ => ⟨S2x4096x128, .f32⟩
  | .hbm, ⟨89, _⟩ => ⟨S2x128x4096, .f32⟩
  | .hbm, ⟨90, _⟩ => ⟨S2x128x4096, .f32⟩
  | .hbm, ⟨91, _⟩ => ⟨S2x4096x128, .f32⟩
  | .hbm, ⟨92, _⟩ => ⟨S2x131072, .i32⟩
  | .hbm, ⟨93, _⟩ => ⟨S_, .i32⟩
  | .hbm, ⟨94, _⟩ => ⟨S2x131072, .i32⟩
  | .hbm, ⟨95, _⟩ => ⟨S2x131072, .i1⟩
  | .hbm, ⟨96, _⟩ => ⟨S_, .i32⟩
  | .hbm, ⟨97, _⟩ => ⟨S2x131072, .i32⟩
  | .hbm, ⟨98, _⟩ => ⟨S2x131072, .i32⟩
  | .hbm, ⟨99, _⟩ => ⟨S2x131072, .i32⟩
  | .hbm, ⟨100, _⟩ => ⟨S2x131072x1, .i32⟩
  | .hbm, ⟨101, _⟩ => ⟨S2x131072x128, .f32⟩
  | .hbm, ⟨102, _⟩ => ⟨S2x4096x32x128, .f32⟩
  | .hbm, ⟨103, _⟩ => ⟨S2x32x4096x128, .f32⟩
  | .hbm, ⟨104, _⟩ => ⟨S_, .f32⟩
  | .hbm, ⟨105, _⟩ => ⟨S2x4096x128, .f32⟩
  | .hbm, ⟨106, _⟩ => ⟨S2x128x4096, .f32⟩
  | .hbm, ⟨107, _⟩ => ⟨S2x128x4096, .f32⟩
  | .hbm, ⟨108, _⟩ => ⟨S2x384x4096, .f32⟩
  | .hbm, ⟨109, _⟩ => ⟨S2x4096x384, .f32⟩
  | .hbm, ⟨110, _⟩ => ⟨S384x256, .f32⟩
  | .hbm, ⟨111, _⟩ => ⟨S2x4096x256, .f32⟩
  | .hbm, ⟨112, _⟩ => ⟨S2x256x4096, .f32⟩
  | _, _ => ⟨S2x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_cst_3 : Ref sig .tc := ⟨.hbm, 31, rfl⟩
abbrev main_call0_v13 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst_1 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_c_2 : Ref sig .tc := ⟨.hbm, 59, rfl⟩
abbrev main_v26 : Ref sig .tc := ⟨.hbm, 60, rfl⟩
abbrev main_v27 : Ref sig .tc := ⟨.hbm, 61, rfl⟩
abbrev main_c_3 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_cst_4 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_c_5 : Ref sig .tc := ⟨.hbm, 76, rfl⟩
abbrev main_v40 : Ref sig .tc := ⟨.hbm, 77, rfl⟩
abbrev main_v41 : Ref sig .tc := ⟨.hbm, 78, rfl⟩
abbrev main_c_6 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_7 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_c_8 : Ref sig .tc := ⟨.hbm, 93, rfl⟩
abbrev main_v54 : Ref sig .tc := ⟨.hbm, 94, rfl⟩
abbrev main_v55 : Ref sig .tc := ⟨.hbm, 95, rfl⟩
abbrev main_c_9 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_cst_10 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩

abbrev nD : Nat := 1
abbrev τ : Topo := Topo.v7x

variable {F : FTy → Type} [FloatOps F]
-- ==== Proof.Trip.lean ====
module

public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.Pipeline.Kit
public import Idealize.ShloMosaic.Lib.Pipeline.Value
public import Idealize.ShloMosaic.Lib.Tactic

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev 𝒱₀ : Variants := Variants.none
abbrev UH : Type := URounds (GSem nD τ sig) ℕ
abbrev UP : Type := URounds (GSem nD τ sig) Unit
abbrev UU : Type := UH × (UP × Counters)

local notation "𝕄" => MT nD τ sig (HIx 4) (Elt F) ℕ UU ℕ

variable [FloatOps F]

abbrev cV (L : grid2.Coords) : Fin τ.nSC := (L 0).castLE hcore2
abbrev jV (L : grid2.Coords) : Fin τ.nSub := (L 1).castLE hsub2

/-! ## The maximum of thirty-two values, as the kernel's tree takes it -/

/-- The maximum of `x 0, …, x (2 ^ n - 1)`: neighbours first, then neighbours of those, `n` times. -/
def treeMax : ℕ → (ℕ → F .f32) → F .f32
  | 0, x => x 0
  | n + 1, x => treeMax n fun k => FloatOps.maximumf (x (2 * k)) (x (2 * k + 1))

/-- Place `(a, b)` of a 128 by 128 array, its coordinates taken modulo 128. -/
def ix (a b : ℕ) : S128x128.Idx := fun
  | 0 => ⟨a % 128, Nat.mod_lt _ (by decide)⟩
  | 1 => ⟨b % 128, Nat.mod_lt _ (by decide)⟩
  | ⟨_ + 2, h⟩ => absurd h (Nat.not_lt.2 (Nat.le_add_left _ _))

/-- What row `q` of the result is at column `c`, from the gathered rows `X` of `q`'s chunk: the maximum of the
    thirty-two rows that belong to `q`. -/
def chunkMax (X : S128x128.Idx → F .f32) (q c : ℕ) : F .f32 := treeMax 5 fun k => X (ix (32 * (q % 4) + k) c)

/-- A query's maximum by its place in the chunk. -/
theorem chunkMax_eq (X : S128x128.Idx → F .f32) {q r c c' : ℕ} (h : q % 4 = r) (hc : c = c') :
    chunkMax X q c = treeMax 5 fun k => X (ix (32 * r + k) c') := by rw [chunkMax, h, hc]

/-- The first column of block `t` of sixteen columns, as the kernel computes it. -/
abbrev colW (t : ℕ) : BitVec 32 := Scalar.muli (Scf.iv 0#32 1#32 t) 16#32

/-- The first column of a block as a number. -/
theorem colW_toNat (t : ℕ) (h : t < 8) : (colW t).toNat = 16 * t := by
  revert h; revert t; decide

/-- One row's sixteen loaded values, brought to a vector of sixteen and read where the store puts them. -/
theorem leaf {m : Memref sig .scVector .vmem S128x128 .f32} (f : m.view.ty.Contents (Elt F)) (n t : ℕ) (hn : n < 128) (ht : t < 8)
    (off : Fin 2 → ℕ) (inb : ∀ a, off a + S1x16.size a ≤ S128x128.size a) (hoff : off = ![n, (colW t).toNat])
    (h : S1x16.ShapeCasts S16) (h' : S16.ShapeCasts S1x16) (x : S1x16.Idx) :
    (shapeCast S16 (m.view.readAt (Elt F) (Rect.unit (s := S128x128) off S1x16.size inb).toLoadRect f) h) (Shape.reshapeEquiv h' x)
      = m.view.read (Elt F) f (ix n (16 * t + (x 1).val)) := by
  have e := congrFun (shapeCast_shapeCast (m.view.readAt (Elt F) (Rect.unit (s := S128x128) off S1x16.size inb).toLoadRect f) h h') x
  refine e.trans ?_
  rw [View.readAt_apply]
  congr 1
  subst hoff
  have ec := colW_toNat t ht
  funext a
  apply Fin.ext
  match a with
  | 0 =>
    show n + 1 * (x 0).val = n % 128
    have : (x 0).val < 1 := (x 0).isLt
    omega
  | 1 =>
    show (colW t).toNat + 1 * (x 1).val = (16 * t + (x 1).val) % 128
    have : (x 1).val < 16 := (x 1).isLt
    omega

/-! ## Where one trip stores -/

/-- Row `r` of chunk `2 * t1`, from column `16 * t2`. -/
theorem off35 : ∀ (t1 : Fin k2_t1_loop.trips) (t2 : Fin k2_t2_loop.trips) (r : Fin 4),
    k2_off35 t1 t2 (BitVec.ofNat 32 r.val) = ![8 * t1.val + r.val, 16 * t2.val] := by decide +kernel

/-- Row `r` of chunk `2 * t1 + 1`, from column `16 * t3`. -/
theorem off165 : ∀ (t1 : Fin k2_t1_loop.trips) (t3 : Fin k2_t3_loop.trips) (r : Fin 4),
    k2_off165 t1 t3 (BitVec.ofNat 32 r.val) = ![8 * t1.val + 4 + r.val, 16 * t3.val] := by decide +kernel

/-- The places one row's store covers. -/
theorem mem_row {off : Fin 2 → ℕ} {inb : ∀ a, off a + S1x16.size a ≤ S64x128.size a} {a b : ℕ} (h : off = ![a, b]) (y : S64x128.Idx) :
    y ∈ (Rect.unit (s := S64x128) off S1x16.size inb).set ↔ (y 0).val = a ∧ b ≤ (y 1).val ∧ (y 1).val < b + 16 := by
  subst h
  rw [Rect.mem_set_unit]
  refine ⟨fun H => ?_, fun H a' => ?_⟩
  · have h0 := H 0; have h1 := H 1
    exact ⟨by have : a ≤ (y 0).val ∧ (y 0).val < a + 1 := h0
              omega, h1⟩
  · match a' with
    | 0 => exact ⟨by show a ≤ (y 0).val; omega, by show (y 0).val < a + 1; omega⟩
    | 1 => exact H.2

/-- What a chunk's block of four rows and sixteen columns reads after a trip. -/
def chunkBlock (X : S128x128.Idx → F .f32) (old : S64x128.Idx → F .f32) (row col : ℕ) (y : S64x128.Idx) : F .f32 :=
  if (row ≤ (y 0).val ∧ (y 0).val < row + 4) ∧ (col ≤ (y 1).val ∧ (y 1).val < col + 16)
    then chunkMax X (y 0).val (y 1).val else old y

/-- Four stored rows of sixteen columns each, every one holding its maxima, read as `chunkBlock`. -/
theorem read_four {m : Memref sig .scVector .vmem S64x128 .f32} (f : m.view.ty.Contents (Elt F)) (X : S128x128.Idx → F .f32)
    (row col : ℕ) (hrow : row % 4 = 0)
    (off0 off1 off2 off3 : Fin 2 → ℕ) (i0 : ∀ a, off0 a + S1x16.size a ≤ S64x128.size a) (i1 : ∀ a, off1 a + S1x16.size a ≤ S64x128.size a)
    (i2 : ∀ a, off2 a + S1x16.size a ≤ S64x128.size a) (i3 : ∀ a, off3 a + S1x16.size a ≤ S64x128.size a)
    (e0 : off0 = ![row + 0, col]) (e1 : off1 = ![row + 1, col]) (e2 : off2 = ![row + 2, col]) (e3 : off3 = ![row + 3, col])
    (w0 w1 w2 w3 : FVec F S1x16 .f32)
    (p0 : ∀ x : S1x16.Idx, w0 x = treeMax 5 fun k => X (ix (32 * 0 + k) (col + (x 1).val)))
    (p1 : ∀ x : S1x16.Idx, w1 x = treeMax 5 fun k => X (ix (32 * 1 + k) (col + (x 1).val)))
    (p2 : ∀ x : S1x16.Idx, w2 x = treeMax 5 fun k => X (ix (32 * 2 + k) (col + (x 1).val)))
    (p3 : ∀ x : S1x16.Idx, w3 x = treeMax 5 fun k => X (ix (32 * 3 + k) (col + (x 1).val))) (y : S64x128.Idx) :
    m.view.read (Elt F) (m.view.writes (Elt F) f [⟨Rect.unit (s := S64x128) off3 S1x16.size i3, w3⟩, ⟨Rect.unit (s := S64x128) off2 S1x16.size i2, w2⟩,
      ⟨Rect.unit (s := S64x128) off1 S1x16.size i1, w1⟩, ⟨Rect.unit (s := S64x128) off0 S1x16.size i0, w0⟩]) y
      = chunkBlock X (m.view.read (Elt F) f) row col y := by
  have e00 : off0 0 = row + 0 := by rw [e0]; rfl
  have e01 : off0 1 = col := by rw [e0]; rfl
  have e10 : off1 0 = row + 1 := by rw [e1]; rfl
  have e11 : off1 1 = col := by rw [e1]; rfl
  have e20 : off2 0 = row + 2 := by rw [e2]; rfl
  have e21 : off2 1 = col := by rw [e2]; rfl
  have e30 : off3 0 = row + 3 := by rw [e3]; rfl
  have e31 : off3 1 = col := by rw [e3]; rfl
  have m0 := fun y => mem_row (inb := i0) e0 y
  have m1 := fun y => mem_row (inb := i1) e1 y
  have m2 := fun y => mem_row (inb := i2) e2 y
  have m3 := fun y => mem_row (inb := i3) e3 y
  unfold chunkBlock
  split_ifs with hy
  · refine View.read_writes_apply_of_pieces (Val := Elt F) (e := .f32) _ _ (fun y : S64x128.Idx => (chunkMax X (y 0).val (y 1).val : Elt F .f32)) _ ?_ _ ?_
    · intro p hp
      simp only [List.mem_cons, List.not_mem_nil, _root_.or_false] at hp
      rcases hp with rfl | rfl | rfl | rfl
      · intro x
        refine (p3 x).trans (chunkMax_eq X ?_ ?_).symm
        · show (off3 0 + 1 * (x 0).val) % 4 = 3
          have : (x 0).val < 1 := (x 0).isLt
          omega
        · show off3 1 + 1 * (x 1).val = _
          omega
      · intro x
        refine (p2 x).trans (chunkMax_eq X ?_ ?_).symm
        · show (off2 0 + 1 * (x 0).val) % 4 = 2
          have : (x 0).val < 1 := (x 0).isLt
          omega
        · show off2 1 + 1 * (x 1).val = _
          omega
      · intro x
        refine (p1 x).trans (chunkMax_eq X ?_ ?_).symm
        · show (off1 0 + 1 * (x 0).val) % 4 = 1
          have : (x 0).val < 1 := (x 0).isLt
          omega
        · show off1 1 + 1 * (x 1).val = _
          omega
      · intro x
        refine (p0 x).trans (chunkMax_eq X ?_ ?_).symm
        · show (off0 0 + 1 * (x 0).val) % 4 = 0
          have : (x 0).val < 1 := (x 0).isLt
          omega
        · show off0 1 + 1 * (x 1).val = _
          omega
    · have hr : (y 0).val = row + 0 ∨ (y 0).val = row + 1 ∨ (y 0).val = row + 2 ∨ (y 0).val = row + 3 := by omega
      rcases hr with hr | hr | hr | hr
      · exact ⟨_, List.mem_cons_of_mem _ (List.mem_cons_of_mem _ (List.mem_cons_of_mem _ List.mem_cons_self)), (m0 y).2 ⟨hr, hy.2⟩⟩
      · exact ⟨_, List.mem_cons_of_mem _ (List.mem_cons_of_mem _ List.mem_cons_self), (m1 y).2 ⟨hr, hy.2⟩⟩
      · exact ⟨_, List.mem_cons_of_mem _ List.mem_cons_self, (m2 y).2 ⟨hr, hy.2⟩⟩
      · exact ⟨_, List.mem_cons_self, (m3 y).2 ⟨hr, hy.2⟩⟩
  · refine View.read_writes_apply_of_forall_not_mem _ _ _ _ ?_
    intro p hp
    simp only [List.mem_cons, List.not_mem_nil, _root_.or_false] at hp
    rcases hp with rfl | rfl | rfl | rfl
    · intro h; have := (m3 y).1 h; omega
    · intro h; have := (m2 y).1 h; omega
    · intro h; have := (m1 y).1 h; omega
    · intro h; have := (m0 y).1 h; omega

section
variable (d : Dev nD) (L : grid2.Coords)
  (a2 : Memref sig .scVector .hbm S8192x128 .f32) (h2 : a2.IsWhole) (a3 : Memref sig .scVector .hbm S512x128 .i32) (h3 : a3.IsWhole)
  (a4 : Memref sig .scVector .hbm S2048x128 .f32) (h4 : a4.IsWhole) (a5 : Memref sig .scVector .vmem S16x128 .i32) (h5 : a5.IsWhole)
  (a6 : Memref sig .scVector .vmem S128x128 .f32) (h6 : a6.IsWhole) (a7 : Memref sig .scVector .vmem S128x128 .f32) (h7 : a7.IsWhole)
  (a8 : Memref sig .scVector .vmem S64x128 .f32) (h8 : a8.IsWhole) (s9 s10 r0 r1 : DmaSems sig S_)

set_option maxHeartbeats 4000000 in
/-- One block of sixteen columns of the even chunk: four rows of maxima are stored, the rest stays. -/
theorem trip2 (t1 : Fin k2_t1_loop.trips) (v : BitVec 32) (t2 : Fin k2_t2_loop.trips) (acc : BitVec 32)
    (f6 : Buf (Elt F) (a6.view.loc (V d (cV L) (jV L)))) (f8 : Buf (Elt F) (a8.view.loc (V d (cV L) (jV L)))) :
    iprop((a6.view.loc (V d (cV L) (jV L)) ↦[a6.view.set]{fullShare} f6) ∗ (a8.view.loc (V d (cV L) (jV L)) ↦[a8.view.set]{fullShare} f8))
      ⊢ (wp frame (wpE (defs₀ (F := F)) 𝒱₀ (V d (cV L) (jV L)) none) Set.univ
          (k2_t2_body (F := F) L a2 h2 a3 h3 a4 h4 a5 h5 a6 h6 a7 h7 a8 h8 s9 s10 r0 r1 t1 v t2 acc)
          fun _ => iprop((a6.view.loc (V d (cV L) (jV L)) ↦[a6.view.set]{fullShare} f6)
            ∗ ∃ g, ⌜∀ y, a8.view.read (Elt F) g y = chunkBlock (a6.view.read (Elt F) f6) (a8.view.read (Elt F) f8) (8 * t1.val) (16 * t2.val) y⌝
              ∗ (a8.view.loc (V d (cV L) (jV L)) ↦[a8.view.set]{fullShare} g)) : sProp 𝕄) := by
  unfold k2_t2_body
  iintro ⟨H6, H8⟩
  sl_exec
  sl_step
  isplitl [H6]; · iexact H6
  iexists _; isplitr
  swap; · iexact H8
  ipureintro
  have ht2 : t2.val < 8 := lt_of_lt_of_le t2.isLt k2_t2_abs.2.1
  refine read_four f8 (a6.view.read (Elt F) f6) (8 * t1.val) (16 * t2.val) (by omega) _ _ _ _ _ _ _ _
    (off35 t1 t2 0) (off35 t1 t2 1) (off35 t1 t2 2) (off35 t1 t2 3) _ _ _ _ ?_ ?_ ?_ ?_
  all_goals
    intro x
    refine congrArg₂ FloatOps.maximumf ?_ ?_ <;> refine congrArg₂ FloatOps.maximumf ?_ ?_ <;>
      refine congrArg₂ FloatOps.maximumf ?_ ?_ <;> refine congrArg₂ FloatOps.maximumf ?_ ?_ <;>
      refine congrArg₂ FloatOps.maximumf ?_ ?_ <;> exact leaf f6 _ t2.val (by decide) ht2 _ _ rfl _ _ x

set_option maxHeartbeats 4000000 in
/-- One block of sixteen columns of the odd chunk. -/
theorem trip3 (t1 : Fin k2_t1_loop.trips) (v : BitVec 32) (t2 : Fin k2_t3_loop.trips) (acc : BitVec 32)
    (f6 : Buf (Elt F) (a7.view.loc (V d (cV L) (jV L)))) (f8 : Buf (Elt F) (a8.view.loc (V d (cV L) (jV L)))) :
    iprop((a7.view.loc (V d (cV L) (jV L)) ↦[a7.view.set]{fullShare} f6) ∗ (a8.view.loc (V d (cV L) (jV L)) ↦[a8.view.set]{fullShare} f8))
      ⊢ (wp frame (wpE (defs₀ (F := F)) 𝒱₀ (V d (cV L) (jV L)) none) Set.univ
          (k2_t3_body (F := F) L a2 h2 a3 h3 a4 h4 a5 h5 a6 h6 a7 h7 a8 h8 s9 s10 r0 r1 t1 v t2 acc)
          fun _ => iprop((a7.view.loc (V d (cV L) (jV L)) ↦[a7.view.set]{fullShare} f6)
            ∗ ∃ g, ⌜∀ y, a8.view.read (Elt F) g y = chunkBlock (a7.view.read (Elt F) f6) (a8.view.read (Elt F) f8) (8 * t1.val + 4) (16 * t2.val) y⌝
              ∗ (a8.view.loc (V d (cV L) (jV L)) ↦[a8.view.set]{fullShare} g)) : sProp 𝕄) := by
  unfold k2_t3_body
  iintro ⟨H6, H8⟩
  sl_exec
  sl_step
  isplitl [H6]; · iexact H6
  iexists _; isplitr
  swap; · iexact H8
  ipureintro
  have ht2 : t2.val < 8 := lt_of_lt_of_le t2.isLt k2_t3_abs.2.1
  refine read_four f8 (a7.view.read (Elt F) f6) (8 * t1.val + 4) (16 * t2.val) (by omega) _ _ _ _ _ _ _ _
    (off165 t1 t2 0) (off165 t1 t2 1) (off165 t1 t2 2) (off165 t1 t2 3) _ _ _ _ ?_ ?_ ?_ ?_
  all_goals
    intro x
    refine congrArg₂ FloatOps.maximumf ?_ ?_ <;> refine congrArg₂ FloatOps.maximumf ?_ ?_ <;>
      refine congrArg₂ FloatOps.maximumf ?_ ?_ <;> refine congrArg₂ FloatOps.maximumf ?_ ?_ <;>
      refine congrArg₂ FloatOps.maximumf ?_ ?_ <;> exact leaf f6 _ t2.val (by decide) ht2 _ _ rfl _ _ x

end

end Cert.Proof.Tile
end
-- ==== Proof.Gather.lean ====
module

public import proofs.«01_k».proof.Proof.Trip
public import Idealize.ShloMosaic.Lib.ValueLayout

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 4) (Elt F) ℕ UU ℕ

variable [FloatOps F]

/-! ## The rows one gather fetches -/

/-- Place `(k, b)` of the tile's 16 by 128 list of row numbers. -/
def lix (k b : ℕ) : S16x128.Idx := fun
  | 0 => ⟨k % 16, Nat.mod_lt _ (by decide)⟩
  | 1 => ⟨b % 128, Nat.mod_lt _ (by decide)⟩
  | ⟨_ + 2, h⟩ => absurd h (Nat.not_lt.2 (Nat.le_add_left _ _))

/-- Place `(a, b)` of the table. -/
def tix (a b : ℕ) : S8192x128.Idx := fun
  | 0 => ⟨a % 8192, Nat.mod_lt _ (by decide)⟩
  | 1 => ⟨b % 128, Nat.mod_lt _ (by decide)⟩
  | ⟨_ + 2, h⟩ => absurd h (Nat.not_lt.2 (Nat.le_add_left _ _))

/-- Chunk `k` of the gathered rows: row `r` of it is the row of the table that entry `r` of row `k` of the list names. -/
def rowsAt (X : S8192x128.Idx → F .f32) (I : S16x128.Idx → BitVec 32) (k : ℕ) (y : S128x128.Idx) : F .f32 :=
  X (tix (I (lix k (y 0).val)).toNat (y 1).val)

/-- Row `k` of the list, squeezed to a vector, reads the list's row `k`. -/
theorem read_list {κ : Kind} {sp : Space} (m : Memref sig κ sp S16x128 .i32) (f : m.view.ty.Contents (Elt F)) (off : Fin 2 → ℕ)
    (inb : ∀ a, off a + S1x128.size a ≤ S16x128.size a) (k : ℕ) (hk : k < 16) (hoff : off = ![k, 0]) (st) (sq) (x : S128.Idx) :
    ((m.slice (Rect.unit (s := S16x128) off S1x128.size inb) st).squeeze S128 sq).view.read (Elt F) f x
      = m.view.read (Elt F) f (lix k (x 0).val) := by
  obtain ⟨i, rfl⟩ : ∃ i, x = ix1 i := ⟨x 0, eq_ix1 x⟩
  refine (shapeCast_1a_a_apply (fun z => m.view.read (Elt F) f ((Rect.unit (s := S16x128) off S1x128.size inb).emb z)) (show S1x128.ShapeCasts S128 by decide) i).trans ?_
  congr 1
  subst hoff
  funext a
  apply Fin.ext
  have hi : i.val < 128 := i.isLt
  match a with
  | 0 =>
    show k + 1 * 0 = k % 16
    omega
  | 1 =>
    show 0 + 1 * i.val = i.val % 128
    omega

/-- The whole table, sliced at its own extents, reads the table. -/
theorem read_table {κ : Kind} {sp : Space} (m : Memref sig κ sp S8192x128 .f32) (f : m.view.ty.Contents (Elt F))
    (inb : ∀ a, (![0, 0] : Fin 2 → ℕ) a + S8192x128.size a ≤ S8192x128.size a) (st) (z : S8192x128.Idx) :
    (m.slice (Rect.unit (s := S8192x128) ![0, 0] S8192x128.size inb) st).view.read (Elt F) f z = m.view.read (Elt F) f z := by
  show m.view.read (Elt F) f ((Rect.unit (s := S8192x128) ![0, 0] S8192x128.size inb).emb z) = _
  congr 1
  funext a
  apply Fin.ext
  match a with
  | 0 => show 0 + 1 * (z 0).val = (z 0).val; omega
  | 1 => show 0 + 1 * (z 1).val = (z 1).val; omega

section
variable (d : Dev nD) (L : grid2.Coords)
  (a2 : Memref sig .scVector .hbm S8192x128 .f32) (a5 : Memref sig .scVector .vmem S16x128 .i32)
  (a : Memref sig .scVector .vmem S128x128 .f32) (s : DmaSems sig S_)
  (ft : Buf (Elt F) (a2.view.loc (V d (cV L) (jV L)))) (fi : Buf (Elt F) (a5.view.loc (V d (cV L) (jV L)))) (q qi : PosShare TreeShare)

/-- A buffer holding chunk `k` of the gathered rows. -/
def chunkHeld (k : ℕ) : sProp 𝕄 :=
  iprop(∃ g, ⌜a.view.read (Elt F) g = rowsAt (a2.view.read (Elt F) ft) (a5.view.read (Elt F) fi) k⌝ ∗ (a.view.loc (V d (cV L) (jV L)) ↦[a.view.set]{fullShare} g))

/-- Nothing in flight on semaphore `s`: its cell at zero, a share of the list and one of the table at hand. -/
def idle : sProp 𝕄 :=
  iprop(semVal (V d (cV L) (jV L), SemLoc.dma s.sem) 0 ∗ (a5.view.loc (V d (cV L) (jV L)) ↦[a5.view.set]{qi} fi) ∗ (a2.view.loc (V d (cV L) (jV L)) ↦[a2.view.set]{q} ft))

/-- The gather of chunk `k` into buffer `a` in flight on semaphore `s`, some elements of the list and of the table lent
    to it, the rest at hand. -/
def inFlight (k : ℕ) : sProp 𝕄 :=
  iprop(∃ I J, ⌜I ⊆ a5.view.set ∧ J ⊆ a2.view.set⌝
    ∗ Transfers.Flight countersEmb (V d (cV L) (jV L)) (SemLoc.dma s.sem) (none : HIx 4) a.view.dmaCredit
        iprop(chunkHeld d L a2 a5 a ft fi k ∗ (a5.view.loc (V d (cV L) (jV L)) ↦[I]{qi} fi) ∗ (a2.view.loc (V d (cV L) (jV L)) ↦[J]{q} ft))
    ∗ (a5.view.loc (V d (cV L) (jV L)) ↦[a5.view.set \ I]{qi} fi) ∗ (a2.view.loc (V d (cV L) (jV L)) ↦[a2.view.set \ J]{q} ft))

/-- What the gather of the table's rows named by row `k` of the list leaves in its target. -/
theorem gather_value (off : Fin 2 → ℕ) (inb : ∀ a, off a + S1x128.size a ≤ S16x128.size a) (k : ℕ) (hk : k < 16) (hoff : off = ![k, 0]) (sq)
    (inb' : ∀ a, (![0, 0] : Fin 2 → ℕ) a + S8192x128.size a ≤ S8192x128.size a) (hn)
    (hin : ∀ x, (((a5.slice (Rect.unit (s := S16x128) off S1x128.size inb) (fun _ => rfl)).squeeze S128 sq).view.read (Elt F) fi x).toNat < 8192)
    (hI : ∀ z, (a5.view.read (Elt F) fi z).toNat < 8192) :
    SparseCore.gatherPayload (F := F) (e := .f32) gathers_S8192x128_S128x128 ((a2.slice (Rect.unit (s := S8192x128) ![0, 0] S8192x128.size inb') (fun _ => rfl)).view.read (Elt F) ft)
        (SparseCore.rows (F := F) (((a5.slice (Rect.unit (s := S16x128) off S1x128.size inb) (fun _ => rfl)).squeeze S128 sq).view.read (Elt F) fi) hn hin)
      = rowsAt (a2.view.read (Elt F) ft) (a5.view.read (Elt F) fi) k := by
  funext y
  refine (read_table a2 ft inb' _ _).trans ?_
  show _ = a2.view.read (Elt F) ft _
  congr 1
  funext b
  apply Fin.ext
  match b with
  | 0 =>
    show (((a5.slice (Rect.unit (s := S16x128) off S1x128.size inb) (fun _ => rfl)).squeeze S128 sq).view.read (Elt F) fi _).toNat = (a5.view.read (Elt F) fi _).toNat % 8192
    rw [read_list a5 fi off inb k hk hoff, Nat.mod_eq_of_lt (hI _)]
    congr 3
    exact (Shape.rowMajor_val_one _).symm.trans (congrArg Fin.val (Equiv.apply_symm_apply _ _))
  | 1 =>
    show (y 1).val = (y 1).val % 128
    exact (Nat.mod_eq_of_lt (y 1).isLt).symm

/-- ISSUE: with a buffer, an idle semaphore and its shares, the gather of chunk `k` starts. -/
theorem wp_issue {α : Type} (off : Fin 2 → ℕ) (inb : ∀ a, off a + S1x128.size a ≤ S16x128.size a) (k : ℕ) (hk : k < 16) (hoff : off = ![k, 0]) (sq)
    (hI : ∀ z, (a5.view.read (Elt F) fi z).toNat < 8192) (f : Buf (Elt F) (a.view.loc (V d (cV L) (jV L))))
    (K : PUnit → Prog (TpuEff nD τ sig (Elt F) Λ₀ (.scVector (cV L) (jV L))) α) (Q : α → sProp 𝕄) :
    iprop((a.view.loc (V d (cV L) (jV L)) ↦[a.view.set]{fullShare} f) ∗ idle d L a2 a5 s ft fi q qi)
      ⊢ iprop((inFlight d L a2 a5 a s ft fi q qi k -∗ wp frame (wpE (defs₀ (F := F)) 𝒱₀ (V d (cV L) (jV L)) none) Set.univ (K ⟨⟩) Q)
        -∗ wp frame (wpE (defs₀ (F := F)) 𝒱₀ (V d (cV L) (jV L)) none) Set.univ
          (SparseCore.enqueueIndirectGather (F := F) rfl (a2.slice (Rect.unit (s := S8192x128) ![0, 0] S8192x128.size inb_S8192x128_S8192x128_0_0) (fun _ => rfl)) a gathers_S8192x128_S128x128
            ((a5.slice (Rect.unit (s := S16x128) off S1x128.size inb) (fun _ => rfl)).squeeze S128 sq) rfl s.sem (View.wordExact_bits rfl) rfl (Or.inl rfl) >>= K) Q) := by
  have hin : ∀ x, (((a5.slice (Rect.unit (s := S16x128) off S1x128.size inb) (fun _ => rfl)).squeeze S128 sq).view.read (Elt F) fi x).toNat < 8192 :=
    fun x => by rw [read_list a5 fi off inb k hk hoff]; exact hI _
  have hI5 : ((a5.slice (Rect.unit (s := S16x128) off S1x128.size inb) (fun _ => rfl)).squeeze S128 sq).view.set ⊆ a5.view.set := by
    show (((a5.view.slice (Rect.unit (s := S16x128) off S1x128.size inb))).reshape S128 sq.numel_eq).set ⊆ _
    rw [View.set_reshape]; exact View.set_slice_subset _ _
  have hJ2 : (a2.slice (Rect.unit (s := S8192x128) ![0, 0] S8192x128.size inb_S8192x128_S8192x128_0_0) (fun _ => rfl)).view.set ⊆ a2.view.set := View.set_slice_subset _ _
  unfold idle inFlight
  iintro ⟨Ha, Hsm, Hi, Ht⟩ HK
  ihave Hi' := (pointsTo_split_subset hI5).1 $$ Hi
  icases Hi' with ⟨Hi, Hir⟩
  ihave Ht' := (pointsTo_split_subset hJ2).1 $$ Ht
  icases Ht' with ⟨Ht, Htr⟩
  iapply (SparseCore.wp_indirectGatherLocal countersEmb 𝒱₀ (V d (cV L) (jV L)) none (hg := gathers_S8192x128_S128x128) (none : HIx 4)
      a.view.dmaCredit (SparseCore.sum_rowCredit_eq_dmaCredit a _ (fun _ => rfl)) (by decide) hin) $$ [Ht Ha Hi Hsm]
  · isplitl [Ht]; · iexact Ht
    isplitl [Ha]; · iexact Ha
    isplitl [Hi]; · iexact Hi
    iexact Hsm
  iintro Hfl
  iapply HK
  iexists _, _
  isplitr; · ipureintro; exact ⟨hI5, hJ2⟩
  isplitl [Hfl]
  · iapply (Transfers.Flight_mono countersEmb (V d (cV L) (jV L)) (by
      iintro ⟨Hd, Hs, Ho⟩
      isplitl [Hd]
      · unfold chunkHeld
        iexists _; isplitr
        swap; · iexact Hd
        ipureintro
        rw [View.read_write_univ]
        exact gather_value d L a2 a5 ft fi off inb k hk hoff sq _ rfl hin hI
      isplitl [Ho]; · iexact Ho
      iexact Hs)) $$ Hfl
  isplitl [Hir]; · iexact Hir
  iexact Htr

/-- WAIT: the gather of chunk `k` in flight, its wait brings the chunk, and the semaphore is idle again. -/
theorem wp_take {α : Type} (k : ℕ) (O : CellTallies nD τ sig (HIx 4)) (W : Waits sig (HIx 4))
    {sp' : Space} {s' : Shape} {e' : EltTy} (src : Memref sig .scVector sp' s' e') (hs) (hd)
    (K : PUnit → Prog (TpuEff nD τ sig (Elt F) Λ₀ (.scVector (cV L) (jV L))) α) (Q : α → sProp 𝕄) :
    iprop(inFlight d L a2 a5 a s ft fi q qi k ∗ owes (V d (cV L) (jV L)) O W ∗ MayWait (V d (cV L) (jV L)) (SemLoc.dma s.sem) (none : HIx 4) O)
      ⊢ iprop((iprop(chunkHeld d L a2 a5 a ft fi k ∗ idle d L a2 a5 s ft fi q qi
              ∗ owes (V d (cV L) (jV L)) O (insert (SemLoc.dma s.sem, (none : HIx 4)) W)) -∗ wp frame (wpE (defs₀ (F := F)) 𝒱₀ (V d (cV L) (jV L)) none) Set.univ (K ⟨⟩) Q)
        -∗ wp frame (wpE (defs₀ (F := F)) 𝒱₀ (V d (cV L) (jV L)) none) Set.univ
          (SparseCore.waitIndirectGather (F := F) s.sem src a hs hd >>= K) Q) := by
  unfold idle inFlight
  iintro ⟨⟨%I, %J, %hIJ, Hfl, Hir, Htr⟩, HO, Hm⟩ HK
  iapply (Transfers.wp_waitLocalO countersEmb 𝒱₀ (V d (cV L) (jV L)) none (none : HIx 4) (rfl : a.view.dmaCredit = _)) $$ [Hfl HO Hm]
  · isplitl [Hfl]; · iexact Hfl
    isplitl [HO]; · iexact HO
    iexact Hm
  iintro ⟨⟨Hc, Hi, Ht⟩, Hsm, HO⟩
  iapply HK
  isplitl [Hc]; · iexact Hc
  isplitr [HO]
  · isplitl [Hsm]; · iexact Hsm
    isplitl [Hi Hir]
    · iapply (pointsTo_split_subset hIJ.1).2
      isplitl [Hi]; · iexact Hi
      iexact Hir
    · iapply (pointsTo_split_subset hIJ.2).2
      isplitl [Ht]; · iexact Ht
      iexact Htr
  iexact HO

end
end Cert.Proof.Tile
end
-- ==== Proof.Body.lean ====
module

public import proofs.«01_k».proof.Proof.Gather

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

/-! ## A chunk's four rows, block of columns by block of columns -/

/-- The result rows with the chunk's four rows done up to column `c`. -/
def chunkCols (X : S128x128.Idx → F .f32) (old : S64x128.Idx → F .f32) (row c : ℕ) (y : S64x128.Idx) : F .f32 :=
  if (row ≤ (y 0).val ∧ (y 0).val < row + 4) ∧ (y 1).val < c then chunkMax X (y 0).val (y 1).val else old y

/-- No block of columns done leaves the rows as they were. -/
theorem chunkCols_zero (X : S128x128.Idx → F .f32) (old : S64x128.Idx → F .f32) (row : ℕ) (y : S64x128.Idx) : chunkCols X old row (16 * 0) y = old y :=
  if_neg fun h => absurd h.2 (Nat.not_lt_zero _)

/-- One more block of sixteen columns extends the columns done. -/
theorem chunkCols_succ (X : S128x128.Idx → F .f32) (old now : S64x128.Idx → F .f32) (row t : ℕ) (h : ∀ y, now y = chunkCols X old row (16 * t) y) (y : S64x128.Idx) :
    chunkBlock X now row (16 * t) y = chunkCols X old row (16 * (t + 1)) y := by
  unfold chunkBlock
  rw [h y]
  unfold chunkCols
  by_cases h1 : row ≤ (y 0).val ∧ (y 0).val < row + 4
  · by_cases h2 : (y 1).val < 16 * t
    · rw [if_neg (by omega), if_pos ⟨h1, h2⟩, if_pos ⟨h1, by omega⟩]
    · by_cases h3 : (y 1).val < 16 * t + 16
      · rw [if_pos ⟨h1, by omega, h3⟩, if_pos ⟨h1, by omega⟩]
      · rw [if_neg (by omega), if_neg (by omega), if_neg (by omega)]
  · rw [if_neg fun h => h1 h.1, if_neg fun h => h1 h.1, if_neg fun h => h1 h.1]

/-- Row `q` of the tile's result at column `c`, from the table and the tile's list: the maximum of the thirty-two
    gathered rows that belong to `q`. -/
def tileMax (X : S8192x128.Idx → F .f32) (I : S16x128.Idx → BitVec 32) (y : S64x128.Idx) : F .f32 :=
  chunkMax (rowsAt X I ((y 0).val / 4)) (y 0).val (y 1).val

/-- Loop 1 runs eight times. -/
theorem trips1 : k2_t1_loop.trips = 8 := by decide
/-- Loop 2 runs eight times. -/
theorem trips2 : k2_t2_loop.trips = 8 := by decide
/-- Loop 3 runs eight times. -/
theorem trips3 : k2_t3_loop.trips = 8 := by decide

section
variable (d : Dev nD) (L : grid2.Coords)
  (a2 : Memref sig .scVector .hbm S8192x128 .f32) (h2 : a2.IsWhole) (a3 : Memref sig .scVector .hbm S512x128 .i32) (h3 : a3.IsWhole)
  (a4 : Memref sig .scVector .hbm S2048x128 .f32) (h4 : a4.IsWhole) (a5 : Memref sig .scVector .vmem S16x128 .i32) (h5 : a5.IsWhole)
  (a6 : Memref sig .scVector .vmem S128x128 .f32) (h6 : a6.IsWhole) (a7 : Memref sig .scVector .vmem S128x128 .f32) (h7 : a7.IsWhole)
  (a8 : Memref sig .scVector .vmem S64x128 .f32) (h8 : a8.IsWhole) (s9 s10 r0 r1 : DmaSems sig S_)

/-- The even chunk's column loop. -/
theorem cols2 (t1 : Fin k2_t1_loop.trips) (v : BitVec 32) (f6 : Buf (Elt F) (a6.view.loc (V d (cV L) (jV L)))) (f8 : Buf (Elt F) (a8.view.loc (V d (cV L) (jV L))))
    (Q : BitVec 32 → sProp 𝕄) :
    iprop(((a6.view.loc (V d (cV L) (jV L)) ↦[a6.view.set]{fullShare} f6) ∗ (a8.view.loc (V d (cV L) (jV L)) ↦[a8.view.set]{fullShare} f8))
        ∗ (∀ acc, iprop((a6.view.loc (V d (cV L) (jV L)) ↦[a6.view.set]{fullShare} f6)
            ∗ ∃ g, ⌜∀ y, a8.view.read (Elt F) g y = chunkCols (a6.view.read (Elt F) f6) (a8.view.read (Elt F) f8) (8 * t1.val) 128 y⌝
              ∗ (a8.view.loc (V d (cV L) (jV L)) ↦[a8.view.set]{fullShare} g)) -∗ Q acc))
      ⊢ wp frame (wpE (defs₀ (F := F)) 𝒱₀ (V d (cV L) (jV L)) none) Set.univ
            (Scf.Loop.for k2_t2_loop k2_t2_ok 0#32 (k2_t2_body (F := F) L a2 h2 a3 h3 a4 h4 a5 h5 a6 h6 a7 h7 a8 h8 s9 s10 r0 r1 t1 v)) Q := by
  have hb : ∀ (k : Fin k2_t2_loop.trips) (acc : BitVec 32),
      iprop((a6.view.loc (V d (cV L) (jV L)) ↦[a6.view.set]{fullShare} f6)
        ∗ ∃ g, ⌜∀ y, a8.view.read (Elt F) g y = chunkCols (a6.view.read (Elt F) f6) (a8.view.read (Elt F) f8) (8 * t1.val) (16 * k.val) y⌝
              ∗ (a8.view.loc (V d (cV L) (jV L)) ↦[a8.view.set]{fullShare} g))
      ⊢ wp frame (wpE (defs₀ (F := F)) 𝒱₀ (V d (cV L) (jV L)) none) Set.univ
          (k2_t2_body (F := F) L a2 h2 a3 h3 a4 h4 a5 h5 a6 h6 a7 h7 a8 h8 s9 s10 r0 r1 t1 v k acc)
          (fun _ => (iprop((a6.view.loc (V d (cV L) (jV L)) ↦[a6.view.set]{fullShare} f6)
            ∗ ∃ g, ⌜∀ y, a8.view.read (Elt F) g y = chunkCols (a6.view.read (Elt F) f6) (a8.view.read (Elt F) f8) (8 * t1.val) (16 * (k.val + 1)) y⌝
              ∗ (a8.view.loc (V d (cV L) (jV L)) ↦[a8.view.set]{fullShare} g)) : sProp 𝕄)) := by
    intro k acc
    iintro ⟨H6, %g, %hg, H8⟩
    iapply (wp_wand_r frame (wpE (defs₀ (F := F)) 𝒱₀ (V d (cV L) (jV L)) none))
    isplitl [H6 H8]
    · iapply (trip2 d L a2 h2 a3 h3 a4 h4 a5 h5 a6 h6 a7 h7 a8 h8 s9 s10 r0 r1 t1 v k acc f6 g)
      isplitl [H6]; · iexact H6
      iexact H8
    iintro %_ ⟨H6, %g', %hg', H8⟩
    isplitl [H6]; · iexact H6
    iexists g'
    isplitr; · ipureintro; exact fun y => (hg' y).trans (chunkCols_succ _ _ _ _ _ hg y)
    iexact H8
  iintro ⟨⟨H6, H8⟩, HQ⟩
  iapply (Scf.wp_for frame (wpE (defs₀ (F := F)) 𝒱₀ (V d (cV L) (jV L)) none) Set.univ _ _ _ k2_t2_ok 0#32 (k2_t2_body (F := F) L a2 h2 a3 h3 a4 h4 a5 h5 a6 h6 a7 h7 a8 h8 s9 s10 r0 r1 t1 v)
    (fun k _ => iprop((a6.view.loc (V d (cV L) (jV L)) ↦[a6.view.set]{fullShare} f6)
        ∗ ∃ g, ⌜∀ y, a8.view.read (Elt F) g y = chunkCols (a6.view.read (Elt F) f6) (a8.view.read (Elt F) f8) (8 * t1.val) (16 * k) y⌝
              ∗ (a8.view.loc (V d (cV L) (jV L)) ↦[a8.view.set]{fullShare} g))) hb)
  isplitl [H6 H8]
  · isplitl [H6]; · iexact H6
    iexists f8
    isplitr; · ipureintro; exact fun y => (chunkCols_zero _ _ _ y).symm
    iexact H8
  iintro %acc HI
  iapply HQ
  rw [show Scf.trips k2_t2_loop.lb k2_t2_loop.ub k2_t2_loop.st = 8 from trips2]
  iexact HI

/-- The odd chunk's column loop. -/
theorem cols3 (t1 : Fin k2_t1_loop.trips) (v : BitVec 32) (f6 : Buf (Elt F) (a7.view.loc (V d (cV L) (jV L)))) (f8 : Buf (Elt F) (a8.view.loc (V d (cV L) (jV L))))
    (Q : BitVec 32 → sProp 𝕄) :
    iprop(((a7.view.loc (V d (cV L) (jV L)) ↦[a7.view.set]{fullShare} f6) ∗ (a8.view.loc (V d (cV L) (jV L)) ↦[a8.view.set]{fullShare} f8))
        ∗ (∀ acc, iprop((a7.view.loc (V d (cV L) (jV L)) ↦[a7.view.set]{fullShare} f6)
            ∗ ∃ g, ⌜∀ y, a8.view.read (Elt F) g y = chunkCols (a7.view.read (Elt F) f6) (a8.view.read (Elt F) f8) (8 * t1.val + 4) 128 y⌝
              ∗ (a8.view.loc (V d (cV L) (jV L)) ↦[a8.view.set]{fullShare} g)) -∗ Q acc))
      ⊢ wp frame (wpE (defs₀ (F := F)) 𝒱₀ (V d (cV L) (jV L)) none) Set.univ
            (Scf.Loop.for k2_t3_loop k2_t3_ok 0#32 (k2_t3_body (F := F) L a2 h2 a3 h3 a4 h4 a5 h5 a6 h6 a7 h7 a8 h8 s9 s10 r0 r1 t1 v)) Q := by
  have hb : ∀ (k : Fin k2_t3_loop.trips) (acc : BitVec 32),
      iprop((a7.view.loc (V d (cV L) (jV L)) ↦[a7.view.set]{fullShare} f6)
        ∗ ∃ g, ⌜∀ y, a8.view.read (Elt F) g y = chunkCols (a7.view.read (Elt F) f6) (a8.view.read (Elt F) f8) (8 * t1.val + 4) (16 * k.val) y⌝
              ∗ (a8.view.loc (V d (cV L) (jV L)) ↦[a8.view.set]{fullShare} g))
      ⊢ wp frame (wpE (defs₀ (F := F)) 𝒱₀ (V d (cV L) (jV L)) none) Set.univ
          (k2_t3_body (F := F) L a2 h2 a3 h3 a4 h4 a5 h5 a6 h6 a7 h7 a8 h8 s9 s10 r0 r1 t1 v k acc)
          (fun _ => (iprop((a7.view.loc (V d (cV L) (jV L)) ↦[a7.view.set]{fullShare} f6)
            ∗ ∃ g, ⌜∀ y, a8.view.read (Elt F) g y = chunkCols (a7.view.read (Elt F) f6) (a8.view.read (Elt F) f8) (8 * t1.val + 4) (16 * (k.val + 1)) y⌝
              ∗ (a8.view.loc (V d (cV L) (jV L)) ↦[a8.view.set]{fullShare} g)) : sProp 𝕄)) := by
    intro k acc
    iintro ⟨H6, %g, %hg, H8⟩
    iapply (wp_wand_r frame (wpE (defs₀ (F := F)) 𝒱₀ (V d (cV L) (jV L)) none))
    isplitl [H6 H8]
    · iapply (trip3 d L a2 h2 a3 h3 a4 h4 a5 h5 a6 h6 a7 h7 a8 h8 s9 s10 r0 r1 t1 v k acc f6 g)
      isplitl [H6]; · iexact H6
      iexact H8
    iintro %_ ⟨H6, %g', %hg', H8⟩
    isplitl [H6]; · iexact H6
    iexists g'
    isplitr; · ipureintro; exact fun y => (hg' y).trans (chunkCols_succ _ _ _ _ _ hg y)
    iexact H8
  iintro ⟨⟨H6, H8⟩, HQ⟩
  iapply (Scf.wp_for frame (wpE (defs₀ (F := F)) 𝒱₀ (V d (cV L) (jV L)) none) Set.univ _ _ _ k2_t3_ok 0#32 (k2_t3_body (F := F) L a2 h2 a3 h3 a4 h4 a5 h5 a6 h6 a7 h7 a8 h8 s9 s10 r0 r1 t1 v)
    (fun k _ => iprop((a7.view.loc (V d (cV L) (jV L)) ↦[a7.view.set]{fullShare} f6)
        ∗ ∃ g, ⌜∀ y, a8.view.read (Elt F) g y = chunkCols (a7.view.read (Elt F) f6) (a8.view.read (Elt F) f8) (8 * t1.val + 4) (16 * k) y⌝
              ∗ (a8.view.loc (V d (cV L) (jV L)) ↦[a8.view.set]{fullShare} g))) hb)
  isplitl [H6 H8]
  · isplitl [H6]; · iexact H6
    iexists f8
    isplitr; · ipureintro; exact fun y => (chunkCols_zero _ _ _ y).symm
    iexact H8
  iintro %acc HI
  iapply HQ
  rw [show Scf.trips k2_t3_loop.lb k2_t3_loop.ub k2_t3_loop.st = 8 from trips3]
  iexact HI

/-- The first `n` rows of the tile's result hold their maxima. -/
def rowsDone (ft : Buf (Elt F) (a2.view.loc (V d (cV L) (jV L)))) (fi : Buf (Elt F) (a5.view.loc (V d (cV L) (jV L)))) (n : ℕ) : sProp 𝕄 :=
  iprop(∃ g, ⌜∀ y : S64x128.Idx, (y 0).val < n → a8.view.read (Elt F) g y = tileMax (a2.view.read (Elt F) ft) (a5.view.read (Elt F) fi) y⌝
    ∗ (a8.view.loc (V d (cV L) (jV L)) ↦[a8.view.set]{fullShare} g))

/-- A buffer at some contents. -/
def bufAny (a : Memref sig .scVector .vmem S128x128 .f32) : sProp 𝕄 :=
  iprop(∃ f, (a.view.loc (V d (cV L) (jV L)) ↦[a.view.set]{fullShare} f))

/-- Before pair `k`: chunk `2 k + e` on its way into its buffer while there is one, else the buffer free. -/
def slot (a : Memref sig .scVector .vmem S128x128 .f32) (s : DmaSems sig S_) (ft : Buf (Elt F) (a2.view.loc (V d (cV L) (jV L)))) (fi : Buf (Elt F) (a5.view.loc (V d (cV L) (jV L))))
    (q qi : PosShare TreeShare) (e k : ℕ) : sProp 𝕄 :=
  if k < 8 then inFlight d L a2 a5 a s ft fi q qi (2 * k + e)
  else iprop(bufAny d L a ∗ idle d L a2 a5 s ft fi q qi)

variable (ft : Buf (Elt F) (a2.view.loc (V d (cV L) (jV L)))) (fi : Buf (Elt F) (a5.view.loc (V d (cV L) (jV L))))
  (q q' qi qi' : PosShare TreeShare) (O : CellTallies nD τ sig (HIx 4)) (W : Waits sig (HIx 4))

/-- What the tile owes, its waits so far recorded at no call's index. -/
def owing : sProp 𝕄 := iprop(∃ W', ⌜∀ p ∈ W', p ∈ W ∨ p.2 = none⌝ ∗ owes (V d (cV L) (jV L)) O W')

/-- A wait of no level added to the recorded ones keeps their condition. -/
theorem recorded (sm : SemLoc sig) {W' : Waits sig (HIx 4)} (h : ∀ p ∈ W', p ∈ W ∨ p.2 = none) :
    ∀ p ∈ insert (sm, (none : HIx 4)) W', p ∈ W ∨ p.2 = none := fun p hp => by
  rcases Finset.mem_insert.mp hp with hp | hp
  · exact .inr (hp ▸ rfl)
  · exact h p hp

/-- The invariant of the loop over pairs of chunks. -/
def pairInv (k : ℕ) : sProp 𝕄 :=
  iprop(Transfers.MayWaits (V d (cV L) (jV L)) (none : HIx 4) O ∗ slot d L a2 a5 a6 s9 ft fi q qi 0 k ∗ slot d L a2 a5 a7 s10 ft fi q' qi' 1 k
    ∗ rowsDone d L a2 a5 a8 ft fi (8 * k) ∗ owing d L O W)

/-- The guard of the tile's refill 1: all pairs of chunks but the last. -/
theorem cond1_iff : ∀ t : Fin k2_t1_loop.trips, k2_cond1 t = 1#1 ↔ t.val < 7 := by decide +kernel
/-- The guard of the tile's refill 2: all pairs of chunks but the last. -/
theorem cond2_iff : ∀ t : Fin k2_t1_loop.trips, k2_cond2 t = 1#1 ↔ t.val < 7 := by decide +kernel

/-- A chunk's four rows done extend the rows done. -/
theorem done_step (X : S8192x128.Idx → F .f32) (I : S16x128.Idx → BitVec 32) (j : ℕ) (old now : S64x128.Idx → F .f32)
    (h : ∀ y, (y 0).val < 4 * j → old y = tileMax X I y) (hn : ∀ y, now y = chunkCols (rowsAt X I j) old (4 * j) 128 y)
    (y : S64x128.Idx) (hy : (y 0).val < 4 * (j + 1)) : now y = tileMax X I y := by
  rw [hn y, chunkCols]
  have h1 : (y 1).val < 128 := (y 1).isLt
  by_cases h0 : (y 0).val < 4 * j
  · rw [if_neg (by omega)]; exact h y h0
  · rw [if_pos (by omega), tileMax, show (y 0).val / 4 = j by omega]

set_option maxHeartbeats 4000000 in
/-- One pair of chunks. -/
theorem pair (hI : ∀ z, (a5.view.read (Elt F) fi z).toNat < 8192) (t1 : Fin k2_t1_loop.trips) (acc : BitVec 32) :
    pairInv d L a2 a5 a6 a7 a8 s9 s10 ft fi q q' qi qi' O W t1.val
      ⊢ wp frame (wpE (defs₀ (F := F)) 𝒱₀ (V d (cV L) (jV L)) none) Set.univ (k2_t1_body (F := F) L a2 h2 a3 h3 a4 h4 a5 h5 a6 h6 a7 h7 a8 h8 s9 s10 r0 r1 t1 acc)
          (fun _ => pairInv d L a2 a5 a6 a7 a8 s9 s10 ft fi q q' qi qi' O W (t1.val + 1)) := by
  have ht : t1.val < 8 := lt_of_lt_of_le t1.isLt k2_t1_abs.2.1
  have hc1 := cond1_iff t1
  have hc2 := cond2_iff t1
  unfold k2_t1_body pairInv slot rowsDone owing
  rw [if_pos ht, if_pos ht]
  iintro ⟨#Hmw, H6, H7, ⟨%g, %hg, H8⟩, %W', %hW', HO⟩
  iapply (wp_take d L a2 a5 a6 s9 ft fi q qi (2 * t1.val + 0) O W') $$ [H6 HO]
  · isplitl [H6]; · iexact H6
    isplitl [HO]; · iexact HO
    iapply (Transfers.MayWaits.elim (SemLoc.dma s9.sem)) $$ Hmw
  unfold chunkHeld
  iintro ⟨⟨%f6, %hf6, H6⟩, Hid6, HO⟩
  rw [wp_bind]
  iapply (cols2 d L a2 h2 a3 h3 a4 h4 a5 h5 a6 h6 a7 h7 a8 h8 s9 s10 r0 r1 t1 _ f6 g)
  isplitl [H6 H8]
  · isplitl [H6]; · iexact H6
    iexact H8
  iintro %_ ⟨H6, %g', %hg', H8⟩
  have hd := done_step (a2.view.read (Elt F) ft) (a5.view.read (Elt F) fi) (2 * t1.val) (a8.view.read (Elt F) g) (a8.view.read (Elt F) g')
    (fun y hy => hg y (by omega)) (fun y => by rw [hg' y, hf6, show 4 * (2 * t1.val) = 8 * t1.val by omega]; rfl)
  by_cases h7' : t1.val < 7
  · rw [dif_pos (hc1.2 h7'), dif_pos (hc2.2 h7'), if_pos (show t1.val + 1 < 8 by omega), if_pos (show t1.val + 1 < 8 by omega)]
    iapply (wp_issue d L a2 a5 a6 s9 ft fi q qi (k2_off132 t1) _ (2 * (t1.val + 1) + 0) (by omega) (k2_off132_eq t1) squeezes_S1x128_S128 hI f6) $$ [H6 Hid6]
    · isplitl [H6]; · iexact H6
      iexact Hid6
    iintro H6
    iapply (wp_take d L a2 a5 a7 s10 ft fi q' qi' (2 * t1.val + 1) O _) $$ [H7 HO]
    · isplitl [H7]; · iexact H7
      isplitl [HO]; · iexact HO
      iapply (Transfers.MayWaits.elim (SemLoc.dma s10.sem)) $$ Hmw
    unfold chunkHeld
    iintro ⟨⟨%f7, %hf7, H7⟩, Hid7, HO⟩
    rw [wp_bind]
    iapply (cols3 d L a2 h2 a3 h3 a4 h4 a5 h5 a6 h6 a7 h7 a8 h8 s9 s10 r0 r1 t1 _ f7 g')
    isplitl [H7 H8]
    · isplitl [H7]; · iexact H7
      iexact H8
    iintro %_ ⟨H7, %g2, %hg2, H8⟩
    have hd2 := done_step (a2.view.read (Elt F) ft) (a5.view.read (Elt F) fi) (2 * t1.val + 1) (a8.view.read (Elt F) g') (a8.view.read (Elt F) g2)
      (fun y hy => hd y (by omega)) (fun y => by rw [hg2 y, hf7, show 4 * (2 * t1.val + 1) = 8 * t1.val + 4 by omega])
    iapply (wp_issue d L a2 a5 a7 s10 ft fi q' qi' (k2_off262 t1) _ (2 * (t1.val + 1) + 1) (by omega) (k2_off262_eq t1) squeezes_S1x128_S128 hI f7) $$ [H7 Hid7]
    · isplitl [H7]; · iexact H7
      iexact Hid7
    iintro H7
    sl_step
    isplitr; · iexact Hmw
    isplitl [H6]; · iexact H6
    isplitl [H7]; · iexact H7
    isplitl [H8]
    · iexists g2
      isplitr; · ipureintro; exact fun y hy => hd2 y (by omega)
      iexact H8
    iexists _
    isplitr
    swap; · iexact HO
    ipureintro; exact recorded _ _ (recorded _ _ hW')
  · rw [dif_neg (mt hc1.1 h7'), dif_neg (mt hc2.1 h7'), if_neg (show ¬ t1.val + 1 < 8 by omega), if_neg (show ¬ t1.val + 1 < 8 by omega)]
    iapply (wp_take d L a2 a5 a7 s10 ft fi q' qi' (2 * t1.val + 1) O _) $$ [H7 HO]
    · isplitl [H7]; · iexact H7
      isplitl [HO]; · iexact HO
      iapply (Transfers.MayWaits.elim (SemLoc.dma s10.sem)) $$ Hmw
    unfold chunkHeld
    iintro ⟨⟨%f7, %hf7, H7⟩, Hid7, HO⟩
    rw [wp_bind]
    iapply (cols3 d L a2 h2 a3 h3 a4 h4 a5 h5 a6 h6 a7 h7 a8 h8 s9 s10 r0 r1 t1 _ f7 g')
    isplitl [H7 H8]
    · isplitl [H7]; · iexact H7
      iexact H8
    iintro %_ ⟨H7, %g2, %hg2, H8⟩
    have hd2 := done_step (a2.view.read (Elt F) ft) (a5.view.read (Elt F) fi) (2 * t1.val + 1) (a8.view.read (Elt F) g') (a8.view.read (Elt F) g2)
      (fun y hy => hd y (by omega)) (fun y => by rw [hg2 y, hf7, show 4 * (2 * t1.val + 1) = 8 * t1.val + 4 by omega])
    sl_step
    unfold bufAny
    isplitr; · iexact Hmw
    isplitl [H6 Hid6]
    · isplitl [H6]; · iexists f6; iexact H6
      iexact Hid6
    isplitl [H7 Hid7]
    · isplitl [H7]; · iexists f7; iexact H7
      iexact Hid7
    isplitl [H8]
    · iexists g2
      isplitr; · ipureintro; exact fun y hy => hd2 y (by omega)
      iexact H8
    iexists _
    isplitr
    swap; · iexact HO
    ipureintro; exact recorded _ _ (recorded _ _ hW')

end
end Cert.Proof.Tile
end
-- ==== Proof.Whole.lean ====
module

public import proofs.«01_k».proof.Proof.Body

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

section
variable (d : Dev nD) (L : grid2.Coords)
  (a2 : Memref sig .scVector .hbm S8192x128 .f32) (h2 : a2.IsWhole) (a3 : Memref sig .scVector .hbm S512x128 .i32) (h3 : a3.IsWhole)
  (a4 : Memref sig .scVector .hbm S2048x128 .f32) (h4 : a4.IsWhole) (a5 : Memref sig .scVector .vmem S16x128 .i32) (h5 : a5.IsWhole)
  (a6 : Memref sig .scVector .vmem S128x128 .f32) (h6 : a6.IsWhole) (a7 : Memref sig .scVector .vmem S128x128 .f32) (h7 : a7.IsWhole)
  (a8 : Memref sig .scVector .vmem S64x128 .f32) (h8 : a8.IsWhole) (s9 s10 r0 r1 : DmaSems sig S_)

/-- The tile's sixteen rows of the list of row numbers. -/
abbrev listWin : Memref sig .scVector .hbm S16x128 .i32 := a3.slice (Rect.unit (s := S512x128) (k2_off1 L) S16x128.size (k2_off1_inb L)) (fun _ => rfl)
/-- The tile's sixty-four rows of the result. -/
abbrev outWin : Memref sig .scVector .hbm S64x128 .f32 := a4.slice (Rect.unit (s := S2048x128) (k2_off263 L) S64x128.size (k2_off263_inb L)) (fun _ => rfl)

/-- The tile's vector memory, at any contents, and its four semaphores at zero. -/
def scratch : sProp 𝕄 :=
  iprop((∃ f, (a5.view.loc (V d (cV L) (jV L)) ↦[a5.view.set]{fullShare} f)) ∗ bufAny d L a6 ∗ bufAny d L a7
    ∗ (∃ f, (a8.view.loc (V d (cV L) (jV L)) ↦[a8.view.set]{fullShare} f))
    ∗ semVal (V d (cV L) (jV L), SemLoc.dma s9.sem) 0 ∗ semVal (V d (cV L) (jV L), SemLoc.dma s10.sem) 0
    ∗ semVal (V d (cV L) (jV L), SemLoc.dma r0.sem) 0 ∗ semVal (V d (cV L) (jV L), SemLoc.dma r1.sem) 0)

set_option maxRecDepth 65536 in
set_option maxHeartbeats 4000000 in
/-- THE TILE: it fetches its rows of the list, gathers the rows of the table they name, and leaves in its rows of the
    result the maxima; the table and the list come back, and its memory and semaphores. -/
theorem body (ft : Buf (Elt F) (a2.view.loc (V d (cV L) (jV L)))) (f3 : Buf (Elt F) ((listWin L a3).view.loc (V d (cV L) (jV L))))
    (f4 : Buf (Elt F) ((outWin L a4).view.loc (V d (cV L) (jV L)))) (q : PosShare TreeShare) (O : CellTallies nD τ sig (HIx 4)) (W : Waits sig (HIx 4))
    (hI : ∀ z, ((listWin L a3).view.read (Elt F) f3 z).toNat < 8192) :
    iprop(Transfers.MayWaits (V d (cV L) (jV L)) (none : HIx 4) O
        ∗ ((listWin L a3).view.loc (V d (cV L) (jV L)) ↦[(listWin L a3).view.set]{fullShare} f3)
        ∗ (a2.view.loc (V d (cV L) (jV L)) ↦[a2.view.set]{q} ft)
        ∗ ((outWin L a4).view.loc (V d (cV L) (jV L)) ↦[(outWin L a4).view.set]{fullShare} f4)
        ∗ scratch d L a5 a6 a7 a8 s9 s10 r0 r1 ∗ owes (V d (cV L) (jV L)) O W)
      ⊢ wp frame (wpE (defs₀ (F := F)) 𝒱₀ (V d (cV L) (jV L)) none) Set.univ (cc2_kb_skel (F := F) L a2 h2 a3 h3 a4 h4 a5 h5 a6 h6 a7 h7 a8 h8 s9 s10 r0 r1)
          (fun _ => iprop(((listWin L a3).view.loc (V d (cV L) (jV L)) ↦[(listWin L a3).view.set]{fullShare} f3)
            ∗ (a2.view.loc (V d (cV L) (jV L)) ↦[a2.view.set]{q} ft)
            ∗ (∃ g, ⌜∀ y, (outWin L a4).view.read (Elt F) g y = tileMax (a2.view.read (Elt F) ft) ((listWin L a3).view.read (Elt F) f3) y⌝
                ∗ ((outWin L a4).view.loc (V d (cV L) (jV L)) ↦[(outWin L a4).view.set]{fullShare} g))
            ∗ scratch d L a5 a6 a7 a8 s9 s10 r0 r1 ∗ owing d L O W)) := by
  unfold cc2_kb_skel scratch bufAny
  iintro ⟨#Hmw, H3, H2, H4, ⟨⟨%f5, H5⟩, ⟨%f6, H6⟩, ⟨%f7, H7⟩, ⟨%f8, H8⟩, Hs9, Hs10, Hr0, Hr1⟩, HO⟩
  sl_exec
  have hfi : a5.view.read (Elt F) (a5.view.writes (Elt F) a5.view.junk [⟨Rect.whole S16x128, body.sl.dma0 d L a3 f3⟩]) = (listWin L a3).view.read (Elt F) f3 :=
    View.read_writes_whole _ _ _
  generalize a5.view.writes (Elt F) a5.view.junk [⟨Rect.whole S16x128, body.sl.dma0 d L a3 f3⟩] = fi at hfi ⊢
  rw [← hfi] at hI ⊢
  ihave Hh := (pointsTo_share (PosShare.mem_left_op_right fullShare)).1 $$ H5
  icases Hh with ⟨H5, H5'⟩
  ihave Hh := (pointsTo_share (PosShare.mem_left_op_right q)).1 $$ H2
  icases Hh with ⟨H2, H2'⟩
  iapply (wp_issue d L a2 a5 a6 s9 ft fi q.left fullShare.left ![0, 0] _ 0 (by decide) rfl squeezes_S1x128_S128 hI f6) $$ [H6 Hs9 H5 H2]
  · unfold idle
    isplitl [H6]; · iexact H6
    isplitl [Hs9]; · iexact Hs9
    isplitl [H5]; · iexact H5
    iexact H2
  iintro H6
  iapply (wp_issue d L a2 a5 a7 s10 ft fi q.right fullShare.right ![1, 0] _ 1 (by decide) rfl squeezes_S1x128_S128 hI f7) $$ [H7 Hs10 H5' H2']
  · unfold idle
    isplitl [H7]; · iexact H7
    isplitl [Hs10]; · iexact Hs10
    isplitl [H5']; · iexact H5'
    iexact H2'
  iintro H7
  rw [wp_bind]
  iapply (Scf.wp_for frame (wpE (defs₀ (F := F)) 𝒱₀ (V d (cV L) (jV L)) none) Set.univ _ _ _ k2_t1_ok 0#32
    (k2_t1_body (F := F) L a2 h2 a3 h3 a4 h4 a5 h5 a6 h6 a7 h7 a8 h8 s9 s10 r0 r1)
    (fun k _ => pairInv d L a2 a5 a6 a7 a8 s9 s10 ft fi q.left q.right fullShare.left fullShare.right O W k)
    (pair d L a2 h2 a3 h3 a4 h4 a5 h5 a6 h6 a7 h7 a8 h8 s9 s10 r0 r1 ft fi q.left q.right fullShare.left fullShare.right O W hI))
  isplitl [H6 H7 H8 HO]
  · unfold pairInv slot rowsDone owing
    rw [if_pos (by decide), if_pos (by decide)]
    isplitr; · iexact Hmw
    isplitl [H6]; · iexact H6
    isplitl [H7]; · iexact H7
    isplitl [H8]
    · iexists f8
      isplitr; · ipureintro; exact fun y hy => absurd hy (Nat.not_lt_zero _)
      iexact H8
    iexists _
    isplitr
    swap; · iexact HO
    ipureintro; exact recorded _ _ (fun p hp => .inl hp)
  iintro %acc HI
  rw [show Scf.trips k2_t1_loop.lb k2_t1_loop.ub k2_t1_loop.st = 8 from trips1]
  unfold pairInv slot rowsDone owing bufAny idle
  rw [if_neg (by decide), if_neg (by decide)]
  icases HI with ⟨-, ⟨⟨%f6', H6⟩, Hs9, H5, H2⟩, ⟨⟨%f7', H7⟩, Hs10, H5', H2'⟩, ⟨%g, %hg, H8⟩, %W', %hW', HO⟩
  ihave H5 := (pointsTo_share (PosShare.mem_left_op_right fullShare)).2 $$ [H5 H5']
  · isplitl [H5]; · iexact H5
    iexact H5'
  ihave H2 := (pointsTo_share (PosShare.mem_left_op_right q)).2 $$ [H2 H2']
  · isplitl [H2]; · iexact H2
    iexact H2'
  sl_exec
  sl_step
  isplitl [H3]; · iexact H3
  isplitl [H2]; · iexact H2
  isplitl [H4]
  · iexists _
    isplitr
    swap; · iexact H4
    ipureintro
    intro y
    rw [View.read_writes_whole]
    exact hg y (y 0).isLt
  isplitr [HO]
  · isplitl [H5]; · iexists _; iexact H5
    isplitl [H6]; · iexists _; iexact H6
    isplitl [H7]; · iexists _; iexact H7
    isplitl [H8]; · iexists _; iexact H8
    isplitl [Hs9]; · iexact Hs9
    isplitl [Hs10]; · iexact Hs10
    isplitl [Hr0]; · iexact Hr0
    iexact Hr1
  iexists _
  isplitr
  swap; · iexact HO
  ipureintro; exact recorded _ _ hW'

end
end Cert.Proof.Tile
end
-- ==== Proof.Bodies.lean ====
module

public import proofs.«01_k».proof.Proof.Whole
public import proofs.«01_k».proof.Proof.Gen.KernelIdeal.Launch
public import proofs.«01_k».proof.Proof.Gen.KernelIdeal.Points
public import Idealize.ShloMosaic.Lib.Pipeline.Value
public import Idealize.ShloMosaic.Lib.Pipeline.ReadBack
public import Idealize.ShloMosaic.Lib.Tactic

@[expose] public section

noncomputable section

namespace Cert.Proof.Reg

open Cert.KernelIdeal Cert.KernelIdeal.Gen Cert.Proof.Tile
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 4) (Elt F) ℕ UU ℕ

/-- The zero offset, written as a constant function. -/
theorem hz2 : (![0, 0] : Fin 2 → ℕ) = fun _ => 0 := funext fun a => by fin_cases a <;> rfl
/-- The zero offset, written as a constant function. -/
theorem hz3 : (![0, 0, 0] : Fin 3 → ℕ) = fun _ => 0 := funext fun a => by fin_cases a <;> rfl

abbrev ow (c : Dev nD) {sp : Space} {S : Shape} {e : EltTy} (M : Memref sig .tc sp S e) (X : S.Idx → Elt F e) : sProp 𝕄 :=
  owns (c : Thread nD τ) M fullShare X

/-- The body of the last stage: the product of the weights with the gathered rows less the points' own rows. -/
theorem out_run (c : Dev nD) (i : grid3.Coords) (M1 : Memref sig .tc .vmem S1x256x128 .f32) (h1 : M1.IsWhole) (M2 : Memref sig .tc .vmem S1x256x128 .f32) (h2 : M2.IsWhole)
    (M3 : Memref sig .tc .vmem S256x128 .f32) (h3 : M3.IsWhole) (M4 : Memref sig .tc .vmem S1x256x256 .f32) (h4 : M4.IsWhole)
    (x1 x2 : Vec F S1x256x128 .f32) (x3 : Vec F S256x128 .f32) (E : Set ℕ) (Q : PUnit → sProp 𝕄) :
    iprop(ow c M1 x1 ∗ ow c M2 x2 ∗ ow c M3 x3 ∗ (∃ d, ow (F := F) c M4 d)
      ∗ (iprop(ow c M1 x1 ∗ ow c M2 x2 ∗ ow c M3 x3 ∗ ow c M4 (k3_pay1 x1 x2 x3)) -∗ Q ⟨⟩))
      ⊢ wp frame (wpE (defs₀ (F := F)) Variants.none c none) E (cc3__out_body i M1 h1 M2 h2 M3 h3 M4 h4) Q := by
  unfold ow owns
  rw [h1.set_eq_univ, h2.set_eq_univ, h3.set_eq_univ, h4.set_eq_univ]
  iintro ⟨⟨%f1, %hf1, H1⟩, ⟨%f2, %hf2, H2⟩, ⟨%f3, %hf3, H3⟩, ⟨%d, %f4, %hf4, H4⟩, Hk⟩
  sl_exec!
  sl_step
  iapply Hk
  isplitl [H1]
  · iexists f1; isplitr
    · ipureintro; exact hf1
    iexact H1
  isplitl [H2]
  · iexists f2; isplitr
    · ipureintro; exact hf2
    iexact H2
  isplitl [H3]
  · iexists f3; isplitr
    · ipureintro; exact hf3
    iexact H3
  iexists _; isplitr; swap; (· iexact H4); ipureintro
  rw [View.read_writes_junk_eq_canon]
  sl_unfold_words
  rw [View.canon_unit_zero hz3]
  simp only [View.readAt_eq_ld, hf1, hf2, hf3, View.ld_unit_zero (S := S1x256x128) hz3, View.ld_unit_zero (S := S256x128) hz2]

/-- The body of the second stage: the product of the scaled weights with the features, plus the product of the
    remaining weights with the coordinates, plus the bias row. -/
theorem feat_run (c : Dev nD) (i : grid1.Coords) (M2 : Memref sig .tc .vmem S1x256x3 .f32) (h2 : M2.IsWhole) (M3 : Memref sig .tc .vmem S1x256x256 .f32) (h3 : M3.IsWhole)
    (M4 : Memref sig .tc .vmem S128x256 .f32) (h4 : M4.IsWhole) (M5 : Memref sig .tc .vmem S128x3 .f32) (h5 : M5.IsWhole)
    (M6 : Memref sig .tc .vmem S1x128 .f32) (h6 : M6.IsWhole) (M7 : Memref sig .tc .vmem S1x256x128 .f32) (h7 : M7.IsWhole)
    (x2 : Vec F S1x256x3 .f32) (x3 : Vec F S1x256x256 .f32) (x4 : Vec F S128x256 .f32) (x5 : Vec F S128x3 .f32) (x6 : Vec F S1x128 .f32)
    (E : Set ℕ) (Q : PUnit → sProp 𝕄) :
    iprop(ow c M2 x2 ∗ ow c M3 x3 ∗ ow c M4 x4 ∗ ow c M5 x5 ∗ ow c M6 x6 ∗ (∃ d, ow (F := F) c M7 d)
      ∗ (iprop(ow c M2 x2 ∗ ow c M3 x3 ∗ ow c M4 x4 ∗ ow c M5 x5 ∗ ow c M6 x6 ∗ ow c M7 (k1_pay1 x3 x4 x2 x5 x6)) -∗ Q ⟨⟩))
      ⊢ wp frame (wpE (defs₀ (F := F)) Variants.none c none) E (cc1__feat0_body i M2 h2 M3 h3 M4 h4 M5 h5 M6 h6 M7 h7) Q := by
  unfold ow owns
  rw [h2.set_eq_univ, h3.set_eq_univ, h4.set_eq_univ, h5.set_eq_univ, h6.set_eq_univ, h7.set_eq_univ]
  iintro ⟨⟨%f2, %hf2, H2⟩, ⟨%f3, %hf3, H3⟩, ⟨%f4, %hf4, H4⟩, ⟨%f5, %hf5, H5⟩, ⟨%f6, %hf6, H6⟩, ⟨%d, %f7, %hf7, H7⟩, Hk⟩
  sl_exec!
  sl_step
  iapply Hk
  isplitl [H2]
  · iexists f2; isplitr
    · ipureintro; exact hf2
    iexact H2
  isplitl [H3]
  · iexists f3; isplitr
    · ipureintro; exact hf3
    iexact H3
  isplitl [H4]
  · iexists f4; isplitr
    · ipureintro; exact hf4
    iexact H4
  isplitl [H5]
  · iexists f5; isplitr
    · ipureintro; exact hf5
    iexact H5
  isplitl [H6]
  · iexists f6; isplitr
    · ipureintro; exact hf6
    iexact H6
  iexists _; isplitr; swap; (· iexact H7); ipureintro
  rw [View.read_writes_junk_eq_canon]
  sl_unfold_words
  rw [View.canon_unit_zero hz3]
  simp only [View.readAt_eq_ld, hf2, hf3, hf4, hf5, hf6, View.ld_unit_zero (S := S1x256x3) hz3, View.ld_unit_zero (S := S1x256x256) hz3, View.ld_unit_zero (S := S128x256) hz2, View.ld_unit_zero (S := S128x3) hz2,
  View.ld_unit_zero (S := S1x128) hz2]

/-- The body of the first stage: the weights scaled by the features' inverse deviations, and the bias row. -/
theorem stats_run (c : Dev nD) (M0 : Memref sig .tc .vmem S2x256x4096 .f32) (h0 : M0.IsWhole) (M1 : Memref sig .tc .vmem S128x256 .f32) (h1 : M1.IsWhole)
    (M2 : Memref sig .tc .vmem S1x256 .f32) (h2 : M2.IsWhole) (M3 : Memref sig .tc .vmem S1x256 .f32) (h3 : M3.IsWhole)
    (M4 : Memref sig .tc .vmem S128x256 .f32) (h4 : M4.IsWhole) (M5 : Memref sig .tc .vmem S1x128 .f32) (h5 : M5.IsWhole)
    (x0 : Vec F S2x256x4096 .f32) (x1 : Vec F S128x256 .f32) (x2 x3 : Vec F S1x256 .f32)
    (E : Set ℕ) (Q : PUnit → sProp 𝕄) :
    iprop(ow c M0 x0 ∗ ow c M1 x1 ∗ ow c M2 x2 ∗ ow c M3 x3 ∗ (∃ d, ow (F := F) c M4 d) ∗ (∃ d, ow (F := F) c M5 d)
      ∗ (iprop(ow c M0 x0 ∗ ow c M1 x1 ∗ ow c M2 x2 ∗ ow c M3 x3 ∗ ow c M4 (k0_pay4 x0 x2 x1) ∗ ow c M5 (k0_pay5 x0 x2 x3 x1)) -∗ Q ⟨⟩))
      ⊢ wp frame (wpE (defs₀ (F := F)) Variants.none c none) E (cc0__stats_body M0 h0 M1 h1 M2 h2 M3 h3 M4 h4 M5 h5) Q := by
  unfold ow owns
  rw [h0.set_eq_univ, h1.set_eq_univ, h2.set_eq_univ, h3.set_eq_univ, h4.set_eq_univ, h5.set_eq_univ]
  iintro ⟨⟨%f0, %hf0, H0⟩, ⟨%f1, %hf1, H1⟩, ⟨%f2, %hf2, H2⟩, ⟨%f3, %hf3, H3⟩, ⟨%d4, %f4, %hf4, H4⟩, ⟨%d5, %f5, %hf5, H5⟩, Hk⟩
  sl_exec!
  sl_step
  iapply Hk
  isplitl [H0]
  · iexists f0; isplitr
    · ipureintro; exact hf0
    iexact H0
  isplitl [H1]
  · iexists f1; isplitr
    · ipureintro; exact hf1
    iexact H1
  isplitl [H2]
  · iexists f2; isplitr
    · ipureintro; exact hf2
    iexact H2
  isplitl [H3]
  · iexists f3; isplitr
    · ipureintro; exact hf3
    iexact H3
  isplitl [H4]
  · iexists _; isplitr; swap; (· iexact H4); ipureintro
    rw [View.read_writes_junk_eq_canon]
    sl_unfold_words
    rw [View.canon_unit_zero hz2]
    simp only [View.readAt_eq_ld, hf0, hf1, hf2, hf3, View.ld_unit_zero (S := S2x256x4096) hz3, View.ld_unit_zero (S := S128x256) hz2, View.ld_unit_zero (S := S1x256) hz2]
  iexists _; isplitr; swap; (· iexact H5); ipureintro
  rw [View.read_writes_junk_eq_canon]
  sl_unfold_words
  rw [View.canon_unit_zero hz2]
  simp only [View.readAt_eq_ld, hf0, hf1, hf2, hf3, View.ld_unit_zero (S := S2x256x4096) hz3, View.ld_unit_zero (S := S128x256) hz2, View.ld_unit_zero (S := S1x256) hz2]

/-- Body 5 is the text of the first output stage's. -/
theorem out5_eq : cc5__out_body (F := F) = cc3__out_body := rfl
/-- Body 7 is the text of the first output stage's. -/
theorem out7_eq : cc7__out_body (F := F) = cc3__out_body := rfl
/-- Body 9 is the text of the first output stage's. -/
theorem out9_eq : cc9__out_body (F := F) = cc3__out_body := rfl

end Cert.Proof.Reg

end
-- ==== Proof.Regions.lean ====
module

public import proofs.«01_k».proof.Proof.Bodies
public import proofs.«01_k».proof.Proof.Gen.KernelIdeal.Launch
public import proofs.«01_k».proof.Proof.Gen.KernelIdeal.Points
public import Idealize.ShloMosaic.Lib.Pipeline.Value
public import Idealize.ShloMosaic.Lib.Pipeline.ReadBack
public import Idealize.ShloMosaic.Lib.Tactic
public import Idealize.ShloMosaic.Lib.Pipeline.RegionArrays
public import Idealize.ShloMosaic.Lib.Pipeline.RegionArraysS
public import Idealize.ShloMosaic.Lib.Pipeline.FrameTail
public import Idealize.ShloMosaic.Lib.Pipeline.FrameBody

@[expose] public section

noncomputable section

namespace Cert.Proof.Reg

open Cert.KernelIdeal Cert.KernelIdeal.Gen Cert.Proof.Tile
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 4) (Elt F) ℕ UU ℕ

abbrev ΛP : Labels := Pipeline.Sig Λ₀ (Fin 6) fun p => (pcfgs (F := F) p).Adm
abbrev K : SparseCore.Cfg τ sig (ΛP (F := F)) 4 := sc (F := F)
abbrev D : Defs nD τ sig (Elt F) (ΛP (F := F)) := Pipeline.defs pcfgs defs₀
abbrev 𝒱 : Variants := 𝒱₀.lift
abbrev v₀ : 𝒱.V := Sum.inl none

abbrev EH : Emb UH (MT nD τ sig (HIx 4) (Elt F) ℕ UU ℕ) := embL
abbrev EP : Emb UP (MT nD τ sig (HIx 4) (Elt F) ℕ UU ℕ) := (Emb.inl : Emb UP (UP × Counters)).trans embR

instance EP_landsIn : (EP (F := F)).LandsIn (upEmb : UEmb _ (MT nD τ sig (HIx 4) (Elt F) ℕ UU ℕ)) := by
  unfold EP; infer_instance

abbrev adm (p : Fin 6) : (pcfgs (F := F) p).Adm := (cfgs p).toPCfg_adm

/-! ## The stages' proof data, at any contents of the arrays -/

variable (V : Valuation τ sig (Elt F)) (n : ℕ)

/-- The waits a core may have recorded while it owes the dispatches from the `n`-th on. -/
def recd (c : Dev nD) : Set (SemLoc sig × HIx 4) := {p | (K (F := F)).lev ((SparseCore.T c : Thread nD τ), p.1) p.2 ≤ 8 * n}

/-- Window `w`'s block of stage 0 at point `t`. -/
def stg0 (w : Fin cfg0.W) (t : Fin cfg0.N) : ((cfg0.win w).xblock (cfg0.grid.coords t)).Idx → Elt F (cfg0.win w).elt :=
  ((cfg0.win w).blk t).view.read (Elt F) (V (Proc.devRef .tc (Pipeline.arrRef spec0 w)))

def dat0 (c : Dev nD) : Dat τ (Elt F) (HIx 4) ℕ UU ℕ cfg0 c where
  A w := V (Proc.devRef .tc (Pipeline.arrRef spec0 w))
  after w t := match w with
    | ⟨0, _⟩ => stg0 V 0 t
    | ⟨1, _⟩ => stg0 V 1 t
    | ⟨2, _⟩ => stg0 V 2 t
    | ⟨3, _⟩ => stg0 V 3 t
    | ⟨4, _⟩ => k0_pay4 (stg0 V 0 t) (stg0 V 2 t) (stg0 V 1 t)
    | ⟨5, _⟩ => k0_pay5 (stg0 V 0 t) (stg0 V 2 t) (stg0 V 3 t) (stg0 V 1 t)
  Φ _ := Pipeline.scopedRest (Ix := HIx 4) (Name := ℕ) (U := UU) (Lvl := ℕ) (Val := Elt F) spec0 c
  q _ := fullShare
  owed _ := (K (F := F)).Otc c n
  recorded _ := recd (F := F) n c

/-- What call 0's body finds staged for operand 0. -/
theorem before0_0 (c : Dev nD) (t : Fin cfg0.N) (d) : (dat0 V n c).before 0 t d = stg0 V 0 t :=
  (Dat.before_in_eq_fetched (dat0 V n c) 0 rfl (fun _ => rfl) (fun _ _ _ => rfl) (fun _ => rfl) t d).trans rfl
/-- What call 0's body finds staged for operand 1. -/
theorem before0_1 (c : Dev nD) (t : Fin cfg0.N) (d) : (dat0 V n c).before 1 t d = stg0 V 1 t :=
  (Dat.before_in_eq_fetched (dat0 V n c) 1 rfl (fun _ => rfl) (fun _ _ _ => rfl) (fun _ => rfl) t d).trans rfl
/-- What call 0's body finds staged for operand 2. -/
theorem before0_2 (c : Dev nD) (t : Fin cfg0.N) (d) : (dat0 V n c).before 2 t d = stg0 V 2 t :=
  (Dat.before_in_eq_fetched (dat0 V n c) 2 rfl (fun _ => rfl) (fun _ _ _ => rfl) (fun _ => rfl) t d).trans rfl
/-- What call 0's body finds staged for operand 3. -/
theorem before0_3 (c : Dev nD) (t : Fin cfg0.N) (d) : (dat0 V n c).before 3 t d = stg0 V 3 t :=
  (Dat.before_in_eq_fetched (dat0 V n c) 3 rfl (fun _ => rfl) (fun _ _ _ => rfl) (fun _ => rfl) t d).trans rfl

/-- Call 0's body does at each grid point what the region records of it. -/
theorem obligation0 (c : Dev nD) : BodyObligation (dat0 V n c) (defs₀ (F := F)) 𝒱₀ none Set.univ := fun t => by
  rw [bigSep_W0, bigSep_W0]
  simp only
  rw [show (dat0 V n c).Φ t.succ = (dat0 V n c).Φ t.castSucc from rfl,
    show (dat0 V n c).owesAt none t.succ = (dat0 V n c).owesAt none t.castSucc from rfl]
  simp only [before0_0 V n c t, before0_1 V n c t, before0_2 V n c t, before0_3 V n c t]
  show _ ⊢ wp frame (wpE (defs₀ (F := F)) Variants.none c none) Set.univ (bodyAt0 t) _
  refine BI.BIBase.Entails.trans ?_ (stats_run (F := F) c (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (stg0 V 0 t) (stg0 V 1 t) (stg0 V 2 t) (stg0 V 3 t) Set.univ _)
  iintro ⟨HΦ, Howes, ⟨%d0, H0⟩, ⟨%d1, H1⟩, ⟨%d2, H2⟩, ⟨%d3, H3⟩, H4, H5⟩
  isplitl [H0]; · iexact H0
  isplitl [H1]; · iexact H1
  isplitl [H2]; · iexact H2
  isplitl [H3]; · iexact H3
  isplitl [H4]
  · icases H4 with ⟨%d4, H4⟩; iexists _; iexact H4
  isplitl [H5]
  · icases H5 with ⟨%d5, H5⟩; iexists _; iexact H5
  iintro ⟨H0, H1, H2, H3, H4, H5⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  iexact H5

/-- Window `w`'s block of stage 1 at point `t`. -/
def stg1 (w : Fin cfg1.W) (t : Fin cfg1.N) : ((cfg1.win w).xblock (cfg1.grid.coords t)).Idx → Elt F (cfg1.win w).elt :=
  ((cfg1.win w).blk t).view.read (Elt F) (V (Proc.devRef .tc (Pipeline.arrRef spec1 w)))

def dat1 (c : Dev nD) : Dat τ (Elt F) (HIx 4) ℕ UU ℕ cfg1 c where
  A w := V (Proc.devRef .tc (Pipeline.arrRef spec1 w))
  after w t := match w with
    | ⟨0, _⟩ => stg1 V 0 t
    | ⟨1, _⟩ => stg1 V 1 t
    | ⟨2, _⟩ => stg1 V 2 t
    | ⟨3, _⟩ => stg1 V 3 t
    | ⟨4, _⟩ => stg1 V 4 t
    | ⟨5, _⟩ => k1_pay1 (stg1 V 1 t) (stg1 V 2 t) (stg1 V 0 t) (stg1 V 3 t) (stg1 V 4 t)
  Φ _ := Pipeline.scopedRest (Ix := HIx 4) (Name := ℕ) (U := UU) (Lvl := ℕ) (Val := Elt F) spec1 c
  q _ := fullShare
  owed _ := (K (F := F)).Otc c n
  recorded _ := recd (F := F) n c

/-- What call 1's body finds staged for operand 0. -/
theorem before1_0 (c : Dev nD) (t : Fin cfg1.N) (d) : (dat1 V n c).before 0 t d = stg1 V 0 t :=
  (Dat.before_in_eq_fetched (dat1 V n c) 0 rfl (fun _ => rfl) (fun _ _ _ => rfl) (fun _ => rfl) t d).trans rfl
/-- What call 1's body finds staged for operand 1. -/
theorem before1_1 (c : Dev nD) (t : Fin cfg1.N) (d) : (dat1 V n c).before 1 t d = stg1 V 1 t :=
  (Dat.before_in_eq_fetched (dat1 V n c) 1 rfl (fun _ => rfl) (fun _ _ _ => rfl) (fun _ => rfl) t d).trans rfl
/-- What call 1's body finds staged for operand 2. -/
theorem before1_2 (c : Dev nD) (t : Fin cfg1.N) (d) : (dat1 V n c).before 2 t d = stg1 V 2 t :=
  (Dat.before_in_eq_fetched (dat1 V n c) 2 rfl (fun _ => rfl) (fun _ _ _ => rfl) (fun _ => rfl) t d).trans rfl
/-- What call 1's body finds staged for operand 3. -/
theorem before1_3 (c : Dev nD) (t : Fin cfg1.N) (d) : (dat1 V n c).before 3 t d = stg1 V 3 t :=
  (Dat.before_in_eq_fetched (dat1 V n c) 3 rfl (fun _ => rfl) (fun _ _ _ => rfl) (fun _ => rfl) t d).trans rfl
/-- What call 1's body finds staged for operand 4. -/
theorem before1_4 (c : Dev nD) (t : Fin cfg1.N) (d) : (dat1 V n c).before 4 t d = stg1 V 4 t :=
  (Dat.before_in_eq_fetched (dat1 V n c) 4 rfl (fun _ => rfl) (fun _ _ _ => rfl) (fun _ => rfl) t d).trans rfl

/-- Call 1's body does at each grid point what the region records of it. -/
theorem obligation1 (c : Dev nD) : BodyObligation (dat1 V n c) (defs₀ (F := F)) 𝒱₀ none Set.univ := fun t => by
  rw [bigSep_W1, bigSep_W1]
  simp only
  rw [show (dat1 V n c).Φ t.succ = (dat1 V n c).Φ t.castSucc from rfl,
    show (dat1 V n c).owesAt none t.succ = (dat1 V n c).owesAt none t.castSucc from rfl]
  simp only [before1_0 V n c t, before1_1 V n c t, before1_2 V n c t, before1_3 V n c t, before1_4 V n c t]
  show _ ⊢ wp frame (wpE (defs₀ (F := F)) Variants.none c none) Set.univ (bodyAt1 t) _
  refine BI.BIBase.Entails.trans ?_ (feat_run (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (stg1 V 0 t) (stg1 V 1 t) (stg1 V 2 t) (stg1 V 3 t) (stg1 V 4 t) Set.univ _)
  iintro ⟨HΦ, Howes, ⟨%d0, H0⟩, ⟨%d1, H1⟩, ⟨%d2, H2⟩, ⟨%d3, H3⟩, ⟨%d4, H4⟩, H5⟩
  isplitl [H0]; · iexact H0
  isplitl [H1]; · iexact H1
  isplitl [H2]; · iexact H2
  isplitl [H3]; · iexact H3
  isplitl [H4]; · iexact H4
  isplitl [H5]
  · icases H5 with ⟨%d5, H5⟩; iexists _; iexact H5
  iintro ⟨H0, H1, H2, H3, H4, H5⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  iexact H5

/-- Window `w`'s block of stage 2 at point `t`. -/
def stg3 (w : Fin cfg3.W) (t : Fin cfg3.N) : ((cfg3.win w).xblock (cfg3.grid.coords t)).Idx → Elt F (cfg3.win w).elt :=
  ((cfg3.win w).blk t).view.read (Elt F) (V (Proc.devRef .tc (Pipeline.arrRef spec3 w)))

def dat3 (c : Dev nD) : Dat τ (Elt F) (HIx 4) ℕ UU ℕ cfg3 c where
  A w := V (Proc.devRef .tc (Pipeline.arrRef spec3 w))
  after w t := match w with
    | ⟨0, _⟩ => stg3 V 0 t
    | ⟨1, _⟩ => stg3 V 1 t
    | ⟨2, _⟩ => stg3 V 2 t
    | ⟨3, _⟩ => k3_pay1 (stg3 V 0 t) (stg3 V 1 t) (stg3 V 2 t)
  Φ _ := Pipeline.scopedRest (Ix := HIx 4) (Name := ℕ) (U := UU) (Lvl := ℕ) (Val := Elt F) spec3 c
  q _ := fullShare
  owed _ := (K (F := F)).Otc c n
  recorded _ := recd (F := F) n c

/-- What call 3's body finds staged for operand 0. -/
theorem before3_0 (c : Dev nD) (t : Fin cfg3.N) (d) : (dat3 V n c).before 0 t d = stg3 V 0 t :=
  (Dat.before_in_eq_fetched (dat3 V n c) 0 rfl (fun _ => rfl) (fun _ _ _ => rfl) (fun _ => rfl) t d).trans rfl
/-- What call 3's body finds staged for operand 1. -/
theorem before3_1 (c : Dev nD) (t : Fin cfg3.N) (d) : (dat3 V n c).before 1 t d = stg3 V 1 t :=
  (Dat.before_in_eq_fetched (dat3 V n c) 1 rfl (fun _ => rfl) (fun _ _ _ => rfl) (fun _ => rfl) t d).trans rfl
/-- What call 3's body finds staged for operand 2. -/
theorem before3_2 (c : Dev nD) (t : Fin cfg3.N) (d) : (dat3 V n c).before 2 t d = stg3 V 2 t :=
  (Dat.before_in_eq_fetched (dat3 V n c) 2 rfl (fun _ => rfl) (fun _ _ _ => rfl) (fun _ => rfl) t d).trans rfl

/-- Call 3's body does at each grid point what the region records of it. -/
theorem obligation3 (c : Dev nD) : BodyObligation (dat3 V n c) (defs₀ (F := F)) 𝒱₀ none Set.univ := fun t => by
  rw [bigSep_W3, bigSep_W3]
  simp only
  rw [show (dat3 V n c).Φ t.succ = (dat3 V n c).Φ t.castSucc from rfl,
    show (dat3 V n c).owesAt none t.succ = (dat3 V n c).owesAt none t.castSucc from rfl]
  simp only [before3_0 V n c t, before3_1 V n c t, before3_2 V n c t]
  show _ ⊢ wp frame (wpE (defs₀ (F := F)) Variants.none c none) Set.univ (bodyAt3 t) _
  refine BI.BIBase.Entails.trans ?_ (out_run (F := F) c (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (win3_3.stage (cfg3.slots t 3)) (hstage3_3 ((cfg3.slots t 3).cast nbuf3_3)) (stg3 V 0 t) (stg3 V 1 t) (stg3 V 2 t) Set.univ _)
  iintro ⟨HΦ, Howes, ⟨%d0, H0⟩, ⟨%d1, H1⟩, ⟨%d2, H2⟩, H3⟩
  isplitl [H0]; · iexact H0
  isplitl [H1]; · iexact H1
  isplitl [H2]; · iexact H2
  isplitl [H3]
  · icases H3 with ⟨%d3, H3⟩; iexists _; iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-- Window `w`'s block of stage 3 at point `t`. -/
def stg5 (w : Fin cfg5.W) (t : Fin cfg5.N) : ((cfg5.win w).xblock (cfg5.grid.coords t)).Idx → Elt F (cfg5.win w).elt :=
  ((cfg5.win w).blk t).view.read (Elt F) (V (Proc.devRef .tc (Pipeline.arrRef spec5 w)))

def dat5 (c : Dev nD) : Dat τ (Elt F) (HIx 4) ℕ UU ℕ cfg5 c where
  A w := V (Proc.devRef .tc (Pipeline.arrRef spec5 w))
  after w t := match w with
    | ⟨0, _⟩ => stg5 V 0 t
    | ⟨1, _⟩ => stg5 V 1 t
    | ⟨2, _⟩ => stg5 V 2 t
    | ⟨3, _⟩ => k3_pay1 (stg5 V 0 t) (stg5 V 1 t) (stg5 V 2 t)
  Φ _ := Pipeline.scopedRest (Ix := HIx 4) (Name := ℕ) (U := UU) (Lvl := ℕ) (Val := Elt F) spec5 c
  q _ := fullShare
  owed _ := (K (F := F)).Otc c n
  recorded _ := recd (F := F) n c

/-- What call 5's body finds staged for operand 0. -/
theorem before5_0 (c : Dev nD) (t : Fin cfg5.N) (d) : (dat5 V n c).before 0 t d = stg5 V 0 t :=
  (Dat.before_in_eq_fetched (dat5 V n c) 0 rfl (fun _ => rfl) (fun _ _ _ => rfl) (fun _ => rfl) t d).trans rfl
/-- What call 5's body finds staged for operand 1. -/
theorem before5_1 (c : Dev nD) (t : Fin cfg5.N) (d) : (dat5 V n c).before 1 t d = stg5 V 1 t :=
  (Dat.before_in_eq_fetched (dat5 V n c) 1 rfl (fun _ => rfl) (fun _ _ _ => rfl) (fun _ => rfl) t d).trans rfl
/-- What call 5's body finds staged for operand 2. -/
theorem before5_2 (c : Dev nD) (t : Fin cfg5.N) (d) : (dat5 V n c).before 2 t d = stg5 V 2 t :=
  (Dat.before_in_eq_fetched (dat5 V n c) 2 rfl (fun _ => rfl) (fun _ _ _ => rfl) (fun _ => rfl) t d).trans rfl

/-- Call 5's body does at each grid point what the region records of it. -/
theorem obligation5 (c : Dev nD) : BodyObligation (dat5 V n c) (defs₀ (F := F)) 𝒱₀ none Set.univ := fun t => by
  rw [bigSep_W5, bigSep_W5]
  simp only
  rw [show (dat5 V n c).Φ t.succ = (dat5 V n c).Φ t.castSucc from rfl,
    show (dat5 V n c).owesAt none t.succ = (dat5 V n c).owesAt none t.castSucc from rfl]
  simp only [before5_0 V n c t, before5_1 V n c t, before5_2 V n c t]
  show _ ⊢ wp frame (wpE (defs₀ (F := F)) Variants.none c none) Set.univ (bodyAt5 t) _
  unfold bodyAt5
  rw [out5_eq]
  refine BI.BIBase.Entails.trans ?_ (out_run (F := F) c (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (win5_3.stage (cfg5.slots t 3)) (hstage5_3 ((cfg5.slots t 3).cast nbuf5_3)) (stg5 V 0 t) (stg5 V 1 t) (stg5 V 2 t) Set.univ _)
  iintro ⟨HΦ, Howes, ⟨%d0, H0⟩, ⟨%d1, H1⟩, ⟨%d2, H2⟩, H3⟩
  isplitl [H0]; · iexact H0
  isplitl [H1]; · iexact H1
  isplitl [H2]; · iexact H2
  isplitl [H3]
  · icases H3 with ⟨%d3, H3⟩; iexists _; iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-- Window `w`'s block of stage 4 at point `t`. -/
def stg7 (w : Fin cfg7.W) (t : Fin cfg7.N) : ((cfg7.win w).xblock (cfg7.grid.coords t)).Idx → Elt F (cfg7.win w).elt :=
  ((cfg7.win w).blk t).view.read (Elt F) (V (Proc.devRef .tc (Pipeline.arrRef spec7 w)))

def dat7 (c : Dev nD) : Dat τ (Elt F) (HIx 4) ℕ UU ℕ cfg7 c where
  A w := V (Proc.devRef .tc (Pipeline.arrRef spec7 w))
  after w t := match w with
    | ⟨0, _⟩ => stg7 V 0 t
    | ⟨1, _⟩ => stg7 V 1 t
    | ⟨2, _⟩ => stg7 V 2 t
    | ⟨3, _⟩ => k3_pay1 (stg7 V 0 t) (stg7 V 1 t) (stg7 V 2 t)
  Φ _ := Pipeline.scopedRest (Ix := HIx 4) (Name := ℕ) (U := UU) (Lvl := ℕ) (Val := Elt F) spec7 c
  q _ := fullShare
  owed _ := (K (F := F)).Otc c n
  recorded _ := recd (F := F) n c

/-- What call 7's body finds staged for operand 0. -/
theorem before7_0 (c : Dev nD) (t : Fin cfg7.N) (d) : (dat7 V n c).before 0 t d = stg7 V 0 t :=
  (Dat.before_in_eq_fetched (dat7 V n c) 0 rfl (fun _ => rfl) (fun _ _ _ => rfl) (fun _ => rfl) t d).trans rfl
/-- What call 7's body finds staged for operand 1. -/
theorem before7_1 (c : Dev nD) (t : Fin cfg7.N) (d) : (dat7 V n c).before 1 t d = stg7 V 1 t :=
  (Dat.before_in_eq_fetched (dat7 V n c) 1 rfl (fun _ => rfl) (fun _ _ _ => rfl) (fun _ => rfl) t d).trans rfl
/-- What call 7's body finds staged for operand 2. -/
theorem before7_2 (c : Dev nD) (t : Fin cfg7.N) (d) : (dat7 V n c).before 2 t d = stg7 V 2 t :=
  (Dat.before_in_eq_fetched (dat7 V n c) 2 rfl (fun _ => rfl) (fun _ _ _ => rfl) (fun _ => rfl) t d).trans rfl

/-- Call 7's body does at each grid point what the region records of it. -/
theorem obligation7 (c : Dev nD) : BodyObligation (dat7 V n c) (defs₀ (F := F)) 𝒱₀ none Set.univ := fun t => by
  rw [bigSep_W7, bigSep_W7]
  simp only
  rw [show (dat7 V n c).Φ t.succ = (dat7 V n c).Φ t.castSucc from rfl,
    show (dat7 V n c).owesAt none t.succ = (dat7 V n c).owesAt none t.castSucc from rfl]
  simp only [before7_0 V n c t, before7_1 V n c t, before7_2 V n c t]
  show _ ⊢ wp frame (wpE (defs₀ (F := F)) Variants.none c none) Set.univ (bodyAt7 t) _
  unfold bodyAt7
  rw [out7_eq]
  refine BI.BIBase.Entails.trans ?_ (out_run (F := F) c (grid7.coords t) (win7_0.stage (cfg7.slots t 0)) (hstage7_0 ((cfg7.slots t 0).cast nbuf7_0)) (win7_1.stage (cfg7.slots t 1)) (hstage7_1 ((cfg7.slots t 1).cast nbuf7_1)) (win7_2.stage (cfg7.slots t 2)) (hstage7_2 ((cfg7.slots t 2).cast nbuf7_2)) (win7_3.stage (cfg7.slots t 3)) (hstage7_3 ((cfg7.slots t 3).cast nbuf7_3)) (stg7 V 0 t) (stg7 V 1 t) (stg7 V 2 t) Set.univ _)
  iintro ⟨HΦ, Howes, ⟨%d0, H0⟩, ⟨%d1, H1⟩, ⟨%d2, H2⟩, H3⟩
  isplitl [H0]; · iexact H0
  isplitl [H1]; · iexact H1
  isplitl [H2]; · iexact H2
  isplitl [H3]
  · icases H3 with ⟨%d3, H3⟩; iexists _; iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-- Window `w`'s block of stage 5 at point `t`. -/
def stg9 (w : Fin cfg9.W) (t : Fin cfg9.N) : ((cfg9.win w).xblock (cfg9.grid.coords t)).Idx → Elt F (cfg9.win w).elt :=
  ((cfg9.win w).blk t).view.read (Elt F) (V (Proc.devRef .tc (Pipeline.arrRef spec9 w)))

def dat9 (c : Dev nD) : Dat τ (Elt F) (HIx 4) ℕ UU ℕ cfg9 c where
  A w := V (Proc.devRef .tc (Pipeline.arrRef spec9 w))
  after w t := match w with
    | ⟨0, _⟩ => stg9 V 0 t
    | ⟨1, _⟩ => stg9 V 1 t
    | ⟨2, _⟩ => stg9 V 2 t
    | ⟨3, _⟩ => k3_pay1 (stg9 V 0 t) (stg9 V 1 t) (stg9 V 2 t)
  Φ _ := Pipeline.scopedRest (Ix := HIx 4) (Name := ℕ) (U := UU) (Lvl := ℕ) (Val := Elt F) spec9 c
  q _ := fullShare
  owed _ := (K (F := F)).Otc c n
  recorded _ := recd (F := F) n c

/-- What call 9's body finds staged for operand 0. -/
theorem before9_0 (c : Dev nD) (t : Fin cfg9.N) (d) : (dat9 V n c).before 0 t d = stg9 V 0 t :=
  (Dat.before_in_eq_fetched (dat9 V n c) 0 rfl (fun _ => rfl) (fun _ _ _ => rfl) (fun _ => rfl) t d).trans rfl
/-- What call 9's body finds staged for operand 1. -/
theorem before9_1 (c : Dev nD) (t : Fin cfg9.N) (d) : (dat9 V n c).before 1 t d = stg9 V 1 t :=
  (Dat.before_in_eq_fetched (dat9 V n c) 1 rfl (fun _ => rfl) (fun _ _ _ => rfl) (fun _ => rfl) t d).trans rfl
/-- What call 9's body finds staged for operand 2. -/
theorem before9_2 (c : Dev nD) (t : Fin cfg9.N) (d) : (dat9 V n c).before 2 t d = stg9 V 2 t :=
  (Dat.before_in_eq_fetched (dat9 V n c) 2 rfl (fun _ => rfl) (fun _ _ _ => rfl) (fun _ => rfl) t d).trans rfl

/-- Call 9's body does at each grid point what the region records of it. -/
theorem obligation9 (c : Dev nD) : BodyObligation (dat9 V n c) (defs₀ (F := F)) 𝒱₀ none Set.univ := fun t => by
  rw [bigSep_W9, bigSep_W9]
  simp only
  rw [show (dat9 V n c).Φ t.succ = (dat9 V n c).Φ t.castSucc from rfl,
    show (dat9 V n c).owesAt none t.succ = (dat9 V n c).owesAt none t.castSucc from rfl]
  simp only [before9_0 V n c t, before9_1 V n c t, before9_2 V n c t]
  show _ ⊢ wp frame (wpE (defs₀ (F := F)) Variants.none c none) Set.univ (bodyAt9 t) _
  unfold bodyAt9
  rw [out9_eq]
  refine BI.BIBase.Entails.trans ?_ (out_run (F := F) c (grid9.coords t) (win9_0.stage (cfg9.slots t 0)) (hstage9_0 ((cfg9.slots t 0).cast nbuf9_0)) (win9_1.stage (cfg9.slots t 1)) (hstage9_1 ((cfg9.slots t 1).cast nbuf9_1)) (win9_2.stage (cfg9.slots t 2)) (hstage9_2 ((cfg9.slots t 2).cast nbuf9_2)) (win9_3.stage (cfg9.slots t 3)) (hstage9_3 ((cfg9.slots t 3).cast nbuf9_3)) (stg9 V 0 t) (stg9 V 1 t) (stg9 V 2 t) Set.univ _)
  iintro ⟨HΦ, Howes, ⟨%d0, H0⟩, ⟨%d1, H1⟩, ⟨%d2, H2⟩, H3⟩
  isplitl [H0]; · iexact H0
  isplitl [H1]; · iexact H1
  isplitl [H2]; · iexact H2
  isplitl [H3]
  · icases H3 with ⟨%d3, H3⟩; iexists _; iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

end Cert.Proof.Reg

end
-- ==== Proof.Segs.lean ====
module

public import proofs.«01_k».proof.Proof.Regions

@[expose] public section

noncomputable section

namespace Cert.Proof.Reg

open Cert.KernelIdeal Cert.KernelIdeal.Gen Cert.Proof.Tile
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 4) (Elt F) ℕ UU ℕ

variable (V : Valuation τ sig (Elt F)) (n : ℕ)

/-- The stages' proof data, all at the contents `V` and the dispatches from the `n`-th on. -/
def dats : (p : Fin 6) → (c : Dev nD) → Dat τ (Elt F) (HIx 4) ℕ UU ℕ (Pipeline.pin (pcfgs (F := F)) adm p) c
  | ⟨0, _⟩ => fun c => (dat0 V n c : Dat τ (Elt F) (HIx 4) ℕ UU ℕ cfg0 c)
  | ⟨1, _⟩ => fun c => (dat1 V n c : Dat τ (Elt F) (HIx 4) ℕ UU ℕ cfg1 c)
  | ⟨2, _⟩ => fun c => (dat3 V n c : Dat τ (Elt F) (HIx 4) ℕ UU ℕ cfg3 c)
  | ⟨3, _⟩ => fun c => (dat5 V n c : Dat τ (Elt F) (HIx 4) ℕ UU ℕ cfg5 c)
  | ⟨4, _⟩ => fun c => (dat7 V n c : Dat τ (Elt F) (HIx 4) ℕ UU ℕ cfg7 c)
  | ⟨5, _⟩ => fun c => (dat9 V n c : Dat τ (Elt F) (HIx 4) ℕ UU ℕ cfg9 c)

/-- The facts of each region's launch. -/
theorem kit : (p : Fin 6) → Pipeline.PLaunchFacts (nD := nD) (τ := τ) (pcfgs (F := F)) p
  | ⟨0, _⟩ => launch0.toP
  | ⟨1, _⟩ => launch1.toP
  | ⟨2, _⟩ => launch3.toP
  | ⟨3, _⟩ => launch5.toP
  | ⟨4, _⟩ => launch7.toP
  | ⟨5, _⟩ => launch9.toP

/-- Each region's body does what the region records of it. -/
theorem dats_body : (p : Fin 6) → (c : Dev nD) → Pipeline.BodyObligationLoose (dats V n p c) (defs₀ (F := F)) 𝒱₀ none Set.univ
  | ⟨0, _⟩ => fun c => (obligation0 V n c).loose
  | ⟨1, _⟩ => fun c => (obligation1 V n c).loose
  | ⟨2, _⟩ => fun c => (obligation3 V n c).loose
  | ⟨3, _⟩ => fun c => (obligation5 V n c).loose
  | ⟨4, _⟩ => fun c => (obligation7 V n c).loose
  | ⟨5, _⟩ => fun c => (obligation9 V n c).loose

/-- What the core owes doesn't change in a region. -/
theorem dats_owed : (p : Fin 6) → (c : Dev nD) → ∀ t, (dats V n p c).owed t = (K (F := F)).Otc c n
  | ⟨0, _⟩ => fun _ _ => rfl
  | ⟨1, _⟩ => fun _ _ => rfl
  | ⟨2, _⟩ => fun _ _ => rfl
  | ⟨3, _⟩ => fun _ _ => rfl
  | ⟨4, _⟩ => fun _ _ => rfl
  | ⟨5, _⟩ => fun _ _ => rfl

/-- The recorded waits don't change in a region. -/
theorem dats_rec : (p : Fin 6) → (c : Dev nD) → ∀ t, (dats V n p c).recorded t = recd (F := F) n c
  | ⟨0, _⟩ => fun _ _ => rfl
  | ⟨1, _⟩ => fun _ _ => rfl
  | ⟨2, _⟩ => fun _ _ => rfl
  | ⟨3, _⟩ => fun _ _ => rfl
  | ⟨4, _⟩ => fun _ _ => rfl
  | ⟨5, _⟩ => fun _ _ => rfl

/-- From point to point a region keeps only its own scratch. -/
theorem dats_Φ : (p : Fin 6) → (c : Dev nD) → ∀ t, (dats V n p c).Φ t = Pipeline.scopedRest (Pipeline.pin (pcfgs (F := F)) adm p).spec c
  | ⟨0, _⟩ => fun c t => show (Pipeline.scopedRest spec0 c : sProp 𝕄) = Pipeline.scopedRest cfg0.spec c from rfl
  | ⟨1, _⟩ => fun c t => show (Pipeline.scopedRest spec1 c : sProp 𝕄) = Pipeline.scopedRest cfg1.spec c from rfl
  | ⟨2, _⟩ => fun c t => show (Pipeline.scopedRest spec3 c : sProp 𝕄) = Pipeline.scopedRest cfg3.spec c from rfl
  | ⟨3, _⟩ => fun c t => show (Pipeline.scopedRest spec5 c : sProp 𝕄) = Pipeline.scopedRest cfg5.spec c from rfl
  | ⟨4, _⟩ => fun c t => show (Pipeline.scopedRest spec7 c : sProp 𝕄) = Pipeline.scopedRest cfg7.spec c from rfl
  | ⟨5, _⟩ => fun c t => show (Pipeline.scopedRest spec9 c : sProp 𝕄) = Pipeline.scopedRest cfg9.spec c from rfl

/-- A region holds its arrays whole. -/
theorem dats_share : (p : Fin 6) → (c : Dev nD) → ∀ w, (dats V n p c).share w = fullShare
  | ⟨0, _⟩ => fun c w => (dat0 V n c).share_full (fun _ => rfl) w
  | ⟨1, _⟩ => fun c w => (dat1 V n c).share_full (fun _ => rfl) w
  | ⟨2, _⟩ => fun c w => (dat3 V n c).share_full (fun _ => rfl) w
  | ⟨3, _⟩ => fun c w => (dat5 V n c).share_full (fun _ => rfl) w
  | ⟨4, _⟩ => fun c w => (dat7 V n c).share_full (fun _ => rfl) w
  | ⟨5, _⟩ => fun c w => (dat9 V n c).share_full (fun _ => rfl) w

/-- A region starts from the arrays' contents. -/
theorem dats_A : (p : Fin 6) → (c : Dev nD) → ∀ w, (dats V n p c).A w = V (Proc.devRef .tc (Pipeline.arrRef (Pipeline.pin (pcfgs (F := F)) adm p).spec w))
  | ⟨0, _⟩ => fun _ _ => rfl
  | ⟨1, _⟩ => fun _ _ => rfl
  | ⟨2, _⟩ => fun _ _ => rfl
  | ⟨3, _⟩ => fun _ _ => rfl
  | ⟨4, _⟩ => fun _ _ => rfl
  | ⟨5, _⟩ => fun _ _ => rfl

/-! ## A stage as one step of @main -/

/-- A region's own waits are among the recorded ones. -/
theorem recd_wait (c : Dev nD) (p : Fin 6) : (Pipeline.pin (pcfgs (F := F)) adm p).waitPairs (none : HIx 4) ⊆ recd (F := F) n c := by
  rintro _ ⟨w, s, rfl⟩
  exact Nat.zero_le _

/-- A stage's record: entered from its arrays at `V` with the core before dispatch `n`, left with them at the stage's exit contents. -/
def seg (p : Fin 6) : Pipeline.RegionSeg (pcfgs (F := F)) adm (dats V n) (none : HIx 4) (defs₀ (F := F)) 𝒱₀ (K (F := F)).L (K (F := F)).lev p where
  win := (kit (F := F) p).to₀.win
  block_pos := (kit (F := F) p).to₀.block_pos
  stage_whole := (kit (F := F) p).to₀.stage_whole
  K := PEmpty
  osem k := k.elim
  ho := Pipeline.OwnSemFacts.none _
  hbody := dats_body V n p
  hwaits c := Pipeline.cellsWaits_of_cut (Pipeline.pin (pcfgs (F := F)) adm) (dats V n) none p c 0 ((K (F := F)).Otc c n) (dats_owed V n p c)
    (fun _ _ => Finset.mem_univ _) (fun _ _ => le_rfl) (fun g i h => ⟨Finset.mem_univ _, by
      have := SparseCore.Cfg.lev_of_Otc_pos (K := K (F := F)) h; omega⟩)
  pre c := iprop(StableHlo.held (c.tc : Thread nD τ) (Pipeline.arrRefs (Pipeline.pin (pcfgs (F := F)) adm p).spec) V
    ∗ ∃ W, ⌜(K (F := F)).WBelow (SparseCore.T c) W (8 * n)⌝ ∗ owes (SparseCore.T c) ((K (F := F)).Otc c n) W)
  post c := iprop(StableHlo.held (c.tc : Thread nD τ) (Pipeline.arrRefs (Pipeline.pin (pcfgs (F := F)) adm p).spec) (Pipeline.afterRegion (dats V n p c) V)
    ∗ ∃ W, ⌜(K (F := F)).WBelow (SparseCore.T c) W (8 * n)⌝ ∗ owes (SparseCore.T c) ((K (F := F)).Otc c n) W)
  X _ := iprop(emp)
  Y _ := iprop(emp)
  Z _ := iprop(emp)
  hentry c := by
    rw [show (StableHlo.held (c.tc : Thread nD τ) (Pipeline.arrRefs (Pipeline.pin (pcfgs (F := F)) adm p).spec) V : sProp 𝕄) = (dats V n p c).arrays ((dats V n p c).arrAt · 0) from
      (Pipeline.arrays_held (pcfgs (F := F)) adm (dats V n) p (kit (F := F) p) c (dats_share V n p c) ((dats V n p c).arrAt · 0) V (fun w => dats_A V n p c w)).symm]
    rw [Pipeline.ownSems0_none, Pipeline.prefHeld_of_none _ rfl]
    iintro ⟨⟨Ha, HO⟩, -, -⟩
    imodintro
    isplitl [Ha]; · iexact Ha
    isplitr; · iempintro
    isplitl [HO]
    · unfold Pipeline.Dat.owesAt Pipeline.owesWithin Pipeline.Dat.bound
      rw [dats_owed, dats_rec]
      icases HO with ⟨%W, %hW, HO⟩; iexists W; isplitr; · ipureintro; exact fun q hq => Or.inl (hW q hq)
      iexact HO
    isplitl <;> iempintro
  hin c := by
    rw [dats_Φ]
    iintro ⟨-, -, Hr⟩; iexact Hr
  hout c := by
    rw [dats_Φ, Pipeline.ownSems0_none]
    iintro Hr
    isplitr; · iempintro
    isplitr; · iempintro
    iexact Hr
  hexit c := by
    rw [show (StableHlo.held (c.tc : Thread nD τ) (Pipeline.arrRefs (Pipeline.pin (pcfgs (F := F)) adm p).spec) (Pipeline.afterRegion (dats V n p c) V) : sProp 𝕄) = (dats V n p c).arrays ((dats V n p c).arrAt · (Pipeline.pin (pcfgs (F := F)) adm p).N) from
      (Pipeline.arrays_held (pcfgs (F := F)) adm (dats V n) p (kit (F := F) p) c (dats_share V n p c) ((dats V n p c).arrAt · (Pipeline.pin (pcfgs (F := F)) adm p).N) (Pipeline.afterRegion (dats V n p c) V)
        (fun w => (Pipeline.afterRegion_arr (dats V n p c) V (kit (F := F) p).win.arr_inj w).symm)).symm]
    iintro ⟨Ha, HO, -, -⟩
    imodintro
    isplitl [Ha]; · iexact Ha
    unfold Pipeline.Dat.owesAt Pipeline.owesWithin Pipeline.Dat.bound
    rw [dats_owed, dats_rec]
    icases HO with ⟨%W, %hW, HO⟩; iexists W; isplitr
    · ipureintro; exact fun q hq => (hW hq).elim id (fun h => recd_wait (F := F) n c p h)
    iexact HO

/-- What a region is entered with. -/
theorem seg_pre (p : Fin 6) (c : Dev nD) : (seg V n p).pre c = iprop(StableHlo.held (c.tc : Thread nD τ) (Pipeline.arrRefs (Pipeline.pin (pcfgs (F := F)) adm p).spec) V
    ∗ ∃ W, ⌜(K (F := F)).WBelow (SparseCore.T c) W (8 * n)⌝ ∗ owes (SparseCore.T c) ((K (F := F)).Otc c n) W) := rfl
/-- What a region is left with. -/
theorem seg_post (p : Fin 6) (c : Dev nD) : (seg V n p).post c = iprop(StableHlo.held (c.tc : Thread nD τ) (Pipeline.arrRefs (Pipeline.pin (pcfgs (F := F)) adm p).spec) (Pipeline.afterRegion (dats V n p c) V)
    ∗ ∃ W, ⌜(K (F := F)).WBelow (SparseCore.T c) W (8 * n)⌝ ∗ owes (SparseCore.T c) ((K (F := F)).Otc c n) W) := rfl

/-- Stage `p` as a step of @main before dispatch `n`: the arrays it names end at its exit contents, every other
    buffer as it was. -/
theorem region_wp [∀ e, Nonempty (Elt F e)] (p : Fin 6) (c : Dev nD) (Q : PUnit → sProp 𝕄) :
    iprop(levAts (K (F := F)).L (K (F := F)).lev ∗ boundary (c.tc : Thread nD τ) ∗ StableHlo.held (c.tc : Thread nD τ) (Pipeline.ucRefs τ sig) V ∗ (K (F := F)).tcSt EH c n
        ∗ Pipeline.cellsGhost (Pipeline.pin (pcfgs (F := F)) adm) EP p c ∗ Pipeline.toksInit (Pipeline.pin (pcfgs (F := F)) adm) EP p c
        ∗ ((boundary (c.tc : Thread nD τ) ∗ StableHlo.held (c.tc : Thread nD τ) (Pipeline.ucRefs τ sig) (Pipeline.afterRegion (dats V n p c) V) ∗ (K (F := F)).tcSt EH c n) -∗ Q ⟨⟩))
      ⊢ wp frame (wpE ((K (F := F)).defs (D (F := F))) 𝒱 (SparseCore.T c) none) Set.univ (Prog.lift (.customCall (SparseCore.inner (Pipeline.entry p)) ())) Q := by
  change _ ⊢ wp frame _ _ (SparseCore.liftProg (Prog.lift (.customCall (Pipeline.entry p) ()))) Q
  refine BI.BIBase.Entails.trans ?_ ((K (F := F)).wp_liftProg (D (F := F)) 𝒱 (SparseCore.T c) Set.univ none _ _)
  refine BI.BIBase.Entails.trans ?_ (Pipeline.RegionSeg.wp (pcfgs (F := F)) adm (dats V n) (none : HIx 4) cellOf_inj EP (defs₀ (F := F)) 𝒱₀ (K (F := F)).L (K (F := F)).lev (seg V n p) c none (by intro u hu; cases hu) _ Q)
  have hsub := Pipeline.arrRefs_sub_ucRefs (τ := τ) (Pipeline.pin (pcfgs (F := F)) adm p).spec (kit (F := F) p).win.arr_unscoped
  rw [StableHlo.held_sub_split (c.tc : Thread nD τ) hsub V, StableHlo.held_sub_split (c.tc : Thread nD τ) hsub (Pipeline.afterRegion (dats V n p c) V),
    StableHlo.held_congr (c.tc : Thread nD τ) (Pipeline.afterRegion_off (dats V n p c) V (Pipeline.ucRefs τ sig))]
  unfold SparseCore.Cfg.tcSt
  rw [seg_pre, seg_post]
  iintro ⟨Hlv, Hb, ⟨Ha, Hr⟩, ⟨HO, Hst⟩, Hg, Ht, Hk⟩
  isplitl [Hr Hst Hk]
  · iintro ⟨Hb, Ha, HO⟩
    rw [wp_ret]
    imodintro
    iapply Hk
    isplitl [Hb]; · iexact Hb
    isplitl [Ha Hr]
    · isplitl [Ha]; · iexact Ha
      iexact Hr
    isplitl [HO]; · iexact HO
    iexact Hst
  isplitl [Hb]; · iexact Hb
  isplitl [Ha HO]
  · isplitl [Ha]; · iexact Ha
    iexact HO
  isplitl [Hlv]; · iexact Hlv
  isplitl [Hg]; · iexact Hg
  iexact Ht

end Cert.Proof.Reg

end
-- ==== Proof.Share.lean ====
module

public import proofs.«01_k».proof.Defs
public import proofs.«01_k».proof.Proof.Whole
public import proofs.«01_k».proof.Proof.Segs

@[expose] public section

noncomputable section

namespace Cert.Proof.Run

open Cert.KernelIdeal Cert.KernelIdeal.Gen Cert.Proof.Tile Cert.Proof.Reg
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

/-- The coordinates of tile `i` of SparseCore `c`. -/
def coordsV (c : Fin (grid2.bound 0)) (s : Fin (grid2.bound 1)) : grid2.Coords :=
  fun | 0 => c | 1 => s | ⟨_ + 2, h⟩ => absurd h (Nat.not_lt.2 (Nat.le_add_left _ _))

/-- The coordinates of a pair (SparseCore, tile). -/
abbrev at' (p : Fin 2 × Fin 16) : grid2.Coords := coordsV p.1 p.2

/-- The tile's rows of the list. -/
def iSet (L : grid2.Coords) : Finset S512x128.Idx := (Rect.unit (s := S512x128) (k2_off1 L) S16x128.size (k2_off1_inb L)).set
/-- The tile's rows of the result. -/
def oSet (L : grid2.Coords) : Finset S2048x128.Idx := (Rect.unit (s := S2048x128) (k2_off263 L) S64x128.size (k2_off263_inb L)).set

/-- Which entries of the list are a tile's. -/
theorem mem_iSet (p : Fin 2 × Fin 16) (y : S512x128.Idx) : y ∈ iSet (at' p) ↔ (y 0).val / 16 = 2 * p.2.val + p.1.val := by
  have hp : p.1.val < 2 ∧ p.2.val < 16 := ⟨p.1.isLt, p.2.isLt⟩
  have e : iSet (at' p) = (Rect.unit (s := S512x128) (k2_off1 (at' p)) S16x128.size (k2_off1_inb (at' p))).set := rfl
  rw [e, Rect.mem_set_unit, k2_off1_eq]
  constructor
  · intro h
    have h0 : 32 * p.2.val + 16 * p.1.val ≤ (y 0).val ∧ (y 0).val < 32 * p.2.val + 16 * p.1.val + 16 := h 0
    omega
  · intro h a
    match a with
    | 0 => show 32 * p.2.val + 16 * p.1.val ≤ (y 0).val ∧ (y 0).val < 32 * p.2.val + 16 * p.1.val + 16; omega
    | 1 => exact ⟨Nat.zero_le _, by show (y 1).val < 0 + 128; have h1 : (y 1).val < 128 := (y 1).isLt; omega⟩

/-- Which entries of the result are a tile's. -/
theorem mem_oSet (p : Fin 2 × Fin 16) (y : S2048x128.Idx) : y ∈ oSet (at' p) ↔ (y 0).val / 64 = 2 * p.2.val + p.1.val := by
  have hp : p.1.val < 2 ∧ p.2.val < 16 := ⟨p.1.isLt, p.2.isLt⟩
  have e : oSet (at' p) = (Rect.unit (s := S2048x128) (k2_off263 (at' p)) S64x128.size (k2_off263_inb (at' p))).set := rfl
  rw [e, Rect.mem_set_unit, k2_off263_eq]
  constructor
  · intro h
    have h0 : 128 * p.2.val + 64 * p.1.val ≤ (y 0).val ∧ (y 0).val < 128 * p.2.val + 64 * p.1.val + 64 := h 0
    omega
  · intro h a
    match a with
    | 0 => show 128 * p.2.val + 64 * p.1.val ≤ (y 0).val ∧ (y 0).val < 128 * p.2.val + 64 * p.1.val + 64; omega
    | 1 => exact ⟨Nat.zero_le _, by show (y 1).val < 0 + 128; have h1 : (y 1).val < 128 := (y 1).isLt; omega⟩

/-- Tiles of one number are one tile. -/
theorem tile_inj {p p' : Fin 2 × Fin 16} (h : 2 * p.2.val + p.1.val = 2 * p'.2.val + p'.1.val) : p = p' :=
  Prod.ext (Fin.ext (by have := p.1.isLt; have := p'.1.isLt; omega)) (Fin.ext (by have := p.1.isLt; have := p'.1.isLt; omega))

/-- Two tiles' parts are disjoint. -/
theorem iSet_disjoint : ∀ p ∈ (Finset.univ : Finset (Fin 2 × Fin 16)), ∀ p' ∈ (Finset.univ : Finset (Fin 2 × Fin 16)), p ≠ p' → Disjoint (iSet (at' p)) (iSet (at' p')) :=
  fun p _ p' _ h => Finset.disjoint_left.2 fun y hy hy' => h (tile_inj (((mem_iSet p y).1 hy).symm.trans ((mem_iSet p' y).1 hy')))
/-- Two tiles' parts are disjoint. -/
theorem oSet_disjoint : ∀ p ∈ (Finset.univ : Finset (Fin 2 × Fin 16)), ∀ p' ∈ (Finset.univ : Finset (Fin 2 × Fin 16)), p ≠ p' → Disjoint (oSet (at' p)) (oSet (at' p')) :=
  fun p _ p' _ h => Finset.disjoint_left.2 fun y hy hy' => h (tile_inj (((mem_oSet p y).1 hy).symm.trans ((mem_oSet p' y).1 hy')))

/-- The tiles' parts are the whole array. -/
theorem iSet_cover : (Finset.univ : Finset (Fin 2 × Fin 16)).biUnion (fun p => iSet (at' p)) = Finset.univ :=
  Finset.eq_univ_of_forall fun y => by
    have h : (y 0).val < 512 := (y 0).isLt
    refine Finset.mem_biUnion.2 ⟨(⟨(y 0).val / 16 % 2, by omega⟩, ⟨(y 0).val / 32, by omega⟩), Finset.mem_univ _, (mem_iSet _ y).2 ?_⟩
    show (y 0).val / 16 = 2 * ((y 0).val / 32) + (y 0).val / 16 % 2
    omega
/-- The tiles' parts are the whole array. -/
theorem oSet_cover : (Finset.univ : Finset (Fin 2 × Fin 16)).biUnion (fun p => oSet (at' p)) = Finset.univ :=
  Finset.eq_univ_of_forall fun y => by
    have h : (y 0).val < 2048 := (y 0).isLt
    refine Finset.mem_biUnion.2 ⟨(⟨(y 0).val / 64 % 2, by omega⟩, ⟨(y 0).val / 128, by omega⟩), Finset.mem_univ _, (mem_oSet _ y).2 ?_⟩
    show (y 0).val / 64 = 2 * ((y 0).val / 128) + (y 0).val / 64 % 2
    omega

/-- A tile's share of the table. -/
abbrev xq (p : Fin 2 × Fin 16) : PosShare TreeShare := Transfers.shareTok fullShare 32 (finProdFinEquiv p)

/-! ## The result, row by row -/

variable [FloatOps F]

/-- Place `(e / 128, e % 128)` of the list: entry `e` of it. -/
def entry (e : ℕ) : S512x128.Idx := fun
  | 0 => ⟨e / 128 % 512, Nat.mod_lt _ (by decide)⟩
  | 1 => ⟨e % 128, Nat.mod_lt _ (by decide)⟩
  | ⟨_ + 2, h⟩ => absurd h (Nat.not_lt.2 (Nat.le_add_left _ _))

/-- The result at `y`: the maximum of column `y 1` over the thirty-two rows of the table that entries
    `32 (y 0), …, 32 (y 0) + 31` of the list name. -/
def maxRows (X : S8192x128.Idx → F .f32) (I : S512x128.Idx → BitVec 32) (y : S2048x128.Idx) : F .f32 :=
  treeMax 5 fun k => X (tix (I (entry (32 * (y 0).val + k))).toNat (y 1).val)

/-- The pairwise maxima depend on the entries they read only. -/
theorem treeMax_congr : ∀ (n : ℕ) (x x' : ℕ → F .f32), (∀ k, k < 2 ^ n → x k = x' k) → treeMax n x = treeMax n x'
  | 0, x, x', h => h 0 (by decide)
  | n + 1, x, x', h => by
    rw [treeMax, treeMax]
    refine treeMax_congr n _ _ fun k hk => ?_
    have : 2 ^ (n + 1) = 2 * 2 ^ n := by rw [pow_succ, Nat.mul_comm]
    rw [h (2 * k) (by omega), h (2 * k + 1) (by omega)]

/-- What the tile leaves in its rows is the result there. -/
theorem tileMax_eq (p : Fin 2 × Fin 16) (X : S8192x128.Idx → F .f32) (I : S512x128.Idx → BitVec 32) (y : S64x128.Idx) :
    tileMax X (fun z => I ((Rect.unit (s := S512x128) (k2_off1 (at' p)) S16x128.size (k2_off1_inb (at' p))).emb z)) y
      = maxRows X I ((Rect.unit (s := S2048x128) (k2_off263 (at' p)) S64x128.size (k2_off263_inb (at' p))).emb y) := by
  have hp : p.1.val < 2 ∧ p.2.val < 16 := ⟨p.1.isLt, p.2.isLt⟩
  have h0 : (y 0).val < 64 := (y 0).isLt
  have h1 : (y 1).val < 128 := (y 1).isLt
  have e0 : k2_off263 (at' p) 0 = 128 * p.2.val + 64 * p.1.val := by rw [k2_off263_eq]; rfl
  have e1 : k2_off263 (at' p) 1 = 0 := by rw [k2_off263_eq]; rfl
  have i0 : k2_off1 (at' p) 0 = 32 * p.2.val + 16 * p.1.val := by rw [k2_off1_eq]; rfl
  have i1 : k2_off1 (at' p) 1 = 0 := by rw [k2_off1_eq]; rfl
  unfold tileMax chunkMax maxRows
  refine treeMax_congr 5 _ _ fun k hk => ?_
  have hk : k < 32 := hk
  have hz : (Rect.unit (s := S512x128) (k2_off1 (at' p)) S16x128.size (k2_off1_inb (at' p))).emb (lix ((y 0).val / 4) ((32 * ((y 0).val % 4) + k) % 128))
      = entry (32 * ((Rect.unit (s := S2048x128) (k2_off263 (at' p)) S64x128.size (k2_off263_inb (at' p))).emb y 0).val + k) := by
    funext a
    apply Fin.ext
    match a with
    | 0 =>
      show k2_off1 (at' p) 0 + 1 * ((y 0).val / 4 % 16) = (32 * (k2_off263 (at' p) 0 + 1 * (y 0).val) + k) / 128 % 512
      omega
    | 1 =>
      show k2_off1 (at' p) 1 + 1 * (((32 * ((y 0).val % 4) + k) % 128) % 128) = (32 * (k2_off263 (at' p) 0 + 1 * (y 0).val) + k) % 128
      omega
  unfold rowsAt
  show X (tix (I ((Rect.unit (s := S512x128) (k2_off1 (at' p)) S16x128.size (k2_off1_inb (at' p))).emb (lix ((y 0).val / 4) ((32 * ((y 0).val % 4) + k) % 128)))).toNat ((y 1).val % 128)) = _
  rw [hz]
  congr 2
  show (y 1).val % 128 = k2_off263 (at' p) 1 + 1 * (y 1).val
  omega

omit [FloatOps F] in
/-- The calls run on two SparseCores. -/
theorem nCore_eq (q : Fin 4) : (K (F := F)).nCore q = 2 := by
  match q with | 0 => rfl | 1 => rfl | 2 => rfl | 3 => rfl
omit [FloatOps F] in
/-- They run on sixteen subcores of each. -/
theorem nSub_eq (q : Fin 4) : (K (F := F)).nSub q = 16 := by
  match q with | 0 => rfl | 1 => rfl | 2 => rfl | 3 => rfl

/-- The launch semaphores are distinct and not scoped, and no buffer is handed over between tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

end Cert.Proof.Run

end
-- ==== Proof.Eq.lean ====
module

public import proofs.«01_k».proof.Defs
public import proofs.«01_k».proof.Proof.Gen.KernelIdeal

@[expose] public section
set_option maxRecDepth 100000
noncomputable section
namespace Cert.Proof.Tile
open Cert.KernelIdeal Cert.KernelIdeal.Gen
open Idealize.ShloMosaic
variable {F : FTy → Type} [FloatOps F]
/-- Call 4's tile program is call 2's, on its own arrays. -/
theorem kb4_eq : (cc4_kb (F := F)) = cc2_kb := rfl
/-- Call 6's tile program is call 2's, on its own arrays. -/
theorem kb6_eq : (cc6_kb (F := F)) = cc2_kb := rfl
/-- Call 8's tile program is call 2's, on its own arrays. -/
theorem kb8_eq : (cc8_kb (F := F)) = cc2_kb := rfl
end Cert.Proof.Tile
end
-- ==== Proof.Call2.lean ====
module

public import proofs.«01_k».proof.Proof.Share
public import proofs.«01_k».proof.Proof.Eq

@[expose] public section

noncomputable section

namespace Cert.Proof.Run.Call2

open Cert.KernelIdeal Cert.KernelIdeal.Gen Cert.Proof.Tile Cert.Proof.Reg Cert.Proof.Run
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

abbrev xLoc (d : Dev nD) : Loc nD τ sig := (SparseCore.T d).loc main_v8
abbrev iLoc (d : Dev nD) : Loc nD τ sig := (SparseCore.T d).loc main_v12
abbrev oLoc (d : Dev nD) : Loc nD τ sig := (SparseCore.T d).loc main_v13

local notation "xV" => (Memref.whole Cert.KernelIdeal.main_v8_scv : Memref Cert.KernelIdeal.sig Kind.scVector Space.hbm Cert.KernelIdeal.S8192x128 EltTy.f32)
local notation "iV" => (Memref.whole Cert.KernelIdeal.main_v12_scv : Memref Cert.KernelIdeal.sig Kind.scVector Space.hbm Cert.KernelIdeal.S512x128 EltTy.i32)
local notation "oV" => (Memref.whole Cert.KernelIdeal.main_v13_scv : Memref Cert.KernelIdeal.sig Kind.scVector Space.hbm Cert.KernelIdeal.S2048x128 EltTy.f32)
local notation "b0" => (Memref.whole Cert.KernelIdeal.cc2_scratch0 : Memref Cert.KernelIdeal.sig Kind.scVector Space.vmem Cert.KernelIdeal.S16x128 EltTy.i32)
local notation "b1" => (Memref.whole Cert.KernelIdeal.cc2_scratch1 : Memref Cert.KernelIdeal.sig Kind.scVector Space.vmem Cert.KernelIdeal.S128x128 EltTy.f32)
local notation "b2" => (Memref.whole Cert.KernelIdeal.cc2_scratch2 : Memref Cert.KernelIdeal.sig Kind.scVector Space.vmem Cert.KernelIdeal.S128x128 EltTy.f32)
local notation "b3" => (Memref.whole Cert.KernelIdeal.cc2_scratch3 : Memref Cert.KernelIdeal.sig Kind.scVector Space.vmem Cert.KernelIdeal.S64x128 EltTy.f32)

omit [FloatOps F] in
/-- An array held whole is its tiles' parts held apart. -/
theorem iPts_tiles (d : Dev nD) (f : Buf (Elt F) (iLoc d)) :
    (iLoc d ↦{fullShare} f : sProp 𝕄) = bigSep Finset.univ fun c : Fin 2 => bigSep Finset.univ fun i : Fin 16 => iLoc d ↦[iSet (at' (c, i))]{fullShare} f := by
  rw [← bigSep_univ_prod (fun p : Fin 2 × Fin 16 => (iLoc d ↦[iSet (at' p)]{fullShare} f : sProp 𝕄)),
    ← pointsTo_biUnion Finset.univ (ℓ := iLoc d) (fun p => iSet (at' p)) iSet_disjoint, iSet_cover]
omit [FloatOps F] in
/-- An array held whole is its tiles' parts held apart. -/
theorem oPts_tiles (d : Dev nD) (f : Buf (Elt F) (oLoc d)) :
    (oLoc d ↦{fullShare} f : sProp 𝕄) = bigSep Finset.univ fun c : Fin 2 => bigSep Finset.univ fun i : Fin 16 => oLoc d ↦[oSet (at' (c, i))]{fullShare} f := by
  rw [← bigSep_univ_prod (fun p : Fin 2 × Fin 16 => (oLoc d ↦[oSet (at' p)]{fullShare} f : sProp 𝕄)),
    ← pointsTo_biUnion Finset.univ (ℓ := oLoc d) (fun p => oSet (at' p)) oSet_disjoint, oSet_cover]

omit [FloatOps F] in
/-- An array held whole is its tiles' parts held apart. -/
theorem xPts_tiles (d : Dev nD) (f : Buf (Elt F) (xLoc d)) :
    (xLoc d ↦{fullShare} f : sProp 𝕄) ⊣⊢ iprop((xLoc d ↦{Transfers.shareDrop fullShare 32} f)
      ∗ bigSep Finset.univ fun c : Fin 2 => bigSep Finset.univ fun i : Fin 16 => xLoc d ↦{xq (c, i)} f) := by
  rw [← bigSep_univ_prod (fun p : Fin 2 × Fin 16 => (xLoc d ↦{xq p} f : sProp 𝕄)),
    ← bigSep_univ_equiv (finProdFinEquiv (m := 2) (n := 16)) (fun k : Fin 32 => (xLoc d ↦{Transfers.shareTok fullShare 32 k} f : sProp 𝕄))]
  exact Transfers.pointsTo_toks fullShare 32

/-- What a tile is handed of the three arrays, the table at `X`, the list at `I`, the result's rows at `f`. -/
def piece (d : Dev nD) (X : Buf (Elt F) (xLoc d)) (I : Buf (Elt F) (iLoc d)) (p : Fin 2 × Fin 16) (f : Buf (Elt F) (oLoc d)) : sProp 𝕄 :=
  iprop((iLoc d ↦[iSet (at' p)]{fullShare} I) ∗ (xLoc d ↦{xq p} X) ∗ (oLoc d ↦[oSet (at' p)]{fullShare} f))

instance piece_storable (d : Dev nD) (X : Buf (Elt F) (xLoc d)) (I : Buf (Elt F) (iLoc d)) (p : Fin 2 × Fin 16) (f : Buf (Elt F) (oLoc d)) : BI.Storable (upEmb : UEmb _ 𝕄) (piece d X I p f) := by
  unfold piece; infer_instance

/-- What the call leaves in the result's array. -/
def outOf (d : Dev nD) (X : Buf (Elt F) (xLoc d)) (I : Buf (Elt F) (iLoc d)) : Buf (Elt F) (oLoc d) := maxRows (F := F) X I

section Tile
variable (d : Dev nD) (L : grid2.Coords)

abbrev cell (d : Dev nD) (L : grid2.Coords) (s : DmaSems sig S_) : GSem nD τ sig := (V d (cV L) (jV L), .dma s.sem)

omit [FloatOps F] in
/-- The call's four semaphores are among the tile's own. -/
theorem ownSems0_V :
    (ownSems0 (V d (cV L) (jV L)) : sProp 𝕄)
      = iprop(semVal (cell d L cc2_scratch4) 0 ∗ semVal (cell d L cc2_scratch5) 0 ∗ semVal (cell d L cc2_scoped0) 0 ∗ semVal (cell d L cc2_scoped1) 0
          ∗ bigSep (((((ownCells (V d (cV L) (jV L))).erase (cell d L cc2_scratch4)).erase (cell d L cc2_scratch5)).erase (cell d L cc2_scoped0)).erase (cell d L cc2_scoped1))
              fun g => semVal g 0) := by
  have hm : ∀ s : DmaSems sig S_, (SemLoc.dma s.sem : SemLoc sig).isScoped .scVector = true → cell d L s ∈ ownCells (V d (cV L) (jV L)) :=
    fun s h => mem_ownCells.mpr ⟨rfl, h⟩
  have hne : ∀ s s' : DmaSems sig S_, (SemLoc.dma s.sem : SemLoc sig) ≠ .dma s'.sem → cell d L s ≠ cell d L s' :=
    fun s s' h e => h (Prod.mk.inj e).2
  unfold SparseCore.Cfg.ownSems0
  rw [SparseCore.bigSep_erase' (hm cc2_scratch4 (by decide)),
    SparseCore.bigSep_erase' (Finset.mem_erase.mpr ⟨hne cc2_scratch5 cc2_scratch4 (by decide), hm cc2_scratch5 (by decide)⟩),
    SparseCore.bigSep_erase' (Finset.mem_erase.mpr ⟨hne cc2_scoped0 cc2_scratch5 (by decide), Finset.mem_erase.mpr ⟨hne cc2_scoped0 cc2_scratch4 (by decide), hm cc2_scoped0 (by decide)⟩⟩),
    SparseCore.bigSep_erase' (Finset.mem_erase.mpr ⟨hne cc2_scoped1 cc2_scoped0 (by decide), Finset.mem_erase.mpr ⟨hne cc2_scoped1 cc2_scratch5 (by decide),
      Finset.mem_erase.mpr ⟨hne cc2_scoped1 cc2_scratch4 (by decide), hm cc2_scoped1 (by decide)⟩⟩⟩)]

/-- A buffer of the tile's vector memory, by its owner. -/
abbrev bufRef (L : grid2.Coords) (r : Ref sig .scVector) : DevRef τ sig := (Proc.scVector (cV L) (jV L)).devRef r

omit [FloatOps F] in
/-- The call's four scratch buffers are among the tile's own. -/
theorem ownBufs_V :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f)
          ∗ (∃ f, (V d (cV L) (jV L)).loc cc2_scratch2 ↦{fullShare} f) ∗ (∃ f, (V d (cV L) (jV L)).loc cc2_scratch3 ↦{fullShare} f)
          ∗ bigSep (((((ownRefs (τ := τ) (.scVector (cV L) (jV L))).erase (bufRef L cc2_scratch0)).erase (bufRef L cc2_scratch1)).erase (bufRef L cc2_scratch2)).erase (bufRef L cc2_scratch3))
              fun b => iprop(∃ f, ((d, b) : Loc nD τ sig) ↦{fullShare} f)) := by
  have hne : ∀ r r' : Ref sig .scVector, r ≠ r' → bufRef L r ≠ bufRef L r' := fun r r' h e => h (Proc.devRef_injective _ e)
  have h0 : bufRef L cc2_scratch0 ∈ ownRefs (τ := τ) (.scVector (cV L) (jV L)) := SparseCore.Cfg.mem_ownRefs_of_owner rfl
  have h1 : bufRef L cc2_scratch1 ∈ ownRefs (τ := τ) (.scVector (cV L) (jV L)) := SparseCore.Cfg.mem_ownRefs_of_owner rfl
  have h2 : bufRef L cc2_scratch2 ∈ ownRefs (τ := τ) (.scVector (cV L) (jV L)) := SparseCore.Cfg.mem_ownRefs_of_owner rfl
  have h3 : bufRef L cc2_scratch3 ∈ ownRefs (τ := τ) (.scVector (cV L) (jV L)) := SparseCore.Cfg.mem_ownRefs_of_owner rfl
  unfold SparseCore.Cfg.ownBufs
  rw [SparseCore.bigSep_erase' h0,
    SparseCore.bigSep_erase' (Finset.mem_erase.mpr ⟨hne cc2_scratch1 cc2_scratch0 (by decide), h1⟩),
    SparseCore.bigSep_erase' (Finset.mem_erase.mpr ⟨hne cc2_scratch2 cc2_scratch1 (by decide), Finset.mem_erase.mpr ⟨hne cc2_scratch2 cc2_scratch0 (by decide), h2⟩⟩),
    SparseCore.bigSep_erase' (Finset.mem_erase.mpr ⟨hne cc2_scratch3 cc2_scratch2 (by decide), Finset.mem_erase.mpr ⟨hne cc2_scratch3 cc2_scratch1 (by decide),
      Finset.mem_erase.mpr ⟨hne cc2_scratch3 cc2_scratch0 (by decide), h3⟩⟩⟩)]

set_option maxHeartbeats 4000000 in
/-- The task of tile `p`, from what the call hands it: the tile's rows of the result end filled. -/
theorem tile_body (p : Fin 2 × Fin 16) (X : Buf (Elt F) (xLoc d)) (I : Buf (Elt F) (iLoc d)) (fo : Buf (Elt F) (oLoc d)) (hF : (K (F := F)).Facts) (hpre : ∀ j, (I j).toNat < 8192) (O : CellTallies nD τ sig (HIx 4)) (W : Waits sig (HIx 4)) (hO : ∀ g, O g none = 0) :
    iprop(levAts (K (F := F)).L (K (F := F)).lev ∗ emp ∗ piece d X I p fo
        ∗ scopedBufs (V d (cV (at' p)) (jV (at' p))) ∗ scopedSems0 (V d (cV (at' p)) (jV (at' p))) ∗ owes (V d (cV (at' p)) (jV (at' p))) O W)
      ⊢ wp frame (wpE (defs₀ (F := F)) 𝒱₀ (V d (cV (at' p)) (jV (at' p))) none) Set.univ
          (cc2_kb (at' p) xV (Memref.isWhole_whole _) iV (Memref.isWhole_whole _) oV (Memref.isWhole_whole _)
            b0 (Memref.isWhole_whole _) b1 (Memref.isWhole_whole _) b2 (Memref.isWhole_whole _) b3 (Memref.isWhole_whole _)
            cc2_scratch4 cc2_scratch5 cc2_scoped0 cc2_scoped1)
          fun _ => iprop(piece d X I p (outOf d X I)
            ∗ scopedBufs (V d (cV (at' p)) (jV (at' p))) ∗ scopedSems0 (V d (cV (at' p)) (jV (at' p)))
            ∗ ∃ W', ⌜∀ p ∈ W', p ∈ W ∨ p.2 = none⌝ ∗ owes (V d (cV (at' p)) (jV (at' p))) O W') := by
  rw [show cc2_kb (F := F) = cc2_kb_skel (F := F) from cc2_kb_eq_skeleton]
  rw [(K (F := F)).scopedBufs_V hF d (cV (at' p)) (jV (at' p)), SparseCore.Cfg.scopedSems0_V (Val := Elt F) d (cV (at' p)) (jV (at' p)), ownSems0_V, ownBufs_V]
  unfold piece
  have hiw : (listWin (at' p) iV).view.set = iSet (at' p) := by
    show ((View.whole (main_v12_scv : Ref sig .scVector)).slice _).set = _
    rw [View.set_slice]; exact Finset.map_refl
  have how : (outWin (at' p) oV).view.set = oSet (at' p) := by
    show ((View.whole (main_v13_scv : Ref sig .scVector)).slice _).set = _
    rw [View.set_slice]; exact Finset.map_refl
  have hx : (xV).view.set = Finset.univ := View.set_whole _
  have e0 : (b0).view.set = Finset.univ := View.set_whole _
  have e1 : (b1).view.set = Finset.univ := View.set_whole _
  have e2 : (b2).view.set = Finset.univ := View.set_whole _
  have e3 : (b3).view.set = Finset.univ := View.set_whole _
  have hI : ∀ z, ((listWin (at' p) iV).view.read (Elt F) I z).toNat < 8192 := fun z => hpre _
  iintro ⟨#Hlv, -, ⟨Hi, Hx, Ho⟩, ⟨⟨%f5, H5⟩, ⟨%f6, H6⟩, ⟨%f7, H7⟩, ⟨%f8, H8⟩, Hbufs⟩, ⟨Hs9, Hs10, Hr0, Hr1, Hsems⟩, HO⟩
  ihave Hmw := (show levAts (K (F := F)).L (K (F := F)).lev ⊢ Transfers.MayWaits (V d (cV (at' p)) (jV (at' p))) (none : HIx 4) O from
    (K (F := F)).mayWaits_none (thr := V d (cV (at' p)) (jV (at' p))) hO) $$ Hlv
  iapply (wp_wand_r frame (wpE (defs₀ (F := F)) 𝒱₀ (V d (cV (at' p)) (jV (at' p))) none))
  isplitl [Hmw Hi Hx Ho H5 H6 H7 H8 Hs9 Hs10 Hr0 Hr1 HO]
  · iapply (body d (at' p) xV (Memref.isWhole_whole _) iV (Memref.isWhole_whole _) oV (Memref.isWhole_whole _)
            b0 (Memref.isWhole_whole _) b1 (Memref.isWhole_whole _) b2 (Memref.isWhole_whole _) b3 (Memref.isWhole_whole _)
            cc2_scratch4 cc2_scratch5 cc2_scoped0 cc2_scoped1 X I fo (xq p) O W hI)
    unfold scratch bufAny
    rw [hiw, how, hx, e0, e1, e2, e3]
    isplitl [Hmw]; · iexact Hmw
    isplitl [Hi]; · iexact Hi
    isplitl [Hx]; · iexact Hx
    isplitl [Ho]; · iexact Ho
    isplitr [HO]
    · isplitl [H5]; · iexists f5; iexact H5
      isplitl [H6]; · iexists f6; iexact H6
      isplitl [H7]; · iexists f7; iexact H7
      isplitl [H8]; · iexists f8; iexact H8
      isplitl [Hs9]; · iexact Hs9
      isplitl [Hs10]; · iexact Hs10
      isplitl [Hr0]; · iexact Hr0
      iexact Hr1
    iexact HO
  unfold scratch bufAny owing
  rw [hiw, how, hx, e0, e1, e2, e3]
  iintro %_ ⟨Hi, Hx, ⟨%g, %hg, Ho⟩, ⟨⟨%f5', H5⟩, ⟨%f6', H6⟩, ⟨%f7', H7⟩, ⟨%f8', H8⟩, Hs9, Hs10, Hr0, Hr1⟩, HO⟩
  have hout : ∀ y ∈ oSet (at' p), g y = outOf d X I y := by
    intro y hy
    rw [← how] at hy
    obtain ⟨z, -, rfl⟩ := Finset.mem_map.1 hy
    refine ((View.read_apply _ _).trans (cast_eq _ _)).symm.trans ((hg z).trans (tileMax_eq p _ _ z))
  isplitl [Hi Hx Ho]
  · isplitl [Hi]; · iexact Hi
    isplitl [Hx]; · iexact Hx
    iapply (Entails.of_eq (pointsTo_congr hout)); iexact Ho
  isplitl [H5 H6 H7 H8 Hbufs]
  · isplitl [H5]; · iexists _; iexact H5
    isplitl [H6]; · iexists _; iexact H6
    isplitl [H7]; · iexists _; iexact H7
    isplitl [H8]; · iexists _; iexact H8
    iexact Hbufs
  isplitr [HO]
  · isplitl [Hs9]; · iexact Hs9
    isplitl [Hs10]; · iexact Hs10
    isplitl [Hr0]; · iexact Hr0
    isplitl [Hr1]; · iexact Hr1
    iexact Hsems
  iexact HO

/-- The call's body on a vector subcore is the tile's program. -/
theorem defs₀_vector (c : Fin τ.nSC) (s : Fin τ.nSub) :
    defs₀ (F := F) (.scVector c s) 2 ()
      = SparseCore.onTile hcore2 hsub2 (fun c s => cc2_kb (coordsV c s)
          xV (Memref.isWhole_whole _) iV (Memref.isWhole_whole _) oV (Memref.isWhole_whole _)
            b0 (Memref.isWhole_whole _) b1 (Memref.isWhole_whole _) b2 (Memref.isWhole_whole _) b3 (Memref.isWhole_whole _)
            cc2_scratch4 cc2_scratch5 cc2_scoped0 cc2_scoped1) ⟨⟩ c s := rfl

end Tile

/-- The tiles' pieces are the list and the result whole, and the tiles' shares of the table. -/
theorem pieces_eq (d : Dev nD) (X : Buf (Elt F) (xLoc d)) (I : Buf (Elt F) (iLoc d)) (f : Buf (Elt F) (oLoc d)) :
    (bigSep Finset.univ fun c : Fin 2 => bigSep Finset.univ fun i : Fin 16 => piece d X I (c, i) f)
      = iprop((iLoc d ↦{fullShare} I) ∗ (bigSep Finset.univ fun c : Fin 2 => bigSep Finset.univ fun i : Fin 16 => xLoc d ↦{xq (c, i)} X)
          ∗ oLoc d ↦{fullShare} f) := by
  unfold piece
  rw [iPts_tiles, oPts_tiles, ← bigSep_sep', ← bigSep_sep']
  refine bigSep_congr fun c _ => ?_
  rw [bigSep_sep', bigSep_sep']

end Cert.Proof.Run.Call2

end
-- ==== Proof.Call4.lean ====
module

public import proofs.«01_k».proof.Proof.Share
public import proofs.«01_k».proof.Proof.Eq

@[expose] public section

noncomputable section

namespace Cert.Proof.Run.Call4

open Cert.KernelIdeal Cert.KernelIdeal.Gen Cert.Proof.Tile Cert.Proof.Reg Cert.Proof.Run
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

abbrev xLoc (d : Dev nD) : Loc nD τ sig := (SparseCore.T d).loc main_v8
abbrev iLoc (d : Dev nD) : Loc nD τ sig := (SparseCore.T d).loc main_v19
abbrev oLoc (d : Dev nD) : Loc nD τ sig := (SparseCore.T d).loc main_v20

local notation "xV" => (Memref.whole Cert.KernelIdeal.main_v8_scv : Memref Cert.KernelIdeal.sig Kind.scVector Space.hbm Cert.KernelIdeal.S8192x128 EltTy.f32)
local notation "iV" => (Memref.whole Cert.KernelIdeal.main_v19_scv : Memref Cert.KernelIdeal.sig Kind.scVector Space.hbm Cert.KernelIdeal.S512x128 EltTy.i32)
local notation "oV" => (Memref.whole Cert.KernelIdeal.main_v20_scv : Memref Cert.KernelIdeal.sig Kind.scVector Space.hbm Cert.KernelIdeal.S2048x128 EltTy.f32)
local notation "b0" => (Memref.whole Cert.KernelIdeal.cc4_scratch0 : Memref Cert.KernelIdeal.sig Kind.scVector Space.vmem Cert.KernelIdeal.S16x128 EltTy.i32)
local notation "b1" => (Memref.whole Cert.KernelIdeal.cc4_scratch1 : Memref Cert.KernelIdeal.sig Kind.scVector Space.vmem Cert.KernelIdeal.S128x128 EltTy.f32)
local notation "b2" => (Memref.whole Cert.KernelIdeal.cc4_scratch2 : Memref Cert.KernelIdeal.sig Kind.scVector Space.vmem Cert.KernelIdeal.S128x128 EltTy.f32)
local notation "b3" => (Memref.whole Cert.KernelIdeal.cc4_scratch3 : Memref Cert.KernelIdeal.sig Kind.scVector Space.vmem Cert.KernelIdeal.S64x128 EltTy.f32)

omit [FloatOps F] in
/-- An array held whole is its tiles' parts held apart. -/
theorem iPts_tiles (d : Dev nD) (f : Buf (Elt F) (iLoc d)) :
    (iLoc d ↦{fullShare} f : sProp 𝕄) = bigSep Finset.univ fun c : Fin 2 => bigSep Finset.univ fun i : Fin 16 => iLoc d ↦[iSet (at' (c, i))]{fullShare} f := by
  rw [← bigSep_univ_prod (fun p : Fin 2 × Fin 16 => (iLoc d ↦[iSet (at' p)]{fullShare} f : sProp 𝕄)),
    ← pointsTo_biUnion Finset.univ (ℓ := iLoc d) (fun p => iSet (at' p)) iSet_disjoint, iSet_cover]
omit [FloatOps F] in
/-- An array held whole is its tiles' parts held apart. -/
theorem oPts_tiles (d : Dev nD) (f : Buf (Elt F) (oLoc d)) :
    (oLoc d ↦{fullShare} f : sProp 𝕄) = bigSep Finset.univ fun c : Fin 2 => bigSep Finset.univ fun i : Fin 16 => oLoc d ↦[oSet (at' (c, i))]{fullShare} f := by
  rw [← bigSep_univ_prod (fun p : Fin 2 × Fin 16 => (oLoc d ↦[oSet (at' p)]{fullShare} f : sProp 𝕄)),
    ← pointsTo_biUnion Finset.univ (ℓ := oLoc d) (fun p => oSet (at' p)) oSet_disjoint, oSet_cover]

omit [FloatOps F] in
/-- An array held whole is its tiles' parts held apart. -/
theorem xPts_tiles (d : Dev nD) (f : Buf (Elt F) (xLoc d)) :
    (xLoc d ↦{fullShare} f : sProp 𝕄) ⊣⊢ iprop((xLoc d ↦{Transfers.shareDrop fullShare 32} f)
      ∗ bigSep Finset.univ fun c : Fin 2 => bigSep Finset.univ fun i : Fin 16 => xLoc d ↦{xq (c, i)} f) := by
  rw [← bigSep_univ_prod (fun p : Fin 2 × Fin 16 => (xLoc d ↦{xq p} f : sProp 𝕄)),
    ← bigSep_univ_equiv (finProdFinEquiv (m := 2) (n := 16)) (fun k : Fin 32 => (xLoc d ↦{Transfers.shareTok fullShare 32 k} f : sProp 𝕄))]
  exact Transfers.pointsTo_toks fullShare 32

/-- What a tile is handed of the three arrays, the table at `X`, the list at `I`, the result's rows at `f`. -/
def piece (d : Dev nD) (X : Buf (Elt F) (xLoc d)) (I : Buf (Elt F) (iLoc d)) (p : Fin 2 × Fin 16) (f : Buf (Elt F) (oLoc d)) : sProp 𝕄 :=
  iprop((iLoc d ↦[iSet (at' p)]{fullShare} I) ∗ (xLoc d ↦{xq p} X) ∗ (oLoc d ↦[oSet (at' p)]{fullShare} f))

instance piece_storable (d : Dev nD) (X : Buf (Elt F) (xLoc d)) (I : Buf (Elt F) (iLoc d)) (p : Fin 2 × Fin 16) (f : Buf (Elt F) (oLoc d)) : BI.Storable (upEmb : UEmb _ 𝕄) (piece d X I p f) := by
  unfold piece; infer_instance

/-- What the call leaves in the result's array. -/
def outOf (d : Dev nD) (X : Buf (Elt F) (xLoc d)) (I : Buf (Elt F) (iLoc d)) : Buf (Elt F) (oLoc d) := maxRows (F := F) X I

section Tile
variable (d : Dev nD) (L : grid2.Coords)

abbrev cell (d : Dev nD) (L : grid2.Coords) (s : DmaSems sig S_) : GSem nD τ sig := (V d (cV L) (jV L), .dma s.sem)

omit [FloatOps F] in
/-- The call's four semaphores are among the tile's own. -/
theorem ownSems0_V :
    (ownSems0 (V d (cV L) (jV L)) : sProp 𝕄)
      = iprop(semVal (cell d L cc4_scratch4) 0 ∗ semVal (cell d L cc4_scratch5) 0 ∗ semVal (cell d L cc4_scoped0) 0 ∗ semVal (cell d L cc4_scoped1) 0
          ∗ bigSep (((((ownCells (V d (cV L) (jV L))).erase (cell d L cc4_scratch4)).erase (cell d L cc4_scratch5)).erase (cell d L cc4_scoped0)).erase (cell d L cc4_scoped1))
              fun g => semVal g 0) := by
  have hm : ∀ s : DmaSems sig S_, (SemLoc.dma s.sem : SemLoc sig).isScoped .scVector = true → cell d L s ∈ ownCells (V d (cV L) (jV L)) :=
    fun s h => mem_ownCells.mpr ⟨rfl, h⟩
  have hne : ∀ s s' : DmaSems sig S_, (SemLoc.dma s.sem : SemLoc sig) ≠ .dma s'.sem → cell d L s ≠ cell d L s' :=
    fun s s' h e => h (Prod.mk.inj e).2
  unfold SparseCore.Cfg.ownSems0
  rw [SparseCore.bigSep_erase' (hm cc4_scratch4 (by decide)),
    SparseCore.bigSep_erase' (Finset.mem_erase.mpr ⟨hne cc4_scratch5 cc4_scratch4 (by decide), hm cc4_scratch5 (by decide)⟩),
    SparseCore.bigSep_erase' (Finset.mem_erase.mpr ⟨hne cc4_scoped0 cc4_scratch5 (by decide), Finset.mem_erase.mpr ⟨hne cc4_scoped0 cc4_scratch4 (by decide), hm cc4_scoped0 (by decide)⟩⟩),
    SparseCore.bigSep_erase' (Finset.mem_erase.mpr ⟨hne cc4_scoped1 cc4_scoped0 (by decide), Finset.mem_erase.mpr ⟨hne cc4_scoped1 cc4_scratch5 (by decide),
      Finset.mem_erase.mpr ⟨hne cc4_scoped1 cc4_scratch4 (by decide), hm cc4_scoped1 (by decide)⟩⟩⟩)]

/-- A buffer of the tile's vector memory, by its owner. -/
abbrev bufRef (L : grid2.Coords) (r : Ref sig .scVector) : DevRef τ sig := (Proc.scVector (cV L) (jV L)).devRef r

omit [FloatOps F] in
/-- The call's four scratch buffers are among the tile's own. -/
theorem ownBufs_V :
    (ownBufs (V d (cV L) (jV L)) : sProp 𝕄)
      = iprop((∃ f, (V d (cV L) (jV L)).loc cc4_scratch0 ↦{fullShare} f) ∗ (∃ f, (V d (cV L) (jV L)).loc cc4_scratch1 ↦{fullShare} f)
          ∗ (∃ f, (V d (cV L) (jV L)).loc cc4_scratch2 ↦{fullShare} f) ∗ (∃ f, (V d (cV L) (jV L)).loc cc4_scratch3 ↦{fullShare} f)
          ∗ bigSep (((((ownRefs (τ := τ) (.scVector (cV L) (jV L))).erase (bufRef L cc4_scratch0)).erase (bufRef L cc4_scratch1)).erase (bufRef L cc4_scratch2)).erase (bufRef L cc4_scratch3))
              fun b => iprop(∃ f, ((d, b) : Loc nD τ sig) ↦{fullShare} f)) := by
  have hne : ∀ r r' : Ref sig .scVector, r ≠ r' → bufRef L r ≠ bufRef L r' := fun r r' h e => h (Proc.devRef_injective _ e)
  have h0 : bufRef L cc4_scratch0 ∈ ownRefs (τ := τ) (.scVector (cV L) (jV L)) := SparseCore.Cfg.mem_ownRefs_of_owner rfl
  have h1 : bufRef L cc4_scratch1 ∈ ownRefs (τ := τ) (.scVector (cV L) (jV L)) := SparseCore.Cfg.mem_ownRefs_of_owner rfl
  have h2 : bufRef L cc4_scratch2 ∈ ownRefs (τ := τ) (.scVector (cV L) (jV L)) := SparseCore.Cfg.mem_ownRefs_of_owner rfl
  have h3 : bufRef L cc4_scratch3 ∈ ownRefs (τ := τ) (.scVector (cV L) (jV L)) := SparseCore.Cfg.mem_ownRefs_of_owner rfl
  unfold SparseCore.Cfg.ownBufs
  rw [SparseCore.bigSep_erase' h0,
    SparseCore.bigSep_erase' (Finset.mem_erase.mpr ⟨hne cc4_scratch1 cc4_scratch0 (by decide), h1⟩),
    SparseCore.bigSep_erase' (Finset.mem_erase.mpr ⟨hne cc4_scratch2 cc4_scratch1 (by decide), Finset.mem_erase.mpr ⟨hne cc4_scratch2 cc4_scratch0 (by decide), h2⟩⟩),
    SparseCore.bigSep_erase' (Finset.mem_erase.mpr ⟨hne cc4_scratch3 cc4_scratch2 (by decide), Finset.mem_erase.mpr ⟨hne cc4_scratch3 cc4_scratch1 (by decide),
      Finset.mem_erase.mpr ⟨hne cc4_scratch3 cc4_scratch0 (by decide), h3⟩⟩⟩)]

set_option maxHeartbeats 4000000 in
/-- The task of tile `p`, from what the call hands it: the tile's rows of the result end filled. -/
theorem tile_body (p : Fin 2 × Fin 16) (X : Buf (Elt F) (xLoc d)) (I : Buf (Elt F) (iLoc d)) (fo : Buf (Elt F) (oLoc d)) (hF : (K (F := F)).Facts) (hpre : ∀ j, (I j).toNat < 8192) (O : CellTallies nD τ sig (HIx 4)) (W : Waits sig (HIx 4)) (hO : ∀ g, O g none = 0) :
    iprop(levAts (K (F := F)).L (K (F := F)).lev ∗ emp ∗ piece d X I p fo
        ∗ scopedBufs (V d (cV (at' p)) (jV (at' p))) ∗ scopedSems0 (V d (cV (at' p)) (jV (at' p))) ∗ owes (V d (cV (at' p)) (jV (at' p))) O W)
      ⊢ wp frame (wpE (defs₀ (F := F)) 𝒱₀ (V d (cV (at' p)) (jV (at' p))) none) Set.univ
          (cc4_kb (at' p) xV (Memref.isWhole_whole _) iV (Memref.isWhole_whole _) oV (Memref.isWhole_whole _)
            b0 (Memref.isWhole_whole _) b1 (Memref.isWhole_whole _) b2 (Memref.isWhole_whole _) b3 (Memref.isWhole_whole _)
            cc4_scratch4 cc4_scratch5 cc4_scoped0 cc4_scoped1)
          fun _ => iprop(piece d X I p (outOf d X I)
            ∗ scopedBufs (V d (cV (at' p)) (jV (at' p))) ∗ scopedSems0 (V d (cV (at' p)) (jV (at' p)))
            ∗ ∃ W', ⌜∀ p ∈ W', p ∈ W ∨ p.2 = none⌝ ∗ owes (V d (cV (at' p)) (jV (at' p))) O W') := by
  rw [show cc4_kb (F := F) = cc2_kb_skel (F := F) from kb4_eq.trans cc2_kb_eq_skeleton]
  rw [(K (F := F)).scopedBufs_V hF d (cV (at' p)) (jV (at' p)), SparseCore.Cfg.scopedSems0_V (Val := Elt F) d (cV (at' p)) (jV (at' p)), ownSems0_V, ownBufs_V]
  unfold piece
  have hiw : (listWin (at' p) iV).view.set = iSet (at' p) := by
    show ((View.whole (main_v19_scv : Ref sig .scVector)).slice _).set = _
    rw [View.set_slice]; exact Finset.map_refl
  have how : (outWin (at' p) oV).view.set = oSet (at' p) := by
    show ((View.whole (main_v20_scv : Ref sig .scVector)).slice _).set = _
    rw [View.set_slice]; exact Finset.map_refl
  have hx : (xV).view.set = Finset.univ := View.set_whole _
  have e0 : (b0).view.set = Finset.univ := View.set_whole _
  have e1 : (b1).view.set = Finset.univ := View.set_whole _
  have e2 : (b2).view.set = Finset.univ := View.set_whole _
  have e3 : (b3).view.set = Finset.univ := View.set_whole _
  have hI : ∀ z, ((listWin (at' p) iV).view.read (Elt F) I z).toNat < 8192 := fun z => hpre _
  iintro ⟨#Hlv, -, ⟨Hi, Hx, Ho⟩, ⟨⟨%f5, H5⟩, ⟨%f6, H6⟩, ⟨%f7, H7⟩, ⟨%f8, H8⟩, Hbufs⟩, ⟨Hs9, Hs10, Hr0, Hr1, Hsems⟩, HO⟩
  ihave Hmw := (show levAts (K (F := F)).L (K (F := F)).lev ⊢ Transfers.MayWaits (V d (cV (at' p)) (jV (at' p))) (none : HIx 4) O from
    (K (F := F)).mayWaits_none (thr := V d (cV (at' p)) (jV (at' p))) hO) $$ Hlv
  iapply (wp_wand_r frame (wpE (defs₀ (F := F)) 𝒱₀ (V d (cV (at' p)) (jV (at' p))) none))
  isplitl [Hmw Hi Hx Ho H5 H6 H7 H8 Hs9 Hs10 Hr0 Hr1 HO]
  · iapply (body d (at' p) xV (Memref.isWhole_whole _) iV (Memref.isWhole_whole _) oV (Memref.isWhole_whole _)
            b0 (Memref.isWhole_whole _) b1 (Memref.isWhole_whole _) b2 (Memref.isWhole_whole _) b3 (Memref.isWhole_whole _)
            cc4_scratch4 cc4_scratch5 cc4_scoped0 cc4_scoped1 X I fo (xq p) O W hI)
    unfold scratch bufAny
    rw [hiw, how, hx, e0, e1, e2, e3]
    isplitl [Hmw]; · iexact Hmw
    isplitl [Hi]; · iexact Hi
    isplitl [Hx]; · iexact Hx
    isplitl [Ho]; · iexact Ho
    isplitr [HO]
    · isplitl [H5]; · iexists f5; iexact H5
      isplitl [H6]; · iexists f6; iexact H6
      isplitl [H7]; · iexists f7; iexact H7
      isplitl [H8]; · iexists f8; iexact H8
      isplitl [Hs9]; · iexact Hs9
      isplitl [Hs10]; · iexact Hs10
      isplitl [Hr0]; · iexact Hr0
      iexact Hr1
    iexact HO
  unfold scratch bufAny owing
  rw [hiw, how, hx, e0, e1, e2, e3]
  iintro %_ ⟨Hi, Hx, ⟨%g, %hg, Ho⟩, ⟨⟨%f5', H5⟩, ⟨%f6', H6⟩, ⟨%f7', H7⟩, ⟨%f8', H8⟩, Hs9, Hs10, Hr0, Hr1⟩, HO⟩
  have hout : ∀ y ∈ oSet (at' p), g y = outOf d X I y := by
    intro y hy
    rw [← how] at hy
    obtain ⟨z, -, rfl⟩ := Finset.mem_map.1 hy
    refine ((View.read_apply _ _).trans (cast_eq _ _)).symm.trans ((hg z).trans (tileMax_eq p _ _ z))
  isplitl [Hi Hx Ho]
  · isplitl [Hi]; · iexact Hi
    isplitl [Hx]; · iexact Hx
    iapply (Entails.of_eq (pointsTo_congr hout)); iexact Ho
  isplitl [H5 H6 H7 H8 Hbufs]
  · isplitl [H5]; · iexists _; iexact H5
    isplitl [H6]; · iexists _; iexact H6
    isplitl [H7]; · iexists _; iexact H7
    isplitl [H8]; · iexists _; iexact H8
    iexact Hbufs
  isplitr [HO]
  · isplitl [Hs9]; · iexact Hs9
    isplitl [Hs10]; · iexact Hs10
    isplitl [Hr0]; · iexact Hr0
    isplitl [Hr1]; · iexact Hr1
    iexact Hsems
  iexact HO

/-- The call's body on a vector subcore is the tile's program. -/
theorem defs₀_vector (c : Fin τ.nSC) (s : Fin τ.nSub) :
    defs₀ (F := F) (.scVector c s) 4 ()
      = SparseCore.onTile hcore4 hsub4 (fun c s => cc4_kb (coordsV c s)
          xV (Memref.isWhole_whole _) iV (Memref.isWhole_whole _) oV (Memref.isWhole_whole _)
            b0 (Memref.isWhole_whole _) b1 (Memref.isWhole_whole _) b2 (Memref.isWhole_whole _) b3 (Memref.isWhole_whole _)
            cc4_scratch4 cc4_scratch5 cc4_scoped0 cc4_scoped1) ⟨⟩ c s := rfl

end Tile

/-- The tiles' pieces are the list and the result whole, and the tiles' shares of the table. -/
theorem pieces_eq (d : Dev nD) (X : Buf (Elt F) (xLoc d)) (I : Buf (Elt F) (iLoc d)) (f : Buf (Elt F) (oLoc d)) :
    (bigSep Finset.univ fun c : Fin 2 => bigSep Finset.univ fun i : Fin 16 => piece d X I (c, i) f)
      = iprop((iLoc d ↦{fullShare} I) ∗ (bigSep Finset.univ fun c : Fin 2 => bigSep Finset.univ fun i : Fin 16 => xLoc d ↦{xq (c, i)} X)
          ∗ oLoc d ↦{fullShare} f) := by
  unfold piece
  rw [iPts_tiles, oPts_tiles, ← bigSep_sep', ← bigSep_sep']
  refine bigSep_congr fun c _ => ?_
  rw [bigSep_sep', bigSep_sep']

end Cert.Proof.Run.Call4

end
-- ==== Proof.Call6.lean ====
module

public import proofs.«01_k».proof.Proof.Share
public import proofs.«01_k».proof.Proof.Eq

@[expose] public section

noncomputable section

namespace Cert.Proof.Run.Call6

open Cert.KernelIdeal Cert.KernelIdeal.Gen Cert.Proof.Tile Cert.Proof.Reg Cert.Proof.Run
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

abbrev xLoc (d : Dev nD) : Loc nD τ sig := (SparseCore.T d).loc main_v8
abbrev iLoc (d : Dev nD) : Loc nD τ sig := (SparseCore.T d).loc main_v26
abbrev oLoc (d : Dev nD) : Loc nD τ sig := (SparseCore.T d).loc main_v27

local notation "xV" => (Memref.whole Cert.KernelIdeal.main_v8_scv : Memref Cert.KernelIdeal.sig Kind.scVector Space.hbm Cert.KernelIdeal.S8192x128 EltTy.f32)
local notation "iV" => (Memref.whole Cert.KernelIdeal.main_v26_scv : Memref Cert.KernelIdeal.sig Kind.scVector Space.hbm Cert.KernelIdeal.S512x128 EltTy.i32)
local notation "oV" => (Memref.whole Cert.KernelIdeal.main_v27_scv : Memref Cert.KernelIdeal.sig Kind.scVector Space.hbm Cert.KernelIdeal.S2048x128 EltTy.f32)
local notation "b0" => (Memref.whole Cert.KernelIdeal.cc6_scratch0 : Memref Cert.KernelIdeal.sig Kind.scVector Space.vmem Cert.KernelIdeal.S16x128 EltTy.i32)
local notation "b1" => (Memref.whole Cert.KernelIdeal.cc6_scratch1 : Memref Cert.KernelIdeal.sig Kind.scVector Space.vmem Cert.KernelIdeal.S128x128 EltTy.f32)
local notation "b2" => (Memref.whole Cert.KernelIdeal.cc6_scratch2 : Memref Cert.KernelIdeal.sig Kind.scVector Space.vmem Cert.KernelIdeal.S128x128 EltTy.f32)
local notation "b3" => (Memref.whole Cert.KernelIdeal.cc6_scratch3 : Memref Cert.KernelIdeal.sig Kind.scVector Space.vmem Cert.KernelIdeal.S64x128 EltTy.f32)

omit [FloatOps F] in
/-- An array held whole is its tiles' parts held apart. -/
theorem iPts_tiles (d : Dev nD) (f : Buf (Elt F) (iLoc d)) :
    (iLoc d ↦{fullShare} f : sProp 𝕄) = bigSep Finset.univ fun c : Fin 2 => bigSep Finset.univ fun i : Fin 16 => iLoc d ↦[iSet (at' (c, i))]{fullShare} f := by
  rw [← bigSep_univ_prod (fun p : Fin 2 × Fin 16 => (iLoc d ↦[iSet (at' p)]{fullShare} f : sProp 𝕄)),
    ← pointsTo_biUnion Finset.univ (ℓ := iLoc d) (fun p => iSet (at' p)) iSet_disjoint, iSet_cover]
omit [FloatOps F] in
/-- An array held whole is its tiles' parts held apart. -/
theorem oPts_tiles (d : Dev nD) (f : Buf (Elt F) (oLoc d)) :
    (oLoc d ↦{fullShare} f : sProp 𝕄) = bigSep Finset.univ fun c : Fin 2 => bigSep Finset.univ fun i : Fin 16 => oLoc d ↦[oSet (at' (c, i))]{fullShare} f := by
  rw [← bigSep_univ_prod (fun p : Fin 2 × Fin 16 => (oLoc d ↦[oSet (at' p)]{fullShare} f : sProp 𝕄)),
    ← pointsTo_biUnion Finset.univ (ℓ := oLoc d) (fun p => oSet (at' p)) oSet_disjoint, oSet_cover]

omit [FloatOps F] in
/-- An array held whole is its tiles' parts held apart. -/
theorem xPts_tiles (d : Dev nD) (f : Buf (Elt F) (xLoc d)) :
    (xLoc d ↦{fullShare} f : sProp 𝕄) ⊣⊢ iprop((xLoc d ↦{Transfers.shareDrop fullShare 32} f)
      ∗ bigSep Finset.univ fun c : Fin 2 => bigSep Finset.univ fun i : Fin 16 => xLoc d ↦{xq (c, i)} f) := by
  rw [← bigSep_univ_prod (fun p : Fin 2 × Fin 16 => (xLoc d ↦{xq p} f : sProp 𝕄)),
    ← bigSep_univ_equiv (finProdFinEquiv (m := 2) (n := 16)) (fun k : Fin 32 => (xLoc d ↦{Transfers.shareTok fullShare 32 k} f : sProp 𝕄))]
  exact Transfers.pointsTo_toks fullShare 32

/-- What a tile is handed of the three arrays, the table at `X`, the list at `I`, the result's rows at `f`. -/
def piece (d : Dev nD) (X : Buf (Elt F) (xLoc d)) (I : Buf (Elt F) (iLoc d)) (p : Fin 2 × Fin 16) (f : Buf (Elt F) (oLoc d)) : sProp 𝕄 :=
  iprop((iLoc d ↦[iSet (at' p)]{fullShare} I) ∗ (xLoc d ↦{xq p} X) ∗ (oLoc d ↦[oSet (at' p)]{fullShare} f))

instance piece_storable (d : Dev nD) (X : Buf (Elt F) (xLoc d)) (I : Buf (Elt F) (iLoc d)) (p : Fin 2 × Fin 16) (f : Buf (Elt F) (oLoc d)) : BI.Storable (upEmb : UEmb _ 𝕄) (piece d X I p f) := by
  unfold piece; infer_instance

/-- What the call leaves in the result's array. -/
def outOf (d : Dev nD) (X : Buf (Elt F) (xLoc d)) (I : Buf (Elt F) (iLoc d)) : Buf (Elt F) (oLoc d) := maxRows (F := F) X I

section Tile
variable (d : Dev nD) (L : grid2.Coords)

abbrev cell (d : Dev nD) (L : grid2.Coords) (s : DmaSems sig S_) : GSem nD τ sig := (V d (cV L) (jV L), .dma s.sem)

omit [FloatOps F] in
/-- The call's four semaphores are among the tile's own. -/
theorem ownSems0_V :
    (ownSems0 (V d (cV L) (jV L)) : sProp 𝕄)
      = iprop(semVal (cell d L cc6_scratch4) 0 ∗ semVal (cell d L cc6_scratch5) 0 ∗ semVal (cell d L cc6_scoped0) 0 ∗ semVal (cell d L cc6_scoped1) 0
          ∗ bigSep (((((ownCells (V d (cV L) (jV L))).erase (cell d L cc6_scratch4)).erase (cell d L cc6_scratch5)).erase (cell d L cc6_scoped0)).erase (cell d L cc6_scoped1))
              fun g => semVal g 0) := by
  have hm : ∀ s : DmaSems sig S_, (SemLoc.dma s.sem : SemLoc sig).isScoped .scVector = true → cell d L s ∈ ownCells (V d (cV L) (jV L)) :=
    fun s h => mem_ownCells.mpr ⟨rfl, h⟩
  have hne : ∀ s s' : DmaSems sig S_, (SemLoc.dma s.sem : SemLoc sig) ≠ .dma s'.sem → cell d L s ≠ cell d L s' :=
    fun s s' h e => h (Prod.mk.inj e).2
  unfold SparseCore.Cfg.ownSems0
  rw [SparseCore.bigSep_erase' (hm cc6_scratch4 (by decide)),
    SparseCore.bigSep_erase' (Finset.mem_erase.mpr ⟨hne cc6_scratch5 cc6_scratch4 (by decide), hm cc6_scratch5 (by decide)⟩),
    SparseCore.bigSep_erase' (Finset.mem_erase.mpr ⟨hne cc6_scoped0 cc6_scratch5 (by decide), Finset.mem_erase.mpr ⟨hne cc6_scoped0 cc6_scratch4 (by decide), hm cc6_scoped0 (by decide)⟩⟩),
    SparseCore.bigSep_erase' (Finset.mem_erase.mpr ⟨hne cc6_scoped1 cc6_scoped0 (by decide), Finset.mem_erase.mpr ⟨hne cc6_scoped1 cc6_scratch5 (by decide),
      Finset.mem_erase.mpr ⟨hne cc6_scoped1 cc6_scratch4 (by decide), hm cc6_scoped1 (by decide)⟩⟩⟩)]

/-- A buffer of the tile's vector memory, by its owner. -/
abbrev bufRef (L : grid2.Coords) (r : Ref sig .scVector) : DevRef τ sig := (Proc.scVector (cV L) (jV L)).devRef r

omit [FloatOps F] in
/-- The call's four scratch buffers are among the tile's own. -/
theorem ownBufs_V :
    (ownBufs (V d (cV L) (jV L)) : sProp 𝕄)
      = iprop((∃ f, (V d (cV L) (jV L)).loc cc6_scratch0 ↦{fullShare} f) ∗ (∃ f, (V d (cV L) (jV L)).loc cc6_scratch1 ↦{fullShare} f)
          ∗ (∃ f, (V d (cV L) (jV L)).loc cc6_scratch2 ↦{fullShare} f) ∗ (∃ f, (V d (cV L) (jV L)).loc cc6_scratch3 ↦{fullShare} f)
          ∗ bigSep (((((ownRefs (τ := τ) (.scVector (cV L) (jV L))).erase (bufRef L cc6_scratch0)).erase (bufRef L cc6_scratch1)).erase (bufRef L cc6_scratch2)).erase (bufRef L cc6_scratch3))
              fun b => iprop(∃ f, ((d, b) : Loc nD τ sig) ↦{fullShare} f)) := by
  have hne : ∀ r r' : Ref sig .scVector, r ≠ r' → bufRef L r ≠ bufRef L r' := fun r r' h e => h (Proc.devRef_injective _ e)
  have h0 : bufRef L cc6_scratch0 ∈ ownRefs (τ := τ) (.scVector (cV L) (jV L)) := SparseCore.Cfg.mem_ownRefs_of_owner rfl
  have h1 : bufRef L cc6_scratch1 ∈ ownRefs (τ := τ) (.scVector (cV L) (jV L)) := SparseCore.Cfg.mem_ownRefs_of_owner rfl
  have h2 : bufRef L cc6_scratch2 ∈ ownRefs (τ := τ) (.scVector (cV L) (jV L)) := SparseCore.Cfg.mem_ownRefs_of_owner rfl
  have h3 : bufRef L cc6_scratch3 ∈ ownRefs (τ := τ) (.scVector (cV L) (jV L)) := SparseCore.Cfg.mem_ownRefs_of_owner rfl
  unfold SparseCore.Cfg.ownBufs
  rw [SparseCore.bigSep_erase' h0,
    SparseCore.bigSep_erase' (Finset.mem_erase.mpr ⟨hne cc6_scratch1 cc6_scratch0 (by decide), h1⟩),
    SparseCore.bigSep_erase' (Finset.mem_erase.mpr ⟨hne cc6_scratch2 cc6_scratch1 (by decide), Finset.mem_erase.mpr ⟨hne cc6_scratch2 cc6_scratch0 (by decide), h2⟩⟩),
    SparseCore.bigSep_erase' (Finset.mem_erase.mpr ⟨hne cc6_scratch3 cc6_scratch2 (by decide), Finset.mem_erase.mpr ⟨hne cc6_scratch3 cc6_scratch1 (by decide),
      Finset.mem_erase.mpr ⟨hne cc6_scratch3 cc6_scratch0 (by decide), h3⟩⟩⟩)]

set_option maxHeartbeats 4000000 in
/-- The task of tile `p`, from what the call hands it: the tile's rows of the result end filled. -/
theorem tile_body (p : Fin 2 × Fin 16) (X : Buf (Elt F) (xLoc d)) (I : Buf (Elt F) (iLoc d)) (fo : Buf (Elt F) (oLoc d)) (hF : (K (F := F)).Facts) (hpre : ∀ j, (I j).toNat < 8192) (O : CellTallies nD τ sig (HIx 4)) (W : Waits sig (HIx 4)) (hO : ∀ g, O g none = 0) :
    iprop(levAts (K (F := F)).L (K (F := F)).lev ∗ emp ∗ piece d X I p fo
        ∗ scopedBufs (V d (cV (at' p)) (jV (at' p))) ∗ scopedSems0 (V d (cV (at' p)) (jV (at' p))) ∗ owes (V d (cV (at' p)) (jV (at' p))) O W)
      ⊢ wp frame (wpE (defs₀ (F := F)) 𝒱₀ (V d (cV (at' p)) (jV (at' p))) none) Set.univ
          (cc6_kb (at' p) xV (Memref.isWhole_whole _) iV (Memref.isWhole_whole _) oV (Memref.isWhole_whole _)
            b0 (Memref.isWhole_whole _) b1 (Memref.isWhole_whole _) b2 (Memref.isWhole_whole _) b3 (Memref.isWhole_whole _)
            cc6_scratch4 cc6_scratch5 cc6_scoped0 cc6_scoped1)
          fun _ => iprop(piece d X I p (outOf d X I)
            ∗ scopedBufs (V d (cV (at' p)) (jV (at' p))) ∗ scopedSems0 (V d (cV (at' p)) (jV (at' p)))
            ∗ ∃ W', ⌜∀ p ∈ W', p ∈ W ∨ p.2 = none⌝ ∗ owes (V d (cV (at' p)) (jV (at' p))) O W') := by
  rw [show cc6_kb (F := F) = cc2_kb_skel (F := F) from kb6_eq.trans cc2_kb_eq_skeleton]
  rw [(K (F := F)).scopedBufs_V hF d (cV (at' p)) (jV (at' p)), SparseCore.Cfg.scopedSems0_V (Val := Elt F) d (cV (at' p)) (jV (at' p)), ownSems0_V, ownBufs_V]
  unfold piece
  have hiw : (listWin (at' p) iV).view.set = iSet (at' p) := by
    show ((View.whole (main_v26_scv : Ref sig .scVector)).slice _).set = _
    rw [View.set_slice]; exact Finset.map_refl
  have how : (outWin (at' p) oV).view.set = oSet (at' p) := by
    show ((View.whole (main_v27_scv : Ref sig .scVector)).slice _).set = _
    rw [View.set_slice]; exact Finset.map_refl
  have hx : (xV).view.set = Finset.univ := View.set_whole _
  have e0 : (b0).view.set = Finset.univ := View.set_whole _
  have e1 : (b1).view.set = Finset.univ := View.set_whole _
  have e2 : (b2).view.set = Finset.univ := View.set_whole _
  have e3 : (b3).view.set = Finset.univ := View.set_whole _
  have hI : ∀ z, ((listWin (at' p) iV).view.read (Elt F) I z).toNat < 8192 := fun z => hpre _
  iintro ⟨#Hlv, -, ⟨Hi, Hx, Ho⟩, ⟨⟨%f5, H5⟩, ⟨%f6, H6⟩, ⟨%f7, H7⟩, ⟨%f8, H8⟩, Hbufs⟩, ⟨Hs9, Hs10, Hr0, Hr1, Hsems⟩, HO⟩
  ihave Hmw := (show levAts (K (F := F)).L (K (F := F)).lev ⊢ Transfers.MayWaits (V d (cV (at' p)) (jV (at' p))) (none : HIx 4) O from
    (K (F := F)).mayWaits_none (thr := V d (cV (at' p)) (jV (at' p))) hO) $$ Hlv
  iapply (wp_wand_r frame (wpE (defs₀ (F := F)) 𝒱₀ (V d (cV (at' p)) (jV (at' p))) none))
  isplitl [Hmw Hi Hx Ho H5 H6 H7 H8 Hs9 Hs10 Hr0 Hr1 HO]
  · iapply (body d (at' p) xV (Memref.isWhole_whole _) iV (Memref.isWhole_whole _) oV (Memref.isWhole_whole _)
            b0 (Memref.isWhole_whole _) b1 (Memref.isWhole_whole _) b2 (Memref.isWhole_whole _) b3 (Memref.isWhole_whole _)
            cc6_scratch4 cc6_scratch5 cc6_scoped0 cc6_scoped1 X I fo (xq p) O W hI)
    unfold scratch bufAny
    rw [hiw, how, hx, e0, e1, e2, e3]
    isplitl [Hmw]; · iexact Hmw
    isplitl [Hi]; · iexact Hi
    isplitl [Hx]; · iexact Hx
    isplitl [Ho]; · iexact Ho
    isplitr [HO]
    · isplitl [H5]; · iexists f5; iexact H5
      isplitl [H6]; · iexists f6; iexact H6
      isplitl [H7]; · iexists f7; iexact H7
      isplitl [H8]; · iexists f8; iexact H8
      isplitl [Hs9]; · iexact Hs9
      isplitl [Hs10]; · iexact Hs10
      isplitl [Hr0]; · iexact Hr0
      iexact Hr1
    iexact HO
  unfold scratch bufAny owing
  rw [hiw, how, hx, e0, e1, e2, e3]
  iintro %_ ⟨Hi, Hx, ⟨%g, %hg, Ho⟩, ⟨⟨%f5', H5⟩, ⟨%f6', H6⟩, ⟨%f7', H7⟩, ⟨%f8', H8⟩, Hs9, Hs10, Hr0, Hr1⟩, HO⟩
  have hout : ∀ y ∈ oSet (at' p), g y = outOf d X I y := by
    intro y hy
    rw [← how] at hy
    obtain ⟨z, -, rfl⟩ := Finset.mem_map.1 hy
    refine ((View.read_apply _ _).trans (cast_eq _ _)).symm.trans ((hg z).trans (tileMax_eq p _ _ z))
  isplitl [Hi Hx Ho]
  · isplitl [Hi]; · iexact Hi
    isplitl [Hx]; · iexact Hx
    iapply (Entails.of_eq (pointsTo_congr hout)); iexact Ho
  isplitl [H5 H6 H7 H8 Hbufs]
  · isplitl [H5]; · iexists _; iexact H5
    isplitl [H6]; · iexists _; iexact H6
    isplitl [H7]; · iexists _; iexact H7
    isplitl [H8]; · iexists _; iexact H8
    iexact Hbufs
  isplitr [HO]
  · isplitl [Hs9]; · iexact Hs9
    isplitl [Hs10]; · iexact Hs10
    isplitl [Hr0]; · iexact Hr0
    isplitl [Hr1]; · iexact Hr1
    iexact Hsems
  iexact HO

/-- The call's body on a vector subcore is the tile's program. -/
theorem defs₀_vector (c : Fin τ.nSC) (s : Fin τ.nSub) :
    defs₀ (F := F) (.scVector c s) 6 ()
      = SparseCore.onTile hcore6 hsub6 (fun c s => cc6_kb (coordsV c s)
          xV (Memref.isWhole_whole _) iV (Memref.isWhole_whole _) oV (Memref.isWhole_whole _)
            b0 (Memref.isWhole_whole _) b1 (Memref.isWhole_whole _) b2 (Memref.isWhole_whole _) b3 (Memref.isWhole_whole _)
            cc6_scratch4 cc6_scratch5 cc6_scoped0 cc6_scoped1) ⟨⟩ c s := rfl

end Tile

/-- The tiles' pieces are the list and the result whole, and the tiles' shares of the table. -/
theorem pieces_eq (d : Dev nD) (X : Buf (Elt F) (xLoc d)) (I : Buf (Elt F) (iLoc d)) (f : Buf (Elt F) (oLoc d)) :
    (bigSep Finset.univ fun c : Fin 2 => bigSep Finset.univ fun i : Fin 16 => piece d X I (c, i) f)
      = iprop((iLoc d ↦{fullShare} I) ∗ (bigSep Finset.univ fun c : Fin 2 => bigSep Finset.univ fun i : Fin 16 => xLoc d ↦{xq (c, i)} X)
          ∗ oLoc d ↦{fullShare} f) := by
  unfold piece
  rw [iPts_tiles, oPts_tiles, ← bigSep_sep', ← bigSep_sep']
  refine bigSep_congr fun c _ => ?_
  rw [bigSep_sep', bigSep_sep']

end Cert.Proof.Run.Call6

end
-- ==== Proof.Call8.lean ====
module

public import proofs.«01_k».proof.Proof.Share
public import proofs.«01_k».proof.Proof.Eq

@[expose] public section

noncomputable section

namespace Cert.Proof.Run.Call8

open Cert.KernelIdeal Cert.KernelIdeal.Gen Cert.Proof.Tile Cert.Proof.Reg Cert.Proof.Run
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

abbrev xLoc (d : Dev nD) : Loc nD τ sig := (SparseCore.T d).loc main_v8
abbrev iLoc (d : Dev nD) : Loc nD τ sig := (SparseCore.T d).loc main_v33
abbrev oLoc (d : Dev nD) : Loc nD τ sig := (SparseCore.T d).loc main_v34

local notation "xV" => (Memref.whole Cert.KernelIdeal.main_v8_scv : Memref Cert.KernelIdeal.sig Kind.scVector Space.hbm Cert.KernelIdeal.S8192x128 EltTy.f32)
local notation "iV" => (Memref.whole Cert.KernelIdeal.main_v33_scv : Memref Cert.KernelIdeal.sig Kind.scVector Space.hbm Cert.KernelIdeal.S512x128 EltTy.i32)
local notation "oV" => (Memref.whole Cert.KernelIdeal.main_v34_scv : Memref Cert.KernelIdeal.sig Kind.scVector Space.hbm Cert.KernelIdeal.S2048x128 EltTy.f32)
local notation "b0" => (Memref.whole Cert.KernelIdeal.cc8_scratch0 : Memref Cert.KernelIdeal.sig Kind.scVector Space.vmem Cert.KernelIdeal.S16x128 EltTy.i32)
local notation "b1" => (Memref.whole Cert.KernelIdeal.cc8_scratch1 : Memref Cert.KernelIdeal.sig Kind.scVector Space.vmem Cert.KernelIdeal.S128x128 EltTy.f32)
local notation "b2" => (Memref.whole Cert.KernelIdeal.cc8_scratch2 : Memref Cert.KernelIdeal.sig Kind.scVector Space.vmem Cert.KernelIdeal.S128x128 EltTy.f32)
local notation "b3" => (Memref.whole Cert.KernelIdeal.cc8_scratch3 : Memref Cert.KernelIdeal.sig Kind.scVector Space.vmem Cert.KernelIdeal.S64x128 EltTy.f32)

omit [FloatOps F] in
/-- An array held whole is its tiles' parts held apart. -/
theorem iPts_tiles (d : Dev nD) (f : Buf (Elt F) (iLoc d)) :
    (iLoc d ↦{fullShare} f : sProp 𝕄) = bigSep Finset.univ fun c : Fin 2 => bigSep Finset.univ fun i : Fin 16 => iLoc d ↦[iSet (at' (c, i))]{fullShare} f := by
  rw [← bigSep_univ_prod (fun p : Fin 2 × Fin 16 => (iLoc d ↦[iSet (at' p)]{fullShare} f : sProp 𝕄)),
    ← pointsTo_biUnion Finset.univ (ℓ := iLoc d) (fun p => iSet (at' p)) iSet_disjoint, iSet_cover]
omit [FloatOps F] in
/-- An array held whole is its tiles' parts held apart. -/
theorem oPts_tiles (d : Dev nD) (f : Buf (Elt F) (oLoc d)) :
    (oLoc d ↦{fullShare} f : sProp 𝕄) = bigSep Finset.univ fun c : Fin 2 => bigSep Finset.univ fun i : Fin 16 => oLoc d ↦[oSet (at' (c, i))]{fullShare} f := by
  rw [← bigSep_univ_prod (fun p : Fin 2 × Fin 16 => (oLoc d ↦[oSet (at' p)]{fullShare} f : sProp 𝕄)),
    ← pointsTo_biUnion Finset.univ (ℓ := oLoc d) (fun p => oSet (at' p)) oSet_disjoint, oSet_cover]

omit [FloatOps F] in
/-- An array held whole is its tiles' parts held apart. -/
theorem xPts_tiles (d : Dev nD) (f : Buf (Elt F) (xLoc d)) :
    (xLoc d ↦{fullShare} f : sProp 𝕄) ⊣⊢ iprop((xLoc d ↦{Transfers.shareDrop fullShare 32} f)
      ∗ bigSep Finset.univ fun c : Fin 2 => bigSep Finset.univ fun i : Fin 16 => xLoc d ↦{xq (c, i)} f) := by
  rw [← bigSep_univ_prod (fun p : Fin 2 × Fin 16 => (xLoc d ↦{xq p} f : sProp 𝕄)),
    ← bigSep_univ_equiv (finProdFinEquiv (m := 2) (n := 16)) (fun k : Fin 32 => (xLoc d ↦{Transfers.shareTok fullShare 32 k} f : sProp 𝕄))]
  exact Transfers.pointsTo_toks fullShare 32

/-- What a tile is handed of the three arrays, the table at `X`, the list at `I`, the result's rows at `f`. -/
def piece (d : Dev nD) (X : Buf (Elt F) (xLoc d)) (I : Buf (Elt F) (iLoc d)) (p : Fin 2 × Fin 16) (f : Buf (Elt F) (oLoc d)) : sProp 𝕄 :=
  iprop((iLoc d ↦[iSet (at' p)]{fullShare} I) ∗ (xLoc d ↦{xq p} X) ∗ (oLoc d ↦[oSet (at' p)]{fullShare} f))

instance piece_storable (d : Dev nD) (X : Buf (Elt F) (xLoc d)) (I : Buf (Elt F) (iLoc d)) (p : Fin 2 × Fin 16) (f : Buf (Elt F) (oLoc d)) : BI.Storable (upEmb : UEmb _ 𝕄) (piece d X I p f) := by
  unfold piece; infer_instance

/-- What the call leaves in the result's array. -/
def outOf (d : Dev nD) (X : Buf (Elt F) (xLoc d)) (I : Buf (Elt F) (iLoc d)) : Buf (Elt F) (oLoc d) := maxRows (F := F) X I

section Tile
variable (d : Dev nD) (L : grid2.Coords)

abbrev cell (d : Dev nD) (L : grid2.Coords) (s : DmaSems sig S_) : GSem nD τ sig := (V d (cV L) (jV L), .dma s.sem)

omit [FloatOps F] in
/-- The call's four semaphores are among the tile's own. -/
theorem ownSems0_V :
    (ownSems0 (V d (cV L) (jV L)) : sProp 𝕄)
      = iprop(semVal (cell d L cc8_scratch4) 0 ∗ semVal (cell d L cc8_scratch5) 0 ∗ semVal (cell d L cc8_scoped0) 0 ∗ semVal (cell d L cc8_scoped1) 0
          ∗ bigSep (((((ownCells (V d (cV L) (jV L))).erase (cell d L cc8_scratch4)).erase (cell d L cc8_scratch5)).erase (cell d L cc8_scoped0)).erase (cell d L cc8_scoped1))
              fun g => semVal g 0) := by
  have hm : ∀ s : DmaSems sig S_, (SemLoc.dma s.sem : SemLoc sig).isScoped .scVector = true → cell d L s ∈ ownCells (V d (cV L) (jV L)) :=
    fun s h => mem_ownCells.mpr ⟨rfl, h⟩
  have hne : ∀ s s' : DmaSems sig S_, (SemLoc.dma s.sem : SemLoc sig) ≠ .dma s'.sem → cell d L s ≠ cell d L s' :=
    fun s s' h e => h (Prod.mk.inj e).2
  unfold SparseCore.Cfg.ownSems0
  rw [SparseCore.bigSep_erase' (hm cc8_scratch4 (by decide)),
    SparseCore.bigSep_erase' (Finset.mem_erase.mpr ⟨hne cc8_scratch5 cc8_scratch4 (by decide), hm cc8_scratch5 (by decide)⟩),
    SparseCore.bigSep_erase' (Finset.mem_erase.mpr ⟨hne cc8_scoped0 cc8_scratch5 (by decide), Finset.mem_erase.mpr ⟨hne cc8_scoped0 cc8_scratch4 (by decide), hm cc8_scoped0 (by decide)⟩⟩),
    SparseCore.bigSep_erase' (Finset.mem_erase.mpr ⟨hne cc8_scoped1 cc8_scoped0 (by decide), Finset.mem_erase.mpr ⟨hne cc8_scoped1 cc8_scratch5 (by decide),
      Finset.mem_erase.mpr ⟨hne cc8_scoped1 cc8_scratch4 (by decide), hm cc8_scoped1 (by decide)⟩⟩⟩)]

/-- A buffer of the tile's vector memory, by its owner. -/
abbrev bufRef (L : grid2.Coords) (r : Ref sig .scVector) : DevRef τ sig := (Proc.scVector (cV L) (jV L)).devRef r

omit [FloatOps F] in
/-- The call's four scratch buffers are among the tile's own. -/
theorem ownBufs_V :
    (ownBufs (V d (cV L) (jV L)) : sProp 𝕄)
      = iprop((∃ f, (V d (cV L) (jV L)).loc cc8_scratch0 ↦{fullShare} f) ∗ (∃ f, (V d (cV L) (jV L)).loc cc8_scratch1 ↦{fullShare} f)
          ∗ (∃ f, (V d (cV L) (jV L)).loc cc8_scratch2 ↦{fullShare} f) ∗ (∃ f, (V d (cV L) (jV L)).loc cc8_scratch3 ↦{fullShare} f)
          ∗ bigSep (((((ownRefs (τ := τ) (.scVector (cV L) (jV L))).erase (bufRef L cc8_scratch0)).erase (bufRef L cc8_scratch1)).erase (bufRef L cc8_scratch2)).erase (bufRef L cc8_scratch3))
              fun b => iprop(∃ f, ((d, b) : Loc nD τ sig) ↦{fullShare} f)) := by
  have hne : ∀ r r' : Ref sig .scVector, r ≠ r' → bufRef L r ≠ bufRef L r' := fun r r' h e => h (Proc.devRef_injective _ e)
  have h0 : bufRef L cc8_scratch0 ∈ ownRefs (τ := τ) (.scVector (cV L) (jV L)) := SparseCore.Cfg.mem_ownRefs_of_owner rfl
  have h1 : bufRef L cc8_scratch1 ∈ ownRefs (τ := τ) (.scVector (cV L) (jV L)) := SparseCore.Cfg.mem_ownRefs_of_owner rfl
  have h2 : bufRef L cc8_scratch2 ∈ ownRefs (τ := τ) (.scVector (cV L) (jV L)) := SparseCore.Cfg.mem_ownRefs_of_owner rfl
  have h3 : bufRef L cc8_scratch3 ∈ ownRefs (τ := τ) (.scVector (cV L) (jV L)) := SparseCore.Cfg.mem_ownRefs_of_owner rfl
  unfold SparseCore.Cfg.ownBufs
  rw [SparseCore.bigSep_erase' h0,
    SparseCore.bigSep_erase' (Finset.mem_erase.mpr ⟨hne cc8_scratch1 cc8_scratch0 (by decide), h1⟩),
    SparseCore.bigSep_erase' (Finset.mem_erase.mpr ⟨hne cc8_scratch2 cc8_scratch1 (by decide), Finset.mem_erase.mpr ⟨hne cc8_scratch2 cc8_scratch0 (by decide), h2⟩⟩),
    SparseCore.bigSep_erase' (Finset.mem_erase.mpr ⟨hne cc8_scratch3 cc8_scratch2 (by decide), Finset.mem_erase.mpr ⟨hne cc8_scratch3 cc8_scratch1 (by decide),
      Finset.mem_erase.mpr ⟨hne cc8_scratch3 cc8_scratch0 (by decide), h3⟩⟩⟩)]

set_option maxHeartbeats 4000000 in
/-- The task of tile `p`, from what the call hands it: the tile's rows of the result end filled. -/
theorem tile_body (p : Fin 2 × Fin 16) (X : Buf (Elt F) (xLoc d)) (I : Buf (Elt F) (iLoc d)) (fo : Buf (Elt F) (oLoc d)) (hF : (K (F := F)).Facts) (hpre : ∀ j, (I j).toNat < 8192) (O : CellTallies nD τ sig (HIx 4)) (W : Waits sig (HIx 4)) (hO : ∀ g, O g none = 0) :
    iprop(levAts (K (F := F)).L (K (F := F)).lev ∗ emp ∗ piece d X I p fo
        ∗ scopedBufs (V d (cV (at' p)) (jV (at' p))) ∗ scopedSems0 (V d (cV (at' p)) (jV (at' p))) ∗ owes (V d (cV (at' p)) (jV (at' p))) O W)
      ⊢ wp frame (wpE (defs₀ (F := F)) 𝒱₀ (V d (cV (at' p)) (jV (at' p))) none) Set.univ
          (cc8_kb (at' p) xV (Memref.isWhole_whole _) iV (Memref.isWhole_whole _) oV (Memref.isWhole_whole _)
            b0 (Memref.isWhole_whole _) b1 (Memref.isWhole_whole _) b2 (Memref.isWhole_whole _) b3 (Memref.isWhole_whole _)
            cc8_scratch4 cc8_scratch5 cc8_scoped0 cc8_scoped1)
          fun _ => iprop(piece d X I p (outOf d X I)
            ∗ scopedBufs (V d (cV (at' p)) (jV (at' p))) ∗ scopedSems0 (V d (cV (at' p)) (jV (at' p)))
            ∗ ∃ W', ⌜∀ p ∈ W', p ∈ W ∨ p.2 = none⌝ ∗ owes (V d (cV (at' p)) (jV (at' p))) O W') := by
  rw [show cc8_kb (F := F) = cc2_kb_skel (F := F) from kb8_eq.trans cc2_kb_eq_skeleton]
  rw [(K (F := F)).scopedBufs_V hF d (cV (at' p)) (jV (at' p)), SparseCore.Cfg.scopedSems0_V (Val := Elt F) d (cV (at' p)) (jV (at' p)), ownSems0_V, ownBufs_V]
  unfold piece
  have hiw : (listWin (at' p) iV).view.set = iSet (at' p) := by
    show ((View.whole (main_v33_scv : Ref sig .scVector)).slice _).set = _
    rw [View.set_slice]; exact Finset.map_refl
  have how : (outWin (at' p) oV).view.set = oSet (at' p) := by
    show ((View.whole (main_v34_scv : Ref sig .scVector)).slice _).set = _
    rw [View.set_slice]; exact Finset.map_refl
  have hx : (xV).view.set = Finset.univ := View.set_whole _
  have e0 : (b0).view.set = Finset.univ := View.set_whole _
  have e1 : (b1).view.set = Finset.univ := View.set_whole _
  have e2 : (b2).view.set = Finset.univ := View.set_whole _
  have e3 : (b3).view.set = Finset.univ := View.set_whole _
  have hI : ∀ z, ((listWin (at' p) iV).view.read (Elt F) I z).toNat < 8192 := fun z => hpre _
  iintro ⟨#Hlv, -, ⟨Hi, Hx, Ho⟩, ⟨⟨%f5, H5⟩, ⟨%f6, H6⟩, ⟨%f7, H7⟩, ⟨%f8, H8⟩, Hbufs⟩, ⟨Hs9, Hs10, Hr0, Hr1, Hsems⟩, HO⟩
  ihave Hmw := (show levAts (K (F := F)).L (K (F := F)).lev ⊢ Transfers.MayWaits (V d (cV (at' p)) (jV (at' p))) (none : HIx 4) O from
    (K (F := F)).mayWaits_none (thr := V d (cV (at' p)) (jV (at' p))) hO) $$ Hlv
  iapply (wp_wand_r frame (wpE (defs₀ (F := F)) 𝒱₀ (V d (cV (at' p)) (jV (at' p))) none))
  isplitl [Hmw Hi Hx Ho H5 H6 H7 H8 Hs9 Hs10 Hr0 Hr1 HO]
  · iapply (body d (at' p) xV (Memref.isWhole_whole _) iV (Memref.isWhole_whole _) oV (Memref.isWhole_whole _)
            b0 (Memref.isWhole_whole _) b1 (Memref.isWhole_whole _) b2 (Memref.isWhole_whole _) b3 (Memref.isWhole_whole _)
            cc8_scratch4 cc8_scratch5 cc8_scoped0 cc8_scoped1 X I fo (xq p) O W hI)
    unfold scratch bufAny
    rw [hiw, how, hx, e0, e1, e2, e3]
    isplitl [Hmw]; · iexact Hmw
    isplitl [Hi]; · iexact Hi
    isplitl [Hx]; · iexact Hx
    isplitl [Ho]; · iexact Ho
    isplitr [HO]
    · isplitl [H5]; · iexists f5; iexact H5
      isplitl [H6]; · iexists f6; iexact H6
      isplitl [H7]; · iexists f7; iexact H7
      isplitl [H8]; · iexists f8; iexact H8
      isplitl [Hs9]; · iexact Hs9
      isplitl [Hs10]; · iexact Hs10
      isplitl [Hr0]; · iexact Hr0
      iexact Hr1
    iexact HO
  unfold scratch bufAny owing
  rw [hiw, how, hx, e0, e1, e2, e3]
  iintro %_ ⟨Hi, Hx, ⟨%g, %hg, Ho⟩, ⟨⟨%f5', H5⟩, ⟨%f6', H6⟩, ⟨%f7', H7⟩, ⟨%f8', H8⟩, Hs9, Hs10, Hr0, Hr1⟩, HO⟩
  have hout : ∀ y ∈ oSet (at' p), g y = outOf d X I y := by
    intro y hy
    rw [← how] at hy
    obtain ⟨z, -, rfl⟩ := Finset.mem_map.1 hy
    refine ((View.read_apply _ _).trans (cast_eq _ _)).symm.trans ((hg z).trans (tileMax_eq p _ _ z))
  isplitl [Hi Hx Ho]
  · isplitl [Hi]; · iexact Hi
    isplitl [Hx]; · iexact Hx
    iapply (Entails.of_eq (pointsTo_congr hout)); iexact Ho
  isplitl [H5 H6 H7 H8 Hbufs]
  · isplitl [H5]; · iexists _; iexact H5
    isplitl [H6]; · iexists _; iexact H6
    isplitl [H7]; · iexists _; iexact H7
    isplitl [H8]; · iexists _; iexact H8
    iexact Hbufs
  isplitr [HO]
  · isplitl [Hs9]; · iexact Hs9
    isplitl [Hs10]; · iexact Hs10
    isplitl [Hr0]; · iexact Hr0
    isplitl [Hr1]; · iexact Hr1
    iexact Hsems
  iexact HO

/-- The call's body on a vector subcore is the tile's program. -/
theorem defs₀_vector (c : Fin τ.nSC) (s : Fin τ.nSub) :
    defs₀ (F := F) (.scVector c s) 8 ()
      = SparseCore.onTile hcore8 hsub8 (fun c s => cc8_kb (coordsV c s)
          xV (Memref.isWhole_whole _) iV (Memref.isWhole_whole _) oV (Memref.isWhole_whole _)
            b0 (Memref.isWhole_whole _) b1 (Memref.isWhole_whole _) b2 (Memref.isWhole_whole _) b3 (Memref.isWhole_whole _)
            cc8_scratch4 cc8_scratch5 cc8_scoped0 cc8_scoped1) ⟨⟩ c s := rfl

end Tile

/-- The tiles' pieces are the list and the result whole, and the tiles' shares of the table. -/
theorem pieces_eq (d : Dev nD) (X : Buf (Elt F) (xLoc d)) (I : Buf (Elt F) (iLoc d)) (f : Buf (Elt F) (oLoc d)) :
    (bigSep Finset.univ fun c : Fin 2 => bigSep Finset.univ fun i : Fin 16 => piece d X I (c, i) f)
      = iprop((iLoc d ↦{fullShare} I) ∗ (bigSep Finset.univ fun c : Fin 2 => bigSep Finset.univ fun i : Fin 16 => xLoc d ↦{xq (c, i)} X)
          ∗ oLoc d ↦{fullShare} f) := by
  unfold piece
  rw [iPts_tiles, oPts_tiles, ← bigSep_sep', ← bigSep_sep']
  refine bigSep_congr fun c _ => ?_
  rw [bigSep_sep', bigSep_sep']

end Cert.Proof.Run.Call8

end
-- ==== Proof.Calls.lean ====
module

public import proofs.«01_k».proof.Proof.Call2
public import proofs.«01_k».proof.Proof.Call4
public import proofs.«01_k».proof.Proof.Call6
public import proofs.«01_k».proof.Proof.Call8

@[expose] public section

noncomputable section

namespace Cert.Proof.Run

open Cert.KernelIdeal Cert.KernelIdeal.Gen Cert.Proof.Tile Cert.Proof.Reg
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

/-- A device's buffer, as its TensorCore names it. -/
abbrev at_ (r : Ref sig .tc) : DevRef τ sig := Proc.devRef .tc r

/-- The arrays' contents at the four dispatches, on each device. -/
abbrev Contents4 (F : FTy → Type) := Dev nD → Fin 4 → Valuation τ sig (Elt F)

variable (VV : Contents4 F)

/-- Dispatch `q` takes its tiles' pieces and brings them back, the result's rows filled. -/
def P : (K (F := F)).Pay (nD := nD) (Val := Elt F) (Name := ℕ) (U := UU) where
  st := fun q d c => match q with
    | 0 => bigSep Finset.univ fun i : Fin 16 => Call2.piece d (VV d 0 (at_ main_v8)) (VV d 0 (at_ main_v12)) (Fin.cast (nCore_eq 0) c, i) (VV d 0 (at_ main_v13))
    | 1 => bigSep Finset.univ fun i : Fin 16 => Call4.piece d (VV d 1 (at_ main_v8)) (VV d 1 (at_ main_v19)) (Fin.cast (nCore_eq 1) c, i) (VV d 1 (at_ main_v20))
    | 2 => bigSep Finset.univ fun i : Fin 16 => Call6.piece d (VV d 2 (at_ main_v8)) (VV d 2 (at_ main_v26)) (Fin.cast (nCore_eq 2) c, i) (VV d 2 (at_ main_v27))
    | 3 => bigSep Finset.univ fun i : Fin 16 => Call8.piece d (VV d 3 (at_ main_v8)) (VV d 3 (at_ main_v33)) (Fin.cast (nCore_eq 3) c, i) (VV d 3 (at_ main_v34))
  dn := fun q d c => match q with
    | 0 => bigSep Finset.univ fun i : Fin 16 => Call2.piece d (VV d 0 (at_ main_v8)) (VV d 0 (at_ main_v12)) (Fin.cast (nCore_eq 0) c, i) (Call2.outOf d (VV d 0 (at_ main_v8)) (VV d 0 (at_ main_v12)))
    | 1 => bigSep Finset.univ fun i : Fin 16 => Call4.piece d (VV d 1 (at_ main_v8)) (VV d 1 (at_ main_v19)) (Fin.cast (nCore_eq 1) c, i) (Call4.outOf d (VV d 1 (at_ main_v8)) (VV d 1 (at_ main_v19)))
    | 2 => bigSep Finset.univ fun i : Fin 16 => Call6.piece d (VV d 2 (at_ main_v8)) (VV d 2 (at_ main_v26)) (Fin.cast (nCore_eq 2) c, i) (Call6.outOf d (VV d 2 (at_ main_v8)) (VV d 2 (at_ main_v26)))
    | 3 => bigSep Finset.univ fun i : Fin 16 => Call8.piece d (VV d 3 (at_ main_v8)) (VV d 3 (at_ main_v33)) (Fin.cast (nCore_eq 3) c, i) (Call8.outOf d (VV d 3 (at_ main_v8)) (VV d 3 (at_ main_v33)))
  go := fun q d c i => match q with
    | 0 => Call2.piece d (VV d 0 (at_ main_v8)) (VV d 0 (at_ main_v12)) (Fin.cast (nCore_eq 0) c, Fin.cast (nSub_eq 0) i) (VV d 0 (at_ main_v13))
    | 1 => Call4.piece d (VV d 1 (at_ main_v8)) (VV d 1 (at_ main_v19)) (Fin.cast (nCore_eq 1) c, Fin.cast (nSub_eq 1) i) (VV d 1 (at_ main_v20))
    | 2 => Call6.piece d (VV d 2 (at_ main_v8)) (VV d 2 (at_ main_v26)) (Fin.cast (nCore_eq 2) c, Fin.cast (nSub_eq 2) i) (VV d 2 (at_ main_v27))
    | 3 => Call8.piece d (VV d 3 (at_ main_v8)) (VV d 3 (at_ main_v33)) (Fin.cast (nCore_eq 3) c, Fin.cast (nSub_eq 3) i) (VV d 3 (at_ main_v34))
  td := fun q d c i => match q with
    | 0 => Call2.piece d (VV d 0 (at_ main_v8)) (VV d 0 (at_ main_v12)) (Fin.cast (nCore_eq 0) c, Fin.cast (nSub_eq 0) i) (Call2.outOf d (VV d 0 (at_ main_v8)) (VV d 0 (at_ main_v12)))
    | 1 => Call4.piece d (VV d 1 (at_ main_v8)) (VV d 1 (at_ main_v19)) (Fin.cast (nCore_eq 1) c, Fin.cast (nSub_eq 1) i) (Call4.outOf d (VV d 1 (at_ main_v8)) (VV d 1 (at_ main_v19)))
    | 2 => Call6.piece d (VV d 2 (at_ main_v8)) (VV d 2 (at_ main_v26)) (Fin.cast (nCore_eq 2) c, Fin.cast (nSub_eq 2) i) (Call6.outOf d (VV d 2 (at_ main_v8)) (VV d 2 (at_ main_v26)))
    | 3 => Call8.piece d (VV d 3 (at_ main_v8)) (VV d 3 (at_ main_v33)) (Fin.cast (nCore_eq 3) c, Fin.cast (nSub_eq 3) i) (Call8.outOf d (VV d 3 (at_ main_v8)) (VV d 3 (at_ main_v33)))
  x := fun _ _ => iprop(emp)

instance P_storable : (P VV).IsStorable where
  st q d c := match q with
    | 0 => (inferInstance : BI.Storable (upEmb : UEmb _ 𝕄) (bigSep Finset.univ fun i : Fin 16 => Call2.piece d (VV d 0 (at_ main_v8)) (VV d 0 (at_ main_v12)) (Fin.cast (nCore_eq 0) c, i) (VV d 0 (at_ main_v13))))
    | 1 => (inferInstance : BI.Storable (upEmb : UEmb _ 𝕄) (bigSep Finset.univ fun i : Fin 16 => Call4.piece d (VV d 1 (at_ main_v8)) (VV d 1 (at_ main_v19)) (Fin.cast (nCore_eq 1) c, i) (VV d 1 (at_ main_v20))))
    | 2 => (inferInstance : BI.Storable (upEmb : UEmb _ 𝕄) (bigSep Finset.univ fun i : Fin 16 => Call6.piece d (VV d 2 (at_ main_v8)) (VV d 2 (at_ main_v26)) (Fin.cast (nCore_eq 2) c, i) (VV d 2 (at_ main_v27))))
    | 3 => (inferInstance : BI.Storable (upEmb : UEmb _ 𝕄) (bigSep Finset.univ fun i : Fin 16 => Call8.piece d (VV d 3 (at_ main_v8)) (VV d 3 (at_ main_v33)) (Fin.cast (nCore_eq 3) c, i) (VV d 3 (at_ main_v34))))
  dn q d c := match q with
    | 0 => (inferInstance : BI.Storable (upEmb : UEmb _ 𝕄) (bigSep Finset.univ fun i : Fin 16 => Call2.piece d (VV d 0 (at_ main_v8)) (VV d 0 (at_ main_v12)) (Fin.cast (nCore_eq 0) c, i) (Call2.outOf d (VV d 0 (at_ main_v8)) (VV d 0 (at_ main_v12)))))
    | 1 => (inferInstance : BI.Storable (upEmb : UEmb _ 𝕄) (bigSep Finset.univ fun i : Fin 16 => Call4.piece d (VV d 1 (at_ main_v8)) (VV d 1 (at_ main_v19)) (Fin.cast (nCore_eq 1) c, i) (Call4.outOf d (VV d 1 (at_ main_v8)) (VV d 1 (at_ main_v19)))))
    | 2 => (inferInstance : BI.Storable (upEmb : UEmb _ 𝕄) (bigSep Finset.univ fun i : Fin 16 => Call6.piece d (VV d 2 (at_ main_v8)) (VV d 2 (at_ main_v26)) (Fin.cast (nCore_eq 2) c, i) (Call6.outOf d (VV d 2 (at_ main_v8)) (VV d 2 (at_ main_v26)))))
    | 3 => (inferInstance : BI.Storable (upEmb : UEmb _ 𝕄) (bigSep Finset.univ fun i : Fin 16 => Call8.piece d (VV d 3 (at_ main_v8)) (VV d 3 (at_ main_v33)) (Fin.cast (nCore_eq 3) c, i) (Call8.outOf d (VV d 3 (at_ main_v8)) (VV d 3 (at_ main_v33)))))
  go q d c i := match q with
    | 0 => (inferInstance : BI.Storable (upEmb : UEmb _ 𝕄) (Call2.piece d (VV d 0 (at_ main_v8)) (VV d 0 (at_ main_v12)) (Fin.cast (nCore_eq 0) c, Fin.cast (nSub_eq 0) i) (VV d 0 (at_ main_v13))))
    | 1 => (inferInstance : BI.Storable (upEmb : UEmb _ 𝕄) (Call4.piece d (VV d 1 (at_ main_v8)) (VV d 1 (at_ main_v19)) (Fin.cast (nCore_eq 1) c, Fin.cast (nSub_eq 1) i) (VV d 1 (at_ main_v20))))
    | 2 => (inferInstance : BI.Storable (upEmb : UEmb _ 𝕄) (Call6.piece d (VV d 2 (at_ main_v8)) (VV d 2 (at_ main_v26)) (Fin.cast (nCore_eq 2) c, Fin.cast (nSub_eq 2) i) (VV d 2 (at_ main_v27))))
    | 3 => (inferInstance : BI.Storable (upEmb : UEmb _ 𝕄) (Call8.piece d (VV d 3 (at_ main_v8)) (VV d 3 (at_ main_v33)) (Fin.cast (nCore_eq 3) c, Fin.cast (nSub_eq 3) i) (VV d 3 (at_ main_v34))))
  td q d c i := match q with
    | 0 => (inferInstance : BI.Storable (upEmb : UEmb _ 𝕄) (Call2.piece d (VV d 0 (at_ main_v8)) (VV d 0 (at_ main_v12)) (Fin.cast (nCore_eq 0) c, Fin.cast (nSub_eq 0) i) (Call2.outOf d (VV d 0 (at_ main_v8)) (VV d 0 (at_ main_v12)))))
    | 1 => (inferInstance : BI.Storable (upEmb : UEmb _ 𝕄) (Call4.piece d (VV d 1 (at_ main_v8)) (VV d 1 (at_ main_v19)) (Fin.cast (nCore_eq 1) c, Fin.cast (nSub_eq 1) i) (Call4.outOf d (VV d 1 (at_ main_v8)) (VV d 1 (at_ main_v19)))))
    | 2 => (inferInstance : BI.Storable (upEmb : UEmb _ 𝕄) (Call6.piece d (VV d 2 (at_ main_v8)) (VV d 2 (at_ main_v26)) (Fin.cast (nCore_eq 2) c, Fin.cast (nSub_eq 2) i) (Call6.outOf d (VV d 2 (at_ main_v8)) (VV d 2 (at_ main_v26)))))
    | 3 => (inferInstance : BI.Storable (upEmb : UEmb _ 𝕄) (Call8.piece d (VV d 3 (at_ main_v8)) (VV d 3 (at_ main_v33)) (Fin.cast (nCore_eq 3) c, Fin.cast (nSub_eq 3) i) (Call8.outOf d (VV d 3 (at_ main_v8)) (VV d 3 (at_ main_v33)))))

/-- What the run asks of the contents: every entry of each dispatch's list names a row of the table. -/
structure PreOK : Prop where
  ok0 : ∀ (d : Dev nD) (j : S512x128.Idx), (show BitVec 32 from VV d 0 (at_ main_v12) j).toNat < 8192
  ok1 : ∀ (d : Dev nD) (j : S512x128.Idx), (show BitVec 32 from VV d 1 (at_ main_v19) j).toNat < 8192
  ok2 : ∀ (d : Dev nD) (j : S512x128.Idx), (show BitVec 32 from VV d 2 (at_ main_v26) j).toNat < 8192
  ok3 : ∀ (d : Dev nD) (j : S512x128.Idx), (show BitVec 32 from VV d 3 (at_ main_v33) j).toNat < 8192

omit [FloatOps F] in
/-- A weaker condition on the recorded waits. -/
theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- A tile of dispatch 0 leaves its part of the result at the maxima. -/
theorem tileObl0 (hF : (K (F := F)).Facts) (hpre : PreOK VV) : (K (F := F)).TileObl (D (F := F)) 𝒱 (P VV) v₀ 0 := by
  intro d c i O W hO _ _
  simp only [show (P VV).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [Call2.defs₀_vector]; simp only [SparseCore.onTile, hci, and_self, ↓reduceDIte]
  exact (Call2.tile_body d (Fin.cast (nCore_eq 0) c, Fin.cast (nSub_eq 0) i) (VV d 0 (at_ main_v8)) (VV d 0 (at_ main_v12)) (VV d 0 (at_ main_v13)) hF (hpre.ok0 d) O W hO).trans (wp_mono frame _ _ fun _ => obl_post)

/-- Dispatch 0's arrays, split over its tiles and joined again. -/
theorem vecSplit0 : (K (F := F)).VecSplit' (P VV) 0 := by
  intro d c
  show (bigSep Finset.univ fun i : Fin 16 => Call2.piece d (VV d 0 (at_ main_v8)) (VV d 0 (at_ main_v12)) (Fin.cast (nCore_eq 0) c, i) (VV d 0 (at_ main_v13))) ⊢ |={Set.univ}=> iprop(
      (bigSep Finset.univ fun i : Fin 16 => Call2.piece d (VV d 0 (at_ main_v8)) (VV d 0 (at_ main_v12)) (Fin.cast (nCore_eq 0) c, i) (VV d 0 (at_ main_v13)))
      ∗ ((bigSep Finset.univ fun i : Fin 16 => Call2.piece d (VV d 0 (at_ main_v8)) (VV d 0 (at_ main_v12)) (Fin.cast (nCore_eq 0) c, i) (Call2.outOf d (VV d 0 (at_ main_v8)) (VV d 0 (at_ main_v12))))
          -∗ bigSep Finset.univ fun i : Fin 16 => Call2.piece d (VV d 0 (at_ main_v8)) (VV d 0 (at_ main_v12)) (Fin.cast (nCore_eq 0) c, i) (Call2.outOf d (VV d 0 (at_ main_v8)) (VV d 0 (at_ main_v12)))))
  iintro H; imodintro
  isplitl [H]; · iexact H
  iintro H; iexact H

/-- The contents after dispatch 0: the result's array holds the maxima of the gathered rows. -/
def upd0 (V : Valuation τ sig (Elt F)) : Valuation τ sig (Elt F) :=
  Function.update V (at_ main_v13) (maxRows (F := F) (V (at_ main_v8)) (V (at_ main_v12)))

omit [FloatOps F] in
/-- The three arrays of dispatch 0 out of all. -/
theorem held0 (d : Dev nD) (V : Valuation τ sig (Elt F)) :
    (StableHlo.held (SparseCore.T d) (Pipeline.ucRefs τ sig) V : sProp 𝕄)
      = iprop(((Call2.iLoc d ↦{fullShare} V (at_ main_v12)) ∗ (Call2.xLoc d ↦{fullShare} V (at_ main_v8)) ∗ (Call2.oLoc d ↦{fullShare} V (at_ main_v13)))
          ∗ StableHlo.held (SparseCore.T d) (Pipeline.ucRefs τ sig \ {at_ main_v12, at_ main_v8, at_ main_v13}) V) := by
  have hs : ({at_ main_v12, at_ main_v8, at_ main_v13} : Finset (DevRef τ sig)) ⊆ Pipeline.ucRefs τ sig := by
    intro b hb
    rcases Finset.mem_insert.1 hb with rfl | hb
    · exact Finset.mem_filter.mpr ⟨StableHlo.devRef_mem_tcRefs _, by decide⟩
    rcases Finset.mem_insert.1 hb with rfl | hb
    · exact Finset.mem_filter.mpr ⟨StableHlo.devRef_mem_tcRefs _, by decide⟩
    rw [Finset.mem_singleton] at hb; subst hb
    exact Finset.mem_filter.mpr ⟨StableHlo.devRef_mem_tcRefs _, by decide⟩
  rw [StableHlo.held_sub_split (SparseCore.T d) hs V]
  congr 1
  unfold StableHlo.held
  rw [SparseCore.bigSep_insert' (by decide), SparseCore.bigSep_insert' (by decide), bigSep_singleton]

/-- Dispatch 0 changes no array but its result. -/
theorem held_rest0 (d : Dev nD) (V : Valuation τ sig (Elt F)) :
    (StableHlo.held (SparseCore.T d) (Pipeline.ucRefs τ sig \ {at_ main_v12, at_ main_v8, at_ main_v13}) (upd0 V) : sProp 𝕄)
      = StableHlo.held (SparseCore.T d) (Pipeline.ucRefs τ sig \ {at_ main_v12, at_ main_v8, at_ main_v13}) V :=
  StableHlo.held_congr _ fun b hb => Function.update_of_ne (fun e => (Finset.mem_sdiff.1 hb).2 (by rw [e]; decide)) _ _

/-- Dispatch 0 as a step of @main. -/
theorem call_wp0 (κ : GSem nD τ sig → ℕ) (d : Dev nD) (Q : PUnit → sProp 𝕄) :
    iprop((K (F := F)).ctx EH (P VV) κ ∗ StableHlo.held (SparseCore.T d) (Pipeline.ucRefs τ sig) (VV d 0) ∗ (K (F := F)).tcSt EH d 0
        ∗ ((StableHlo.held (SparseCore.T d) (Pipeline.ucRefs τ sig) (upd0 (VV d 0)) ∗ (K (F := F)).tcSt EH d 1) -∗ Q ⟨⟩))
      ⊢ wp frame (wpE ((K (F := F)).defs (D (F := F))) 𝒱 (SparseCore.T d) none) Set.univ ((K (F := F)).run d 0) Q := by
  rw [held0, held0, held_rest0]
  have ei : upd0 (VV d 0) (at_ main_v12) = VV d 0 (at_ main_v12) := Function.update_of_ne (by decide) _ _
  have ex : upd0 (VV d 0) (at_ main_v8) = VV d 0 (at_ main_v8) := Function.update_of_ne (by decide) _ _
  have eo : upd0 (VV d 0) (at_ main_v13) = Call2.outOf d (VV d 0 (at_ main_v8)) (VV d 0 (at_ main_v12)) := Function.update_self _ _ _
  rw [ei, ex, eo]
  iintro ⟨#Hctx, ⟨⟨Hi, Hx, Ho⟩, Hr⟩, Hst, Hk⟩
  ihave Hx' := (Call2.xPts_tiles d (VV d 0 (at_ main_v8))).1 $$ Hx
  icases Hx' with ⟨Hxr, Hxs⟩
  iapply ((K (F := F)).wp_run (D (F := F)) 𝒱 (EH := EH) (P := P VV) κ d 0) $$ [Hst Hi Hxs Ho Hxr Hr Hk]
  isplitr; · iexact Hctx
  isplitl [Hst]; · iexact Hst
  isplitl [Hi Hxs Ho]
  · iapply (Entails.of_eq (Call2.pieces_eq d (VV d 0 (at_ main_v8)) (VV d 0 (at_ main_v12)) (VV d 0 (at_ main_v13))).symm)
    isplitl [Hi]; · iexact Hi
    isplitl [Hxs]; · iexact Hxs
    iexact Ho
  iintro ⟨Hst, Hdn⟩
  ihave Hdn' := (Entails.of_eq (show (bigSep Finset.univ fun c : Fin ((K (F := F)).nCore 0) => (P VV).dn 0 d c) = _ from Call2.pieces_eq d (VV d 0 (at_ main_v8)) (VV d 0 (at_ main_v12)) (Call2.outOf d (VV d 0 (at_ main_v8)) (VV d 0 (at_ main_v12))))) $$ Hdn
  icases Hdn' with ⟨Hi, Hxs, Ho⟩
  ihave Hx := (Call2.xPts_tiles d (VV d 0 (at_ main_v8))).2 $$ [Hxr Hxs]
  · isplitl [Hxr]; · iexact Hxr
    iexact Hxs
  iapply Hk
  isplitr [Hst]
  · isplitr [Hr]
    · isplitl [Hi]; · iexact Hi
      isplitl [Hx]; · iexact Hx
      iexact Ho
    iexact Hr
  iexact Hst

set_option maxRecDepth 16384 in
/-- A tile of dispatch 1 leaves its part of the result at the maxima. -/
theorem tileObl1 (hF : (K (F := F)).Facts) (hpre : PreOK VV) : (K (F := F)).TileObl (D (F := F)) 𝒱 (P VV) v₀ 1 := by
  intro d c i O W hO _ _
  simp only [show (P VV).ox = fun _ _ => 0 from rfl, add_zero]
  have hci : ((K (F := F)).core 1 c).val < grid4.bound 0 ∧ ((K (F := F)).sub 1 i).val < grid4.bound 1 := ⟨c.isLt, i.isLt⟩
  change _ ⊢ wp _ _ _ (Pipeline.liftProg (defs₀ (F := F) (.scVector ((K (F := F)).core 1 c) ((K (F := F)).sub 1 i)) 4 ())) _
  refine BI.Entails.trans ?_ (Pipeline.wp_liftProg (D (F := F)) (Pipeline.defs_kernel pcfgs defs₀) 𝒱₀ _ Set.univ none _ _)
  rw [Call4.defs₀_vector]; simp only [SparseCore.onTile, hci, and_self, ↓reduceDIte]
  exact (Call4.tile_body d (Fin.cast (nCore_eq 1) c, Fin.cast (nSub_eq 1) i) (VV d 1 (at_ main_v8)) (VV d 1 (at_ main_v19)) (VV d 1 (at_ main_v20)) hF (hpre.ok1 d) O W hO).trans (wp_mono frame _ _ fun _ => obl_post)

/-- Dispatch 1's arrays, split over its tiles and joined again. -/
theorem vecSplit1 : (K (F := F)).VecSplit' (P VV) 1 := by
  intro d c
  show (bigSep Finset.univ fun i : Fin 16 => Call4.piece d (VV d 1 (at_ main_v8)) (VV d 1 (at_ main_v19)) (Fin.cast (nCore_eq 1) c, i) (VV d 1 (at_ main_v20))) ⊢ |={Set.univ}=> iprop(
      (bigSep Finset.univ fun i : Fin 16 => Call4.piece d (VV d 1 (at_ main_v8)) (VV d 1 (at_ main_v19)) (Fin.cast (nCore_eq 1) c, i) (VV d 1 (at_ main_v20)))
      ∗ ((bigSep Finset.univ fun i : Fin 16 => Call4.piece d (VV d 1 (at_ main_v8)) (VV d 1 (at_ main_v19)) (Fin.cast (nCore_eq 1) c, i) (Call4.outOf d (VV d 1 (at_ main_v8)) (VV d 1 (at_ main_v19))))
          -∗ bigSep Finset.univ fun i : Fin 16 => Call4.piece d (VV d 1 (at_ main_v8)) (VV d 1 (at_ main_v19)) (Fin.cast (nCore_eq 1) c, i) (Call4.outOf d (VV d 1 (at_ main_v8)) (VV d 1 (at_ main_v19)))))
  iintro H; imodintro
  isplitl [H]; · iexact H
  iintro H; iexact H

/-- The contents after dispatch 1: the result's array holds the maxima of the gathered rows. -/
def upd1 (V : Valuation τ sig (Elt F)) : Valuation τ sig (Elt F) :=
  Function.update V (at_ main_v20) (maxRows (F := F) (V (at_ main_v8)) (V (at_ main_v19)))

omit [FloatOps F] in
/-- The three arrays of dispatch 1 out of all. -/
theorem held1 (d : Dev nD) (V : Valuation τ sig (Elt F)) :
    (StableHlo.held (SparseCore.T d) (Pipeline.ucRefs τ sig) V : sProp 𝕄)
      = iprop(((Call4.iLoc d ↦{fullShare} V (at_ main_v19)) ∗ (Call4.xLoc d ↦{fullShare} V (at_ main_v8)) ∗ (Call4.oLoc d ↦{fullShare} V (at_ main_v20)))
          ∗ StableHlo.held (SparseCore.T d) (Pipeline.ucRefs τ sig \ {at_ main_v19, at_ main_v8, at_ main_v20}) V) := by
  have hs : ({at_ main_v19, at_ main_v8, at_ main_v20} : Finset (DevRef τ sig)) ⊆ Pipeline.ucRefs τ sig := by
    intro b hb
    rcases Finset.mem_insert.1 hb with rfl | hb
    · exact Finset.mem_filter.mpr ⟨StableHlo.devRef_mem_tcRefs _, by decide⟩
    rcases Finset.mem_insert.1 hb with rfl | hb
    · exact Finset.mem_filter.mpr ⟨StableHlo.devRef_mem_tcRefs _, by decide⟩
    rw [Finset.mem_singleton] at hb; subst hb
    exact Finset.mem_filter.mpr ⟨StableHlo.devRef_mem_tcRefs _, by decide⟩
  rw [StableHlo.held_sub_split (SparseCore.T d) hs V]
  congr 1
  unfold StableHlo.held
  rw [SparseCore.bigSep_insert' (by decide), SparseCore.bigSep_insert' (by decide), bigSep_singleton]

/-- Dispatch 1 changes no array but its result. -/
theorem held_rest1 (d : Dev nD) (V : Valuation τ sig (Elt F)) :
    (StableHlo.held (SparseCore.T d) (Pipeline.ucRefs τ sig \ {at_ main_v19, at_ main_v8, at_ main_v20}) (upd1 V) : sProp 𝕄)
      = StableHlo.held (SparseCore.T d) (Pipeline.ucRefs τ sig \ {at_ main_v19, at_ main_v8, at_ main_v20}) V :=
  StableHlo.held_congr _ fun b hb => Function.update_of_ne (fun e => (Finset.mem_sdiff.1 hb).2 (by rw [e]; decide)) _ _

/-- Dispatch 1 as a step of @main. -/
theorem call_wp1 (κ : GSem nD τ sig → ℕ) (d : Dev nD) (Q : PUnit → sProp 𝕄) :
    iprop((K (F := F)).ctx EH (P VV) κ ∗ StableHlo.held (SparseCore.T d) (Pipeline.ucRefs τ sig) (VV d 1) ∗ (K (F := F)).tcSt EH d 1
        ∗ ((StableHlo.held (SparseCore.T d) (Pipeline.ucRefs τ sig) (upd1 (VV d 1)) ∗ (K (F := F)).tcSt EH d 2) -∗ Q ⟨⟩))
      ⊢ wp frame (wpE ((K (F := F)).defs (D (F := F))) 𝒱 (SparseCore.T d) none) Set.univ ((K (F := F)).run d 1) Q := by
  rw [held1, held1, held_rest1]
  have ei : upd1 (VV d 1) (at_ main_v19) = VV d 1 (at_ main_v19) := Function.update_of_ne (by decide) _ _
  have ex : upd1 (VV d 1) (at_ main_v8) = VV d 1 (at_ main_v8) := Function.update_of_ne (by decide) _ _
  have eo : upd1 (VV d 1) (at_ main_v20) = Call4.outOf d (VV d 1 (at_ main_v8)) (VV d 1 (at_ main_v19)) := Function.update_self _ _ _
  rw [ei, ex, eo]
  iintro ⟨#Hctx, ⟨⟨Hi, Hx, Ho⟩, Hr⟩, Hst, Hk⟩
  ihave Hx' := (Call4.xPts_tiles d (VV d 1 (at_ main_v8))).1 $$ Hx
  icases Hx' with ⟨Hxr, Hxs⟩
  iapply ((K (F := F)).wp_run (D (F := F)) 𝒱 (EH := EH) (P := P VV) κ d 1) $$ [Hst Hi Hxs Ho Hxr Hr Hk]
  isplitr; · iexact Hctx
  isplitl [Hst]; · iexact Hst
  isplitl [Hi Hxs Ho]
  · iapply (Entails.of_eq (Call4.pieces_eq d (VV d 1 (at_ main_v8)) (VV d 1 (at_ main_v19)) (VV d 1 (at_ main_v20))).symm)
    isplitl [Hi]; · iexact Hi
    isplitl [Hxs]; · iexact Hxs
    iexact Ho
  iintro ⟨Hst, Hdn⟩
  ihave Hdn' := (Entails.of_eq (show (bigSep Finset.univ fun c : Fin ((K (F := F)).nCore 1) => (P VV).dn 1 d c) = _ from Call4.pieces_eq d (VV d 1 (at_ main_v8)) (VV d 1 (at_ main_v19)) (Call4.outOf d (VV d 1 (at_ main_v8)) (VV d 1 (at_ main_v19))))) $$ Hdn
  icases Hdn' with ⟨Hi, Hxs, Ho⟩
  ihave Hx := (Call4.xPts_tiles d (VV d 1 (at_ main_v8))).2 $$ [Hxr Hxs]
  · isplitl [Hxr]; · iexact Hxr
    iexact Hxs
  iapply Hk
  isplitr [Hst]
  · isplitr [Hr]
    · isplitl [Hi]; · iexact Hi
      isplitl [Hx]; · iexact Hx
      iexact Ho
    iexact Hr
  iexact Hst

set_option maxRecDepth 16384 in
/-- A tile of dispatch 2 leaves its part of the result at the maxima. -/
theorem tileObl2 (hF : (K (F := F)).Facts) (hpre : PreOK VV) : (K (F := F)).TileObl (D (F := F)) 𝒱 (P VV) v₀ 2 := by
  intro d c i O W hO _ _
  simp only [show (P VV).ox = fun _ _ => 0 from rfl, add_zero]
  have hci : ((K (F := F)).core 2 c).val < grid6.bound 0 ∧ ((K (F := F)).sub 2 i).val < grid6.bound 1 := ⟨c.isLt, i.isLt⟩
  change _ ⊢ wp _ _ _ (Pipeline.liftProg (defs₀ (F := F) (.scVector ((K (F := F)).core 2 c) ((K (F := F)).sub 2 i)) 6 ())) _
  refine BI.Entails.trans ?_ (Pipeline.wp_liftProg (D (F := F)) (Pipeline.defs_kernel pcfgs defs₀) 𝒱₀ _ Set.univ none _ _)
  rw [Call6.defs₀_vector]; simp only [SparseCore.onTile, hci, and_self, ↓reduceDIte]
  exact (Call6.tile_body d (Fin.cast (nCore_eq 2) c, Fin.cast (nSub_eq 2) i) (VV d 2 (at_ main_v8)) (VV d 2 (at_ main_v26)) (VV d 2 (at_ main_v27)) hF (hpre.ok2 d) O W hO).trans (wp_mono frame _ _ fun _ => obl_post)

/-- Dispatch 2's arrays, split over its tiles and joined again. -/
theorem vecSplit2 : (K (F := F)).VecSplit' (P VV) 2 := by
  intro d c
  show (bigSep Finset.univ fun i : Fin 16 => Call6.piece d (VV d 2 (at_ main_v8)) (VV d 2 (at_ main_v26)) (Fin.cast (nCore_eq 2) c, i) (VV d 2 (at_ main_v27))) ⊢ |={Set.univ}=> iprop(
      (bigSep Finset.univ fun i : Fin 16 => Call6.piece d (VV d 2 (at_ main_v8)) (VV d 2 (at_ main_v26)) (Fin.cast (nCore_eq 2) c, i) (VV d 2 (at_ main_v27)))
      ∗ ((bigSep Finset.univ fun i : Fin 16 => Call6.piece d (VV d 2 (at_ main_v8)) (VV d 2 (at_ main_v26)) (Fin.cast (nCore_eq 2) c, i) (Call6.outOf d (VV d 2 (at_ main_v8)) (VV d 2 (at_ main_v26))))
          -∗ bigSep Finset.univ fun i : Fin 16 => Call6.piece d (VV d 2 (at_ main_v8)) (VV d 2 (at_ main_v26)) (Fin.cast (nCore_eq 2) c, i) (Call6.outOf d (VV d 2 (at_ main_v8)) (VV d 2 (at_ main_v26)))))
  iintro H; imodintro
  isplitl [H]; · iexact H
  iintro H; iexact H

/-- The contents after dispatch 2: the result's array holds the maxima of the gathered rows. -/
def upd2 (V : Valuation τ sig (Elt F)) : Valuation τ sig (Elt F) :=
  Function.update V (at_ main_v27) (maxRows (F := F) (V (at_ main_v8)) (V (at_ main_v26)))

omit [FloatOps F] in
/-- The three arrays of dispatch 2 out of all. -/
theorem held2 (d : Dev nD) (V : Valuation τ sig (Elt F)) :
    (StableHlo.held (SparseCore.T d) (Pipeline.ucRefs τ sig) V : sProp 𝕄)
      = iprop(((Call6.iLoc d ↦{fullShare} V (at_ main_v26)) ∗ (Call6.xLoc d ↦{fullShare} V (at_ main_v8)) ∗ (Call6.oLoc d ↦{fullShare} V (at_ main_v27)))
          ∗ StableHlo.held (SparseCore.T d) (Pipeline.ucRefs τ sig \ {at_ main_v26, at_ main_v8, at_ main_v27}) V) := by
  have hs : ({at_ main_v26, at_ main_v8, at_ main_v27} : Finset (DevRef τ sig)) ⊆ Pipeline.ucRefs τ sig := by
    intro b hb
    rcases Finset.mem_insert.1 hb with rfl | hb
    · exact Finset.mem_filter.mpr ⟨StableHlo.devRef_mem_tcRefs _, by decide⟩
    rcases Finset.mem_insert.1 hb with rfl | hb
    · exact Finset.mem_filter.mpr ⟨StableHlo.devRef_mem_tcRefs _, by decide⟩
    rw [Finset.mem_singleton] at hb; subst hb
    exact Finset.mem_filter.mpr ⟨StableHlo.devRef_mem_tcRefs _, by decide⟩
  rw [StableHlo.held_sub_split (SparseCore.T d) hs V]
  congr 1
  unfold StableHlo.held
  rw [SparseCore.bigSep_insert' (by decide), SparseCore.bigSep_insert' (by decide), bigSep_singleton]

/-- Dispatch 2 changes no array but its result. -/
theorem held_rest2 (d : Dev nD) (V : Valuation τ sig (Elt F)) :
    (StableHlo.held (SparseCore.T d) (Pipeline.ucRefs τ sig \ {at_ main_v26, at_ main_v8, at_ main_v27}) (upd2 V) : sProp 𝕄)
      = StableHlo.held (SparseCore.T d) (Pipeline.ucRefs τ sig \ {at_ main_v26, at_ main_v8, at_ main_v27}) V :=
  StableHlo.held_congr _ fun b hb => Function.update_of_ne (fun e => (Finset.mem_sdiff.1 hb).2 (by rw [e]; decide)) _ _

/-- Dispatch 2 as a step of @main. -/
theorem call_wp2 (κ : GSem nD τ sig → ℕ) (d : Dev nD) (Q : PUnit → sProp 𝕄) :
    iprop((K (F := F)).ctx EH (P VV) κ ∗ StableHlo.held (SparseCore.T d) (Pipeline.ucRefs τ sig) (VV d 2) ∗ (K (F := F)).tcSt EH d 2
        ∗ ((StableHlo.held (SparseCore.T d) (Pipeline.ucRefs τ sig) (upd2 (VV d 2)) ∗ (K (F := F)).tcSt EH d 3) -∗ Q ⟨⟩))
      ⊢ wp frame (wpE ((K (F := F)).defs (D (F := F))) 𝒱 (SparseCore.T d) none) Set.univ ((K (F := F)).run d 2) Q := by
  rw [held2, held2, held_rest2]
  have ei : upd2 (VV d 2) (at_ main_v26) = VV d 2 (at_ main_v26) := Function.update_of_ne (by decide) _ _
  have ex : upd2 (VV d 2) (at_ main_v8) = VV d 2 (at_ main_v8) := Function.update_of_ne (by decide) _ _
  have eo : upd2 (VV d 2) (at_ main_v27) = Call6.outOf d (VV d 2 (at_ main_v8)) (VV d 2 (at_ main_v26)) := Function.update_self _ _ _
  rw [ei, ex, eo]
  iintro ⟨#Hctx, ⟨⟨Hi, Hx, Ho⟩, Hr⟩, Hst, Hk⟩
  ihave Hx' := (Call6.xPts_tiles d (VV d 2 (at_ main_v8))).1 $$ Hx
  icases Hx' with ⟨Hxr, Hxs⟩
  iapply ((K (F := F)).wp_run (D (F := F)) 𝒱 (EH := EH) (P := P VV) κ d 2) $$ [Hst Hi Hxs Ho Hxr Hr Hk]
  isplitr; · iexact Hctx
  isplitl [Hst]; · iexact Hst
  isplitl [Hi Hxs Ho]
  · iapply (Entails.of_eq (Call6.pieces_eq d (VV d 2 (at_ main_v8)) (VV d 2 (at_ main_v26)) (VV d 2 (at_ main_v27))).symm)
    isplitl [Hi]; · iexact Hi
    isplitl [Hxs]; · iexact Hxs
    iexact Ho
  iintro ⟨Hst, Hdn⟩
  ihave Hdn' := (Entails.of_eq (show (bigSep Finset.univ fun c : Fin ((K (F := F)).nCore 2) => (P VV).dn 2 d c) = _ from Call6.pieces_eq d (VV d 2 (at_ main_v8)) (VV d 2 (at_ main_v26)) (Call6.outOf d (VV d 2 (at_ main_v8)) (VV d 2 (at_ main_v26))))) $$ Hdn
  icases Hdn' with ⟨Hi, Hxs, Ho⟩
  ihave Hx := (Call6.xPts_tiles d (VV d 2 (at_ main_v8))).2 $$ [Hxr Hxs]
  · isplitl [Hxr]; · iexact Hxr
    iexact Hxs
  iapply Hk
  isplitr [Hst]
  · isplitr [Hr]
    · isplitl [Hi]; · iexact Hi
      isplitl [Hx]; · iexact Hx
      iexact Ho
    iexact Hr
  iexact Hst

set_option maxRecDepth 16384 in
/-- A tile of dispatch 3 leaves its part of the result at the maxima. -/
theorem tileObl3 (hF : (K (F := F)).Facts) (hpre : PreOK VV) : (K (F := F)).TileObl (D (F := F)) 𝒱 (P VV) v₀ 3 := by
  intro d c i O W hO _ _
  simp only [show (P VV).ox = fun _ _ => 0 from rfl, add_zero]
  have hci : ((K (F := F)).core 3 c).val < grid8.bound 0 ∧ ((K (F := F)).sub 3 i).val < grid8.bound 1 := ⟨c.isLt, i.isLt⟩
  change _ ⊢ wp _ _ _ (Pipeline.liftProg (defs₀ (F := F) (.scVector ((K (F := F)).core 3 c) ((K (F := F)).sub 3 i)) 8 ())) _
  refine BI.Entails.trans ?_ (Pipeline.wp_liftProg (D (F := F)) (Pipeline.defs_kernel pcfgs defs₀) 𝒱₀ _ Set.univ none _ _)
  rw [Call8.defs₀_vector]; simp only [SparseCore.onTile, hci, and_self, ↓reduceDIte]
  exact (Call8.tile_body d (Fin.cast (nCore_eq 3) c, Fin.cast (nSub_eq 3) i) (VV d 3 (at_ main_v8)) (VV d 3 (at_ main_v33)) (VV d 3 (at_ main_v34)) hF (hpre.ok3 d) O W hO).trans (wp_mono frame _ _ fun _ => obl_post)

/-- Dispatch 3's arrays, split over its tiles and joined again. -/
theorem vecSplit3 : (K (F := F)).VecSplit' (P VV) 3 := by
  intro d c
  show (bigSep Finset.univ fun i : Fin 16 => Call8.piece d (VV d 3 (at_ main_v8)) (VV d 3 (at_ main_v33)) (Fin.cast (nCore_eq 3) c, i) (VV d 3 (at_ main_v34))) ⊢ |={Set.univ}=> iprop(
      (bigSep Finset.univ fun i : Fin 16 => Call8.piece d (VV d 3 (at_ main_v8)) (VV d 3 (at_ main_v33)) (Fin.cast (nCore_eq 3) c, i) (VV d 3 (at_ main_v34)))
      ∗ ((bigSep Finset.univ fun i : Fin 16 => Call8.piece d (VV d 3 (at_ main_v8)) (VV d 3 (at_ main_v33)) (Fin.cast (nCore_eq 3) c, i) (Call8.outOf d (VV d 3 (at_ main_v8)) (VV d 3 (at_ main_v33))))
          -∗ bigSep Finset.univ fun i : Fin 16 => Call8.piece d (VV d 3 (at_ main_v8)) (VV d 3 (at_ main_v33)) (Fin.cast (nCore_eq 3) c, i) (Call8.outOf d (VV d 3 (at_ main_v8)) (VV d 3 (at_ main_v33)))))
  iintro H; imodintro
  isplitl [H]; · iexact H
  iintro H; iexact H

/-- The contents after dispatch 3: the result's array holds the maxima of the gathered rows. -/
def upd3 (V : Valuation τ sig (Elt F)) : Valuation τ sig (Elt F) :=
  Function.update V (at_ main_v34) (maxRows (F := F) (V (at_ main_v8)) (V (at_ main_v33)))

omit [FloatOps F] in
/-- The three arrays of dispatch 3 out of all. -/
theorem held3 (d : Dev nD) (V : Valuation τ sig (Elt F)) :
    (StableHlo.held (SparseCore.T d) (Pipeline.ucRefs τ sig) V : sProp 𝕄)
      = iprop(((Call8.iLoc d ↦{fullShare} V (at_ main_v33)) ∗ (Call8.xLoc d ↦{fullShare} V (at_ main_v8)) ∗ (Call8.oLoc d ↦{fullShare} V (at_ main_v34)))
          ∗ StableHlo.held (SparseCore.T d) (Pipeline.ucRefs τ sig \ {at_ main_v33, at_ main_v8, at_ main_v34}) V) := by
  have hs : ({at_ main_v33, at_ main_v8, at_ main_v34} : Finset (DevRef τ sig)) ⊆ Pipeline.ucRefs τ sig := by
    intro b hb
    rcases Finset.mem_insert.1 hb with rfl | hb
    · exact Finset.mem_filter.mpr ⟨StableHlo.devRef_mem_tcRefs _, by decide⟩
    rcases Finset.mem_insert.1 hb with rfl | hb
    · exact Finset.mem_filter.mpr ⟨StableHlo.devRef_mem_tcRefs _, by decide⟩
    rw [Finset.mem_singleton] at hb; subst hb
    exact Finset.mem_filter.mpr ⟨StableHlo.devRef_mem_tcRefs _, by decide⟩
  rw [StableHlo.held_sub_split (SparseCore.T d) hs V]
  congr 1
  unfold StableHlo.held
  rw [SparseCore.bigSep_insert' (by decide), SparseCore.bigSep_insert' (by decide), bigSep_singleton]

/-- Dispatch 3 changes no array but its result. -/
theorem held_rest3 (d : Dev nD) (V : Valuation τ sig (Elt F)) :
    (StableHlo.held (SparseCore.T d) (Pipeline.ucRefs τ sig \ {at_ main_v33, at_ main_v8, at_ main_v34}) (upd3 V) : sProp 𝕄)
      = StableHlo.held (SparseCore.T d) (Pipeline.ucRefs τ sig \ {at_ main_v33, at_ main_v8, at_ main_v34}) V :=
  StableHlo.held_congr _ fun b hb => Function.update_of_ne (fun e => (Finset.mem_sdiff.1 hb).2 (by rw [e]; decide)) _ _

/-- Dispatch 3 as a step of @main. -/
theorem call_wp3 (κ : GSem nD τ sig → ℕ) (d : Dev nD) (Q : PUnit → sProp 𝕄) :
    iprop((K (F := F)).ctx EH (P VV) κ ∗ StableHlo.held (SparseCore.T d) (Pipeline.ucRefs τ sig) (VV d 3) ∗ (K (F := F)).tcSt EH d 3
        ∗ ((StableHlo.held (SparseCore.T d) (Pipeline.ucRefs τ sig) (upd3 (VV d 3)) ∗ (K (F := F)).tcSt EH d 4) -∗ Q ⟨⟩))
      ⊢ wp frame (wpE ((K (F := F)).defs (D (F := F))) 𝒱 (SparseCore.T d) none) Set.univ ((K (F := F)).run d 3) Q := by
  rw [held3, held3, held_rest3]
  have ei : upd3 (VV d 3) (at_ main_v33) = VV d 3 (at_ main_v33) := Function.update_of_ne (by decide) _ _
  have ex : upd3 (VV d 3) (at_ main_v8) = VV d 3 (at_ main_v8) := Function.update_of_ne (by decide) _ _
  have eo : upd3 (VV d 3) (at_ main_v34) = Call8.outOf d (VV d 3 (at_ main_v8)) (VV d 3 (at_ main_v33)) := Function.update_self _ _ _
  rw [ei, ex, eo]
  iintro ⟨#Hctx, ⟨⟨Hi, Hx, Ho⟩, Hr⟩, Hst, Hk⟩
  ihave Hx' := (Call8.xPts_tiles d (VV d 3 (at_ main_v8))).1 $$ Hx
  icases Hx' with ⟨Hxr, Hxs⟩
  iapply ((K (F := F)).wp_run (D (F := F)) 𝒱 (EH := EH) (P := P VV) κ d 3) $$ [Hst Hi Hxs Ho Hxr Hr Hk]
  isplitr; · iexact Hctx
  isplitl [Hst]; · iexact Hst
  isplitl [Hi Hxs Ho]
  · iapply (Entails.of_eq (Call8.pieces_eq d (VV d 3 (at_ main_v8)) (VV d 3 (at_ main_v33)) (VV d 3 (at_ main_v34))).symm)
    isplitl [Hi]; · iexact Hi
    isplitl [Hxs]; · iexact Hxs
    iexact Ho
  iintro ⟨Hst, Hdn⟩
  ihave Hdn' := (Entails.of_eq (show (bigSep Finset.univ fun c : Fin ((K (F := F)).nCore 3) => (P VV).dn 3 d c) = _ from Call8.pieces_eq d (VV d 3 (at_ main_v8)) (VV d 3 (at_ main_v33)) (Call8.outOf d (VV d 3 (at_ main_v8)) (VV d 3 (at_ main_v33))))) $$ Hdn
  icases Hdn' with ⟨Hi, Hxs, Ho⟩
  ihave Hx := (Call8.xPts_tiles d (VV d 3 (at_ main_v8))).2 $$ [Hxr Hxs]
  · isplitl [Hxr]; · iexact Hxr
    iexact Hxs
  iapply Hk
  isplitr [Hst]
  · isplitr [Hr]
    · isplitl [Hi]; · iexact Hi
      isplitl [Hx]; · iexact Hx
      iexact Ho
    iexact Hr
  iexact Hst

end Cert.Proof.Run

end
-- ==== Proof.Main.lean ====
module

public import proofs.«01_k».proof.Proof.Calls

@[expose] public section

noncomputable section

namespace Cert.Proof.Run

open Cert.KernelIdeal Cert.KernelIdeal.Gen Cert.Proof.Tile Cert.Proof.Reg
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

/-- The host's lines 0. -/
def ops0 : List (HloOp τ sig (Elt F)) := [
  (StableHlo.unary main_arg2 main_v0 ((extractStridedSlice S128x256 ![0, 0] · slices_S128x259_S128x256_0_0) : (⟨S128x259, .f32⟩ : BufTy).Contents (Elt F) → (⟨S128x256, .f32⟩ : BufTy).Contents (Elt F))),
  (StableHlo.unary main_arg2 main_v1 ((extractStridedSlice S128x3 ![0, 256] · slices_S128x259_S128x3_0_256) : (⟨S128x259, .f32⟩ : BufTy).Contents (Elt F) → (⟨S128x3, .f32⟩ : BufTy).Contents (Elt F))),
  (StableHlo.reshape main_arg3 main_v2 (rfl : (.f32 : EltTy) = .f32) shapeCasts_S256x384_S256x3x128),
  (StableHlo.nullary main_cst (constant S_ .f32 0x00000000#32)),
  (StableHlo.binary main_v2 main_cst main_v3 ((fun x v => Host.reduceAdd x v reducesTo_S256x3x128_S256x128_d1 h_S_) : (⟨S256x3x128, .f32⟩ : BufTy).Contents (Elt F) → (⟨S_, .f32⟩ : BufTy).Contents (Elt F) → (⟨S256x128, .f32⟩ : BufTy).Contents (Elt F))),
  (StableHlo.reshape main_arg4 main_v4 (rfl : (.f32 : EltTy) = .f32) shapeCasts_S256_S1x256),
  (StableHlo.reshape main_arg5 main_v5 (rfl : (.f32 : EltTy) = .f32) shapeCasts_S256_S1x256)]

/-- The host's lines 2. -/
def ops2 : List (HloOp τ sig (Elt F)) := [
  (StableHlo.reshape main_v7 main_v8 (rfl : (.f32 : EltTy) = .f32) shapeCasts_S2x4096x128_S8192x128),
  (StableHlo.unary main_arg6 main_v9 ((extractStridedSlice S1x2048x32 ![0, 0, 0] · slices_S2x4096x32_S1x2048x32_0_0_0) : (⟨S2x4096x32, .i32⟩ : BufTy).Contents (Elt F) → (⟨S1x2048x32, .i32⟩ : BufTy).Contents (Elt F))),
  (StableHlo.nullary main_c (constantI S_ 32 0#32)),
  (StableHlo.unary main_c main_v10 (broadcastInDim S1x2048x32 ![] bcast_S_S1x2048x32 : (⟨S_, .i32⟩ : BufTy).Contents (Elt F) → (⟨S1x2048x32, .i32⟩ : BufTy).Contents (Elt F))),
  (StableHlo.binary main_v9 main_v10 main_v11 (addi : (⟨S1x2048x32, .i32⟩ : BufTy).Contents (Elt F) → (⟨S1x2048x32, .i32⟩ : BufTy).Contents (Elt F) → (⟨S1x2048x32, .i32⟩ : BufTy).Contents (Elt F))),
  (StableHlo.reshape main_v11 main_v12 (rfl : (.i32 : EltTy) = .i32) shapeCasts_S1x2048x32_S512x128)]

/-- The host's lines 3. -/
def ops3 : List (HloOp τ sig (Elt F)) := [
  (StableHlo.reshape main_v13 main_v14 (rfl : (.f32 : EltTy) = .f32) shapeCasts_S2048x128_S1x2048x128)]

/-- The host's lines 4. -/
def ops4 : List (HloOp τ sig (Elt F)) := [
  (StableHlo.unary main_arg6 main_v16 ((extractStridedSlice S1x2048x32 ![0, 2048, 0] · slices_S2x4096x32_S1x2048x32_0_2048_0) : (⟨S2x4096x32, .i32⟩ : BufTy).Contents (Elt F) → (⟨S1x2048x32, .i32⟩ : BufTy).Contents (Elt F))),
  (StableHlo.nullary main_c_0 (constantI S_ 32 0#32)),
  (StableHlo.unary main_c_0 main_v17 (broadcastInDim S1x2048x32 ![] bcast_S_S1x2048x32 : (⟨S_, .i32⟩ : BufTy).Contents (Elt F) → (⟨S1x2048x32, .i32⟩ : BufTy).Contents (Elt F))),
  (StableHlo.binary main_v16 main_v17 main_v18 (addi : (⟨S1x2048x32, .i32⟩ : BufTy).Contents (Elt F) → (⟨S1x2048x32, .i32⟩ : BufTy).Contents (Elt F) → (⟨S1x2048x32, .i32⟩ : BufTy).Contents (Elt F))),
  (StableHlo.reshape main_v18 main_v19 (rfl : (.i32 : EltTy) = .i32) shapeCasts_S1x2048x32_S512x128)]

/-- The host's lines 5. -/
def ops5 : List (HloOp τ sig (Elt F)) := [
  (StableHlo.reshape main_v20 main_v21 (rfl : (.f32 : EltTy) = .f32) shapeCasts_S2048x128_S1x2048x128)]

/-- The host's lines 6. -/
def ops6 : List (HloOp τ sig (Elt F)) := [
  (StableHlo.unary main_arg6 main_v23 ((extractStridedSlice S1x2048x32 ![1, 0, 0] · slices_S2x4096x32_S1x2048x32_1_0_0) : (⟨S2x4096x32, .i32⟩ : BufTy).Contents (Elt F) → (⟨S1x2048x32, .i32⟩ : BufTy).Contents (Elt F))),
  (StableHlo.nullary main_c_1 (constantI S_ 32 4096#32)),
  (StableHlo.unary main_c_1 main_v24 (broadcastInDim S1x2048x32 ![] bcast_S_S1x2048x32 : (⟨S_, .i32⟩ : BufTy).Contents (Elt F) → (⟨S1x2048x32, .i32⟩ : BufTy).Contents (Elt F))),
  (StableHlo.binary main_v23 main_v24 main_v25 (addi : (⟨S1x2048x32, .i32⟩ : BufTy).Contents (Elt F) → (⟨S1x2048x32, .i32⟩ : BufTy).Contents (Elt F) → (⟨S1x2048x32, .i32⟩ : BufTy).Contents (Elt F))),
  (StableHlo.reshape main_v25 main_v26 (rfl : (.i32 : EltTy) = .i32) shapeCasts_S1x2048x32_S512x128)]

/-- The host's lines 7. -/
def ops7 : List (HloOp τ sig (Elt F)) := [
  (StableHlo.reshape main_v27 main_v28 (rfl : (.f32 : EltTy) = .f32) shapeCasts_S2048x128_S1x2048x128)]

/-- The host's lines 8. -/
def ops8 : List (HloOp τ sig (Elt F)) := [
  (StableHlo.unary main_arg6 main_v30 ((extractStridedSlice S1x2048x32 ![1, 2048, 0] · slices_S2x4096x32_S1x2048x32_1_2048_0) : (⟨S2x4096x32, .i32⟩ : BufTy).Contents (Elt F) → (⟨S1x2048x32, .i32⟩ : BufTy).Contents (Elt F))),
  (StableHlo.nullary main_c_2 (constantI S_ 32 4096#32)),
  (StableHlo.unary main_c_2 main_v31 (broadcastInDim S1x2048x32 ![] bcast_S_S1x2048x32 : (⟨S_, .i32⟩ : BufTy).Contents (Elt F) → (⟨S1x2048x32, .i32⟩ : BufTy).Contents (Elt F))),
  (StableHlo.binary main_v30 main_v31 main_v32 (addi : (⟨S1x2048x32, .i32⟩ : BufTy).Contents (Elt F) → (⟨S1x2048x32, .i32⟩ : BufTy).Contents (Elt F) → (⟨S1x2048x32, .i32⟩ : BufTy).Contents (Elt F))),
  (StableHlo.reshape main_v32 main_v33 (rfl : (.i32 : EltTy) = .i32) shapeCasts_S1x2048x32_S512x128)]

/-- The host's lines 9. -/
def ops9 : List (HloOp τ sig (Elt F)) := [
  (StableHlo.reshape main_v34 main_v35 (rfl : (.f32 : EltTy) = .f32) shapeCasts_S2048x128_S1x2048x128)]

/-- The host's lines 10. -/
def ops10 : List (HloOp τ sig (Elt F)) := [
  (StableHlo.binary main_v15 main_v22 main_v37 ((fun a b => concatenate S1x256x4096 2 [⟨S1x256x2048, a⟩, ⟨S1x256x2048, b⟩] concatenates_S1x256x2048_S1x256x2048_S1x256x4096_d2) : (⟨S1x256x2048, .f32⟩ : BufTy).Contents (Elt F) → (⟨S1x256x2048, .f32⟩ : BufTy).Contents (Elt F) → (⟨S1x256x4096, .f32⟩ : BufTy).Contents (Elt F))),
  (StableHlo.binary main_v29 main_v36 main_v38 ((fun a b => concatenate S1x256x4096 2 [⟨S1x256x2048, a⟩, ⟨S1x256x2048, b⟩] concatenates_S1x256x2048_S1x256x2048_S1x256x4096_d2) : (⟨S1x256x2048, .f32⟩ : BufTy).Contents (Elt F) → (⟨S1x256x2048, .f32⟩ : BufTy).Contents (Elt F) → (⟨S1x256x4096, .f32⟩ : BufTy).Contents (Elt F))),
  (StableHlo.binary main_v37 main_v38 main_v39 ((fun a b => concatenate S2x256x4096 0 [⟨S1x256x4096, a⟩, ⟨S1x256x4096, b⟩] concatenates_S1x256x4096_S1x256x4096_S2x256x4096_d0) : (⟨S1x256x4096, .f32⟩ : BufTy).Contents (Elt F) → (⟨S1x256x4096, .f32⟩ : BufTy).Contents (Elt F) → (⟨S2x256x4096, .f32⟩ : BufTy).Contents (Elt F)))]

/-- @main as its steps. -/
theorem main_eq (d : Dev nD) : main (F := F) d = (StableHlo.seqK ops0 (Prog.lift (.customCall (SparseCore.inner (Pipeline.entry 0)) ()) >>= fun _ => Prog.lift (.customCall (SparseCore.inner (Pipeline.entry 1)) ()) >>= fun _ => StableHlo.seqK ops2 ((K (F := F)).run d 0 >>= fun _ => StableHlo.seqK ops3 (Prog.lift (.customCall (SparseCore.inner (Pipeline.entry 2)) ()) >>= fun _ => StableHlo.seqK ops4 ((K (F := F)).run d 1 >>= fun _ => StableHlo.seqK ops5 (Prog.lift (.customCall (SparseCore.inner (Pipeline.entry 3)) ()) >>= fun _ => StableHlo.seqK ops6 ((K (F := F)).run d 2 >>= fun _ => StableHlo.seqK ops7 (Prog.lift (.customCall (SparseCore.inner (Pipeline.entry 4)) ()) >>= fun _ => StableHlo.seqK ops8 ((K (F := F)).run d 3 >>= fun _ => StableHlo.seqK ops9 (Prog.lift (.customCall (SparseCore.inner (Pipeline.entry 5)) ()) >>= fun _ => StableHlo.seqK ops10 (pure ⟨⟩))))))))))) := rfl

/-- The host's lines 0 name arrays of the device. -/
theorem ops0_sub : ∀ op ∈ ops0 (F := F), op.bufs ⊆ Pipeline.ucRefs τ sig := by
  unfold ops0
  intro op h
  simp only [List.mem_cons, List.not_mem_nil, _root_.or_false] at h
  rcases h with rfl | rfl | rfl | rfl | rfl | rfl | rfl <;> exact Pipeline.sub_ucRefs _ (by simp)
/-- The host's lines 0 allocate nothing. -/
theorem ops0_fresh : ∀ op ∈ ops0 (F := F), op.fresh = ∅ := by
  unfold ops0
  intro op h
  simp only [List.mem_cons, List.not_mem_nil, _root_.or_false] at h
  rcases h with rfl | rfl | rfl | rfl | rfl | rfl | rfl <;> rfl

/-- The host's lines 2 name arrays of the device. -/
theorem ops2_sub : ∀ op ∈ ops2 (F := F), op.bufs ⊆ Pipeline.ucRefs τ sig := by
  unfold ops2
  intro op h
  simp only [List.mem_cons, List.not_mem_nil, _root_.or_false] at h
  rcases h with rfl | rfl | rfl | rfl | rfl | rfl <;> exact Pipeline.sub_ucRefs _ (by simp)
/-- The host's lines 2 allocate nothing. -/
theorem ops2_fresh : ∀ op ∈ ops2 (F := F), op.fresh = ∅ := by
  unfold ops2
  intro op h
  simp only [List.mem_cons, List.not_mem_nil, _root_.or_false] at h
  rcases h with rfl | rfl | rfl | rfl | rfl | rfl <;> rfl

/-- The host's lines 3 name arrays of the device. -/
theorem ops3_sub : ∀ op ∈ ops3 (F := F), op.bufs ⊆ Pipeline.ucRefs τ sig := by
  unfold ops3
  intro op h
  simp only [List.mem_cons, List.not_mem_nil, _root_.or_false] at h
  subst h <;> exact Pipeline.sub_ucRefs _ (by simp)
/-- The host's lines 3 allocate nothing. -/
theorem ops3_fresh : ∀ op ∈ ops3 (F := F), op.fresh = ∅ := by
  unfold ops3
  intro op h
  simp only [List.mem_cons, List.not_mem_nil, _root_.or_false] at h
  subst h <;> rfl

/-- The host's lines 4 name arrays of the device. -/
theorem ops4_sub : ∀ op ∈ ops4 (F := F), op.bufs ⊆ Pipeline.ucRefs τ sig := by
  unfold ops4
  intro op h
  simp only [List.mem_cons, List.not_mem_nil, _root_.or_false] at h
  rcases h with rfl | rfl | rfl | rfl | rfl <;> exact Pipeline.sub_ucRefs _ (by simp)
/-- The host's lines 4 allocate nothing. -/
theorem ops4_fresh : ∀ op ∈ ops4 (F := F), op.fresh = ∅ := by
  unfold ops4
  intro op h
  simp only [List.mem_cons, List.not_mem_nil, _root_.or_false] at h
  rcases h with rfl | rfl | rfl | rfl | rfl <;> rfl

/-- The host's lines 5 name arrays of the device. -/
theorem ops5_sub : ∀ op ∈ ops5 (F := F), op.bufs ⊆ Pipeline.ucRefs τ sig := by
  unfold ops5
  intro op h
  simp only [List.mem_cons, List.not_mem_nil, _root_.or_false] at h
  subst h <;> exact Pipeline.sub_ucRefs _ (by simp)
/-- The host's lines 5 allocate nothing. -/
theorem ops5_fresh : ∀ op ∈ ops5 (F := F), op.fresh = ∅ := by
  unfold ops5
  intro op h
  simp only [List.mem_cons, List.not_mem_nil, _root_.or_false] at h
  subst h <;> rfl

/-- The host's lines 6 name arrays of the device. -/
theorem ops6_sub : ∀ op ∈ ops6 (F := F), op.bufs ⊆ Pipeline.ucRefs τ sig := by
  unfold ops6
  intro op h
  simp only [List.mem_cons, List.not_mem_nil, _root_.or_false] at h
  rcases h with rfl | rfl | rfl | rfl | rfl <;> exact Pipeline.sub_ucRefs _ (by simp)
/-- The host's lines 6 allocate nothing. -/
theorem ops6_fresh : ∀ op ∈ ops6 (F := F), op.fresh = ∅ := by
  unfold ops6
  intro op h
  simp only [List.mem_cons, List.not_mem_nil, _root_.or_false] at h
  rcases h with rfl | rfl | rfl | rfl | rfl <;> rfl

/-- The host's lines 7 name arrays of the device. -/
theorem ops7_sub : ∀ op ∈ ops7 (F := F), op.bufs ⊆ Pipeline.ucRefs τ sig := by
  unfold ops7
  intro op h
  simp only [List.mem_cons, List.not_mem_nil, _root_.or_false] at h
  subst h <;> exact Pipeline.sub_ucRefs _ (by simp)
/-- The host's lines 7 allocate nothing. -/
theorem ops7_fresh : ∀ op ∈ ops7 (F := F), op.fresh = ∅ := by
  unfold ops7
  intro op h
  simp only [List.mem_cons, List.not_mem_nil, _root_.or_false] at h
  subst h <;> rfl

/-- The host's lines 8 name arrays of the device. -/
theorem ops8_sub : ∀ op ∈ ops8 (F := F), op.bufs ⊆ Pipeline.ucRefs τ sig := by
  unfold ops8
  intro op h
  simp only [List.mem_cons, List.not_mem_nil, _root_.or_false] at h
  rcases h with rfl | rfl | rfl | rfl | rfl <;> exact Pipeline.sub_ucRefs _ (by simp)
/-- The host's lines 8 allocate nothing. -/
theorem ops8_fresh : ∀ op ∈ ops8 (F := F), op.fresh = ∅ := by
  unfold ops8
  intro op h
  simp only [List.mem_cons, List.not_mem_nil, _root_.or_false] at h
  rcases h with rfl | rfl | rfl | rfl | rfl <;> rfl

/-- The host's lines 9 name arrays of the device. -/
theorem ops9_sub : ∀ op ∈ ops9 (F := F), op.bufs ⊆ Pipeline.ucRefs τ sig := by
  unfold ops9
  intro op h
  simp only [List.mem_cons, List.not_mem_nil, _root_.or_false] at h
  subst h <;> exact Pipeline.sub_ucRefs _ (by simp)
/-- The host's lines 9 allocate nothing. -/
theorem ops9_fresh : ∀ op ∈ ops9 (F := F), op.fresh = ∅ := by
  unfold ops9
  intro op h
  simp only [List.mem_cons, List.not_mem_nil, _root_.or_false] at h
  subst h <;> rfl

/-- The host's lines 10 name arrays of the device. -/
theorem ops10_sub : ∀ op ∈ ops10 (F := F), op.bufs ⊆ Pipeline.ucRefs τ sig := by
  unfold ops10
  intro op h
  simp only [List.mem_cons, List.not_mem_nil, _root_.or_false] at h
  rcases h with rfl | rfl | rfl <;> exact Pipeline.sub_ucRefs _ (by simp)
/-- The host's lines 10 allocate nothing. -/
theorem ops10_fresh : ∀ op ∈ ops10 (F := F), op.fresh = ∅ := by
  unfold ops10
  intro op h
  simp only [List.mem_cons, List.not_mem_nil, _root_.or_false] at h
  rcases h with rfl | rfl | rfl <;> rfl

variable (m : (ℓ : Loc nD τ sig) → Buf (Elt F) ℓ) (ρ : Dev nD → PrngReg) (d : Dev nD)

/-! ## The contents along @main, each from the one before -/

/-- The launch contents. -/
def W0 : Valuation τ sig (Elt F) := fun b => m (d, b)
def W1 : Valuation τ sig (Elt F) := StableHlo.after ops0 (W0 m d)
def W2 : Valuation τ sig (Elt F) := Pipeline.afterRegion (dats (W1 m d) 0 0 d) (W1 m d)
def W3 : Valuation τ sig (Elt F) := Pipeline.afterRegion (dats (W2 m d) 0 1 d) (W2 m d)
def W4 : Valuation τ sig (Elt F) := StableHlo.after ops2 (W3 m d)
def W5 : Valuation τ sig (Elt F) := upd0 (W4 m d)
def W6 : Valuation τ sig (Elt F) := StableHlo.after ops3 (W5 m d)
def W7 : Valuation τ sig (Elt F) := Pipeline.afterRegion (dats (W6 m d) 1 2 d) (W6 m d)
def W8 : Valuation τ sig (Elt F) := StableHlo.after ops4 (W7 m d)
def W9 : Valuation τ sig (Elt F) := upd1 (W8 m d)
def W10 : Valuation τ sig (Elt F) := StableHlo.after ops5 (W9 m d)
def W11 : Valuation τ sig (Elt F) := Pipeline.afterRegion (dats (W10 m d) 2 3 d) (W10 m d)
def W12 : Valuation τ sig (Elt F) := StableHlo.after ops6 (W11 m d)
def W13 : Valuation τ sig (Elt F) := upd2 (W12 m d)
def W14 : Valuation τ sig (Elt F) := StableHlo.after ops7 (W13 m d)
def W15 : Valuation τ sig (Elt F) := Pipeline.afterRegion (dats (W14 m d) 3 4 d) (W14 m d)
def W16 : Valuation τ sig (Elt F) := StableHlo.after ops8 (W15 m d)
def W17 : Valuation τ sig (Elt F) := upd3 (W16 m d)
def W18 : Valuation τ sig (Elt F) := StableHlo.after ops9 (W17 m d)
def W19 : Valuation τ sig (Elt F) := Pipeline.afterRegion (dats (W18 m d) 4 5 d) (W18 m d)
def W20 : Valuation τ sig (Elt F) := StableHlo.after ops10 (W19 m d)

/-- The contents at the four dispatches. -/
def VV : Contents4 F := fun d q => match q with
  | 0 => W4 m d
  | 1 => W8 m d
  | 2 => W12 m d
  | 3 => W16 m d

/-- Host lines as one step of @main. -/
theorem host_wp (ops : List (HloOp τ sig (Elt F))) (hs : ∀ op ∈ ops, op.bufs ⊆ Pipeline.ucRefs τ sig) (hf : ∀ op ∈ ops, op.fresh = ∅)
    (V V' : Valuation τ sig (Elt F)) (h : StableHlo.after ops V = V') (k : Prog (TpuEff nD τ sig (Elt F) (SparseCore.Sig (ΛP (F := F)) 4) .tc) PUnit) (Q : PUnit → sProp 𝕄) :
    iprop(boundary (SparseCore.T d) ∗ StableHlo.held (SparseCore.T d) (Pipeline.ucRefs τ sig) V
        ∗ ((boundary (SparseCore.T d) ∗ StableHlo.held (SparseCore.T d) (Pipeline.ucRefs τ sig) V')
            -∗ wp frame (wpE ((K (F := F)).defs (D (F := F))) 𝒱 (SparseCore.T d) none) Set.univ k Q))
      ⊢ wp frame (wpE ((K (F := F)).defs (D (F := F))) 𝒱 (SparseCore.T d) none) Set.univ (StableHlo.seqK ops k) Q := by
  subst h
  rw [← StableHlo.seq_bind_seqK]
  iintro ⟨Hb, Hh, Hk⟩
  iapply (StableHlo.wp_seq 𝒱 none Set.univ d (Pipeline.ucRefs τ sig) (fun _ => k) ops hs hf V) $$ [Hb Hh]
  · isplitl [Hb]; · iexact Hb
    iexact Hh
  iexact Hk

/-- A stage's ghost state. -/
abbrev Gh (p : Fin 6) (d : Dev nD) : sProp 𝕄 :=
  iprop(Pipeline.cellsGhost (Pipeline.pin (pcfgs (F := F)) adm) EP p d ∗ Pipeline.toksInit (Pipeline.pin (pcfgs (F := F)) adm) EP p d)

/-- @main on device `d`'s TensorCore. -/
theorem hmain (κ : GSem nD τ sig → ℕ) :
    iprop((K (F := F)).ctx EH (P (VV m)) κ ∗ (K (F := F)).tcSt EH d 0 ∗ (K (F := F)).tcRes m ρ d ∗ bigSep Finset.univ fun p : Fin 6 => Gh p d)
      ⊢ wp frame (wpE ((K (F := F)).defs (D (F := F))) 𝒱 (SparseCore.T d) none) Set.univ (main d)
          fun _ => iprop((K (F := F)).tcSt EH d 4 ∗ StableHlo.held (SparseCore.T d) (Pipeline.ucRefs τ sig) (W20 m d) ∗ (K (F := F)).tcEnd d) := by
  unfold SparseCore.Cfg.tcRes SparseCore.Cfg.tcEnd
  rw [show (unscopedBufs d (fun b => m ((SparseCore.T d).loc b)) : sProp 𝕄) = StableHlo.held (SparseCore.T d) (Pipeline.ucRefs τ sig) (W0 m d) from
    Pipeline.unscopedBufs_held d (W0 m d), main_eq,
    show (bigSep Finset.univ fun p : Fin 6 => Gh (F := F) p d) = iprop(Gh 0 d ∗ Gh 1 d ∗ Gh 2 d ∗ Gh 3 d ∗ Gh 4 d ∗ Gh 5 d) from bigSep_W0 (fun p => Gh p d)]
  iintro ⟨#Hctx, Hst, ⟨Hb, Hh, Hts, -⟩, HG0, HG1, HG2, HG3, HG4, HG5⟩
  ihave #Hlv := (SparseCore.Cfg.ctx_levAts (K := K (F := F)) (P := P (VV m)) κ) $$ Hctx
  iapply (host_wp d ops0 ops0_sub ops0_fresh (W0 m d) (W1 m d) rfl _ _)
  isplitl [Hb]; · iexact Hb
  isplitl [Hh]; · iexact Hh
  iintro ⟨Hb, Hh⟩
  rw [wp_bind]
  icases HG0 with ⟨Hg, Ht⟩
  iapply (region_wp (W1 m d) 0 0 d _)
  isplitr; · iexact Hlv
  isplitl [Hb]; · iexact Hb
  isplitl [Hh]; · iexact Hh
  isplitl [Hst]; · iexact Hst
  isplitl [Hg]; · iexact Hg
  isplitl [Ht]; · iexact Ht
  iintro ⟨Hb, Hh, Hst⟩
  rw [show Pipeline.afterRegion (dats (W1 m d) 0 0 d) (W1 m d) = W2 m d from rfl]
  rw [wp_bind]
  icases HG1 with ⟨Hg, Ht⟩
  iapply (region_wp (W2 m d) 0 1 d _)
  isplitr; · iexact Hlv
  isplitl [Hb]; · iexact Hb
  isplitl [Hh]; · iexact Hh
  isplitl [Hst]; · iexact Hst
  isplitl [Hg]; · iexact Hg
  isplitl [Ht]; · iexact Ht
  iintro ⟨Hb, Hh, Hst⟩
  rw [show Pipeline.afterRegion (dats (W2 m d) 0 1 d) (W2 m d) = W3 m d from rfl]
  iapply (host_wp d ops2 ops2_sub ops2_fresh (W3 m d) (W4 m d) rfl _ _)
  isplitl [Hb]; · iexact Hb
  isplitl [Hh]; · iexact Hh
  iintro ⟨Hb, Hh⟩
  rw [wp_bind]
  iapply (call_wp0 (VV m) κ d _)
  isplitr; · iexact Hctx
  isplitl [Hh]; · iexact Hh
  isplitl [Hst]; · iexact Hst
  iintro ⟨Hh, Hst⟩
  rw [show upd0 (VV m d 0) = W5 m d from rfl]
  iapply (host_wp d ops3 ops3_sub ops3_fresh (W5 m d) (W6 m d) rfl _ _)
  isplitl [Hb]; · iexact Hb
  isplitl [Hh]; · iexact Hh
  iintro ⟨Hb, Hh⟩
  rw [wp_bind]
  icases HG2 with ⟨Hg, Ht⟩
  iapply (region_wp (W6 m d) 1 2 d _)
  isplitr; · iexact Hlv
  isplitl [Hb]; · iexact Hb
  isplitl [Hh]; · iexact Hh
  isplitl [Hst]; · iexact Hst
  isplitl [Hg]; · iexact Hg
  isplitl [Ht]; · iexact Ht
  iintro ⟨Hb, Hh, Hst⟩
  rw [show Pipeline.afterRegion (dats (W6 m d) 1 2 d) (W6 m d) = W7 m d from rfl]
  iapply (host_wp d ops4 ops4_sub ops4_fresh (W7 m d) (W8 m d) rfl _ _)
  isplitl [Hb]; · iexact Hb
  isplitl [Hh]; · iexact Hh
  iintro ⟨Hb, Hh⟩
  rw [wp_bind]
  iapply (call_wp1 (VV m) κ d _)
  isplitr; · iexact Hctx
  isplitl [Hh]; · iexact Hh
  isplitl [Hst]; · iexact Hst
  iintro ⟨Hh, Hst⟩
  rw [show upd1 (VV m d 1) = W9 m d from rfl]
  iapply (host_wp d ops5 ops5_sub ops5_fresh (W9 m d) (W10 m d) rfl _ _)
  isplitl [Hb]; · iexact Hb
  isplitl [Hh]; · iexact Hh
  iintro ⟨Hb, Hh⟩
  rw [wp_bind]
  icases HG3 with ⟨Hg, Ht⟩
  iapply (region_wp (W10 m d) 2 3 d _)
  isplitr; · iexact Hlv
  isplitl [Hb]; · iexact Hb
  isplitl [Hh]; · iexact Hh
  isplitl [Hst]; · iexact Hst
  isplitl [Hg]; · iexact Hg
  isplitl [Ht]; · iexact Ht
  iintro ⟨Hb, Hh, Hst⟩
  rw [show Pipeline.afterRegion (dats (W10 m d) 2 3 d) (W10 m d) = W11 m d from rfl]
  iapply (host_wp d ops6 ops6_sub ops6_fresh (W11 m d) (W12 m d) rfl _ _)
  isplitl [Hb]; · iexact Hb
  isplitl [Hh]; · iexact Hh
  iintro ⟨Hb, Hh⟩
  rw [wp_bind]
  iapply (call_wp2 (VV m) κ d _)
  isplitr; · iexact Hctx
  isplitl [Hh]; · iexact Hh
  isplitl [Hst]; · iexact Hst
  iintro ⟨Hh, Hst⟩
  rw [show upd2 (VV m d 2) = W13 m d from rfl]
  iapply (host_wp d ops7 ops7_sub ops7_fresh (W13 m d) (W14 m d) rfl _ _)
  isplitl [Hb]; · iexact Hb
  isplitl [Hh]; · iexact Hh
  iintro ⟨Hb, Hh⟩
  rw [wp_bind]
  icases HG4 with ⟨Hg, Ht⟩
  iapply (region_wp (W14 m d) 3 4 d _)
  isplitr; · iexact Hlv
  isplitl [Hb]; · iexact Hb
  isplitl [Hh]; · iexact Hh
  isplitl [Hst]; · iexact Hst
  isplitl [Hg]; · iexact Hg
  isplitl [Ht]; · iexact Ht
  iintro ⟨Hb, Hh, Hst⟩
  rw [show Pipeline.afterRegion (dats (W14 m d) 3 4 d) (W14 m d) = W15 m d from rfl]
  iapply (host_wp d ops8 ops8_sub ops8_fresh (W15 m d) (W16 m d) rfl _ _)
  isplitl [Hb]; · iexact Hb
  isplitl [Hh]; · iexact Hh
  iintro ⟨Hb, Hh⟩
  rw [wp_bind]
  iapply (call_wp3 (VV m) κ d _)
  isplitr; · iexact Hctx
  isplitl [Hh]; · iexact Hh
  isplitl [Hst]; · iexact Hst
  iintro ⟨Hh, Hst⟩
  rw [show upd3 (VV m d 3) = W17 m d from rfl]
  iapply (host_wp d ops9 ops9_sub ops9_fresh (W17 m d) (W18 m d) rfl _ _)
  isplitl [Hb]; · iexact Hb
  isplitl [Hh]; · iexact Hh
  iintro ⟨Hb, Hh⟩
  rw [wp_bind]
  icases HG5 with ⟨Hg, Ht⟩
  iapply (region_wp (W18 m d) 4 5 d _)
  isplitr; · iexact Hlv
  isplitl [Hb]; · iexact Hb
  isplitl [Hh]; · iexact Hh
  isplitl [Hst]; · iexact Hst
  isplitl [Hg]; · iexact Hg
  isplitl [Ht]; · iexact Ht
  iintro ⟨Hb, Hh, Hst⟩
  rw [show Pipeline.afterRegion (dats (W18 m d) 4 5 d) (W18 m d) = W19 m d from rfl]
  iapply (host_wp d ops10 ops10_sub ops10_fresh (W19 m d) (W20 m d) rfl _ _)
  isplitl [Hb]; · iexact Hb
  isplitl [Hh]; · iexact Hh
  iintro ⟨Hb, Hh⟩
  rw [wp_pure]
  imodintro
  isplitl [Hst]; · iexact Hst
  isplitl [Hh]; · iexact Hh
  isplitl [Hb]; · iexact Hb
  iexact Hts

end Cert.Proof.Run

end
-- ==== Proof.Launch.lean ====
module

public import proofs.«01_k».proof.Proof.Main

@[expose] public section

noncomputable section

namespace Cert.Proof.Run

open Cert.KernelIdeal Cert.KernelIdeal.Gen Cert.Proof.Tile Cert.Proof.Reg
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]
/-- The launch element: the handshakes' cells and the stages' cells. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

omit [FloatOps F] in
/-- Nothing, many times, is nothing. -/
theorem emps {I : Type} (s : Finset I) : (bigSep s fun _ => iprop(emp)) = (iprop(emp) : sProp 𝕄) := bigSep_emp_const s

/-- The launch's ghosts, shared out. -/
theorem hu₀ (X : Contents4 F) : (ownU (u₀ (F := F)) : sProp 𝕄)
    ⊢ |={Set.univ}=> iprop(BI.own (EH (initOf (K (F := F)).hsCells (K (F := F)).hsToks)) ∗ (bigSep Finset.univ fun d : Dev nD => bigSep Finset.univ fun p : Fin 6 => Gh (F := F) p d)
        ∗ bigSep Finset.univ fun thr : Thread nD τ => bigSep Finset.univ fun q : Fin 4 => (P X).x q thr) := by
  unfold u₀
  iintro Hu
  ihave H := (ownU_pair (initOf (K (F := F)).hsCells (K (F := F)).hsToks) (initOf (Pipeline.cells (Pipeline.pin (pcfgs (F := F)) adm) cellOf_inj) (Pipeline.launchToks (Pipeline.pin (pcfgs (F := F)) adm) cellOf_inj), (1 : Counters))) $$ Hu
  icases H with ⟨HH, HR⟩
  ihave HP := (own_pair_emb embR (initOf (Pipeline.cells (Pipeline.pin (pcfgs (F := F)) adm) cellOf_inj) (Pipeline.launchToks (Pipeline.pin (pcfgs (F := F)) adm) cellOf_inj)) (1 : Counters)) $$ HR
  icases HP with ⟨HP, -⟩
  imod (Pipeline.fund_ghost (Pipeline.pin (pcfgs (F := F)) adm) (EP (F := F)) cellOf_inj) $$ HP with ⟨Hg, Ht⟩
  imodintro
  isplitl [HH]; · iexact HH
  isplitl [Hg Ht]
  · rw [show (bigSep Finset.univ fun d : Dev nD => bigSep Finset.univ fun p : Fin 6 => Gh (F := F) p d)
        = iprop((bigSep Finset.univ fun d : Dev nD => bigSep Finset.univ fun p : Fin 6 => Pipeline.cellsGhost (Pipeline.pin (pcfgs (F := F)) adm) EP p d)
          ∗ bigSep Finset.univ fun d : Dev nD => bigSep Finset.univ fun p : Fin 6 => Pipeline.toksInit (Pipeline.pin (pcfgs (F := F)) adm) EP p d) from by
      rw [← bigSep_sep']; exact bigSep_congr fun d _ => bigSep_sep' _ _ _]
    isplitl [Hg] <;> iassumption
  rw [show (bigSep Finset.univ fun thr : Thread nD τ => bigSep Finset.univ fun q : Fin 4 => (P (F := F) X).x q thr) = bigSep Finset.univ fun _ => iprop(emp) from
    bigSep_congr fun _ _ => (bigSep_congr fun q _ => rfl).trans (emps (Finset.univ : Finset (Fin 4))), emps]
  iempintro

/-- The final memory's arrays hold `V`. -/
def fq (V : Valuation τ sig (Elt F)) (d : Dev nD) (s' : Phys nD τ sig (Elt F)) : Prop := ∀ b ∈ Pipeline.ucRefs τ sig, s'.mem.mem (d, b) = V b

omit [FloatOps F] in
/-- An array held at its contents agrees with the memory. -/
theorem held_agree (V : Valuation τ sig (Elt F)) (d : Dev nD) (s' : Phys nD τ sig (Elt F)) (b : DevRef τ sig) (hb : b ∈ Pipeline.ucRefs τ sig) :
    iprop(StableHlo.held (SparseCore.T d) (Pipeline.ucRefs τ sig) V ∗ SI s') ⊢ (⌜s'.mem.mem (d, b) = V b⌝ : sProp 𝕄) := by
  iintro ⟨Hh, HSI⟩
  ihave Hb := (show (StableHlo.held (SparseCore.T d) (Pipeline.ucRefs τ sig) V : sProp 𝕄) ⊢ (((d, b) : Loc nD τ sig) ↦{fullShare} V b : sProp 𝕄) from
    bigSep_elim (Φ := fun b => (((d, b) : Loc nD τ sig) ↦{fullShare} V b : sProp 𝕄)) hb) $$ Hh
  ihave H := (SI_pointsTo_agree (st := s') (ℓ := (d, b)) (I := Finset.univ) (q := fullShare) (f := V b)) $$ [HSI Hb]
  · isplitl [HSI] <;> iassumption
  icases H with %h
  ipureintro
  exact funext fun i => h i (Finset.mem_univ i)

omit [FloatOps F] in
/-- So do any number of them. -/
theorem held_agrees (V : Valuation τ sig (Elt F)) (d : Dev nD) (s' : Phys nD τ sig (Elt F)) (S : Finset (DevRef τ sig)) (hS : S ⊆ Pipeline.ucRefs τ sig) :
    iprop(StableHlo.held (SparseCore.T d) (Pipeline.ucRefs τ sig) V ∗ SI s') ⊢ (⌜∀ b ∈ S, s'.mem.mem (d, b) = V b⌝ : sProp 𝕄) := by
  induction S using Finset.induction_on with
  | empty => exact BI.pure_intro fun b hb => absurd hb (Finset.notMem_empty b)
  | insert b S _ ih =>
    refine Laws.pure_elim _ (held_agree V d s' b (hS (Finset.mem_insert_self b S))) fun hb => ?_
    refine Laws.pure_elim _ (ih fun x hx => hS (Finset.mem_insert_of_mem hx)) fun hS' => ?_
    refine BIClass.pure_intro fun x hx => ?_
    rcases Finset.mem_insert.1 hx with h | hx
    · exact h ▸ hb
    · exact hS' x hx

omit [FloatOps F] in
/-- At the end every array agrees with the memory. -/
theorem hfin (V : Valuation τ sig (Elt F)) (d : Dev nD) (s' : Phys nD τ sig (Elt F)) :
    iprop(StableHlo.held (SparseCore.T d) (Pipeline.ucRefs τ sig) V ∗ SI s') ⊢ (⌜fq V d s'⌝ : sProp 𝕄) :=
  held_agrees V d s' _ (Finset.Subset.refl _)

/-- What the run ends with: every array at the contents `W`, every counter at zero. -/
def QC (W : Dev nD → Valuation τ sig (Elt F)) : PUnit × MemSt nD τ sig (Elt F) → Prop := fun r =>
  (∀ c : Dev nD, ∀ b ∈ Pipeline.ucRefs τ sig, r.2.mem (c, b) = W c b) ∧ r.2.sem = fun _ => 0

variable (m : (ℓ : Loc nD τ sig) → Buf (Elt F) ℓ) (ρ : Dev nD → PrngReg)

/-- The run from @main's triple, the contents at the dispatches and at the end being anything. -/
theorem run_of [∀ e, Nonempty (Elt F e)] (X : Contents4 F) (W : Dev nD → Valuation τ sig (Elt F)) (hpre : PreOK X)
    (hm : ∀ (κ : GSem nD τ sig → ℕ) (d : Dev nD),
      iprop((K (F := F)).ctx EH (P X) κ ∗ (K (F := F)).tcSt EH d 0 ∗ (K (F := F)).tcRes m ρ d ∗ bigSep Finset.univ fun p : Fin 6 => Gh p d)
        ⊢ wp frame (wpE ((K (F := F)).defs (D (F := F))) 𝒱 (SparseCore.T d) none) Set.univ (main d)
            fun _ => iprop((K (F := F)).tcSt EH d 4 ∗ StableHlo.held (SparseCore.T d) (Pipeline.ucRefs τ sig) (W d) ∗ (K (F := F)).tcEnd d)) :
    θ_run (Cert.KernelIdeal.defs (F := F)) (Cert.KernelIdeal.threads (F := F)) ⟨m, fun _ => 0, ρ⟩ (QC W) :=
  SparseCore.Cfg.θ_run_sc_quiescent (K := K (F := F)) (D := D (F := F)) (𝒱 := 𝒱) (EH := EH) (P := P X) (A := ∅) facts v₀
    (fun q hq => match q with | 0 => nomatch hq | 1 => nomatch hq | 2 => nomatch hq | 3 => nomatch hq)
    (fun q _ => match q with | 0 => tileObl0 X facts hpre | 1 => tileObl1 X facts hpre | 2 => tileObl2 X facts hpre | 3 => tileObl3 X facts hpre)
    (fun q _ => match q with
      | 0 => SparseCore.Cfg.VecSplit.of_plain (vecSplit0 X)
      | 1 => SparseCore.Cfg.VecSplit.of_plain (vecSplit1 X)
      | 2 => SparseCore.Cfg.VecSplit.of_plain (vecSplit2 X)
      | 3 => SparseCore.Cfg.VecSplit.of_plain (vecSplit3 X))
    m ρ main (fun d => bigSep Finset.univ fun p : Fin 6 => Gh (F := F) p d) (fun d => StableHlo.held (SparseCore.T d) (Pipeline.ucRefs τ sig) (W d)) (u₀ (F := F))
    (sep_elim_left.trans (hu₀ X)) hm (fun d s' => fq (W d) d s') (fun d s' => hfin (W d) d s') (QC W) (fun _ h hz => ⟨h, hz⟩)

/-- THE RUN, over any float values: with the dispatched lists' entries in range every weakly fair execution ends, each
    array at the contents the stages, the gathers and the host's lines compose. -/
theorem run_main [∀ e, Nonempty (Elt F e)] (hpre : PreOK (VV m)) :
    θ_run (Cert.KernelIdeal.defs (F := F)) (Cert.KernelIdeal.threads (F := F)) ⟨m, fun _ => 0, ρ⟩ (QC (W20 m)) :=
  run_of m ρ (VV m) (W20 m) hpre fun κ d => hmain m ρ d κ

end Cert.Proof.Run

end
-- ==== Proof.Keep.lean ====
module

public import proofs.«01_k».proof.Proof.Main

@[expose] public section

noncomputable section

namespace Cert.Proof.Run

open Cert.KernelIdeal Cert.KernelIdeal.Gen Cert.Proof.Tile Cert.Proof.Reg
open Idealize.ShloMosaic

variable {F : FTy → Type} [FloatOps F]

/-! ## What each step of @main leaves alone, at any contents -/

section
variable (V : Valuation τ sig (Elt F)) (n : ℕ) (d : Dev nD)

/-- The host's lines 0 change only the values they define. -/
theorem keep_ops0 (r : Ref sig .tc) (h : r ∉ ([main_v0, main_v1, main_v2, main_cst, main_v3, main_v4, main_v5] : List (Ref sig .tc))) : StableHlo.after ops0 V (at_ r) = V (at_ r) :=
  StableHlo.after_of_writes_sub ops0 V (StableHlo.forall_writes_sub_of_map rfl) h
/-- Region 0 changes only its results. -/
theorem keep_reg0 (r : Ref sig .tc) (h : r ∉ ([main_v6_0, main_v6_1] : List (Ref sig .tc))) : Pipeline.afterRegion (dats V n 0 d) V (at_ r) = V (at_ r) :=
  Pipeline.afterRegion_keeps (dats V n 0 d) V (kit (F := F) 0).win.arr_inj (fun w => dats_A V n 0 d w) r fun w e => match w, e with
    | ⟨0,_⟩, e => rfl
    | ⟨1,_⟩, e => rfl
    | ⟨2,_⟩, e => rfl
    | ⟨3,_⟩, e => rfl
    | ⟨4,_⟩, e => absurd (e ▸ (by decide : (main_v6_0 : Ref sig .tc) ∈ ([main_v6_0, main_v6_1] : List (Ref sig .tc)))) h
    | ⟨5,_⟩, e => absurd (e ▸ (by decide : (main_v6_1 : Ref sig .tc) ∈ ([main_v6_0, main_v6_1] : List (Ref sig .tc)))) h
/-- Region 1 changes only its results. -/
theorem keep_reg1 (r : Ref sig .tc) (h : r ∉ ([main_v7] : List (Ref sig .tc))) : Pipeline.afterRegion (dats V n 1 d) V (at_ r) = V (at_ r) :=
  Pipeline.afterRegion_keeps (dats V n 1 d) V (kit (F := F) 1).win.arr_inj (fun w => dats_A V n 1 d w) r fun w e => match w, e with
    | ⟨0,_⟩, e => rfl
    | ⟨1,_⟩, e => rfl
    | ⟨2,_⟩, e => rfl
    | ⟨3,_⟩, e => rfl
    | ⟨4,_⟩, e => rfl
    | ⟨5,_⟩, e => absurd (e ▸ (by decide : (main_v7 : Ref sig .tc) ∈ ([main_v7] : List (Ref sig .tc)))) h
/-- The host's lines 2 change only the values they define. -/
theorem keep_ops2 (r : Ref sig .tc) (h : r ∉ ([main_v8, main_v9, main_c, main_v10, main_v11, main_v12] : List (Ref sig .tc))) : StableHlo.after ops2 V (at_ r) = V (at_ r) :=
  StableHlo.after_of_writes_sub ops2 V (StableHlo.forall_writes_sub_of_map rfl) h
/-- Dispatch 0 changes only its result. -/
theorem keep_upd0 (r : Ref sig .tc) (h : r ∉ ([main_v13] : List (Ref sig .tc))) : upd0 V (at_ r) = V (at_ r) :=
  Function.update_of_ne (fun e => h (List.mem_singleton.2 (Proc.devRef_injective _ e))) _ _
/-- The host's lines 3 change only the values they define. -/
theorem keep_ops3 (r : Ref sig .tc) (h : r ∉ ([main_v14] : List (Ref sig .tc))) : StableHlo.after ops3 V (at_ r) = V (at_ r) :=
  StableHlo.after_of_writes_sub ops3 V (StableHlo.forall_writes_sub_of_map rfl) h
/-- Region 2 changes only its results. -/
theorem keep_reg2 (r : Ref sig .tc) (h : r ∉ ([main_v15] : List (Ref sig .tc))) : Pipeline.afterRegion (dats V n 2 d) V (at_ r) = V (at_ r) :=
  Pipeline.afterRegion_keeps (dats V n 2 d) V (kit (F := F) 2).win.arr_inj (fun w => dats_A V n 2 d w) r fun w e => match w, e with
    | ⟨0,_⟩, e => rfl
    | ⟨1,_⟩, e => rfl
    | ⟨2,_⟩, e => rfl
    | ⟨3,_⟩, e => absurd (e ▸ (by decide : (main_v15 : Ref sig .tc) ∈ ([main_v15] : List (Ref sig .tc)))) h
/-- The host's lines 4 change only the values they define. -/
theorem keep_ops4 (r : Ref sig .tc) (h : r ∉ ([main_v16, main_c_0, main_v17, main_v18, main_v19] : List (Ref sig .tc))) : StableHlo.after ops4 V (at_ r) = V (at_ r) :=
  StableHlo.after_of_writes_sub ops4 V (StableHlo.forall_writes_sub_of_map rfl) h
/-- Dispatch 1 changes only its result. -/
theorem keep_upd1 (r : Ref sig .tc) (h : r ∉ ([main_v20] : List (Ref sig .tc))) : upd1 V (at_ r) = V (at_ r) :=
  Function.update_of_ne (fun e => h (List.mem_singleton.2 (Proc.devRef_injective _ e))) _ _
/-- The host's lines 5 change only the values they define. -/
theorem keep_ops5 (r : Ref sig .tc) (h : r ∉ ([main_v21] : List (Ref sig .tc))) : StableHlo.after ops5 V (at_ r) = V (at_ r) :=
  StableHlo.after_of_writes_sub ops5 V (StableHlo.forall_writes_sub_of_map rfl) h
/-- Region 3 changes only its results. -/
theorem keep_reg3 (r : Ref sig .tc) (h : r ∉ ([main_v22] : List (Ref sig .tc))) : Pipeline.afterRegion (dats V n 3 d) V (at_ r) = V (at_ r) :=
  Pipeline.afterRegion_keeps (dats V n 3 d) V (kit (F := F) 3).win.arr_inj (fun w => dats_A V n 3 d w) r fun w e => match w, e with
    | ⟨0,_⟩, e => rfl
    | ⟨1,_⟩, e => rfl
    | ⟨2,_⟩, e => rfl
    | ⟨3,_⟩, e => absurd (e ▸ (by decide : (main_v22 : Ref sig .tc) ∈ ([main_v22] : List (Ref sig .tc)))) h
/-- The host's lines 6 change only the values they define. -/
theorem keep_ops6 (r : Ref sig .tc) (h : r ∉ ([main_v23, main_c_1, main_v24, main_v25, main_v26] : List (Ref sig .tc))) : StableHlo.after ops6 V (at_ r) = V (at_ r) :=
  StableHlo.after_of_writes_sub ops6 V (StableHlo.forall_writes_sub_of_map rfl) h
/-- Dispatch 2 changes only its result. -/
theorem keep_upd2 (r : Ref sig .tc) (h : r ∉ ([main_v27] : List (Ref sig .tc))) : upd2 V (at_ r) = V (at_ r) :=
  Function.update_of_ne (fun e => h (List.mem_singleton.2 (Proc.devRef_injective _ e))) _ _
/-- The host's lines 7 change only the values they define. -/
theorem keep_ops7 (r : Ref sig .tc) (h : r ∉ ([main_v28] : List (Ref sig .tc))) : StableHlo.after ops7 V (at_ r) = V (at_ r) :=
  StableHlo.after_of_writes_sub ops7 V (StableHlo.forall_writes_sub_of_map rfl) h
/-- Region 4 changes only its results. -/
theorem keep_reg4 (r : Ref sig .tc) (h : r ∉ ([main_v29] : List (Ref sig .tc))) : Pipeline.afterRegion (dats V n 4 d) V (at_ r) = V (at_ r) :=
  Pipeline.afterRegion_keeps (dats V n 4 d) V (kit (F := F) 4).win.arr_inj (fun w => dats_A V n 4 d w) r fun w e => match w, e with
    | ⟨0,_⟩, e => rfl
    | ⟨1,_⟩, e => rfl
    | ⟨2,_⟩, e => rfl
    | ⟨3,_⟩, e => absurd (e ▸ (by decide : (main_v29 : Ref sig .tc) ∈ ([main_v29] : List (Ref sig .tc)))) h
/-- The host's lines 8 change only the values they define. -/
theorem keep_ops8 (r : Ref sig .tc) (h : r ∉ ([main_v30, main_c_2, main_v31, main_v32, main_v33] : List (Ref sig .tc))) : StableHlo.after ops8 V (at_ r) = V (at_ r) :=
  StableHlo.after_of_writes_sub ops8 V (StableHlo.forall_writes_sub_of_map rfl) h
/-- Dispatch 3 changes only its result. -/
theorem keep_upd3 (r : Ref sig .tc) (h : r ∉ ([main_v34] : List (Ref sig .tc))) : upd3 V (at_ r) = V (at_ r) :=
  Function.update_of_ne (fun e => h (List.mem_singleton.2 (Proc.devRef_injective _ e))) _ _
/-- The host's lines 9 change only the values they define. -/
theorem keep_ops9 (r : Ref sig .tc) (h : r ∉ ([main_v35] : List (Ref sig .tc))) : StableHlo.after ops9 V (at_ r) = V (at_ r) :=
  StableHlo.after_of_writes_sub ops9 V (StableHlo.forall_writes_sub_of_map rfl) h
/-- Region 5 changes only its results. -/
theorem keep_reg5 (r : Ref sig .tc) (h : r ∉ ([main_v36] : List (Ref sig .tc))) : Pipeline.afterRegion (dats V n 5 d) V (at_ r) = V (at_ r) :=
  Pipeline.afterRegion_keeps (dats V n 5 d) V (kit (F := F) 5).win.arr_inj (fun w => dats_A V n 5 d w) r fun w e => match w, e with
    | ⟨0,_⟩, e => rfl
    | ⟨1,_⟩, e => rfl
    | ⟨2,_⟩, e => rfl
    | ⟨3,_⟩, e => absurd (e ▸ (by decide : (main_v36 : Ref sig .tc) ∈ ([main_v36] : List (Ref sig .tc)))) h
/-- The host's lines 10 change only the values they define. -/
theorem keep_ops10 (r : Ref sig .tc) (h : r ∉ ([main_v37, main_v38, main_v39] : List (Ref sig .tc))) : StableHlo.after ops10 V (at_ r) = V (at_ r) :=
  StableHlo.after_of_writes_sub ops10 V (StableHlo.forall_writes_sub_of_map rfl) h

end

/-! ## … and so along @main -/

section
variable (m : (ℓ : Loc nD τ sig) → Buf (Elt F) ℓ) (d : Dev nD)

/-- Step 1 of the run changes only the values it defines. -/
theorem keep1 (r : Ref sig .tc) (h : r ∉ ([main_v0, main_v1, main_v2, main_cst, main_v3, main_v4, main_v5] : List (Ref sig .tc))) : W1 m d (at_ r) = W0 m d (at_ r) := keep_ops0 _ r h
/-- Step 2 of the run changes only the values it defines. -/
theorem keep2 (r : Ref sig .tc) (h : r ∉ ([main_v6_0, main_v6_1] : List (Ref sig .tc))) : W2 m d (at_ r) = W1 m d (at_ r) := keep_reg0 _ _ _ r h
/-- Step 3 of the run changes only the values it defines. -/
theorem keep3 (r : Ref sig .tc) (h : r ∉ ([main_v7] : List (Ref sig .tc))) : W3 m d (at_ r) = W2 m d (at_ r) := keep_reg1 _ _ _ r h
/-- Step 4 of the run changes only the values it defines. -/
theorem keep4 (r : Ref sig .tc) (h : r ∉ ([main_v8, main_v9, main_c, main_v10, main_v11, main_v12] : List (Ref sig .tc))) : W4 m d (at_ r) = W3 m d (at_ r) := keep_ops2 _ r h
/-- Step 5 of the run changes only the values it defines. -/
theorem keep5 (r : Ref sig .tc) (h : r ∉ ([main_v13] : List (Ref sig .tc))) : W5 m d (at_ r) = W4 m d (at_ r) := keep_upd0 _ r h
/-- Step 6 of the run changes only the values it defines. -/
theorem keep6 (r : Ref sig .tc) (h : r ∉ ([main_v14] : List (Ref sig .tc))) : W6 m d (at_ r) = W5 m d (at_ r) := keep_ops3 _ r h
/-- Step 7 of the run changes only the values it defines. -/
theorem keep7 (r : Ref sig .tc) (h : r ∉ ([main_v15] : List (Ref sig .tc))) : W7 m d (at_ r) = W6 m d (at_ r) := keep_reg2 _ _ _ r h
/-- Step 8 of the run changes only the values it defines. -/
theorem keep8 (r : Ref sig .tc) (h : r ∉ ([main_v16, main_c_0, main_v17, main_v18, main_v19] : List (Ref sig .tc))) : W8 m d (at_ r) = W7 m d (at_ r) := keep_ops4 _ r h
/-- Step 9 of the run changes only the values it defines. -/
theorem keep9 (r : Ref sig .tc) (h : r ∉ ([main_v20] : List (Ref sig .tc))) : W9 m d (at_ r) = W8 m d (at_ r) := keep_upd1 _ r h
/-- Step 10 of the run changes only the values it defines. -/
theorem keep10 (r : Ref sig .tc) (h : r ∉ ([main_v21] : List (Ref sig .tc))) : W10 m d (at_ r) = W9 m d (at_ r) := keep_ops5 _ r h
/-- Step 11 of the run changes only the values it defines. -/
theorem keep11 (r : Ref sig .tc) (h : r ∉ ([main_v22] : List (Ref sig .tc))) : W11 m d (at_ r) = W10 m d (at_ r) := keep_reg3 _ _ _ r h
/-- Step 12 of the run changes only the values it defines. -/
theorem keep12 (r : Ref sig .tc) (h : r ∉ ([main_v23, main_c_1, main_v24, main_v25, main_v26] : List (Ref sig .tc))) : W12 m d (at_ r) = W11 m d (at_ r) := keep_ops6 _ r h
/-- Step 13 of the run changes only the values it defines. -/
theorem keep13 (r : Ref sig .tc) (h : r ∉ ([main_v27] : List (Ref sig .tc))) : W13 m d (at_ r) = W12 m d (at_ r) := keep_upd2 _ r h
/-- Step 14 of the run changes only the values it defines. -/
theorem keep14 (r : Ref sig .tc) (h : r ∉ ([main_v28] : List (Ref sig .tc))) : W14 m d (at_ r) = W13 m d (at_ r) := keep_ops7 _ r h
/-- Step 15 of the run changes only the values it defines. -/
theorem keep15 (r : Ref sig .tc) (h : r ∉ ([main_v29] : List (Ref sig .tc))) : W15 m d (at_ r) = W14 m d (at_ r) := keep_reg4 _ _ _ r h
/-- Step 16 of the run changes only the values it defines. -/
theorem keep16 (r : Ref sig .tc) (h : r ∉ ([main_v30, main_c_2, main_v31, main_v32, main_v33] : List (Ref sig .tc))) : W16 m d (at_ r) = W15 m d (at_ r) := keep_ops8 _ r h
/-- Step 17 of the run changes only the values it defines. -/
theorem keep17 (r : Ref sig .tc) (h : r ∉ ([main_v34] : List (Ref sig .tc))) : W17 m d (at_ r) = W16 m d (at_ r) := keep_upd3 _ r h
/-- Step 18 of the run changes only the values it defines. -/
theorem keep18 (r : Ref sig .tc) (h : r ∉ ([main_v35] : List (Ref sig .tc))) : W18 m d (at_ r) = W17 m d (at_ r) := keep_ops9 _ r h
/-- Step 19 of the run changes only the values it defines. -/
theorem keep19 (r : Ref sig .tc) (h : r ∉ ([main_v36] : List (Ref sig .tc))) : W19 m d (at_ r) = W18 m d (at_ r) := keep_reg5 _ _ _ r h
/-- Step 20 of the run changes only the values it defines. -/
theorem keep20 (r : Ref sig .tc) (h : r ∉ ([main_v37, main_v38, main_v39] : List (Ref sig .tc))) : W20 m d (at_ r) = W19 m d (at_ r) := keep_ops10 _ r h

/-- Argument 0 is as it was at the launch. -/
theorem arg0_end : W20 m d (at_ main_arg0) = W0 m d (at_ main_arg0) := by
  rw [keep20 m d main_arg0 (by decide), keep19 m d main_arg0 (by decide), keep18 m d main_arg0 (by decide), keep17 m d main_arg0 (by decide), keep16 m d main_arg0 (by decide), keep15 m d main_arg0 (by decide), keep14 m d main_arg0 (by decide), keep13 m d main_arg0 (by decide), keep12 m d main_arg0 (by decide), keep11 m d main_arg0 (by decide), keep10 m d main_arg0 (by decide), keep9 m d main_arg0 (by decide), keep8 m d main_arg0 (by decide), keep7 m d main_arg0 (by decide), keep6 m d main_arg0 (by decide), keep5 m d main_arg0 (by decide), keep4 m d main_arg0 (by decide), keep3 m d main_arg0 (by decide), keep2 m d main_arg0 (by decide), keep1 m d main_arg0 (by decide)]
/-- Argument 1 is as it was at the launch. -/
theorem arg1_end : W20 m d (at_ main_arg1) = W0 m d (at_ main_arg1) := by
  rw [keep20 m d main_arg1 (by decide), keep19 m d main_arg1 (by decide), keep18 m d main_arg1 (by decide), keep17 m d main_arg1 (by decide), keep16 m d main_arg1 (by decide), keep15 m d main_arg1 (by decide), keep14 m d main_arg1 (by decide), keep13 m d main_arg1 (by decide), keep12 m d main_arg1 (by decide), keep11 m d main_arg1 (by decide), keep10 m d main_arg1 (by decide), keep9 m d main_arg1 (by decide), keep8 m d main_arg1 (by decide), keep7 m d main_arg1 (by decide), keep6 m d main_arg1 (by decide), keep5 m d main_arg1 (by decide), keep4 m d main_arg1 (by decide), keep3 m d main_arg1 (by decide), keep2 m d main_arg1 (by decide), keep1 m d main_arg1 (by decide)]
/-- Argument 2 is as it was at the launch. -/
theorem arg2_end : W20 m d (at_ main_arg2) = W0 m d (at_ main_arg2) := by
  rw [keep20 m d main_arg2 (by decide), keep19 m d main_arg2 (by decide), keep18 m d main_arg2 (by decide), keep17 m d main_arg2 (by decide), keep16 m d main_arg2 (by decide), keep15 m d main_arg2 (by decide), keep14 m d main_arg2 (by decide), keep13 m d main_arg2 (by decide), keep12 m d main_arg2 (by decide), keep11 m d main_arg2 (by decide), keep10 m d main_arg2 (by decide), keep9 m d main_arg2 (by decide), keep8 m d main_arg2 (by decide), keep7 m d main_arg2 (by decide), keep6 m d main_arg2 (by decide), keep5 m d main_arg2 (by decide), keep4 m d main_arg2 (by decide), keep3 m d main_arg2 (by decide), keep2 m d main_arg2 (by decide), keep1 m d main_arg2 (by decide)]
/-- Argument 3 is as it was at the launch. -/
theorem arg3_end : W20 m d (at_ main_arg3) = W0 m d (at_ main_arg3) := by
  rw [keep20 m d main_arg3 (by decide), keep19 m d main_arg3 (by decide), keep18 m d main_arg3 (by decide), keep17 m d main_arg3 (by decide), keep16 m d main_arg3 (by decide), keep15 m d main_arg3 (by decide), keep14 m d main_arg3 (by decide), keep13 m d main_arg3 (by decide), keep12 m d main_arg3 (by decide), keep11 m d main_arg3 (by decide), keep10 m d main_arg3 (by decide), keep9 m d main_arg3 (by decide), keep8 m d main_arg3 (by decide), keep7 m d main_arg3 (by decide), keep6 m d main_arg3 (by decide), keep5 m d main_arg3 (by decide), keep4 m d main_arg3 (by decide), keep3 m d main_arg3 (by decide), keep2 m d main_arg3 (by decide), keep1 m d main_arg3 (by decide)]
/-- Argument 4 is as it was at the launch. -/
theorem arg4_end : W20 m d (at_ main_arg4) = W0 m d (at_ main_arg4) := by
  rw [keep20 m d main_arg4 (by decide), keep19 m d main_arg4 (by decide), keep18 m d main_arg4 (by decide), keep17 m d main_arg4 (by decide), keep16 m d main_arg4 (by decide), keep15 m d main_arg4 (by decide), keep14 m d main_arg4 (by decide), keep13 m d main_arg4 (by decide), keep12 m d main_arg4 (by decide), keep11 m d main_arg4 (by decide), keep10 m d main_arg4 (by decide), keep9 m d main_arg4 (by decide), keep8 m d main_arg4 (by decide), keep7 m d main_arg4 (by decide), keep6 m d main_arg4 (by decide), keep5 m d main_arg4 (by decide), keep4 m d main_arg4 (by decide), keep3 m d main_arg4 (by decide), keep2 m d main_arg4 (by decide), keep1 m d main_arg4 (by decide)]
/-- Argument 5 is as it was at the launch. -/
theorem arg5_end : W20 m d (at_ main_arg5) = W0 m d (at_ main_arg5) := by
  rw [keep20 m d main_arg5 (by decide), keep19 m d main_arg5 (by decide), keep18 m d main_arg5 (by decide), keep17 m d main_arg5 (by decide), keep16 m d main_arg5 (by decide), keep15 m d main_arg5 (by decide), keep14 m d main_arg5 (by decide), keep13 m d main_arg5 (by decide), keep12 m d main_arg5 (by decide), keep11 m d main_arg5 (by decide), keep10 m d main_arg5 (by decide), keep9 m d main_arg5 (by decide), keep8 m d main_arg5 (by decide), keep7 m d main_arg5 (by decide), keep6 m d main_arg5 (by decide), keep5 m d main_arg5 (by decide), keep4 m d main_arg5 (by decide), keep3 m d main_arg5 (by decide), keep2 m d main_arg5 (by decide), keep1 m d main_arg5 (by decide)]
/-- Argument 6 is as it was at the launch. -/
theorem arg6_end : W20 m d (at_ main_arg6) = W0 m d (at_ main_arg6) := by
  rw [keep20 m d main_arg6 (by decide), keep19 m d main_arg6 (by decide), keep18 m d main_arg6 (by decide), keep17 m d main_arg6 (by decide), keep16 m d main_arg6 (by decide), keep15 m d main_arg6 (by decide), keep14 m d main_arg6 (by decide), keep13 m d main_arg6 (by decide), keep12 m d main_arg6 (by decide), keep11 m d main_arg6 (by decide), keep10 m d main_arg6 (by decide), keep9 m d main_arg6 (by decide), keep8 m d main_arg6 (by decide), keep7 m d main_arg6 (by decide), keep6 m d main_arg6 (by decide), keep5 m d main_arg6 (by decide), keep4 m d main_arg6 (by decide), keep3 m d main_arg6 (by decide), keep2 m d main_arg6 (by decide), keep1 m d main_arg6 (by decide)]
/-- The array is as it was, after step 3. -/
theorem arg6_3 : W3 m d (at_ main_arg6) = W0 m d (at_ main_arg6) := by
  rw [keep3 m d main_arg6 (by decide), keep2 m d main_arg6 (by decide), keep1 m d main_arg6 (by decide)]
/-- The array is as it was, after step 7. -/
theorem arg6_7 : W7 m d (at_ main_arg6) = W0 m d (at_ main_arg6) := by
  rw [keep7 m d main_arg6 (by decide), keep6 m d main_arg6 (by decide), keep5 m d main_arg6 (by decide), keep4 m d main_arg6 (by decide), keep3 m d main_arg6 (by decide), keep2 m d main_arg6 (by decide), keep1 m d main_arg6 (by decide)]
/-- The array is as it was, after step 11. -/
theorem arg6_11 : W11 m d (at_ main_arg6) = W0 m d (at_ main_arg6) := by
  rw [keep11 m d main_arg6 (by decide), keep10 m d main_arg6 (by decide), keep9 m d main_arg6 (by decide), keep8 m d main_arg6 (by decide), keep7 m d main_arg6 (by decide), keep6 m d main_arg6 (by decide), keep5 m d main_arg6 (by decide), keep4 m d main_arg6 (by decide), keep3 m d main_arg6 (by decide), keep2 m d main_arg6 (by decide), keep1 m d main_arg6 (by decide)]
/-- The array is as it was, after step 15. -/
theorem arg6_15 : W15 m d (at_ main_arg6) = W0 m d (at_ main_arg6) := by
  rw [keep15 m d main_arg6 (by decide), keep14 m d main_arg6 (by decide), keep13 m d main_arg6 (by decide), keep12 m d main_arg6 (by decide), keep11 m d main_arg6 (by decide), keep10 m d main_arg6 (by decide), keep9 m d main_arg6 (by decide), keep8 m d main_arg6 (by decide), keep7 m d main_arg6 (by decide), keep6 m d main_arg6 (by decide), keep5 m d main_arg6 (by decide), keep4 m d main_arg6 (by decide), keep3 m d main_arg6 (by decide), keep2 m d main_arg6 (by decide), keep1 m d main_arg6 (by decide)]
/-- The array is as it was, after step 2. -/
theorem arg0_2 : W2 m d (at_ main_arg0) = W0 m d (at_ main_arg0) := by
  rw [keep2 m d main_arg0 (by decide), keep1 m d main_arg0 (by decide)]
/-- The array is as it was, after step 2. -/
theorem arg1_2 : W2 m d (at_ main_arg1) = W0 m d (at_ main_arg1) := by
  rw [keep2 m d main_arg1 (by decide), keep1 m d main_arg1 (by decide)]
/-- The array is as it was, after step 1. -/
theorem arg1_1 : W1 m d (at_ main_arg1) = W0 m d (at_ main_arg1) := by
  rw [keep1 m d main_arg1 (by decide)]
/-- The array is as it was, after step 2. -/
theorem v1_2 : W2 m d (at_ main_v1) = W1 m d (at_ main_v1) := by
  rw [keep2 m d main_v1 (by decide)]
/-- The array is as it was, after step 8. -/
theorem v8_8 : W8 m d (at_ main_v8) = W4 m d (at_ main_v8) := by
  rw [keep8 m d main_v8 (by decide), keep7 m d main_v8 (by decide), keep6 m d main_v8 (by decide), keep5 m d main_v8 (by decide)]
/-- The array is as it was, after step 12. -/
theorem v8_12 : W12 m d (at_ main_v8) = W4 m d (at_ main_v8) := by
  rw [keep12 m d main_v8 (by decide), keep11 m d main_v8 (by decide), keep10 m d main_v8 (by decide), keep9 m d main_v8 (by decide), keep8 m d main_v8 (by decide), keep7 m d main_v8 (by decide), keep6 m d main_v8 (by decide), keep5 m d main_v8 (by decide)]
/-- The array is as it was, after step 16. -/
theorem v8_16 : W16 m d (at_ main_v8) = W4 m d (at_ main_v8) := by
  rw [keep16 m d main_v8 (by decide), keep15 m d main_v8 (by decide), keep14 m d main_v8 (by decide), keep13 m d main_v8 (by decide), keep12 m d main_v8 (by decide), keep11 m d main_v8 (by decide), keep10 m d main_v8 (by decide), keep9 m d main_v8 (by decide), keep8 m d main_v8 (by decide), keep7 m d main_v8 (by decide), keep6 m d main_v8 (by decide), keep5 m d main_v8 (by decide)]
/-- The array is as it was, after step 6. -/
theorem v7_6 : W6 m d (at_ main_v7) = W3 m d (at_ main_v7) := by
  rw [keep6 m d main_v7 (by decide), keep5 m d main_v7 (by decide), keep4 m d main_v7 (by decide)]
/-- The array is as it was, after step 6. -/
theorem v3_6 : W6 m d (at_ main_v3) = W1 m d (at_ main_v3) := by
  rw [keep6 m d main_v3 (by decide), keep5 m d main_v3 (by decide), keep4 m d main_v3 (by decide), keep3 m d main_v3 (by decide), keep2 m d main_v3 (by decide)]
/-- The array is as it was, after step 10. -/
theorem v7_10 : W10 m d (at_ main_v7) = W3 m d (at_ main_v7) := by
  rw [keep10 m d main_v7 (by decide), keep9 m d main_v7 (by decide), keep8 m d main_v7 (by decide), keep7 m d main_v7 (by decide), keep6 m d main_v7 (by decide), keep5 m d main_v7 (by decide), keep4 m d main_v7 (by decide)]
/-- The array is as it was, after step 10. -/
theorem v3_10 : W10 m d (at_ main_v3) = W1 m d (at_ main_v3) := by
  rw [keep10 m d main_v3 (by decide), keep9 m d main_v3 (by decide), keep8 m d main_v3 (by decide), keep7 m d main_v3 (by decide), keep6 m d main_v3 (by decide), keep5 m d main_v3 (by decide), keep4 m d main_v3 (by decide), keep3 m d main_v3 (by decide), keep2 m d main_v3 (by decide)]
/-- The array is as it was, after step 14. -/
theorem v7_14 : W14 m d (at_ main_v7) = W3 m d (at_ main_v7) := by
  rw [keep14 m d main_v7 (by decide), keep13 m d main_v7 (by decide), keep12 m d main_v7 (by decide), keep11 m d main_v7 (by decide), keep10 m d main_v7 (by decide), keep9 m d main_v7 (by decide), keep8 m d main_v7 (by decide), keep7 m d main_v7 (by decide), keep6 m d main_v7 (by decide), keep5 m d main_v7 (by decide), keep4 m d main_v7 (by decide)]
/-- The array is as it was, after step 14. -/
theorem v3_14 : W14 m d (at_ main_v3) = W1 m d (at_ main_v3) := by
  rw [keep14 m d main_v3 (by decide), keep13 m d main_v3 (by decide), keep12 m d main_v3 (by decide), keep11 m d main_v3 (by decide), keep10 m d main_v3 (by decide), keep9 m d main_v3 (by decide), keep8 m d main_v3 (by decide), keep7 m d main_v3 (by decide), keep6 m d main_v3 (by decide), keep5 m d main_v3 (by decide), keep4 m d main_v3 (by decide), keep3 m d main_v3 (by decide), keep2 m d main_v3 (by decide)]
/-- The array is as it was, after step 18. -/
theorem v7_18 : W18 m d (at_ main_v7) = W3 m d (at_ main_v7) := by
  rw [keep18 m d main_v7 (by decide), keep17 m d main_v7 (by decide), keep16 m d main_v7 (by decide), keep15 m d main_v7 (by decide), keep14 m d main_v7 (by decide), keep13 m d main_v7 (by decide), keep12 m d main_v7 (by decide), keep11 m d main_v7 (by decide), keep10 m d main_v7 (by decide), keep9 m d main_v7 (by decide), keep8 m d main_v7 (by decide), keep7 m d main_v7 (by decide), keep6 m d main_v7 (by decide), keep5 m d main_v7 (by decide), keep4 m d main_v7 (by decide)]
/-- The array is as it was, after step 18. -/
theorem v3_18 : W18 m d (at_ main_v3) = W1 m d (at_ main_v3) := by
  rw [keep18 m d main_v3 (by decide), keep17 m d main_v3 (by decide), keep16 m d main_v3 (by decide), keep15 m d main_v3 (by decide), keep14 m d main_v3 (by decide), keep13 m d main_v3 (by decide), keep12 m d main_v3 (by decide), keep11 m d main_v3 (by decide), keep10 m d main_v3 (by decide), keep9 m d main_v3 (by decide), keep8 m d main_v3 (by decide), keep7 m d main_v3 (by decide), keep6 m d main_v3 (by decide), keep5 m d main_v3 (by decide), keep4 m d main_v3 (by decide), keep3 m d main_v3 (by decide), keep2 m d main_v3 (by decide)]
/-- The array is as it was, after step 19. -/
theorem v15_19 : W19 m d (at_ main_v15) = W7 m d (at_ main_v15) := by
  rw [keep19 m d main_v15 (by decide), keep18 m d main_v15 (by decide), keep17 m d main_v15 (by decide), keep16 m d main_v15 (by decide), keep15 m d main_v15 (by decide), keep14 m d main_v15 (by decide), keep13 m d main_v15 (by decide), keep12 m d main_v15 (by decide), keep11 m d main_v15 (by decide), keep10 m d main_v15 (by decide), keep9 m d main_v15 (by decide), keep8 m d main_v15 (by decide)]
/-- The array is as it was, after step 19. -/
theorem v22_19 : W19 m d (at_ main_v22) = W11 m d (at_ main_v22) := by
  rw [keep19 m d main_v22 (by decide), keep18 m d main_v22 (by decide), keep17 m d main_v22 (by decide), keep16 m d main_v22 (by decide), keep15 m d main_v22 (by decide), keep14 m d main_v22 (by decide), keep13 m d main_v22 (by decide), keep12 m d main_v22 (by decide)]
/-- The array is as it was, after step 19. -/
theorem v29_19 : W19 m d (at_ main_v29) = W15 m d (at_ main_v29) := by
  rw [keep19 m d main_v29 (by decide), keep18 m d main_v29 (by decide), keep17 m d main_v29 (by decide), keep16 m d main_v29 (by decide)]

end

end Cert.Proof.Run
end
-- ==== Proof.Pay.lean ====
module

public import proofs.«01_k».proof.Defs
public import proofs.«01_k».proof.Proof.Gen.KernelIdeal.Skeleton
public import Idealize.ShloMosaic.Lib.Pointwise

@[expose] public section

noncomputable section

namespace Cert.Proof.Run

open Cert.KernelIdeal Cert.KernelIdeal.Gen Idealize.ShloMosaic

/-- The number of entries a channel has. -/
abbrev cnt : EReal := Ideal.ofBits FTy.f32 0x46000000#32
/-- The constant under the root. -/
abbrev eps : EReal := Ideal.ofBits FTy.f32 0x3727C5AC#32

/-- A channel's sum over the batch and the points. -/
def tot (f : FVec Ideal S2x256x4096 .f32) (c : Fin 256) : EReal := Ideal.reduceAdd reduces_S2x256x4096_S256 f (ix1 c)
/-- A channel's mean. -/
def mean (f : FVec Ideal S2x256x4096 .f32) (c : Fin 256) : EReal := Ideal.div (tot f c) cnt
/-- A channel's variance. -/
def var (f : FVec Ideal S2x256x4096 .f32) (c : Fin 256) : EReal :=
  Ideal.div (tot (fun i => (f i - mean f (i 1)) * (f i - mean f (i 1))) c) cnt

/-- The mean of a channel as the first call computes it. -/
theorem k_mean_apply (f : FVec Ideal S2x256x4096 .f32) (c : Fin 256) : k0_pay1 (F := Ideal) f (ix1 c) = mean f c := by
  pointwise [k0_pay1, mean, tot]

set_option maxRecDepth 16384 in
/-- The scale of a channel as the first call computes it. -/
theorem k_scale_apply (f : FVec Ideal S2x256x4096 .f32) (bw : Vec Ideal S1x256 .f32) (c : Fin 256) :
    k0_pay2 f bw (ix1 c) = Ideal.div (bw (ix2 0 c)) (Ideal.sqrt (var f c + eps)) := by
  have e : mulf (subf f (broadcastTo S2x256x4096 (shapeCast S1x256x1 (k0_pay1 f) shapeCasts_S256_S1x256x1) broadcasts_S1x256x1_S2x256x4096))
      (subf f (broadcastTo S2x256x4096 (shapeCast S1x256x1 (k0_pay1 f) shapeCasts_S256_S1x256x1) broadcasts_S1x256x1_S2x256x4096))
      = fun i => (f i - mean f (i 1)) * (f i - mean f (i 1)) := by
    funext i
    idx_vars i
    pointwise
    rw [k_mean_apply]
  unfold k0_pay2
  simp only [e]
  pointwise [var, tot]

/-- The scaled weights of the first call. -/
theorem pay4_apply (f : Vec Ideal S2x256x4096 .f32) (bw : Vec Ideal S1x256 .f32) (wf : Vec Ideal S128x256 .f32) (o : Fin 128) (c : Fin 256) :
    k0_pay4 f bw wf (ix2 o c) = wf (ix2 o c) * Ideal.div (bw (ix2 0 c)) (Ideal.sqrt (var f c + eps)) := by
  pointwise [k0_pay4, k0_pay3]
  rw [k_scale_apply]

/-- The shift of the first call. -/
theorem pay5_apply (f : Vec Ideal S2x256x4096 .f32) (bw bb : Vec Ideal S1x256 .f32) (wf : Vec Ideal S128x256 .f32) (o : Fin 128) :
    k0_pay5 f bw bb wf (ix2 0 o)
      = ∑ c : Fin 256, wf (ix2 o c) * (bb (ix2 0 c) - mean f c * Ideal.div (bw (ix2 0 c)) (Ideal.sqrt (var f c + eps))) := by
  pointwise [k0_pay5, k0_pay3]
  refine Finset.sum_congr rfl fun c _ => ?_
  rw [k_scale_apply, k_mean_apply]

/-- A block of the second call. -/
theorem pay1_apply (f : Vec Ideal S1x256x256 .f32) (wfs : Vec Ideal S128x256 .f32) (x : Vec Ideal S1x256x3 .f32) (wx : Vec Ideal S128x3 .f32) (bi : Vec Ideal S1x128 .f32)
    (r : Fin 256) (o : Fin 128) :
    k1_pay1 f wfs x wx bi (ix3 0 r o)
      = ∑ c, f (ix3 0 c r) * wfs (ix2 o c) + ∑ c, x (ix3 0 r c) * wx (ix2 o c) + bi (ix2 0 o) := by
  pointwise [k1_pay1]

/-- A block of an output call. -/
theorem pay3_apply (fr f0 : Vec Ideal S1x256x128 .f32) (w : Vec Ideal S256x128 .f32) (o r : Fin 256) :
    k3_pay1 fr f0 w (ix3 0 o r) = ∑ c, w (ix2 o c) * (fr (ix3 0 r c) - f0 (ix3 0 r c)) := by
  pointwise [k3_pay1]

end Cert.Proof.Run
end
-- ==== Proof.Host.lean ====
module

public import proofs.«01_k».proof.Proof.Keep
public import proofs.«01_k».proof.Proof.Pay
public import Idealize.ShloMosaic.Lib.Pointwise

@[expose] public section

noncomputable section

namespace Cert.Proof.Run

open Cert.KernelIdeal Cert.KernelIdeal.Gen Cert.Proof.Tile Cert.Proof.Reg
open Idealize.ShloMosaic

/-- The point a word names. -/
def pt (w : BitVec 32) : Fin 4096 := ⟨w.toNat % 4096, Nat.mod_lt _ (by decide)⟩
/-- The neighbour's number. -/
def nb (k : ℕ) : Fin 32 := ⟨k % 32, Nat.mod_lt _ (by decide)⟩

variable {F : FTy → Type} [FloatOps F]

/-- The feature rows of both batches as one table. -/
def table (X : Vec F S2x4096x128 .f32) : Vec F S8192x128 .f32 := shapeCast S8192x128 X shapeCasts_S2x4096x128_S8192x128

omit [FloatOps F] in
/-- The table at an entry. -/
theorem table_apply (X : Vec F S2x4096x128 .f32) (a : Fin 8192) (b : Fin 128) :
    table X (ix2 a b) = X (ix3 ⟨a.val / 4096, by omega⟩ ⟨a.val % 4096, by omega⟩ b) := by
  pointwise [table]

omit [FloatOps F] in
/-- A row of the table is a point's features. -/
theorem table_row (X : Vec F S2x4096x128 .f32) (q : Fin 2) (n : Fin 4096) (k : Fin 128) (a : ℕ) (h : a = 4096 * q.val + n.val) :
    table X (tix a k.val) = X (ix3 q n k) := by
  have e : tix a k.val = ix2 ⟨a, by omega⟩ k := by
    funext z
    match z with
    | ⟨0, _⟩ => exact Fin.ext (Nat.mod_eq_of_lt (show a < 8192 by omega))
    | ⟨1, _⟩ => exact Fin.ext (Nat.mod_eq_of_lt k.isLt)
  rw [e, table_apply]
  exact congrArg X (by
    have e0 : (⟨a / 4096, by omega⟩ : Fin 2) = q := Fin.ext (show a / 4096 = q.val by omega)
    have e1 : (⟨a % 4096, by omega⟩ : Fin 4096) = n := Fin.ext (show a % 4096 = n.val by omega)
    exact congrArg₂ (fun x y => ix3 x y k) e0 e1)

/-- Where the list holds a query's neighbour. -/
theorem entry_eq (r : Fin 2048) (k : ℕ) (h : k < 32) : entry (32 * r.val + k) = ix2 (⟨r.val / 4, by omega⟩ : Fin 512) (⟨32 * (r.val % 4) + k, by omega⟩ : Fin 128) := by
  funext z
  match z with
  | ⟨0, _⟩ => exact Fin.ext (show (32 * r.val + k) / 128 % 512 = r.val / 4 by omega)
  | ⟨1, _⟩ => exact Fin.ext (show (32 * r.val + k) % 128 = 32 * (r.val % 4) + k by omega)

/-- The maxima of a slice: its list naming the rows of batch `q`'s points, the result at a point is the maximum over the
    point's neighbours. -/
theorem maxRows_of (X : Vec F S2x4096x128 .f32) (L : IVec S512x128 32) (I : IVec S2x4096x32 32) (q : Fin 2) (off : ℕ) (hoff : off ≤ 2048)
    (hL : ∀ (a : Fin 512) (b : Fin 128), (L (ix2 a b)).toNat
      = 4096 * q.val + (I (ix3 q ⟨off + (a.val * 4 + b.val / 32), by omega⟩ ⟨b.val % 32, by omega⟩)).toNat)
    (hI : ∀ j, (I j).toNat < 4096) (r : Fin 2048) (k : Fin 128) :
    maxRows (F := F) (table X) L (ix2 r k) = treeMax 5 fun j => X (ix3 q (pt (I (ix3 q ⟨off + r.val, by omega⟩ (nb j)))) k) := by
  refine treeMax_congr 5 _ _ fun j hj => ?_
  have hj : j < 32 := hj
  show table X (tix (L (entry (32 * r.val + j))).toNat k.val) = _
  rw [entry_eq r j hj]
  refine table_row X q _ k _ ?_
  rw [hL]
  have e : (ix3 q ⟨off + (r.val / 4 * 4 + (32 * (r.val % 4) + j) / 32), by omega⟩ ⟨(32 * (r.val % 4) + j) % 32, by omega⟩ : S2x4096x32.Idx)
      = ix3 q ⟨off + r.val, by omega⟩ (nb j) := by
    have e0 : (⟨off + (r.val / 4 * 4 + (32 * (r.val % 4) + j) / 32), by omega⟩ : Fin 4096) = ⟨off + r.val, by omega⟩ := Fin.ext (show off + (r.val / 4 * 4 + (32 * (r.val % 4) + j) / 32) = off + r.val by omega)
    have e1 : (⟨(32 * (r.val % 4) + j) % 32, by omega⟩ : Fin 32) = nb j := Fin.ext (show (32 * (r.val % 4) + j) % 32 = j % 32 by omega)
    exact congrArg₂ (fun x y => ix3 q x y) e0 e1
  refine congrArg (4096 * q.val + ·) ?_
  refine (congrArg (fun x => (I x).toNat) e).trans ?_
  exact (Nat.mod_eq_of_lt (hI _)).symm

/-- The batch's first row added to an index in range doesn't wrap. -/
theorem word_add (w : BitVec 32) (h : w.toNat < 4096) : (w + 4096#32).toNat = 4096 + w.toNat := by
  rw [BitVec.toNat_add]
  show (w.toNat + 4096) % 2 ^ 32 = _
  omega

/-- The list of slice 0: its neighbour indices, raised by the batch's first row of the table. -/
def list0 (I : IVec S2x4096x32 32) : IVec S512x128 32 :=
  shapeCast S512x128 (addi (extractStridedSlice S1x2048x32 ![0, 0, 0] I slices_S2x4096x32_S1x2048x32_0_0_0) (broadcastInDim S1x2048x32 ![] bcast_S_S1x2048x32 (constantI S_ 32 0#32))) shapeCasts_S1x2048x32_S512x128

/-- List 0 at an entry. -/
theorem list0_apply (I : IVec S2x4096x32 32) (a : Fin 512) (b : Fin 128) :
    list0 I (ix2 a b) = I (ix3 0 ⟨0 + (a.val * 4 + b.val / 32), by omega⟩ ⟨b.val % 32, by omega⟩) + 0#32 := by
  pointwise [list0]
  rfl

/-- List 0 at an entry, as a row number. -/
theorem list0_toNat (I : IVec S2x4096x32 32) (hI : ∀ j, (I j).toNat < 4096) (a : Fin 512) (b : Fin 128) :
    (list0 I (ix2 a b)).toNat = 4096 * (0 : Fin 2).val + (I (ix3 0 ⟨0 + (a.val * 4 + b.val / 32), by omega⟩ ⟨b.val % 32, by omega⟩)).toNat := by
  rw [list0_apply]
  rw [BitVec.add_zero]; exact (Nat.zero_add _).symm

/-- List 0 names rows of the table only. -/
theorem list0_ok (I : IVec S2x4096x32 32) (hI : ∀ j, (I j).toNat < 4096) (j : S512x128.Idx) : (list0 I j).toNat < 8192 := by
  idx_vars j
  rw [list0_toNat I hI]
  refine lt_of_lt_of_le (Nat.add_lt_add_left (hI _) _) (by decide)

/-- The list of slice 1: its neighbour indices, raised by the batch's first row of the table. -/
def list1 (I : IVec S2x4096x32 32) : IVec S512x128 32 :=
  shapeCast S512x128 (addi (extractStridedSlice S1x2048x32 ![0, 2048, 0] I slices_S2x4096x32_S1x2048x32_0_2048_0) (broadcastInDim S1x2048x32 ![] bcast_S_S1x2048x32 (constantI S_ 32 0#32))) shapeCasts_S1x2048x32_S512x128

/-- List 1 at an entry. -/
theorem list1_apply (I : IVec S2x4096x32 32) (a : Fin 512) (b : Fin 128) :
    list1 I (ix2 a b) = I (ix3 0 ⟨2048 + (a.val * 4 + b.val / 32), by omega⟩ ⟨b.val % 32, by omega⟩) + 0#32 := by
  pointwise [list1]
  rfl

/-- List 1 at an entry, as a row number. -/
theorem list1_toNat (I : IVec S2x4096x32 32) (hI : ∀ j, (I j).toNat < 4096) (a : Fin 512) (b : Fin 128) :
    (list1 I (ix2 a b)).toNat = 4096 * (0 : Fin 2).val + (I (ix3 0 ⟨2048 + (a.val * 4 + b.val / 32), by omega⟩ ⟨b.val % 32, by omega⟩)).toNat := by
  rw [list1_apply]
  rw [BitVec.add_zero]; exact (Nat.zero_add _).symm

/-- List 1 names rows of the table only. -/
theorem list1_ok (I : IVec S2x4096x32 32) (hI : ∀ j, (I j).toNat < 4096) (j : S512x128.Idx) : (list1 I j).toNat < 8192 := by
  idx_vars j
  rw [list1_toNat I hI]
  refine lt_of_lt_of_le (Nat.add_lt_add_left (hI _) _) (by decide)

/-- The list of slice 2: its neighbour indices, raised by the batch's first row of the table. -/
def list2 (I : IVec S2x4096x32 32) : IVec S512x128 32 :=
  shapeCast S512x128 (addi (extractStridedSlice S1x2048x32 ![1, 0, 0] I slices_S2x4096x32_S1x2048x32_1_0_0) (broadcastInDim S1x2048x32 ![] bcast_S_S1x2048x32 (constantI S_ 32 4096#32))) shapeCasts_S1x2048x32_S512x128

/-- List 2 at an entry. -/
theorem list2_apply (I : IVec S2x4096x32 32) (a : Fin 512) (b : Fin 128) :
    list2 I (ix2 a b) = I (ix3 1 ⟨0 + (a.val * 4 + b.val / 32), by omega⟩ ⟨b.val % 32, by omega⟩) + 4096#32 := by
  pointwise [list2]
  rfl

/-- List 2 at an entry, as a row number. -/
theorem list2_toNat (I : IVec S2x4096x32 32) (hI : ∀ j, (I j).toNat < 4096) (a : Fin 512) (b : Fin 128) :
    (list2 I (ix2 a b)).toNat = 4096 * (1 : Fin 2).val + (I (ix3 1 ⟨0 + (a.val * 4 + b.val / 32), by omega⟩ ⟨b.val % 32, by omega⟩)).toNat := by
  rw [list2_apply]
  exact word_add _ (hI _)

/-- List 2 names rows of the table only. -/
theorem list2_ok (I : IVec S2x4096x32 32) (hI : ∀ j, (I j).toNat < 4096) (j : S512x128.Idx) : (list2 I j).toNat < 8192 := by
  idx_vars j
  rw [list2_toNat I hI]
  refine lt_of_lt_of_le (Nat.add_lt_add_left (hI _) _) (by decide)

/-- The list of slice 3: its neighbour indices, raised by the batch's first row of the table. -/
def list3 (I : IVec S2x4096x32 32) : IVec S512x128 32 :=
  shapeCast S512x128 (addi (extractStridedSlice S1x2048x32 ![1, 2048, 0] I slices_S2x4096x32_S1x2048x32_1_2048_0) (broadcastInDim S1x2048x32 ![] bcast_S_S1x2048x32 (constantI S_ 32 4096#32))) shapeCasts_S1x2048x32_S512x128

/-- List 3 at an entry. -/
theorem list3_apply (I : IVec S2x4096x32 32) (a : Fin 512) (b : Fin 128) :
    list3 I (ix2 a b) = I (ix3 1 ⟨2048 + (a.val * 4 + b.val / 32), by omega⟩ ⟨b.val % 32, by omega⟩) + 4096#32 := by
  pointwise [list3]
  rfl

/-- List 3 at an entry, as a row number. -/
theorem list3_toNat (I : IVec S2x4096x32 32) (hI : ∀ j, (I j).toNat < 4096) (a : Fin 512) (b : Fin 128) :
    (list3 I (ix2 a b)).toNat = 4096 * (1 : Fin 2).val + (I (ix3 1 ⟨2048 + (a.val * 4 + b.val / 32), by omega⟩ ⟨b.val % 32, by omega⟩)).toNat := by
  rw [list3_apply]
  exact word_add _ (hI _)

/-- List 3 names rows of the table only. -/
theorem list3_ok (I : IVec S2x4096x32 32) (hI : ∀ j, (I j).toNat < 4096) (j : S512x128.Idx) : (list3 I j).toNat < 8192 := by
  idx_vars j
  rw [list3_toNat I hI]
  refine lt_of_lt_of_le (Nat.add_lt_add_left (hI _) _) (by decide)

section
variable (V : Valuation τ sig (Elt F))

/-- What the host's lines 2 leave in value 8. -/
theorem ops2_v8 : StableHlo.after ops2 V (at_ main_v8) = table (V (at_ main_v7)) := by
  unfold ops2
  after_results
  rfl
/-- What the host's lines 2 leave in value 12. -/
theorem ops2_v12 : StableHlo.after ops2 V (at_ main_v12) = list0 (V (at_ main_arg6)) := by
  unfold ops2 list0
  after_results
  rfl
/-- What the host's lines 4 leave in value 19. -/
theorem ops4_v19 : StableHlo.after ops4 V (at_ main_v19) = list1 (V (at_ main_arg6)) := by
  unfold ops4 list1
  after_results
  rfl
/-- What the host's lines 6 leave in value 26. -/
theorem ops6_v26 : StableHlo.after ops6 V (at_ main_v26) = list2 (V (at_ main_arg6)) := by
  unfold ops6 list2
  after_results
  rfl
/-- What the host's lines 8 leave in value 33. -/
theorem ops8_v33 : StableHlo.after ops8 V (at_ main_v33) = list3 (V (at_ main_arg6)) := by
  unfold ops8 list3
  after_results
  rfl
/-- What the host's lines 3 leave in value 14. -/
theorem ops3_v14 : StableHlo.after ops3 V (at_ main_v14) = shapeCast S1x2048x128 (V (at_ main_v13) : Vec F S2048x128 .f32) shapeCasts_S2048x128_S1x2048x128 := by
  unfold ops3
  after_results
  rfl
/-- What the host's lines 5 leave in value 21. -/
theorem ops5_v21 : StableHlo.after ops5 V (at_ main_v21) = shapeCast S1x2048x128 (V (at_ main_v20) : Vec F S2048x128 .f32) shapeCasts_S2048x128_S1x2048x128 := by
  unfold ops5
  after_results
  rfl
/-- What the host's lines 7 leave in value 28. -/
theorem ops7_v28 : StableHlo.after ops7 V (at_ main_v28) = shapeCast S1x2048x128 (V (at_ main_v27) : Vec F S2048x128 .f32) shapeCasts_S2048x128_S1x2048x128 := by
  unfold ops7
  after_results
  rfl
/-- What the host's lines 9 leave in value 35. -/
theorem ops9_v35 : StableHlo.after ops9 V (at_ main_v35) = shapeCast S1x2048x128 (V (at_ main_v34) : Vec F S2048x128 .f32) shapeCasts_S2048x128_S1x2048x128 := by
  unfold ops9
  after_results
  rfl

/-- What the host's lines 10 leave in value 39. -/
theorem ops10_v39 : StableHlo.after ops10 V (at_ main_v39) =
  concatenate S2x256x4096 0 [⟨S1x256x4096, concatenate S1x256x4096 2 [⟨S1x256x2048, V (at_ main_v15)⟩, ⟨S1x256x2048, V (at_ main_v22)⟩] concatenates_S1x256x2048_S1x256x2048_S1x256x4096_d2⟩,
     ⟨S1x256x4096, concatenate S1x256x4096 2 [⟨S1x256x2048, V (at_ main_v29)⟩, ⟨S1x256x2048, V (at_ main_v36)⟩] concatenates_S1x256x2048_S1x256x2048_S1x256x4096_d2⟩] concatenates_S1x256x4096_S1x256x4096_S2x256x4096_d0 := by
  unfold ops10
  after_results

/-- What the host's lines 0 leave in value 0. -/
theorem ops0_v0 : StableHlo.after ops0 V (at_ main_v0) = extractStridedSlice S128x256 ![0, 0] (V (at_ main_arg2) : Vec F S128x259 .f32) slices_S128x259_S128x256_0_0 := by
  unfold ops0
  after_results
/-- What the host's lines 0 leave in value 1. -/
theorem ops0_v1 : StableHlo.after ops0 V (at_ main_v1) = extractStridedSlice S128x3 ![0, 256] (V (at_ main_arg2) : Vec F S128x259 .f32) slices_S128x259_S128x3_0_256 := by
  unfold ops0
  after_results
/-- What the host's lines 0 leave in value 4. -/
theorem ops0_v4 : StableHlo.after ops0 V (at_ main_v4) = shapeCast S1x256 (V (at_ main_arg4) : Vec F S256 .f32) shapeCasts_S256_S1x256 := by
  unfold ops0
  after_results
  rfl
/-- What the host's lines 0 leave in value 5. -/
theorem ops0_v5 : StableHlo.after ops0 V (at_ main_v5) = shapeCast S1x256 (V (at_ main_arg5) : Vec F S256 .f32) shapeCasts_S256_S1x256 := by
  unfold ops0
  after_results
  rfl
/-- What the host's lines 0 leave in value 3. -/
theorem ops0_v3 : StableHlo.after ops0 V (at_ main_v3)
    = Host.reduceAdd (shapeCast S256x3x128 (V (at_ main_arg3) : Vec F S256x384 .f32) shapeCasts_S256x384_S256x3x128) (constant S_ .f32 0x00000000#32) reducesTo_S256x3x128_S256x128_d1 h_S_ := by
  unfold ops0
  after_results
  rfl

end

/-! ## The lists at the dispatches -/

section
variable (m : (ℓ : Loc nD τ sig) → Buf (Elt F) ℓ) (d : Dev nD)

/-- The list at dispatch 0. -/
theorem list_0 : W4 m d (at_ main_v12) = list0 (W0 m d (at_ main_arg6)) := (ops2_v12 _).trans (congrArg list0 (arg6_3 m d))
/-- The list at dispatch 1. -/
theorem list_1 : W8 m d (at_ main_v19) = list1 (W0 m d (at_ main_arg6)) := (ops4_v19 _).trans (congrArg list1 (arg6_7 m d))
/-- The list at dispatch 2. -/
theorem list_2 : W12 m d (at_ main_v26) = list2 (W0 m d (at_ main_arg6)) := (ops6_v26 _).trans (congrArg list2 (arg6_11 m d))
/-- The list at dispatch 3. -/
theorem list_3 : W16 m d (at_ main_v33) = list3 (W0 m d (at_ main_arg6)) := (ops8_v33 _).trans (congrArg list3 (arg6_15 m d))

/-- With the neighbour indices in range every entry of the four lists names a row of the table. -/
theorem preOK (hI : ∀ (d : Dev nD) (j : S2x4096x32.Idx), (show BitVec 32 from W0 m d (at_ main_arg6) j).toNat < 4096) : PreOK (VV m) where
  ok0 d j := (congrArg (fun w : BitVec 32 => w.toNat) (congrFun (list_0 m d) j)).trans_lt (list0_ok _ (hI d) j)
  ok1 d j := (congrArg (fun w : BitVec 32 => w.toNat) (congrFun (list_1 m d) j)).trans_lt (list1_ok _ (hI d) j)
  ok2 d j := (congrArg (fun w : BitVec 32 => w.toNat) (congrFun (list_2 m d) j)).trans_lt (list2_ok _ (hI d) j)
  ok3 d j := (congrArg (fun w : BitVec 32 => w.toNat) (congrFun (list_3 m d) j)).trans_lt (list3_ok _ (hI d) j)

end

end Cert.Proof.Run
end
-- ==== Proof.Pre.lean ====
module

public import proofs.«01_k».proof.Pre_idx_in_rows
public import proofs.«01_k».proof.Pre_inputs_ok
public import Idealize.ShloMosaic.PureOps.Ideal
public import Idealize.ShloMosaic.Lib.WordCmp
public import Idealize.ShloMosaic.Lib.ReduceAll

@[expose] public section

noncomputable section

namespace Cert.Proof.Pre

open Idealize.ShloMosaic

/-- A word in range as the predicate reads it is a row number. -/
theorem word_lt : ∀ v : BitVec 32, IntOp.andi (IntOp.cmpi .sge v 0#32) (IntOp.cmpi .slt v 4096#32) = 1#1 → v.toNat < 4096 := by
  intro v
  simp only [IntOp.cmpi, WordCmp.andi_ofBool, WordCmp.ofBool_eq_one_iff, Bool.and_eq_true, BitVec.sle_eq_decide, BitVec.slt_eq_decide, decide_eq_true_eq,
    BitVec.toInt_eq_toNat_cond, BitVec.toNat_ofNat, Nat.reducePow, Nat.reduceMod]
  omega

/-- Both bits of a conjunction that is one. -/
theorem and_one : ∀ a b : BitVec 1, IntOp.andi a b = 1#1 → a = 1#1 ∧ b = 1#1 := by decide

/-- A value whose magnitude is below infinity is a real number. -/
theorem abs_lt (x : EReal) (h : Ideal.cmp .olt (FloatOps.absf (F := Ideal) (φ := .f32) x) (Ideal.ofBits .f32 0x7F800000#32) = 1#1) : ∃ r : ℝ, x = (r : EReal) := by
  have e : Ideal.ofBits .f32 0x7F800000#32 = (⊤ : EReal) := by simp [Ideal.ofBits, Ideal.ieee]
  rw [e] at h
  have h' : max x (-x) < ⊤ := by
    have : BitVec.ofBool (decide (max x (-x) < (⊤ : EReal))) = 1#1 := h
    exact of_decide_eq_true ((WordCmp.ofBool_eq_one_iff _).1 this)
  induction x with
  | bot => simp at h'
  | top => simp at h'
  | coe r => exact ⟨r, rfl⟩

/-- Every entry of the list is a point's number. -/
theorem idx_of_pre {F : FTy → Type} [FloatOps F] [Cert.Pre_idx_in_rows.Facts] (a0 a1 a2 a3 a4 a5) (I : IVec Cert.Pre_idx_in_rows.S2x4096x32 32)
    (h : Cert.Pre_idx_in_rows.fn (F := F) a0 a1 a2 a3 a4 a5 I = fun _ => 1#1) (j) : (I j).toNat < 4096 := by
  have e := congrFun h j
  simp only [Cert.Pre_idx_in_rows.fn, andi, cmpi, broadcastInDim, constantI] at e
  exact word_lt _ e

/-- Every float entry is a real number and every entry of the list is a point's number. -/
theorem inputs_of_pre [Cert.Pre_inputs_ok.Facts] (a0 : FVec Ideal Cert.Pre_inputs_ok.S2x4096x3 .f32) (a1 : FVec Ideal Cert.Pre_inputs_ok.S2x256x4096 .f32)
    (a2 : FVec Ideal Cert.Pre_inputs_ok.S128x259 .f32) (a3 : FVec Ideal Cert.Pre_inputs_ok.S256x384 .f32) (a4 a5 : FVec Ideal Cert.Pre_inputs_ok.S256 .f32)
    (I : IVec Cert.Pre_inputs_ok.S2x4096x32 32)
    (h : Cert.Pre_inputs_ok.fn (F := Ideal) a0 a1 a2 a3 a4 a5 I = fun _ => 1#1) :
    (∀ j, (I j).toNat < 4096) ∧ (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have key : ∀ j, _ := fun j => by
    have e := congrFun h j
    dsimp only [Cert.Pre_inputs_ok.fn, Cert.Pre_inputs_ok.fn_part1, Cert.Pre_inputs_ok.fn_part2] at e
    have e1 := and_one _ _ e
    have e2 := and_one _ _ e1.1
    have e3 := and_one _ _ e2.1
    have e4 := and_one _ _ e3.1
    have e5 := and_one _ _ e4.1
    have e6 := and_one _ _ e5.1
    have e7 := and_one _ _ e6.1
    exact And.intro e7.1 (And.intro e7.2 (And.intro e6.2 (And.intro e5.2 (And.intro e4.2 (And.intro e3.2 (And.intro e2.2 e1.2))))))
  have k0 := key (fun a => ⟨0, by fin_cases a <;> decide⟩)
  obtain ⟨h0, h1, h2, h3, h4, h5, -, -⟩ := k0
  have red : ∀ {s : Shape} {dims : List (Fin s.rank)} (x : FVec Ideal s .f32) (hb) (hr : s.ReducesTo dims Cert.Pre_inputs_ok.S_) (hu) (j),
      Host.reduce IntOp.andi (cmpf .olt (Host.absf x) (broadcastInDim s ![] hb (constant (F := Ideal) Cert.Pre_inputs_ok.S_ .f32 0x7F800000#32))) (constantI Cert.Pre_inputs_ok.S_ 1 1#1) hr hu j = 1#1 →
        ∀ i, ∃ r : ℝ, x i = (r : EReal) := by
    intro s dims x hb hr hu j e i
    exact abs_lt _ (Host.reduce_andi_all _ _ hr hu j e i)
  refine ⟨fun j => ?_, red a0 _ _ _ _ h0, red a1 _ _ _ _ h1, red a2 _ _ _ _ h2, red a3 _ _ _ _ h3, red a4 _ _ _ _ h4, red a5 _ _ _ _ h5⟩
  obtain ⟨-, -, -, -, -, -, h6, h7⟩ := key j
  refine word_lt _ ?_
  simp only [cmpi, broadcastInDim, constantI] at h6 h7
  rw [h6, h7]
  decide

end Cert.Proof.Pre
end
-- ==== Proof.Same0.lean ====
module

public import proofs.«01_k».proof.Kernel
public import proofs.«01_k».proof.KernelIdeal
public import proofs.«01_k».proof.Proof.Gen.Kernel
public import proofs.«01_k».proof.Proof.Gen.KernelIdeal
public import proofs.«01_k».proof.Defs

@[expose] public section

noncomputable section

namespace Cert.Proof.Run

open Idealize.ShloMosaic Idealize.SL.Sem

/-! The TensorCore bodies of the two programs are one text. -/

set_option maxHeartbeats 4000000 in
/-- Body 0 is the same in the two programs. -/
theorem body_0 (a) : @Cert.Kernel.defs₀ Bits _ _ .tc 0 a = @Cert.KernelIdeal.defs₀ Bits _ _ .tc 0 a := rfl
set_option maxHeartbeats 4000000 in
/-- Body 1 is the same in the two programs. -/
theorem body_1 (a) : @Cert.Kernel.defs₀ Bits _ _ .tc 1 a = @Cert.KernelIdeal.defs₀ Bits _ _ .tc 1 a := rfl
set_option maxHeartbeats 4000000 in
/-- Body 3 is the same in the two programs. -/
theorem body_3 (a) : @Cert.Kernel.defs₀ Bits _ _ .tc 3 a = @Cert.KernelIdeal.defs₀ Bits _ _ .tc 3 a := rfl
set_option maxHeartbeats 4000000 in
/-- Body 5 is the same in the two programs. -/
theorem body_5 (a) : @Cert.Kernel.defs₀ Bits _ _ .tc 5 a = @Cert.KernelIdeal.defs₀ Bits _ _ .tc 5 a := rfl
set_option maxHeartbeats 4000000 in
/-- Body 7 is the same in the two programs. -/
theorem body_7 (a) : @Cert.Kernel.defs₀ Bits _ _ .tc 7 a = @Cert.KernelIdeal.defs₀ Bits _ _ .tc 7 a := rfl
set_option maxHeartbeats 4000000 in
/-- Body 9 is the same in the two programs. -/
theorem body_9 (a) : @Cert.Kernel.defs₀ Bits _ _ .tc 9 a = @Cert.KernelIdeal.defs₀ Bits _ _ .tc 9 a := rfl

end Cert.Proof.Run
end
-- ==== Proof.Same1.lean ====
module

public import proofs.«01_k».proof.Kernel
public import proofs.«01_k».proof.KernelIdeal
public import proofs.«01_k».proof.Proof.Gen.Kernel
public import proofs.«01_k».proof.Proof.Gen.KernelIdeal
public import proofs.«01_k».proof.Defs

@[expose] public section

noncomputable section

namespace Cert.Proof.Run

open Idealize.ShloMosaic Idealize.SL.Sem

/-! The SparseCore bodies of the two programs are one text. -/

set_option maxHeartbeats 4000000 in
/-- Body 2 is the same in the two programs. -/
theorem body_2 (c s a) : @Cert.Kernel.defs₀ Bits _ _ (.scVector c s) 2 a = @Cert.KernelIdeal.defs₀ Bits _ _ (.scVector c s) 2 a := rfl
set_option maxHeartbeats 4000000 in
/-- Body 4 is the same in the two programs. -/
theorem body_4 (c s a) : @Cert.Kernel.defs₀ Bits _ _ (.scVector c s) 4 a = @Cert.KernelIdeal.defs₀ Bits _ _ (.scVector c s) 4 a := rfl
set_option maxHeartbeats 4000000 in
/-- Body 6 is the same in the two programs. -/
theorem body_6 (c s a) : @Cert.Kernel.defs₀ Bits _ _ (.scVector c s) 6 a = @Cert.KernelIdeal.defs₀ Bits _ _ (.scVector c s) 6 a := rfl
set_option maxHeartbeats 4000000 in
/-- Body 8 is the same in the two programs. -/
theorem body_8 (c s a) : @Cert.Kernel.defs₀ Bits _ _ (.scVector c s) 8 a = @Cert.KernelIdeal.defs₀ Bits _ _ (.scVector c s) 8 a := rfl

end Cert.Proof.Run
end
-- ==== Proof.Same2.lean ====
module

public import proofs.«01_k».proof.Kernel
public import proofs.«01_k».proof.KernelIdeal
public import proofs.«01_k».proof.Proof.Gen.Kernel
public import proofs.«01_k».proof.Proof.Gen.KernelIdeal
public import proofs.«01_k».proof.Defs

@[expose] public section

noncomputable section

namespace Cert.Proof.Run

open Idealize.ShloMosaic Idealize.SL.Sem

/-! The labels a processor never runs. -/

set_option maxHeartbeats 4000000 in
/-- Label 2 where it never runs is the same in the two programs. -/
theorem idle_tc2 (a) : @Cert.Kernel.defs₀ Bits _ _ .tc 2 a = @Cert.KernelIdeal.defs₀ Bits _ _ .tc 2 a := rfl
set_option maxHeartbeats 4000000 in
/-- Label 4 where it never runs is the same in the two programs. -/
theorem idle_tc4 (a) : @Cert.Kernel.defs₀ Bits _ _ .tc 4 a = @Cert.KernelIdeal.defs₀ Bits _ _ .tc 4 a := rfl
set_option maxHeartbeats 4000000 in
/-- Label 6 where it never runs is the same in the two programs. -/
theorem idle_tc6 (a) : @Cert.Kernel.defs₀ Bits _ _ .tc 6 a = @Cert.KernelIdeal.defs₀ Bits _ _ .tc 6 a := rfl
set_option maxHeartbeats 4000000 in
/-- Label 8 where it never runs is the same in the two programs. -/
theorem idle_tc8 (a) : @Cert.Kernel.defs₀ Bits _ _ .tc 8 a = @Cert.KernelIdeal.defs₀ Bits _ _ .tc 8 a := rfl
set_option maxHeartbeats 4000000 in
/-- Label 0 where it never runs is the same in the two programs. -/
theorem idle_sv0 (c s a) : @Cert.Kernel.defs₀ Bits _ _ (.scVector c s) 0 a = @Cert.KernelIdeal.defs₀ Bits _ _ (.scVector c s) 0 a := rfl
set_option maxHeartbeats 4000000 in
/-- Label 1 where it never runs is the same in the two programs. -/
theorem idle_sv1 (c s a) : @Cert.Kernel.defs₀ Bits _ _ (.scVector c s) 1 a = @Cert.KernelIdeal.defs₀ Bits _ _ (.scVector c s) 1 a := rfl
set_option maxHeartbeats 4000000 in
/-- Label 3 where it never runs is the same in the two programs. -/
theorem idle_sv3 (c s a) : @Cert.Kernel.defs₀ Bits _ _ (.scVector c s) 3 a = @Cert.KernelIdeal.defs₀ Bits _ _ (.scVector c s) 3 a := rfl
set_option maxHeartbeats 4000000 in
/-- Label 5 where it never runs is the same in the two programs. -/
theorem idle_sv5 (c s a) : @Cert.Kernel.defs₀ Bits _ _ (.scVector c s) 5 a = @Cert.KernelIdeal.defs₀ Bits _ _ (.scVector c s) 5 a := rfl
set_option maxHeartbeats 4000000 in
/-- Label 7 where it never runs is the same in the two programs. -/
theorem idle_sv7 (c s a) : @Cert.Kernel.defs₀ Bits _ _ (.scVector c s) 7 a = @Cert.KernelIdeal.defs₀ Bits _ _ (.scVector c s) 7 a := rfl
set_option maxHeartbeats 4000000 in
/-- Label 9 where it never runs is the same in the two programs. -/
theorem idle_sv9 (c s a) : @Cert.Kernel.defs₀ Bits _ _ (.scVector c s) 9 a = @Cert.KernelIdeal.defs₀ Bits _ _ (.scVector c s) 9 a := rfl
set_option maxHeartbeats 4000000 in
/-- Label 0 where it never runs is the same in the two programs. -/
theorem idle_ss0 (c a) : @Cert.Kernel.defs₀ Bits _ _ (.scScalar c) 0 a = @Cert.KernelIdeal.defs₀ Bits _ _ (.scScalar c) 0 a := rfl
set_option maxHeartbeats 4000000 in
/-- Label 1 where it never runs is the same in the two programs. -/
theorem idle_ss1 (c a) : @Cert.Kernel.defs₀ Bits _ _ (.scScalar c) 1 a = @Cert.KernelIdeal.defs₀ Bits _ _ (.scScalar c) 1 a := rfl
set_option maxHeartbeats 4000000 in
/-- Label 2 where it never runs is the same in the two programs. -/
theorem idle_ss2 (c a) : @Cert.Kernel.defs₀ Bits _ _ (.scScalar c) 2 a = @Cert.KernelIdeal.defs₀ Bits _ _ (.scScalar c) 2 a := rfl
set_option maxHeartbeats 4000000 in
/-- Label 3 where it never runs is the same in the two programs. -/
theorem idle_ss3 (c a) : @Cert.Kernel.defs₀ Bits _ _ (.scScalar c) 3 a = @Cert.KernelIdeal.defs₀ Bits _ _ (.scScalar c) 3 a := rfl
set_option maxHeartbeats 4000000 in
/-- Label 4 where it never runs is the same in the two programs. -/
theorem idle_ss4 (c a) : @Cert.Kernel.defs₀ Bits _ _ (.scScalar c) 4 a = @Cert.KernelIdeal.defs₀ Bits _ _ (.scScalar c) 4 a := rfl
set_option maxHeartbeats 4000000 in
/-- Label 5 where it never runs is the same in the two programs. -/
theorem idle_ss5 (c a) : @Cert.Kernel.defs₀ Bits _ _ (.scScalar c) 5 a = @Cert.KernelIdeal.defs₀ Bits _ _ (.scScalar c) 5 a := rfl
set_option maxHeartbeats 4000000 in
/-- Label 6 where it never runs is the same in the two programs. -/
theorem idle_ss6 (c a) : @Cert.Kernel.defs₀ Bits _ _ (.scScalar c) 6 a = @Cert.KernelIdeal.defs₀ Bits _ _ (.scScalar c) 6 a := rfl
set_option maxHeartbeats 4000000 in
/-- Label 7 where it never runs is the same in the two programs. -/
theorem idle_ss7 (c a) : @Cert.Kernel.defs₀ Bits _ _ (.scScalar c) 7 a = @Cert.KernelIdeal.defs₀ Bits _ _ (.scScalar c) 7 a := rfl
set_option maxHeartbeats 4000000 in
/-- Label 8 where it never runs is the same in the two programs. -/
theorem idle_ss8 (c a) : @Cert.Kernel.defs₀ Bits _ _ (.scScalar c) 8 a = @Cert.KernelIdeal.defs₀ Bits _ _ (.scScalar c) 8 a := rfl
set_option maxHeartbeats 4000000 in
/-- Label 9 where it never runs is the same in the two programs. -/
theorem idle_ss9 (c a) : @Cert.Kernel.defs₀ Bits _ _ (.scScalar c) 9 a = @Cert.KernelIdeal.defs₀ Bits _ _ (.scScalar c) 9 a := rfl

end Cert.Proof.Run
end
-- ==== Proof.Same.lean ====
module

public import proofs.«01_k».proof.Kernel
public import proofs.«01_k».proof.KernelIdeal
public import proofs.«01_k».proof.Proof.Gen.Kernel
public import proofs.«01_k».proof.Proof.Gen.KernelIdeal
public import proofs.«01_k».proof.Defs
public import proofs.«01_k».proof.Proof.Same0
public import proofs.«01_k».proof.Proof.Same1
public import proofs.«01_k».proof.Proof.Same2

@[expose] public section

noncomputable section

namespace Cert.Proof.Run

open Idealize.ShloMosaic Idealize.SL.Sem

set_option maxHeartbeats 4000000 in
/-- The two programs' body tables, at the machine's floats, are the same table. -/
theorem defs₀_same : @Cert.Kernel.defs₀ Bits _ _ = @Cert.KernelIdeal.defs₀ Bits _ _ := by
  funext p l a
  cases p with
  | tc =>
    match l, a with
    | ⟨0, _⟩, a => exact body_0 a
    | ⟨1, _⟩, a => exact body_1 a
    | ⟨2, _⟩, a => exact idle_tc2 a
    | ⟨3, _⟩, a => exact body_3 a
    | ⟨4, _⟩, a => exact idle_tc4 a
    | ⟨5, _⟩, a => exact body_5 a
    | ⟨6, _⟩, a => exact idle_tc6 a
    | ⟨7, _⟩, a => exact body_7 a
    | ⟨8, _⟩, a => exact idle_tc8 a
    | ⟨9, _⟩, a => exact body_9 a
  | scScalar c =>
    match l, a with
    | ⟨0, _⟩, a => exact idle_ss0 c a
    | ⟨1, _⟩, a => exact idle_ss1 c a
    | ⟨2, _⟩, a => exact idle_ss2 c a
    | ⟨3, _⟩, a => exact idle_ss3 c a
    | ⟨4, _⟩, a => exact idle_ss4 c a
    | ⟨5, _⟩, a => exact idle_ss5 c a
    | ⟨6, _⟩, a => exact idle_ss6 c a
    | ⟨7, _⟩, a => exact idle_ss7 c a
    | ⟨8, _⟩, a => exact idle_ss8 c a
    | ⟨9, _⟩, a => exact idle_ss9 c a
  | scVector c s =>
    match l, a with
    | ⟨0, _⟩, a => exact idle_sv0 c s a
    | ⟨1, _⟩, a => exact idle_sv1 c s a
    | ⟨2, _⟩, a => exact body_2 c s a
    | ⟨3, _⟩, a => exact idle_sv3 c s a
    | ⟨4, _⟩, a => exact body_4 c s a
    | ⟨5, _⟩, a => exact idle_sv5 c s a
    | ⟨6, _⟩, a => exact body_6 c s a
    | ⟨7, _⟩, a => exact idle_sv7 c s a
    | ⟨8, _⟩, a => exact body_8 c s a
    | ⟨9, _⟩, a => exact idle_sv9 c s a

set_option maxHeartbeats 4000000 in
/-- … and so are the programs' tables. -/
theorem defs_same : @Cert.Kernel.defs Bits _ _ = @Cert.KernelIdeal.defs Bits _ _ := by
  refine Eq.trans (b := @Cert.Kernel.sc Bits _ |>.defs (Pipeline.defs Cert.Kernel.pcfgs (@Cert.Kernel.defs₀ Bits _ _))) rfl ?_
  rw [defs₀_same]
  rfl

end Cert.Proof.Run
end
-- ==== Proof.RefDefs.lean ====
module

public import proofs.«01_k».proof.Defs
public import proofs.«01_k».proof.Proof.Gen.ReferenceIdeal.Run
public import Idealize.ShloMosaic.Lib.Pointwise
public import Idealize.ShloMosaic.Lib.Routing.Ops
public import Idealize.ShloMosaic.Lib.Routing.OpsPair

@[expose] public section

noncomputable section

namespace Cert.Proof.Ref

open Cert.ReferenceIdeal Cert.ReferenceIdeal.Gen Idealize.ShloMosaic Idealize.ShloMosaic.TcCoe Idealize.SL.Sem

variable {F : FTy → Type} [FloatOps F]

/-- The reference's mean over the batch and the points, one per channel. -/
def rMean (f : FVec F S2x256x4096 .f32) : FVec F S1x256x1 .f32 :=
  Host.divf (broadcastInDim S1x256x1 ![1] bcast_S256_S1x256x1_1 (Host.reduceAdd f (constant S_ .f32 0x00000000#32) reducesTo_S2x256x4096_S256_d0_2 h_S_)) (broadcastInDim S1x256x1 ![] bcast_S_S1x256x1 (constant S_ .f32 0x46000000#32))

/-- The reference's variance over the batch and the points, one per channel. -/
def rVar (f : FVec F S2x256x4096 .f32) : FVec F S1x256x1 .f32 :=
  select (broadcastInDim S1x256x1 ![] bcast_S_S1x256x1 (cmpf .ogt (subf (constant S_ .f32 0x46000000#32) (sitofp .f32 (constantI S_ 32 0#32)) : FVec F S_ .f32) (constant S_ .f32 0x00000000#32)))
    (Host.divf (broadcastInDim S1x256x1 ![1] bcast_S256_S1x256x1_1 (Host.reduceAdd (mulf (subf f (broadcastInDim S2x256x4096 ![0, 1, 2] bcast_S1x256x1_S2x256x4096_0_1_2 (rMean f))) (subf f (broadcastInDim S2x256x4096 ![0, 1, 2] bcast_S1x256x1_S2x256x4096_0_1_2 (rMean f)))) (constant S_ .f32 0x00000000#32) reducesTo_S2x256x4096_S256_d0_2 h_S_)) (broadcastInDim S1x256x1 ![] bcast_S_S1x256x1 (subf (constant S_ .f32 0x46000000#32) (sitofp .f32 (constantI S_ 32 0#32)))))
    (broadcastInDim S1x256x1 ![] bcast_S_S1x256x1 (id (constant S_ .f32 0x7FC00000#32)))

/-- The normalised features. -/
def rNorm (f : FVec F S2x256x4096 .f32) (w b : FVec F S256 .f32) : FVec F S2x256x4096 .f32 :=
  addf (mulf (Host.divf (subf f (broadcastInDim S2x256x4096 ![0, 1, 2] bcast_S1x256x1_S2x256x4096_0_1_2 (rMean f)))
    (broadcastInDim S2x256x4096 ![0, 1, 2] bcast_S1x256x1_S2x256x4096_0_1_2 (Host.sqrt (addf (rVar f) (broadcastInDim S1x256x1 ![] bcast_S_S1x256x1 (constant S_ .f32 0x3727C5AC#32))))))
    (broadcastInDim S2x256x4096 ![0, 1, 2] bcast_S1x256x1_S2x256x4096_0_1_2 (broadcastInDim S1x256x1 ![1] bcast_S256_S1x256x1_1 w)))
    (broadcastInDim S2x256x4096 ![0, 1, 2] bcast_S1x256x1_S2x256x4096_0_1_2 (broadcastInDim S1x256x1 ![1] bcast_S256_S1x256x1_1 b))

/-- The product of the normalised features and positions with the first weights. -/
def rFeat (x : FVec F S2x4096x3 .f32) (nf : FVec F S2x256x4096 .f32) (wg : FVec F S128x259 .f32) : FVec F S2x128x4096 .f32 :=
  transpose S2x128x4096 [0, 2, 1] (Host.dotGeneral dot_S2x4096x259_S259x128_S2x4096x128_2_0_01_1_n_n none (transpose S2x4096x259 [0, 2, 1] (concatenate S2x259x4096 1 [⟨S2x256x4096, nf⟩, ⟨S2x3x4096, (transpose S2x3x4096 [0, 2, 1] x transposes_S2x4096x3_S2x3x4096_0_2_1)⟩] concatenates_S2x256x4096_S2x3x4096_S2x259x4096_d1) transposes_S2x259x4096_S2x4096x259_0_2_1) (transpose S259x128 [1, 0] wg transposes_S128x259_S259x128_1_0)) transposes_S2x4096x128_S2x128x4096_0_2_1

/-- The neighbours' indices, one a row, a negative one counted from the end. -/
def rIdx (I : IVec S2x4096x32 32) : IVec S2x131072x1 32 :=
  broadcastInDim S2x131072x1 ![0, 1] bcast_S2x131072_S2x131072x1_0_1 (select (cmpi .slt (shapeCast _ I shapeCasts_S2x4096x32_S2x131072) (broadcastInDim S2x131072 ![] bcast_S_S2x131072 (constantI S_ 32 0#32))) (addi (shapeCast _ I shapeCasts_S2x4096x32_S2x131072) (broadcastInDim S2x131072 ![] bcast_S_S2x131072 (constantI S_ 32 4096#32))) (shapeCast _ I shapeCasts_S2x4096x32_S2x131072))

/-- The neighbours' rows. -/
def rRows (g : FVec F S2x128x4096 .f32) (J : IVec S2x131072x1 32) : FVec F S2x131072x128 .f32 :=
  Host.gather gather_S2x4096x128_S2x131072x1_S2x131072x128_2_1_0_0_1_2_11128 (transpose S2x4096x128 [0, 2, 1] g transposes_S2x128x4096_S2x4096x128_0_2_1) J

/-- The greatest of each point's rows. -/
def rMax (R : FVec F S2x131072x128 .f32) : FVec F S2x128x4096 .f32 :=
  transpose S2x128x4096 [0, 2, 1] (Host.reduce FloatOps.maximumf (transpose S2x32x4096x128 [0, 2, 1, 3] (shapeCast _ R shapeCasts_S2x131072x128_S2x4096x32x128) transposes_S2x4096x32x128_S2x32x4096x128_0_2_1_3) (constant S_ .f32 0xFF800000#32) reducesTo_S2x32x4096x128_S2x4096x128_d1 h_S_) transposes_S2x4096x128_S2x128x4096_0_2_1

/-- The greatest of the neighbours' rows, less the point's own. -/
def rDiff (g : FVec F S2x128x4096 .f32) (I : IVec S2x4096x32 32) : FVec F S2x128x4096 .f32 :=
  subf (rMax (rRows g (rIdx I))) g

/-- The product of three copies of the differences with the second weights. -/
def rOut (d : FVec F S2x128x4096 .f32) (wh : FVec F S256x384 .f32) : FVec F S2x256x4096 .f32 :=
  transpose S2x256x4096 [0, 2, 1] (Host.dotGeneral dot_S2x4096x384_S384x256_S2x4096x256_2_0_01_1_n_n none (transpose S2x4096x384 [0, 2, 1] (concatenate S2x384x4096 1 [⟨S2x128x4096, d⟩, ⟨S2x128x4096, d⟩, ⟨S2x128x4096, d⟩] concatenates_S2x128x4096_S2x128x4096_S2x128x4096_S2x384x4096_d1) transposes_S2x384x4096_S2x4096x384_0_2_1) (transpose S384x256 [1, 0] wh transposes_S256x384_S384x256_1_0)) transposes_S2x4096x256_S2x256x4096_0_2_1

set_option maxRecDepth 16384 in
/-- The reference's result is the composition of these. -/
theorem res_eq (m : (ℓ : Loc nD τ sig) → Buf (Elt F) ℓ) (c : Dev nD) : Cert.ReferenceIdeal.Value.res_main_v70 m c
    = rOut (rDiff (rFeat (m ((c.tc : Thread nD τ).loc main_arg0)) (rNorm (m ((c.tc : Thread nD τ).loc main_arg1)) (m ((c.tc : Thread nD τ).loc main_arg4)) (m ((c.tc : Thread nD τ).loc main_arg5))) (m ((c.tc : Thread nD τ).loc main_arg2)))
        (m ((c.tc : Thread nD τ).loc main_arg6))) (m ((c.tc : Thread nD τ).loc main_arg3)) := rfl

end Cert.Proof.Ref
end
-- ==== Proof.Ref.lean ====
module

public import proofs.«01_k».proof.Proof.RefDefs
public import proofs.«01_k».proof.Proof.Pay
public import proofs.«01_k».proof.Proof.Whole
public import Idealize.ShloMosaic.Lib.Pointwise
public import Idealize.ShloMosaic.Lib.Routing.Ops
public import Idealize.ShloMosaic.Lib.Routing.OpsPair

@[expose] public section

noncomputable section

namespace Cert.Proof.Ref

open Cert.ReferenceIdeal Cert.ReferenceIdeal.Gen Idealize.ShloMosaic
open Cert.Proof.Run Cert.Proof.Tile

/-- The host's sum over the batch and the points is the kernel's. -/
theorem host_tot (f : FVec Ideal S2x256x4096 .f32) (c : Fin 256) :
    Ideal.hostReduceAdd reducesTo_S2x256x4096_S256_d0_2 f 0 (ix1 c) = tot f c := by
  unfold Ideal.hostReduceAdd tot Ideal.reduceAdd
  rw [zero_add]
  rfl

/-- The reference's mean of a channel. -/
theorem rMean_apply (f : FVec Ideal S2x256x4096 .f32) (c : Fin 256) : rMean f (ix3 0 c 0) = mean f c := by
  pointwise [rMean, mean]
  rw [host_tot]

/-- A channel has 8192 entries. -/
theorem cnt_eq : cnt = ((8192 : ℝ) : EReal) := by
  simp [cnt, Ideal.ofBits, Ideal.ieee]
  rw [← EReal.coe_mul]
  norm_num

/-- The integer zero as a float. -/
theorem sitofp_zero : (FloatOps.sitofp FTy.f32 0#32 : Ideal .f32) = (0 : EReal) := by
  show (((0#32 : BitVec 32).toInt : ℝ) : EReal) = 0
  simp

set_option maxRecDepth 16384 in
/-- The reference's variance of a channel. -/
theorem rVar_apply (f : FVec Ideal S2x256x4096 .f32) (c : Fin 256) : rVar f (ix3 0 c 0) = var f c := by
  have e : mulf (subf f (broadcastInDim S2x256x4096 ![0, 1, 2] bcast_S1x256x1_S2x256x4096_0_1_2 (rMean f)))
      (subf f (broadcastInDim S2x256x4096 ![0, 1, 2] bcast_S1x256x1_S2x256x4096_0_1_2 (rMean f)))
      = fun i => (f i - mean f (i 1)) * (f i - mean f (i 1)) := by
    funext i
    idx_vars i
    pointwise
    rw [rMean_apply]
  unfold rVar
  rw [e]
  pointwise [var]
  rw [host_tot, sitofp_zero, sub_zero, if_pos]
  · show (0 : EReal) < cnt
    rw [cnt_eq]
    exact EReal.coe_pos.2 (by norm_num)

set_option maxRecDepth 16384 in
/-- The normalised features at an entry. -/
theorem rNorm_apply (f : FVec Ideal S2x256x4096 .f32) (w b : FVec Ideal S256 .f32) (q : Fin 2) (c : Fin 256) (n : Fin 4096) :
    rNorm f w b (ix3 q c n) = Ideal.div (f (ix3 q c n) - mean f c) (Ideal.sqrt (var f c + eps)) * w (ix1 c) + b (ix1 c) := by
  pointwise [rNorm, eps]
  rw [rMean_apply, rVar_apply]

set_option maxRecDepth 16384 in
/-- The reference's `feat0` at an entry. -/
theorem rFeat_apply (x : FVec Ideal S2x4096x3 .f32) (nf : FVec Ideal S2x256x4096 .f32) (wg : FVec Ideal S128x259 .f32) (q : Fin 2) (o : Fin 128) (n : Fin 4096) :
    rFeat x nf wg (ix3 q o n) = ∑ c : Fin 256, nf (ix3 q c n) * wg (ix2 o ⟨c.val, by omega⟩) + ∑ c : Fin 3, x (ix3 q n c) * wg (ix2 o ⟨256 + c.val, by omega⟩) := by
  pointwise [rFeat]

/-- The sum over three copies of 128 channels, split. -/
theorem sum384 (G : Fin 384 → EReal) : ∑ k, G k = ∑ k : Fin 128, G ⟨k.val, by omega⟩ + ∑ k : Fin 128, G ⟨128 + k.val, by omega⟩ + ∑ k : Fin 128, G ⟨256 + k.val, by omega⟩ :=
  (Fin.sum_univ_add (a := 256) (b := 128) G).trans (congrArg₂ (· + ·) (Fin.sum_univ_add (a := 128) (b := 128) fun k : Fin 256 => G (Fin.castAdd 128 k)) rfl)

set_option maxRecDepth 16384 in
/-- The reference's result at an entry, from the differences. -/
theorem rOut_apply (d : FVec Ideal S2x128x4096 .f32) (wh : FVec Ideal S256x384 .f32) (q : Fin 2) (o : Fin 256) (n : Fin 4096) :
    rOut d wh (ix3 q o n) = ∑ k : Fin 128, d (ix3 q k n) * wh (ix2 o ⟨k.val, by omega⟩) + ∑ k : Fin 128, d (ix3 q k n) * wh (ix2 o ⟨128 + k.val, by omega⟩)
      + ∑ k : Fin 128, d (ix3 q k n) * wh (ix2 o ⟨256 + k.val, by omega⟩) := by
  pointwise [rOut]
  rw [sum384]
  refine congrArg₂ (· + ·) (congrArg₂ (· + ·) (Finset.sum_congr rfl fun k _ => ?_) (Finset.sum_congr rfl fun k _ => ?_)) (Finset.sum_congr rfl fun k _ => ?_)
  · rw [dif_pos k.isLt]
  · rw [dif_neg (by show ¬ 128 + k.val < 128; omega), dif_pos (by show 128 + k.val - 128 < 128; omega)]
    refine congrArg (· * _) (congrArg d ?_)
    refine congrArg (fun z => ix3 q z n) (Fin.ext ?_)
    show 128 + k.val - 128 = k.val; omega
  · rw [dif_neg (by show ¬ 256 + k.val < 128; omega), dif_neg (by show ¬ 256 + k.val - 128 < 128; omega)]
    refine congrArg (· * _) (congrArg d ?_)
    refine congrArg (fun z => ix3 q z n) (Fin.ext ?_)
    show 256 + k.val - 128 - 128 = k.val; omega

end Cert.Proof.Ref
end
-- ==== Proof.RefMax.lean ====
module

public import proofs.«01_k».proof.Proof.RefDefs
public import proofs.«01_k».proof.Proof.Pay
public import proofs.«01_k».proof.Proof.Whole
public import proofs.«01_k».proof.Proof.Host
public import Idealize.ShloMosaic.Lib.Pointwise
public import Idealize.ShloMosaic.Lib.Routing.Ops
public import Idealize.ShloMosaic.Lib.Routing.OpsPair

@[expose] public section

noncomputable section

namespace Cert.Proof.Ref

open Cert.ReferenceIdeal Cert.ReferenceIdeal.Gen Idealize.ShloMosaic
open Cert.Proof.Run Cert.Proof.Tile

/-- Over the reals the pairwise maxima of `2 ^ n` entries are the entries' supremum. -/
theorem treeMax_eq_sup : ∀ (n : ℕ) (x : ℕ → EReal), treeMax (F := Ideal) n x = (Finset.range (2 ^ n)).sup x
  | 0, x => (Finset.sup_singleton (b := 0) (f := x)).symm
  | n + 1, x => by
    rw [treeMax]
    refine (treeMax_eq_sup n _).trans (le_antisymm (Finset.sup_le fun k hk => ?_) (Finset.sup_le fun k hk => ?_))
    · have hk := Finset.mem_range.1 hk
      exact max_le (Finset.le_sup (f := x) (Finset.mem_range.2 (by omega))) (Finset.le_sup (f := x) (Finset.mem_range.2 (by omega)))
    · have hk := Finset.mem_range.1 hk
      refine le_trans ?_ (Finset.le_sup (f := fun k => max (x (2 * k)) (x (2 * k + 1))) (b := k / 2) (Finset.mem_range.2 (by omega)))
      rcases Nat.mod_two_eq_zero_or_one k with h | h
      · exact le_max_of_le_left (le_of_eq (congrArg x (by omega)))
      · exact le_max_of_le_right (le_of_eq (congrArg x (by omega)))

/-- And a reduction by `max` from `-∞` over 32 entries is the same. -/
theorem fold_eq_treeMax (b : EReal) (hb : b = ⊥) (x : Fin 32 → EReal) (x' : ℕ → EReal) (h : ∀ k : Fin 32, x k = x' k.val) :
    (Finset.univ : Finset (Fin 32)).fold max b x = treeMax (F := Ideal) 5 x' := by
  rw [treeMax_eq_sup 5, hb]
  refine le_antisymm (Finset.sup_le (s := Finset.univ) (f := x) fun k _ => ?_) (Finset.sup_le fun k hk => ?_)
  · rw [h k]; exact Finset.le_sup (f := x') (Finset.mem_range.2 k.isLt)
  · have hk := Finset.mem_range.1 hk
    exact (le_of_eq (h ⟨k, hk⟩).symm).trans (Finset.le_sup (f := x) (Finset.mem_univ (⟨k, hk⟩ : Fin 32)))

/-- A neighbour's row, from its index. -/
theorem rRows_apply (g : FVec Ideal S2x128x4096 .f32) (J : IVec S2x131072x1 32) (q : Fin 2) (e : Fin 131072) (o : Fin 128) (b : Fin 4096)
    (hb : J (ix3 q e 0) = BitVec.ofNat 32 b.val) : rRows g J (ix3 q e o) = g (ix3 q o b) := by
  have key : ∀ X : FVec Ideal S2x4096x128 .f32, Host.gather gather_S2x4096x128_S2x131072x1_S2x131072x128_2_1_0_0_1_2_11128 X J (ix3 q e o) = X (ix3 q b o) := by
    intro X
    unfold Host.gather
    refine congrArg X (funext fun a => Fin.ext ?_)
    match a with
    | ⟨0, _⟩ => show 0 + q.val + 0 = q.val; omega
    | ⟨1, _⟩ =>
      have hbl := b.isLt
      have hs : gather_S2x4096x128_S2x131072x1_S2x131072x128_2_1_0_0_1_2_11128.siIdx (ix3 q e o) ⟨0, by decide⟩ = ix3 q e 0 := by
        funext z
        match z with
        | ⟨0, _⟩ => exact Fin.ext rfl
        | ⟨1, _⟩ => exact Fin.ext rfl
        | ⟨2, _⟩ => exact Fin.ext rfl
      show min (J (gather_S2x4096x128_S2x131072x1_S2x131072x128_2_1_0_0_1_2_11128.siIdx (ix3 q e o) ⟨0, by decide⟩)).toInt.toNat (4096 - 1) + 0 + 0 = b.val
      rw [hs, hb, StableHlo.Predicate.toInt_ofNat_small _ (by omega)]
      omega
    | ⟨2, _⟩ => show 0 + 0 + o.val = o.val; omega
  unfold rRows
  rw [key]
  pointwise

/-- The gather's indices at an entry. -/
theorem rIdx_apply (I : IVec S2x4096x32 32) (hI : ∀ j, (I j).toNat < 4096) (q : Fin 2) (n : Fin 4096) (k : Fin 32) :
    rIdx I (ix3 q ⟨n.val * 32 + k.val, by omega⟩ 0) = I (ix3 q n k) := by
  pointwise [rIdx]
  exact Routing.wrap_of_lt _ _ (lt_trans (hI _) (by decide))

/-- The maximum over the neighbours at an entry. -/
theorem rMax_apply (R : FVec Ideal S2x131072x128 .f32) (q : Fin 2) (n : Fin 4096) (o : Fin 128) :
    rMax R (ix3 q o n) = Finset.univ.fold max (Ideal.ofBits FTy.f32 0xFF800000#32) fun k : Fin 32 => R (ix3 q ⟨n.val * 32 + k.val, by omega⟩ o) := by
  pointwise [rMax]

/-- A word in range is its point's number. -/
theorem pt_word (w : BitVec 32) (h : w.toNat < 4096) : w = BitVec.ofNat 32 (pt w).val := by
  show w = BitVec.ofNat 32 (w.toNat % 4096)
  rw [Nat.mod_eq_of_lt h, BitVec.ofNat_toNat, BitVec.setWidth_eq]

/-- The constant the maximum starts from. -/
theorem neg_inf : Ideal.ofBits FTy.f32 0xFF800000#32 = (⊥ : EReal) := by
  simp [Ideal.ofBits, Ideal.ieee]

/-- The gather's index is the neighbour's number. -/
theorem rIdx_pt (I : IVec S2x4096x32 32) (hI : ∀ j, (I j).toNat < 4096) (q : Fin 2) (n : Fin 4096) (k : Fin 32) :
    rIdx I (ix3 q ⟨n.val * 32 + k.val, by omega⟩ 0) = BitVec.ofNat 32 (pt (I (ix3 q n k))).val :=
  (rIdx_apply I hI q n k).trans (pt_word _ (hI _))

/-- The maximum over the gathered rows at an entry. -/
theorem rMax_rows (g : FVec Ideal S2x128x4096 .f32) (I : IVec S2x4096x32 32) (hI : ∀ j, (I j).toNat < 4096) (q : Fin 2) (o : Fin 128) (n : Fin 4096) :
    rMax (rRows g (rIdx I)) (ix3 q o n) = treeMax (F := Ideal) 5 (fun k => g (ix3 q o (pt (I (ix3 q n (nb k)))))) := by
  rw [rMax_apply]
  refine fold_eq_treeMax _ neg_inf _ _ fun k => ?_
  have hk : nb k.val = k := Fin.ext (Nat.mod_eq_of_lt k.isLt)
  rw [hk]
  exact rRows_apply g (rIdx I) q ⟨n.val * 32 + k.val, by omega⟩ o (pt (I (ix3 q n k))) (rIdx_pt I hI q n k)

/-- A difference at an entry. -/
theorem sub_at (M g : FVec Ideal S2x128x4096 .f32) (q : Fin 2) (o : Fin 128) (n : Fin 4096) :
    subf M g (ix3 q o n) = M (ix3 q o n) - g (ix3 q o n) := by
  pointwise

/-- The differences are the maxima less the features. -/
theorem rDiff_eq (g : FVec Ideal S2x128x4096 .f32) (I : IVec S2x4096x32 32) :
    rDiff g I = subf (rMax (rRows g (rIdx I))) g := by
  unfold rDiff
  rfl

/-- The reference's difference at an entry: the pairwise maximum over the 32 neighbours, less the point's own entry. -/
theorem rDiff_apply (g : FVec Ideal S2x128x4096 .f32) (I : IVec S2x4096x32 32) (hI : ∀ j, (I j).toNat < 4096) (q : Fin 2) (o : Fin 128) (n : Fin 4096) :
    rDiff g I (ix3 q o n) = treeMax (F := Ideal) 5 (fun k => g (ix3 q o (pt (I (ix3 q n (nb k)))))) - g (ix3 q o n) := by
  rw [rDiff_eq, sub_at, rMax_rows g I hI q o n]

end Cert.Proof.Ref
end
-- ==== Proof.Alg.lean ====
module

public import proofs.«01_k».proof.Proof.Ref
public import proofs.«01_k».proof.Proof.RefMax

@[expose] public section

noncomputable section

namespace Cert.Proof.Alg

open Cert.KernelIdeal Cert.KernelIdeal.Gen Idealize.ShloMosaic
open Cert.Proof.Run Cert.Proof.Tile

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The statistics of finite features -/

/-- A channel's sum of finite features is finite, and not negative when they aren't. -/
theorem tot_coe (f : FVec Ideal S2x256x4096 .f32) (F : S2x256x4096.Idx → ℝ) (h : ∀ i, f i = (F i : EReal)) (c : Fin 256) :
    ∃ t : ℝ, tot f c = t ∧ ((∀ i, 0 ≤ F i) → 0 ≤ t) := by
  refine ⟨∑ i ∈ Finset.univ.filter (fun i => reduces_S2x256x4096_S256.drop i = ix1 c), F i, ?_, fun hp => Finset.sum_nonneg fun i _ => hp i⟩
  rw [coe_sum]
  unfold tot Ideal.reduceAdd
  exact Finset.sum_congr (M := EReal) rfl fun i _ => h i

/-- A channel's mean is finite. -/
theorem mean_real (f : FVec Ideal S2x256x4096 .f32) (hf : ∀ i, ∃ r : ℝ, f i = (r : EReal)) (c : Fin 256) : ∃ r : ℝ, mean f c = r := by
  choose F hF using hf
  obtain ⟨t, ht, -⟩ := tot_coe f F hF c
  refine ⟨t * (1 / 8192), ?_⟩
  unfold mean
  rw [ht, Ref.cnt_eq, Ideal.div_coe (by norm_num), EReal.coe_mul]

/-- A channel's variance is finite and not negative. -/
theorem var_real (f : FVec Ideal S2x256x4096 .f32) (hf : ∀ i, ∃ r : ℝ, f i = (r : EReal)) (c : Fin 256) : ∃ r : ℝ, 0 ≤ r ∧ var f c = r := by
  have hM := mean_real f hf
  choose F hF using hf
  choose M hM using hM
  obtain ⟨t, ht, hp⟩ := tot_coe (fun i => (f i - mean f (i 1)) * (f i - mean f (i 1))) (fun i => (F i - M (i 1)) * (F i - M (i 1)))
    (fun i => by
      have h1 := hF i
      have h2 := hM (i 1)
      show (f i - mean f (i 1)) * (f i - mean f (i 1)) = _
      rw [h1, h2, EReal.coe_mul, EReal.coe_sub]) c
  refine ⟨t * (1 / 8192), mul_nonneg (hp fun i => mul_self_nonneg _) (by norm_num), ?_⟩
  unfold var
  rw [ht, Ref.cnt_eq, Ideal.div_coe (by norm_num), EReal.coe_mul]

/-- The constant under the root is positive. -/
theorem eps_real : ∃ r : ℝ, 0 < r ∧ eps = (r : EReal) := by
  refine ⟨10995116 * (2 ^ 40)⁻¹, ?_, ?_⟩
  · norm_num
  · simp [eps, Ideal.ofBits, Ideal.ieee, -EReal.coe_mul]

/-- The deviation under the division is a real number that isn't zero. -/
theorem dev_real (f : FVec Ideal S2x256x4096 .f32) (hf : ∀ i, ∃ r : ℝ, f i = (r : EReal)) (c : Fin 256) :
    ∃ r : ℝ, r ≠ 0 ∧ Ideal.sqrt (var f c + eps) = r := by
  obtain ⟨v, hv, ev⟩ := var_real f hf c
  obtain ⟨e, he, ee⟩ := eps_real
  refine ⟨Real.sqrt (v + e), (Real.sqrt_pos.2 (by linarith)).ne', ?_⟩
  rw [ev, ee, ← EReal.coe_add, Ideal.sqrt_coe, if_neg (by linarith)]

/-! ## The two identities over the reals -/

/-- The scale folded into the weights and the shift summed apart give the sum over the normalised features. -/
theorem feat_alg (f μ s g w b : Fin 256 → ℝ) (S : Fin 256 → EReal) (hS : ∀ c, S c = (s c : EReal)) (hs : ∀ c, s c ≠ 0) (X : EReal) :
    ∑ c, (f c : EReal) * ((g c : EReal) * Ideal.div (w c : EReal) (S c)) + X + ∑ c, (g c : EReal) * ((b c : EReal) - (μ c : EReal) * Ideal.div (w c : EReal) (S c))
      = ∑ c, (Ideal.div ((f c : EReal) - (μ c : EReal)) (S c) * (w c : EReal) + (b c : EReal)) * (g c : EReal) + X := by
  obtain rfl : S = fun c => (s c : EReal) := funext hS
  simp only [Ideal.div_coe (hs _)]
  rw [add_right_comm]
  refine congrArg (· + X) ?_
  simp only [← EReal.coe_mul, ← EReal.coe_sub, ← EReal.coe_add, ← coe_sum]
  refine congrArg _ ?_
  rw [← Finset.sum_add_distrib]
  exact Finset.sum_congr rfl fun c _ => by ring

/-- The three groups of output weights summed first give the sum over the three groups. -/
theorem out_alg (D w0 w1 w2 : Fin 128 → ℝ) :
    ∑ k, ((0 : EReal) + ((w0 k : EReal) + (w1 k : EReal) + (w2 k : EReal))) * (D k : EReal)
      = ∑ k, (D k : EReal) * (w0 k : EReal) + ∑ k, (D k : EReal) * (w1 k : EReal) + ∑ k, (D k : EReal) * (w2 k : EReal) := by
  simp only [zero_add, ← EReal.coe_mul, ← EReal.coe_add, ← coe_sum]
  refine congrArg _ ?_
  rw [← Finset.sum_add_distrib, ← Finset.sum_add_distrib]
  exact Finset.sum_congr rfl fun c _ => by ring

/-- The largest of finitely many reals is one. -/
theorem treeMax_real : ∀ (n : ℕ) (x : ℕ → EReal), (∀ k, ∃ r : ℝ, x k = (r : EReal)) → ∃ r : ℝ, treeMax (F := Ideal) n x = (r : EReal)
  | 0, x, h => h 0
  | n + 1, x, h => treeMax_real n _ fun k => by
    show ∃ r : ℝ, max (x (2 * k)) (x (2 * k + 1)) = r
    rcases max_choice (x (2 * k)) (x (2 * k + 1)) with e | e <;> rw [e] <;> exact h _

end Cert.Proof.Alg
end
-- ==== Proof.Vals.lean ====
module

public import proofs.«01_k».proof.Proof.Segs
public import proofs.«01_k».proof.Proof.Pay
public import Idealize.ShloMosaic.Lib.Pipeline.ValueKit

@[expose] public section

noncomputable section

namespace Cert.Proof.Run

open Cert.KernelIdeal Cert.KernelIdeal.Gen Cert.Proof.Tile Cert.Proof.Reg
open Idealize.ShloMosaic
open Idealize.ShloMosaic.Pipeline (Dat Cfg Window)

/-- What the feature stage leaves, at an entry. -/
def featOf (f : FVec Ideal S2x256x4096 .f32) (x : FVec Ideal S2x4096x3 .f32) (wf : FVec Ideal S128x256 .f32) (wx : FVec Ideal S128x3 .f32) (bi : FVec Ideal S1x128 .f32)
    (q : Fin 2) (n : Fin 4096) (o : Fin 128) : EReal :=
  ∑ c : Fin 256, f (ix3 q c n) * wf (ix2 o c) + ∑ c : Fin 3, x (ix3 q n c) * wx (ix2 o c) + bi (ix2 0 o)

variable (V : Valuation τ sig (Elt Ideal)) (n : ℕ) (c : Dev nD)

/-- What region 0 stages for operand 0 is that block of the array. -/
theorem stg0_0 : stg0 V 0 t0_0 = V (Proc.devRef .tc main_arg1) := by
  funext y
  have e : win0_0.index t0_0 = fun _ => 0 := by decide +kernel
  blk_ext [stg0, e]
/-- What region 0 stages for operand 1 is that block of the array. -/
theorem stg0_1 : stg0 V 1 t0_0 = V (Proc.devRef .tc main_v0) := by
  funext y
  have e : win0_1.index t0_0 = fun _ => 0 := by decide +kernel
  blk_ext [stg0, e]
/-- What region 0 stages for operand 2 is that block of the array. -/
theorem stg0_2 : stg0 V 2 t0_0 = V (Proc.devRef .tc main_v4) := by
  funext y
  have e : win0_2.index t0_0 = fun _ => 0 := by decide +kernel
  blk_ext [stg0, e]
/-- What region 0 stages for operand 3 is that block of the array. -/
theorem stg0_3 : stg0 V 3 t0_0 = V (Proc.devRef .tc main_v5) := by
  funext y
  have e : win0_3.index t0_0 = fun _ => 0 := by decide +kernel
  blk_ext [stg0, e]

/-- What region 0 leaves in its operand 4. -/
theorem arr0_4 : (dat0 V n c).arrAt 4 cfg0.N = k0_pay4 (F := Ideal) (V (Proc.devRef .tc main_arg1)) (V (Proc.devRef .tc main_v4)) (V (Proc.devRef .tc main_v0)) := by
  refine (dat0 V n c).arrAt_eq_of_after_last 4 t0_0 (by decide +kernel) _ fun j => ?_
  blk_simp
  show k0_pay4 (F := Ideal) (stg0 V 0 t0_0) (stg0 V 2 t0_0) (stg0 V 1 t0_0) j = _
  rw [stg0_0, stg0_1, stg0_2]

/-- What region 0 leaves in its operand 5. -/
theorem arr0_5 : (dat0 V n c).arrAt 5 cfg0.N = k0_pay5 (F := Ideal) (V (Proc.devRef .tc main_arg1)) (V (Proc.devRef .tc main_v4)) (V (Proc.devRef .tc main_v5)) (V (Proc.devRef .tc main_v0)) := by
  refine (dat0 V n c).arrAt_eq_of_after_last 5 t0_0 (by decide +kernel) _ fun j => ?_
  blk_simp
  show k0_pay5 (F := Ideal) (stg0 V 0 t0_0) (stg0 V 2 t0_0) (stg0 V 3 t0_0) (stg0 V 1 t0_0) j = _
  rw [stg0_0, stg0_1, stg0_2, stg0_3]

/-- Where region 1's blocks lie. -/
theorem idx1 : ∀ t, (win1_0.index t = ![(grid1.coords t 0).val, (grid1.coords t 1).val, 0]) ∧ (win1_1.index t = ![(grid1.coords t 0).val, 0, (grid1.coords t 1).val])
    ∧ (win1_2.index t = ![0, 0]) ∧ (win1_3.index t = ![0, 0]) ∧ (win1_4.index t = ![0, 0]) ∧ (win1_5.index t = ![(grid1.coords t 0).val, (grid1.coords t 1).val, 0]) := by decide +kernel

/-- The batch of a point of the feature stage. -/
def pb1 (t : Fin cfg1.N) : Fin 2 := ⟨(grid1.coords t 0).val, (grid1.coords t 0).isLt⟩
/-- The row of the array that row `r` of a point's block is. -/
def pr1 (t : Fin cfg1.N) (r : Fin 256) : Fin 4096 := ⟨(grid1.coords t 1).val * 256 + r.val, by have h : (grid1.coords t 1).val < 16 := (grid1.coords t 1).isLt; omega⟩

/-- What region 1 stages for operand 0 is that block of the array. -/
theorem stg1_0 (t : Fin cfg1.N) (r : Fin 256) (k : Fin 3) : stg1 V 0 t (ix3 0 r k) = V (Proc.devRef .tc main_arg0) (ix3 (pb1 t) (pr1 t r) k) := by
  have e := (idx1 t).1
  unfold pb1 pr1
  blk_ext [stg1, e]
/-- What region 1 stages for operand 1 is that block of the array. -/
theorem stg1_1 (t : Fin cfg1.N) (r : Fin 256) (k : Fin 256) : stg1 V 1 t (ix3 0 k r) = V (Proc.devRef .tc main_arg1) (ix3 (pb1 t) k (pr1 t r)) := by
  have e := (idx1 t).2.1
  unfold pb1 pr1
  blk_ext [stg1, e]
/-- What region 1 stages for operand 2 is that block of the array. -/
theorem stg1_2 (t : Fin cfg1.N) : stg1 V 2 t = V (Proc.devRef .tc main_v6_0) := by
  funext y
  have e := (idx1 t).2.2.1
  blk_ext [stg1, e]
/-- What region 1 stages for operand 3 is that block of the array. -/
theorem stg1_3 (t : Fin cfg1.N) : stg1 V 3 t = V (Proc.devRef .tc main_v1) := by
  funext y
  have e := (idx1 t).2.2.2.1
  blk_ext [stg1, e]
/-- What region 1 stages for operand 4 is that block of the array. -/
theorem stg1_4 (t : Fin cfg1.N) : stg1 V 4 t = V (Proc.devRef .tc main_v6_1) := by
  funext y
  have e := (idx1 t).2.2.2.2.1
  blk_ext [stg1, e]

/-- Where an entry of region 1's result block lies. -/
theorem emb1_5 (t : Fin cfg1.N) (r : Fin 256) (k : Fin 128) : ((cfg1.win 5).blk t).view.emb (ix3 (0 : Fin 1) r k) = ix3 (pb1 t) (pr1 t r) k := by
  have e := (idx1 t).2.2.2.2.2
  unfold pb1 pr1
  blk_ext [e]

/-- A result block of region 1 at an entry. -/
theorem blk1 (t : Fin cfg1.N) (r : Fin 256) (k : Fin 128) :
    k1_pay1 (F := Ideal) (stg1 V 1 t) (stg1 V 2 t) (stg1 V 0 t) (stg1 V 3 t) (stg1 V 4 t) (ix3 0 r k)
      = featOf (V (Proc.devRef .tc main_arg1)) (V (Proc.devRef .tc main_arg0)) (V (Proc.devRef .tc main_v6_0)) (V (Proc.devRef .tc main_v1)) (V (Proc.devRef .tc main_v6_1)) (pb1 t) (pr1 t r) k := by
  rw [pay1_apply, stg1_2, stg1_3, stg1_4]
  simp only [stg1_0, stg1_1]
  rfl

/-- What region 1 leaves in its operand 5. -/
theorem arr1_5 : (dat1 V n c).arrAt 5 cfg1.N = fun i => featOf (V (Proc.devRef .tc main_arg1)) (V (Proc.devRef .tc main_arg0)) (V (Proc.devRef .tc main_v6_0)) (V (Proc.devRef .tc main_v1)) (V (Proc.devRef .tc main_v6_1)) (i 0) (i 1) (i 2) := by
  refine (dat1 V n c).arrAt_eq_of_covers 5 _ (by decide +kernel) fun t hf y => ?_
  change S1x256x128.Idx at y
  idx_vars y
  obtain rfl : y0 = 0 := Subsingleton.elim _ _
  refine Eq.trans (blk1 V t y1 y2) ?_
  rw [emb1_5]
  rfl

/-- What an output stage leaves, at an entry: the rows `fr` less the point's own rows of `f0`, through the weights `w`. -/
def outOf (fr : FVec Ideal S1x2048x128 .f32) (f0 : FVec Ideal S2x4096x128 .f32) (w : FVec Ideal S256x128 .f32) (q : Fin 2) (off : ℕ) (hoff : off ≤ 2048) (o : Fin 256) (r : Fin 2048) : EReal :=
  ∑ k : Fin 128, w (ix2 o k) * (fr (ix3 0 r k) - f0 (ix3 q ⟨off + r.val, by omega⟩ k))

/-- Where region 3's blocks lie. -/
theorem idx3 : ∀ t, (win3_0.index t = ![0, (grid3.coords t 0).val, 0]) ∧ (win3_1.index t = ![0, 0 + (grid3.coords t 0).val, 0])
    ∧ (win3_2.index t = ![0, 0]) ∧ (win3_3.index t = ![0, 0, (grid3.coords t 0).val]) := by decide +kernel

/-- The row of the slice that row `r` of a point's block is. -/
def pr3 (t : Fin cfg3.N) (r : Fin 256) : Fin 2048 := ⟨(grid3.coords t 0).val * 256 + r.val, by have h : (grid3.coords t 0).val < 8 := (grid3.coords t 0).isLt; omega⟩

/-- What region 3 stages for operand 0 is that block of the array. -/
theorem stg3_0 (t : Fin cfg3.N) (r : Fin 256) (k : Fin 128) : stg3 V 0 t (ix3 0 r k) = V (Proc.devRef .tc main_v14) (ix3 0 (pr3 t r) k) := by
  have e := (idx3 t).1
  unfold pr3
  blk_ext [stg3, e]
/-- What region 3 stages for operand 1 is that block of the array. -/
theorem stg3_1 (t : Fin cfg3.N) (r : Fin 256) (k : Fin 128) :
    stg3 V 1 t (ix3 0 r k) = V (Proc.devRef .tc main_v7) (ix3 (0 : Fin 2) ⟨0 + (pr3 t r).val, by have := (pr3 t r).isLt; omega⟩ k) := by
  have e := (idx3 t).2.1
  unfold pr3
  blk_ext [stg3, e]
/-- What region 3 stages for operand 2 is that block of the array. -/
theorem stg3_2 (t : Fin cfg3.N) : stg3 V 2 t = V (Proc.devRef .tc main_v3) := by
  funext y
  have e := (idx3 t).2.2.1
  blk_ext [stg3, e]
/-- Where an entry of region 3's result block lies. -/
theorem emb3_3 (t : Fin cfg3.N) (o r : Fin 256) : ((cfg3.win 3).blk t).view.emb (ix3 (0 : Fin 1) o r) = ix3 (0 : Fin 1) o (pr3 t r) := by
  have e := (idx3 t).2.2.2
  unfold pr3
  blk_ext [e]

/-- A result block of region 3 at an entry. -/
theorem blk3 (t : Fin cfg3.N) (o r : Fin 256) :
    k3_pay1 (F := Ideal) (stg3 V 0 t) (stg3 V 1 t) (stg3 V 2 t) (ix3 0 o r)
      = outOf (V (Proc.devRef .tc main_v14)) (V (Proc.devRef .tc main_v7)) (V (Proc.devRef .tc main_v3)) 0 0 (by decide) o (pr3 t r) := by
  rw [pay3_apply, stg3_2]
  simp only [stg3_0, stg3_1]
  rfl

/-- What region 3 leaves in its operand 3. -/
theorem arr3_3 : (dat3 V n c).arrAt 3 cfg3.N = fun i => outOf (V (Proc.devRef .tc main_v14)) (V (Proc.devRef .tc main_v7)) (V (Proc.devRef .tc main_v3)) 0 0 (by decide) (i 1) (i 2) := by
  refine (dat3 V n c).arrAt_eq_of_covers 3 _ (by decide +kernel) fun t hf y => ?_
  change S1x256x256.Idx at y
  idx_vars y
  obtain rfl : y0 = 0 := Subsingleton.elim _ _
  refine Eq.trans (blk3 V t y1 y2) ?_
  rw [emb3_3]
  rfl

/-- Where region 5's blocks lie. -/
theorem idx5 : ∀ t, (win5_0.index t = ![0, (grid5.coords t 0).val, 0]) ∧ (win5_1.index t = ![0, 8 + (grid5.coords t 0).val, 0])
    ∧ (win5_2.index t = ![0, 0]) ∧ (win5_3.index t = ![0, 0, (grid5.coords t 0).val]) := by decide +kernel

/-- The row of the slice that row `r` of a point's block is. -/
def pr5 (t : Fin cfg5.N) (r : Fin 256) : Fin 2048 := ⟨(grid5.coords t 0).val * 256 + r.val, by have h : (grid5.coords t 0).val < 8 := (grid5.coords t 0).isLt; omega⟩

/-- What region 5 stages for operand 0 is that block of the array. -/
theorem stg5_0 (t : Fin cfg5.N) (r : Fin 256) (k : Fin 128) : stg5 V 0 t (ix3 0 r k) = V (Proc.devRef .tc main_v21) (ix3 0 (pr5 t r) k) := by
  have e := (idx5 t).1
  unfold pr5
  blk_ext [stg5, e]
/-- What region 5 stages for operand 1 is that block of the array. -/
theorem stg5_1 (t : Fin cfg5.N) (r : Fin 256) (k : Fin 128) :
    stg5 V 1 t (ix3 0 r k) = V (Proc.devRef .tc main_v7) (ix3 (0 : Fin 2) ⟨2048 + (pr5 t r).val, by have := (pr5 t r).isLt; omega⟩ k) := by
  have e := (idx5 t).2.1
  unfold pr5
  blk_ext [stg5, e]
/-- What region 5 stages for operand 2 is that block of the array. -/
theorem stg5_2 (t : Fin cfg5.N) : stg5 V 2 t = V (Proc.devRef .tc main_v3) := by
  funext y
  have e := (idx5 t).2.2.1
  blk_ext [stg5, e]
/-- Where an entry of region 5's result block lies. -/
theorem emb5_3 (t : Fin cfg5.N) (o r : Fin 256) : ((cfg5.win 3).blk t).view.emb (ix3 (0 : Fin 1) o r) = ix3 (0 : Fin 1) o (pr5 t r) := by
  have e := (idx5 t).2.2.2
  unfold pr5
  blk_ext [e]

/-- A result block of region 5 at an entry. -/
theorem blk5 (t : Fin cfg5.N) (o r : Fin 256) :
    k3_pay1 (F := Ideal) (stg5 V 0 t) (stg5 V 1 t) (stg5 V 2 t) (ix3 0 o r)
      = outOf (V (Proc.devRef .tc main_v21)) (V (Proc.devRef .tc main_v7)) (V (Proc.devRef .tc main_v3)) 0 2048 (by decide) o (pr5 t r) := by
  rw [pay3_apply, stg5_2]
  simp only [stg5_0, stg5_1]
  rfl

/-- What region 5 leaves in its operand 3. -/
theorem arr5_3 : (dat5 V n c).arrAt 3 cfg5.N = fun i => outOf (V (Proc.devRef .tc main_v21)) (V (Proc.devRef .tc main_v7)) (V (Proc.devRef .tc main_v3)) 0 2048 (by decide) (i 1) (i 2) := by
  refine (dat5 V n c).arrAt_eq_of_covers 3 _ (by decide +kernel) fun t hf y => ?_
  change S1x256x256.Idx at y
  idx_vars y
  obtain rfl : y0 = 0 := Subsingleton.elim _ _
  refine Eq.trans (blk5 V t y1 y2) ?_
  rw [emb5_3]
  rfl

/-- Where region 7's blocks lie. -/
theorem idx7 : ∀ t, (win7_0.index t = ![0, (grid7.coords t 0).val, 0]) ∧ (win7_1.index t = ![1, 0 + (grid7.coords t 0).val, 0])
    ∧ (win7_2.index t = ![0, 0]) ∧ (win7_3.index t = ![0, 0, (grid7.coords t 0).val]) := by decide +kernel

/-- The row of the slice that row `r` of a point's block is. -/
def pr7 (t : Fin cfg7.N) (r : Fin 256) : Fin 2048 := ⟨(grid7.coords t 0).val * 256 + r.val, by have h : (grid7.coords t 0).val < 8 := (grid7.coords t 0).isLt; omega⟩

/-- What region 7 stages for operand 0 is that block of the array. -/
theorem stg7_0 (t : Fin cfg7.N) (r : Fin 256) (k : Fin 128) : stg7 V 0 t (ix3 0 r k) = V (Proc.devRef .tc main_v28) (ix3 0 (pr7 t r) k) := by
  have e := (idx7 t).1
  unfold pr7
  blk_ext [stg7, e]
/-- What region 7 stages for operand 1 is that block of the array. -/
theorem stg7_1 (t : Fin cfg7.N) (r : Fin 256) (k : Fin 128) :
    stg7 V 1 t (ix3 0 r k) = V (Proc.devRef .tc main_v7) (ix3 (1 : Fin 2) ⟨0 + (pr7 t r).val, by have := (pr7 t r).isLt; omega⟩ k) := by
  have e := (idx7 t).2.1
  unfold pr7
  blk_ext [stg7, e]
/-- What region 7 stages for operand 2 is that block of the array. -/
theorem stg7_2 (t : Fin cfg7.N) : stg7 V 2 t = V (Proc.devRef .tc main_v3) := by
  funext y
  have e := (idx7 t).2.2.1
  blk_ext [stg7, e]
/-- Where an entry of region 7's result block lies. -/
theorem emb7_3 (t : Fin cfg7.N) (o r : Fin 256) : ((cfg7.win 3).blk t).view.emb (ix3 (0 : Fin 1) o r) = ix3 (0 : Fin 1) o (pr7 t r) := by
  have e := (idx7 t).2.2.2
  unfold pr7
  blk_ext [e]

/-- A result block of region 7 at an entry. -/
theorem blk7 (t : Fin cfg7.N) (o r : Fin 256) :
    k3_pay1 (F := Ideal) (stg7 V 0 t) (stg7 V 1 t) (stg7 V 2 t) (ix3 0 o r)
      = outOf (V (Proc.devRef .tc main_v28)) (V (Proc.devRef .tc main_v7)) (V (Proc.devRef .tc main_v3)) 1 0 (by decide) o (pr7 t r) := by
  rw [pay3_apply, stg7_2]
  simp only [stg7_0, stg7_1]
  rfl

/-- What region 7 leaves in its operand 3. -/
theorem arr7_3 : (dat7 V n c).arrAt 3 cfg7.N = fun i => outOf (V (Proc.devRef .tc main_v28)) (V (Proc.devRef .tc main_v7)) (V (Proc.devRef .tc main_v3)) 1 0 (by decide) (i 1) (i 2) := by
  refine (dat7 V n c).arrAt_eq_of_covers 3 _ (by decide +kernel) fun t hf y => ?_
  change S1x256x256.Idx at y
  idx_vars y
  obtain rfl : y0 = 0 := Subsingleton.elim _ _
  refine Eq.trans (blk7 V t y1 y2) ?_
  rw [emb7_3]
  rfl

/-- Where region 9's blocks lie. -/
theorem idx9 : ∀ t, (win9_0.index t = ![0, (grid9.coords t 0).val, 0]) ∧ (win9_1.index t = ![1, 8 + (grid9.coords t 0).val, 0])
    ∧ (win9_2.index t = ![0, 0]) ∧ (win9_3.index t = ![0, 0, (grid9.coords t 0).val]) := by decide +kernel

/-- The row of the slice that row `r` of a point's block is. -/
def pr9 (t : Fin cfg9.N) (r : Fin 256) : Fin 2048 := ⟨(grid9.coords t 0).val * 256 + r.val, by have h : (grid9.coords t 0).val < 8 := (grid9.coords t 0).isLt; omega⟩

/-- What region 9 stages for operand 0 is that block of the array. -/
theorem stg9_0 (t : Fin cfg9.N) (r : Fin 256) (k : Fin 128) : stg9 V 0 t (ix3 0 r k) = V (Proc.devRef .tc main_v35) (ix3 0 (pr9 t r) k) := by
  have e := (idx9 t).1
  unfold pr9
  blk_ext [stg9, e]
/-- What region 9 stages for operand 1 is that block of the array. -/
theorem stg9_1 (t : Fin cfg9.N) (r : Fin 256) (k : Fin 128) :
    stg9 V 1 t (ix3 0 r k) = V (Proc.devRef .tc main_v7) (ix3 (1 : Fin 2) ⟨2048 + (pr9 t r).val, by have := (pr9 t r).isLt; omega⟩ k) := by
  have e := (idx9 t).2.1
  unfold pr9
  blk_ext [stg9, e]
/-- What region 9 stages for operand 2 is that block of the array. -/
theorem stg9_2 (t : Fin cfg9.N) : stg9 V 2 t = V (Proc.devRef .tc main_v3) := by
  funext y
  have e := (idx9 t).2.2.1
  blk_ext [stg9, e]
/-- Where an entry of region 9's result block lies. -/
theorem emb9_3 (t : Fin cfg9.N) (o r : Fin 256) : ((cfg9.win 3).blk t).view.emb (ix3 (0 : Fin 1) o r) = ix3 (0 : Fin 1) o (pr9 t r) := by
  have e := (idx9 t).2.2.2
  unfold pr9
  blk_ext [e]

/-- A result block of region 9 at an entry. -/
theorem blk9 (t : Fin cfg9.N) (o r : Fin 256) :
    k3_pay1 (F := Ideal) (stg9 V 0 t) (stg9 V 1 t) (stg9 V 2 t) (ix3 0 o r)
      = outOf (V (Proc.devRef .tc main_v35)) (V (Proc.devRef .tc main_v7)) (V (Proc.devRef .tc main_v3)) 1 2048 (by decide) o (pr9 t r) := by
  rw [pay3_apply, stg9_2]
  simp only [stg9_0, stg9_1]
  rfl

/-- What region 9 leaves in its operand 3. -/
theorem arr9_3 : (dat9 V n c).arrAt 3 cfg9.N = fun i => outOf (V (Proc.devRef .tc main_v35)) (V (Proc.devRef .tc main_v7)) (V (Proc.devRef .tc main_v3)) 1 2048 (by decide) (i 1) (i 2) := by
  refine (dat9 V n c).arrAt_eq_of_covers 3 _ (by decide +kernel) fun t hf y => ?_
  change S1x256x256.Idx at y
  idx_vars y
  obtain rfl : y0 = 0 := Subsingleton.elim _ _
  refine Eq.trans (blk9 V t y1 y2) ?_
  rw [emb9_3]
  rfl

end Cert.Proof.Run
end
-- ==== Proof.Out.lean ====
module

public import proofs.«01_k».proof.Proof.Vals
public import proofs.«01_k».proof.Proof.Host

@[expose] public section

noncomputable section

namespace Cert.Proof.Run

open Cert.KernelIdeal Cert.KernelIdeal.Gen Cert.Proof.Tile Cert.Proof.Reg
open Idealize.ShloMosaic

/-! ## What each region leaves in its results -/

section
variable (V : Valuation τ sig (Elt Ideal)) (n : ℕ) (d : Dev nD)

/-- What region 0 leaves in its operand 4. -/
theorem reg0_4 : Pipeline.afterRegion (dats V n 0 d) V (at_ main_v6_0) = k0_pay4 (F := Ideal) (V (at_ main_arg1)) (V (at_ main_v4)) (V (at_ main_v0)) :=
  (Pipeline.afterRegion_arr (dats V n 0 d) V (kit (F := Ideal) 0).win.arr_inj 4).trans (arr0_4 V n d)
/-- What region 0 leaves in its operand 5. -/
theorem reg0_5 : Pipeline.afterRegion (dats V n 0 d) V (at_ main_v6_1) = k0_pay5 (F := Ideal) (V (at_ main_arg1)) (V (at_ main_v4)) (V (at_ main_v5)) (V (at_ main_v0)) :=
  (Pipeline.afterRegion_arr (dats V n 0 d) V (kit (F := Ideal) 0).win.arr_inj 5).trans (arr0_5 V n d)
/-- What region 1 leaves in its operand 5. -/
theorem reg1_5 : Pipeline.afterRegion (dats V n 1 d) V (at_ main_v7)
    = fun i => featOf (V (at_ main_arg1)) (V (at_ main_arg0)) (V (at_ main_v6_0)) (V (at_ main_v1)) (V (at_ main_v6_1)) (i 0) (i 1) (i 2) :=
  (Pipeline.afterRegion_arr (dats V n 1 d) V (kit (F := Ideal) 1).win.arr_inj 5).trans (arr1_5 V n d)
/-- What region 2 leaves in its operand 3. -/
theorem reg2_3 : Pipeline.afterRegion (dats V n 2 d) V (at_ main_v15)
    = fun i => outOf (V (at_ main_v14)) (V (at_ main_v7)) (V (at_ main_v3)) 0 0 (by decide) (i 1) (i 2) :=
  (Pipeline.afterRegion_arr (dats V n 2 d) V (kit (F := Ideal) 2).win.arr_inj 3).trans (arr3_3 V n d)
/-- What region 3 leaves in its operand 3. -/
theorem reg3_3 : Pipeline.afterRegion (dats V n 3 d) V (at_ main_v22)
    = fun i => outOf (V (at_ main_v21)) (V (at_ main_v7)) (V (at_ main_v3)) 0 2048 (by decide) (i 1) (i 2) :=
  (Pipeline.afterRegion_arr (dats V n 3 d) V (kit (F := Ideal) 3).win.arr_inj 3).trans (arr5_3 V n d)
/-- What region 4 leaves in its operand 3. -/
theorem reg4_3 : Pipeline.afterRegion (dats V n 4 d) V (at_ main_v29)
    = fun i => outOf (V (at_ main_v28)) (V (at_ main_v7)) (V (at_ main_v3)) 1 0 (by decide) (i 1) (i 2) :=
  (Pipeline.afterRegion_arr (dats V n 4 d) V (kit (F := Ideal) 4).win.arr_inj 3).trans (arr7_3 V n d)
/-- What region 5 leaves in its operand 3. -/
theorem reg5_3 : Pipeline.afterRegion (dats V n 5 d) V (at_ main_v36)
    = fun i => outOf (V (at_ main_v35)) (V (at_ main_v7)) (V (at_ main_v3)) 1 2048 (by decide) (i 1) (i 2) :=
  (Pipeline.afterRegion_arr (dats V n 5 d) V (kit (F := Ideal) 5).win.arr_inj 3).trans (arr9_3 V n d)
/-- What dispatch 0 leaves in its result. -/
theorem upd0_at : upd0 V (at_ main_v13) = maxRows (F := Ideal) (V (at_ main_v8)) (V (at_ main_v12)) := by
  unfold upd0
  exact Function.update_self _ _ _
/-- What dispatch 1 leaves in its result. -/
theorem upd1_at : upd1 V (at_ main_v20) = maxRows (F := Ideal) (V (at_ main_v8)) (V (at_ main_v19)) := by
  unfold upd1
  exact Function.update_self _ _ _
/-- What dispatch 2 leaves in its result. -/
theorem upd2_at : upd2 V (at_ main_v27) = maxRows (F := Ideal) (V (at_ main_v8)) (V (at_ main_v26)) := by
  unfold upd2
  exact Function.update_self _ _ _
/-- What dispatch 3 leaves in its result. -/
theorem upd3_at : upd3 V (at_ main_v34) = maxRows (F := Ideal) (V (at_ main_v8)) (V (at_ main_v33)) := by
  unfold upd3
  exact Function.update_self _ _ _

end

section
variable (m : (ℓ : Loc nD τ sig) → Buf (Elt Ideal) ℓ) (d : Dev nD)

/-- The features the kernel computes, an array of rows. -/
def feats : FVec Ideal S2x4096x128 .f32 := W3 m d (at_ main_v7)

/-- The summed output weights. -/
def wsum : FVec Ideal S256x128 .f32 := W1 m d (at_ main_v3)

/-- The table the gathers read is the features. -/
theorem table_4 : W4 m d (at_ main_v8) = table (F := Ideal) (feats m d) := ops2_v8 (F := Ideal) (W3 m d)

/-- The rows output stage 0 reads: the largest features among the neighbours. -/
theorem rows_0 (hI : ∀ j : S2x4096x32.Idx, (show BitVec 32 from W0 m d (at_ main_arg6) j).toNat < 4096) (r : Fin 2048) (k : Fin 128) :
    (W6 m d (at_ main_v14) : FVec Ideal S1x2048x128 .f32) (ix3 0 r k)
      = treeMax (F := Ideal) 5 fun j => feats m d (ix3 0 (pt ((W0 m d (at_ main_arg6) : IVec S2x4096x32 32) (ix3 0 ⟨0 + r.val, by omega⟩ (nb j)))) k) := by
  have e : W5 m d (at_ main_v13) = maxRows (F := Ideal) (table (F := Ideal) (feats m d)) (list0 (W0 m d (at_ main_arg6))) :=
    (upd0_at _).trans (congrArg₂ (fun X L => maxRows (F := Ideal) X L) (table_4 m d) (list_0 m d))
  have e' : W6 m d (at_ main_v14) = shapeCast S1x2048x128 (W5 m d (at_ main_v13) : Vec Ideal S2048x128 .f32) shapeCasts_S2048x128_S1x2048x128 := ops3_v14 _
  rw [e', e]
  refine Eq.trans (b := maxRows (F := Ideal) (table (F := Ideal) (feats m d)) (list0 (W0 m d (at_ main_arg6))) (ix2 r k)) ?_
    (maxRows_of (F := Ideal) (feats m d) _ (W0 m d (at_ main_arg6)) 0 0 (by decide) (list0_toNat _ hI) hI r k)
  generalize maxRows (F := Ideal) (table (F := Ideal) (feats m d)) (list0 (W0 m d (at_ main_arg6))) = R
  pointwise

/-- The rows output stage 1 reads: the largest features among the neighbours. -/
theorem rows_1 (hI : ∀ j : S2x4096x32.Idx, (show BitVec 32 from W0 m d (at_ main_arg6) j).toNat < 4096) (r : Fin 2048) (k : Fin 128) :
    (W10 m d (at_ main_v21) : FVec Ideal S1x2048x128 .f32) (ix3 0 r k)
      = treeMax (F := Ideal) 5 fun j => feats m d (ix3 0 (pt ((W0 m d (at_ main_arg6) : IVec S2x4096x32 32) (ix3 0 ⟨2048 + r.val, by omega⟩ (nb j)))) k) := by
  have e : W9 m d (at_ main_v20) = maxRows (F := Ideal) (table (F := Ideal) (feats m d)) (list1 (W0 m d (at_ main_arg6))) :=
    (upd1_at _).trans (congrArg₂ (fun X L => maxRows (F := Ideal) X L) ((v8_8 m d).trans (table_4 m d)) (list_1 m d))
  have e' : W10 m d (at_ main_v21) = shapeCast S1x2048x128 (W9 m d (at_ main_v20) : Vec Ideal S2048x128 .f32) shapeCasts_S2048x128_S1x2048x128 := ops5_v21 _
  rw [e', e]
  refine Eq.trans (b := maxRows (F := Ideal) (table (F := Ideal) (feats m d)) (list1 (W0 m d (at_ main_arg6))) (ix2 r k)) ?_
    (maxRows_of (F := Ideal) (feats m d) _ (W0 m d (at_ main_arg6)) 0 2048 (by decide) (list1_toNat _ hI) hI r k)
  generalize maxRows (F := Ideal) (table (F := Ideal) (feats m d)) (list1 (W0 m d (at_ main_arg6))) = R
  pointwise

/-- The rows output stage 2 reads: the largest features among the neighbours. -/
theorem rows_2 (hI : ∀ j : S2x4096x32.Idx, (show BitVec 32 from W0 m d (at_ main_arg6) j).toNat < 4096) (r : Fin 2048) (k : Fin 128) :
    (W14 m d (at_ main_v28) : FVec Ideal S1x2048x128 .f32) (ix3 0 r k)
      = treeMax (F := Ideal) 5 fun j => feats m d (ix3 1 (pt ((W0 m d (at_ main_arg6) : IVec S2x4096x32 32) (ix3 1 ⟨0 + r.val, by omega⟩ (nb j)))) k) := by
  have e : W13 m d (at_ main_v27) = maxRows (F := Ideal) (table (F := Ideal) (feats m d)) (list2 (W0 m d (at_ main_arg6))) :=
    (upd2_at _).trans (congrArg₂ (fun X L => maxRows (F := Ideal) X L) ((v8_12 m d).trans (table_4 m d)) (list_2 m d))
  have e' : W14 m d (at_ main_v28) = shapeCast S1x2048x128 (W13 m d (at_ main_v27) : Vec Ideal S2048x128 .f32) shapeCasts_S2048x128_S1x2048x128 := ops7_v28 _
  rw [e', e]
  refine Eq.trans (b := maxRows (F := Ideal) (table (F := Ideal) (feats m d)) (list2 (W0 m d (at_ main_arg6))) (ix2 r k)) ?_
    (maxRows_of (F := Ideal) (feats m d) _ (W0 m d (at_ main_arg6)) 1 0 (by decide) (list2_toNat _ hI) hI r k)
  generalize maxRows (F := Ideal) (table (F := Ideal) (feats m d)) (list2 (W0 m d (at_ main_arg6))) = R
  pointwise

/-- The rows output stage 3 reads: the largest features among the neighbours. -/
theorem rows_3 (hI : ∀ j : S2x4096x32.Idx, (show BitVec 32 from W0 m d (at_ main_arg6) j).toNat < 4096) (r : Fin 2048) (k : Fin 128) :
    (W18 m d (at_ main_v35) : FVec Ideal S1x2048x128 .f32) (ix3 0 r k)
      = treeMax (F := Ideal) 5 fun j => feats m d (ix3 1 (pt ((W0 m d (at_ main_arg6) : IVec S2x4096x32 32) (ix3 1 ⟨2048 + r.val, by omega⟩ (nb j)))) k) := by
  have e : W17 m d (at_ main_v34) = maxRows (F := Ideal) (table (F := Ideal) (feats m d)) (list3 (W0 m d (at_ main_arg6))) :=
    (upd3_at _).trans (congrArg₂ (fun X L => maxRows (F := Ideal) X L) ((v8_16 m d).trans (table_4 m d)) (list_3 m d))
  have e' : W18 m d (at_ main_v35) = shapeCast S1x2048x128 (W17 m d (at_ main_v34) : Vec Ideal S2048x128 .f32) shapeCasts_S2048x128_S1x2048x128 := ops9_v35 _
  rw [e', e]
  refine Eq.trans (b := maxRows (F := Ideal) (table (F := Ideal) (feats m d)) (list3 (W0 m d (at_ main_arg6))) (ix2 r k)) ?_
    (maxRows_of (F := Ideal) (feats m d) _ (W0 m d (at_ main_arg6)) 1 2048 (by decide) (list3_toNat _ hI) hI r k)
  generalize maxRows (F := Ideal) (table (F := Ideal) (feats m d)) (list3 (W0 m d (at_ main_arg6))) = R
  pointwise

/-- The result at an entry, from the features `G`, the neighbour indices `I` and the summed output weights `w`: the largest feature
    among the point's neighbours less its own, through the weights. -/
def resAt (G : FVec Ideal S2x4096x128 .f32) (I : IVec S2x4096x32 32) (w : FVec Ideal S256x128 .f32) (q : Fin 2) (o : Fin 256) (n : Fin 4096) : EReal :=
  ∑ k : Fin 128, w (ix2 o k) * (treeMax (F := Ideal) 5 (fun j => G (ix3 q (pt (I (ix3 q n (nb j)))) k)) - G (ix3 q n k))

/-- Slice 0 of the result, at an entry. -/
theorem slice_0 (hI : ∀ j : S2x4096x32.Idx, (show BitVec 32 from W0 m d (at_ main_arg6) j).toNat < 4096) (o : Fin 256) (r : Fin 2048) :
    (W19 m d (at_ main_v15) : FVec Ideal S1x256x2048 .f32) (ix3 0 o r) = resAt (feats m d) (W0 m d (at_ main_arg6)) (wsum m d) 0 o ⟨0 + r.val, by omega⟩ := by
  have e : W19 m d (at_ main_v15) = fun i => outOf (W6 m d (at_ main_v14)) (W6 m d (at_ main_v7)) (W6 m d (at_ main_v3)) 0 0 (by decide) (i 1) (i 2) :=
    Eq.trans (b := W7 m d (at_ main_v15)) (v15_19 m d) (reg2_3 (W6 m d) _ d)
  rw [e]
  have e7 : W6 m d (at_ main_v7) = feats m d := v7_6 m d
  have e3 : W6 m d (at_ main_v3) = wsum m d := v3_6 m d
  rw [e7, e3]
  refine Finset.sum_congr (M := EReal) rfl fun k _ => ?_
  exact congrArg (fun x => wsum m d (ix2 o k) * (x - feats m d (ix3 0 ⟨0 + r.val, by omega⟩ k))) (rows_0 m d hI r k)

/-- Slice 1 of the result, at an entry. -/
theorem slice_1 (hI : ∀ j : S2x4096x32.Idx, (show BitVec 32 from W0 m d (at_ main_arg6) j).toNat < 4096) (o : Fin 256) (r : Fin 2048) :
    (W19 m d (at_ main_v22) : FVec Ideal S1x256x2048 .f32) (ix3 0 o r) = resAt (feats m d) (W0 m d (at_ main_arg6)) (wsum m d) 0 o ⟨2048 + r.val, by omega⟩ := by
  have e : W19 m d (at_ main_v22) = fun i => outOf (W10 m d (at_ main_v21)) (W10 m d (at_ main_v7)) (W10 m d (at_ main_v3)) 0 2048 (by decide) (i 1) (i 2) :=
    Eq.trans (b := W11 m d (at_ main_v22)) (v22_19 m d) (reg3_3 (W10 m d) _ d)
  rw [e]
  have e7 : W10 m d (at_ main_v7) = feats m d := v7_10 m d
  have e3 : W10 m d (at_ main_v3) = wsum m d := v3_10 m d
  rw [e7, e3]
  refine Finset.sum_congr (M := EReal) rfl fun k _ => ?_
  exact congrArg (fun x => wsum m d (ix2 o k) * (x - feats m d (ix3 0 ⟨2048 + r.val, by omega⟩ k))) (rows_1 m d hI r k)

/-- Slice 2 of the result, at an entry. -/
theorem slice_2 (hI : ∀ j : S2x4096x32.Idx, (show BitVec 32 from W0 m d (at_ main_arg6) j).toNat < 4096) (o : Fin 256) (r : Fin 2048) :
    (W19 m d (at_ main_v29) : FVec Ideal S1x256x2048 .f32) (ix3 0 o r) = resAt (feats m d) (W0 m d (at_ main_arg6)) (wsum m d) 1 o ⟨0 + r.val, by omega⟩ := by
  have e : W19 m d (at_ main_v29) = fun i => outOf (W14 m d (at_ main_v28)) (W14 m d (at_ main_v7)) (W14 m d (at_ main_v3)) 1 0 (by decide) (i 1) (i 2) :=
    Eq.trans (b := W15 m d (at_ main_v29)) (v29_19 m d) (reg4_3 (W14 m d) _ d)
  rw [e]
  have e7 : W14 m d (at_ main_v7) = feats m d := v7_14 m d
  have e3 : W14 m d (at_ main_v3) = wsum m d := v3_14 m d
  rw [e7, e3]
  refine Finset.sum_congr (M := EReal) rfl fun k _ => ?_
  exact congrArg (fun x => wsum m d (ix2 o k) * (x - feats m d (ix3 1 ⟨0 + r.val, by omega⟩ k))) (rows_2 m d hI r k)

/-- Slice 3 of the result, at an entry. -/
theorem slice_3 (hI : ∀ j : S2x4096x32.Idx, (show BitVec 32 from W0 m d (at_ main_arg6) j).toNat < 4096) (o : Fin 256) (r : Fin 2048) :
    (W19 m d (at_ main_v36) : FVec Ideal S1x256x2048 .f32) (ix3 0 o r) = resAt (feats m d) (W0 m d (at_ main_arg6)) (wsum m d) 1 o ⟨2048 + r.val, by omega⟩ := by
  have e : W19 m d (at_ main_v36) = fun i => outOf (W18 m d (at_ main_v35)) (W18 m d (at_ main_v7)) (W18 m d (at_ main_v3)) 1 2048 (by decide) (i 1) (i 2) :=
    Eq.trans (b := W19 m d (at_ main_v36)) (rfl) (reg5_3 (W18 m d) _ d)
  rw [e]
  have e7 : W18 m d (at_ main_v7) = feats m d := v7_18 m d
  have e3 : W18 m d (at_ main_v3) = wsum m d := v3_18 m d
  rw [e7, e3]
  refine Finset.sum_congr (M := EReal) rfl fun k _ => ?_
  exact congrArg (fun x => wsum m d (ix2 o k) * (x - feats m d (ix3 1 ⟨2048 + r.val, by omega⟩ k))) (rows_3 m d hI r k)

omit m d in
/-- Four slices put together, at an entry. -/
theorem cat_at (A B C D : FVec Ideal S1x256x2048 .f32) (R : Fin 2 → Fin 256 → Fin 4096 → EReal)
    (hA : ∀ o (r : Fin 2048), A (ix3 0 o r) = R 0 o ⟨0 + r.val, by omega⟩) (hB : ∀ o (r : Fin 2048), B (ix3 0 o r) = R 0 o ⟨2048 + r.val, by omega⟩)
    (hC : ∀ o (r : Fin 2048), C (ix3 0 o r) = R 1 o ⟨0 + r.val, by omega⟩) (hD : ∀ o (r : Fin 2048), D (ix3 0 o r) = R 1 o ⟨2048 + r.val, by omega⟩)
    (q : Fin 2) (o : Fin 256) (n : Fin 4096) :
    concatenate S2x256x4096 0 [⟨S1x256x4096, concatenate S1x256x4096 2 [⟨S1x256x2048, A⟩, ⟨S1x256x2048, B⟩] concatenates_S1x256x2048_S1x256x2048_S1x256x4096_d2⟩,
     ⟨S1x256x4096, concatenate S1x256x4096 2 [⟨S1x256x2048, C⟩, ⟨S1x256x2048, D⟩] concatenates_S1x256x2048_S1x256x2048_S1x256x4096_d2⟩] concatenates_S1x256x4096_S1x256x4096_S2x256x4096_d0 (ix3 q o n) = R q o n := by
  pointwise
  split_ifs
  all_goals first
    | (obtain rfl : q = 0 := Fin.ext (by simp only [Fin.val_zero]; omega)
       exact (hA o ⟨n.val - 0, by omega⟩).trans (congrArg (R 0 o) (Fin.ext (show 0 + (n.val - 0) = n.val by omega))))
    | (obtain rfl : q = 0 := Fin.ext (by simp only [Fin.val_zero]; omega)
       exact (hB o ⟨n.val - 2048, by omega⟩).trans (congrArg (R 0 o) (Fin.ext (show 2048 + (n.val - 2048) = n.val by omega))))
    | (obtain rfl : q = 1 := Fin.ext (by simp only [Fin.val_one]; omega)
       exact (hC o ⟨n.val - 0, by omega⟩).trans (congrArg (R 1 o) (Fin.ext (show 0 + (n.val - 0) = n.val by omega))))
    | (obtain rfl : q = 1 := Fin.ext (by simp only [Fin.val_one]; omega)
       exact (hD o ⟨n.val - 2048, by omega⟩).trans (congrArg (R 1 o) (Fin.ext (show 2048 + (n.val - 2048) = n.val by omega))))

/-- The kernel's result, at an entry. -/
theorem out_at (hI : ∀ j : S2x4096x32.Idx, (show BitVec 32 from W0 m d (at_ main_arg6) j).toNat < 4096) (q : Fin 2) (o : Fin 256) (n : Fin 4096) :
    (W20 m d (at_ main_v39) : FVec Ideal S2x256x4096 .f32) (ix3 q o n) = resAt (feats m d) (W0 m d (at_ main_arg6)) (wsum m d) q o n := by
  have e := ops10_v39 (W19 m d)
  refine (congrFun e (ix3 q o n)).trans ?_
  exact cat_at _ _ _ _ (resAt (feats m d) (W0 m d (at_ main_arg6)) (wsum m d)) (slice_0 m d hI) (slice_1 m d hI) (slice_2 m d hI) (slice_3 m d hI) q o n

/-- The features at an entry, from the arguments. -/
theorem feats_at (q : Fin 2) (n : Fin 4096) (o : Fin 128) :
    feats m d (ix3 q n o)
      = featOf (W0 m d (at_ main_arg1)) (W0 m d (at_ main_arg0)) (k0_pay4 (F := Ideal) (W0 m d (at_ main_arg1)) (W1 m d (at_ main_v4)) (W1 m d (at_ main_v0)))
          (W1 m d (at_ main_v1)) (k0_pay5 (F := Ideal) (W0 m d (at_ main_arg1)) (W1 m d (at_ main_v4)) (W1 m d (at_ main_v5)) (W1 m d (at_ main_v0))) q n o := by
  have e := reg1_5 (W2 m d) 0 d
  have e4 : W2 m d (at_ main_v6_0) = k0_pay4 (F := Ideal) (W0 m d (at_ main_arg1)) (W1 m d (at_ main_v4)) (W1 m d (at_ main_v0)) := by
    rw [← arg1_1 m d]; exact reg0_4 (W1 m d) 0 d
  have e5 : W2 m d (at_ main_v6_1) = k0_pay5 (F := Ideal) (W0 m d (at_ main_arg1)) (W1 m d (at_ main_v4)) (W1 m d (at_ main_v5)) (W1 m d (at_ main_v0)) := by
    rw [← arg1_1 m d]; exact reg0_5 (W1 m d) 0 d
  rw [e4, e5, arg1_2, arg0_2, v1_2] at e
  exact congrFun e (ix3 q n o)

/-- What the host hands the regions as value 0, at an entry. -/
theorem v0_at (o : Fin 128) (c : Fin 256) : (W1 m d (at_ main_v0) : FVec Ideal S128x256 .f32) (ix2 o c) = (W0 m d (at_ main_arg2) : FVec Ideal S128x259 .f32) (ix2 o ⟨c.val, by omega⟩) := by
  refine (congrFun (ops0_v0 (W0 m d)) (ix2 o c)).trans ?_
  generalize (W0 m d (at_ main_arg2) : FVec Ideal S128x259 .f32) = X
  pointwise
/-- What the host hands the regions as value 1, at an entry. -/
theorem v1_at (o : Fin 128) (c : Fin 3) : (W1 m d (at_ main_v1) : FVec Ideal S128x3 .f32) (ix2 o c) = (W0 m d (at_ main_arg2) : FVec Ideal S128x259 .f32) (ix2 o ⟨256 + c.val, by omega⟩) := by
  refine (congrFun (ops0_v1 (W0 m d)) (ix2 o c)).trans ?_
  generalize (W0 m d (at_ main_arg2) : FVec Ideal S128x259 .f32) = X
  pointwise
/-- What the host hands the regions as value 4, at an entry. -/
theorem v4_at (c : Fin 256) : (W1 m d (at_ main_v4) : FVec Ideal S1x256 .f32) (ix2 0 c) = (W0 m d (at_ main_arg4) : FVec Ideal S256 .f32) (ix1 c) := by
  refine (congrFun (ops0_v4 (W0 m d)) (ix2 0 c)).trans ?_
  generalize (W0 m d (at_ main_arg4) : FVec Ideal S256 .f32) = X
  pointwise
/-- What the host hands the regions as value 5, at an entry. -/
theorem v5_at (c : Fin 256) : (W1 m d (at_ main_v5) : FVec Ideal S1x256 .f32) (ix2 0 c) = (W0 m d (at_ main_arg5) : FVec Ideal S256 .f32) (ix1 c) := by
  refine (congrFun (ops0_v5 (W0 m d)) (ix2 0 c)).trans ?_
  generalize (W0 m d (at_ main_arg5) : FVec Ideal S256 .f32) = X
  pointwise

/-- The output weights. -/
def outW : FVec Ideal S256x384 .f32 := W0 m d (at_ main_arg3)

/-- The summed output weights at an entry: the sum over the three groups of 128 columns. -/
theorem wsum_at (o : Fin 256) (k : Fin 128) :
    wsum m d (ix2 o k) = 0 + ∑ j : Fin 3, outW m d (ix2 o ⟨j.val * 128 + k.val, by omega⟩) := by
  refine (congrFun (ops0_v3 (W0 m d)) (ix2 o k)).trans ?_
  show Host.reduceAdd (F := Ideal) (shapeCast S256x3x128 (outW m d) shapeCasts_S256x384_S256x3x128) (constant S_ .f32 0x00000000#32) reducesTo_S256x3x128_S256x128_d1 h_S_ (ix2 o k) = _
  generalize outW m d = X
  pointwise

end

end Cert.Proof.Run
end
-- ==== Proof.Value.lean ====
module

public import proofs.«01_k».proof.Proof.Alg
public import proofs.«01_k».proof.Proof.Out

@[expose] public section

noncomputable section

namespace Cert.Proof.Alg

open Cert.KernelIdeal Cert.KernelIdeal.Gen Idealize.ShloMosaic
open Cert.Proof.Run Cert.Proof.Tile

/-- The features' identity at an entry, of named arrays. -/
theorem feat_eq (x : FVec Ideal S2x4096x3 .f32) (f : FVec Ideal S2x256x4096 .f32) (wg : FVec Ideal S128x259 .f32) (w b : FVec Ideal S256 .f32)
    (wf : FVec Ideal S128x256 .f32) (wx : FVec Ideal S128x3 .f32) (w' b' : FVec Ideal S1x256 .f32)
    (hf : ∀ i, ∃ r : ℝ, f i = (r : EReal)) (hg : ∀ i, ∃ r : ℝ, wg i = (r : EReal)) (hw : ∀ i, ∃ r : ℝ, w i = (r : EReal)) (hb : ∀ i, ∃ r : ℝ, b i = (r : EReal))
    (ewf : ∀ (o : Fin 128) (c : Fin 256), wf (ix2 o c) = wg (ix2 o ⟨c.val, by omega⟩)) (ewx : ∀ (o : Fin 128) (c : Fin 3), wx (ix2 o c) = wg (ix2 o ⟨256 + c.val, by omega⟩))
    (ew : ∀ c : Fin 256, w' (ix2 0 c) = w (ix1 c)) (eb : ∀ c : Fin 256, b' (ix2 0 c) = b (ix1 c)) (q : Fin 2) (n : Fin 4096) (o : Fin 128) :
    featOf f x (k0_pay4 (F := Ideal) f w' wf) wx (k0_pay5 (F := Ideal) f w' b' wf) q n o = Ref.rFeat x (Ref.rNorm f w b) wg (ix3 q o n) := by
  have hM := mean_real f hf
  have hD := dev_real f hf
  choose F hF using hf
  choose G hG using hg
  choose W hW using hw
  choose B hB using hb
  choose M hM using hM
  choose D hD0 hD using hD
  rw [Ref.rFeat_apply]
  unfold featOf
  rw [pay5_apply]
  simp only [pay4_apply, Ref.rNorm_apply, ewf, ewx, ew, eb, hF, hG, hW, hB, hM]
  exact feat_alg (fun c => F (ix3 q c n)) M D (fun c => G (ix2 o ⟨c.val, by omega⟩)) (fun c => W (ix1 c)) (fun c => B (ix1 c)) _ hD hD0 _

/-- The features of the reference are finite. -/
theorem feat_real (x : FVec Ideal S2x4096x3 .f32) (f : FVec Ideal S2x256x4096 .f32) (wg : FVec Ideal S128x259 .f32) (w b : FVec Ideal S256 .f32)
    (hx : ∀ i, ∃ r : ℝ, x i = (r : EReal))
    (hf : ∀ i, ∃ r : ℝ, f i = (r : EReal)) (hg : ∀ i, ∃ r : ℝ, wg i = (r : EReal)) (hw : ∀ i, ∃ r : ℝ, w i = (r : EReal)) (hb : ∀ i, ∃ r : ℝ, b i = (r : EReal))
    (q : Fin 2) (n : Fin 4096) (o : Fin 128) : ∃ r : ℝ, Ref.rFeat x (Ref.rNorm f w b) wg (ix3 q o n) = (r : EReal) := by
  have hM := mean_real f hf
  have hD := dev_real f hf
  choose X hX using hx
  choose F hF using hf
  choose G hG using hg
  choose W hW using hw
  choose B hB using hb
  choose M hM using hM
  choose D hD0 hD using hD
  rw [Ref.rFeat_apply]
  simp only [Ref.rNorm_apply, hX, hF, hG, hW, hB, hM, hD, Ideal.div_coe (hD0 _), ← EReal.coe_mul, ← EReal.coe_sub, ← EReal.coe_add, ← coe_sum]
  exact ⟨_, rfl⟩

/-- The result's identity at an entry, of named arrays. -/
theorem res_alg (G : FVec Ideal S2x4096x128 .f32) (g : FVec Ideal Cert.ReferenceIdeal.S2x128x4096 .f32) (I : IVec S2x4096x32 32) (w : FVec Ideal S256x128 .f32) (wh : FVec Ideal S256x384 .f32)
    (hI : ∀ j, (I j).toNat < 4096) (hG : ∀ (q : Fin 2) (n : Fin 4096) (o : Fin 128), G (ix3 q n o) = g (ix3 q o n)) (hr : ∀ (q : Fin 2) (n : Fin 4096) (o : Fin 128), ∃ r : ℝ, g (ix3 q o n) = (r : EReal))
    (hh : ∀ i, ∃ r : ℝ, wh i = (r : EReal))
    (ew : ∀ (o : Fin 256) (k : Fin 128), w (ix2 o k) = 0 + ∑ j : Fin 3, wh (ix2 o ⟨j.val * 128 + k.val, by omega⟩)) (q : Fin 2) (o : Fin 256) (n : Fin 4096) :
    resAt G I w q o n = Ref.rOut (Ref.rDiff g I) wh (ix3 q o n) := by
  have hd : ∀ k : Fin 128, ∃ r : ℝ, treeMax (F := Ideal) 5 (fun j => g (ix3 q k (pt (I (ix3 q n (nb j)))))) - g (ix3 q k n) = (r : EReal) := fun k => by
    obtain ⟨a, ha⟩ := treeMax_real 5 (fun j => g (ix3 q k (pt (I (ix3 q n (nb j)))))) fun j => hr q _ k
    obtain ⟨b, hb⟩ := hr q n k
    exact ⟨a - b, by rw [ha, hb, EReal.coe_sub]⟩
  choose D hD using hd
  choose H hH using hh
  rw [Ref.rOut_apply]
  unfold resAt
  simp only [Ref.rDiff_apply g I hI, hG, hD, ew, Fin.sum_univ_three, hH]
  refine Eq.trans ?_ (out_alg D (fun k => H (ix2 o ⟨k.val, by omega⟩)) (fun k => H (ix2 o ⟨128 + k.val, by omega⟩)) (fun k => H (ix2 o ⟨256 + k.val, by omega⟩)))
  refine Finset.sum_congr rfl fun k _ => ?_
  have e0 : ∀ h, (⟨(0 : Fin 3).val * 128 + k.val, h⟩ : Fin 384) = ⟨k.val, by omega⟩ := fun _ => Fin.ext (by simp)
  have e1 : ∀ h, (⟨(1 : Fin 3).val * 128 + k.val, h⟩ : Fin 384) = ⟨128 + k.val, by omega⟩ := fun _ => Fin.ext (by simp)
  have e2 : ∀ h, (⟨(2 : Fin 3).val * 128 + k.val, h⟩ : Fin 384) = ⟨256 + k.val, by omega⟩ := fun _ => Fin.ext (by simp)
  rw [e0, e1, e2]

/-- What the kernel leaves in its result is the reference's function of the arguments, when these are finite and the neighbour indices are
    rows. -/
theorem result (m : (ℓ : Loc nD τ sig) → Buf (Elt Ideal) ℓ) (d : Dev nD) (a0 : FVec Ideal S2x4096x3 .f32) (a1 : FVec Ideal S2x256x4096 .f32) (a2 : FVec Ideal S128x259 .f32)
    (a3 : FVec Ideal S256x384 .f32) (a4 a5 : FVec Ideal S256 .f32) (I : IVec S2x4096x32 32)
    (e0 : W0 m d (at_ main_arg0) = a0) (e1 : W0 m d (at_ main_arg1) = a1) (e2 : W0 m d (at_ main_arg2) = a2) (e3 : W0 m d (at_ main_arg3) = a3)
    (e4 : W0 m d (at_ main_arg4) = a4) (e5 : W0 m d (at_ main_arg5) = a5) (e6 : W0 m d (at_ main_arg6) = I)
    (hI : ∀ j, (I j).toNat < 4096) (h0 : ∀ i, ∃ r : ℝ, a0 i = (r : EReal)) (h1 : ∀ i, ∃ r : ℝ, a1 i = (r : EReal)) (h2 : ∀ i, ∃ r : ℝ, a2 i = (r : EReal))
    (h3 : ∀ i, ∃ r : ℝ, a3 i = (r : EReal)) (h4 : ∀ i, ∃ r : ℝ, a4 i = (r : EReal)) (h5 : ∀ i, ∃ r : ℝ, a5 i = (r : EReal)) :
    W20 m d (at_ main_v39) = Ref.rOut (Ref.rDiff (Ref.rFeat a0 (Ref.rNorm a1 a4 a5) a2) I) a3 := by
  subst e0 e1 e2 e3 e4 e5 e6
  funext i
  change S2x256x4096.Idx at i
  idx_vars i
  refine (out_at m d hI _ _ _).trans ?_
  refine res_alg (feats m d) _ _ (wsum m d) _ hI (fun q n o => ?_) (fun q n o => feat_real _ _ _ _ _ h0 h1 h2 h4 h5 q n o) h3 (wsum_at m d) _ _ _
  refine (feats_at m d q n o).trans ?_
  exact feat_eq _ _ _ _ _ _ _ _ _ h1 h2 h4 h5 (v0_at m d) (v1_at m d) (v4_at m d) (v5_at m d) q n o

end Cert.Proof.Alg
end
-- ==== Proof.Frames.lean ====
module

public import proofs.«01_k».proof.Defs
public import proofs.«01_k».proof.Proof.Launch
public import proofs.«01_k».proof.Proof.Host
public import proofs.«01_k».proof.Proof.Pre
public import proofs.«01_k».proof.Proof.Same
public import proofs.«01_k».proof.Proof.Value
public import proofs.«01_k».proof.Proof.Gen.Kernel
public import proofs.«01_k».proof.Proof.Gen.ReferenceIdeal.Run
public import proofs.«01_k».proof.Proof.Gen.Pre_idx_in_rows
public import proofs.«01_k».proof.Proof.Gen.Pre_inputs_ok
public import Idealize.ShloMosaic.Lib.Quiescent
public import Idealize.ShloMosaic.Lib.Pipeline.FrameTail

@[expose] public section

noncomputable section

namespace Cert.Proof.Run

open Idealize.ShloMosaic Idealize.ShloMosaic.TcCoe Idealize.SL.Sem

section
open Cert.KernelIdeal Cert.KernelIdeal.Gen

variable {F : FTy → Type} [FloatOps F] (m : (ℓ : Loc nD τ sig) → Buf (Elt F) ℓ)

/-- The run's end leaves the seven arguments as they were. -/
theorem args_end (r : PUnit × MemSt nD τ sig (Elt F)) (h : QC (W20 m) r) (c : Dev nD) :
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) :=
  ⟨(h.1 c (at_ main_arg0) (Pipeline.devRef_mem_ucRefs rfl)).trans (arg0_end m c),
    (h.1 c (at_ main_arg1) (Pipeline.devRef_mem_ucRefs rfl)).trans (arg1_end m c),
    (h.1 c (at_ main_arg2) (Pipeline.devRef_mem_ucRefs rfl)).trans (arg2_end m c),
    (h.1 c (at_ main_arg3) (Pipeline.devRef_mem_ucRefs rfl)).trans (arg3_end m c),
    (h.1 c (at_ main_arg4) (Pipeline.devRef_mem_ucRefs rfl)).trans (arg4_end m c),
    (h.1 c (at_ main_arg5) (Pipeline.devRef_mem_ucRefs rfl)).trans (arg5_end m c),
    (h.1 c (at_ main_arg6) (Pipeline.devRef_mem_ucRefs rfl)).trans (arg6_end m c)⟩

/-- … and the result holds what the last step left. -/
theorem res_end (r : PUnit × MemSt nD τ sig (Elt F)) (h : QC (W20 m) r) (c : Dev nD) :
    r.2.mem ((c.tc : Thread nD τ).loc main_v39) = W20 m c (at_ main_v39) :=
  h.1 c (at_ main_v39) (Pipeline.devRef_mem_ucRefs rfl)

end

section
open Cert.KernelIdeal

/-- The frame at the machine's floats, of the program printed for the reals. -/
theorem frame_bits (m : (ℓ : Loc nD τ sig) → Buf (Elt Bits) ℓ) (ρ : Dev nD → PrngReg) (hI : ∀ (d : Dev nD) (j : S2x4096x32.Idx), (show BitVec 32 from W0 m d (at_ main_arg6) j).toNat < 4096) :
    θ_run (Cert.KernelIdeal.defs (F := Bits)) (Cert.KernelIdeal.threads (F := Bits)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run Cert.KernelIdeal.defs _ _).mono (fun r h => ⟨fun c => args_end m r h c, h.2⟩) (run_main (F := Bits) m ρ (preOK m hI))

end

set_option maxHeartbeats 4000000 in
/-- The kernel's frame at the machine's floats: the two programs are one. -/
theorem frame_kernel : Cert.quiescent_Kernel := by
  intro m ρ hp
  have h := frame_bits m ρ fun d j => Pre.idx_of_pre (F := Bits) _ _ _ _ _ _ _ (hp d) j
  rw [defs_same]
  exact h

/-- The kernel's frame over the reals. -/
theorem frame_kernelIdeal : Cert.quiescent_KernelIdeal := fun m ρ hp =>
  (θ_run Cert.KernelIdeal.defs _ _).mono (fun r h => ⟨fun c => args_end m r h c, h.2⟩)
    (run_main (F := Ideal) m ρ (preOK m fun d j => Pre.idx_of_pre (F := Ideal) _ _ _ _ _ _ _ (hp d) j))

/-- … and under the value claim's precondition. -/
theorem frame_kernelIdeal_ok : Cert.quiescent_KernelIdeal_pre_inputs_ok := fun m ρ hp =>
  (θ_run Cert.KernelIdeal.defs _ _).mono (fun r h => ⟨fun c => args_end m r h c, h.2⟩)
    (run_main (F := Ideal) m ρ (preOK m fun d j => (Pre.inputs_of_pre _ _ _ _ _ _ _ (hp d)).1 j))

/-- The reference's frame: it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- … and under the value claim's precondition. -/
theorem frame_reference_ok : Cert.quiescent_ReferenceIdeal_pre_inputs_ok := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the reals the kernel's result is the reference's. -/
theorem algebraic : Cert.algebraic_KernelIdeal_ReferenceIdeal_pre_inputs_ok := fun m ρ m' ρ' hp he =>
  have hq := fun c => Pre.inputs_of_pre _ _ _ _ _ _ _ (hp c)
  ⟨fun c => W20 m c (at_ Cert.KernelIdeal.main_v39),
    (θ_run Cert.KernelIdeal.defs _ _).mono (fun r h c => ⟨res_end m r h c, args_end m r h c⟩)
      (run_main (F := Ideal) m ρ (preOK m fun d j => (hq d).1 j)),
    (θ_run Cert.ReferenceIdeal.defs _ _).mono
      (fun _ h c => ⟨(h c).1.trans (by
        obtain ⟨hI, h0, h1, h2, h3, h4, h5⟩ := hq c
        obtain ⟨e0, e1, e2, e3, e4, e5, e6⟩ := he c
        rw [Ref.res_eq, e0, e1, e2, e3, e4, e5, e6]
        exact (Alg.result m c _ _ _ _ _ _ _ rfl rfl rfl rfl rfl rfl rfl hI h0 h1 h2 h3 h4 h5).symm), (h c).2⟩)
      (Cert.ReferenceIdeal.Value.run (F := Ideal) m' ρ')⟩

end Cert.Proof.Run
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_idx_in_rows
public import proofs.«01_k».proof.Proof.Gen.Pre_inputs_ok
public import proofs.«01_k».proof.Proof.Frames
public import Idealize.ShloMosaic.Adequacy
public import Idealize.ShloMosaic.Init

@[expose] public section

noncomputable section

namespace Cert.Proof

/-- The certificate's claim. -/
theorem claim : Cert.Claim :=
  ⟨Cert.Kernel.Gen.facts, Cert.KernelIdeal.Gen.facts, Cert.ReferenceIdeal.Gen.facts, Cert.Pre_idx_in_rows.Gen.facts, Cert.Pre_inputs_ok.Gen.facts,
    Run.frame_kernel, Run.frame_kernelIdeal, Run.frame_kernelIdeal_ok, Run.frame_reference, Run.frame_reference_ok, trivial, Run.algebraic⟩

end Cert.Proof

end
